-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_gla_finite [hPre_gla_finite : Cert.Pre_gla_finite.Facts] (m : (ℓ : Loc Cert.GlaIdeal.nD Cert.GlaIdeal.τ Cert.GlaIdeal.sig) → Buf (Elt Ideal) ℓ) : Prop :=
  ∀ c : Dev Cert.GlaIdeal.nD,
    (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7)) (m ((c.tc : Thread Cert.GlaIdeal.nD Cert.GlaIdeal.τ).loc Cert.GlaIdeal.main_arg8)) (m ((c.tc : Thread Cert.GlaIdeal.nD Cert.GlaIdeal.τ).loc Cert.GlaIdeal.main_arg9)) (m ((c.tc : Thread Cert.GlaIdeal.nD Cert.GlaIdeal.τ).loc Cert.GlaIdeal.main_arg10)) (m ((c.tc : Thread Cert.GlaIdeal.nD Cert.GlaIdeal.τ).loc Cert.GlaIdeal.main_arg11))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gla_finite [hPre_gla_finite : Cert.Pre_gla_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6)) (m ((c.tc : Thread Cert.GlaRefIdeal.nD Cert.GlaRefIdeal.τ).loc Cert.GlaRefIdeal.main_arg7)) (m ((c.tc : Thread Cert.GlaRefIdeal.nD Cert.GlaRefIdeal.τ).loc Cert.GlaRefIdeal.main_arg8)) (m ((c.tc : Thread Cert.GlaRefIdeal.nD Cert.GlaRefIdeal.τ).loc Cert.GlaRefIdeal.main_arg9)) (m ((c.tc : Thread Cert.GlaRefIdeal.nD Cert.GlaRefIdeal.τ).loc Cert.GlaRefIdeal.main_arg10)) (m ((c.tc : Thread Cert.GlaRefIdeal.nD Cert.GlaRefIdeal.τ).loc Cert.GlaRefIdeal.main_arg11))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dx_finite [hPre_dx_finite : Cert.Pre_dx_finite.Facts] (m : (ℓ : Loc Cert.DxIdeal.nD Cert.DxIdeal.τ Cert.DxIdeal.sig) → Buf (Elt Ideal) ℓ) : Prop :=
  ∀ c : Dev Cert.DxIdeal.nD,
    (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dx_finite [hPre_dx_finite : Cert.Pre_dx_finite.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_forward_finite [hPre_forward_finite : Cert.Pre_forward_finite.Facts] (m : (ℓ : Loc Cert.FwdIdeal.nD Cert.FwdIdeal.τ Cert.FwdIdeal.sig) → Buf (Elt Ideal) ℓ) : Prop :=
  ∀ c : Dev Cert.FwdIdeal.nD,
    (Cert.Pre_forward_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_forward_finite [hPre_forward_finite : Cert.Pre_forward_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_forward_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8)
      ∧ r.2.mem ((c.tc : Thread Cert.Gla.nD Cert.Gla.τ).loc Cert.Gla.main_arg9) = m ((c.tc : Thread Cert.Gla.nD Cert.Gla.τ).loc Cert.Gla.main_arg9)
      ∧ r.2.mem ((c.tc : Thread Cert.Gla.nD Cert.Gla.τ).loc Cert.Gla.main_arg10) = m ((c.tc : Thread Cert.Gla.nD Cert.Gla.τ).loc Cert.Gla.main_arg10)
      ∧ r.2.mem ((c.tc : Thread Cert.Gla.nD Cert.Gla.τ).loc Cert.Gla.main_arg11) = m ((c.tc : Thread Cert.Gla.nD Cert.Gla.τ).loc Cert.Gla.main_arg11))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ r.2.sem = fun _ => 0)

def quiescent_GlaIdeal_pre_gla_finite [hGlaIdeal : Cert.GlaIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_gla_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8)
      ∧ r.2.mem ((c.tc : Thread Cert.GlaRefIdeal.nD Cert.GlaRefIdeal.τ).loc Cert.GlaRefIdeal.main_arg9) = m ((c.tc : Thread Cert.GlaRefIdeal.nD Cert.GlaRefIdeal.τ).loc Cert.GlaRefIdeal.main_arg9)
      ∧ r.2.mem ((c.tc : Thread Cert.GlaRefIdeal.nD Cert.GlaRefIdeal.τ).loc Cert.GlaRefIdeal.main_arg10) = m ((c.tc : Thread Cert.GlaRefIdeal.nD Cert.GlaRefIdeal.τ).loc Cert.GlaRefIdeal.main_arg10)
      ∧ r.2.mem ((c.tc : Thread Cert.GlaRefIdeal.nD Cert.GlaRefIdeal.τ).loc Cert.GlaRefIdeal.main_arg11) = m ((c.tc : Thread Cert.GlaRefIdeal.nD Cert.GlaRefIdeal.τ).loc Cert.GlaRefIdeal.main_arg11))
      ∧ r.2.sem = fun _ => 0)

def quiescent_GlaRefIdeal_pre_gla_finite [hGlaRefIdeal : Cert.GlaRefIdeal.Facts] [hPre_gla_finite : Cert.Pre_gla_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gla_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7)
      ∧ r.2.mem ((c.tc : Thread Cert.GlaRefIdeal.nD Cert.GlaRefIdeal.τ).loc Cert.GlaRefIdeal.main_arg8) = m ((c.tc : Thread Cert.GlaRefIdeal.nD Cert.GlaRefIdeal.τ).loc Cert.GlaRefIdeal.main_arg8)
      ∧ r.2.mem ((c.tc : Thread Cert.GlaRefIdeal.nD Cert.GlaRefIdeal.τ).loc Cert.GlaRefIdeal.main_arg9) = m ((c.tc : Thread Cert.GlaRefIdeal.nD Cert.GlaRefIdeal.τ).loc Cert.GlaRefIdeal.main_arg9)
      ∧ r.2.mem ((c.tc : Thread Cert.GlaRefIdeal.nD Cert.GlaRefIdeal.τ).loc Cert.GlaRefIdeal.main_arg10) = m ((c.tc : Thread Cert.GlaRefIdeal.nD Cert.GlaRefIdeal.τ).loc Cert.GlaRefIdeal.main_arg10)
      ∧ r.2.mem ((c.tc : Thread Cert.GlaRefIdeal.nD Cert.GlaRefIdeal.τ).loc Cert.GlaRefIdeal.main_arg11) = m ((c.tc : Thread Cert.GlaRefIdeal.nD Cert.GlaRefIdeal.τ).loc Cert.GlaRefIdeal.main_arg11))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxIdeal_pre_dx_finite [hDxIdeal : Cert.DxIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dx_finite m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_DxRefIdeal_pre_dx_finite [hDxRefIdeal : Cert.DxRefIdeal.Facts] [hPre_dx_finite : Cert.Pre_dx_finite.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dx_finite m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ r.2.sem = fun _ => 0)

def quiescent_FwdIdeal_pre_forward_finite [hFwdIdeal : Cert.FwdIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_forward_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0)

def quiescent_FwdRefIdeal_pre_forward_finite [hFwdRefIdeal : Cert.FwdRefIdeal.Facts] [hPre_forward_finite : Cert.Pre_forward_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_forward_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0)

def preserves_Mixer_MixerIdeal : Prop :=
  IdealRules.named_const.Statement Cert.MixerIdeal.κ "sqrt_half" .f32 0x3F3504F3#32 (((Real.sqrt 2)⁻¹ : ℝ) : EReal)
  ∧ IdealRules.named_const.Statement Cert.MixerIdeal.κ "inv_sqrt_2pi" .f32 0x3ECC422A#32 (((Real.sqrt (2 * Real.pi))⁻¹ : ℝ) : EReal)

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v9_0)) (v1 : (c : Dev Cert.MixerIdeal.nD) → Buf (Elt Ideal) ((c.tc : Thread Cert.MixerIdeal.nD Cert.MixerIdeal.τ).loc Cert.MixerIdeal.main_v9_1)) (v2 : (c : Dev Cert.MixerIdeal.nD) → Buf (Elt Ideal) ((c.tc : Thread Cert.MixerIdeal.nD Cert.MixerIdeal.τ).loc Cert.MixerIdeal.main_v9_2)) (v3 : (c : Dev Cert.MixerIdeal.nD) → Buf (Elt Ideal) ((c.tc : Thread Cert.MixerIdeal.nD Cert.MixerIdeal.τ).loc Cert.MixerIdeal.main_v9_3)) (v4 : (c : Dev Cert.MixerIdeal.nD) → Buf (Elt Ideal) ((c.tc : Thread Cert.MixerIdeal.nD Cert.MixerIdeal.τ).loc Cert.MixerIdeal.main_v9_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v9_0) = v0 c
          ∧ r.2.mem ((c.tc : Thread Cert.MixerIdeal.nD Cert.MixerIdeal.τ).loc Cert.MixerIdeal.main_v9_1) = v1 c
          ∧ r.2.mem ((c.tc : Thread Cert.MixerIdeal.nD Cert.MixerIdeal.τ).loc Cert.MixerIdeal.main_v9_2) = v2 c
          ∧ r.2.mem ((c.tc : Thread Cert.MixerIdeal.nD Cert.MixerIdeal.τ).loc Cert.MixerIdeal.main_v9_3) = v3 c
          ∧ r.2.mem ((c.tc : Thread Cert.MixerIdeal.nD Cert.MixerIdeal.τ).loc Cert.MixerIdeal.main_v9_4) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v157) = v0 c
          ∧ r.2.mem ((c.tc : Thread Cert.MixerRefIdeal.nD Cert.MixerRefIdeal.τ).loc Cert.MixerRefIdeal.main_v158) = v1 c
          ∧ r.2.mem ((c.tc : Thread Cert.MixerRefIdeal.nD Cert.MixerRefIdeal.τ).loc Cert.MixerRefIdeal.main_v155) = v2 c
          ∧ r.2.mem ((c.tc : Thread Cert.MixerRefIdeal.nD Cert.MixerRefIdeal.τ).loc Cert.MixerRefIdeal.main_v130) = v3 c
          ∧ r.2.mem ((c.tc : Thread Cert.MixerRefIdeal.nD Cert.MixerRefIdeal.τ).loc Cert.MixerRefIdeal.main_v129) = v4 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_Gla_GlaIdeal : Prop :=
  True

def algebraic_GlaIdeal_GlaRefIdeal_pre_gla_finite [hGlaIdeal : Cert.GlaIdeal.Facts] [hGlaRefIdeal : Cert.GlaRefIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_gla_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)
      ∧ m' ((c.tc : Thread Cert.GlaRefIdeal.nD Cert.GlaRefIdeal.τ).loc Cert.GlaRefIdeal.main_arg8) = m ((c.tc : Thread Cert.GlaIdeal.nD Cert.GlaIdeal.τ).loc Cert.GlaIdeal.main_arg8)
      ∧ m' ((c.tc : Thread Cert.GlaRefIdeal.nD Cert.GlaRefIdeal.τ).loc Cert.GlaRefIdeal.main_arg9) = m ((c.tc : Thread Cert.GlaIdeal.nD Cert.GlaIdeal.τ).loc Cert.GlaIdeal.main_arg9)
      ∧ m' ((c.tc : Thread Cert.GlaRefIdeal.nD Cert.GlaRefIdeal.τ).loc Cert.GlaRefIdeal.main_arg10) = m ((c.tc : Thread Cert.GlaIdeal.nD Cert.GlaIdeal.τ).loc Cert.GlaIdeal.main_arg10)
      ∧ m' ((c.tc : Thread Cert.GlaRefIdeal.nD Cert.GlaRefIdeal.τ).loc Cert.GlaRefIdeal.main_arg11) = m ((c.tc : Thread Cert.GlaIdeal.nD Cert.GlaIdeal.τ).loc Cert.GlaIdeal.main_arg11)) →
    ∃ (v0 : (c : Dev Cert.GlaIdeal.nD) → Buf (Elt Ideal) ((c.tc : Thread Cert.GlaIdeal.nD Cert.GlaIdeal.τ).loc Cert.GlaIdeal.main_v119_0)) (v1 : (c : Dev Cert.GlaIdeal.nD) → Buf (Elt Ideal) ((c.tc : Thread Cert.GlaIdeal.nD Cert.GlaIdeal.τ).loc Cert.GlaIdeal.main_v119_1)) (v2 : (c : Dev Cert.GlaIdeal.nD) → Buf (Elt Ideal) ((c.tc : Thread Cert.GlaIdeal.nD Cert.GlaIdeal.τ).loc Cert.GlaIdeal.main_v119_2)) (v3 : (c : Dev Cert.GlaIdeal.nD) → Buf (Elt Ideal) ((c.tc : Thread Cert.GlaIdeal.nD Cert.GlaIdeal.τ).loc Cert.GlaIdeal.main_v119_3)) (v4 : (c : Dev Cert.GlaIdeal.nD) → Buf (Elt Ideal) ((c.tc : Thread Cert.GlaIdeal.nD Cert.GlaIdeal.τ).loc Cert.GlaIdeal.main_v119_4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v119_0) = v0 c
          ∧ r.2.mem ((c.tc : Thread Cert.GlaIdeal.nD Cert.GlaIdeal.τ).loc Cert.GlaIdeal.main_v119_1) = v1 c
          ∧ r.2.mem ((c.tc : Thread Cert.GlaIdeal.nD Cert.GlaIdeal.τ).loc Cert.GlaIdeal.main_v119_2) = v2 c
          ∧ r.2.mem ((c.tc : Thread Cert.GlaIdeal.nD Cert.GlaIdeal.τ).loc Cert.GlaIdeal.main_v119_3) = v3 c
          ∧ r.2.mem ((c.tc : Thread Cert.GlaIdeal.nD Cert.GlaIdeal.τ).loc Cert.GlaIdeal.main_v119_4) = v4 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
          ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
          ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
          ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v175) = v0 c
          ∧ r.2.mem ((c.tc : Thread Cert.GlaRefIdeal.nD Cert.GlaRefIdeal.τ).loc Cert.GlaRefIdeal.main_v178) = v1 c
          ∧ r.2.mem ((c.tc : Thread Cert.GlaRefIdeal.nD Cert.GlaRefIdeal.τ).loc Cert.GlaRefIdeal.main_v180) = v2 c
          ∧ r.2.mem ((c.tc : Thread Cert.GlaRefIdeal.nD Cert.GlaRefIdeal.τ).loc Cert.GlaRefIdeal.main_v160) = v3 c
          ∧ r.2.mem ((c.tc : Thread Cert.GlaRefIdeal.nD Cert.GlaRefIdeal.τ).loc Cert.GlaRefIdeal.main_v106) = v4 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7)
          ∧ r.2.mem ((c.tc : Thread Cert.GlaRefIdeal.nD Cert.GlaRefIdeal.τ).loc Cert.GlaRefIdeal.main_arg8) = m' ((c.tc : Thread Cert.GlaRefIdeal.nD Cert.GlaRefIdeal.τ).loc Cert.GlaRefIdeal.main_arg8)
          ∧ r.2.mem ((c.tc : Thread Cert.GlaRefIdeal.nD Cert.GlaRefIdeal.τ).loc Cert.GlaRefIdeal.main_arg9) = m' ((c.tc : Thread Cert.GlaRefIdeal.nD Cert.GlaRefIdeal.τ).loc Cert.GlaRefIdeal.main_arg9)
          ∧ r.2.mem ((c.tc : Thread Cert.GlaRefIdeal.nD Cert.GlaRefIdeal.τ).loc Cert.GlaRefIdeal.main_arg10) = m' ((c.tc : Thread Cert.GlaRefIdeal.nD Cert.GlaRefIdeal.τ).loc Cert.GlaRefIdeal.main_arg10)
          ∧ r.2.mem ((c.tc : Thread Cert.GlaRefIdeal.nD Cert.GlaRefIdeal.τ).loc Cert.GlaRefIdeal.main_arg11) = m' ((c.tc : Thread Cert.GlaRefIdeal.nD Cert.GlaRefIdeal.τ).loc Cert.GlaRefIdeal.main_arg11))

def preserves_Dx_DxIdeal : Prop :=
  True

def algebraic_DxIdeal_DxRefIdeal_pre_dx_finite [hDxIdeal : Cert.DxIdeal.Facts] [hDxRefIdeal : Cert.DxRefIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dx_finite m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v12_0)) (v1 : (c : Dev Cert.DxIdeal.nD) → Buf (Elt Ideal) ((c.tc : Thread Cert.DxIdeal.nD Cert.DxIdeal.τ).loc Cert.DxIdeal.main_v12_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v12_0) = v0 c
          ∧ r.2.mem ((c.tc : Thread Cert.DxIdeal.nD Cert.DxIdeal.τ).loc Cert.DxIdeal.main_v12_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v44) = v0 c
          ∧ r.2.mem ((c.tc : Thread Cert.DxRefIdeal.nD Cert.DxRefIdeal.τ).loc Cert.DxRefIdeal.main_v43) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v17)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_5)) (v6 : (c : Dev Cert.MergeIdeal.nD) → Buf (Elt Ideal) ((c.tc : Thread Cert.MergeIdeal.nD Cert.MergeIdeal.τ).loc Cert.MergeIdeal.main_v16_6)) (v7 : (c : Dev Cert.MergeIdeal.nD) → Buf (Elt Ideal) ((c.tc : Thread Cert.MergeIdeal.nD Cert.MergeIdeal.τ).loc Cert.MergeIdeal.main_v16_7)) (v8 : (c : Dev Cert.MergeIdeal.nD) → Buf (Elt Ideal) ((c.tc : Thread Cert.MergeIdeal.nD Cert.MergeIdeal.τ).loc Cert.MergeIdeal.main_v16_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_5) = v5 c
          ∧ r.2.mem ((c.tc : Thread Cert.MergeIdeal.nD Cert.MergeIdeal.τ).loc Cert.MergeIdeal.main_v16_6) = v6 c
          ∧ r.2.mem ((c.tc : Thread Cert.MergeIdeal.nD Cert.MergeIdeal.τ).loc Cert.MergeIdeal.main_v16_7) = v7 c
          ∧ r.2.mem ((c.tc : Thread Cert.MergeIdeal.nD Cert.MergeIdeal.τ).loc Cert.MergeIdeal.main_v16_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v97) = v0 c
          ∧ r.2.mem ((c.tc : Thread Cert.MergeRefIdeal.nD Cert.MergeRefIdeal.τ).loc Cert.MergeRefIdeal.main_v98) = v1 c
          ∧ r.2.mem ((c.tc : Thread Cert.MergeRefIdeal.nD Cert.MergeRefIdeal.τ).loc Cert.MergeRefIdeal.main_v99) = v2 c
          ∧ r.2.mem ((c.tc : Thread Cert.MergeRefIdeal.nD Cert.MergeRefIdeal.τ).loc Cert.MergeRefIdeal.main_v100) = v3 c
          ∧ r.2.mem ((c.tc : Thread Cert.MergeRefIdeal.nD Cert.MergeRefIdeal.τ).loc Cert.MergeRefIdeal.main_v101) = v4 c
          ∧ r.2.mem ((c.tc : Thread Cert.MergeRefIdeal.nD Cert.MergeRefIdeal.τ).loc Cert.MergeRefIdeal.main_v102) = v5 c
          ∧ r.2.mem ((c.tc : Thread Cert.MergeRefIdeal.nD Cert.MergeRefIdeal.τ).loc Cert.MergeRefIdeal.main_v103) = v6 c
          ∧ r.2.mem ((c.tc : Thread Cert.MergeRefIdeal.nD Cert.MergeRefIdeal.τ).loc Cert.MergeRefIdeal.main_v104) = v7 c
          ∧ r.2.mem ((c.tc : Thread Cert.MergeRefIdeal.nD Cert.MergeRefIdeal.τ).loc Cert.MergeRefIdeal.main_v50) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Fwd_FwdIdeal : Prop :=
  IdealRules.named_const.Statement Cert.FwdIdeal.κ "sqrt_half" .f32 0x3F3504F3#32 (((Real.sqrt 2)⁻¹ : ℝ) : EReal)

def algebraic_FwdIdeal_FwdRefIdeal_pre_forward_finite [hFwdIdeal : Cert.FwdIdeal.Facts] [hFwdRefIdeal : Cert.FwdRefIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_forward_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)) →
    ∃ (v0 : (c : Dev Cert.FwdIdeal.nD) → Buf (Elt Ideal) ((c.tc : Thread Cert.FwdIdeal.nD Cert.FwdIdeal.τ).loc Cert.FwdIdeal.main_v10_0)) (v1 : (c : Dev Cert.FwdIdeal.nD) → Buf (Elt Ideal) ((c.tc : Thread Cert.FwdIdeal.nD Cert.FwdIdeal.τ).loc Cert.FwdIdeal.main_v10_1)) (v2 : (c : Dev Cert.FwdIdeal.nD) → Buf (Elt Ideal) ((c.tc : Thread Cert.FwdIdeal.nD Cert.FwdIdeal.τ).loc Cert.FwdIdeal.main_v10_2)) (v3 : (c : Dev Cert.FwdIdeal.nD) → Buf (Elt Ideal) ((c.tc : Thread Cert.FwdIdeal.nD Cert.FwdIdeal.τ).loc Cert.FwdIdeal.main_v10_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v10_0) = v0 c
          ∧ r.2.mem ((c.tc : Thread Cert.FwdIdeal.nD Cert.FwdIdeal.τ).loc Cert.FwdIdeal.main_v10_1) = v1 c
          ∧ r.2.mem ((c.tc : Thread Cert.FwdIdeal.nD Cert.FwdIdeal.τ).loc Cert.FwdIdeal.main_v10_2) = v2 c
          ∧ r.2.mem ((c.tc : Thread Cert.FwdIdeal.nD Cert.FwdIdeal.τ).loc Cert.FwdIdeal.main_v10_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v82) = v0 c
          ∧ r.2.mem ((c.tc : Thread Cert.FwdRefIdeal.nD Cert.FwdRefIdeal.τ).loc Cert.FwdRefIdeal.main_v84) = v1 c
          ∧ r.2.mem ((c.tc : Thread Cert.FwdRefIdeal.nD Cert.FwdRefIdeal.τ).loc Cert.FwdRefIdeal.main_v86) = v2 c
          ∧ r.2.mem ((c.tc : Thread Cert.FwdRefIdeal.nD Cert.FwdRefIdeal.τ).loc Cert.FwdRefIdeal.main_v88) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9))

def Claim : Prop :=
  ∃ (hMixer : Cert.Mixer.Facts) (hMixerIdeal : Cert.MixerIdeal.Facts) (hMixerRefIdeal : Cert.MixerRefIdeal.Facts) (hGla : Cert.Gla.Facts) (hGlaIdeal : Cert.GlaIdeal.Facts) (hGlaRefIdeal : Cert.GlaRefIdeal.Facts) (hDx : Cert.Dx.Facts) (hDxIdeal : Cert.DxIdeal.Facts) (hDxRefIdeal : Cert.DxRefIdeal.Facts) (hMerge : Cert.Merge.Facts) (hMergeIdeal : Cert.MergeIdeal.Facts) (hMergeRefIdeal : Cert.MergeRefIdeal.Facts) (hFwd : Cert.Fwd.Facts) (hFwdIdeal : Cert.FwdIdeal.Facts) (hFwdRefIdeal : Cert.FwdRefIdeal.Facts) (hPre_mixer_finite : Cert.Pre_mixer_finite.Facts) (hPre_gla_finite : Cert.Pre_gla_finite.Facts) (hPre_dx_finite : Cert.Pre_dx_finite.Facts) (hPre_merge_finite : Cert.Pre_merge_finite.Facts) (hPre_forward_finite : Cert.Pre_forward_finite.Facts),
    quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Gla (hGla := hGla)
    ∧ quiescent_GlaIdeal (hGlaIdeal := hGlaIdeal)
    ∧ quiescent_GlaIdeal_pre_gla_finite (hGlaIdeal := hGlaIdeal) (hPre_gla_finite := hPre_gla_finite)
    ∧ quiescent_GlaRefIdeal (hGlaRefIdeal := hGlaRefIdeal)
    ∧ quiescent_GlaRefIdeal_pre_gla_finite (hGlaRefIdeal := hGlaRefIdeal) (hPre_gla_finite := hPre_gla_finite)
    ∧ quiescent_Dx (hDx := hDx)
    ∧ quiescent_DxIdeal (hDxIdeal := hDxIdeal)
    ∧ quiescent_DxIdeal_pre_dx_finite (hDxIdeal := hDxIdeal) (hPre_dx_finite := hPre_dx_finite)
    ∧ quiescent_DxRefIdeal (hDxRefIdeal := hDxRefIdeal)
    ∧ quiescent_DxRefIdeal_pre_dx_finite (hDxRefIdeal := hDxRefIdeal) (hPre_dx_finite := hPre_dx_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Fwd (hFwd := hFwd)
    ∧ quiescent_FwdIdeal (hFwdIdeal := hFwdIdeal)
    ∧ quiescent_FwdIdeal_pre_forward_finite (hFwdIdeal := hFwdIdeal) (hPre_forward_finite := hPre_forward_finite)
    ∧ quiescent_FwdRefIdeal (hFwdRefIdeal := hFwdRefIdeal)
    ∧ quiescent_FwdRefIdeal_pre_forward_finite (hFwdRefIdeal := hFwdRefIdeal) (hPre_forward_finite := hPre_forward_finite)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Gla_GlaIdeal
    ∧ algebraic_GlaIdeal_GlaRefIdeal_pre_gla_finite (hGlaIdeal := hGlaIdeal) (hGlaRefIdeal := hGlaRefIdeal) (hPre_gla_finite := hPre_gla_finite)
    ∧ preserves_Dx_DxIdeal
    ∧ algebraic_DxIdeal_DxRefIdeal_pre_dx_finite (hDxIdeal := hDxIdeal) (hDxRefIdeal := hDxRefIdeal) (hPre_dx_finite := hPre_dx_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Fwd_FwdIdeal
    ∧ algebraic_FwdIdeal_FwdRefIdeal_pre_forward_finite (hFwdIdeal := hFwdIdeal) (hFwdRefIdeal := hFwdRefIdeal) (hPre_forward_finite := hPre_forward_finite)
-- ==== Pre_dx_finite.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x4096x6144 : Shape := ⟨3, ![1, 4096, 6144]⟩
abbrev S1x4096x16 : Shape := ⟨3, ![1, 4096, 16]⟩
abbrev S1x4096x2048 : Shape := ⟨3, ![1, 4096, 2048]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x8208 : S_.BroadcastsInDim S1x1024x8208 (![] : Fin 0 → Fin S1x1024x8208.rank)
  reducesTo_S1x1024x8208_S_d0_1_2 : S1x1024x8208.ReducesTo [0, 1, 2] S_
  bcast_S_S1x4096x6144 : S_.BroadcastsInDim S1x4096x6144 (![] : Fin 0 → Fin S1x4096x6144.rank)
  reducesTo_S1x4096x6144_S_d0_1_2 : S1x4096x6144.ReducesTo [0, 1, 2] S_
  bcast_S_S1x4096x16 : S_.BroadcastsInDim S1x4096x16 (![] : Fin 0 → Fin S1x4096x16.rank)
  reducesTo_S1x4096x16_S_d0_1_2 : S1x4096x16.ReducesTo [0, 1, 2] S_
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn_part1 {F : FTy → Type} [FloatOps F] (main_arg4 : FVec F S1x4096x6144 .f32) (main_arg5 : FVec F S1x4096x16 .f32) (main_arg6 : FVec F S1x4096x2048 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x4096x6144 .f32 := Host.absf main_arg4
  let main_cst_6 : FVec F S_ .f32 := constant S_ .f32 0x7F800000#32
  let main_v20 : FVec F S1x4096x6144 .f32 := broadcastInDim S1x4096x6144 ![] bcast_S_S1x4096x6144 main_cst_6
  let main_v21 : IVec S1x4096x6144 1 := cmpf .olt main_v19 main_v20
  let main_c_7 : IVec S_ 1 := constantI S_ 1 1#1
  let main_v22 : IVec S_ 1 := (fun x v => Host.reduce IntOp.andi x v reducesTo_S1x4096x6144_S_d0_1_2 h_S_) main_v21 main_c_7
  let main_v23 : IVec S_ 1 := andi main_v18 main_v22
  let main_v24 : FVec F S1x4096x16 .f32 := Host.absf main_arg5
  let main_cst_8 : FVec F S_ .f32 := constant S_ .f32 0x7F800000#32
  let main_v25 : FVec F S1x4096x16 .f32 := broadcastInDim S1x4096x16 ![] bcast_S_S1x4096x16 main_cst_8
  let main_v26 : IVec S1x4096x16 1 := cmpf .olt main_v24 main_v25
  let main_c_9 : IVec S_ 1 := constantI S_ 1 1#1
  let main_v27 : IVec S_ 1 := (fun x v => Host.reduce IntOp.andi x v reducesTo_S1x4096x16_S_d0_1_2 h_S_) main_v26 main_c_9
  let main_v28 : IVec S_ 1 := andi main_v23 main_v27
  let main_v29 : FVec F S1x4096x2048 .f32 := Host.absf main_arg6
  let main_cst_10 : FVec F S_ .f32 := constant S_ .f32 0x7F800000#32
  let main_v30 : FVec F S1x4096x2048 .f32 := broadcastInDim S1x4096x2048 ![] bcast_S_S1x4096x2048 main_cst_10
  let main_v31 : IVec S1x4096x2048 1 := cmpf .olt main_v29 main_v30
  let main_c_11 : IVec S_ 1 := constantI S_ 1 1#1
  let main_v32 : IVec S_ 1 := (fun x v => Host.reduce IntOp.andi x v reducesTo_S1x4096x2048_S_d0_1_2 h_S_) main_v31 main_c_11
  let main_v33 : IVec S_ 1 := andi main_v28 main_v32
  main_v33

def fn {F : FTy → Type} [FloatOps F] (main_arg0 : FVec F S1x4096x1024 .f32) (main_arg1 : FVec F S1x1024 .f32) (main_arg2 : FVec F S1x1024x8208 .f32) (main_arg3 : FVec F S1x4096x1024 .f32) (main_arg4 : FVec F S1x4096x6144 .f32) (main_arg5 : FVec F S1x4096x16 .f32) (main_arg6 : FVec F S1x4096x2048 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x8208 .f32 := Host.absf main_arg2
  let main_cst_2 : FVec F S_ .f32 := constant S_ .f32 0x7F800000#32
  let main_v10 : FVec F S1x1024x8208 .f32 := broadcastInDim S1x1024x8208 ![] bcast_S_S1x1024x8208 main_cst_2
  let main_v11 : IVec S1x1024x8208 1 := cmpf .olt main_v9 main_v10
  let main_c_3 : IVec S_ 1 := constantI S_ 1 1#1
  let main_v12 : IVec S_ 1 := (fun x v => Host.reduce IntOp.andi x v reducesTo_S1x1024x8208_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_arg6 main_v13 main_v16
-- ==== Pre_forward_finite.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x8208 : S_.BroadcastsInDim S1x1024x8208 (![] : Fin 0 → Fin S1x1024x8208.rank)
  reducesTo_S1x1024x8208_S_d0_1_2 : S1x1024x8208.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x1024 .f32) (main_arg5 : FVec F S1x8x128x128 .f32) (main_arg6 : FVec F S1x8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x8x128x128 .f32 := Host.absf main_arg5
  let main_cst_8 : FVec F S_ .f32 := constant S_ .f32 0x7F800000#32
  let main_v25 : FVec F S1x8x128x128 .f32 := broadcastInDim S1x8x128x128 ![] bcast_S_S1x8x128x128 main_cst_8
  let main_v26 : IVec S1x8x128x128 1 := cmpf .olt main_v24 main_v25
  let main_c_9 : IVec S_ 1 := constantI S_ 1 1#1
  let main_v27 : IVec S_ 1 := (fun x v => Host.reduce IntOp.andi x v reducesTo_S1x8x128x128_S_d0_1_2_3 h_S_) main_v26 main_c_9
  let main_v28 : IVec S_ 1 := andi main_v23 main_v27
  let main_v29 : FVec F S1x8x128 .f32 := Host.absf main_arg6
  let main_cst_10 : FVec F S_ .f32 := constant S_ .f32 0x7F800000#32
  let main_v30 : FVec F S1x8x128 .f32 := broadcastInDim S1x8x128 ![] bcast_S_S1x8x128 main_cst_10
  let main_v31 : IVec S1x8x128 1 := cmpf .olt main_v29 main_v30
  let main_c_11 : IVec S_ 1 := constantI S_ 1 1#1
  let main_v32 : IVec S_ 1 := (fun x v => Host.reduce IntOp.andi x v reducesTo_S1x8x128_S_d0_1_2 h_S_) main_v31 main_c_11
  let main_v33 : IVec S_ 1 := andi main_v28 main_v32
  main_v33

def fn {F : FTy → Type} [FloatOps F] (main_arg0 : FVec F S1x4096x1024 .f32) (main_arg1 : FVec F S1x1024 .f32) (main_arg2 : FVec F S1x1024x8208 .f32) (main_arg3 : FVec F S1x1024 .f32) (main_arg4 : FVec F S1x1024 .f32) (main_arg5 : FVec F S1x8x128x128 .f32) (main_arg6 : FVec F S1x8x128 .f32) (main_arg7 : FVec F S1x16x512 .f32) (main_arg8 : FVec F S1x512 .f32) (main_arg9 : FVec F S1x256 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x8208 .f32 := Host.absf main_arg2
  let main_cst_2 : FVec F S_ .f32 := constant S_ .f32 0x7F800000#32
  let main_v10 : FVec F S1x1024x8208 .f32 := broadcastInDim S1x1024x8208 ![] bcast_S_S1x1024x8208 main_cst_2
  let main_v11 : IVec S1x1024x8208 1 := cmpf .olt main_v9 main_v10
  let main_c_3 : IVec S_ 1 := constantI S_ 1 1#1
  let main_v12 : IVec S_ 1 := (fun x v => Host.reduce IntOp.andi x v reducesTo_S1x1024x8208_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_gla_finite.lean ====
abbrev S4096x3072 : Shape := ⟨2, ![4096, 3072]⟩
abbrev S1x4096x512 : Shape := ⟨3, ![1, 4096, 512]⟩
abbrev S1x4096x1024 : Shape := ⟨3, ![1, 4096, 1024]⟩
abbrev S4096x2048 : Shape := ⟨2, ![4096, 2048]⟩
abbrev S1x4096x16 : Shape := ⟨3, ![1, 4096, 16]⟩
abbrev S1x16x512 : Shape := ⟨3, ![1, 16, 512]⟩
abbrev S1x512 : Shape := ⟨2, ![1, 512]⟩
abbrev S1x256 : Shape := ⟨2, ![1, 256]⟩
abbrev S4096x8192 : Shape := ⟨2, ![4096, 8192]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x4096x16 : S_.BroadcastsInDim S1x4096x16 (![] : Fin 0 → Fin S1x4096x16.rank)
  reducesTo_S1x4096x16_S_d0_1_2 : S1x4096x16.ReducesTo [0, 1, 2] S_
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg9 : FVec F S1x256 .f32) (main_arg10 : FVec F S1x4096x1024 .f32) (main_v33 : IVec S_ 1) : IVec S_ 1 :=
  let main_v34 : FVec F S1x256 .f32 := Host.absf main_arg9
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1x4096x1024 .f32 := Host.absf main_arg10
  let main_cst_14 : FVec F S_ .f32 := constant S_ .f32 0x7F800000#32
  let main_v40 : FVec F S1x4096x1024 .f32 := broadcastInDim S1x4096x1024 ![] bcast_S_S1x4096x1024 main_cst_14
  let main_v41 : IVec S1x4096x1024 1 := cmpf .olt main_v39 main_v40
  let main_c_15 : IVec S_ 1 := constantI S_ 1 1#1
  let main_v42 : IVec S_ 1 := (fun x v => Host.reduce IntOp.andi x v reducesTo_S1x4096x1024_S_d0_1_2 h_S_) main_v41 main_c_15
  let main_v43 : IVec S_ 1 := andi main_v38 main_v42
  main_v43

def fn_part1 {F : FTy → Type} [FloatOps F] (main_arg6 : FVec F S1x4096x16 .f32) (main_arg7 : FVec F S1x16x512 .f32) (main_arg8 : FVec F S1x512 .f32) (main_arg9 : FVec F S1x256 .f32) (main_arg10 : FVec F S1x4096x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x4096x16 .f32 := Host.absf main_arg6
  let main_cst_6 : FVec F S_ .f32 := constant S_ .f32 0x7F800000#32
  let main_v20 : FVec F S1x4096x16 .f32 := broadcastInDim S1x4096x16 ![] bcast_S_S1x4096x16 main_cst_6
  let main_v21 : IVec S1x4096x16 1 := cmpf .olt main_v19 main_v20
  let main_c_7 : IVec S_ 1 := constantI S_ 1 1#1
  let main_v22 : IVec S_ 1 := (fun x v => Host.reduce IntOp.andi x v reducesTo_S1x4096x16_S_d0_1_2 h_S_) main_v21 main_c_7
  let main_v23 : IVec S_ 1 := andi main_v18 main_v22
  let main_v24 : FVec F S1x16x512 .f32 := Host.absf main_arg7
  let main_cst_8 : FVec F S_ .f32 := constant S_ .f32 0x7F800000#32
  let main_v25 : FVec F S1x16x512 .f32 := broadcastInDim S1x16x512 ![] bcast_S_S1x16x512 main_cst_8
  let main_v26 : IVec S1x16x512 1 := cmpf .olt main_v24 main_v25
  let main_c_9 : IVec S_ 1 := constantI S_ 1 1#1
  let main_v27 : IVec S_ 1 := (fun x v => Host.reduce IntOp.andi x v reducesTo_S1x16x512_S_d0_1_2 h_S_) main_v26 main_c_9
  let main_v28 : IVec S_ 1 := andi main_v23 main_v27
  let main_v29 : FVec F S1x512 .f32 := Host.absf main_arg8
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg9 main_arg10 main_v33

def fn {F : FTy → Type} [FloatOps F] (main_arg0 : FVec F S4096x3072 .f32) (main_arg1 : FVec F S1x4096x512 .f32) (main_arg2 : FVec F S1x4096x512 .f32) (main_arg3 : FVec F S1x4096x1024 .f32) (main_arg4 : FVec F S1x4096x1024 .f32) (main_arg5 : FVec F S4096x2048 .f32) (main_arg6 : FVec F S1x4096x16 .f32) (main_arg7 : FVec F S1x16x512 .f32) (main_arg8 : FVec F S1x512 .f32) (main_arg9 : FVec F S1x256 .f32) (main_arg10 : FVec F S1x4096x1024 .f32) (main_arg11 : FVec F S4096x8192 .bf16) : IVec S_ 1 :=
  let main_v0 : FVec F S1x4096x512 .f32 := Host.absf main_arg1
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  let main_v4 : FVec F S1x4096x512 .f32 := Host.absf main_arg2
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x4096x1024 .f32 := Host.absf main_arg4
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg6 main_arg7 main_arg8 main_arg9 main_arg10 main_v13 main_v16
-- ==== Pre_merge_finite.lean ====
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x2048 : S_.BroadcastsInDim S1x4096x2048 (![] : Fin 0 → Fin S1x4096x2048.rank)
  reducesTo_S1x4096x2048_S_d0_1_2 : S1x4096x2048.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1x4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x4096x1024 .f32 := Host.absf main_arg8
  let main_cst_14 : FVec F S_ .f32 := constant S_ .f32 0x7F800000#32
  let main_v40 : FVec F S1x4096x1024 .f32 := broadcastInDim S1x4096x1024 ![] bcast_S_S1x4096x1024 main_cst_14
  let main_v41 : IVec S1x4096x1024 1 := cmpf .olt main_v39 main_v40
  let main_c_15 : IVec S_ 1 := constantI S_ 1 1#1
  let main_v42 : IVec S_ 1 := (fun x v => Host.reduce IntOp.andi x v reducesTo_S1x4096x1024_S_d0_1_2 h_S_) main_v41 main_c_15
  let main_v43 : IVec S_ 1 := andi main_v38 main_v42
  main_v43

def fn_part1 {F : FTy → Type} [FloatOps F] (main_arg4 : FVec F S1x1024x1024 .f32) (main_arg5 : FVec F S1x1024x1024 .f32) (main_arg6 : FVec F S1x1024x1024 .f32) (main_arg7 : FVec F S1024 .f32) (main_arg8 : FVec F S1x4096x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_arg8 main_v33

def fn {F : FTy → Type} [FloatOps F] (main_arg0 : FVec F S1x4096x1024 .f32) (main_arg1 : FVec F S1x4096x2048 .f32) (main_arg2 : FVec F S1x4096x1024 .f32) (main_arg3 : FVec F S1x4096x1024 .f32) (main_arg4 : FVec F S1x1024x1024 .f32) (main_arg5 : FVec F S1x1024x1024 .f32) (main_arg6 : FVec F S1x1024x1024 .f32) (main_arg7 : FVec F S1024 .f32) (main_arg8 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_arg6 main_arg7 main_arg8 main_v13 main_v16
-- ==== Pre_mixer_finite.lean ====
abbrev S1x4096x1024 : Shape := ⟨3, ![1, 4096, 1024]⟩
abbrev S4096x5120 : Shape := ⟨2, ![4096, 5120]⟩
abbrev S1x1024 : Shape := ⟨2, ![1, 1024]⟩
abbrev S1x8x128x128 : Shape := ⟨4, ![1, 8, 128, 128]⟩
abbrev S1x8x128 : Shape := ⟨3, ![1, 8, 128]⟩
abbrev S4096x8192 : Shape := ⟨2, ![4096, 8192]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part2 {F : FTy → Type} [FloatOps F] (main_arg8 : FVec F S1x4096x1024 .f32) (main_v33 : IVec S_ 1) : IVec S_ 1 :=
  let main_v34 : FVec F S1x4096x1024 .f32 := Host.absf main_arg8
  let main_cst_12 : FVec F S_ .f32 := constant S_ .f32 0x7F800000#32
  let main_v35 : FVec F S1x4096x1024 .f32 := broadcastInDim S1x4096x1024 ![] bcast_S_S1x4096x1024 main_cst_12
  let main_v36 : IVec S1x4096x1024 1 := cmpf .olt main_v34 main_v35
  let main_c_13 : IVec S_ 1 := constantI S_ 1 1#1
  let main_v37 : IVec S_ 1 := (fun x v => Host.reduce IntOp.andi x v reducesTo_S1x4096x1024_S_d0_1_2 h_S_) main_v36 main_c_13
  let main_v38 : IVec S_ 1 := andi main_v33 main_v37
  main_v38

def fn_part1 {F : FTy → Type} [FloatOps F] (main_arg5 : FVec F S1x1024 .f32) (main_arg6 : FVec F S1x8x128x128 .f32) (main_arg7 : FVec F S1x8x128 .f32) (main_arg8 : FVec F S1x4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x8x128x128 .f32 := Host.absf main_arg6
  let main_cst_8 : FVec F S_ .f32 := constant S_ .f32 0x7F800000#32
  let main_v25 : FVec F S1x8x128x128 .f32 := broadcastInDim S1x8x128x128 ![] bcast_S_S1x8x128x128 main_cst_8
  let main_v26 : IVec S1x8x128x128 1 := cmpf .olt main_v24 main_v25
  let main_c_9 : IVec S_ 1 := constantI S_ 1 1#1
  let main_v27 : IVec S_ 1 := (fun x v => Host.reduce IntOp.andi x v reducesTo_S1x8x128x128_S_d0_1_2_3 h_S_) main_v26 main_c_9
  let main_v28 : IVec S_ 1 := andi main_v23 main_v27
  let main_v29 : FVec F S1x8x128 .f32 := Host.absf main_arg7
  let main_cst_10 : FVec F S_ .f32 := constant S_ .f32 0x7F800000#32
  let main_v30 : FVec F S1x8x128 .f32 := broadcastInDim S1x8x128 ![] bcast_S_S1x8x128 main_cst_10
  let main_v31 : IVec S1x8x128 1 := cmpf .olt main_v29 main_v30
  let main_c_11 : IVec S_ 1 := constantI S_ 1 1#1
  let main_v32 : IVec S_ 1 := (fun x v => Host.reduce IntOp.andi x v reducesTo_S1x8x128_S_d0_1_2 h_S_) main_v31 main_c_11
  let main_v33 : IVec S_ 1 := andi main_v28 main_v32
  fn_part2 (F := F) main_arg8 main_v33

def fn {F : FTy → Type} [FloatOps F] (main_arg0 : FVec F S1x4096x1024 .f32) (main_arg1 : FVec F S1x4096x1024 .f32) (main_arg2 : FVec F S1x4096x1024 .f32) (main_arg3 : FVec F S4096x5120 .f32) (main_arg4 : FVec F S1x1024 .f32) (main_arg5 : FVec F S1x1024 .f32) (main_arg6 : FVec F S1x8x128x128 .f32) (main_arg7 : FVec F S1x8x128 .f32) (main_arg8 : FVec F S1x4096x1024 .f32) (main_arg9 : FVec F S4096x8192 .bf16) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_arg8 main_v13 main_v16
-- ==== Mixer.lean ====
abbrev S1x4096x1024 : Shape := ⟨3, ![1, 4096, 1024]⟩
abbrev S4096x5120 : Shape := ⟨2, ![4096, 5120]⟩
abbrev S1x1024 : Shape := ⟨2, ![1, 1024]⟩
abbrev S1x8x128x128 : Shape := ⟨4, ![1, 8, 128, 128]⟩
abbrev S1x8x128 : Shape := ⟨3, ![1, 8, 128]⟩
abbrev S4096x8192 : Shape := ⟨2, ![4096, 8192]⟩
abbrev S4096x1024 : Shape := ⟨2, ![4096, 1024]⟩
abbrev S8x128 : Shape := ⟨2, ![8, 128]⟩
abbrev S8x128x1 : Shape := ⟨3, ![8, 128, 1]⟩
abbrev S8x128x128 : Shape := ⟨3, ![8, 128, 128]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S4096x5120, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x4096x1024, .f32⟩
  | .hbm, ⟨9, _⟩ => ⟨S4096x8192, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x8192, .f32⟩
  | .hbm, ⟨14, _⟩ => ⟨S8x128, .f32⟩
  | .hbm, ⟨15, _⟩ => ⟨S8x128x1, .f32⟩
  | .hbm, ⟨16, _⟩ => ⟨S8x128x128, .f32⟩
  | .hbm, ⟨17, _⟩ => ⟨S4096x1024, .f32⟩
  | .hbm, ⟨18, _⟩ => ⟨S8x128x128, .f32⟩
  | .hbm, ⟨19, _⟩ => ⟨S4096x8192, .bf16⟩
  | .hbm, ⟨20, _⟩ => ⟨S8x128x128, .f32⟩
  | .hbm, ⟨21, _⟩ => ⟨S8x128x128, .f32⟩
  | .hbm, ⟨22, _⟩ => ⟨S1x1024, .f32⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .f32⟩
  | .local _ .vmem, ⟨11, _⟩ => ⟨S8x128x128, .f32⟩
  | .local _ .vmem, ⟨12, _⟩ => ⟨S256x3072, .bf16⟩
  | .local _ .vmem, ⟨13, _⟩ => ⟨S256x3072, .bf16⟩
  | .local _ .vmem, ⟨14, _⟩ => ⟨S8x128x128, .f32⟩
  | .local _ .vmem, ⟨15, _⟩ => ⟨S8x128x128, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixerIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== MixerRefIdeal.lean ====
abbrev S1x4096x1024 : Shape := ⟨3, ![1, 4096, 1024]⟩
abbrev S4096x5120 : Shape := ⟨2, ![4096, 5120]⟩
abbrev S1x1024 : Shape := ⟨2, ![1, 1024]⟩
abbrev S1x8x128x128 : Shape := ⟨4, ![1, 8, 128, 128]⟩
abbrev S1x8x128 : Shape := ⟨3, ![1, 8, 128]⟩
abbrev S4096x8192 : Shape := ⟨2, ![4096, 8192]⟩
abbrev S_ : Shape := ⟨0, ![]⟩
abbrev S1024 : Shape := ⟨1, ![1024]⟩
abbrev S8x128x128 : Shape := ⟨3, ![8, 128, 128]⟩
abbrev S8x128 : Shape := ⟨2, ![8, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S4096x1024 : Shape := ⟨2, ![4096, 1024]⟩
abbrev S8x128x1 : Shape := ⟨3, ![8, 128, 1]⟩

abbrev nBuf : Space → Nat
  | .hbm => 229
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S4096x5120, .f32⟩
  | 4 => ⟨S1x1024, .f32⟩
  | 5 => ⟨S1x1024, .f32⟩
  | 6 => ⟨S1x8x128x128, .f32⟩
  | 7 => ⟨S1x8x128, .f32⟩
  | 8 => ⟨S1x4096x1024, .f32⟩
  | 9 => ⟨S4096x8192, .bf16⟩
  | 10 => ⟨S_, .f32⟩
  | 11 => ⟨S1x4096x1024, .f32⟩
  | 12 => ⟨S1x4096x1024, .f32⟩
  | 13 => ⟨S_, .f32⟩
  | 14 => ⟨S_, .f32⟩
  | 15 => ⟨S1x4096x1024, .f32⟩
  | 16 => ⟨S1x4096x1024, .f32⟩
  | 17 => ⟨S_, .f32⟩
  | 18 => ⟨S_, .f32⟩
  | 19 => ⟨S1x4096x1024, .f32⟩
  | 20 => ⟨S_, .f32⟩
  | 21 => ⟨S_, .f32⟩
  | 22 => ⟨S_, .f32⟩
  | 23 => ⟨S1x4096x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S_, .f32⟩
  | 37 => ⟨S1x4096x1024, .f32⟩
  | 38 => ⟨S1x4096x1024, .f32⟩
  | 39 => ⟨S_, .f32⟩
  | 40 => ⟨S_, .f32⟩
  | 41 => ⟨S1x4096x1024, .f32⟩
  | 42 => ⟨S_, .f32⟩
  | 43 => ⟨S_, .f32⟩
  | 44 => ⟨S_, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S1x4096x1024, .f32⟩
  | 54 => ⟨S1024, .f32⟩
  | 55 => ⟨S1024, .f32⟩
  | 56 => ⟨S8x128x128, .f32⟩
  | 57 => ⟨S8x128, .f32⟩
  | 58 => ⟨S_, .f32⟩
  | 59 => ⟨S1x4096, .f32⟩
  | 60 => ⟨S1x4096x1, .f32⟩
  | 61 => ⟨S_, .f32⟩
  | 62 => ⟨S1x4096x1, .f32⟩
  | 63 => ⟨S1x4096x1, .f32⟩
  | 64 => ⟨S1x4096x1024, .f32⟩
  | 65 => ⟨S1x4096x1024, .f32⟩
  | 66 => ⟨S1x4096x1024, .f32⟩
  | 67 => ⟨S_, .f32⟩
  | 68 => ⟨S1x4096, .f32⟩
  | 69 => ⟨S1x4096x1, .f32⟩
  | 70 => ⟨S_, .f32⟩
  | 71 => ⟨S1x4096x1, .f32⟩
  | 72 => ⟨S1x4096x1, .f32⟩
  | 73 => ⟨S_, .f32⟩
  | 74 => ⟨S1x4096x1, .f32⟩
  | 75 => ⟨S1x4096x1, .f32⟩
  | 76 => ⟨S1x4096x1, .f32⟩
  | 77 => ⟨S1x4096x1, .f32⟩
  | 78 => ⟨S_, .f32⟩
  | 79 => ⟨S1x4096x1, .f32⟩
  | 80 => ⟨S1x4096x1, .f32⟩
  | 81 => ⟨S1x4096x1024, .f32⟩
  | 82 => ⟨S1x4096x1024, .f32⟩
  | 83 => ⟨S1x1x1024, .f32⟩
  | 84 => ⟨S1x4096x1024, .f32⟩
  | 85 => ⟨S1x4096x1024, .f32⟩
  | 86 => ⟨S1x1x1024, .f32⟩
  | 87 => ⟨S1x4096x1024, .f32⟩
  | 88 => ⟨S1x4096x1024, .f32⟩
  | 89 => ⟨S1x32x128x8x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S_, .f32⟩
  | 102 => ⟨S8x128x128, .f32⟩
  | 103 => ⟨S8x128x128, .i1⟩
  | 104 => ⟨S8x128x128, .f32⟩
  | 105 => ⟨S_, .f32⟩
  | 106 => ⟨S8x128x128, .f32⟩
  | 107 => ⟨S8x1x32x128x128, .f32⟩
  | 108 => ⟨S1x32x128x8x128, .f32⟩
  | 109 => ⟨S128x8, .f32⟩
  | 110 => ⟨S1x1x128x8x1, .f32⟩
  | 111 => ⟨S1x32x128x8x128, .f32⟩
  | 112 => ⟨S1x32x128x8x128, .f32⟩
  | 113 => ⟨S1x4096x1024, .f32⟩
  | 114 => ⟨S1x4096x1024, .f32⟩
  | 115 => ⟨S1x4096x1024, .f32⟩
  | 116 => ⟨S1x4096x1024, .f32⟩
  | 117 => ⟨S_, .f32⟩
  | 118 => ⟨S1x4096x1024, .f32⟩
  | 119 => ⟨S1x4096x1024, .f32⟩
  | 120 => ⟨S_, .f32⟩
  | 121 => ⟨S1x4096x1024, .f32⟩
  | 122 => ⟨S1x4096x1024, .f32⟩
  | 123 => ⟨S_, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x4096x1024, .f32⟩
  | 5 => ⟨S1x4096x1024, .f32⟩
  | 6 => ⟨S1x4096x1024, .f32⟩
  | 7 => ⟨S1x4096x1024, .f32⟩
  | 8 => ⟨S1x4096x1024, .f32⟩
  | 9 => ⟨S1x32x128x8x128, .f32⟩
  | 10 => ⟨S_, .f32⟩
  | 11 => ⟨S1x128x8, .f32⟩
  | 12 => ⟨S1x1x128x8x1, .f32⟩
  | 13 => ⟨S_, .f32⟩
  | 14 => ⟨S128x8, .f32⟩
  | 15 => ⟨S8x128, .f32⟩
  | 16 => ⟨S8x1x32x128x128, .f32⟩
  | 17 => ⟨S8x128x128, .f32⟩
  | 18 => ⟨S8x1x32x128x128, .f32⟩
  | 19 => ⟨S1x32x128x8x128, .f32⟩
  | 20 => ⟨S_, .f32⟩
  | 21 => ⟨S8x128x128, .f32⟩
  | 22 => ⟨S8x128x128, .f32⟩
  | 23 => ⟨S1x4096x1024, .f32⟩
  | 24 => ⟨S_, .f32⟩
  | 25 => ⟨S1x1024, .f32⟩
  | 26 => ⟨S1x1x1024, .f32⟩
  | 27 => ⟨S_, .f32⟩
  | 28 => ⟨S1024, .f32⟩
  | 29 => ⟨S1x4096x1024, .f32⟩
  | 30 => ⟨S_, .f32⟩
  | 31 => ⟨S1x1024, .f32⟩
  | 32 => ⟨S1x1x1024, .f32⟩
  | 33 => ⟨S1x4096x1024, .f32⟩
  | 34 => ⟨S1x4096x1024, .f32⟩
  | 35 => ⟨S_, .f32⟩
  | 36 => ⟨S1024, .f32⟩
  | 37 => ⟨S1x4096x1024, .f32⟩
  | 38 => ⟨S_, .f32⟩
  | 39 => ⟨S1x4096, .f32⟩
  | 40 => ⟨S1x4096x1, .f32⟩
  | 41 => ⟨S1x4096x1024, .f32⟩
  | 42 => ⟨S1x4096x1024, .f32⟩
  | 43 => ⟨S1x4096x1, .f32⟩
  | 44 => ⟨S_, .f32⟩
  | 45 => ⟨S1x4096x1, .f32⟩
  | 46 => ⟨S1x4096x1, .f32⟩
  | 47 => ⟨S_, .f32⟩
  | 48 => ⟨S4096, .f32⟩
  | 49 => ⟨S1x4096, .f32⟩
  | 50 => ⟨S1x4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S_, .f32⟩
  | 57 => ⟨S1x4096, .f32⟩
  | 58 => ⟨S1x4096x1, .f32⟩
  | 59 => ⟨S_, .f32⟩
  | 60 => ⟨S1x4096x1, .f32⟩
  | 61 => ⟨S1x4096x1, .f32⟩
  | 62 => ⟨S_, .f32⟩
  | 63 => ⟨S4096, .f32⟩
  | 64 => ⟨S1x4096, .f32⟩
  | 65 => ⟨S1x4096x1024, .f32⟩
  | 66 => ⟨S1x4096x1024, .f32⟩
  | 67 => ⟨S1x8x128, .f32⟩
  | 68 => ⟨S1x8x128x128, .f32⟩
  | 69 => ⟨S1x1024, .f32⟩
  | 70 => ⟨S1x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S_, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S_, .f32⟩
  | 86 => ⟨S1x4096x1024, .f32⟩
  | 87 => ⟨S1x4096x1024, .f32⟩
  | 88 => ⟨S1x4096x1024, .f32⟩
  | 89 => ⟨S4096x1024, .f32⟩
  | 90 => ⟨S4096x1024, .bf16⟩
  | 91 => ⟨S4096x1024, .f32⟩
  | 92 => ⟨S4096x1024, .bf16⟩
  | 93 => ⟨S4096x1024, .f32⟩
  | 94 => ⟨S4096x1024, .bf16⟩
  | 95 => ⟨S8x128, .f32⟩
  | 96 => ⟨S8x128x1, .f32⟩
  | 97 => ⟨S8x128x128, .f32⟩
  | 98 => ⟨S4096x5120, .bf16⟩
  | 99 => ⟨S4096x8192, .bf16⟩
  | 100 => ⟨S8x128x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_v64 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_0 : Ref sig .tc := ⟨.hbm, 98, rfl⟩
abbrev main_call0_v5 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67_1 : Ref sig .tc := ⟨.hbm, 103, rfl⟩
abbrev main_v67_0 : Ref sig .tc := ⟨.hbm, 104, rfl⟩
abbrev main_call1_cst : Ref sig .tc := ⟨.hbm, 105, rfl⟩
abbrev main_v67_2 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_v76_2 : Ref sig .tc := ⟨.hbm, 122, rfl⟩
abbrev main_call2_cst_1 : Ref sig .tc := ⟨.hbm, 123, rfl⟩
abbrev main_call2_v6 : Ref sig .tc := ⟨.hbm, 124, rfl⟩
abbrev main_call2_v7 : Ref sig .tc := ⟨.hbm, 125, rfl⟩
abbrev main_v76_1 : Ref sig .tc := ⟨.hbm, 126, rfl⟩
abbrev main_v76_0 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_16 : Ref sig .tc := ⟨.hbm, 138, rfl⟩
abbrev main_v84 : Ref sig .tc := ⟨.hbm, 139, rfl⟩
abbrev main_v85 : Ref sig .tc := ⟨.hbm, 140, rfl⟩
abbrev main_cst_17 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_call4_cst : Ref sig .tc := ⟨.hbm, 148, rfl⟩
abbrev main_call4_v0 : Ref sig .tc := ⟨.hbm, 149, rfl⟩
abbrev main_v92 : Ref sig .tc := ⟨.hbm, 150, rfl⟩
abbrev main_v93 : Ref sig .tc := ⟨.hbm, 151, rfl⟩
abbrev main_cst_18 : Ref sig .tc := ⟨.hbm, 152, rfl⟩
abbrev main_v94 : Ref sig .tc := ⟨.hbm, 153, rfl⟩
abbrev main_v95 : Ref sig .tc := ⟨.hbm, 154, rfl⟩
abbrev main_cst_19 : Ref sig .tc := ⟨.hbm, 155, rfl⟩
abbrev main_v96 : Ref sig .tc := ⟨.hbm, 156, rfl⟩
abbrev main_v97 : Ref sig .tc := ⟨.hbm, 157, rfl⟩
abbrev main_cst_20 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_21 : Ref sig .tc := ⟨.hbm, 163, rfl⟩
abbrev main_v102 : Ref sig .tc := ⟨.hbm, 164, rfl⟩
abbrev main_v103 : Ref sig .tc := ⟨.hbm, 165, rfl⟩
abbrev main_cst_22 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_23 : Ref sig .tc := ⟨.hbm, 172, rfl⟩
abbrev main_v109 : Ref sig .tc := ⟨.hbm, 173, rfl⟩
abbrev main_v110 : Ref sig .tc := ⟨.hbm, 174, rfl⟩
abbrev main_cst_24 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_25 : Ref sig .tc := ⟨.hbm, 184, rfl⟩
abbrev main_v119 : Ref sig .tc := ⟨.hbm, 185, rfl⟩
abbrev main_v120 : Ref sig .tc := ⟨.hbm, 186, rfl⟩
abbrev main_cst_26 : Ref sig .tc := ⟨.hbm, 187, rfl⟩
abbrev main_v121 : Ref sig .tc := ⟨.hbm, 188, rfl⟩
abbrev main_v122 : Ref sig .tc := ⟨.hbm, 189, rfl⟩
abbrev main_cst_27 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_28 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_cst_29 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩

abbrev nD : Nat := 1
abbrev τ : Topo := Topo.v7x

variable {F : FTy → Type} [FloatOps F]
-- ==== Gla.lean ====
abbrev S4096x3072 : Shape := ⟨2, ![4096, 3072]⟩
abbrev S1x4096x512 : Shape := ⟨3, ![1, 4096, 512]⟩
abbrev S1x4096x1024 : Shape := ⟨3, ![1, 4096, 1024]⟩
abbrev S4096x2048 : Shape := ⟨2, ![4096, 2048]⟩
abbrev S1x4096x16 : Shape := ⟨3, ![1, 4096, 16]⟩
abbrev S1x16x512 : Shape := ⟨3, ![1, 16, 512]⟩
abbrev S1x512 : Shape := ⟨2, ![1, 512]⟩
abbrev S1x256 : Shape := ⟨2, ![1, 256]⟩
abbrev S4096x8192 : Shape := ⟨2, ![4096, 8192]⟩
abbrev S16x512 : Shape := ⟨2, ![16, 512]⟩
abbrev S512 : Shape := ⟨1, ![512]⟩
abbrev S1x1x512 : Shape := ⟨3, ![1, 1, 512]⟩
abbrev S_ : Shape := ⟨0, ![]⟩
abbrev S4096x4x128 : Shape := ⟨3, ![4096, 4, 128]⟩
abbrev S4096x4x256 : Shape := ⟨3, ![4096, 4, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1x1 : Shape := ⟨4, ![4096, 4096, 1, 1]⟩
abbrev S1x4096x4x128 : Shape := ⟨4, ![1, 4096, 4, 128]⟩
abbrev S4096x4096x4x128 : Shape := ⟨4, ![4096, 4096, 4, 128]⟩
abbrev S4096x1x4x128 : Shape := ⟨4, ![4096, 1, 4, 128]⟩
abbrev S4096x4096x4 : Shape := ⟨3, ![4096, 4096, 4]⟩
abbrev S4096x4096x4x1 : Shape := ⟨4, ![4096, 4096, 4, 1]⟩
abbrev S1x4096x4x256 : Shape := ⟨4, ![1, 4096, 4, 256]⟩
abbrev S4096x4096x4x256 : Shape := ⟨4, ![4096, 4096, 4, 256]⟩
abbrev S4096x1024 : Shape := ⟨2, ![4096, 1024]⟩
abbrev S64 : Shape := ⟨1, ![64]⟩
abbrev S64x1 : Shape := ⟨2, ![64, 1]⟩
abbrev S64x4096 : Shape := ⟨2, ![64, 4096]⟩
abbrev S64x4096x1x1 : Shape := ⟨4, ![64, 4096, 1, 1]⟩
abbrev S64x4096x4x128 : Shape := ⟨4, ![64, 4096, 4, 128]⟩
abbrev S64x4x128 : Shape := ⟨3, ![64, 4, 128]⟩
abbrev S64x1x4x128 : Shape := ⟨4, ![64, 1, 4, 128]⟩
abbrev S1x4096x4x256x1 : Shape := ⟨5, ![1, 4096, 4, 256, 1]⟩
abbrev S64x4096x4x1x128 : Shape := ⟨5, ![64, 4096, 4, 1, 128]⟩
abbrev S64x4096x4x256x128 : Shape := ⟨5, ![64, 4096, 4, 256, 128]⟩
abbrev S64x4x256x128 : Shape := ⟨4, ![64, 4, 256, 128]⟩
abbrev S4096x512 : Shape := ⟨2, ![4096, 512]⟩
abbrev S4096x16 : Shape := ⟨2, ![4096, 16]⟩
abbrev S4096x128 : Shape := ⟨2, ![4096, 128]⟩
abbrev S128x512 : Shape := ⟨2, ![128, 512]⟩
abbrev S256x512 : Shape := ⟨2, ![256, 512]⟩
abbrev S256x1024 : Shape := ⟨2, ![256, 1024]⟩
abbrev S256x128 : Shape := ⟨2, ![256, 128]⟩
abbrev S4x4x256x128 : Shape := ⟨4, ![4, 4, 256, 128]⟩
abbrev S256x3072 : Shape := ⟨2, ![256, 3072]⟩
abbrev S4x256x128 : Shape := ⟨3, ![4, 256, 128]⟩
abbrev S256x256 : Shape := ⟨2, ![256, 256]⟩
abbrev S64x64 : Shape := ⟨2, ![64, 64]⟩
abbrev S1x256x128 : Shape := ⟨3, ![1, 256, 128]⟩
abbrev S64x512 : Shape := ⟨2, ![64, 512]⟩
abbrev S64x256 : Shape := ⟨2, ![64, 256]⟩
abbrev S256 : Shape := ⟨1, ![256]⟩
abbrev S64x128 : Shape := ⟨2, ![64, 128]⟩
abbrev S1x128 : Shape := ⟨2, ![1, 128]⟩
abbrev S1x1x256x128 : Shape := ⟨4, ![1, 1, 256, 128]⟩
abbrev S128 : Shape := ⟨1, ![128]⟩

abbrev nBuf : Space → Nat
  | .hbm => 204
  | .vmem => 30
  | .smem => 0
  | _ => 0

abbrev hbmTy0_0 (i : Nat) : BufTy := match i % 128 with
  | 0 => ⟨S4096x3072, .f32⟩
  | 1 => ⟨S1x4096x512, .f32⟩
  | 2 => ⟨S1x4096x512, .f32⟩
  | 3 => ⟨S1x4096x1024, .f32⟩
  | 4 => ⟨S1x4096x1024, .f32⟩
  | 5 => ⟨S4096x2048, .f32⟩
  | 6 => ⟨S1x4096x16, .f32⟩
  | 7 => ⟨S1x16x512, .f32⟩
  | 8 => ⟨S1x512, .f32⟩
  | 9 => ⟨S1x256, .f32⟩
  | 10 => ⟨S1x4096x1024, .f32⟩
  | 11 => ⟨S4096x8192, .bf16⟩
  | 12 => ⟨S16x512, .f32⟩
  | 13 => ⟨S1x4096x512, .f32⟩
  | 14 => ⟨S512, .f32⟩
  | 15 => ⟨S1x1x512, .f32⟩
  | 16 => ⟨S1x4096x512, .f32⟩
  | 17 => ⟨S1x4096x512, .f32⟩
  | 18 => ⟨S1x4096x512, .f32⟩
  | 19 => ⟨S_, .f32⟩
  | 20 => ⟨S1x4096x512, .f32⟩
  | 21 => ⟨S1x4096x512, .f32⟩
  | 22 => ⟨S1x4096x512, .f32⟩
  | 23 => ⟨S1x4096x512, .f32⟩
  | 24 => ⟨S1x4096x512, .i1⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S_, .f32⟩
  | 35 => ⟨S1x4096x512, .f32⟩
  | 36 => ⟨S1x4096x512, .f32⟩
  | 37 => ⟨S4096x4x128, .f32⟩
  | 38 => ⟨S_, .f32⟩
  | 39 => ⟨S4096x4x128, .f32⟩
  | 40 => ⟨S4096x4x128, .f32⟩
  | 41 => ⟨S4096x4x128, .f32⟩
  | 42 => ⟨S4096x4x256, .f32⟩
  | 43 => ⟨S4096x4x128, .f32⟩
  | 44 => ⟨S4096, .i32⟩
  | 45 => ⟨S_, .i32⟩
  | 46 => ⟨S4096, .i32⟩
  | 47 => ⟨S4096, .i32⟩
  | 48 => ⟨S4096, .i32⟩
  | 49 => ⟨S1x4096, .i32⟩
  | 50 => ⟨S4096x1, .i32⟩
  | 51 => ⟨S4096x4096, .i32⟩
  | 52 => ⟨S4096x4096, .i32⟩
  | 53 => ⟨S4096x4096, .i1⟩
  | 54 => ⟨S4096x4096x1x1, .i1⟩
  | 55 => ⟨S4096, .i32⟩
  | 56 => ⟨S_, .i32⟩
  | 57 => ⟨S4096, .i32⟩
  | 58 => ⟨S4096, .i32⟩
  | 59 => ⟨S4096, .i32⟩
  | 60 => ⟨S1x4096, .i32⟩
  | 61 => ⟨S4096x1, .i32⟩
  | 62 => ⟨S4096x4096, .i32⟩
  | 63 => ⟨S4096x4096, .i32⟩
  | 64 => ⟨S4096x4096, .i1⟩
  | 65 => ⟨S4096x4096x1x1, .i1⟩
  | 66 => ⟨S1x4096x4x128, .f32⟩
  | 67 => ⟨S_, .f32⟩
  | 68 => ⟨S_, .f32⟩
  | 69 => ⟨S4096x4096x4x128, .i1⟩
  | 70 => ⟨S4096x4096x4x128, .f32⟩
  | 71 => ⟨S4096x4096x4x128, .f32⟩
  | 72 => ⟨S4096x4096x4x128, .f32⟩
  | 73 => ⟨S_, .f32⟩
  | 74 => ⟨S4096x4x128, .f32⟩
  | 75 => ⟨S1x4096x4x128, .f32⟩
  | 76 => ⟨S_, .f32⟩
  | 77 => ⟨S_, .f32⟩
  | 78 => ⟨S4096x4096x4x128, .i1⟩
  | 79 => ⟨S4096x4096x4x128, .f32⟩
  | 80 => ⟨S4096x4096x4x128, .f32⟩
  | 81 => ⟨S4096x4096x4x128, .f32⟩
  | 82 => ⟨S_, .f32⟩
  | 83 => ⟨S4096x4x128, .f32⟩
  | 84 => ⟨S4096x1x4x128, .f32⟩
  | 85 => ⟨S1x4096x4x128, .f32⟩
  | 86 => ⟨S4096x4096x4x128, .f32⟩
  | 87 => ⟨S4096x4096x4x128, .f32⟩
  | 88 => ⟨S4096x4096x4x128, .f32⟩
  | 89 => ⟨S_, .f32⟩
  | 90 => ⟨S_, .f32⟩
  | 91 => ⟨S4096x4096x4x128, .i1⟩
  | 92 => ⟨S4096x4096x4x128, .f32⟩
  | 93 => ⟨S4096x4096x4x128, .f32⟩
  | 94 => ⟨S4096x4096x4x128, .f32⟩
  | 95 => ⟨S_, .f32⟩
  | 96 => ⟨S_, .f32⟩
  | 97 => ⟨S4096x4096x4x128, .i1⟩
  | 98 => ⟨S4096x4096x4x128, .f32⟩
  | 99 => ⟨S4096x4096x4x128, .f32⟩
  | 100 => ⟨S4096x1x4x128, .f32⟩
  | 101 => ⟨S1x4096x4x128, .f32⟩
  | 102 => ⟨S4096x4096x4x128, .f32⟩
  | 103 => ⟨S4096x4096x4x128, .f32⟩
  | 104 => ⟨S4096x4096x4x128, .f32⟩
  | 105 => ⟨S4096x4096x4x128, .f32⟩
  | 106 => ⟨S_, .f32⟩
  | 107 => ⟨S4096x4096x4, .f32⟩
  | 108 => ⟨S4096x4096x4x1, .f32⟩
  | 109 => ⟨S1x4096x4x256, .f32⟩
  | 110 => ⟨S4096x4096x4x256, .f32⟩
  | 111 => ⟨S4096x4096x4x256, .f32⟩
  | 112 => ⟨S4096x4096x4x256, .f32⟩
  | 113 => ⟨S_, .f32⟩
  | 114 => ⟨S4096x4x256, .f32⟩
  | 115 => ⟨S4096x1024, .f32⟩
  | 116 => ⟨S4096x4x128, .f32⟩
  | 117 => ⟨S4096x4x256, .f32⟩
  | 118 => ⟨S4096x4x128, .f32⟩
  | 119 => ⟨S64, .i32⟩
  | 120 => ⟨S_, .i32⟩
  | 121 => ⟨S64, .i32⟩
  | 122 => ⟨S64, .i32⟩
  | 123 => ⟨S4096, .i32⟩
  | 124 => ⟨S1x4096, .i32⟩
  | 125 => ⟨S64x1, .i32⟩
  | 126 => ⟨S64x4096, .i32⟩
  | 127 => ⟨S64x4096, .i32⟩
  | _ => ⟨S4096x3072, .f32⟩

abbrev hbmTy0_1 (i : Nat) : BufTy := match i % 128 with
  | 0 => ⟨S64x4096, .i1⟩
  | 1 => ⟨S64x4096x1x1, .i1⟩
  | 2 => ⟨S4096, .i32⟩
  | 3 => ⟨S_, .i32⟩
  | 4 => ⟨S4096, .i32⟩
  | 5 => ⟨S4096, .i32⟩
  | 6 => ⟨S4096, .i32⟩
  | 7 => ⟨S1x4096, .i32⟩
  | 8 => ⟨S4096x1, .i32⟩
  | 9 => ⟨S4096x4096, .i32⟩
  | 10 => ⟨S4096x4096, .i32⟩
  | 11 => ⟨S4096x4096, .i1⟩
  | 12 => ⟨S4096x4096x1x1, .i1⟩
  | 13 => ⟨S1x4096x4x128, .f32⟩
  | 14 => ⟨S_, .f32⟩
  | 15 => ⟨S_, .f32⟩
  | 16 => ⟨S4096x4096x4x128, .i1⟩
  | 17 => ⟨S4096x4096x4x128, .f32⟩
  | 18 => ⟨S4096x4096x4x128, .f32⟩
  | 19 => ⟨S4096x4096x4x128, .f32⟩
  | 20 => ⟨S_, .f32⟩
  | 21 => ⟨S4096x4x128, .f32⟩
  | 22 => ⟨S1x4096x4x128, .f32⟩
  | 23 => ⟨S_, .f32⟩
  | 24 => ⟨S_, .f32⟩
  | 25 => ⟨S64x4096x4x128, .i1⟩
  | 26 => ⟨S64x4096x4x128, .f32⟩
  | 27 => ⟨S64x4096x4x128, .f32⟩
  | 28 => ⟨S64x4096x4x128, .f32⟩
  | 29 => ⟨S_, .f32⟩
  | 30 => ⟨S64x4x128, .f32⟩
  | 31 => ⟨S64x1x4x128, .f32⟩
  | 32 => ⟨S1x4096x4x128, .f32⟩
  | 33 => ⟨S64x4096x4x128, .f32⟩
  | 34 => ⟨S64x4096x4x128, .f32⟩
  | 35 => ⟨S64x4096x4x128, .f32⟩
  | 36 => ⟨S_, .f32⟩
  | 37 => ⟨S_, .f32⟩
  | 38 => ⟨S64x4096x4x128, .i1⟩
  | 39 => ⟨S64x4096x4x128, .f32⟩
  | 40 => ⟨S64x4096x4x128, .f32⟩
  | 41 => ⟨S64x4096x4x128, .f32⟩
  | 42 => ⟨S_, .f32⟩
  | 43 => ⟨S_, .f32⟩
  | 44 => ⟨S64x4096x4x128, .i1⟩
  | 45 => ⟨S64x4096x4x128, .f32⟩
  | 46 => ⟨S64x4096x4x128, .f32⟩
  | 47 => ⟨S1x4096x4x256x1, .f32⟩
  | 48 => ⟨S1x4096x4x128, .f32⟩
  | 49 => ⟨S64x4096x4x128, .f32⟩
  | 50 => ⟨S64x4096x4x128, .f32⟩
  | 51 => ⟨S64x4096x4x1x128, .f32⟩
  | 52 => ⟨S64x4096x4x256x128, .f32⟩
  | 53 => ⟨S64x4096x4x256x128, .f32⟩
  | 54 => ⟨S64x4096x4x256x128, .f32⟩
  | 55 => ⟨S_, .f32⟩
  | 56 => ⟨S64x4x256x128, .f32⟩
  | 57 => ⟨S4096x512, .f32⟩
  | 58 => ⟨S4096x512, .f32⟩
  | 59 => ⟨S4096x1024, .f32⟩
  | 60 => ⟨S4096x1024, .f32⟩
  | 61 => ⟨S4096x8192, .f32⟩
  | 62 => ⟨S4096x16, .f32⟩
  | 63 => ⟨S_, .i32⟩
  | 64 => ⟨S_, .f32⟩
  | 65 => ⟨S4096x128, .f32⟩
  | 66 => ⟨S16x512, .f32⟩
  | 67 => ⟨S_, .i32⟩
  | 68 => ⟨S_, .f32⟩
  | 69 => ⟨S128x512, .f32⟩
  | 70 => ⟨S4096x1024, .f32⟩
  | 71 => ⟨S4096x8192, .bf16⟩
  | 72 => ⟨S4096x128, .bf16⟩
  | 73 => ⟨S128x512, .f32⟩
  | 74 => ⟨S1x512, .f32⟩
  | 75 => ⟨S1x256, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S4x4x256x128, .f32⟩
  | .local _ .vmem, ⟨13, _⟩ => ⟨S4x4x256x128, .f32⟩
  | .local _ .vmem, ⟨14, _⟩ => ⟨S256x1024, .f32⟩
  | .local _ .vmem, ⟨15, _⟩ => ⟨S256x1024, .f32⟩
  | .local _ .vmem, ⟨16, _⟩ => ⟨S128x512, .f32⟩
  | .local _ .vmem, ⟨17, _⟩ => ⟨S1x512, .f32⟩
  | .local _ .vmem, ⟨18, _⟩ => ⟨S1x256, .f32⟩
  | .local _ .vmem, ⟨19, _⟩ => ⟨S256x3072, .bf16⟩
  | .local _ .vmem, ⟨20, _⟩ => ⟨S256x3072, .bf16⟩
  | .local _ .vmem, ⟨21, _⟩ => ⟨S256x128, .bf16⟩
  | .local _ .vmem, ⟨22, _⟩ => ⟨S256x128, .bf16⟩
  | .local _ .vmem, ⟨23, _⟩ => ⟨S128x512, .f32⟩
  | .local _ .vmem, ⟨24, _⟩ => ⟨S1x512, .f32⟩
  | .local _ .vmem, ⟨25, _⟩ => ⟨S1x256, .f32⟩
  | .local _ .vmem, ⟨26, _⟩ => ⟨S4x256x128, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_v39 : Ref sig .tc := ⟨.hbm, 81, rfl⟩
abbrev main_cst_5 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v46 : Ref sig .tc := ⟨.hbm, 93, rfl⟩
abbrev main_v47 : Ref sig .tc := ⟨.hbm, 94, rfl⟩
abbrev main_cst_7 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_8 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_9 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_10 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_11 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_12 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_v87 : Ref sig .tc := ⟨.hbm, 147, rfl⟩
abbrev main_cst_13 : Ref sig .tc := ⟨.hbm, 148, rfl⟩
abbrev main_v88 : Ref sig .tc := ⟨.hbm, 149, rfl⟩
abbrev main_v89 : Ref sig .tc := ⟨.hbm, 150, rfl⟩
abbrev main_cst_14 : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_call6_v3 : Ref sig .tc := ⟨.hbm, 155, rfl⟩
abbrev main_v90 : Ref sig .tc := ⟨.hbm, 156, rfl⟩
abbrev main_cst_15 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_16 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_v97 : Ref sig .tc := ⟨.hbm, 168, rfl⟩
abbrev main_v98 : Ref sig .tc := ⟨.hbm, 169, rfl⟩
abbrev main_cst_17 : Ref sig .tc := ⟨.hbm, 170, rfl⟩
abbrev main_call8_v0 : Ref sig .tc := ⟨.hbm, 171, rfl⟩
abbrev main_call8_v1 : Ref sig .tc := ⟨.hbm, 172, rfl⟩
abbrev main_call8_v2 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_cst_18 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_c_19 : Ref sig .tc := ⟨.hbm, 191, rfl⟩
abbrev main_call9_v0 : Ref sig .tc := ⟨.hbm, 192, rfl⟩
abbrev main_v115 : Ref sig .tc := ⟨.hbm, 193, rfl⟩
abbrev main_v116 : Ref sig .tc := ⟨.hbm, 194, rfl⟩
abbrev main_c_20 : Ref sig .tc := ⟨.hbm, 195, rfl⟩
abbrev main_call10_v0 : Ref sig .tc := ⟨.hbm, 196, rfl⟩
abbrev main_v117 : Ref sig .tc := ⟨.hbm, 197, rfl⟩
abbrev main_v118 : Ref sig .tc := ⟨.hbm, 198, rfl⟩
abbrev main_v119_0 : Ref sig .tc := ⟨.hbm, 199, rfl⟩
abbrev main_v119_1 : Ref sig .tc := ⟨.hbm, 200, rfl⟩
abbrev main_v119_2 : Ref sig .tc := ⟨.hbm, 201, rfl⟩
abbrev main_v119_3 : Ref sig .tc := ⟨.hbm, 202, rfl⟩
abbrev main_v119_4 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GlaRefIdeal.lean ====
abbrev S4096x3072 : Shape := ⟨2, ![4096, 3072]⟩
abbrev S1x4096x512 : Shape := ⟨3, ![1, 4096, 512]⟩
abbrev S1x4096x1024 : Shape := ⟨3, ![1, 4096, 1024]⟩
abbrev S4096x2048 : Shape := ⟨2, ![4096, 2048]⟩
abbrev S1x4096x16 : Shape := ⟨3, ![1, 4096, 16]⟩
abbrev S1x16x512 : Shape := ⟨3, ![1, 16, 512]⟩
abbrev S1x512 : Shape := ⟨2, ![1, 512]⟩
abbrev S1x256 : Shape := ⟨2, ![1, 256]⟩
abbrev S4096x8192 : Shape := ⟨2, ![4096, 8192]⟩
abbrev S16x512 : Shape := ⟨2, ![16, 512]⟩
abbrev S512 : Shape := ⟨1, ![512]⟩
abbrev S1x1x512 : Shape := ⟨3, ![1, 1, 512]⟩
abbrev S_ : Shape := ⟨0, ![]⟩
abbrev S4096x4x128 : Shape := ⟨3, ![4096, 4, 128]⟩
abbrev S4096x4x256 : Shape := ⟨3, ![4096, 4, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1x1 : Shape := ⟨4, ![4096, 4096, 1, 1]⟩
abbrev S1x4096x4x128 : Shape := ⟨4, ![1, 4096, 4, 128]⟩
abbrev S4096x4096x4x128 : Shape := ⟨4, ![4096, 4096, 4, 128]⟩
abbrev S4096x1x4x128 : Shape := ⟨4, ![4096, 1, 4, 128]⟩
abbrev S4096x4096x4 : Shape := ⟨3, ![4096, 4096, 4]⟩
abbrev S4096x4096x4x1 : Shape := ⟨4, ![4096, 4096, 4, 1]⟩
abbrev S1x4096x4x256 : Shape := ⟨4, ![1, 4096, 4, 256]⟩
abbrev S4096x4096x4x256 : Shape := ⟨4, ![4096, 4096, 4, 256]⟩
abbrev S256 : Shape := ⟨1, ![256]⟩
abbrev S4096x4 : Shape := ⟨2, ![4096, 4]⟩
abbrev S4096x4x1 : Shape := ⟨3, ![4096, 4, 1]⟩
abbrev S1x1x256 : Shape := ⟨3, ![1, 1, 256]⟩
abbrev S512x16 : Shape := ⟨2, ![512, 16]⟩
abbrev S4096x512 : Shape := ⟨2, ![4096, 512]⟩
abbrev S4096x1024 : Shape := ⟨2, ![4096, 1024]⟩
abbrev S4096x16 : Shape := ⟨2, ![4096, 16]⟩
abbrev S4096x128 : Shape := ⟨2, ![4096, 128]⟩
abbrev S128x512 : Shape := ⟨2, ![128, 512]⟩

abbrev nBuf : Space → Nat
  | .hbm => 336
  | .vmem => 0
  | .smem => 0
  | _ => 0

abbrev hbmTy0_0 (i : Nat) : BufTy := match i % 128 with
  | 0 => ⟨S4096x3072, .f32⟩
  | 1 => ⟨S1x4096x512, .f32⟩
  | 2 => ⟨S1x4096x512, .f32⟩
  | 3 => ⟨S1x4096x1024, .f32⟩
  | 4 => ⟨S1x4096x1024, .f32⟩
  | 5 => ⟨S4096x2048, .f32⟩
  | 6 => ⟨S1x4096x16, .f32⟩
  | 7 => ⟨S1x16x512, .f32⟩
  | 8 => ⟨S1x512, .f32⟩
  | 9 => ⟨S1x256, .f32⟩
  | 10 => ⟨S1x4096x1024, .f32⟩
  | 11 => ⟨S4096x8192, .bf16⟩
  | 12 => ⟨S16x512, .f32⟩
  | 13 => ⟨S1x4096x512, .f32⟩
  | 14 => ⟨S512, .f32⟩
  | 15 => ⟨S1x1x512, .f32⟩
  | 16 => ⟨S1x4096x512, .f32⟩
  | 17 => ⟨S1x4096x512, .f32⟩
  | 18 => ⟨S1x4096x512, .f32⟩
  | 19 => ⟨S_, .f32⟩
  | 20 => ⟨S1x4096x512, .f32⟩
  | 21 => ⟨S1x4096x512, .f32⟩
  | 22 => ⟨S1x4096x512, .f32⟩
  | 23 => ⟨S1x4096x512, .f32⟩
  | 24 => ⟨S1x4096x512, .i1⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S1x4096x512, .f32⟩
  | 32 => ⟨S1x4096x512, .f32⟩
  | 33 => ⟨S_, .f32⟩
  | 34 => ⟨S1x4096x512, .f32⟩
  | 35 => ⟨S1x4096x512, .i1⟩
  | 36 => ⟨S_, .f32⟩
  | 37 => ⟨S1x4096x512, .f32⟩
  | 38 => ⟨S1x4096x512, .f32⟩
  | 39 => ⟨S_, .f32⟩
  | 40 => ⟨S1x4096x512, .f32⟩
  | 41 => ⟨S1x4096x512, .i1⟩
  | 42 => ⟨S_, .f32⟩
  | 43 => ⟨S1x4096x512, .f32⟩
  | 44 => ⟨S1x4096x512, .f32⟩
  | 45 => ⟨S1x4096x512, .f32⟩
  | 46 => ⟨S1x4096x512, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S1x4096x512, .f32⟩
  | 55 => ⟨S1x4096x512, .i1⟩
  | 56 => ⟨S_, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S_, .f32⟩
  | 63 => ⟨S1x4096x512, .f32⟩
  | 64 => ⟨S1x4096x512, .f32⟩
  | 65 => ⟨S1x4096x512, .f32⟩
  | 66 => ⟨S_, .f32⟩
  | 67 => ⟨S1x4096x512, .f32⟩
  | 68 => ⟨S1x4096x512, .f32⟩
  | 69 => ⟨S4096x4x128, .f32⟩
  | 70 => ⟨S_, .f32⟩
  | 71 => ⟨S4096x4x128, .f32⟩
  | 72 => ⟨S4096x4x128, .f32⟩
  | 73 => ⟨S4096x4x128, .f32⟩
  | 74 => ⟨S4096x4x256, .f32⟩
  | 75 => ⟨S4096x4x128, .f32⟩
  | 76 => ⟨S4096, .i32⟩
  | 77 => ⟨S_, .i32⟩
  | 78 => ⟨S4096, .i32⟩
  | 79 => ⟨S4096, .i32⟩
  | 80 => ⟨S4096, .i32⟩
  | 81 => ⟨S1x4096, .i32⟩
  | 82 => ⟨S4096x1, .i32⟩
  | 83 => ⟨S4096x4096, .i32⟩
  | 84 => ⟨S4096x4096, .i32⟩
  | 85 => ⟨S4096x4096, .i1⟩
  | 86 => ⟨S4096x4096x1x1, .i1⟩
  | 87 => ⟨S4096, .i32⟩
  | 88 => ⟨S_, .i32⟩
  | 89 => ⟨S4096, .i32⟩
  | 90 => ⟨S4096, .i32⟩
  | 91 => ⟨S4096, .i32⟩
  | 92 => ⟨S1x4096, .i32⟩
  | 93 => ⟨S4096x1, .i32⟩
  | 94 => ⟨S4096x4096, .i32⟩
  | 95 => ⟨S4096x4096, .i32⟩
  | 96 => ⟨S4096x4096, .i1⟩
  | 97 => ⟨S4096x4096x1x1, .i1⟩
  | 98 => ⟨S1x4096x4x128, .f32⟩
  | 99 => ⟨S_, .f32⟩
  | 100 => ⟨S_, .f32⟩
  | 101 => ⟨S4096x4096x4x128, .i1⟩
  | 102 => ⟨S4096x4096x4x128, .f32⟩
  | 103 => ⟨S4096x4096x4x128, .f32⟩
  | 104 => ⟨S4096x4096x4x128, .f32⟩
  | 105 => ⟨S_, .f32⟩
  | 106 => ⟨S4096x4096x4x128, .f32⟩
  | 107 => ⟨S_, .f32⟩
  | 108 => ⟨S4096x4x128, .f32⟩
  | 109 => ⟨S1x4096x4x128, .f32⟩
  | 110 => ⟨S_, .f32⟩
  | 111 => ⟨S_, .f32⟩
  | 112 => ⟨S4096x4096x4x128, .i1⟩
  | 113 => ⟨S4096x4096x4x128, .f32⟩
  | 114 => ⟨S4096x4096x4x128, .f32⟩
  | 115 => ⟨S4096x4096x4x128, .f32⟩
  | 116 => ⟨S_, .f32⟩
  | 117 => ⟨S4096x4096x4x128, .f32⟩
  | 118 => ⟨S_, .f32⟩
  | 119 => ⟨S4096x4x128, .f32⟩
  | 120 => ⟨S4096x1x4x128, .f32⟩
  | 121 => ⟨S1x4096x4x128, .f32⟩
  | 122 => ⟨S4096x4096x4x128, .f32⟩
  | 123 => ⟨S4096x4096x4x128, .f32⟩
  | 124 => ⟨S4096x4096x4x128, .f32⟩
  | 125 => ⟨S_, .f32⟩
  | 126 => ⟨S_, .f32⟩
  | 127 => ⟨S4096x4096x4x128, .i1⟩
  | _ => ⟨S4096x3072, .f32⟩

abbrev hbmTy0_1 (i : Nat) : BufTy := match i % 128 with
  | 0 => ⟨S4096x4096x4x128, .f32⟩
  | 1 => ⟨S4096x4096x4x128, .f32⟩
  | 2 => ⟨S_, .f32⟩
  | 3 => ⟨S4096x4096x4x128, .f32⟩
  | 4 => ⟨S4096x4096x4x128, .f32⟩
  | 5 => ⟨S_, .f32⟩
  | 6 => ⟨S_, .f32⟩
  | 7 => ⟨S4096x4096x4x128, .i1⟩
  | 8 => ⟨S4096x4096x4x128, .f32⟩
  | 9 => ⟨S4096x4096x4x128, .f32⟩
  | 10 => ⟨S_, .f32⟩
  | 11 => ⟨S4096x4096x4x128, .f32⟩
  | 12 => ⟨S4096x1x4x128, .f32⟩
  | 13 => ⟨S1x4096x4x128, .f32⟩
  | 14 => ⟨S4096x4096x4x128, .f32⟩
  | 15 => ⟨S4096x4096x4x128, .f32⟩
  | 16 => ⟨S4096x4096x4x128, .f32⟩
  | 17 => ⟨S4096x4096x4x128, .f32⟩
  | 18 => ⟨S_, .f32⟩
  | 19 => ⟨S4096x4096x4, .f32⟩
  | 20 => ⟨S4096x4096x4x1, .f32⟩
  | 21 => ⟨S1x4096x4x256, .f32⟩
  | 22 => ⟨S4096x4096x4x256, .f32⟩
  | 23 => ⟨S4096x4096x4x256, .f32⟩
  | 24 => ⟨S4096x4096x4x256, .f32⟩
  | 25 => ⟨S_, .f32⟩
  | 26 => ⟨S4096x4x256, .f32⟩
  | 27 => ⟨S256, .f32⟩
  | 28 => ⟨S4096x4x256, .f32⟩
  | 29 => ⟨S_, .f32⟩
  | 30 => ⟨S4096x4, .f32⟩
  | 31 => ⟨S4096x4x1, .f32⟩
  | 32 => ⟨S_, .f32⟩
  | 33 => ⟨S4096x4x1, .f32⟩
  | 34 => ⟨S4096x4x1, .f32⟩
  | 35 => ⟨S_, .f32⟩
  | 36 => ⟨S4096x4x1, .f32⟩
  | 37 => ⟨S4096x4x1, .f32⟩
  | 38 => ⟨S4096x4x1, .f32⟩
  | 39 => ⟨S4096x4x1, .f32⟩
  | 40 => ⟨S_, .f32⟩
  | 41 => ⟨S4096x4x1, .f32⟩
  | 42 => ⟨S4096x4x1, .f32⟩
  | 43 => ⟨S4096x4x256, .f32⟩
  | 44 => ⟨S4096x4x256, .f32⟩
  | 45 => ⟨S1x1x256, .f32⟩
  | 46 => ⟨S4096x4x256, .f32⟩
  | 47 => ⟨S4096x4x256, .f32⟩
  | 48 => ⟨S1x4096x1024, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S4096x4x256, .f32⟩
  | 70 => ⟨S4096x4x256, .f32⟩
  | 71 => ⟨S_, .f32⟩
  | 72 => ⟨S256, .f32⟩
  | 73 => ⟨S1x1x256, .f32⟩
  | 74 => ⟨S4096x4x256, .f32⟩
  | 75 => ⟨S4096x4x256, .f32⟩
  | 76 => ⟨S_, .f32⟩
  | 77 => ⟨S256, .f32⟩
  | 78 => ⟨S4096x4x256, .f32⟩
  | 79 => ⟨S_, .f32⟩
  | 80 => ⟨S4096x4, .f32⟩
  | 81 => ⟨S4096x4x1, .f32⟩
  | 82 => ⟨S4096x4x256, .f32⟩
  | 83 => ⟨S4096x4x256, .f32⟩
  | 84 => ⟨S4096x4x1, .f32⟩
  | 85 => ⟨S_, .f32⟩
  | 86 => ⟨S4096x4x1, .f32⟩
  | 87 => ⟨S4096x4x1, .f32⟩
  | 88 => ⟨S_, .f32⟩
  | 89 => ⟨S4096x4, .f32⟩
  | 90 => ⟨S4096x4x256, .f32⟩
  | 91 => ⟨S4096x4x256, .f32⟩
  | 92 => ⟨S4096x4x256, .f32⟩
  | 93 => ⟨S4096x4x256, .f32⟩
  | 94 => ⟨S4096x4x256, .f32⟩
  | 95 => ⟨S1x256, .f32⟩
  | 96 => ⟨S4096x4096x4x256, .f32⟩
  | 97 => ⟨S4096x4096x4x256, .f32⟩
  | 98 => ⟨S4096x4096x4x256, .f32⟩
  | 99 => ⟨S_, .f32⟩
  | 100 => ⟨S4096x4x256, .f32⟩
  | 101 => ⟨S1x4096x4x256, .f32⟩
  | 102 => ⟨S4096x4096x4x256, .f32⟩
  | 103 => ⟨S4096x4096x4x256, .f32⟩
  | 104 => ⟨S_, .f32⟩
  | 105 => ⟨S4096x4096x4, .f32⟩
  | 106 => ⟨S4096x4096x4x1, .f32⟩
  | 107 => ⟨S_, .f32⟩
  | 108 => ⟨S4096x4x256, .f32⟩
  | 109 => ⟨S_, .f32⟩
  | 110 => ⟨S4096x4096x4, .f32⟩
  | 111 => ⟨S4096x4096x4x128, .f32⟩
  | 112 => ⟨S4096x4096x4x128, .f32⟩
  | 113 => ⟨S4096x4096x4x128, .f32⟩
  | 114 => ⟨S4096x4096x4x128, .f32⟩
  | 115 => ⟨S_, .f32⟩
  | 116 => ⟨S4096x4x128, .f32⟩
  | 117 => ⟨S4096x1x4x128, .f32⟩
  | 118 => ⟨S4096x4096x4x128, .f32⟩
  | 119 => ⟨S4096x4096x4x128, .f32⟩
  | 120 => ⟨S4096x4096x4x128, .f32⟩
  | 121 => ⟨S_, .f32⟩
  | 122 => ⟨S4096x4x128, .f32⟩
  | 123 => ⟨S1x4096x4x128, .f32⟩
  | 124 => ⟨S_, .f32⟩
  | 125 => ⟨S4096x4x128, .f32⟩
  | 126 => ⟨S_, .f32⟩
  | 127 => ⟨S4096x4x128, .f32⟩
  | _ => ⟨S4096x3072, .f32⟩

abbrev hbmTy0_2 (i : Nat) : BufTy := match i % 128 with
  | 0 => ⟨S_, .f32⟩
  | 1 => ⟨S4096x4096x4x128, .f32⟩
  | 2 => ⟨S4096x4096x4x128, .f32⟩
  | 3 => ⟨S4096x4096x4x128, .f32⟩
  | 4 => ⟨S_, .f32⟩
  | 5 => ⟨S4096x4096x4x128, .f32⟩
  | 6 => ⟨S4096x4096x4x128, .f32⟩
  | 7 => ⟨S_, .f32⟩
  | 8 => ⟨S4096x4x128, .f32⟩
  | 9 => ⟨S4096x1x4x128, .f32⟩
  | 10 => ⟨S4096x4096x4x128, .f32⟩
  | 11 => ⟨S_, .f32⟩
  | 12 => ⟨S4096x4x128, .f32⟩
  | 13 => ⟨S1x4096x4x128, .f32⟩
  | 14 => ⟨S_, .f32⟩
  | 15 => ⟨S4096x4x128, .f32⟩
  | 16 => ⟨S_, .f32⟩
  | 17 => ⟨S4096x4x128, .f32⟩
  | 18 => ⟨S4096x4096x4x128, .f32⟩
  | 19 => ⟨S_, .f32⟩
  | 20 => ⟨S4096x4096x4x128, .f32⟩
  | 21 => ⟨S4096x4096x4x128, .f32⟩
  | 22 => ⟨S_, .f32⟩
  | 23 => ⟨S4096x4x128, .f32⟩
  | 24 => ⟨S1x4096x4x128, .f32⟩
  | 25 => ⟨S_, .f32⟩
  | 26 => ⟨S4096x4x128, .f32⟩
  | 27 => ⟨S4096x4096x4x128, .f32⟩
  | 28 => ⟨S_, .f32⟩
  | 29 => ⟨S4096x4096x4x128, .f32⟩
  | 30 => ⟨S4096x4096x4x128, .f32⟩
  | 31 => ⟨S_, .f32⟩
  | 32 => ⟨S4096x4x128, .f32⟩
  | 33 => ⟨S1x4096x4x128, .f32⟩
  | 34 => ⟨S_, .f32⟩
  | 35 => ⟨S4096x4x128, .f32⟩
  | 36 => ⟨S4096x4x128, .f32⟩
  | 37 => ⟨S1x4096x512, .f32⟩
  | 38 => ⟨S1x4096x1024, .f32⟩
  | 39 => ⟨S1x4096x512, .f32⟩
  | 40 => ⟨S_, .f32⟩
  | 41 => ⟨S4096x4x128, .f32⟩
  | 42 => ⟨S4096x4x128, .f32⟩
  | 43 => ⟨S1x4096x512, .f32⟩
  | 44 => ⟨S_, .f32⟩
  | 45 => ⟨S1x4096x512, .f32⟩
  | 46 => ⟨S1x4096x512, .f32⟩
  | 47 => ⟨S1x4096x512, .f32⟩
  | 48 => ⟨S1x4096x512, .f32⟩
  | 49 => ⟨S1x4096x512, .f32⟩
  | 50 => ⟨S_, .f32⟩
  | 51 => ⟨S1x512, .f32⟩
  | 52 => ⟨S1x1x512, .f32⟩
  | 53 => ⟨S_, .f32⟩
  | 54 => ⟨S512, .f32⟩
  | 55 => ⟨S1x512, .f32⟩
  | 56 => ⟨S512x16, .f32⟩
  | 57 => ⟨S16x512, .f32⟩
  | 58 => ⟨S1x4096x16, .f32⟩
  | 59 => ⟨S1x16x512, .f32⟩
  | 60 => ⟨S4096x512, .f32⟩
  | 61 => ⟨S4096x512, .bf16⟩
  | 62 => ⟨S4096x512, .f32⟩
  | 63 => ⟨S4096x512, .bf16⟩
  | 64 => ⟨S4096x1024, .f32⟩
  | 65 => ⟨S4096x1024, .bf16⟩
  | 66 => ⟨S4096x1024, .f32⟩
  | 67 => ⟨S4096x1024, .bf16⟩
  | 68 => ⟨S4096x3072, .bf16⟩
  | 69 => ⟨S4096x2048, .bf16⟩
  | 70 => ⟨S4096x8192, .bf16⟩
  | 71 => ⟨S4096x16, .f32⟩
  | 72 => ⟨S_, .i32⟩
  | 73 => ⟨S_, .f32⟩
  | 74 => ⟨S4096x128, .f32⟩
  | 75 => ⟨S4096x128, .bf16⟩
  | 76 => ⟨S16x512, .f32⟩
  | 77 => ⟨S_, .i32⟩
  | 78 => ⟨S_, .f32⟩
  | 79 => ⟨S128x512, .f32⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v6_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v6_2 : Ref sig .tc := ⟨.hbm, 64, rfl⟩
abbrev main_v6_0 : Ref sig .tc := ⟨.hbm, 65, rfl⟩
abbrev main_cst : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_cst_0 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_c : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_c_1 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst_2 : Ref sig .tc := ⟨.hbm, 99, rfl⟩
abbrev main_call1_v0 : Ref sig .tc := ⟨.hbm, 100, rfl⟩
abbrev main_v36_1 : Ref sig .tc := ⟨.hbm, 101, rfl⟩
abbrev main_call1_v2 : Ref sig .tc := ⟨.hbm, 102, rfl⟩
abbrev main_call1_v3 : Ref sig .tc := ⟨.hbm, 103, rfl⟩
abbrev main_v36_0 : Ref sig .tc := ⟨.hbm, 104, rfl⟩
abbrev main_call1_cst : Ref sig .tc := ⟨.hbm, 105, rfl⟩
abbrev main_v36_2 : Ref sig .tc := ⟨.hbm, 106, rfl⟩
abbrev main_cst_3 : Ref sig .tc := ⟨.hbm, 107, rfl⟩
abbrev main_v37 : Ref sig .tc := ⟨.hbm, 108, rfl⟩
abbrev main_v38 : Ref sig .tc := ⟨.hbm, 109, rfl⟩
abbrev main_cst_4 : Ref sig .tc := ⟨.hbm, 110, rfl⟩
abbrev main_call2_v0 : Ref sig .tc := ⟨.hbm, 111, rfl⟩
abbrev main_v39_1 : Ref sig .tc := ⟨.hbm, 112, rfl⟩
abbrev main_call2_v2 : Ref sig .tc := ⟨.hbm, 113, rfl⟩
abbrev main_call2_v3 : Ref sig .tc := ⟨.hbm, 114, rfl⟩
abbrev main_v39_0 : Ref sig .tc := ⟨.hbm, 115, rfl⟩
abbrev main_call2_cst : Ref sig .tc := ⟨.hbm, 116, rfl⟩
abbrev main_v39_2 : Ref sig .tc := ⟨.hbm, 117, rfl⟩
abbrev main_cst_5 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_cst_6 : Ref sig .tc := ⟨.hbm, 125, rfl⟩
abbrev main_call3_v0 : Ref sig .tc := ⟨.hbm, 126, rfl⟩
abbrev main_v46_1 : Ref sig .tc := ⟨.hbm, 127, rfl⟩
abbrev main_call3_v2 : Ref sig .tc := ⟨.hbm, 128, rfl⟩
abbrev main_v46_0 : Ref sig .tc := ⟨.hbm, 129, rfl⟩
abbrev main_call3_cst : Ref sig .tc := ⟨.hbm, 130, rfl⟩
abbrev main_v46_2 : Ref sig .tc := ⟨.hbm, 131, rfl⟩
abbrev main_v47 : Ref sig .tc := ⟨.hbm, 132, rfl⟩
abbrev main_cst_7 : Ref sig .tc := ⟨.hbm, 133, rfl⟩
abbrev main_call4_v0 : Ref sig .tc := ⟨.hbm, 134, rfl⟩
abbrev main_v48_1 : Ref sig .tc := ⟨.hbm, 135, rfl⟩
abbrev main_call4_v2 : Ref sig .tc := ⟨.hbm, 136, rfl⟩
abbrev main_v48_0 : Ref sig .tc := ⟨.hbm, 137, rfl⟩
abbrev main_call4_cst : Ref sig .tc := ⟨.hbm, 138, rfl⟩
abbrev main_v48_2 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_cst_8 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_9 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_cst_10 : Ref sig .tc := ⟨.hbm, 157, rfl⟩
abbrev main_v64 : Ref sig .tc := ⟨.hbm, 158, rfl⟩
abbrev main_v65 : Ref sig .tc := ⟨.hbm, 159, rfl⟩
abbrev main_cst_11 : Ref sig .tc := ⟨.hbm, 160, rfl⟩
abbrev main_v66 : Ref sig .tc := ⟨.hbm, 161, rfl⟩
abbrev main_v67 : Ref sig .tc := ⟨.hbm, 162, rfl⟩
abbrev main_cst_12 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_cst_13 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_call5_v0 : Ref sig .tc := ⟨.hbm, 177, rfl⟩
abbrev main_call5_v1 : Ref sig .tc := ⟨.hbm, 178, rfl⟩
abbrev main_call5_cst : Ref sig .tc := ⟨.hbm, 179, rfl⟩
abbrev main_call5_v2 : Ref sig .tc := ⟨.hbm, 180, rfl⟩
abbrev main_call5_v3 : Ref sig .tc := ⟨.hbm, 181, rfl⟩
abbrev main_call5_cst_0 : Ref sig .tc := ⟨.hbm, 182, rfl⟩
abbrev main_call5_v4 : Ref sig .tc := ⟨.hbm, 183, rfl⟩
abbrev main_v80_2 : Ref sig .tc := ⟨.hbm, 184, rfl⟩
abbrev main_call5_cst_1 : Ref sig .tc := ⟨.hbm, 185, rfl⟩
abbrev main_call5_v6 : Ref sig .tc := ⟨.hbm, 186, rfl⟩
abbrev main_call5_v7 : Ref sig .tc := ⟨.hbm, 187, rfl⟩
abbrev main_v80_1 : Ref sig .tc := ⟨.hbm, 188, rfl⟩
abbrev main_v80_0 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_cst_14 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_cst_15 : Ref sig .tc := ⟨.hbm, 204, rfl⟩
abbrev main_v91 : Ref sig .tc := ⟨.hbm, 205, rfl⟩
abbrev main_v92 : Ref sig .tc := ⟨.hbm, 206, rfl⟩
abbrev main_cst_16 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_cst_17 : Ref sig .tc := ⟨.hbm, 213, rfl⟩
abbrev main_v98 : Ref sig .tc := ⟨.hbm, 214, rfl⟩
abbrev main_v99 : Ref sig .tc := ⟨.hbm, 215, rfl⟩
abbrev main_cst_18 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_cst_19 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_cst_20 : Ref sig .tc := ⟨.hbm, 232, rfl⟩
abbrev main_v114 : Ref sig .tc := ⟨.hbm, 233, rfl⟩
abbrev main_v115 : Ref sig .tc := ⟨.hbm, 234, rfl⟩
abbrev main_cst_21 : Ref sig .tc := ⟨.hbm, 235, rfl⟩
abbrev main_v116 : Ref sig .tc := ⟨.hbm, 236, rfl⟩
abbrev main_cst_22 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_cst_23 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_cst_24 : Ref sig .tc := ⟨.hbm, 249, rfl⟩
abbrev main_v127 : Ref sig .tc := ⟨.hbm, 250, rfl⟩
abbrev main_v128 : Ref sig .tc := ⟨.hbm, 251, rfl⟩
abbrev main_cst_25 : Ref sig .tc := ⟨.hbm, 252, rfl⟩
abbrev main_v129 : Ref sig .tc := ⟨.hbm, 253, rfl⟩
abbrev main_cst_26 : Ref sig .tc := ⟨.hbm, 254, rfl⟩
abbrev main_v130 : Ref sig .tc := ⟨.hbm, 255, rfl⟩
abbrev main_call7_cst : Ref sig .tc := ⟨.hbm, 256, rfl⟩
abbrev main_call7_v0 : Ref sig .tc := ⟨.hbm, 257, rfl⟩
abbrev main_v131 : Ref sig .tc := ⟨.hbm, 258, rfl⟩
abbrev main_v132 : Ref sig .tc := ⟨.hbm, 259, rfl⟩
abbrev main_call8_cst : Ref sig .tc := ⟨.hbm, 260, rfl⟩
abbrev main_call8_v0 : Ref sig .tc := ⟨.hbm, 261, rfl⟩
abbrev main_v133 : Ref sig .tc := ⟨.hbm, 262, rfl⟩
abbrev main_cst_27 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_cst_28 : Ref sig .tc := ⟨.hbm, 267, rfl⟩
abbrev main_v137 : Ref sig .tc := ⟨.hbm, 268, rfl⟩
abbrev main_v138 : Ref sig .tc := ⟨.hbm, 269, rfl⟩
abbrev main_cst_29 : Ref sig .tc := ⟨.hbm, 270, rfl⟩
abbrev main_v139 : Ref sig .tc := ⟨.hbm, 271, rfl⟩
abbrev main_cst_30 : Ref sig .tc := ⟨.hbm, 272, rfl⟩
abbrev main_v140 : Ref sig .tc := ⟨.hbm, 273, rfl⟩
abbrev main_v141 : Ref sig .tc := ⟨.hbm, 274, rfl⟩
abbrev main_call9_cst : Ref sig .tc := ⟨.hbm, 275, rfl⟩
abbrev main_call9_v0 : Ref sig .tc := ⟨.hbm, 276, rfl⟩
abbrev main_call9_v1 : Ref sig .tc := ⟨.hbm, 277, rfl⟩
abbrev main_call9_cst_0 : Ref sig .tc := ⟨.hbm, 278, rfl⟩
abbrev main_call9_v2 : Ref sig .tc := ⟨.hbm, 279, rfl⟩
abbrev main_v142 : Ref sig .tc := ⟨.hbm, 280, rfl⟩
abbrev main_cst_31 : Ref sig .tc := ⟨.hbm, 281, rfl⟩
abbrev main_v143 : Ref sig .tc := ⟨.hbm, 282, rfl⟩
abbrev main_v144 : Ref sig .tc := ⟨.hbm, 283, rfl⟩
abbrev main_call10_cst : Ref sig .tc := ⟨.hbm, 284, rfl⟩
abbrev main_call10_v0 : Ref sig .tc := ⟨.hbm, 285, rfl⟩
abbrev main_call10_v1 : Ref sig .tc := ⟨.hbm, 286, rfl⟩
abbrev main_call10_cst_0 : Ref sig .tc := ⟨.hbm, 287, rfl⟩
abbrev main_call10_v2 : Ref sig .tc := ⟨.hbm, 288, rfl⟩
abbrev main_v145 : Ref sig .tc := ⟨.hbm, 289, rfl⟩
abbrev main_cst_32 : Ref sig .tc := ⟨.hbm, 290, rfl⟩
abbrev main_v146 : Ref sig .tc := ⟨.hbm, 291, rfl⟩
abbrev main_v147 : Ref sig .tc := ⟨.hbm, 292, rfl⟩
abbrev main_v148 : Ref sig .tc := ⟨.hbm, 293, rfl⟩
abbrev main_v149 : Ref sig .tc := ⟨.hbm, 294, rfl⟩
abbrev main_v150 : Ref sig .tc := ⟨.hbm, 295, rfl⟩
abbrev main_cst_33 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_cst_34 : Ref sig .tc := ⟨.hbm, 300, rfl⟩
abbrev main_v154 : Ref sig .tc := ⟨.hbm, 301, rfl⟩
abbrev main_v155 : Ref sig .tc := ⟨.hbm, 302, rfl⟩
abbrev main_call11_v0 : Ref sig .tc := ⟨.hbm, 303, rfl⟩
abbrev main_call11_v1 : Ref sig .tc := ⟨.hbm, 304, rfl⟩
abbrev main_v156 : Ref sig .tc := ⟨.hbm, 305, rfl⟩
abbrev main_cst_35 : Ref sig .tc := ⟨.hbm, 306, rfl⟩
abbrev main_v157 : Ref sig .tc := ⟨.hbm, 307, rfl⟩
abbrev main_v158 : Ref sig .tc := ⟨.hbm, 308, rfl⟩
abbrev main_cst_36 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_v162 : Ref sig .tc := ⟨.hbm, 313, rfl⟩
abbrev main_v163 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_v167 : Ref sig .tc := ⟨.hbm, 318, rfl⟩
abbrev main_v168 : Ref sig .tc := ⟨.hbm, 319, rfl⟩
abbrev main_v169 : Ref sig .tc := ⟨.hbm, 320, rfl⟩
abbrev main_v170 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_c_37 : Ref sig .tc := ⟨.hbm, 328, rfl⟩
abbrev main_call12_v0 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_c_38 : Ref sig .tc := ⟨.hbm, 333, rfl⟩
abbrev main_call13_v0 : Ref sig .tc := ⟨.hbm, 334, rfl⟩
abbrev main_v180 : Ref sig .tc := ⟨.hbm, 335, rfl⟩

abbrev nD : Nat := 1
abbrev τ : Topo := Topo.v7x

variable {F : FTy → Type} [FloatOps F]
-- ==== Dx.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x4096x6144 : Shape := ⟨3, ![1, 4096, 6144]⟩
abbrev S1x4096x16 : Shape := ⟨3, ![1, 4096, 16]⟩
abbrev S1x4096x2048 : Shape := ⟨3, ![1, 4096, 2048]⟩
abbrev S1024x8208 : Shape := ⟨2, ![1024, 8208]⟩
abbrev S8208x1024 : Shape := ⟨2, ![8208, 1024]⟩
abbrev S4096x6144 : Shape := ⟨2, ![4096, 6144]⟩
abbrev S4096x2048 : Shape := ⟨2, ![4096, 2048]⟩
abbrev S4096x8192 : Shape := ⟨2, ![4096, 8192]⟩
abbrev S4096x16 : Shape := ⟨2, ![4096, 16]⟩
abbrev S_ : Shape := ⟨0, ![]⟩
abbrev S4096x128 : Shape := ⟨2, ![4096, 128]⟩
abbrev S4096x1024 : Shape := ⟨2, ![4096, 1024]⟩
abbrev S256x1024 : Shape := ⟨2, ![256, 1024]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S256x6144 : Shape := ⟨2, ![256, 6144]⟩
abbrev S6144x1024 : Shape := ⟨2, ![6144, 1024]⟩
abbrev S256x2048 : Shape := ⟨2, ![256, 2048]⟩
abbrev S2048x1024 : Shape := ⟨2, ![2048, 1024]⟩
abbrev S128x1024 : Shape := ⟨2, ![128, 1024]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x8208, .f32⟩
  | .hbm, ⟨3, _⟩ => ⟨S1x4096x1024, .f32⟩
  | .hbm, ⟨4, _⟩ => ⟨S1x4096x6144, .f32⟩
  | .hbm, ⟨5, _⟩ => ⟨S1x4096x16, .f32⟩
  | .hbm, ⟨6, _⟩ => ⟨S1x4096x2048, .f32⟩
  | .hbm, ⟨7, _⟩ => ⟨S1024x8208, .f32⟩
  | .hbm, ⟨8, _⟩ => ⟨S8208x1024, .f32⟩
  | .hbm, ⟨9, _⟩ => ⟨S8208x1024, .bf16⟩
  | .hbm, ⟨10, _⟩ => ⟨S4096x6144, .f32⟩
  | .hbm, ⟨11, _⟩ => ⟨S4096x2048, .f32⟩
  | .hbm, ⟨12, _⟩ => ⟨S4096x8192, .f32⟩
  | .hbm, ⟨13, _⟩ => ⟨S4096x8192, .bf16⟩
  | .hbm, ⟨14, _⟩ => ⟨S4096x16, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x8192, .bf16⟩
  | .local _ .vmem, ⟨5, _⟩ => ⟨S256x8192, .bf16⟩
  | .local _ .vmem, ⟨6, _⟩ => ⟨S256x128, .bf16⟩
  | .local _ .vmem, ⟨7, _⟩ => ⟨S256x128, .bf16⟩
  | .local _ .vmem, ⟨8, _⟩ => ⟨S1x1024, .f32⟩
  | .local _ .vmem, ⟨9, _⟩ => ⟨S8208x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8208x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DxRefIdeal.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x4096x6144 : Shape := ⟨3, ![1, 4096, 6144]⟩
abbrev S1x4096x16 : Shape := ⟨3, ![1, 4096, 16]⟩
abbrev S1x4096x2048 : Shape := ⟨3, ![1, 4096, 2048]⟩
abbrev S1x4096x8208 : Shape := ⟨3, ![1, 4096, 8208]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x8208 : Shape := ⟨2, ![1024, 8208]⟩
abbrev S4096 : Shape := ⟨1, ![4096]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x8208, .f32⟩
  | .hbm, ⟨3, _⟩ => ⟨S1x4096x1024, .f32⟩
  | .hbm, ⟨4, _⟩ => ⟨S1x4096x6144, .f32⟩
  | .hbm, ⟨5, _⟩ => ⟨S1x4096x16, .f32⟩
  | .hbm, ⟨6, _⟩ => ⟨S1x4096x2048, .f32⟩
  | .hbm, ⟨7, _⟩ => ⟨S1x4096x8208, .f32⟩
  | .hbm, ⟨8, _⟩ => ⟨S1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1024x8208, .f32⟩
  | .hbm, ⟨30, _⟩ => ⟨S1x4096x8208, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1024, .f32⟩
  | .hbm, ⟨40, _⟩ => ⟨S1x4096x1024, .f32⟩
  | .hbm, ⟨41, _⟩ => ⟨S_, .f32⟩
  | .hbm, ⟨42, _⟩ => ⟨S1x4096, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x1024, .f32⟩
  | .hbm, ⟨60, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Merge.lean ====
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S4096x6144 : Shape := ⟨2, ![4096, 6144]⟩
abbrev S4096x2048 : Shape := ⟨2, ![4096, 2048]⟩
abbrev S4096x8192 : Shape := ⟨2, ![4096, 8192]⟩
abbrev S4096x1024 : Shape := ⟨2, ![4096, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 36
  | .vmem => 27
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x4096x1024, .f32⟩
  | .hbm, ⟨3, _⟩ => ⟨S1x4096x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024, .f32⟩
  | .hbm, ⟨8, _⟩ => ⟨S1x4096x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S_, .f32⟩
  | .hbm, ⟨16, _⟩ => ⟨S4096x6144, .f32⟩
  | .hbm, ⟨17, _⟩ => ⟨S4096x2048, .f32⟩
  | .hbm, ⟨18, _⟩ => ⟨S4096x8192, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S4096x8192, .bf16⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1x1024, .f32⟩
  | .hbm, ⟨34, _⟩ => ⟨S1x1024, .f32⟩
  | .hbm, ⟨35, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | .local _ .vmem, ⟨26, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeRefIdeal.lean ====
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x2048 : Shape := ⟨2, ![4096, 2048]⟩
abbrev S4096x1024 : Shape := ⟨2, ![4096, 1024]⟩

abbrev nBuf : Space → Nat
  | .hbm => 137
  | .vmem => 0
  | .smem => 0
  | _ => 0

abbrev hbmTy0_0 (i : Nat) : BufTy := match i % 128 with
  | 0 => ⟨S1x4096x1024, .f32⟩
  | 1 => ⟨S1x4096x2048, .f32⟩
  | 2 => ⟨S1x4096x1024, .f32⟩
  | 3 => ⟨S1x4096x1024, .f32⟩
  | 4 => ⟨S1x1024x1024, .f32⟩
  | 5 => ⟨S1x1024x1024, .f32⟩
  | 6 => ⟨S1x1024x1024, .f32⟩
  | 7 => ⟨S1024, .f32⟩
  | 8 => ⟨S1x4096x1024, .f32⟩
  | 9 => ⟨S1x4096x2048, .f32⟩
  | 10 => ⟨S1x4096x2048, .f32⟩
  | 11 => ⟨S_, .f32⟩
  | 12 => ⟨S1x4096x2048, .f32⟩
  | 13 => ⟨S1x4096x2048, .f32⟩
  | 14 => ⟨S_, .f32⟩
  | 15 => ⟨S1x4096x2048, .f32⟩
  | 16 => ⟨S1x4096x2048, .f32⟩
  | 17 => ⟨S_, .f32⟩
  | 18 => ⟨S1x4096x2048, .f32⟩
  | 19 => ⟨S1x4096x2048, .f32⟩
  | 20 => ⟨S1x4096x2048, .f32⟩
  | 21 => ⟨S1x4096x1024, .f32⟩
  | 22 => ⟨S1x4096x1024, .f32⟩
  | 23 => ⟨S1024x1024, .f32⟩
  | 24 => ⟨S1x4096x1024, .f32⟩
  | 25 => ⟨S1x4096x1024, .f32⟩
  | 26 => ⟨S1024x1024, .f32⟩
  | 27 => ⟨S1x4096x1024, .f32⟩
  | 28 => ⟨S1x4096x1024, .f32⟩
  | 29 => ⟨S1x4096x1024, .f32⟩
  | 30 => ⟨S1024x1024, .f32⟩
  | 31 => ⟨S1x4096x1024, .f32⟩
  | 32 => ⟨S1x4096x1024, .f32⟩
  | 33 => ⟨S1x4096x1024, .f32⟩
  | 34 => ⟨S_, .f32⟩
  | 35 => ⟨S1x4096, .f32⟩
  | 36 => ⟨S1x4096x1, .f32⟩
  | 37 => ⟨S_, .f32⟩
  | 38 => ⟨S1x4096x1, .f32⟩
  | 39 => ⟨S1x4096x1, .f32⟩
  | 40 => ⟨S_, .f32⟩
  | 41 => ⟨S1x4096x1, .f32⟩
  | 42 => ⟨S1x4096x1, .f32⟩
  | 43 => ⟨S1x4096x1, .f32⟩
  | 44 => ⟨S1x4096x1, .f32⟩
  | 45 => ⟨S_, .f32⟩
  | 46 => ⟨S1x4096x1, .f32⟩
  | 47 => ⟨S1x4096x1, .f32⟩
  | 48 => ⟨S1x4096x1024, .f32⟩
  | 49 => ⟨S1x4096x1024, .f32⟩
  | 50 => ⟨S1x1x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S_, .f32⟩
  | 59 => ⟨S1x4096, .f32⟩
  | 60 => ⟨S_, .f32⟩
  | 61 => ⟨S1x4096, .f32⟩
  | 62 => ⟨S1x4096, .f32⟩
  | 63 => ⟨S_, .f32⟩
  | 64 => ⟨S_, .f32⟩
  | 65 => ⟨S_, .f32⟩
  | 66 => ⟨S_, .f32⟩
  | 67 => ⟨S_, .f32⟩
  | 68 => ⟨S1x4096x1024, .f32⟩
  | 69 => ⟨S1x4096x1024, .f32⟩
  | 70 => ⟨S_, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S_, .f32⟩
  | 77 => ⟨S_, .f32⟩
  | 78 => ⟨S1x4096, .f32⟩
  | 79 => ⟨S_, .f32⟩
  | 80 => ⟨S1x4096, .f32⟩
  | 81 => ⟨S1x4096, .f32⟩
  | 82 => ⟨S1x4096x1024, .f32⟩
  | 83 => ⟨S1x4096x1024, .f32⟩
  | 84 => ⟨S1x4096x1024, .f32⟩
  | 85 => ⟨S_, .f32⟩
  | 86 => ⟨S1x1024, .f32⟩
  | 87 => ⟨S1x1x1024, .f32⟩
  | 88 => ⟨S1x4096x1024, .f32⟩
  | 89 => ⟨S1x4096x1024, .f32⟩
  | 90 => ⟨S_, .f32⟩
  | 91 => ⟨S1024, .f32⟩
  | 92 => ⟨S1x4096x1024, .f32⟩
  | 93 => ⟨S_, .f32⟩
  | 94 => ⟨S1x4096, .f32⟩
  | 95 => ⟨S1x4096x1, .f32⟩
  | 96 => ⟨S1x4096x1024, .f32⟩
  | 97 => ⟨S1x4096x1024, .f32⟩
  | 98 => ⟨S1x4096x1, .f32⟩
  | 99 => ⟨S_, .f32⟩
  | 100 => ⟨S1x4096x1, .f32⟩
  | 101 => ⟨S1x4096x1, .f32⟩
  | 102 => ⟨S_, .f32⟩
  | 103 => ⟨S4096, .f32⟩
  | 104 => ⟨S1x4096, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x4096x1024, .f32⟩
  | 110 => ⟨S1024x1024, .f32⟩
  | 111 => ⟨S1024x1024, .f32⟩
  | 112 => ⟨S1x4096x1024, .f32⟩
  | 113 => ⟨S1x1024x1024, .f32⟩
  | 114 => ⟨S1x4096x1024, .f32⟩
  | 115 => ⟨S1x4096x1024, .f32⟩
  | 116 => ⟨S1024x1024, .f32⟩
  | 117 => ⟨S1024x1024, .f32⟩
  | 118 => ⟨S1x4096x1024, .f32⟩
  | 119 => ⟨S1x1024x1024, .f32⟩
  | 120 => ⟨S1x4096x1024, .f32⟩
  | 121 => ⟨S1x4096x1024, .f32⟩
  | 122 => ⟨S1024x1024, .f32⟩
  | 123 => ⟨S1024x1024, .f32⟩
  | 124 => ⟨S1x4096x1024, .f32⟩
  | 125 => ⟨S1x1024x1024, .f32⟩
  | 126 => ⟨S1x4096x2048, .f32⟩
  | 127 => ⟨S1x4096x2048, .f32⟩
  | _ => ⟨S1x4096x1024, .f32⟩

abbrev hbmTy0_1 (i : Nat) : BufTy := match i % 128 with
  | 0 => ⟨S4096x2048, .f32⟩
  | 1 => ⟨S4096x2048, .bf16⟩
  | 2 => ⟨S4096x1024, .f32⟩
  | 3 => ⟨S4096x1024, .f32⟩
  | 4 => ⟨S4096x1024, .f32⟩
  | 5 => ⟨S1024x1024, .f32⟩
  | 6 => ⟨S1024x1024, .f32⟩
  | 7 => ⟨S1024x1024, .f32⟩
  | 8 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_17 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_v62 : Ref sig .tc := ⟨.hbm, 91, rfl⟩
abbrev main_v63 : Ref sig .tc := ⟨.hbm, 92, rfl⟩
abbrev main_cst_19 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_20 : Ref sig .tc := ⟨.hbm, 99, rfl⟩
abbrev main_v69 : Ref sig .tc := ⟨.hbm, 100, rfl⟩
abbrev main_v70 : Ref sig .tc := ⟨.hbm, 101, rfl⟩
abbrev main_cst_21 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩

abbrev nD : Nat := 1
abbrev τ : Topo := Topo.v7x

variable {F : FTy → Type} [FloatOps F]
-- ==== Fwd.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S1024x8208 : Shape := ⟨2, ![1024, 8208]⟩
abbrev S8208x1024 : Shape := ⟨2, ![8208, 1024]⟩
abbrev S16x512 : Shape := ⟨2, ![16, 512]⟩
abbrev S_ : Shape := ⟨0, ![]⟩
abbrev S128x512 : Shape := ⟨2, ![128, 512]⟩
abbrev S8x128 : Shape := ⟨2, ![8, 128]⟩
abbrev S8x128x1 : Shape := ⟨3, ![8, 128, 1]⟩
abbrev S8x128x128 : Shape := ⟨3, ![8, 128, 128]⟩
abbrev S4096x1024 : Shape := ⟨2, ![4096, 1024]⟩
abbrev S4096x8192 : Shape := ⟨2, ![4096, 8192]⟩
abbrev S4096x128 : Shape := ⟨2, ![4096, 128]⟩
abbrev S64x4x256x128 : Shape := ⟨4, ![64, 4, 256, 128]⟩
abbrev S256x1024 : Shape := ⟨2, ![256, 1024]⟩
abbrev S256x8192 : Shape := ⟨2, ![256, 8192]⟩
abbrev S256x128 : Shape := ⟨2, ![256, 128]⟩
abbrev S4x4x256x128 : Shape := ⟨4, ![4, 4, 256, 128]⟩
abbrev S4x256x128 : Shape := ⟨3, ![4, 256, 128]⟩
abbrev S256x512 : Shape := ⟨2, ![256, 512]⟩
abbrev S256 : Shape := ⟨1, ![256]⟩
abbrev S256x1 : Shape := ⟨2, ![256, 1]⟩
abbrev S1024x1024 : Shape := ⟨2, ![1024, 1024]⟩
abbrev S128x128 : Shape := ⟨2, ![128, 128]⟩
abbrev S1x128x128 : Shape := ⟨3, ![1, 128, 128]⟩
abbrev S128x1024 : Shape := ⟨2, ![128, 1024]⟩
abbrev S256x256 : Shape := ⟨2, ![256, 256]⟩
abbrev S64x64 : Shape := ⟨2, ![64, 64]⟩
abbrev S1x256x128 : Shape := ⟨3, ![1, 256, 128]⟩
abbrev S64x512 : Shape := ⟨2, ![64, 512]⟩
abbrev S64x256 : Shape := ⟨2, ![64, 256]⟩
abbrev S64x128 : Shape := ⟨2, ![64, 128]⟩
abbrev S1x1x256x128 : Shape := ⟨4, ![1, 1, 256, 128]⟩
abbrev S1x128 : Shape := ⟨2, ![1, 128]⟩
abbrev S64 : Shape := ⟨1, ![64]⟩
abbrev S64x1 : Shape := ⟨2, ![64, 1]⟩

abbrev nBuf : Space → Nat
  | .hbm => 29
  | .vmem => 28
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x8208, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x16x512, .f32⟩
  | .hbm, ⟨8, _⟩ => ⟨S1x512, .f32⟩
  | .hbm, ⟨9, _⟩ => ⟨S1x256, .f32⟩
  | .hbm, ⟨10, _⟩ => ⟨S1024x8208, .f32⟩
  | .hbm, ⟨11, _⟩ => ⟨S8208x1024, .f32⟩
  | .hbm, ⟨12, _⟩ => ⟨S8208x1024, .bf16⟩
  | .hbm, ⟨13, _⟩ => ⟨S16x512, .f32⟩
  | .hbm, ⟨14, _⟩ => ⟨S_, .i32⟩
  | .hbm, ⟨15, _⟩ => ⟨S_, .f32⟩
  | .hbm, ⟨16, _⟩ => ⟨S128x512, .f32⟩
  | .hbm, ⟨17, _⟩ => ⟨S8x128, .f32⟩
  | .hbm, ⟨18, _⟩ => ⟨S8x128x1, .f32⟩
  | .hbm, ⟨19, _⟩ => ⟨S8x128x128, .f32⟩
  | .hbm, ⟨20, _⟩ => ⟨S4096x1024, .f32⟩
  | .hbm, ⟨21, _⟩ => ⟨S8x128x128, .f32⟩
  | .hbm, ⟨22, _⟩ => ⟨S4096x8192, .f32⟩
  | .hbm, ⟨23, _⟩ => ⟨S4096x128, .f32⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S4096x1024, .bf16⟩
  | .hbm, ⟨28, _⟩ => ⟨S64x4x256x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8208x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S128x512, .f32⟩
  | .local _ .vmem, ⟨9, _⟩ => ⟨S1x512, .f32⟩
  | .local _ .vmem, ⟨10, _⟩ => ⟨S1x256, .f32⟩
  | .local _ .vmem, ⟨11, _⟩ => ⟨S256x8192, .f32⟩
  | .local _ .vmem, ⟨12, _⟩ => ⟨S256x8192, .f32⟩
  | .local _ .vmem, ⟨13, _⟩ => ⟨S256x128, .f32⟩
  | .local _ .vmem, ⟨14, _⟩ => ⟨S256x128, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S4x4x256x128, .f32⟩
  | .local _ .vmem, ⟨24, _⟩ => ⟨S4x4x256x128, .f32⟩
  | .local _ .vmem, ⟨25, _⟩ => ⟨S256x1024, .bf16⟩
  | .local _ .vmem, ⟨26, _⟩ => ⟨S4x256x128, .f32⟩
  | .local _ .vmem, ⟨27, _⟩ => ⟨S256x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8208x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x4x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FwdIdeal.lean ====
variable {F : FTy → Type} [FloatOps F] [Named F]
def κ : String → Option EReal := fun
  | "sqrt_half" => some (((Real.sqrt 2)⁻¹ : ℝ) : EReal)
  | _ => none
-- ==== FwdRefIdeal.lean ====
abbrev S1x4096x1024 : Shape := ⟨3, ![1, 4096, 1024]⟩
abbrev S1x1024 : Shape := ⟨2, ![1, 1024]⟩
abbrev S1x1024x8208 : Shape := ⟨3, ![1, 1024, 8208]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x8208 : Shape := ⟨2, ![1024, 8208]⟩
abbrev S1x4096x8208 : Shape := ⟨3, ![1, 4096, 8208]⟩
abbrev S8x128x128 : Shape := ⟨3, ![8, 128, 128]⟩
abbrev S8x128 : Shape := ⟨2, ![8, 128]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x4096x6144 : Shape := ⟨3, ![1, 4096, 6144]⟩
abbrev S4096x6144 : Shape := ⟨2, ![4096, 6144]⟩
abbrev S1x4096x2048 : Shape := ⟨3, ![1, 4096, 2048]⟩
abbrev S4096x2048 : Shape := ⟨2, ![4096, 2048]⟩
abbrev S4096x8192 : Shape := ⟨2, ![4096, 8192]⟩
abbrev S1x4096x128 : Shape := ⟨3, ![1, 4096, 128]⟩
abbrev S4096x128 : Shape := ⟨2, ![4096, 128]⟩
abbrev S4096x1024 : Shape := ⟨2, ![4096, 1024]⟩

abbrev nBuf : Space → Nat
  | .hbm => 132
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x8208, .f32⟩
  | 3 => ⟨S1x1024, .f32⟩
  | 4 => ⟨S1x1024, .f32⟩
  | 5 => ⟨S1x8x128x128, .f32⟩
  | 6 => ⟨S1x8x128, .f32⟩
  | 7 => ⟨S1x16x512, .f32⟩
  | 8 => ⟨S1x512, .f32⟩
  | 9 => ⟨S1x256, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1024x8208, .f32⟩
  | 28 => ⟨S1x4096x8208, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S_, .f32⟩
  | 37 => ⟨S1x4096x1024, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S_, .f32⟩
  | 48 => ⟨S_, .f32⟩
  | 49 => ⟨S1x4096x1024, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S1x4096x1024, .f32⟩
  | 56 => ⟨S1024, .f32⟩
  | 57 => ⟨S1024, .f32⟩
  | 58 => ⟨S8x128x128, .f32⟩
  | 59 => ⟨S8x128, .f32⟩
  | 60 => ⟨S_, .f32⟩
  | 61 => ⟨S1x4096, .f32⟩
  | 62 => ⟨S1x4096x1, .f32⟩
  | 63 => ⟨S_, .f32⟩
  | 64 => ⟨S1x4096x1, .f32⟩
  | 65 => ⟨S1x4096x1, .f32⟩
  | 66 => ⟨S1x4096x1024, .f32⟩
  | 67 => ⟨S1x4096x1024, .f32⟩
  | 68 => ⟨S1x4096x1024, .f32⟩
  | 69 => ⟨S_, .f32⟩
  | 70 => ⟨S1x4096, .f32⟩
  | 71 => ⟨S1x4096x1, .f32⟩
  | 72 => ⟨S_, .f32⟩
  | 73 => ⟨S1x4096x1, .f32⟩
  | 74 => ⟨S1x4096x1, .f32⟩
  | 75 => ⟨S_, .f32⟩
  | 76 => ⟨S1x4096x1, .f32⟩
  | 77 => ⟨S1x4096x1, .f32⟩
  | 78 => ⟨S1x4096x1, .f32⟩
  | 79 => ⟨S1x4096x1024, .f32⟩
  | 80 => ⟨S1x4096x1024, .f32⟩
  | 81 => ⟨S1x1x1024, .f32⟩
  | 82 => ⟨S1x4096x1024, .f32⟩
  | 83 => ⟨S1x4096x1024, .f32⟩
  | 84 => ⟨S1x1x1024, .f32⟩
  | 85 => ⟨S1x4096x1024, .f32⟩
  | 86 => ⟨S1x4096x1024, .f32⟩
  | 87 => ⟨S1x32x128x8x128, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S_, .f32⟩
  | 100 => ⟨S8x128x128, .f32⟩
  | 101 => ⟨S8x128x128, .i1⟩
  | 102 => ⟨S8x128x128, .f32⟩
  | 103 => ⟨S8x1x32x128x128, .f32⟩
  | 104 => ⟨S1x32x128x8x128, .f32⟩
  | 105 => ⟨S128x8, .f32⟩
  | 106 => ⟨S1x1x128x8x1, .f32⟩
  | 107 => ⟨S1x32x128x8x128, .f32⟩
  | 108 => ⟨S1x32x128x8x128, .f32⟩
  | 109 => ⟨S1x4096x1024, .f32⟩
  | 110 => ⟨S1x4096x1024, .f32⟩
  | 111 => ⟨S1x4096x1024, .f32⟩
  | 112 => ⟨S1x4096x1024, .f32⟩
  | 113 => ⟨S_, .f32⟩
  | 114 => ⟨S1x4096x1024, .f32⟩
  | 115 => ⟨S1x4096x1024, .f32⟩
  | 116 => ⟨S_, .f32⟩
  | 117 => ⟨S1x4096x1024, .f32⟩
  | 118 => ⟨S1x4096x1024, .f32⟩
  | 119 => ⟨S1x4096x1024, .f32⟩
  | 120 => ⟨S1x4096x1024, .f32⟩
  | 121 => ⟨S1x4096x6144, .f32⟩
  | 122 => ⟨S4096x6144, .f32⟩
  | 123 => ⟨S1x4096x2048, .f32⟩
  | 124 => ⟨S4096x2048, .f32⟩
  | 125 => ⟨S4096x8192, .f32⟩
  | 126 => ⟨S1x4096x128, .f32⟩
  | 127 => ⟨S4096x128, .f32⟩
  | _ => ⟨S1x4096x1024, .f32⟩

abbrev hbmTy0_1 (i : Nat) : BufTy := match i % 128 with
  | 0 => ⟨S4096x1024, .f32⟩
  | 1 => ⟨S4096x1024, .bf16⟩
  | 2 => ⟨S4096x1024, .f32⟩
  | 3 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_0 : Ref sig .tc := ⟨.hbm, 96, rfl⟩
abbrev main_call0_v5 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_call1_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Proof.Mixer.Real.lean ====
module

public import Idealize.ShloMosaic.PureOps.Ideal
public import Idealize.ShloMosaic.PureOps.Ideal.Laws

@[expose] public section

noncomputable section

/-! The gated block's mathematics over the reals: what its forward lines compute from one chunk of 128 rows, and the
gradients that its backward call writes out. Rows and columns are natural numbers; a chunk is a function of its row
and column. -/

namespace Cert.Mix

open Finset

/-- The error function on the reals, as the ideal instance states it. -/
def erfR (x : ℝ) : ℝ := 2 / Real.sqrt Real.pi * ∫ t in (0 : ℝ)..x, Real.exp (-(t ^ 2))

/-- The normal distribution's cumulative function, as the exact gelu spells it. -/
def cdf (x : ℝ) : ℝ := 1 / 2 * (1 + erfR (x * (Real.sqrt 2)⁻¹))

/-- The exact gelu. -/
def gelu (x : ℝ) : ℝ := x * cdf x

/-- Its derivative. -/
def dgelu (x : ℝ) : ℝ := cdf x + x * (Real.exp (-(1 / 2) * x * x) * (Real.sqrt (2 * Real.pi))⁻¹)

/-- The logistic function, spelt by the hyperbolic tangent. -/
def lgst (x : ℝ) : ℝ := 1 / 2 * Real.tanh (1 / 2 * x) + 1 / 2

theorem lgst_eq (x : ℝ) : lgst x = (1 + Real.exp (-x))⁻¹ := by
  unfold lgst
  rw [Real.tanh_eq_sinh_div_cosh, Real.sinh_eq, Real.cosh_eq]
  have e : Real.exp (-x) = Real.exp (-(1 / 2 * x)) * Real.exp (-(1 / 2 * x)) := by rw [← Real.exp_add]; congr 1; ring
  have e1 : Real.exp (1 / 2 * x) * Real.exp (-(1 / 2 * x)) = 1 := by rw [← Real.exp_add]; simp
  have h1 := Real.exp_pos (1 / 2 * x)
  have h2 := Real.exp_pos (-(1 / 2 * x))
  rw [e]
  generalize Real.exp (1 / 2 * x) = a at *
  generalize Real.exp (-(1 / 2 * x)) = b at *
  have h3 : (1 : ℝ) + b * b ≠ 0 := by positivity
  have h4 : a + b ≠ 0 := by positivity
  field_simp
  linear_combination (2 * b) * e1

/-- silu and its derivative. -/
def silu (x : ℝ) : ℝ := x * lgst x
def dsilu (x : ℝ) : ℝ := lgst x * (1 + x * (1 - lgst x))

/-- The layer norm's added constant: the rational of its float word. -/
def eps : ℝ := 10995116 / 2 ^ 40

theorem eps_pos : 0 < eps := by unfold eps; positivity

/-- The layer norm of a row `y` of 1024 values: the mean, the centred row, the reciprocal root, the normalised row. -/
def mean (y : ℕ → ℝ) : ℝ := (∑ d ∈ range 1024, y d) / 1024
def cen (y : ℕ → ℝ) (d : ℕ) : ℝ := y d - mean y
def var (y : ℕ → ℝ) : ℝ := mean fun d => cen y d * cen y d
def rs (y : ℕ → ℝ) : ℝ := (Real.sqrt (var y + eps))⁻¹
def hat (y : ℕ → ℝ) (d : ℕ) : ℝ := cen y d * rs y

theorem var_nonneg (y : ℕ → ℝ) : 0 ≤ var y := by
  unfold var mean
  exact div_nonneg (Finset.sum_nonneg fun d _ => mul_self_nonneg _) (by norm_num)

theorem var_eps_pos (y : ℕ → ℝ) : 0 < var y + eps := add_pos_of_nonneg_of_pos (var_nonneg y) eps_pos

theorem sum_cen (y : ℕ → ℝ) : ∑ d ∈ range 1024, cen y d = 0 := by
  unfold cen mean
  rw [Finset.sum_sub_distrib, Finset.sum_const, Finset.card_range, nsmul_eq_mul]
  push_cast
  ring

theorem rs_mul (y : ℕ → ℝ) : rs y * rs y = (var y + eps)⁻¹ := by
  unfold rs
  rw [← mul_inv, Real.mul_self_sqrt (var_eps_pos y).le]

/-- The gradient of the layer norm's normalised row at `y`, from the gradient `e` of its result. -/
def dnorm (y e : ℕ → ℝ) (d : ℕ) : ℝ := rs y * (e d - mean e - hat y d * mean fun k => e k * hat y k)

/-- The same gradient as the derivative's rules build it up: through the difference from the mean, the square of the
differences and the reciprocal root. -/
theorem dnorm_eq (y e : ℕ → ℝ) (d : ℕ) :
    dnorm y e d
      = (e d * rs y + cen y d * ((∑ k ∈ range 1024, cen y k * e k) * (-(1 / 2) * (rs y / (var y + eps))) / 1024)
          + (∑ k ∈ range 1024, cen y k * e k) * (-(1 / 2) * (rs y / (var y + eps))) / 1024 * cen y d)
        + (∑ k ∈ range 1024, -(e k * rs y + cen y k * ((∑ k ∈ range 1024, cen y k * e k) * (-(1 / 2) * (rs y / (var y + eps))) / 1024)
          + (∑ k ∈ range 1024, cen y k * e k) * (-(1 / 2) * (rs y / (var y + eps))) / 1024 * cen y k)) / 1024 := by
  have hA : (∑ k ∈ range 1024, e k * hat y k) = (∑ k ∈ range 1024, cen y k * e k) * rs y := by
    rw [Finset.sum_mul]; exact Finset.sum_congr rfl fun k _ => by unfold hat; ring
  have hr : rs y / (var y + eps) = rs y * (rs y * rs y) := by rw [rs_mul]; rfl
  rw [hr]
  generalize hS : (∑ k ∈ range 1024, cen y k * e k) = S at *
  generalize hB : S * (-(1 / 2) * (rs y * (rs y * rs y))) / 1024 = B
  have h2 : (∑ k ∈ range 1024, -(e k * rs y + cen y k * B + B * cen y k)) = -(rs y * ∑ k ∈ range 1024, e k) := by
    have h : ∀ k ∈ range 1024, -(e k * rs y + cen y k * B + B * cen y k) = -(rs y * e k) + (-2 * B) * cen y k := fun k _ => by ring
    rw [Finset.sum_congr rfl h, Finset.sum_add_distrib, ← Finset.mul_sum, sum_cen, Finset.mul_sum, Finset.sum_neg_distrib]
    ring
  rw [h2]
  unfold dnorm mean
  rw [hA, ← hB]
  unfold hat
  ring

/-- What the derivative's rules give for `1/2 · x · (1 + erf (x/√2))` at `x` and the cotangent `e` is `dgelu`. -/
theorem dgelu_eq (x e : ℝ) :
    2 * (Real.sqrt Real.pi)⁻¹ * Real.exp (-(x * (Real.sqrt 2)⁻¹ * (x * (Real.sqrt 2)⁻¹))) * (1 / 2 * x * e) * (Real.sqrt 2)⁻¹
      + 1 / 2 * (e * (1 + erfR (x * (Real.sqrt 2)⁻¹))) = e * dgelu x := by
  have hs : (Real.sqrt 2)⁻¹ * (Real.sqrt 2)⁻¹ = 1 / 2 := by rw [← mul_inv, Real.mul_self_sqrt (by norm_num)]; norm_num
  have hx : -(x * (Real.sqrt 2)⁻¹ * (x * (Real.sqrt 2)⁻¹)) = -(1 / 2) * x * x := by linear_combination (-x * x) * hs
  rw [hx]
  unfold dgelu cdf
  rw [Real.sqrt_mul (by norm_num), mul_inv]
  ring

/-! ### One chunk of 128 rows -/

section Chunk

variable (G B : ℕ → ℝ) (W : ℕ → ℕ → ℕ → ℝ) (b : ℕ → ℕ → ℝ) (u v z a : ℕ → ℕ → ℝ)

/-- The lower triangle of a group's mixing matrix. -/
def tri (g i j : ℕ) : ℝ := if j ≤ i then W g i j else 0

/-- The gelu of the value row `j`, its normalised row, and the layer norm's result. -/
def gv (j d : ℕ) : ℝ := gelu (v j d)
def vh (j d : ℕ) : ℝ := hat (gv v j) d
def ln (j d : ℕ) : ℝ := vh v j d * G d + B d

/-- Row `i` of the mixed values: group `d / 128`'s triangle times the chunk's rows, and the bias. -/
def mixed (i d : ℕ) : ℝ := (∑ j ∈ range 128, tri W (d / 128) i j * ln G B v j d) + b (d / 128) i

/-- The gradients of u and of z. -/
def dU (i d : ℕ) : ℝ := a i d * mixed G B W b v i d * silu (z i d) * dgelu (u i d)
def dZ (i d : ℕ) : ℝ := a i d * gelu (u i d) * mixed G B W b v i d * dsilu (z i d)

/-- The gradient of the mixed values, and through the triangle of the layer norm's result. -/
def dM (i d : ℕ) : ℝ := a i d * gelu (u i d) * silu (z i d)
def dL (j d : ℕ) : ℝ := ∑ i ∈ range 128, tri W (d / 128) i j * dM u z a i d

/-- The gradient of v. -/
def dV (j d : ℕ) : ℝ := dnorm (gv v j) (fun k => dL W u z a j k * G k) d * dgelu (v j d)

/-- The chunk's parts of the gradients of the mixing matrix (before the mask), its bias, and the layer norm's scale and
    offset. -/
def dWp (g i j : ℕ) : ℝ := ∑ k ∈ range 128, dM u z a i (128 * g + k) * ln G B v j (128 * g + k)
def dbp (g i : ℕ) : ℝ := ∑ k ∈ range 128, dM u z a i (128 * g + k)
def dGp (d : ℕ) : ℝ := ∑ j ∈ range 128, dL W u z a j d * vh v j d
def dBp (d : ℕ) : ℝ := ∑ j ∈ range 128, dL W u z a j d

end Chunk

end Cert.Mix

end
-- ==== Proof.Mixer.Block.lean ====
module

public import proofs.«01_k».proof.Proof.Gen.MixerIdeal.Value
public import proofs.«01_k».proof.Proof.Mixer.Real
public import Idealize.ShloMosaic.Lib.Pipeline.ValueKit
public import Idealize.ShloMosaic.Lib.Pointwise

@[expose] public section

noncomputable section

namespace Cert.Mix

open Cert.MixerIdeal Cert.MixerIdeal.Gen Idealize.ShloMosaic Idealize.ShloMosaic.TcCoe
open Finset

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_eps : Ideal.ofBits .f32 0x3727C5AC#32 = ((eps : ℝ) : EReal) := by
  simp [Ideal.ofBits, Ideal.ieee, -EReal.coe_mul, eps]; norm_num

/-- The two named constants. -/
theorem name_sqrt_half : Named.named (F := Ideal) (φ := .f32) κ "sqrt_half" 0x3F3504F3#32 = (((Real.sqrt 2)⁻¹ : ℝ) : EReal) :=
  IdealRules.named_const.ideal_named_scalar _ _ _ _ rfl
theorem name_inv_sqrt_2pi : Named.named (F := Ideal) (φ := .f32) κ "inv_sqrt_2pi" 0x3ECC422A#32 = (((Real.sqrt (2 * Real.pi))⁻¹ : ℝ) : EReal) :=
  IdealRules.named_const.ideal_named_scalar _ _ _ _ rfl

theorem erf_real (r : ℝ) : Ideal.erf (r : EReal) = ((erfR r : ℝ) : EReal) := rfl

/-- A sum of reals over the first numbers. -/
theorem coe_sum_range (n : ℕ) (f : ℕ → ℝ) : (((∑ k ∈ range n, f k : ℝ)) : EReal) = ∑ k : Fin n, ((f k : ℝ) : EReal) := by
  rw [Finset.sum_range]
  induction n with
  | zero => simp
  | succ n ih => rw [Fin.sum_univ_castSucc, Fin.sum_univ_castSucc, EReal.coe_add]; exact congrArg (· + ((f n : ℝ) : EReal)) ih
theorem div_1024 (r : ℝ) : Ideal.div (r : EReal) ((1024 : ℝ) : EReal) = ((r / 1024 : ℝ) : EReal) := by
  rw [Ideal.div_coe (by norm_num), ← EReal.coe_mul, mul_one_div]

/-! ### Elementwise parts of one chunk's group -/

theorem gelu_pay (u : Vec Ideal S128x128 .f32) (x : S128x128.Idx) (r : ℝ) (h : u x = (r : EReal)) :
    k0_pay48 (F := Ideal) u x = ((gelu r : ℝ) : EReal) := by
  unfold_payloads
  pointwise [word_half, name_sqrt_half, Ideal.erf_def]
  rw [h, ← EReal.coe_one]
  simp only [erf_real, ← EReal.coe_mul, ← EReal.coe_add]
  rfl
theorem dgelu_pay (u : Vec Ideal S128x128 .f32) (x : S128x128.Idx) (r : ℝ) (h : u x = (r : EReal)) :
    k0_pay49 (F := Ideal) u x = ((dgelu r : ℝ) : EReal) := by
  unfold_payloads
  pointwise [word_half, word_neg_half, name_sqrt_half, name_inv_sqrt_2pi, Ideal.erf_def]
  rw [h, ← EReal.coe_one]
  simp only [erf_real, ← EReal.coe_mul, ← EReal.coe_add, Ideal.exp_coe]
  rfl
theorem sig_pay (u : Vec Ideal S128x128 .f32) (x : S128x128.Idx) (r : ℝ) (h : u x = (r : EReal)) :
    k0_pay45 (F := Ideal) u x = ((lgst r : ℝ) : EReal) := by
  unfold_payloads
  pointwise [word_half]
  rw [h]
  simp only [← EReal.coe_mul, ← EReal.coe_add, Ideal.tanh_coe]
  rfl
theorem silu_pay (u : Vec Ideal S128x128 .f32) (x : S128x128.Idx) (r : ℝ) (h : u x = (r : EReal)) :
    k0_pay46 (F := Ideal) u x = ((silu r : ℝ) : EReal) := by
  unfold_payloads
  pointwise [word_half]
  rw [h]
  simp only [← EReal.coe_mul, ← EReal.coe_add, Ideal.tanh_coe]
  rfl
theorem cast_pay (u : Vec Ideal S128x128 .f32) (x : S128x128.Idx) : k0_pay44 (F := Ideal) u x = u x := by
  unfold_payloads
  pointwise
theorem mixed_pay (w : Vec Ideal S128x128 .bf16) (l : Vec Ideal S128x128 .bf16) (b : Vec Ideal S1x128x128 .f32) (x : S128x128.Idx)
    (W L : ℕ → ℕ → ℝ) (q : ℕ → ℝ) (hw : ∀ x, w x = ((W (x 0) (x 1) : ℝ) : EReal)) (hl : ∀ x, l x = ((L (x 0) (x 1) : ℝ) : EReal))
    (hb : ∀ x, b x = ((q (x 1) : ℝ) : EReal)) :
    k0_pay41 (F := Ideal) w l b x = (((∑ k ∈ range 128, W (x 0) k * L k (x 1)) + q (x 0) : ℝ) : EReal) := by
  unfold_payloads
  pointwise
  rw [EReal.coe_add, coe_sum_range]
  refine congrArg₂ (· + ·) (Finset.sum_congr rfl fun k _ => ?_) (hb _)
  rw [hw, hl, ← EReal.coe_mul]
  rfl

/-- The group's matrix, its upper triangle zeroed. -/
def mW (w : Vec Ideal S1x128x128 .f32) : FVec Ideal S128x128 .bf16 :=
  truncf .bf16 (select (cmpi .sle (iota .tc S128x128 32 [1] iota_S128x128_d1_w32) (iota .tc S128x128 32 [0] iota_S128x128_d0_w32))
    (shapeCast S128x128 w shapeCasts_S1x128x128_S128x128) (broadcast S128x128 (Scalar.ofBits .f32 0x00000000#32))) bitsLt_bf16_f32
theorem mW_apply (w : Vec Ideal S1x128x128 .f32) (W : ℕ → ℕ → ℝ) (hw : ∀ x, w x = ((W (x 1) (x 2) : ℝ) : EReal)) (x : S128x128.Idx) :
    mW w x = (((if (x 1).val ≤ (x 0).val then W (x 0) (x 1) else 0 : ℝ)) : EReal) := by
  unfold mW
  pointwise
  have h0 := (x 0).isLt
  have h1 := (x 1).isLt
  change (x 0).val < 128 at h0
  change (x 1).val < 128 at h1
  rw [hw]
  by_cases h : (x 1).val ≤ (x 0).val
  · rw [if_pos h, (WordCmp.cmpi_sle_ofNat_eq_one_iff (by omega) (by omega)).mpr h]; rfl
  · rw [if_neg h, (WordCmp.cmpi_sle_ofNat_eq_zero_iff (by omega) (by omega)).mpr (by omega)]; rfl

/-- What is stored of one chunk's group: the gradients of u and z, the gradient of the layer norm's result. -/
def mDM (u z a : Vec Ideal S128x128 .f32) : FVec Ideal S128x128 .bf16 :=
  truncf .bf16 (mulf (mulf (k0_pay44 a) (k0_pay48 u)) (k0_pay46 z)) bitsLt_bf16_f32
theorem mDM_apply (u z a : Vec Ideal S128x128 .f32) (x : S128x128.Idx) (ru rz ra : ℝ) (hu : u x = (ru : EReal)) (hz : z x = (rz : EReal))
    (ha : a x = (ra : EReal)) : mDM u z a x = ((ra * gelu ru * silu rz : ℝ) : EReal) := by
  unfold mDM
  pointwise
  rw [gelu_pay u x ru hu, silu_pay z x rz hz, cast_pay, ha]
  simp only [← EReal.coe_mul]

/-- The gradient of the layer norm's result. -/
def mDL (w : Vec Ideal S1x128x128 .f32) (u z a : Vec Ideal S128x128 .f32) : FVec Ideal S128x128 .f32 :=
  shapeCast S128x128 (matmul dot_S128x128_S128x128_S128x128_0_0_1_1_n_n none (mW w) (mDM u z a) (constant S128x128 .f32 0x00000000#32)) shapeCasts_S128x128_S128x128
theorem mDL_apply (w : Vec Ideal S1x128x128 .f32) (u z a : Vec Ideal S128x128 .f32) (x : S128x128.Idx)
    (W ru rz ra : ℕ → ℕ → ℝ) (hw : ∀ x, w x = ((W (x 1) (x 2) : ℝ) : EReal)) (hu : ∀ x, u x = ((ru (x 0) (x 1) : ℝ) : EReal))
    (hz : ∀ x, z x = ((rz (x 0) (x 1) : ℝ) : EReal)) (ha : ∀ x, a x = ((ra (x 0) (x 1) : ℝ) : EReal)) :
    mDL w u z a x = ((∑ i ∈ range 128, (if (x 0).val ≤ i then W i (x 0) else 0)
      * (ra i (x 1) * gelu (ru i (x 1)) * silu (rz i (x 1))) : ℝ) : EReal) := by
  unfold mDL
  pointwise
  rw [coe_sum_range]
  refine Finset.sum_congr rfl fun k _ => ?_
  rw [mW_apply w W hw, mDM_apply u z a _ _ _ _ (hu _) (hz _) (ha _), ← EReal.coe_mul]
  rfl

/-- The two stored gradients, from the mixed values `m`. -/
def mDU (m u z a : Vec Ideal S128x128 .f32) : FVec Ideal S128x128 .bf16 :=
  k0_pay51 (F := Ideal) (k0_pay49 u) (mulf (mulf (k0_pay44 a) m) (k0_pay46 z))
theorem mDU_apply (m u z a : Vec Ideal S128x128 .f32) (x : S128x128.Idx) (rm ru rz ra : ℝ) (hm : m x = (rm : EReal))
    (hu : u x = (ru : EReal)) (hz : z x = (rz : EReal)) (ha : a x = (ra : EReal)) :
    mDU m u z a x = ((ra * rm * silu rz * dgelu ru : ℝ) : EReal) := by
  unfold mDU k0_pay51
  pointwise
  rw [dgelu_pay u x ru hu, silu_pay z x rz hz, cast_pay, ha, hm]
  simp only [← EReal.coe_mul]
def mDZ (m u z a : Vec Ideal S128x128 .f32) : FVec Ideal S128x128 .bf16 :=
  k0_pay52 (F := Ideal) m (k0_pay43 z) (k0_pay44 a) (k0_pay45 z) (k0_pay48 u)
theorem mDZ_apply (m u z a : Vec Ideal S128x128 .f32) (x : S128x128.Idx) (rm ru rz ra : ℝ) (hm : m x = (rm : EReal))
    (hu : u x = (ru : EReal)) (hz : z x = (rz : EReal)) (ha : a x = (ra : EReal)) :
    mDZ m u z a x = ((ra * gelu ru * rm * dsilu rz : ℝ) : EReal) := by
  unfold mDZ k0_pay52 k0_pay43
  pointwise
  rw [gelu_pay u x ru hu, sig_pay z x rz hz, cast_pay, ha, hm, hz, ← EReal.coe_one]
  simp only [← EReal.coe_mul, ← EReal.coe_sub, ← EReal.coe_add]
  rfl

/-- One chunk's part of the gradients of a group's matrix and bias. -/
def mDWc (l : Vec Ideal S128x128 .bf16) (u z a : Vec Ideal S128x128 .f32) : FVec Ideal S128x128 .f32 :=
  matmul dot_S128x128_S128x128_S128x128_1_1_0_0_n_n (φ₂ := .bf16) none (mDM u z a) l (constant S128x128 .f32 0x00000000#32)
theorem mDWc_apply (l : Vec Ideal S128x128 .bf16) (u z a : Vec Ideal S128x128 .f32) (x : S128x128.Idx) (L ru rz ra : ℕ → ℕ → ℝ)
    (hl : ∀ x, l x = ((L (x 0) (x 1) : ℝ) : EReal)) (hu : ∀ x, u x = ((ru (x 0) (x 1) : ℝ) : EReal))
    (hz : ∀ x, z x = ((rz (x 0) (x 1) : ℝ) : EReal)) (ha : ∀ x, a x = ((ra (x 0) (x 1) : ℝ) : EReal)) :
    mDWc l u z a x = ((∑ k ∈ range 128, (ra (x 0) k * gelu (ru (x 0) k) * silu (rz (x 0) k)) * L (x 1) k : ℝ) : EReal) := by
  unfold mDWc
  pointwise
  rw [coe_sum_range]
  refine Finset.sum_congr rfl fun k _ => ?_
  rw [hl, mDM_apply u z a _ _ _ _ (hu _) (hz _) (ha _), ← EReal.coe_mul]
  rfl
def mDBc (u z a : Vec Ideal S128x128 .f32) : FVec Ideal S128x1 .f32 :=
  shapeCast S128x1 (multiReduction .add [1] S128 (mulf (mulf (k0_pay44 a) (k0_pay48 u)) (k0_pay46 z)) 0x00000000#32 reduces_S128x128_S128 (.inl rfl) rfl)
    shapeCasts_S128_S128x1
theorem mDBc_apply (u z a : Vec Ideal S128x128 .f32) (x : S128x1.Idx) (ru rz ra : ℕ → ℕ → ℝ)
    (hu : ∀ x, u x = ((ru (x 0) (x 1) : ℝ) : EReal))
    (hz : ∀ x, z x = ((rz (x 0) (x 1) : ℝ) : EReal)) (ha : ∀ x, a x = ((ra (x 0) (x 1) : ℝ) : EReal)) :
    mDBc u z a x = ((∑ k ∈ range 128, ra (x 0) k * gelu (ru (x 0) k) * silu (rz (x 0) k) : ℝ) : EReal) := by
  unfold mDBc
  pointwise
  rw [coe_sum_range]
  refine Finset.sum_congr rfl fun k _ => ?_
  rw [gelu_pay u _ _ (hu _), silu_pay z _ _ (hz _), cast_pay, ha]
  simp only [← EReal.coe_mul]
  rfl
/-- One step's two chunks added to the old gradient. -/
def mDW (old : Vec Ideal S1x128x128 .f32) (c d : Vec Ideal S128x128 .f32) : FVec Ideal S1x128x128 .f32 :=
  k0_pay309 (F := Ideal) (addf (broadcast S128x128 (Scalar.ofBits .f32 0x00000000#32)) c) d old
theorem mDW_apply (old : Vec Ideal S1x128x128 .f32) (c d : Vec Ideal S128x128 .f32) (x : S1x128x128.Idx) :
    mDW old c d x = old x + (c (ix2 (x 1) (x 2)) + d (ix2 (x 1) (x 2))) := by
  unfold mDW k0_pay309
  pointwise
def mDB (old : Vec Ideal S1x128x128 .f32) (c d : Vec Ideal S128x1 .f32) : FVec Ideal S1x128x128 .f32 :=
  shapeCast S1x128x128 (addf (shapeCast S128x128 old shapeCasts_S1x128x128_S128x128)
    (broadcastTo S128x128 (shapeCast S128x1 (addf (addf (broadcast S128x1 (Scalar.ofBits .f32 0x00000000#32)) c) d) shapeCasts_S128x1_S128x1)
      broadcasts_S128x1_S128x128)) shapeCasts_S128x128_S1x128x128
theorem mDB_apply (old : Vec Ideal S1x128x128 .f32) (c d : Vec Ideal S128x1 .f32) (x : S1x128x128.Idx) :
    mDB old c d x = old x + (c (ix2 (x 1) 0) + d (ix2 (x 1) 0)) := by
  unfold mDB
  pointwise

/-! ### A block of 256 rows -/
section Block
variable (x1 : Vec Ideal S256x1024 .f32) (x4 : Vec Ideal S1x1024 .f32) (V : ℕ → ℕ → ℝ) (G : ℕ → ℝ)
  (h1 : ∀ j, x1 j = ((V (j 0) (j 1) : ℝ) : EReal)) (h4 : ∀ j, x4 j = ((G (j 1) : ℝ) : EReal))
include h1

theorem cdf_blk (j) : k0_pay15 (F := Ideal) x1 j = ((cdf (V (j 0) (j 1)) : ℝ) : EReal) := by
  unfold_payloads
  pointwise [word_half, name_sqrt_half, Ideal.erf_def]
  rw [h1, ← EReal.coe_one]
  simp only [erf_real, ← EReal.coe_mul, ← EReal.coe_add]
  rfl
theorem dgelu_blk (j) : k0_pay16 (F := Ideal) x1 j = ((dgelu (V (j 0) (j 1)) : ℝ) : EReal) := by
  unfold k0_pay16
  pointwise [word_neg_half, name_inv_sqrt_2pi]
  rw [cdf_blk x1 V h1]
  unfold k0_pay14
  pointwise
  rw [h1]
  simp only [← EReal.coe_mul, ← EReal.coe_add, Ideal.exp_coe]
  rfl
theorem cen_blk (j) : k0_pay17 (F := Ideal) x1 j = ((cen (gv V (j 0)) (j 1) : ℝ) : EReal) := by
  have hg : ∀ j, k0_pay14 (F := Ideal) x1 j * k0_pay15 (F := Ideal) x1 j = ((gv V (j 0) (j 1) : ℝ) : EReal) := fun j => by
    rw [cdf_blk x1 V h1]
    unfold k0_pay14
    pointwise
    rw [h1, ← EReal.coe_mul]
    rfl
  unfold k0_pay17
  pointwise [word_1024]
  simp only [hg]
  unfold cen mean
  rw [EReal.coe_sub, ← div_1024, coe_sum_range]
  rfl
theorem rs_blk (j) : k0_pay18 (F := Ideal) x1 j = ((rs (gv V (j 0)) : ℝ) : EReal) := by
  unfold k0_pay18
  pointwise [word_1024, word_eps]
  simp only [cen_blk x1 V h1, ← EReal.coe_mul]
  have e : (∑ k : Fin 1024, ((cen (gv V (j 0)) k * cen (gv V (j 0)) k : ℝ) : EReal)) = _ :=
    (coe_sum_range 1024 fun k => cen (gv V (j 0)) k * cen (gv V (j 0)) k).symm
  refine (congrArg (fun s => Ideal.rsqrt (Ideal.div s ((1024 : ℝ) : EReal) + ((eps : ℝ) : EReal))) e).trans ?_
  rw [div_1024, ← EReal.coe_add]
  have hp : 0 < (∑ k ∈ range 1024, cen (gv V (j 0)) k * cen (gv V (j 0)) k) / 1024 + eps := var_eps_pos (gv V (j 0))
  rw [Ideal.rsqrt_coe, if_neg hp.not_gt, if_neg hp.ne']
  rfl
theorem hat_blk (j) : k0_pay19 (F := Ideal) x1 j = ((vh V (j 0) (j 1) : ℝ) : EReal) := by
  unfold k0_pay19
  pointwise
  rw [cen_blk x1 V h1, rs_blk x1 V h1, ← EReal.coe_mul]
  rfl
include h4
theorem hatg_blk (j) : k0_pay20 (F := Ideal) x1 x4 j = ((vh V (j 0) (j 1) * G (j 1) : ℝ) : EReal) := by
  unfold k0_pay20
  pointwise
  rw [hat_blk x1 V h1, h4, ← EReal.coe_mul]
  rfl
variable (x5 : Vec Ideal S1x1024 .f32) (B : ℕ → ℝ) (h5 : ∀ j, x5 j = ((B (j 1) : ℝ) : EReal))
include h5
/-- The layer norm's result, as it is stored. -/
def mLn (x1 : Vec Ideal S256x1024 .f32) (x4 x5 : Vec Ideal S1x1024 .f32) : FVec Ideal S256x1024 .bf16 :=
  shapeCast S256x1024 (truncf .bf16 (addf (k0_pay20 x1 x4) (broadcastTo S256x1024 x5 broadcasts_S1x1024_S256x1024)) bitsLt_bf16_f32)
    shapeCasts_S256x1024_S256x1024
theorem mLn_apply (j) : mLn x1 x4 x5 j = ((ln G B V (j 0) (j 1) : ℝ) : EReal) := by
  unfold mLn
  pointwise
  rw [hatg_blk x1 x4 V G h1 h4, h5, ← EReal.coe_add]
  rfl
omit h5
variable (D : Vec Ideal S256x1024 .f32) (E : ℕ → ℕ → ℝ) (hD : ∀ j, D j = ((E (j 0) (j 1) : ℝ) : EReal))
include hD
/-- The gradient of v. -/
theorem dv_blk (j) : k0_pay313 (F := Ideal) (k0_pay16 x1) (k0_pay18 x1) (k0_pay19 x1) D x4 j
    = ((dnorm (gv V (j 0)) (fun k => E (j 0) k * G k) (j 1) * dgelu (V (j 0) (j 1)) : ℝ) : EReal) := by
  unfold k0_pay313
  pointwise [word_1024]
  rw [dgelu_blk x1 V h1]
  simp only [hat_blk x1 V h1, rs_blk x1 V h1, hD, h4, ← EReal.coe_mul]
  have e1 : (∑ k : Fin 1024, ((E (j 0) k * G k : ℝ) : EReal)) = _ := (coe_sum_range 1024 fun k => E (j 0) k * G k).symm
  have e2 : (∑ k : Fin 1024, ((E (j 0) k * G k * vh V (j 0) k : ℝ) : EReal)) = _ :=
    (coe_sum_range 1024 fun k => E (j 0) k * G k * vh V (j 0) k).symm
  refine (congrArg₂ (fun s t => ((rs (gv V (j 0)) : ℝ) : EReal) * (((E (j 0) (j 1) * G (j 1) : ℝ) : EReal) - Ideal.div s ((1024 : ℝ) : EReal)
    - ((vh V (j 0) (j 1) : ℝ) : EReal) * Ideal.div t ((1024 : ℝ) : EReal)) * ((dgelu (V (j 0) (j 1)) : ℝ) : EReal)) e1 e2).trans ?_
  simp only [div_1024, ← EReal.coe_mul, ← EReal.coe_sub]
  rfl
omit h4
/-- The block's rows added to the old gradients of the layer norm's scale and offset. -/
theorem dg_blk (old : Vec Ideal S1x1024 .f32) (j) : k0_pay311 (F := Ideal) (k0_pay19 x1) D old j
    = old j + ((∑ i ∈ range 256, E i (j 1) * vh V i (j 1) : ℝ) : EReal) := by
  unfold k0_pay311
  pointwise
  refine congrArg (old j + ·) ?_
  rw [coe_sum_range]
  refine Finset.sum_congr rfl fun k _ => ?_
  rw [hD, hat_blk x1 V h1, ← EReal.coe_mul]
  rfl
omit h1
theorem db_blk (old : Vec Ideal S1x1024 .f32) (j) : k0_pay312 (F := Ideal) D old j
    = old j + ((∑ i ∈ range 256, E i (j 1) : ℝ) : EReal) := by
  unfold k0_pay312
  pointwise
  refine congrArg (old j + ·) ?_
  rw [coe_sum_range]
  exact Finset.sum_congr rfl fun k _ => hD _
end Block
end Cert.Mix
-- ==== Proof.Mixer.Pieces.lean ====
module

public import proofs.«01_k».proof.Proof.Gen.MixerIdeal.Value
public import proofs.«01_k».proof.Proof.Mixer.Block
public import Idealize.ShloMosaic.Lib.Pipeline.ValueKit
public import Idealize.ShloMosaic.Lib.Pointwise

@[expose] public section

noncomputable section

namespace Cert.Mix

open Cert.MixerIdeal Cert.MixerIdeal.Gen Idealize.ShloMosaic Idealize.ShloMosaic.TcCoe
open Finset

section Lists
variable (v15 : View sig .tc .vmem S256x1024 .bf16) (v16 : View sig .tc .vmem S256x1024 .f32)
  (x0 x1 x2 x3 : Vec Ideal S256x1024 .f32) (x4 x5 : Vec Ideal S1x1024 .f32) (x6 x7 : Vec Ideal S8x128x128 .f32)

/-- The place of chunk `c` and group `g` in a block of 256 rows and 1024 columns, and of group `g` among eight matrices. -/
abbrev rT (g : Fin 8) (c : Fin 2) : Rect S256x1024 := Rect.unit ![128 * c.val, 128 * g.val] ![128, 128] (by
  have := g.isLt; have := c.isLt
  intro a; match a with
  | 0 => change 128 * c.val + 128 ≤ 256; omega
  | 1 => change 128 * g.val + 128 ≤ 1024; omega)
abbrev rG (g : Fin 8) : Rect S8x128x128 := Rect.unit ![g.val, 0, 0] ![1, 128, 128] (by
  have := g.isLt
  intro a; match a with
  | 0 => change g.val + 1 ≤ 8; omega
  | 1 => exact Nat.le_refl 128
  | 2 => exact Nat.le_refl 128)
abbrev rAll : Rect S256x1024 := Rect.unit ![0, 0] ![256, 1024] inb_S256x1024_S256x1024_0_0
abbrev rO (o : Fin 3) (g : Fin 8) (c : Fin 2) : Rect S256x3072 := Rect.unit ![128 * c.val, 1024 * o.val + 128 * g.val] ![128, 128] (by
  have := g.isLt; have := c.isLt; have := o.isLt
  intro a; match a with
  | 0 => change 128 * c.val + 128 ≤ 256; omega
  | 1 => change 1024 * o.val + 128 * g.val + 128 ≤ 3072; omega)

/-- A chunk of the layer norm's result, read back from its scratch buffer. -/
def pLn (g : Fin 8) (c : Fin 2) : Vec Ideal S128x128 .bf16 :=
  v15.readCov [⟨rAll, mLn x1 x4 x5⟩] (rT g c).toLoadRect
/-- The mixed values of one chunk's group. -/
def pM (g : Fin 8) (c : Fin 2) : Vec Ideal S128x128 .f32 :=
  k0_pay41 (F := Ideal) (mW (View.ld x6 (rG g))) (pLn v15 x1 x4 x5 g c) (View.ld x7 (rG g))
/-- The stores of a step, last first: the group and chunk of the `k`-th. -/
abbrev kg (k : Fin 16) : Fin 8 := ⟨7 - k.val / 2, by omega⟩
abbrev kc (k : Fin 16) : Fin 2 := ⟨1 - k.val % 2, by omega⟩
def dlList : List (View.Piece (Elt Ideal) S256x1024 .f32) :=
  (List.finRange 16).map fun k => ⟨rT (kg k) (kc k),
    mDL (View.ld x6 (rG (kg k))) (View.ld x0 (rT (kg k) (kc k))) (View.ld x2 (rT (kg k) (kc k))) (View.ld x3 (rT (kg k) (kc k)))⟩
/-- The gradient of the layer norm's result, read back from its scratch buffer. -/
def pDL : Vec Ideal S256x1024 .f32 := v16.readCov (dlList x0 x2 x3 x6) rAll.toLoadRect
def l8 : List (View.Piece (Elt Ideal) S256x3072 .bf16) :=
  ⟨Rect.unit ![0, 1024] ![256, 1024] inb_S256x3072_S256x1024_0_1024,
    k0_pay1 (k0_pay313 (F := Ideal) (k0_pay16 x1) (k0_pay18 x1) (k0_pay19 x1) (pDL v16 x0 x2 x3 x6) x4)⟩
  :: (List.finRange 16).flatMap fun k =>
    [⟨rO 2 (kg k) (kc k), mDZ (pM v15 x1 x4 x5 x6 x7 (kg k) (kc k)) (View.ld x0 (rT (kg k) (kc k))) (View.ld x2 (rT (kg k) (kc k))) (View.ld x3 (rT (kg k) (kc k)))⟩,
     ⟨rO 0 (kg k) (kc k), mDU (pM v15 x1 x4 x5 x6 x7 (kg k) (kc k)) (View.ld x0 (rT (kg k) (kc k))) (View.ld x2 (rT (kg k) (kc k))) (View.ld x3 (rT (kg k) (kc k)))⟩]
/-- One group's two chunks of the gradients of the mixing matrix and of its bias. -/
def pDWc (g : Fin 8) (c : Fin 2) : Vec Ideal S128x128 .f32 :=
  mDWc (pLn v15 x1 x4 x5 g c) (View.ld x0 (rT g c)) (View.ld x2 (rT g c)) (View.ld x3 (rT g c))
def pDBc (g : Fin 8) (c : Fin 2) : Vec Ideal S128x1 .f32 := mDBc (View.ld x0 (rT g c)) (View.ld x2 (rT g c)) (View.ld x3 (rT g c))
/-- What a step makes of a group's old gradient. -/
def fW (g : Fin 8) (old : Vec Ideal S1x128x128 .f32) : Vec Ideal S1x128x128 .f32 :=
  mDW old (pDWc v15 x0 x1 x2 x3 x4 x5 g 0) (pDWc v15 x0 x1 x2 x3 x4 x5 g 1)
def fB (g : Fin 8) (old : Vec Ideal S1x128x128 .f32) : Vec Ideal S1x128x128 .f32 :=
  mDB old (pDBc x0 x2 x3 g 0) (pDBc x0 x2 x3 g 1)
/-- What the last step makes of it: the upper triangle zeroed. -/
def fMask (old : Vec Ideal S1x128x128 .f32) : Vec Ideal S1x128x128 .f32 :=
  k0_pay9 (F := Ideal) (cmpi .sle (iota .tc S128x128 32 [1] iota_S128x128_d1_w32) (iota .tc S128x128 32 [0] iota_S128x128_d0_w32)) old
/-- The stores that replace every group's gradient by `f` of the old one: the old ones from before the step. -/
def lNew (f : Fin 8 → Vec Ideal S1x128x128 .f32 → Vec Ideal S1x128x128 .f32) (old : Vec Ideal S8x128x128 .f32) :
    List (View.Piece (Elt Ideal) S8x128x128 .f32) :=
  (List.finRange 8).reverse.map fun g => ⟨rG g, f g (View.ld old (rG g))⟩
/-- The same, each old one read back from what the step has stored so far. -/
def lFold (v : View sig .tc .vmem S8x128x128 .f32) (f : Fin 8 → Vec Ideal S1x128x128 .f32 → Vec Ideal S1x128x128 .f32)
    (L : List (View.Piece (Elt Ideal) S8x128x128 .f32)) (gs : List (Fin 8)) : List (View.Piece (Elt Ideal) S8x128x128 .f32) :=
  gs.foldl (fun L g => ⟨rG g, f g (v.readCov L (rG g).toLoadRect)⟩ :: L) L
def lZero : List (View.Piece (Elt Ideal) S8x128x128 .f32) :=
  [⟨Rect.unit ![0, 0, 0] ![8, 128, 128] inb_S8x128x128_S8x128x128_0_0_0, k0_pay10 (F := Ideal)⟩]
end Lists
section Outs
variable (m : (ℓ : Loc nD τ sig) → Buf (Elt Ideal) ℓ) (c : Dev nD) (t : Fin cfg0.N)
theorem outs8_A (h0 : t.val % 16 = 0) (h1 : ¬t.val % 16 = 15) : (outsAt0 m c t.val t.isLt).1
    = View.canon (l8 scM0_0.view scM0_1.view (iblk m c 0 t) (iblk m c 1 t) (iblk m c 2 t) (iblk m c 3 t) (iblk m c 4 t) (iblk m c 5 t) (iblk m c 6 t) (iblk m c 7 t)) := by
  rw [outsAt0_A m c t h0 h1]
  funext y
  frame_out
  rfl
theorem outs9_A (h0 : t.val % 16 = 0) (h1 : ¬t.val % 16 = 15) : (outsAt0 m c t.val t.isLt).2.1
    = View.canon (lFold (ms0_9 t).view (fW scM0_0.view (iblk m c 0 t) (iblk m c 1 t) (iblk m c 2 t) (iblk m c 3 t) (iblk m c 4 t) (iblk m c 5 t)) lZero (List.finRange 8)) := by
  rw [outsAt0_A m c t h0 h1]
  funext y
  frame_out
  rfl
theorem outs10_A (h0 : t.val % 16 = 0) (h1 : ¬t.val % 16 = 15) : (outsAt0 m c t.val t.isLt).2.2.1
    = View.canon (lFold (ms0_10 t).view (fB (iblk m c 0 t) (iblk m c 2 t) (iblk m c 3 t)) lZero (List.finRange 8)) := by
  rw [outsAt0_A m c t h0 h1]
  funext y
  frame_out
  rfl
theorem outs11_A (h0 : t.val % 16 = 0) (h1 : ¬t.val % 16 = 15) : (outsAt0 m c t.val t.isLt).2.2.2.1
    = k0_pay311 (F := Ideal) (k0_pay19 (iblk m c 1 t)) (pDL scM0_1.view (iblk m c 0 t) (iblk m c 2 t) (iblk m c 3 t) (iblk m c 6 t)) (k0_pay12 (F := Ideal)) := by
  rw [outsAt0_A m c t h0 h1]
  funext y
  frame_out
  rfl
theorem outs12_A (h0 : t.val % 16 = 0) (h1 : ¬t.val % 16 = 15) : (outsAt0 m c t.val t.isLt).2.2.2.2
    = k0_pay312 (F := Ideal) (pDL scM0_1.view (iblk m c 0 t) (iblk m c 2 t) (iblk m c 3 t) (iblk m c 6 t)) (k0_pay13 (F := Ideal)) := by
  rw [outsAt0_A m c t h0 h1]
  funext y
  frame_out
  rfl
theorem outs8_B (h0 : ¬t.val % 16 = 0) (h1 : ¬t.val % 16 = 15) : (outsAt0 m c t.val t.isLt).1
    = View.canon (l8 scM0_0.view scM0_1.view (iblk m c 0 t) (iblk m c 1 t) (iblk m c 2 t) (iblk m c 3 t) (iblk m c 4 t) (iblk m c 5 t) (iblk m c 6 t) (iblk m c 7 t)) := by
  rw [outsAt0_B m c t h0 h1]
  funext y
  frame_out
  rfl
theorem outs9_B (h0 : ¬t.val % 16 = 0) (h1 : ¬t.val % 16 = 15) : (outsAt0 m c t.val t.isLt).2.1
    = View.canon (lNew (fW scM0_0.view (iblk m c 0 t) (iblk m c 1 t) (iblk m c 2 t) (iblk m c 3 t) (iblk m c 4 t) (iblk m c 5 t)) ((outsAt0 m c (t.val - 1) (Nat.lt_of_le_of_lt (Nat.sub_le _ _) t.isLt)).2.1)) := by
  rw [outsAt0_B m c t h0 h1]
  funext y
  frame_out
  rfl
theorem outs10_B (h0 : ¬t.val % 16 = 0) (h1 : ¬t.val % 16 = 15) : (outsAt0 m c t.val t.isLt).2.2.1
    = View.canon (lNew (fB (iblk m c 0 t) (iblk m c 2 t) (iblk m c 3 t)) ((outsAt0 m c (t.val - 1) (Nat.lt_of_le_of_lt (Nat.sub_le _ _) t.isLt)).2.2.1)) := by
  rw [outsAt0_B m c t h0 h1]
  funext y
  frame_out
  rfl
theorem outs11_B (h0 : ¬t.val % 16 = 0) (h1 : ¬t.val % 16 = 15) : (outsAt0 m c t.val t.isLt).2.2.2.1
    = k0_pay311 (F := Ideal) (k0_pay19 (iblk m c 1 t)) (pDL scM0_1.view (iblk m c 0 t) (iblk m c 2 t) (iblk m c 3 t) (iblk m c 6 t)) ((outsAt0 m c (t.val - 1) (Nat.lt_of_le_of_lt (Nat.sub_le _ _) t.isLt)).2.2.2.1) := by
  rw [outsAt0_B m c t h0 h1]
  funext y
  frame_out
  rfl
theorem outs12_B (h0 : ¬t.val % 16 = 0) (h1 : ¬t.val % 16 = 15) : (outsAt0 m c t.val t.isLt).2.2.2.2
    = k0_pay312 (F := Ideal) (pDL scM0_1.view (iblk m c 0 t) (iblk m c 2 t) (iblk m c 3 t) (iblk m c 6 t)) ((outsAt0 m c (t.val - 1) (Nat.lt_of_le_of_lt (Nat.sub_le _ _) t.isLt)).2.2.2.2) := by
  rw [outsAt0_B m c t h0 h1]
  funext y
  frame_out
  rfl
theorem outs8_C (h0 : ¬t.val % 16 = 0) (h1 : t.val % 16 = 15) : (outsAt0 m c t.val t.isLt).1
    = View.canon (l8 scM0_0.view scM0_1.view (iblk m c 0 t) (iblk m c 1 t) (iblk m c 2 t) (iblk m c 3 t) (iblk m c 4 t) (iblk m c 5 t) (iblk m c 6 t) (iblk m c 7 t)) := by
  rw [outsAt0_C m c t h0 h1]
  funext y
  frame_out
  rfl
theorem outs9_C (h0 : ¬t.val % 16 = 0) (h1 : t.val % 16 = 15) : (outsAt0 m c t.val t.isLt).2.1
    = View.canon (lFold (ms0_9 t).view (fun _ => fMask) (lNew (fW scM0_0.view (iblk m c 0 t) (iblk m c 1 t) (iblk m c 2 t) (iblk m c 3 t) (iblk m c 4 t) (iblk m c 5 t)) ((outsAt0 m c (t.val - 1) (Nat.lt_of_le_of_lt (Nat.sub_le _ _) t.isLt)).2.1)) (List.finRange 8)) := by
  rw [outsAt0_C m c t h0 h1]
  funext y
  frame_out
  rfl
theorem outs10_C (h0 : ¬t.val % 16 = 0) (h1 : t.val % 16 = 15) : (outsAt0 m c t.val t.isLt).2.2.1
    = View.canon (lNew (fB (iblk m c 0 t) (iblk m c 2 t) (iblk m c 3 t)) ((outsAt0 m c (t.val - 1) (Nat.lt_of_le_of_lt (Nat.sub_le _ _) t.isLt)).2.2.1)) := by
  rw [outsAt0_C m c t h0 h1]
  funext y
  frame_out
  rfl
theorem outs11_C (h0 : ¬t.val % 16 = 0) (h1 : t.val % 16 = 15) : (outsAt0 m c t.val t.isLt).2.2.2.1
    = k0_pay311 (F := Ideal) (k0_pay19 (iblk m c 1 t)) (pDL scM0_1.view (iblk m c 0 t) (iblk m c 2 t) (iblk m c 3 t) (iblk m c 6 t)) ((outsAt0 m c (t.val - 1) (Nat.lt_of_le_of_lt (Nat.sub_le _ _) t.isLt)).2.2.2.1) := by
  rw [outsAt0_C m c t h0 h1]
  funext y
  frame_out
  rfl
theorem outs12_C (h0 : ¬t.val % 16 = 0) (h1 : t.val % 16 = 15) : (outsAt0 m c t.val t.isLt).2.2.2.2
    = k0_pay312 (F := Ideal) (pDL scM0_1.view (iblk m c 0 t) (iblk m c 2 t) (iblk m c 3 t) (iblk m c 6 t)) ((outsAt0 m c (t.val - 1) (Nat.lt_of_le_of_lt (Nat.sub_le _ _) t.isLt)).2.2.2.2) := by
  rw [outsAt0_C m c t h0 h1]
  funext y
  frame_out
  rfl
end Outs
end Cert.Mix
-- ==== Proof.Mixer.Step.lean ====
module

public import proofs.«01_k».proof.Proof.Mixer.Pieces
public import Idealize.ShloMosaic.Lib.Pipeline.ValueKit
public import Idealize.ShloMosaic.Lib.Pointwise

@[expose] public section

noncomputable section

namespace Cert.Mix

open Cert.MixerIdeal Cert.MixerIdeal.Gen Idealize.ShloMosaic Idealize.ShloMosaic.TcCoe
open Finset

/-- Chunk `c` of a block's rows. -/
def sh (f : ℕ → ℕ → ℝ) (c : ℕ) (i d : ℕ) : ℝ := f (128 * c + i) d

/-- A place of a stored rectangle, by coordinates. -/
theorem emb_val {S : Shape} {off size : Fin S.rank → ℕ} {inb : ∀ q, off q + size q ≤ S.size q} {x : (Rect.unit off size inb).shape.Idx}
    {y : S.Idx} (hx : (Rect.unit off size inb).emb x = y) (q : Fin S.rank) : (y q).val = off q + (x q).val := by
  rw [← hx]
  exact Rect.idx_unit_val ..

section Step
variable (v15 : View sig .tc .vmem S256x1024 .bf16) (v16 : View sig .tc .vmem S256x1024 .f32)
  {x0 x1 x2 x3 : Vec Ideal S256x1024 .f32} {x4 x5 : Vec Ideal S1x1024 .f32} {x6 x7 : Vec Ideal S8x128x128 .f32}
  {u v z a : ℕ → ℕ → ℝ} {G B : ℕ → ℝ} {W : ℕ → ℕ → ℕ → ℝ} {b : ℕ → ℕ → ℝ}

theorem ld_rT (h0 : ∀ j, x0 j = ((u (j 0) (j 1) : ℝ) : EReal)) (g : Fin 8) (c : Fin 2) (x : S128x128.Idx) :
    View.ld x0 (rT g c) x = ((u (128 * c.val + x 0) (128 * g.val + x 1) : ℝ) : EReal) := by
  rw [View.ld_apply, h0]
  congr 2 <;> exact Rect.idx_unit_val ..
theorem ld_rG (h6 : ∀ j, x6 j = ((W (j 0) (j 1) (j 2) : ℝ) : EReal)) (g : Fin 8) (x : S1x128x128.Idx) :
    View.ld x6 (rG g) x = ((W g (x 1) (x 2) : ℝ) : EReal) := by
  have hx : (x 0).val = 0 := by have := (x 0).isLt; change (x 0).val < 1 at this; omega
  rw [View.ld_apply, h6]
  have e0 : ((rG g).idx x 0).val = g.val + (x 0).val := Rect.idx_unit_val ..
  have e1 : ((rG g).idx x 1).val = 0 + (x 1).val := Rect.idx_unit_val ..
  have e2 : ((rG g).idx x 2).val = 0 + (x 2).val := Rect.idx_unit_val ..
  rw [e0, e1, e2, hx, Nat.add_zero, Nat.zero_add, Nat.zero_add]

theorem pLn_apply (h1 : ∀ j, x1 j = ((v (j 0) (j 1) : ℝ) : EReal)) (h4 : ∀ j, x4 j = ((G (j 1) : ℝ) : EReal))
    (h5 : ∀ j, x5 j = ((B (j 1) : ℝ) : EReal)) (g : Fin 8) (c : Fin 2) (x : S128x128.Idx) :
    pLn v15 x1 x4 x5 g c x = ((ln G B v (128 * c.val + x 0) (128 * g.val + x 1) : ℝ) : EReal) := by
  unfold pLn
  rw [View.readCov_eq_canon']
  have e : View.canon [(⟨rAll, mLn x1 x4 x5⟩ : View.Piece (Elt Ideal) S256x1024 .bf16)] = mLn x1 x4 x5 :=
    View.canon_cons_unit_lit' _ _ _ (by intro a; match a with | 0 => rfl | 1 => rfl)
  rw [e]
  refine (mLn_apply x1 x4 v G h1 h4 x5 B h5 _).trans ?_
  congr 2 <;> exact Rect.idx_unit_val ..

theorem tri_eq (W : ℕ → ℕ → ℕ → ℝ) (g x k : ℕ) (hx : x < 128) (i : ℕ) :
    (if k ≤ i then W g i k else 0) = tri W ((128 * g + x) / 128) i k := by
  unfold tri
  rw [show (128 * g + x) / 128 = g by omega]

theorem pM_apply (h1 : ∀ j, x1 j = ((v (j 0) (j 1) : ℝ) : EReal)) (h4 : ∀ j, x4 j = ((G (j 1) : ℝ) : EReal))
    (h5 : ∀ j, x5 j = ((B (j 1) : ℝ) : EReal)) (h6 : ∀ j, x6 j = ((W (j 0) (j 1) (j 2) : ℝ) : EReal))
    (h7 : ∀ j, x7 j = ((b (j 0) (j 1) : ℝ) : EReal)) (g : Fin 8) (c : Fin 2) (x : S128x128.Idx) :
    pM v15 x1 x4 x5 x6 x7 g c x = ((mixed G B W b (sh v c) (x 0) (128 * g.val + x 1) : ℝ) : EReal) := by
  have hx : (x 1).val < 128 := (x 1).isLt
  unfold pM
  rw [mixed_pay _ _ _ x (fun i k => if k ≤ i then W g i k else 0) (fun k d => ln G B v (128 * c.val + k) (128 * g.val + d)) (fun i => b g i)
    (fun y => mW_apply _ (W g) (ld_rG h6 g) y) (fun y => pLn_apply v15 h1 h4 h5 g c y) (fun y => ld_rG (W := fun g i _ => b g i) h7 g y)]
  unfold mixed
  rw [show (128 * g.val + (x 1).val) / 128 = g.val by omega]
  rfl

theorem mDL_step (h0 : ∀ j, x0 j = ((u (j 0) (j 1) : ℝ) : EReal)) (h2 : ∀ j, x2 j = ((z (j 0) (j 1) : ℝ) : EReal))
    (h3 : ∀ j, x3 j = ((a (j 0) (j 1) : ℝ) : EReal)) (h6 : ∀ j, x6 j = ((W (j 0) (j 1) (j 2) : ℝ) : EReal)) (g : Fin 8) (c : Fin 2)
    (x : S128x128.Idx) :
    mDL (View.ld x6 (rG g)) (View.ld x0 (rT g c)) (View.ld x2 (rT g c)) (View.ld x3 (rT g c)) x
      = ((dL W (sh u c) (sh z c) (sh a c) (x 0) (128 * g.val + x 1) : ℝ) : EReal) := by
  have hx : (x 1).val < 128 := (x 1).isLt
  rw [mDL_apply _ _ _ _ x (W g) (fun i d => u (128 * c.val + i) (128 * g.val + d)) (fun i d => z (128 * c.val + i) (128 * g.val + d))
    (fun i d => a (128 * c.val + i) (128 * g.val + d)) (ld_rG h6 g) (ld_rT h0 g c) (ld_rT h2 g c) (ld_rT h3 g c)]
  unfold dL tri
  rw [show (128 * g.val + (x 1).val) / 128 = g.val by omega]
  rfl

/-- Which store a place belongs to. -/
theorem exists_k (r d : ℕ) (hr : r < 256) (hd : d < 1024) : ∃ k : Fin 16, (kc k).val = r / 128 ∧ (kg k).val = d / 128 := by
  refine ⟨⟨2 * (7 - d / 128) + (1 - r / 128), by omega⟩, ?_, ?_⟩
  · change 1 - (2 * (7 - d / 128) + (1 - r / 128)) % 2 = r / 128; omega
  · change 7 - (2 * (7 - d / 128) + (1 - r / 128)) / 2 = d / 128; omega

theorem pDL_apply (h0 : ∀ j, x0 j = ((u (j 0) (j 1) : ℝ) : EReal)) (h2 : ∀ j, x2 j = ((z (j 0) (j 1) : ℝ) : EReal))
    (h3 : ∀ j, x3 j = ((a (j 0) (j 1) : ℝ) : EReal)) (h6 : ∀ j, x6 j = ((W (j 0) (j 1) (j 2) : ℝ) : EReal)) (j : S256x1024.Idx) :
    pDL v16 x0 x2 x3 x6 j = ((dL W (sh u ((j 0).val / 128)) (sh z ((j 0).val / 128)) (sh a ((j 0).val / 128)) ((j 0).val % 128) (j 1) : ℝ) : EReal) := by
  have hr : (j 0).val < 256 := (j 0).isLt
  have hd : (j 1).val < 1024 := (j 1).isLt
  unfold pDL
  rw [View.readCov_eq_canon']
  have e : rAll.toLoadRect.idx j = j := by
    funext q
    apply Fin.ext
    refine (Rect.idx_unit_val ..).trans ?_
    match q with
    | 0 => exact Nat.zero_add _
    | 1 => exact Nat.zero_add _
  change View.canon _ (rAll.toLoadRect.idx j) = _
  rw [e]
  apply View.canon_eq_of_allAt
  · obtain ⟨k, h1, h2⟩ := exists_k _ _ hr hd
    refine ⟨_, List.mem_map_of_mem (List.mem_finRange k), ?_⟩
    show j ∈ (rT (kg k) (kc k)).set
    refine Rect.mem_set_unit.mpr fun q => ?_
    match q with
    | 0 => change 128 * (kc k).val ≤ (j 0).val ∧ (j 0).val < 128 * (kc k).val + 128; omega
    | 1 => change 128 * (kg k).val ≤ (j 1).val ∧ (j 1).val < 128 * (kg k).val + 128; omega
  · intro p hp x hx
    obtain ⟨k, -, rfl⟩ := List.mem_map.mp hp
    replace hx : (rT (kg k) (kc k)).emb x = j := hx
    have e0 : (j 0).val = 128 * (kc k).val + (x 0).val := emb_val hx _
    have e1 : (j 1).val = 128 * (kg k).val + (x 1).val := emb_val hx _
    have hx0 : (x 0).val < 128 := (x 0).isLt
    refine (mDL_step h0 h2 h3 h6 (kg k) (kc k) x).trans ?_
    rw [show (j 0).val / 128 = (kc k).val by omega, show (j 0).val % 128 = (x 0).val by omega, e1]

/-- What a step stores of the gradients of u, v and z, side by side: row `r` of its 256 rows. -/
def o8 (G B : ℕ → ℝ) (W : ℕ → ℕ → ℕ → ℝ) (b : ℕ → ℕ → ℝ) (u v z a : ℕ → ℕ → ℝ) (r d : ℕ) : ℝ :=
  if d < 1024 then dU G B W b (sh u (r / 128)) (sh v (r / 128)) (sh z (r / 128)) (sh a (r / 128)) (r % 128) d
  else if d < 2048 then dV G W (sh u (r / 128)) (sh v (r / 128)) (sh z (r / 128)) (sh a (r / 128)) (r % 128) (d - 1024)
  else dZ G B W b (sh u (r / 128)) (sh v (r / 128)) (sh z (r / 128)) (sh a (r / 128)) (r % 128) (d - 2048)

theorem l8_apply (h0 : ∀ j, x0 j = ((u (j 0) (j 1) : ℝ) : EReal)) (h1 : ∀ j, x1 j = ((v (j 0) (j 1) : ℝ) : EReal))
    (h2 : ∀ j, x2 j = ((z (j 0) (j 1) : ℝ) : EReal)) (h3 : ∀ j, x3 j = ((a (j 0) (j 1) : ℝ) : EReal))
    (h4 : ∀ j, x4 j = ((G (j 1) : ℝ) : EReal)) (h5 : ∀ j, x5 j = ((B (j 1) : ℝ) : EReal))
    (h6 : ∀ j, x6 j = ((W (j 0) (j 1) (j 2) : ℝ) : EReal)) (h7 : ∀ j, x7 j = ((b (j 0) (j 1) : ℝ) : EReal)) (y : S256x3072.Idx) :
    View.canon (l8 v15 v16 x0 x1 x2 x3 x4 x5 x6 x7) y = ((o8 G B W b u v z a (y 0) (y 1) : ℝ) : EReal) := by
  have hr : (y 0).val < 256 := (y 0).isLt
  have hd : (y 1).val < 3072 := (y 1).isLt
  apply View.canon_eq_of_allAt
  · by_cases hc : 1024 ≤ (y 1).val ∧ (y 1).val < 2048
    · refine ⟨_, List.mem_cons_self, ?_⟩
      show y ∈ (Rect.unit ![0, 1024] ![256, 1024] inb_S256x3072_S256x1024_0_1024 : Rect S256x3072).set
      refine Rect.mem_set_unit.mpr fun q => ?_
      match q with
      | 0 => change 0 ≤ (y 0).val ∧ (y 0).val < 0 + 256; omega
      | 1 => change 1024 ≤ (y 1).val ∧ (y 1).val < 1024 + 1024; omega
    · obtain ⟨k, h1, h2⟩ := exists_k (y 0).val ((y 1).val % 1024) hr (Nat.mod_lt _ (by omega))
      have hk := (kg k).isLt
      by_cases hz : (y 1).val < 1024
      · refine ⟨_, List.mem_cons_of_mem _ (List.mem_flatMap.mpr ⟨k, List.mem_finRange k, List.mem_cons_of_mem _ List.mem_cons_self⟩), ?_⟩
        show y ∈ (rO 0 (kg k) (kc k)).set
        refine Rect.mem_set_unit.mpr fun q => ?_
        match q with
        | 0 => change 128 * (kc k).val ≤ (y 0).val ∧ (y 0).val < 128 * (kc k).val + 128; omega
        | 1 => change 1024 * 0 + 128 * (kg k).val ≤ (y 1).val ∧ (y 1).val < 1024 * 0 + 128 * (kg k).val + 128; omega
      · refine ⟨_, List.mem_cons_of_mem _ (List.mem_flatMap.mpr ⟨k, List.mem_finRange k, List.mem_cons_self⟩), ?_⟩
        show y ∈ (rO 2 (kg k) (kc k)).set
        refine Rect.mem_set_unit.mpr fun q => ?_
        match q with
        | 0 => change 128 * (kc k).val ≤ (y 0).val ∧ (y 0).val < 128 * (kc k).val + 128; omega
        | 1 => change 1024 * 2 + 128 * (kg k).val ≤ (y 1).val ∧ (y 1).val < 1024 * 2 + 128 * (kg k).val + 128; omega
  · intro p hp
    rcases List.mem_cons.mp hp with rfl | hp
    · intro x hx
      replace hx : (Rect.unit ![0, 1024] ![256, 1024] inb_S256x3072_S256x1024_0_1024 : Rect S256x3072).emb x = y := hx
      have e0 : (y 0).val = 0 + (x 0).val := emb_val hx _
      have e1 : (y 1).val = 1024 + (x 1).val := emb_val hx _
      have hx1 : (x 1).val < 1024 := (x 1).isLt
      have hv := dv_blk x1 x4 v G h1 h4 _ (fun r d => dL W (sh u (r / 128)) (sh z (r / 128)) (sh a (r / 128)) (r % 128) d) (pDL_apply v16 h0 h2 h3 h6) x
      refine Eq.trans (b := k0_pay313 (F := Ideal) (k0_pay16 x1) (k0_pay18 x1) (k0_pay19 x1) (pDL v16 x0 x2 x3 x6) x4 x) ?_ (hv.trans ?_)
      · unfold k0_pay1
        pointwise
      · unfold o8 dV
        rw [if_neg (by omega), if_pos (by omega), show (y 1).val - 1024 = (x 1).val by omega, show (x 0).val = (y 0).val by omega]
        have es : ∀ f : ℕ → ℕ → ℝ, sh f ((y 0).val / 128) ((y 0).val % 128) = f (y 0).val := fun f => by
          funext d; unfold sh; rw [show 128 * ((y 0).val / 128) + (y 0).val % 128 = (y 0).val by omega]
        unfold gv
        rw [es]
    · obtain ⟨k, -, hp⟩ := List.mem_flatMap.mp hp
      have hk := (kg k).isLt
      rcases List.mem_cons.mp hp with rfl | hp
      · intro x hx
        replace hx : (rO 2 (kg k) (kc k)).emb x = y := hx
        have e0 : (y 0).val = 128 * (kc k).val + (x 0).val := emb_val hx _
        have e1 : (y 1).val = 1024 * 2 + 128 * (kg k).val + (x 1).val := emb_val hx _
        have hx0 : (x 0).val < 128 := (x 0).isLt
        have hx1 : (x 1).val < 128 := (x 1).isLt
        refine (mDZ_apply _ _ _ _ x _ _ _ _ (pM_apply v15 h1 h4 h5 h6 h7 (kg k) (kc k) x) (ld_rT h0 _ _ x) (ld_rT h2 _ _ x) (ld_rT h3 _ _ x)).trans ?_
        unfold o8 dZ
        rw [if_neg (by omega), if_neg (by omega), show (y 1).val - 2048 = 128 * (kg k).val + (x 1).val by omega,
          show (y 0).val / 128 = (kc k).val by omega, show (y 0).val % 128 = (x 0).val by omega]
        rfl
      · rcases List.mem_cons.mp hp with rfl | hp
        · intro x hx
          replace hx : (rO 0 (kg k) (kc k)).emb x = y := hx
          have e0 : (y 0).val = 128 * (kc k).val + (x 0).val := emb_val hx _
          have e1 : (y 1).val = 1024 * 0 + 128 * (kg k).val + (x 1).val := emb_val hx _
          have hx0 : (x 0).val < 128 := (x 0).isLt
          have hx1 : (x 1).val < 128 := (x 1).isLt
          refine (mDU_apply _ _ _ _ x _ _ _ _ (pM_apply v15 h1 h4 h5 h6 h7 (kg k) (kc k) x) (ld_rT h0 _ _ x) (ld_rT h2 _ _ x) (ld_rT h3 _ _ x)).trans ?_
          unfold o8 dU
          rw [if_pos (by omega), show (y 1).val = 128 * (kg k).val + (x 1).val by omega,
            show (y 0).val / 128 = (kc k).val by omega, show (y 0).val % 128 = (x 0).val by omega]
          rfl
        · exact absurd hp List.not_mem_nil

/-! The accumulated outputs -/

/-- The group of a place among eight matrices. -/
abbrev gOf (y : S8x128x128.Idx) : Fin 8 := ⟨(y 0).val, (y 0).isLt⟩

theorem mem_rG (y : S8x128x128.Idx) (g : Fin 8) : y ∈ (rG g).set ↔ gOf y = g := by
  have h1 : (y 1).val < 128 := (y 1).isLt
  have h2 : (y 2).val < 128 := (y 2).isLt
  refine Rect.mem_set_unit.trans ⟨fun h => Fin.ext ?_, fun h q => ?_⟩
  · have := h 0; change g.val ≤ (y 0).val ∧ (y 0).val < g.val + 1 at this; change (y 0).val = g.val; omega
  · match q with
    | 0 => rw [← h]; change (y 0).val ≤ (y 0).val ∧ (y 0).val < (y 0).val + 1; omega
    | 1 => change 0 ≤ (y 1).val ∧ (y 1).val < 0 + 128; omega
    | 2 => change 0 ≤ (y 2).val ∧ (y 2).val < 0 + 128; omega
theorem idx_rG (y : S8x128x128.Idx) : (rG (gOf y)).emb (ix3 0 (y 1) (y 2)) = y := by
  funext q
  apply Fin.ext
  refine (Rect.idx_unit_val ..).trans ?_
  match q with
  | 0 => exact Nat.add_zero _
  | 1 => exact Nat.zero_add _
  | 2 => exact Nat.zero_add _
theorem canon_rG (L : List (View.Piece (Elt Ideal) S8x128x128 .f32)) (g : Fin 8) (w : Vec Ideal S1x128x128 .f32) (y : S8x128x128.Idx) :
    View.canon (⟨rG g, w⟩ :: L) y = if gOf y = g then w (ix3 0 (y 1) (y 2)) else View.canon L y := by
  split
  · next h =>
    subst h
    conv_lhs => rw [← idx_rG y]
    exact View.canon_cons_emb ..
  · next h => exact View.canon_cons_of_not_mem _ _ (fun hm => h ((mem_rG y g).mp hm))
theorem lNew_apply (f : Fin 8 → Vec Ideal S1x128x128 .f32 → Vec Ideal S1x128x128 .f32) (old : Vec Ideal S8x128x128 .f32) (y : S8x128x128.Idx) :
    View.canon (lNew f old) y = f (gOf y) (View.ld old (rG (gOf y))) (ix3 0 (y 1) (y 2)) := by
  apply View.canon_eq_of_allAt
  · exact ⟨_, List.mem_map_of_mem (List.mem_reverse.mpr (List.mem_finRange (gOf y))), (mem_rG y _).mpr rfl⟩
  · intro p hp x hx
    obtain ⟨g, -, rfl⟩ := List.mem_map.mp hp
    have hg : gOf y = g := (mem_rG y g).mp (hx ▸ (rG g).idx_mem x)
    subst hg
    have : x = ix3 0 (y 1) (y 2) := (rG (gOf y)).emb.injective (hx.trans (idx_rG y).symm)
    subst this
    rfl
theorem lFold_apply (vw : View sig .tc .vmem S8x128x128 .f32) (f : Fin 8 → Vec Ideal S1x128x128 .f32 → Vec Ideal S1x128x128 .f32)
    (L : List (View.Piece (Elt Ideal) S8x128x128 .f32)) (gs : List (Fin 8)) (hn : gs.Nodup) (y : S8x128x128.Idx) :
    View.canon (lFold vw f L gs) y = if gOf y ∈ gs then f (gOf y) (View.ld (View.canon L) (rG (gOf y))) (ix3 0 (y 1) (y 2)) else View.canon L y := by
  induction gs using List.reverseRecOn generalizing y with
  | nil => simp [lFold]
  | append_singleton gs g ih =>
    have hn' := List.nodup_append.mp hn
    have hg : g ∉ gs := fun h => hn'.2.2 g h g (List.mem_singleton.mpr rfl) rfl
    unfold lFold
    rw [List.foldl_append]
    change View.canon (⟨rG g, f g (vw.readCov (lFold vw f L gs) (rG g).toLoadRect)⟩ :: lFold vw f L gs) y = _
    rw [canon_rG, ih hn'.1]
    have e : vw.readCov (lFold vw f L gs) (rG g).toLoadRect = View.ld (View.canon L) (rG g) := by
      rw [View.readCov_eq_canon']
      funext x
      have h0 : gOf ((rG g).idx x) = g := (mem_rG _ g).mp ((rG g).idx_mem x)
      change View.canon (lFold vw f L gs) ((rG g).idx x) = View.canon L ((rG g).idx x)
      rw [ih hn'.1, h0, if_neg hg]
    rw [e]
    by_cases h : gOf y = g
    · rw [if_pos h, if_pos (by simp [h]), h]
    · rw [if_neg h]; simp [h]

theorem fW_apply (h0 : ∀ j, x0 j = ((u (j 0) (j 1) : ℝ) : EReal)) (h1 : ∀ j, x1 j = ((v (j 0) (j 1) : ℝ) : EReal))
    (h2 : ∀ j, x2 j = ((z (j 0) (j 1) : ℝ) : EReal)) (h3 : ∀ j, x3 j = ((a (j 0) (j 1) : ℝ) : EReal))
    (h4 : ∀ j, x4 j = ((G (j 1) : ℝ) : EReal)) (h5 : ∀ j, x5 j = ((B (j 1) : ℝ) : EReal)) (g : Fin 8)
    (old : Vec Ideal S1x128x128 .f32) (x : S1x128x128.Idx) :
    fW v15 x0 x1 x2 x3 x4 x5 g old x = old x + ((dWp G B (sh u 0) (sh v 0) (sh z 0) (sh a 0) g (x 1) (x 2)
      + dWp G B (sh u 1) (sh v 1) (sh z 1) (sh a 1) g (x 1) (x 2) : ℝ) : EReal) := by
  unfold fW
  rw [mDW_apply, EReal.coe_add]
  unfold pDWc
  refine congrArg (old x + ·) (congrArg₂ (· + ·) ?_ ?_)
  · exact mDWc_apply _ _ _ _ _ (fun i d => ln G B v (128 * (0 : Fin 2).val + i) (128 * g.val + d)) (fun i d => u (128 * (0 : Fin 2).val + i) (128 * g.val + d))
      (fun i d => z (128 * (0 : Fin 2).val + i) (128 * g.val + d)) (fun i d => a (128 * (0 : Fin 2).val + i) (128 * g.val + d)) (pLn_apply v15 h1 h4 h5 g 0) (ld_rT h0 g 0) (ld_rT h2 g 0) (ld_rT h3 g 0)
  · exact mDWc_apply _ _ _ _ _ (fun i d => ln G B v (128 * (1 : Fin 2).val + i) (128 * g.val + d)) (fun i d => u (128 * (1 : Fin 2).val + i) (128 * g.val + d))
      (fun i d => z (128 * (1 : Fin 2).val + i) (128 * g.val + d)) (fun i d => a (128 * (1 : Fin 2).val + i) (128 * g.val + d)) (pLn_apply v15 h1 h4 h5 g 1) (ld_rT h0 g 1) (ld_rT h2 g 1) (ld_rT h3 g 1)
theorem fB_apply (h0 : ∀ j, x0 j = ((u (j 0) (j 1) : ℝ) : EReal))
    (h2 : ∀ j, x2 j = ((z (j 0) (j 1) : ℝ) : EReal)) (h3 : ∀ j, x3 j = ((a (j 0) (j 1) : ℝ) : EReal)) (g : Fin 8)
    (old : Vec Ideal S1x128x128 .f32) (x : S1x128x128.Idx) :
    fB x0 x2 x3 g old x = old x + ((dbp (sh u 0) (sh z 0) (sh a 0) g (x 1) + dbp (sh u 1) (sh z 1) (sh a 1) g (x 1) : ℝ) : EReal) := by
  unfold fB
  rw [mDB_apply, EReal.coe_add]
  unfold pDBc
  refine congrArg (old x + ·) (congrArg₂ (· + ·) ?_ ?_)
  · exact mDBc_apply _ _ _ _ (fun i d => u (128 * (0 : Fin 2).val + i) (128 * g.val + d))
      (fun i d => z (128 * (0 : Fin 2).val + i) (128 * g.val + d)) (fun i d => a (128 * (0 : Fin 2).val + i) (128 * g.val + d)) (ld_rT h0 g 0) (ld_rT h2 g 0) (ld_rT h3 g 0)
  · exact mDBc_apply _ _ _ _ (fun i d => u (128 * (1 : Fin 2).val + i) (128 * g.val + d))
      (fun i d => z (128 * (1 : Fin 2).val + i) (128 * g.val + d)) (fun i d => a (128 * (1 : Fin 2).val + i) (128 * g.val + d)) (ld_rT h0 g 1) (ld_rT h2 g 1) (ld_rT h3 g 1)
theorem fMask_apply (old : Vec Ideal S1x128x128 .f32) (x : S1x128x128.Idx) :
    fMask old x = if (x 2).val ≤ (x 1).val then old x else 0 := by
  unfold fMask k0_pay9
  pointwise
  have h0 := (x 1).isLt
  have h1 := (x 2).isLt
  change (x 1).val < 128 at h0
  change (x 2).val < 128 at h1
  by_cases h : (x 2).val ≤ (x 1).val
  · rw [if_pos h, (WordCmp.cmpi_sle_ofNat_eq_one_iff (by omega) (by omega)).mpr h]; rfl
  · rw [if_neg h, (WordCmp.cmpi_sle_ofNat_eq_zero_iff (by omega) (by omega)).mpr (by omega)]; rfl
theorem lZero_apply (y : S8x128x128.Idx) : View.canon lZero y = 0 := by
  have e : View.canon lZero = k0_pay10 (F := Ideal) :=
    View.canon_cons_unit_lit' _ _ _ (by intro a; match a with | 0 => rfl | 1 => rfl | 2 => rfl)
  rw [e]
  unfold k0_pay10
  pointwise
theorem zero12 (j) : k0_pay12 (F := Ideal) j = 0 := by unfold k0_pay12; pointwise
theorem zero13 (j) : k0_pay13 (F := Ideal) j = 0 := by unfold k0_pay13; pointwise
end Step
end Cert.Mix
-- ==== Proof.Mixer.Acc.lean ====
module

public import proofs.«01_k».proof.Proof.Mixer.Step
public import Idealize.ShloMosaic.Lib.Pipeline.ValueKit
public import Idealize.ShloMosaic.Lib.Pointwise

@[expose] public section

noncomputable section

namespace Cert.Mix

open Cert.MixerIdeal Cert.MixerIdeal.Gen Idealize.ShloMosaic Idealize.ShloMosaic.TcCoe
open Finset

/-- Block `t` of 256 rows. -/
def blk (f : ℕ → ℕ → ℝ) (t i d : ℕ) : ℝ := f (256 * t + i) d

theorem sh_blk (f : ℕ → ℕ → ℝ) (t c : ℕ) : sh (blk f t) c = sh f (2 * t + c) := by
  funext i d
  unfold sh blk
  rw [show 256 * t + (128 * c + i) = 128 * (2 * t + c) + i by ring]

/-- The gradient of the layer norm's result at row `R` of all. -/
def gL (W : ℕ → ℕ → ℕ → ℝ) (U Z A : ℕ → ℕ → ℝ) (R d : ℕ) : ℝ := dL W (sh U (R / 128)) (sh Z (R / 128)) (sh A (R / 128)) (R % 128) d

theorem gL_blk (W : ℕ → ℕ → ℕ → ℝ) (U Z A : ℕ → ℕ → ℝ) (t i d : ℕ) : gL W (blk U t) (blk Z t) (blk A t) i d = gL W U Z A (256 * t + i) d := by
  unfold gL
  rw [sh_blk, sh_blk, sh_blk, show (256 * t + i) / 128 = 2 * t + i / 128 by omega, show (256 * t + i) % 128 = i % 128 by omega]

/-- Two more chunks of a sum over chunks. -/
theorem two_more (f : ℕ → ℝ) (n : ℕ) : ∑ k ∈ range (2 * (n + 1)), f k = (∑ k ∈ range (2 * n), f k) + (f (2 * n) + f (2 * n + 1)) := by
  rw [show 2 * (n + 1) = 2 * n + 1 + 1 by ring, Finset.sum_range_succ, Finset.sum_range_succ]
  ring

/-- The mixing matrix's gradient before the mask, over the first `n` chunks. -/
def sW (U V Z A : ℕ → ℕ → ℝ) (G B : ℕ → ℝ) (n g i j : ℕ) : ℝ := ∑ k ∈ range n, dWp G B (sh U k) (sh V k) (sh Z k) (sh A k) g i j
def sB (U Z A : ℕ → ℕ → ℝ) (n g i : ℕ) : ℝ := ∑ k ∈ range n, dbp (sh U k) (sh Z k) (sh A k) g i

section Acc
variable (m : (ℓ : Loc nD τ sig) → Buf (Elt Ideal) ℓ) (c : Dev nD) (U V Z A : ℕ → ℕ → ℝ) (G B : ℕ → ℝ) (W : ℕ → ℕ → ℕ → ℝ) (b : ℕ → ℕ → ℝ)

/-- Every step's input blocks hold reals: the rows of `U`, `V`, `Z`, `A`, and the parameters. -/
structure Ins : Prop where
  h0 : ∀ (t : Fin cfg0.N) j, (iblk m c 0 t : Vec Ideal S256x1024 .f32) j = ((blk U t (j 0) (j 1) : ℝ) : EReal)
  h1 : ∀ (t : Fin cfg0.N) j, (iblk m c 1 t : Vec Ideal S256x1024 .f32) j = ((blk V t (j 0) (j 1) : ℝ) : EReal)
  h2 : ∀ (t : Fin cfg0.N) j, (iblk m c 2 t : Vec Ideal S256x1024 .f32) j = ((blk Z t (j 0) (j 1) : ℝ) : EReal)
  h3 : ∀ (t : Fin cfg0.N) j, (iblk m c 3 t : Vec Ideal S256x1024 .f32) j = ((blk A t (j 0) (j 1) : ℝ) : EReal)
  h4 : ∀ (t : Fin cfg0.N) j, (iblk m c 4 t : Vec Ideal S1x1024 .f32) j = ((G (j 1) : ℝ) : EReal)
  h5 : ∀ (t : Fin cfg0.N) j, (iblk m c 5 t : Vec Ideal S1x1024 .f32) j = ((B (j 1) : ℝ) : EReal)
  h6 : ∀ (t : Fin cfg0.N) j, (iblk m c 6 t : Vec Ideal S8x128x128 .f32) j = ((W (j 0) (j 1) (j 2) : ℝ) : EReal)
  h7 : ∀ (t : Fin cfg0.N) j, (iblk m c 7 t : Vec Ideal S8x128x128 .f32) j = ((b (j 0) (j 1) : ℝ) : EReal)

variable {m c U V Z A G B W b} (H : Ins m c U V Z A G B W b)
include H

theorem out8_apply (t : Fin cfg0.N) (y : S256x3072.Idx) :
    (outsAt0 m c t.val t.isLt).1 y = ((o8 G B W b U V Z A (256 * t.val + (y 0).val) (y 1) : ℝ) : EReal) := by
  have e : (outsAt0 m c t.val t.isLt).1
      = View.canon (l8 scM0_0.view scM0_1.view (iblk m c 0 t) (iblk m c 1 t) (iblk m c 2 t) (iblk m c 3 t) (iblk m c 4 t) (iblk m c 5 t) (iblk m c 6 t) (iblk m c 7 t)) := by
    by_cases h0 : t.val % 16 = 0
    · exact outs8_A m c t h0 (by omega)
    · by_cases h1 : t.val % 16 = 15
      · exact outs8_C m c t h0 h1
      · exact outs8_B m c t h0 h1
  rw [e]
  refine (l8_apply _ _ (H.h0 t) (H.h1 t) (H.h2 t) (H.h3 t) (H.h4 t) (H.h5 t) (H.h6 t) (H.h7 t) y).trans ?_
  unfold o8
  simp only [sh_blk]
  rw [show (256 * t.val + (y 0).val) / 128 = 2 * t.val + (y 0).val / 128 by omega, show (256 * t.val + (y 0).val) % 128 = (y 0).val % 128 by omega]

theorem fW_step (t : Fin cfg0.N) (g : Fin 8) (old : Vec Ideal S1x128x128 .f32) (x : S1x128x128.Idx)
    (ho : old x = ((sW U V Z A G B (2 * t.val) g (x 1) (x 2) : ℝ) : EReal)) :
    fW scM0_0.view (iblk m c 0 t) (iblk m c 1 t) (iblk m c 2 t) (iblk m c 3 t) (iblk m c 4 t) (iblk m c 5 t) g old x
      = ((sW U V Z A G B (2 * (t.val + 1)) g (x 1) (x 2) : ℝ) : EReal) := by
  refine (fW_apply _ (H.h0 t) (H.h1 t) (H.h2 t) (H.h3 t) (H.h4 t) (H.h5 t) g old x).trans ?_
  simp only [sh_blk]
  rw [ho, ← EReal.coe_add]
  unfold sW
  rw [two_more, Nat.add_zero]
theorem fB_step (t : Fin cfg0.N) (g : Fin 8) (old : Vec Ideal S1x128x128 .f32) (x : S1x128x128.Idx)
    (ho : old x = ((sB U Z A (2 * t.val) g (x 1) : ℝ) : EReal)) :
    fB (iblk m c 0 t) (iblk m c 2 t) (iblk m c 3 t) g old x
      = ((sB U Z A (2 * (t.val + 1)) g (x 1) : ℝ) : EReal) := by
  refine (fB_apply (H.h0 t) (H.h2 t) (H.h3 t) g old x).trans ?_
  simp only [sh_blk]
  rw [ho, ← EReal.coe_add]
  unfold sB
  rw [two_more, Nat.add_zero]

/-- What the accumulated outputs hold after step `t`. -/
theorem acc9 : ∀ (n : ℕ) (hn : n < cfg0.N) (y : S8x128x128.Idx), (outsAt0 m c n hn).2.1 y
    = ((if n = 15 ∧ (y 1).val < (y 2).val then 0 else sW U V Z A G B (2 * (n + 1)) (y 0) (y 1) (y 2) : ℝ) : EReal)
  | 0, hn, y => by
    rw [if_neg (by omega)]
    rw [outs9_A m c ⟨0, hn⟩ (Nat.zero_mod 16) (by change ¬0 % 16 = 15; omega), lFold_apply _ _ _ _ (List.nodup_finRange 8), if_pos (List.mem_finRange _)]
    refine fW_step H ⟨0, hn⟩ (gOf y) _ _ ?_
    rw [View.ld_apply, lZero_apply]
    rfl
  | n + 1, hn, y => by
    have hN : cfg0.N = 16 := rfl
    have ih := acc9 n (Nat.lt_of_succ_lt hn)
    have hstep : ∀ y : S8x128x128.Idx, View.canon (lNew (fW scM0_0.view (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)) (outsAt0 m c n (Nat.lt_of_succ_lt hn)).2.1) y
        = ((sW U V Z A G B (2 * (n + 1 + 1)) (y 0) (y 1) (y 2) : ℝ) : EReal) := fun y => by
      rw [lNew_apply]
      refine fW_step H ⟨n + 1, hn⟩ (gOf y) _ _ ?_
      rw [View.ld_apply]
      change (outsAt0 m c n (Nat.lt_of_succ_lt hn)).2.1 ((rG (gOf y)).emb _) = _
      rw [idx_rG, ih, if_neg (by omega)]
      rfl
    by_cases h1 : n + 1 = 15
    · rw [outs9_C m c ⟨n + 1, hn⟩ (by change ¬(n + 1) % 16 = 0; omega) (by change (n + 1) % 16 = 15; omega),
        lFold_apply _ _ _ _ (List.nodup_finRange 8), if_pos (List.mem_finRange _), fMask_apply, View.ld_apply]
      change (if (y 2).val ≤ (y 1).val then View.canon _ ((rG (gOf y)).emb _) else 0) = _
      rw [idx_rG]
      by_cases h : (y 2).val ≤ (y 1).val
      · rw [if_pos h, if_neg (by omega)]
        exact hstep y
      · rw [if_neg h, if_pos ⟨h1, by omega⟩]
        rfl
    · rw [outs9_B m c ⟨n + 1, hn⟩ (by change ¬(n + 1) % 16 = 0; omega) (by change ¬(n + 1) % 16 = 15; omega), if_neg (by omega)]
      exact hstep y

theorem acc10 : ∀ (n : ℕ) (hn : n < cfg0.N) (y : S8x128x128.Idx), (outsAt0 m c n hn).2.2.1 y
    = ((sB U Z A (2 * (n + 1)) (y 0) (y 1) : ℝ) : EReal)
  | 0, hn, y => by
    rw [outs10_A m c ⟨0, hn⟩ (Nat.zero_mod 16) (by change ¬0 % 16 = 15; omega), lFold_apply _ _ _ _ (List.nodup_finRange 8), if_pos (List.mem_finRange _)]
    refine fB_step H ⟨0, hn⟩ (gOf y) _ _ ?_
    rw [View.ld_apply, lZero_apply]
    rfl
  | n + 1, hn, y => by
    have hN : cfg0.N = 16 := rfl
    have ih := acc10 n (Nat.lt_of_succ_lt hn)
    have hstep : ∀ y : S8x128x128.Idx, View.canon (lNew (fB (iblk m c 0 ⟨n + 1, hn⟩) (iblk m c 2 ⟨n + 1, hn⟩) (iblk m c 3 ⟨n + 1, hn⟩)) (outsAt0 m c n (Nat.lt_of_succ_lt hn)).2.2.1) y
        = ((sB U Z A (2 * (n + 1 + 1)) (y 0) (y 1) : ℝ) : EReal) := fun y => by
      rw [lNew_apply]
      refine fB_step H ⟨n + 1, hn⟩ (gOf y) _ _ ?_
      rw [View.ld_apply]
      change (outsAt0 m c n (Nat.lt_of_succ_lt hn)).2.2.1 ((rG (gOf y)).emb _) = _
      rw [idx_rG, ih]
      rfl
    by_cases h1 : n + 1 = 15
    · rw [outs10_C m c ⟨n + 1, hn⟩ (by change ¬(n + 1) % 16 = 0; omega) (by change (n + 1) % 16 = 15; omega)]
      exact hstep y
    · rw [outs10_B m c ⟨n + 1, hn⟩ (by change ¬(n + 1) % 16 = 0; omega) (by change ¬(n + 1) % 16 = 15; omega)]
      exact hstep y

theorem pDL_blk (t : Fin cfg0.N) (j : S256x1024.Idx) : pDL scM0_1.view (iblk m c 0 t) (iblk m c 2 t) (iblk m c 3 t) (iblk m c 6 t) j
    = ((gL W U Z A (256 * t.val + (j 0).val) (j 1) : ℝ) : EReal) :=
  (pDL_apply _ (H.h0 t) (H.h2 t) (H.h3 t) (H.h6 t) j).trans (congrArg _ (gL_blk W U Z A t.val (j 0) (j 1)))
theorem dg_step (t : Fin cfg0.N) (old : Vec Ideal S1x1024 .f32) (j : S1x1024.Idx)
    (ho : old j = ((∑ R ∈ range (256 * t.val), gL W U Z A R (j 1) * vh V R (j 1) : ℝ) : EReal)) :
    k0_pay311 (F := Ideal) (k0_pay19 (iblk m c 1 t)) (pDL scM0_1.view (iblk m c 0 t) (iblk m c 2 t) (iblk m c 3 t) (iblk m c 6 t)) old j
      = ((∑ R ∈ range (256 * (t.val + 1)), gL W U Z A R (j 1) * vh V R (j 1) : ℝ) : EReal) := by
  refine (dg_blk (iblk m c 1 t) (blk V t) (H.h1 t) _ (fun i d => gL W U Z A (256 * t.val + i) d) (pDL_blk H t) old j).trans ?_
  rw [ho, ← EReal.coe_add, show 256 * (t.val + 1) = 256 * t.val + 256 by ring, Finset.sum_range_add]
  rfl
theorem db_step (t : Fin cfg0.N) (old : Vec Ideal S1x1024 .f32) (j : S1x1024.Idx)
    (ho : old j = ((∑ R ∈ range (256 * t.val), gL W U Z A R (j 1) : ℝ) : EReal)) :
    k0_pay312 (F := Ideal) (pDL scM0_1.view (iblk m c 0 t) (iblk m c 2 t) (iblk m c 3 t) (iblk m c 6 t)) old j
      = ((∑ R ∈ range (256 * (t.val + 1)), gL W U Z A R (j 1) : ℝ) : EReal) := by
  refine (db_blk _ (fun i d => gL W U Z A (256 * t.val + i) d) (pDL_blk H t) old j).trans ?_
  rw [ho, ← EReal.coe_add, show 256 * (t.val + 1) = 256 * t.val + 256 by ring, Finset.sum_range_add]

theorem acc11 : ∀ (n : ℕ) (hn : n < cfg0.N) (j : S1x1024.Idx), (outsAt0 m c n hn).2.2.2.1 j
    = ((∑ R ∈ range (256 * (n + 1)), gL W U Z A R (j 1) * vh V R (j 1) : ℝ) : EReal)
  | 0, hn, j => by
    rw [outs11_A m c ⟨0, hn⟩ (Nat.zero_mod 16) (by change ¬0 % 16 = 15; omega)]
    exact dg_step H ⟨0, hn⟩ _ j (zero12 j)
  | n + 1, hn, j => by
    have hN : cfg0.N = 16 := rfl
    have ih := acc11 n (Nat.lt_of_succ_lt hn) j
    by_cases h1 : n + 1 = 15
    · rw [outs11_C m c ⟨n + 1, hn⟩ (by change ¬(n + 1) % 16 = 0; omega) (by change (n + 1) % 16 = 15; omega)]
      exact dg_step H ⟨n + 1, hn⟩ _ j ih
    · rw [outs11_B m c ⟨n + 1, hn⟩ (by change ¬(n + 1) % 16 = 0; omega) (by change ¬(n + 1) % 16 = 15; omega)]
      exact dg_step H ⟨n + 1, hn⟩ _ j ih
theorem acc12 : ∀ (n : ℕ) (hn : n < cfg0.N) (j : S1x1024.Idx), (outsAt0 m c n hn).2.2.2.2 j
    = ((∑ R ∈ range (256 * (n + 1)), gL W U Z A R (j 1) : ℝ) : EReal)
  | 0, hn, j => by
    rw [outs12_A m c ⟨0, hn⟩ (Nat.zero_mod 16) (by change ¬0 % 16 = 15; omega)]
    exact db_step H ⟨0, hn⟩ _ j (zero13 j)
  | n + 1, hn, j => by
    have hN : cfg0.N = 16 := rfl
    have ih := acc12 n (Nat.lt_of_succ_lt hn) j
    by_cases h1 : n + 1 = 15
    · rw [outs12_C m c ⟨n + 1, hn⟩ (by change ¬(n + 1) % 16 = 0; omega) (by change (n + 1) % 16 = 15; omega)]
      exact db_step H ⟨n + 1, hn⟩ _ j ih
    · rw [outs12_B m c ⟨n + 1, hn⟩ (by change ¬(n + 1) % 16 = 0; omega) (by change ¬(n + 1) % 16 = 15; omega)]
      exact db_step H ⟨n + 1, hn⟩ _ j ih
end Acc
end Cert.Mix
-- ==== Proof.Mixer.Ref.lean ====
module

public import proofs.«01_k».proof.Proof.Gen.MixerRefIdeal.Read
public import proofs.«01_k».proof.Proof.Mixer.Acc

@[expose] public section

noncomputable section

/-! The reference's values, one operation at a time, at arguments that hold reals. -/

namespace Cert.Mix

open Cert.MixerRefIdeal Cert.MixerRefIdeal.Gen Cert.MixerRefIdeal.Read Idealize.ShloMosaic Idealize.ShloMosaic.TcCoe
open Finset

theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num

/-- Division by a real that isn't zero. -/
theorem div_real (a y : ℝ) (h : y ≠ 0) : Ideal.div (a : EReal) (y : EReal) = ((a * y⁻¹ : ℝ) : EReal) := by
  rw [Ideal.div_coe h, ← EReal.coe_mul, one_div]

/-- The square root of 2, and pi as the inverse cosine of -1. -/
theorem sqrt_two : Ideal.sqrt ((2 : ℝ) : EReal) = ((Real.sqrt 2 : ℝ) : EReal) :=
  if_neg (by norm_num)
theorem acos_neg_one : Ideal.acos ((-1 : ℝ) : EReal) = ((Real.pi : ℝ) : EReal) := by
  rw [← Real.arccos_neg_one]
  exact if_pos ⟨le_refl _, by norm_num⟩
theorem sqrt_pi : Ideal.sqrt ((Real.pi : ℝ) : EReal) = ((Real.sqrt Real.pi : ℝ) : EReal) :=
  if_neg (not_lt.2 Real.pi_pos.le)
theorem sqrt_two_ne : Real.sqrt 2 ≠ 0 := (Real.sqrt_pos.2 (by norm_num)).ne'
theorem sqrt_pi_ne : Real.sqrt Real.pi ≠ 0 := (Real.sqrt_pos.2 Real.pi_pos).ne'

/-- The reference's arguments hold reals: the columns u, v, z, the cotangent, the layer norm's scale and offset, the mixing
    matrices and their biases. -/
structure RA (x0 x1 x2 x8 : (⟨S1x4096x1024, .f32⟩ : BufTy).Contents (Elt Ideal)) (x4 x5 : (⟨S1x1024, .f32⟩ : BufTy).Contents (Elt Ideal))
    (x6 : (⟨S1x8x128x128, .f32⟩ : BufTy).Contents (Elt Ideal)) (x7 : (⟨S1x8x128, .f32⟩ : BufTy).Contents (Elt Ideal))
    (U V Z A : ℕ → ℕ → ℝ) (G B : ℕ → ℝ) (W : ℕ → ℕ → ℕ → ℝ) (b : ℕ → ℕ → ℝ) : Prop where
  r0 : ∀ j, x0 j = ((U (j 1) (j 2) : ℝ) : EReal)
  r1 : ∀ j, x1 j = ((V (j 1) (j 2) : ℝ) : EReal)
  r2 : ∀ j, x2 j = ((Z (j 1) (j 2) : ℝ) : EReal)
  r8 : ∀ j, x8 j = ((A (j 1) (j 2) : ℝ) : EReal)
  r4 : ∀ j, x4 j = ((G (j 1) : ℝ) : EReal)
  r5 : ∀ j, x5 j = ((B (j 1) : ℝ) : EReal)
  r6 : ∀ j, x6 j = ((W (j 1) (j 2) (j 3) : ℝ) : EReal)
  r7 : ∀ j, x7 j = ((b (j 1) (j 2) : ℝ) : EReal)

section Values

variable {x0 x1 x2 x8 : (⟨S1x4096x1024, .f32⟩ : BufTy).Contents (Elt Ideal)} {x4 x5 : (⟨S1x1024, .f32⟩ : BufTy).Contents (Elt Ideal)}
  {x6 : (⟨S1x8x128x128, .f32⟩ : BufTy).Contents (Elt Ideal)} {x7 : (⟨S1x8x128, .f32⟩ : BufTy).Contents (Elt Ideal)}
  {U V Z A : ℕ → ℕ → ℝ} {G B : ℕ → ℝ} {W : ℕ → ℕ → ℕ → ℝ} {b : ℕ → ℕ → ℝ}
  (H : RA x0 x1 x2 x8 x4 x5 x6 x7 U V Z A G B W b)
include H

/-! ### The gelu of u and of v -/

theorem v1_at (i : S1x4096x1024.Idx) : val_main_v1 (F := Ideal) x0 i = ((1 / 2 * U (i 1) (i 2) : ℝ) : EReal) := by
  rw [val_main_v1_apply, val_main_v0_apply, val_main_cst_apply, H.r0, Ideal.ofBits_def, word_half, Ideal.mulf_def, ← EReal.coe_mul]
theorem v4_at (i : S1x4096x1024.Idx) : val_main_v4 (F := Ideal) x0 i = ((U (i 1) (i 2) * (Real.sqrt 2)⁻¹ : ℝ) : EReal) := by
  rw [val_main_v4_apply, val_main_v3_apply, val_main_v2_apply, val_main_cst_0_apply, H.r0, Ideal.ofBits_def, word_two,
    Ideal.hostUnary_sqrt_def, sqrt_two, Ideal.hostDivf_def, div_real _ _ sqrt_two_ne]
theorem v15_at (i : S1x4096x1024.Idx) :
    val_main_v15 (F := Ideal) x0 i = ((1 + erfR (U (i 1) (i 2) * (Real.sqrt 2)⁻¹) : ℝ) : EReal) := by
  rw [val_main_v15_apply, val_main_v14_apply, val_main_cst_3_apply, val_main_v6_apply, v4_at H, Ideal.ofBits_def, word_one,
    Ideal.hostUnary_erf_def, erf_real, Ideal.addf_def, ← EReal.coe_add]
theorem v16_at (i : S1x4096x1024.Idx) : val_main_v16 (F := Ideal) x0 i = ((gelu (U (i 1) (i 2)) : ℝ) : EReal) := by
  rw [val_main_v16_apply, v1_at H, v15_at H, Ideal.mulf_def, ← EReal.coe_mul]
  exact congrArg _ (by unfold gelu cdf; ring)
theorem v13_at (i : S1x4096x1024.Idx) : val_main_v13 (F := Ideal) x0 i
    = ((2 * (Real.sqrt Real.pi)⁻¹ * Real.exp (-(U (i 1) (i 2) * (Real.sqrt 2)⁻¹ * (U (i 1) (i 2) * (Real.sqrt 2)⁻¹))) : ℝ) : EReal) := by
  rw [val_main_v13_apply, val_main_v12_apply, val_main_v8_apply, val_main_v7_apply, val_main_v5_apply, val_main_cst_1_apply,
    val_main_cst_2_apply, val_main_v11_apply, val_main_v10_apply, val_main_v9_apply, v4_at H]
  simp only [Ideal.ofBits_def, word_two, word_neg_one, Ideal.hostUnary_acos_def, acos_neg_one, Ideal.hostUnary_sqrt_def, sqrt_pi,
    Ideal.hostDivf_def, div_real _ _ sqrt_pi_ne, Ideal.mulf_def, ← EReal.coe_mul, Ideal.hostNegf_def, Ideal.negf_def, ← EReal.coe_neg,
    Ideal.hostUnary_exp_def, Ideal.exp_coe]

theorem v18_at (i : S1x4096x1024.Idx) : val_main_v18 (F := Ideal) x1 i = ((1 / 2 * V (i 1) (i 2) : ℝ) : EReal) := by
  rw [val_main_v18_apply, val_main_v17_apply, val_main_cst_4_apply, H.r1, Ideal.ofBits_def, word_half, Ideal.mulf_def, ← EReal.coe_mul]
theorem v21_at (i : S1x4096x1024.Idx) : val_main_v21 (F := Ideal) x1 i = ((V (i 1) (i 2) * (Real.sqrt 2)⁻¹ : ℝ) : EReal) := by
  rw [val_main_v21_apply, val_main_v20_apply, val_main_v19_apply, val_main_cst_5_apply, H.r1, Ideal.ofBits_def, word_two,
    Ideal.hostUnary_sqrt_def, sqrt_two, Ideal.hostDivf_def, div_real _ _ sqrt_two_ne]
theorem v32_at (i : S1x4096x1024.Idx) :
    val_main_v32 (F := Ideal) x1 i = ((1 + erfR (V (i 1) (i 2) * (Real.sqrt 2)⁻¹) : ℝ) : EReal) := by
  rw [val_main_v32_apply, val_main_v31_apply, val_main_cst_8_apply, val_main_v23_apply, v21_at H, Ideal.ofBits_def, word_one,
    Ideal.hostUnary_erf_def, erf_real, Ideal.addf_def, ← EReal.coe_add]
theorem v33_at (i : S1x4096x1024.Idx) : val_main_v33 (F := Ideal) x1 i = ((gv V (i 1) (i 2) : ℝ) : EReal) := by
  rw [val_main_v33_apply, v18_at H, v32_at H, Ideal.mulf_def, ← EReal.coe_mul]
  exact congrArg _ (by unfold gv gelu cdf; ring)
theorem v30_at (i : S1x4096x1024.Idx) : val_main_v30 (F := Ideal) x1 i
    = ((2 * (Real.sqrt Real.pi)⁻¹ * Real.exp (-(V (i 1) (i 2) * (Real.sqrt 2)⁻¹ * (V (i 1) (i 2) * (Real.sqrt 2)⁻¹))) : ℝ) : EReal) := by
  rw [val_main_v30_apply, val_main_v29_apply, val_main_v25_apply, val_main_v24_apply, val_main_v22_apply, val_main_cst_6_apply,
    val_main_cst_7_apply, val_main_v28_apply, val_main_v27_apply, val_main_v26_apply, v21_at H]
  simp only [Ideal.ofBits_def, word_two, word_neg_one, Ideal.hostUnary_acos_def, acos_neg_one, Ideal.hostUnary_sqrt_def, sqrt_pi,
    Ideal.hostDivf_def, div_real _ _ sqrt_pi_ne, Ideal.mulf_def, ← EReal.coe_mul, Ideal.hostNegf_def, Ideal.negf_def, ← EReal.coe_neg,
    Ideal.hostUnary_exp_def, Ideal.exp_coe]

/-! ### The layer norm of the gelu of v -/

theorem v41_at (i : S1x4096x1.Idx) : val_main_v41 (F := Ideal) x1 i = ((mean (gv V (i 1)) : ℝ) : EReal) := by
  rw [val_main_v41_apply, val_main_v39_apply, val_main_v38_apply, val_main_cst_9_apply, val_main_v40_apply, val_main_cst_10_apply]
  simp only [Ideal.ofBits_def, Ideal.ofBits_zero_f32, zero_add, word_1024, v33_at H, Ideal.hostDivf_def]
  rw [← coe_sum_range 1024 (fun k => gv V (i 1) k), div_1024]
  rfl
theorem v43_at (i : S1x4096x1024.Idx) : val_main_v43 (F := Ideal) x1 i = ((cen (gv V (i 1)) (i 2) : ℝ) : EReal) := by
  rw [val_main_v43_apply, val_main_v42_apply, v41_at H, v33_at H, Ideal.subf_def, ← EReal.coe_sub]
  rfl
theorem v50_at (i : S1x4096x1.Idx) : val_main_v50 (F := Ideal) x1 i = ((var (gv V (i 1)) + eps : ℝ) : EReal) := by
  rw [val_main_v50_apply, val_main_v49_apply, val_main_cst_13_apply, val_main_v48_apply, val_main_v46_apply, val_main_v45_apply,
    val_main_cst_11_apply, val_main_v47_apply, val_main_cst_12_apply]
  simp only [val_main_v44_apply, Ideal.ofBits_def, Ideal.ofBits_zero_f32, zero_add, word_1024, word_eps, v43_at H, Ideal.hostDivf_def,
    Ideal.mulf_def, ← EReal.coe_mul, Ideal.addf_def]
  rw [← coe_sum_range 1024 (fun k => cen (gv V (i 1)) k * cen (gv V (i 1)) k), div_1024, ← EReal.coe_add]
  rfl
theorem v51_at (i : S1x4096x1.Idx) : val_main_v51 (F := Ideal) x1 i = ((rs (gv V (i 1)) : ℝ) : EReal) := by
  have h := var_eps_pos (gv V (i 1))
  rw [val_main_v51_apply, v50_at H, Ideal.hostUnary_rsqrt_def, Ideal.rsqrt_coe, if_neg (not_lt.2 h.le), if_neg h.ne']
  rfl
theorem v54_at (i : S1x4096x1.Idx) :
    val_main_v54 (F := Ideal) x1 i = ((-(1 / 2) * (rs (gv V (i 1)) / (var (gv V (i 1)) + eps)) : ℝ) : EReal) := by
  rw [val_main_v54_apply, val_main_v53_apply, val_main_cst_14_apply, val_main_v52_apply, v51_at H, v50_at H, Ideal.ofBits_def,
    word_neg_half, Ideal.hostDivf_def, div_real _ _ (var_eps_pos _).ne', Ideal.mulf_def, ← EReal.coe_mul]
  rfl
theorem v56_at (i : S1x4096x1024.Idx) : val_main_v56 (F := Ideal) x1 i = ((vh V (i 1) (i 2) : ℝ) : EReal) := by
  rw [val_main_v56_apply, val_main_v55_apply, v43_at H, v51_at H, Ideal.mulf_def, ← EReal.coe_mul]
  rfl
theorem v57_at (i : S1x1x1024.Idx) : val_main_v57 (F := Ideal) x4 i = ((G (i 2) : ℝ) : EReal) := by
  rw [val_main_v57_apply, val_main_v34_apply, H.r4]
  have h := (i 2).isLt
  change (i 2).val < 1024 at h
  exact congrArg (fun n => ((G n : ℝ) : EReal)) (Nat.mod_eq_of_lt h)
theorem v60_at (i : S1x1x1024.Idx) : val_main_v60 (F := Ideal) x5 i = ((B (i 2) : ℝ) : EReal) := by
  rw [val_main_v60_apply, val_main_v35_apply, H.r5]
  have h := (i 2).isLt
  change (i 2).val < 1024 at h
  exact congrArg (fun n => ((B n : ℝ) : EReal)) (Nat.mod_eq_of_lt h)
theorem v62_at (i : S1x4096x1024.Idx) : val_main_v62 (F := Ideal) x1 x4 x5 i = ((ln G B V (i 1) (i 2) : ℝ) : EReal) := by
  rw [val_main_v62_apply, val_main_v59_apply, val_main_v58_apply, val_main_v61_apply, v56_at H, v57_at H, v60_at H, Ideal.mulf_def,
    Ideal.addf_def, ← EReal.coe_mul, ← EReal.coe_add]
  rfl

end Values

end Cert.Mix

end
-- ==== Proof.Mixer.Ref2.lean ====
module

public import proofs.«01_k».proof.Proof.Mixer.Ref
public import Idealize.ShloMosaic.Lib.WordCmp

@[expose] public section

noncomputable section

/-! The reference's mixing of the chunks, its silu, and the gradients that pass through them. -/

namespace Cert.Mix

open Cert.MixerRefIdeal Cert.MixerRefIdeal.Gen Cert.MixerRefIdeal.Read Idealize.ShloMosaic Idealize.ShloMosaic.TcCoe
open Finset

/-- A host sum whose terms at `j` are listed by `g`. -/
theorem reduce_by {s t : Shape} {axes : List (Fin s.rank)} (h : s.ReducesTo axes t) (x : s.Idx → EReal) (init : EReal) (j : t.Idx)
    {κ : Type} [Fintype κ] (g : κ → s.Idx) (hg : Function.Injective g) (hp : ∀ i, h.drop i = j ↔ ∃ k, g k = i) :
    Ideal.hostReduceAdd h x init j = init + ∑ k, x (g k) := by
  unfold Ideal.hostReduceAdd
  rw [Finset.sum_filter_eq_sum_of_fiber (fun i => h.drop i = j) g hg hp x]

/-- The rows' mixed values, and the gradients that reach them: `MX`, and `DM` of the mixed values. -/
def MX (G B : ℕ → ℝ) (W : ℕ → ℕ → ℕ → ℝ) (b : ℕ → ℕ → ℝ) (V : ℕ → ℕ → ℝ) (R d : ℕ) : ℝ := mixed G B W b (sh V (R / 128)) (R % 128) d

/-- A row by its chunk and its place in it. -/
theorem row_split (R : ℕ) : 128 * (R / 128) + R % 128 = R := Nat.div_add_mod R 128

section Values

variable {x0 x1 x2 x8 : (⟨S1x4096x1024, .f32⟩ : BufTy).Contents (Elt Ideal)} {x4 x5 : (⟨S1x1024, .f32⟩ : BufTy).Contents (Elt Ideal)}
  {x6 : (⟨S1x8x128x128, .f32⟩ : BufTy).Contents (Elt Ideal)} {x7 : (⟨S1x8x128, .f32⟩ : BufTy).Contents (Elt Ideal)}
  {U V Z A : ℕ → ℕ → ℝ} {G B : ℕ → ℝ} {W : ℕ → ℕ → ℕ → ℝ} {b : ℕ → ℕ → ℝ}

/-- The mask: one at and below the diagonal. -/
theorem mask_at (i : S8x128x128.Idx) : val_main_v67_1 (F := Ideal) i = if (i 2).val ≤ (i 1).val then 1#1 else 0#1 := by
  have h1 := (i 1).isLt
  have h2 := (i 2).isLt
  change (i 1).val < 128 at h1
  change (i 2).val < 128 at h2
  rw [val_main_v67_1_apply, val_main_v65_apply, val_main_v64_apply, val_main_c_apply, val_main_call0_v5_apply, val_main_call0_c_0_apply,
    val_main_call0_v4_apply, val_main_call0_v2_apply, val_main_call0_v0_apply, val_main_call0_v1_apply, val_main_call0_c_apply,
    val_main_call0_v3_apply]
  have e : IntOp.addi (BitVec.ofNat 32 (i 1).val) 0#32 = BitVec.ofNat 32 (i 1).val := by unfold IntOp.addi; exact BitVec.add_zero _
  change Scalar.select (IntOp.cmpi .sge (IntOp.addi (BitVec.ofNat 32 (i 1).val) 0#32) (BitVec.ofNat 32 (i 2).val)) 1#1 0#1 = _
  rw [e]
  by_cases h : (i 2).val ≤ (i 1).val
  · rw [if_pos h, (WordCmp.cmpi_sge_ofNat_eq_one_iff (by omega) (by omega)).mpr h]; rfl
  · rw [if_neg h, (WordCmp.cmpi_sge_ofNat_eq_zero_iff (by omega) (by omega)).mpr (by omega)]; rfl

variable (H : RA x0 x1 x2 x8 x4 x5 x6 x7 U V Z A G B W b)
include H

/-! ### The mixing -/

theorem v63_at (i : S1x32x128x8x128.Idx) : val_main_v63 (F := Ideal) x1 x4 x5 i
    = ((ln G B V (128 * (i 1).val + (i 2).val) (128 * (i 3).val + (i 4).val) : ℝ) : EReal) := by
  rw [val_main_v63_apply, v62_at H]
  have h0 := (i 0).isLt
  have h1 := (i 1).isLt
  have h2 := (i 2).isLt
  have h3 := (i 3).isLt
  have h4 := (i 4).isLt
  change (i 0).val < 1 at h0
  change (i 1).val < 32 at h1
  change (i 2).val < 128 at h2
  change (i 3).val < 8 at h3
  change (i 4).val < 128 at h4
  refine congrArg₂ (fun r d => ((ln G B V r d : ℝ) : EReal)) ?_ ?_
  · change (((((i 0).val * 32 + (i 1).val) * 128 + (i 2).val) * 8 + (i 3).val) * 128 + (i 4).val) / 1024 % 4096 = _
    omega
  · change (((((i 0).val * 32 + (i 1).val) * 128 + (i 2).val) * 8 + (i 3).val) * 128 + (i 4).val) % 1024 = _
    omega
theorem v67_at (i : S8x128x128.Idx) : val_main_v67_0 (F := Ideal) x6 i = ((tri W (i 0) (i 1) (i 2) : ℝ) : EReal) := by
  have h0 := (i 0).isLt
  have h1 := (i 1).isLt
  have h2 := (i 2).isLt
  change (i 0).val < 8 at h0
  change (i 1).val < 128 at h1
  change (i 2).val < 128 at h2
  rw [val_main_v67_0_apply, mask_at, val_main_v36_apply, H.r6, val_main_v66_apply, val_main_cst_15_apply, Ideal.ofBits_def,
    Ideal.ofBits_zero_f32]
  unfold tri
  by_cases h : (i 2).val ≤ (i 1).val
  · rw [if_pos h, if_pos h]
    change ((W ((((i 0).val * 128 + (i 1).val) * 128 + (i 2).val) / 16384 % 8) ((((i 0).val * 128 + (i 1).val) * 128 + (i 2).val) / 128 % 128)
      ((((i 0).val * 128 + (i 1).val) * 128 + (i 2).val) % 128) : ℝ) : EReal) = _
    rw [show (((i 0).val * 128 + (i 1).val) * 128 + (i 2).val) / 16384 % 8 = (i 0).val by omega,
      show (((i 0).val * 128 + (i 1).val) * 128 + (i 2).val) / 128 % 128 = (i 1).val by omega,
      show (((i 0).val * 128 + (i 1).val) * 128 + (i 2).val) % 128 = (i 2).val by omega]
  · rw [if_neg h, if_neg h]
    rfl
theorem v68_at (i : S8x1x32x128x128.Idx) : val_main_v68 (F := Ideal) x1 x4 x5 x6 i
    = ((∑ k ∈ range 128, tri W (i 0) (i 4) k * ln G B V (128 * (i 2).val + k) (128 * (i 0).val + (i 3).val) : ℝ) : EReal) := by
  rw [val_main_v68_apply, coe_sum_range]
  refine Finset.sum_congr rfl fun k _ => ?_
  rw [v63_at H, v67_at H, ← EReal.coe_mul, mul_comm]
theorem v72_at (i : S1x32x128x8x128.Idx) : val_main_v72 (F := Ideal) x7 i = ((b (i 3) (i 2) : ℝ) : EReal) := by
  have h2 := (i 2).isLt
  have h3 := (i 3).isLt
  change (i 2).val < 128 at h2
  change (i 3).val < 8 at h3
  rw [val_main_v72_apply, val_main_v71_apply, val_main_v70_apply, val_main_v37_apply, H.r7]
  refine congrArg₂ (fun r d => ((b r d : ℝ) : EReal)) ?_ ?_
  · change ((i 3).val * 128 + (i 2).val) / 128 % 8 = _
    omega
  · change ((i 3).val * 128 + (i 2).val) % 128 = _
    omega
theorem v73_at (i : S1x32x128x8x128.Idx) : val_main_v73 (F := Ideal) x1 x4 x5 x6 x7 i
    = (((∑ k ∈ range 128, tri W (i 3) (i 2) k * ln G B V (128 * (i 1).val + k) (128 * (i 3).val + (i 4).val)) + b (i 3) (i 2) : ℝ) : EReal) := by
  rw [val_main_v73_apply, val_main_v69_apply, v68_at H, v72_at H, Ideal.addf_def, ← EReal.coe_add]
theorem v74_at (i : S1x4096x1024.Idx) : val_main_v74 (F := Ideal) x1 x4 x5 x6 x7 i = ((MX G B W b V (i 1) (i 2) : ℝ) : EReal) := by
  rw [val_main_v74_apply, v73_at H]
  have h0 := (i 0).isLt
  have h1 := (i 1).isLt
  have h2 := (i 2).isLt
  change (i 0).val < 1 at h0
  change (i 1).val < 4096 at h1
  change (i 2).val < 1024 at h2
  have e1 : ((idx_main_v74 i) 1).val = (i 1).val / 128 := by
    change (((i 0).val * 4096 + (i 1).val) * 1024 + (i 2).val) / 131072 % 32 = _
    omega
  have e2 : ((idx_main_v74 i) 2).val = (i 1).val % 128 := by
    change (((i 0).val * 4096 + (i 1).val) * 1024 + (i 2).val) / 1024 % 128 = _
    omega
  have e3 : ((idx_main_v74 i) 3).val = (i 2).val / 128 := by
    change (((i 0).val * 4096 + (i 1).val) * 1024 + (i 2).val) / 128 % 8 = _
    omega
  have e4 : ((idx_main_v74 i) 4).val = (i 2).val % 128 := by
    change (((i 0).val * 4096 + (i 1).val) * 1024 + (i 2).val) % 128 = _
    omega
  rw [e1, e2, e3, e4, row_split]
  rfl

/-! ### The silu of z, and the gradients of z and of the mixed values -/

theorem v76_2_at (i : S1x4096x1024.Idx) : val_main_v76_2 (F := Ideal) x2 i = ((lgst (Z (i 1) (i 2)) : ℝ) : EReal) := by
  have h : 1 + Real.exp (-Z (i 1) (i 2)) ≠ 0 := (add_pos one_pos (Real.exp_pos _)).ne'
  rw [val_main_v76_2_apply, val_main_call2_v4_apply, val_main_call2_cst_0_apply, val_main_call2_v3_apply, val_main_call2_v2_apply,
    val_main_call2_cst_apply, val_main_call2_v1_apply, val_main_call2_v0_apply, H.r2]
  simp only [Ideal.ofBits_def, word_one, Ideal.hostNegf_def, Ideal.negf_def, ← EReal.coe_neg, Ideal.hostUnary_exp_def, Ideal.exp_coe,
    Ideal.addf_def, ← EReal.coe_add, Ideal.hostDivf_def]
  rw [div_real _ _ h, one_mul, lgst_eq]
theorem v76_1_at (i : S1x4096x1024.Idx) :
    val_main_v76_1 (F := Ideal) x2 i = ((lgst (Z (i 1) (i 2)) * (1 - lgst (Z (i 1) (i 2))) : ℝ) : EReal) := by
  rw [val_main_v76_1_apply, val_main_call2_v7_apply, val_main_call2_v6_apply, val_main_call2_cst_1_apply, v76_2_at H, Ideal.ofBits_def,
    word_one, Ideal.subf_def, ← EReal.coe_sub, Ideal.mulf_def, ← EReal.coe_mul]
theorem v76_0_at (i : S1x4096x1024.Idx) : val_main_v76_0 (F := Ideal) x2 i = ((silu (Z (i 1) (i 2)) : ℝ) : EReal) := by
  rw [val_main_v76_0_apply, H.r2, v76_2_at H, Ideal.mulf_def, ← EReal.coe_mul]
  rfl
theorem v78_at (i : S1x4096x1024.Idx) : val_main_v78 (F := Ideal) x0 x1 x4 x5 x6 x7 x8 i
    = ((gelu (U (i 1) (i 2)) * MX G B W b V (i 1) (i 2) * A (i 1) (i 2) : ℝ) : EReal) := by
  rw [val_main_v78_apply, val_main_v75_apply, v16_at H, v74_at H, H.r8, Ideal.mulf_def, Ideal.mulf_def, ← EReal.coe_mul, ← EReal.coe_mul]
theorem v79_at (i : S1x4096x1024.Idx) : val_main_v79 (F := Ideal) x2 x8 i = ((A (i 1) (i 2) * silu (Z (i 1) (i 2)) : ℝ) : EReal) := by
  rw [val_main_v79_apply, H.r8, v76_0_at H, Ideal.mulf_def, ← EReal.coe_mul]
theorem v80_at (i : S1x4096x1024.Idx) : val_main_v80 (F := Ideal) x0 x1 x2 x4 x5 x6 x7 x8 i
    = ((A (i 1) (i 2) * gelu (U (i 1) (i 2)) * MX G B W b V (i 1) (i 2) * dsilu (Z (i 1) (i 2)) : ℝ) : EReal) := by
  rw [val_main_v80_apply, val_main_call3_v1_apply, val_main_call3_v2_apply, val_main_call3_v0_apply, v78_at H, v76_2_at H, v76_1_at H, H.r2]
  simp only [Ideal.mulf_def, ← EReal.coe_mul, Ideal.addf_def, ← EReal.coe_add]
  exact congrArg _ (by unfold dsilu; ring)
theorem v81_at (i : S1x4096x1024.Idx) : val_main_v81 (F := Ideal) x0 x2 x8 i = ((dM U Z A (i 1) (i 2) : ℝ) : EReal) := by
  rw [val_main_v81_apply, v16_at H, v79_at H, Ideal.mulf_def, ← EReal.coe_mul]
  exact congrArg _ (by unfold dM; ring)
theorem v82_at (i : S1x4096x1024.Idx) : val_main_v82 (F := Ideal) x1 x2 x4 x5 x6 x7 x8 i
    = ((A (i 1) (i 2) * silu (Z (i 1) (i 2)) * MX G B W b V (i 1) (i 2) : ℝ) : EReal) := by
  rw [val_main_v82_apply, v79_at H, v74_at H, Ideal.mulf_def, ← EReal.coe_mul]
theorem v83_at (i : S1x32x128x8x128.Idx) : val_main_v83 (F := Ideal) x0 x2 x8 i
    = ((dM U Z A (128 * (i 1).val + (i 2).val) (128 * (i 3).val + (i 4).val) : ℝ) : EReal) := by
  rw [val_main_v83_apply, v81_at H]
  have h0 := (i 0).isLt
  have h1 := (i 1).isLt
  have h2 := (i 2).isLt
  have h3 := (i 3).isLt
  have h4 := (i 4).isLt
  change (i 0).val < 1 at h0
  change (i 1).val < 32 at h1
  change (i 2).val < 128 at h2
  change (i 3).val < 8 at h3
  change (i 4).val < 128 at h4
  refine congrArg₂ (fun r d => ((dM U Z A r d : ℝ) : EReal)) ?_ ?_
  · change (((((i 0).val * 32 + (i 1).val) * 128 + (i 2).val) * 8 + (i 3).val) * 128 + (i 4).val) / 1024 % 4096 = _
    omega
  · change (((((i 0).val * 32 + (i 1).val) * 128 + (i 2).val) * 8 + (i 3).val) * 128 + (i 4).val) % 1024 = _
    omega

/-! ### The gradients of the biases, of the mixing matrices and of the layer norm's result -/

theorem v84_at (j : S1x128x8.Idx) : val_main_v84 (F := Ideal) x0 x2 x8 j = ((sB U Z A 32 (j 2) (j 1) : ℝ) : EReal) := by
  unfold val_main_v84
  simp only [Host.reduceAdd, Ideal.hostReduceAdd_def]
  rw [reduce_by reducesTo_S1x32x128x8x128_S1x128x8_d1_4 _ _ j (κ := Fin 32 × Fin 128) (fun k a => match a with
    | ⟨0, _⟩ => ⟨0, Nat.one_pos⟩ | ⟨1, _⟩ => k.1 | ⟨2, _⟩ => j 1 | ⟨3, _⟩ => j 2 | ⟨4, _⟩ => k.2)
    (fun k l e => Prod.ext (congrFun e 1) (congrFun e 4)) ?_]
  · rw [val_main_cst_16_apply, Ideal.ofBits_def, Ideal.ofBits_zero_f32, zero_add, Fintype.sum_prod_type]
    unfold sB dbp
    rw [coe_sum_range]
    refine Finset.sum_congr rfl fun c _ => ?_
    rw [coe_sum_range]
    refine Finset.sum_congr rfl fun k _ => ?_
    rw [v83_at H]
    rfl
  · intro i
    have d0 := Shape.ReducesTo.drop_apply_val_of_eq reducesTo_S1x32x128x8x128_S1x128x8_d1_4 i 0 0
    have d1 := Shape.ReducesTo.drop_apply_val_of_eq reducesTo_S1x32x128x8x128_S1x128x8_d1_4 i 1 2
    have d2 := Shape.ReducesTo.drop_apply_val_of_eq reducesTo_S1x32x128x8x128_S1x128x8_d1_4 i 2 3
    have h0 := (i 0).isLt
    have j0 := (j 0).isLt
    change (i 0).val < 1 at h0
    change (j 0).val < 1 at j0
    constructor
    · intro e
      refine ⟨(i 1, i 4), funext fun a => Fin.ext ?_⟩
      match a with
      | ⟨0, _⟩ => change 0 = (i 0).val; omega
      | ⟨1, _⟩ => rfl
      | ⟨2, _⟩ => change (j 1).val = (i 2).val; rw [← e]; exact d1
      | ⟨3, _⟩ => change (j 2).val = (i 3).val; rw [← e]; exact d2
      | ⟨4, _⟩ => rfl
    · rintro ⟨k, rfl⟩
      refine funext fun a => Fin.ext ?_
      match a with
      | ⟨0, _⟩ => exact d0.trans (by change 0 = (j 0).val; omega)
      | ⟨1, _⟩ => exact d1
      | ⟨2, _⟩ => exact d2
theorem v86_at (j : S128x8.Idx) : val_main_v86 (F := Ideal) x0 x2 x8 j = ((sB U Z A 32 (j 1) (j 0) : ℝ) : EReal) := by
  have j0 := (j 0).isLt
  have j1 := (j 1).isLt
  change (j 0).val < 128 at j0
  change (j 1).val < 8 at j1
  unfold val_main_v86
  simp only [Host.reduceAdd, Ideal.hostReduceAdd_def]
  rw [reduce_by reducesTo_S1x1x128x8x1_S128x8_d0_1_4 _ _ j (κ := Unit) (fun _ a => match a with
    | ⟨0, _⟩ => ⟨0, Nat.one_pos⟩ | ⟨1, _⟩ => ⟨0, Nat.one_pos⟩ | ⟨2, _⟩ => j 0 | ⟨3, _⟩ => j 1 | ⟨4, _⟩ => ⟨0, Nat.one_pos⟩)
    (fun _ _ _ => rfl) ?_]
  · rw [val_main_cst_17_apply, Ideal.ofBits_def, Ideal.ofBits_zero_f32, zero_add, Fintype.sum_unique, val_main_v85_apply, v84_at H]
    refine congrArg₂ (fun r d => ((sB U Z A 32 r d : ℝ) : EReal)) ?_ ?_
    · change ((((0 * 1 + 0) * 128 + (j 0).val) * 8 + (j 1).val) * 1 + 0) % 8 = _
      omega
    · change ((((0 * 1 + 0) * 128 + (j 0).val) * 8 + (j 1).val) * 1 + 0) / 8 % 128 = _
      omega
  · intro i
    have d0 := Shape.ReducesTo.drop_apply_val_of_eq reducesTo_S1x1x128x8x1_S128x8_d0_1_4 i 0 2
    have d1 := Shape.ReducesTo.drop_apply_val_of_eq reducesTo_S1x1x128x8x1_S128x8_d0_1_4 i 1 3
    have h0 := (i 0).isLt
    have h1 := (i 1).isLt
    have h4 := (i 4).isLt
    change (i 0).val < 1 at h0
    change (i 1).val < 1 at h1
    change (i 4).val < 1 at h4
    constructor
    · intro e
      refine ⟨(), funext fun a => Fin.ext ?_⟩
      match a with
      | ⟨0, _⟩ => change 0 = (i 0).val; omega
      | ⟨1, _⟩ => change 0 = (i 1).val; omega
      | ⟨2, _⟩ => change (j 0).val = (i 2).val; rw [← e]; exact d0
      | ⟨3, _⟩ => change (j 1).val = (i 3).val; rw [← e]; exact d1
      | ⟨4, _⟩ => change 0 = (i 4).val; omega
    · rintro ⟨k, rfl⟩
      refine funext fun a => Fin.ext ?_
      match a with
      | ⟨0, _⟩ => exact d0
      | ⟨1, _⟩ => exact d1
/-- The gradient of the biases, repeated along the last axis. -/
theorem v155_at (i : S8x128x128.Idx) : val_main_v155 (F := Ideal) x0 x2 x8 i = ((sB U Z A 32 (i 0) (i 1) : ℝ) : EReal) := by
  have h0 := (i 0).isLt
  have h1 := (i 1).isLt
  change (i 0).val < 8 at h0
  change (i 1).val < 128 at h1
  rw [val_main_v155_apply, val_main_v154_apply, val_main_v153_apply, val_main_v127_apply, val_main_v87_apply, v86_at H]
  refine congrArg₂ (fun r d => ((sB U Z A 32 r d : ℝ) : EReal)) ?_ ?_
  · change ((i 0).val * 128 + (i 1).val) / 128 % 8 = _
    omega
  · change ((i 0).val * 128 + (i 1).val) % 128 = _
    omega
theorem v88_at (i : S8x1x32x128x128.Idx) : val_main_v88 (F := Ideal) x0 x2 x8 i
    = ((dM U Z A (128 * (i 2).val + (i 4).val) (128 * (i 0).val + (i 3).val) : ℝ) : EReal) := by
  rw [val_main_v88_apply, v83_at H]
theorem v90_at (i : S8x1x32x128x128.Idx) : val_main_v90 (F := Ideal) x0 x2 x6 x8 i
    = ((∑ k ∈ range 128, tri W (i 0) k (i 4) * dM U Z A (128 * (i 2).val + k) (128 * (i 0).val + (i 3).val) : ℝ) : EReal) := by
  rw [val_main_v90_apply, coe_sum_range]
  refine Finset.sum_congr rfl fun k _ => ?_
  rw [v88_at H, v67_at H, ← EReal.coe_mul, mul_comm]
theorem v93_at (i : S1x4096x1024.Idx) : val_main_v93 (F := Ideal) x0 x2 x6 x8 i = ((gL W U Z A (i 1) (i 2) : ℝ) : EReal) := by
  rw [val_main_v93_apply, val_main_v91_apply, v90_at H]
  have h0 := (i 0).isLt
  have h1 := (i 1).isLt
  have h2 := (i 2).isLt
  change (i 0).val < 1 at h0
  change (i 1).val < 4096 at h1
  change (i 2).val < 1024 at h2
  have e1 : ((idx_main_v93 i) 1).val = (i 1).val / 128 := by
    change (((i 0).val * 4096 + (i 1).val) * 1024 + (i 2).val) / 131072 % 32 = _
    omega
  have e2 : ((idx_main_v93 i) 2).val = (i 1).val % 128 := by
    change (((i 0).val * 4096 + (i 1).val) * 1024 + (i 2).val) / 1024 % 128 = _
    omega
  have e3 : ((idx_main_v93 i) 3).val = (i 2).val / 128 := by
    change (((i 0).val * 4096 + (i 1).val) * 1024 + (i 2).val) / 128 % 8 = _
    omega
  have e4 : ((idx_main_v93 i) 4).val = (i 2).val % 128 := by
    change (((i 0).val * 4096 + (i 1).val) * 1024 + (i 2).val) % 128 = _
    omega
  change ((∑ k ∈ range 128, tri W ((idx_main_v93 i) 3).val k ((idx_main_v93 i) 2).val
    * dM U Z A (128 * ((idx_main_v93 i) 1).val + k) (128 * ((idx_main_v93 i) 3).val + ((idx_main_v93 i) 4).val) : ℝ) : EReal) = _
  rw [e1, e2, e3, e4, row_split]
  rfl

end Values

end Cert.Mix

end
-- ==== Proof.Mixer.Arrays.lean ====
module

public import proofs.«01_k».proof.Proof.Mixer.Acc
public import Idealize.ShloMosaic.Lib.Pipeline.ValueKit
public import Idealize.ShloMosaic.Lib.Pointwise

@[expose] public section

noncomputable section

namespace Cert.Mix

open Cert.MixerIdeal Cert.MixerIdeal.Gen Idealize.ShloMosaic Idealize.ShloMosaic.TcCoe
open Finset

theorem idx : ∀ t : Fin cfg0.N, win0_0.index t = ![t.val, 0] ∧ win0_1.index t = ![t.val, 1] ∧ win0_2.index t = ![t.val, 2]
    ∧ win0_3.index t = ![t.val, 0] ∧ win0_4.index t = ![0, 0] ∧ win0_5.index t = ![0, 0] ∧ win0_6.index t = ![0, 0, 0]
    ∧ win0_7.index t = ![0, 0, 0] ∧ win0_8.index t = ![t.val, 0] :=
  (by decide +kernel : ∀ t : Fin grid0.N, _)

section Inputs
variable (m : (ℓ : Loc nD τ sig) → Buf (Elt Ideal) ℓ) (c : Dev nD) (U V' Z A : ℕ → ℕ → ℝ) (G B : ℕ → ℝ) (W : ℕ → ℕ → ℕ → ℝ) (b : ℕ → ℕ → ℝ)

/-- The arguments hold reals. -/
structure Args : Prop where
  a0 : ∀ j, (m ((c : Thread nD τ).loc main_arg0) : Vec Ideal S1x4096x1024 .f32) j = ((U (j 1) (j 2) : ℝ) : EReal)
  a1 : ∀ j, (m ((c : Thread nD τ).loc main_arg1) : Vec Ideal S1x4096x1024 .f32) j = ((V' (j 1) (j 2) : ℝ) : EReal)
  a2 : ∀ j, (m ((c : Thread nD τ).loc main_arg2) : Vec Ideal S1x4096x1024 .f32) j = ((Z (j 1) (j 2) : ℝ) : EReal)
  a8 : ∀ j, (m ((c : Thread nD τ).loc main_arg8) : Vec Ideal S1x4096x1024 .f32) j = ((A (j 1) (j 2) : ℝ) : EReal)
  a4 : ∀ j, (m ((c : Thread nD τ).loc main_arg4) : Vec Ideal S1x1024 .f32) j = ((G (j 1) : ℝ) : EReal)
  a5 : ∀ j, (m ((c : Thread nD τ).loc main_arg5) : Vec Ideal S1x1024 .f32) j = ((B (j 1) : ℝ) : EReal)
  a6 : ∀ j, (m ((c : Thread nD τ).loc main_arg6) : Vec Ideal S1x8x128x128 .f32) j = ((W (j 1) (j 2) (j 3) : ℝ) : EReal)
  a7 : ∀ j, (m ((c : Thread nD τ).loc main_arg7) : Vec Ideal S1x8x128 .f32) j = ((b (j 1) (j 2) : ℝ) : EReal)

/-- The pieces of the gathered columns. -/
abbrev pcs : List ((s : Shape) × (s.Idx → Elt Ideal .f32)) :=
  [⟨S4096x1024, V m c main_v0⟩, ⟨S4096x1024, V m c main_v1⟩, ⟨S4096x1024, V m c main_v2⟩, ⟨S4096x5120, V m c main_arg3⟩]
theorem V_v3 : V m c main_v3 = concatenate S4096x8192 1 (pcs m c) concatenates_S4096x1024_S4096x1024_S4096x1024_S4096x5120_S4096x8192_d1 := by
  rfl
theorem v0_apply (j : S4096x1024.Idx) : (V m c main_v0 : Vec Ideal S4096x1024 .f32) j = (m ((c : Thread nD τ).loc main_arg0) : Vec Ideal S1x4096x1024 .f32) (ix3 0 (j 0) (j 1)) := by
  unfold V
  entry_read
  pointwise
theorem v1_apply (j : S4096x1024.Idx) : (V m c main_v1 : Vec Ideal S4096x1024 .f32) j = (m ((c : Thread nD τ).loc main_arg1) : Vec Ideal S1x4096x1024 .f32) (ix3 0 (j 0) (j 1)) := by
  unfold V
  entry_read
  pointwise
theorem v2_apply (j : S4096x1024.Idx) : (V m c main_v2 : Vec Ideal S4096x1024 .f32) j = (m ((c : Thread nD τ).loc main_arg2) : Vec Ideal S1x4096x1024 .f32) (ix3 0 (j 0) (j 1)) := by
  unfold V
  entry_read
  pointwise
theorem v3_0 (r : Fin 4096) (d : Fin 1024) (e : Fin 8192) (he : e.val = d.val) : (V m c main_v3 : Vec Ideal S4096x8192 .f32) (ix2 r e)
    = (m ((c : Thread nD τ).loc main_arg0) : Vec Ideal S1x4096x1024 .f32) (ix3 0 r d) := by
  rw [V_v3]
  refine Eq.trans ?_ (v0_apply m c (ix2 r d))
  refine concatenate_apply_piece (t := S4096x8192) 1 (pcs m c) _ (ix2 r e) 0 (by change 0 < 4; decide) S4096x1024 (V m c main_v0) rfl rfl 0 rfl (ix2 r d) ?_ ?_
  · intro q hq
    match q with
    | 0 => rfl
    | 1 => exact absurd rfl hq
  · exact (Nat.zero_add _).trans he.symm
theorem v3_1 (r : Fin 4096) (d : Fin 1024) (e : Fin 8192) (he : e.val = 1024 + d.val) : (V m c main_v3 : Vec Ideal S4096x8192 .f32) (ix2 r e)
    = (m ((c : Thread nD τ).loc main_arg1) : Vec Ideal S1x4096x1024 .f32) (ix3 0 r d) := by
  rw [V_v3]
  refine Eq.trans ?_ (v1_apply m c (ix2 r d))
  refine concatenate_apply_piece (t := S4096x8192) 1 (pcs m c) _ (ix2 r e) 1 (by change 1 < 4; decide) S4096x1024 (V m c main_v1) rfl rfl 1024 rfl (ix2 r d) ?_ ?_
  · intro q hq
    match q with
    | 0 => rfl
    | 1 => exact absurd rfl hq
  · exact he.symm
theorem v3_2 (r : Fin 4096) (d : Fin 1024) (e : Fin 8192) (he : e.val = 2048 + d.val) : (V m c main_v3 : Vec Ideal S4096x8192 .f32) (ix2 r e)
    = (m ((c : Thread nD τ).loc main_arg2) : Vec Ideal S1x4096x1024 .f32) (ix3 0 r d) := by
  rw [V_v3]
  refine Eq.trans ?_ (v2_apply m c (ix2 r d))
  refine concatenate_apply_piece (t := S4096x8192) 1 (pcs m c) _ (ix2 r e) 2 (by change 2 < 4; decide) S4096x1024 (V m c main_v2) rfl rfl 2048 rfl (ix2 r d) ?_ ?_
  · intro q hq
    match q with
    | 0 => rfl
    | 1 => exact absurd rfl hq
  · exact he.symm

variable (t : Fin cfg0.N)
/-- Row `i` of block `t`, among all rows. -/
abbrev rowOf (t : Fin cfg0.N) (i : Fin 256) : Fin 4096 := ⟨256 * t.val + i.val, by have h := t.isLt; change t.val < 16 at h; omega⟩

theorem iblk0_apply (j : S256x1024.Idx) : (iblk m c 0 t : Vec Ideal S256x1024 .f32) j
    = (V m c main_v3 : Vec Ideal S4096x8192 .f32) (ix2 (rowOf t (j 0)) ⟨(j 1).val, by have : (j 1).val < 1024 := (j 1).isLt; omega⟩) := by
  blk_ext [iblk, idx t]
theorem iblk1_apply (j : S256x1024.Idx) : (iblk m c 1 t : Vec Ideal S256x1024 .f32) j
    = (V m c main_v3 : Vec Ideal S4096x8192 .f32) (ix2 (rowOf t (j 0)) ⟨1024 + (j 1).val, by have : (j 1).val < 1024 := (j 1).isLt; omega⟩) := by
  blk_ext [iblk, idx t]
theorem iblk2_apply (j : S256x1024.Idx) : (iblk m c 2 t : Vec Ideal S256x1024 .f32) j
    = (V m c main_v3 : Vec Ideal S4096x8192 .f32) (ix2 (rowOf t (j 0)) ⟨2048 + (j 1).val, by have : (j 1).val < 1024 := (j 1).isLt; omega⟩) := by
  blk_ext [iblk, idx t]
theorem iblk3_apply (j : S256x1024.Idx) : (iblk m c 3 t : Vec Ideal S256x1024 .f32) j
    = (m ((c : Thread nD τ).loc main_arg8) : Vec Ideal S1x4096x1024 .f32) (ix3 0 (rowOf t (j 0)) (j 1)) := by
  blk_ext! [iblk, V, idx t]
theorem iblk4_apply (j : S1x1024.Idx) : (iblk m c 4 t : Vec Ideal S1x1024 .f32) j = (m ((c : Thread nD τ).loc main_arg4) : Vec Ideal S1x1024 .f32) j := by
  blk_ext! [iblk, V, idx t]
theorem iblk5_apply (j : S1x1024.Idx) : (iblk m c 5 t : Vec Ideal S1x1024 .f32) j = (m ((c : Thread nD τ).loc main_arg5) : Vec Ideal S1x1024 .f32) j := by
  blk_ext! [iblk, V, idx t]
theorem iblk6_apply (j : S8x128x128.Idx) : (iblk m c 6 t : Vec Ideal S8x128x128 .f32) j
    = (m ((c : Thread nD τ).loc main_arg6) : Vec Ideal S1x8x128x128 .f32) (ix4 0 (j 0) (j 1) (j 2)) := by
  blk_ext! [iblk, V, idx t]
theorem iblk7_apply (j : S8x128x128.Idx) : (iblk m c 7 t : Vec Ideal S8x128x128 .f32) j
    = (m ((c : Thread nD τ).loc main_arg7) : Vec Ideal S1x8x128 .f32) (ix3 0 (j 0) (j 1)) := by
  blk_ext! [iblk, V, idx t]

variable {m c U V' Z A G B W b}
theorem Args.ins (H : Args m c U V' Z A G B W b) : Ins m c U V' Z A G B W b where
  h0 t j := (iblk0_apply m c t j).trans ((v3_0 m c _ (j 1) _ rfl).trans (H.a0 _))
  h1 t j := (iblk1_apply m c t j).trans ((v3_1 m c _ (j 1) _ rfl).trans (H.a1 _))
  h2 t j := (iblk2_apply m c t j).trans ((v3_2 m c _ (j 1) _ rfl).trans (H.a2 _))
  h3 t j := (iblk3_apply m c t j).trans (H.a8 _)
  h4 t j := (iblk4_apply m c t j).trans (H.a4 _)
  h5 t j := (iblk5_apply m c t j).trans (H.a5 _)
  h6 t j := (iblk6_apply m c t j).trans (H.a6 _)
  h7 t j := (iblk7_apply m c t j).trans (H.a7 _)
end Inputs

section Arrays
variable {m : (ℓ : Loc nD τ sig) → Buf (Elt Ideal) ℓ} {c : Dev nD} {U V' Z A : ℕ → ℕ → ℝ} {G B : ℕ → ℝ} {W : ℕ → ℕ → ℕ → ℝ} {b : ℕ → ℕ → ℝ}
  (H : Ins m c U V' Z A G B W b)
include H

/-- The four accumulated results after the last step. -/
theorem arr9 : (dats m 0 c).arrAt 9 cfg0.N
    = (fun j => ((if (j 1).val < (j 2).val then 0 else sW U V' Z A G B 32 (j 0) (j 1) (j 2) : ℝ) : EReal) : Vec Ideal S8x128x128 .f32) := by
  refine (dats m 0 c).arrAt_eq_of_after_last 9 t0_15 (by decide +kernel) _ fun j => ?_
  blk_simp
  rw [after0_9]
  refine (acc9 H 15 _ _).trans ?_
  simp only [true_and]
  rfl
theorem arr10 : (dats m 0 c).arrAt 10 cfg0.N
    = (fun j => ((sB U Z A 32 (j 0) (j 1) : ℝ) : EReal) : Vec Ideal S8x128x128 .f32) := by
  refine (dats m 0 c).arrAt_eq_of_after_last 10 t0_15 (by decide +kernel) _ fun j => ?_
  blk_simp
  rw [after0_10]
  exact acc10 H 15 _ _
theorem arr11 : (dats m 0 c).arrAt 11 cfg0.N
    = (fun j => ((∑ R ∈ range 4096, gL W U Z A R (j 1) * vh V' R (j 1) : ℝ) : EReal) : Vec Ideal S1x1024 .f32) := by
  refine (dats m 0 c).arrAt_eq_of_after_last 11 t0_15 (by decide +kernel) _ fun j => ?_
  blk_simp
  rw [after0_11]
  exact acc11 H 15 _ _
theorem arr12 : (dats m 0 c).arrAt 12 cfg0.N
    = (fun j => ((∑ R ∈ range 4096, gL W U Z A R (j 1) : ℝ) : EReal) : Vec Ideal S1x1024 .f32) := by
  refine (dats m 0 c).arrAt_eq_of_after_last 12 t0_15 (by decide +kernel) _ fun j => ?_
  blk_simp
  rw [after0_12]
  exact acc12 H 15 _ _
/-- The gradients of u, v and z in the first 3072 columns; the rest of the buffer as it was. -/
theorem arr8 : (dats m 0 c).arrAt 8 cfg0.N
    = (fun j => if (j 1).val < 3072 then ((o8 G B W b U V' Z A (j 0) (j 1) : ℝ) : EReal) else (m ((c : Thread nD τ).loc main_arg9) : Vec Ideal S4096x8192 .bf16) j : Vec Ideal S4096x8192 .bf16) := by
  refine (dats m 0 c).arrAt_eq_of_coversWhere_of_agree 8 _ (fun β => β (1 : Fin 2) = 0) (by decide +kernel) (fun t hf y => ?_) (fun j hj => ?_)
  · blk_simp [idx t]
    rw [after0_8]
    refine (out8_apply H t _).trans ?_
    have h1 : ((cfg0.win 8).xinj (cfg0.grid.coords t) y 1).val < 3072 := ((cfg0.win 8).xinj (cfg0.grid.coords t) y 1).isLt
    rw [if_pos (show (y 1).val < 3072 from h1), Nat.mul_comm t.val 256]
  · blk_simp [Pipeline.Window.cell_apply] at hj
    have h2 : ¬((cfg0.win 8).arr.view.emb j 1).val < 3072 := by
      change ¬(j 1).val < 3072
      omega
    rw [if_neg h2]
    exact congrFun ((A_eq m c 8).trans (V_main_arg9 m c)) _
end Arrays
end Cert.Mix
-- ==== Proof.Mixer.Ref3.lean ====
module

public import proofs.«01_k».proof.Proof.Mixer.Ref2
public import proofs.«01_k».proof.Proof.Mixer.Arrays
public import Idealize.ShloMosaic.Lib.Pipeline.ValueKit

@[expose] public section

noncomputable section

/-! The reference's gradients of the mixing matrices, of the layer norm and of u and v, and its joined columns. -/

namespace Cert.Mix

open Cert.MixerRefIdeal Cert.MixerRefIdeal.Gen Cert.MixerRefIdeal.Read Idealize.ShloMosaic Idealize.ShloMosaic.TcCoe
open Finset

/-- The product of the gradients of the mixed values with the layer norm's result, over chunks and columns. -/
abbrev dW := dot_S8x1x32x128x128_S1x32x128x8x128_S8x128x128_123_014_4_2_0_3

/-- One chunk and one of its columns, as a place of the product's contraction. -/
def dWk (k : Fin 32 × Fin 128) : dW.contr.Idx := fun a => match a with
  | ⟨0, _⟩ => ⟨0, Nat.one_pos⟩
  | ⟨1, _⟩ => k.1
  | ⟨2, _⟩ => k.2
theorem dWk_bij : Function.Bijective dWk := by
  constructor
  · intro k l e
    exact Prod.ext (congrFun e ⟨1, by decide⟩) (congrFun e ⟨2, by decide⟩)
  · intro q
    refine ⟨(q ⟨1, by decide⟩, q ⟨2, by decide⟩), funext fun a => Fin.ext ?_⟩
    match a with
    | ⟨0, h⟩ =>
      have h0 : (q ⟨0, h⟩).val < 1 := (q ⟨0, h⟩).isLt
      change 0 = (q ⟨0, h⟩).val
      omega
    | ⟨1, _⟩ => rfl
    | ⟨2, _⟩ => rfl
theorem dW_lhs0 (i : S8x128x128.Idx) (q : dW.contr.Idx) : (dW.lhsIdx i q 0).val = (i 0).val := by
  unfold DotDims.lhsIdx
  rw [dif_pos (show (0 : Fin S8x1x32x128x128.rank) ∈ dW.lhsBatch by decide)]
  rfl
theorem dW_lhs2 (i : S8x128x128.Idx) (q : dW.contr.Idx) : (dW.lhsIdx i q 2).val = (q ⟨1, by decide⟩).val := by
  unfold DotDims.lhsIdx
  rw [dif_neg (show ¬(2 : Fin S8x1x32x128x128.rank) ∈ dW.lhsBatch by decide),
    dif_neg (show ¬(2 : Fin S8x1x32x128x128.rank) ∈ dW.lhsNonContracting by decide)]
  rfl
theorem dW_lhs3 (i : S8x128x128.Idx) (q : dW.contr.Idx) : (dW.lhsIdx i q 3).val = (q ⟨2, by decide⟩).val := by
  unfold DotDims.lhsIdx
  rw [dif_neg (show ¬(3 : Fin S8x1x32x128x128.rank) ∈ dW.lhsBatch by decide),
    dif_neg (show ¬(3 : Fin S8x1x32x128x128.rank) ∈ dW.lhsNonContracting by decide)]
  rfl
theorem dW_lhs4 (i : S8x128x128.Idx) (q : dW.contr.Idx) : (dW.lhsIdx i q 4).val = (i 1).val := by
  unfold DotDims.lhsIdx
  rw [dif_neg (show ¬(4 : Fin S8x1x32x128x128.rank) ∈ dW.lhsBatch by decide),
    dif_pos (show (4 : Fin S8x1x32x128x128.rank) ∈ dW.lhsNonContracting by decide)]
  rfl
theorem dW_rhs1 (i : S8x128x128.Idx) (q : dW.contr.Idx) : (dW.rhsIdx i q 1).val = (q ⟨1, by decide⟩).val := by
  unfold DotDims.rhsIdx
  rw [dif_neg (show ¬(1 : Fin S1x32x128x8x128.rank) ∈ dW.rhsBatch by decide),
    dif_neg (show ¬(1 : Fin S1x32x128x8x128.rank) ∈ dW.rhsNonContracting by decide)]
  rfl
theorem dW_rhs2 (i : S8x128x128.Idx) (q : dW.contr.Idx) : (dW.rhsIdx i q 2).val = (i 2).val := by
  unfold DotDims.rhsIdx
  rw [dif_neg (show ¬(2 : Fin S1x32x128x8x128.rank) ∈ dW.rhsBatch by decide),
    dif_pos (show (2 : Fin S1x32x128x8x128.rank) ∈ dW.rhsNonContracting by decide)]
  rfl
theorem dW_rhs3 (i : S8x128x128.Idx) (q : dW.contr.Idx) : (dW.rhsIdx i q 3).val = (i 0).val := by
  unfold DotDims.rhsIdx
  rw [dif_pos (show (3 : Fin S1x32x128x8x128.rank) ∈ dW.rhsBatch by decide)]
  rfl
theorem dW_rhs4 (i : S8x128x128.Idx) (q : dW.contr.Idx) : (dW.rhsIdx i q 4).val = (q ⟨2, by decide⟩).val := by
  unfold DotDims.rhsIdx
  rw [dif_neg (show ¬(4 : Fin S1x32x128x8x128.rank) ∈ dW.rhsBatch by decide),
    dif_neg (show ¬(4 : Fin S1x32x128x8x128.rank) ∈ dW.rhsNonContracting by decide)]
  rfl

/-- A row's gradient of the layer norm's result, and of its normalised row. -/
def gN (G : ℕ → ℝ) (W : ℕ → ℕ → ℕ → ℝ) (U Z A : ℕ → ℕ → ℝ) (R d : ℕ) : ℝ := gL W U Z A R d * G d

section Values

variable {x0 x1 x2 x8 : (⟨S1x4096x1024, .f32⟩ : BufTy).Contents (Elt Ideal)} {x4 x5 : (⟨S1x1024, .f32⟩ : BufTy).Contents (Elt Ideal)}
  {x6 : (⟨S1x8x128x128, .f32⟩ : BufTy).Contents (Elt Ideal)} {x7 : (⟨S1x8x128, .f32⟩ : BufTy).Contents (Elt Ideal)}
  {U V Z A : ℕ → ℕ → ℝ} {G B : ℕ → ℝ} {W : ℕ → ℕ → ℕ → ℝ} {b : ℕ → ℕ → ℝ}
  (H : RA x0 x1 x2 x8 x4 x5 x6 x7 U V Z A G B W b)
include H

theorem v89_at (i : S8x128x128.Idx) : val_main_v89 (F := Ideal) x0 x1 x2 x4 x5 x8 i = ((sW U V Z A G B 32 (i 0) (i 1) (i 2) : ℝ) : EReal) := by
  unfold val_main_v89
  simp only [Host.dotGeneral]
  rw [Ideal.dotGeneral_apply, ← Function.Bijective.sum_comp dWk_bij, Fintype.sum_prod_type]
  unfold sW dWp
  rw [coe_sum_range]
  refine Finset.sum_congr rfl fun c _ => ?_
  rw [coe_sum_range]
  refine Finset.sum_congr rfl fun k _ => ?_
  rw [v88_at H, v63_at H, ← EReal.coe_mul, dW_lhs0, dW_lhs2, dW_lhs3, dW_lhs4, dW_rhs1, dW_rhs2, dW_rhs3, dW_rhs4]
  rfl
/-- The gradient of the mixing matrices, zero above the diagonal. -/
theorem v158_at (i : S8x128x128.Idx) : val_main_v158 (F := Ideal) x0 x1 x2 x4 x5 x8 i
    = ((if (i 1).val < (i 2).val then 0 else sW U V Z A G B 32 (i 0) (i 1) (i 2) : ℝ) : EReal) := by
  have h0 := (i 0).isLt
  have h1 := (i 1).isLt
  have h2 := (i 2).isLt
  change (i 0).val < 8 at h0
  change (i 1).val < 128 at h1
  change (i 2).val < 128 at h2
  have e : idx_main_v128 (idx_main_v158 i) = i := funext fun a => Fin.ext (by
    match a with
    | ⟨0, _⟩ => change (((i 0).val * 128 + (i 1).val) * 128 + (i 2).val) / 16384 % 8 = (i 0).val; omega
    | ⟨1, _⟩ => change (((i 0).val * 128 + (i 1).val) * 128 + (i 2).val) / 128 % 128 = (i 1).val; omega
    | ⟨2, _⟩ => change (((i 0).val * 128 + (i 1).val) * 128 + (i 2).val) % 128 = (i 2).val; omega)
  rw [val_main_v158_apply, val_main_v128_apply, e, val_main_v92_apply, mask_at, v89_at H, val_main_call4_v0_apply, val_main_call4_cst_apply,
    Ideal.ofBits_def, Ideal.ofBits_zero_f32]
  by_cases h : (i 2).val ≤ (i 1).val
  · rw [if_pos h, if_neg (by omega)]; rfl
  · rw [if_neg h, if_pos (by omega)]; rfl

theorem v94_at (j : S1x1024.Idx) : val_main_v94 (F := Ideal) x0 x2 x6 x8 j = ((∑ R ∈ range 4096, gL W U Z A R (j 1) : ℝ) : EReal) := by
  rw [val_main_v94_apply, val_main_cst_18_apply, Ideal.ofBits_def, Ideal.ofBits_zero_f32, zero_add, coe_sum_range]
  refine Finset.sum_congr rfl fun k _ => ?_
  rw [v93_at H]
theorem v98_at (j : S1x1024.Idx) : val_main_v98 (F := Ideal) x0 x1 x2 x6 x8 j
    = ((∑ R ∈ range 4096, gL W U Z A R (j 1) * vh V R (j 1) : ℝ) : EReal) := by
  rw [val_main_v98_apply, val_main_cst_20_apply, Ideal.ofBits_def, Ideal.ofBits_zero_f32, zero_add, coe_sum_range]
  refine Finset.sum_congr rfl fun k _ => ?_
  rw [val_main_v97_apply, v56_at H, v93_at H, Ideal.mulf_def, ← EReal.coe_mul, mul_comm]
omit H in
/-- A sum over two axes of size one. -/
theorem sum_unit_rows (x : S1x1x1024.Idx → EReal) (init : EReal) (j : S1024.Idx) :
    Ideal.hostReduceAdd reducesTo_S1x1x1024_S1024_d0_1 x init j = init + x (ix3 0 0 (j 0)) := by
  rw [reduce_by reducesTo_S1x1x1024_S1024_d0_1 x init j (κ := Unit) (fun _ => ix3 0 0 (j 0)) (fun _ _ _ => rfl) ?_, Fintype.sum_unique]
  intro i
  have d0 := Shape.ReducesTo.drop_apply_val_of_eq reducesTo_S1x1x1024_S1024_d0_1 i 0 2
  have h0 := (i 0).isLt
  have h1 := (i 1).isLt
  change (i 0).val < 1 at h0
  change (i 1).val < 1 at h1
  constructor
  · intro e
    refine ⟨(), funext fun a => Fin.ext ?_⟩
    match a with
    | ⟨0, _⟩ => change 0 = (i 0).val; omega
    | ⟨1, _⟩ => change 0 = (i 1).val; omega
    | ⟨2, _⟩ => change (j 0).val = (i 2).val; rw [← e]; exact d0
  · rintro ⟨k, rfl⟩
    refine funext fun a => Fin.ext ?_
    match a with
    | ⟨0, _⟩ => exact d0
omit H in
/-- A sum over a first and a last axis of size one. -/
theorem sum_unit_cols (x : S1x4096x1.Idx → EReal) (init : EReal) (j : S4096.Idx) :
    Ideal.hostReduceAdd reducesTo_S1x4096x1_S4096_d0_2 x init j = init + x (ix3 0 (j 0) 0) := by
  rw [reduce_by reducesTo_S1x4096x1_S4096_d0_2 x init j (κ := Unit) (fun _ => ix3 0 (j 0) 0) (fun _ _ _ => rfl) ?_, Fintype.sum_unique]
  intro i
  have d0 := Shape.ReducesTo.drop_apply_val_of_eq reducesTo_S1x4096x1_S4096_d0_2 i 0 1
  have h0 := (i 0).isLt
  have h2 := (i 2).isLt
  change (i 0).val < 1 at h0
  change (i 2).val < 1 at h2
  constructor
  · intro e
    refine ⟨(), funext fun a => Fin.ext ?_⟩
    match a with
    | ⟨0, _⟩ => change 0 = (i 0).val; omega
    | ⟨1, _⟩ => change (j 0).val = (i 1).val; rw [← e]; exact d0
    | ⟨2, _⟩ => change 0 = (i 2).val; omega
  · rintro ⟨k, rfl⟩
    refine funext fun a => Fin.ext ?_
    match a with
    | ⟨0, _⟩ => exact d0
/-- The gradient of the layer norm's offset. -/
theorem v129_at (j : S1x1024.Idx) : val_main_v129 (F := Ideal) x0 x2 x6 x8 j = ((∑ R ∈ range 4096, gL W U Z A R (j 1) : ℝ) : EReal) := by
  have h1 := (j 1).isLt
  change (j 1).val < 1024 at h1
  rw [val_main_v129_apply]
  unfold val_main_v96
  simp only [Host.reduceAdd, Ideal.hostReduceAdd_def]
  rw [sum_unit_rows, val_main_cst_19_apply, Ideal.ofBits_def, Ideal.ofBits_zero_f32, zero_add, val_main_v95_apply, v94_at H]
  refine congrArg (fun d => ((∑ R ∈ range 4096, gL W U Z A R d : ℝ) : EReal)) ?_
  change ((0 * 1 + 0) * 1024 + (j 1).val) % 1024 = _
  omega
/-- The gradient of the layer norm's scale. -/
theorem v130_at (j : S1x1024.Idx) : val_main_v130 (F := Ideal) x0 x1 x2 x6 x8 j
    = ((∑ R ∈ range 4096, gL W U Z A R (j 1) * vh V R (j 1) : ℝ) : EReal) := by
  have h1 := (j 1).isLt
  change (j 1).val < 1024 at h1
  rw [val_main_v130_apply]
  unfold val_main_v102
  simp only [Host.reduceAdd, Ideal.hostReduceAdd_def]
  rw [sum_unit_rows, val_main_cst_21_apply, Ideal.ofBits_def, Ideal.ofBits_zero_f32, zero_add, val_main_v99_apply, v98_at H]
  refine congrArg (fun d => ((∑ R ∈ range 4096, gL W U Z A R d * vh V R d : ℝ) : EReal)) ?_
  change ((0 * 1 + 0) * 1024 + (j 1).val) % 1024 = _
  omega

/-! ### Back through the layer norm -/

theorem v101_at (i : S1x4096x1024.Idx) : val_main_v101 (F := Ideal) x0 x2 x4 x6 x8 i = ((gN G W U Z A (i 1) (i 2) : ℝ) : EReal) := by
  rw [val_main_v101_apply, val_main_v100_apply, v93_at H, v57_at H, Ideal.mulf_def, ← EReal.coe_mul]
  rfl
theorem v104_at (i : S1x4096.Idx) : val_main_v104 (F := Ideal) x0 x1 x2 x4 x6 x8 i
    = ((∑ k ∈ range 1024, cen (gv V (i 1)) k * gN G W U Z A (i 1) k : ℝ) : EReal) := by
  rw [val_main_v104_apply, val_main_cst_22_apply, Ideal.ofBits_def, Ideal.ofBits_zero_f32, zero_add, coe_sum_range]
  refine Finset.sum_congr rfl fun k _ => ?_
  rw [val_main_v103_apply, v43_at H, v101_at H, Ideal.mulf_def, ← EReal.coe_mul]
/-- The gradient of half the variance, over 1024. -/
def gVar (G : ℕ → ℝ) (W : ℕ → ℕ → ℕ → ℝ) (U V Z A : ℕ → ℕ → ℝ) (R : ℕ) : ℝ :=
  (∑ k ∈ range 1024, cen (gv V R) k * gN G W U Z A R k) * (-(1 / 2) * (rs (gv V R) / (var (gv V R) + eps))) / 1024
theorem v110_at (i : S1x4096x1.Idx) : val_main_v110 (F := Ideal) x0 x1 x2 x4 x6 x8 i = ((gVar G W U V Z A (i 1) : ℝ) : EReal) := by
  have h0 := (i 0).isLt
  have h1 := (i 1).isLt
  have h2 := (i 2).isLt
  change (i 0).val < 1 at h0
  change (i 1).val < 4096 at h1
  change (i 2).val < 1 at h2
  have e : (idx_main_v105 i 1).val = (i 1).val := by
    change (((i 0).val * 4096 + (i 1).val) * 1 + (i 2).val) % 4096 = _
    omega
  rw [val_main_v110_apply, val_main_v109_apply, val_main_cst_23_apply, val_main_v108_apply, val_main_v105_apply, v104_at H, v54_at H, e,
    Ideal.ofBits_def, word_1024, Ideal.mulf_def, ← EReal.coe_mul, Ideal.hostDivf_def, div_1024]
  rfl
theorem v113_at (i : S1x4096x1024.Idx) : val_main_v113 (F := Ideal) x0 x1 x2 x4 x6 x8 i = ((gVar G W U V Z A (i 1) : ℝ) : EReal) := by
  rw [val_main_v113_apply, val_main_v112_apply]
  unfold val_main_v111
  simp only [Host.reduceAdd, Ideal.hostReduceAdd_def]
  rw [sum_unit_cols, val_main_cst_24_apply, Ideal.ofBits_def, Ideal.ofBits_zero_f32, zero_add, v110_at H]
  rfl
theorem v117_at (i : S1x4096x1024.Idx) : val_main_v117 (F := Ideal) x0 x1 x2 x4 x6 x8 i
    = ((gN G W U Z A (i 1) (i 2) * rs (gv V (i 1)) + cen (gv V (i 1)) (i 2) * gVar G W U V Z A (i 1)
        + gVar G W U V Z A (i 1) * cen (gv V (i 1)) (i 2) : ℝ) : EReal) := by
  rw [val_main_v117_apply, val_main_v115_apply, val_main_v107_apply, val_main_v106_apply, val_main_v114_apply, val_main_v116_apply,
    v101_at H, v51_at H, v43_at H, v113_at H]
  simp only [Ideal.mulf_def, ← EReal.coe_mul, Ideal.addf_def, ← EReal.coe_add]
theorem v122_at (i : S1x4096x1.Idx) : val_main_v122 (F := Ideal) x0 x1 x2 x4 x6 x8 i
    = (((∑ k ∈ range 1024, -(gN G W U Z A (i 1) k * rs (gv V (i 1)) + cen (gv V (i 1)) k * gVar G W U V Z A (i 1)
        + gVar G W U V Z A (i 1) * cen (gv V (i 1)) k)) / 1024 : ℝ) : EReal) := by
  have h0 := (i 0).isLt
  have h1 := (i 1).isLt
  have h2 := (i 2).isLt
  change (i 0).val < 1 at h0
  change (i 1).val < 4096 at h1
  change (i 2).val < 1 at h2
  have e : (idx_main_v120 i 1).val = (i 1).val := by
    change (((i 0).val * 4096 + (i 1).val) * 1 + (i 2).val) % 4096 = _
    omega
  rw [val_main_v122_apply, val_main_v121_apply, val_main_cst_26_apply, val_main_v120_apply, val_main_v119_apply, val_main_cst_25_apply,
    Ideal.ofBits_def, Ideal.ofBits_zero_f32, zero_add, Ideal.ofBits_def, word_1024, ← div_1024, coe_sum_range, Ideal.hostDivf_def]
  refine congrArg (fun s => Ideal.div s _) (Finset.sum_congr rfl fun k _ => ?_)
  rw [val_main_v118_apply, v117_at H, Ideal.hostNegf_def, Ideal.negf_def, ← EReal.coe_neg]
  exact congrArg (fun R : ℕ => ((-(gN G W U Z A R k * rs (gv V R) + cen (gv V R) k * gVar G W U V Z A R
        + gVar G W U V Z A R * cen (gv V R) k) : ℝ) : EReal)) e
/-- The gradient that reaches the layer norm's operand. -/
theorem v126_at (i : S1x4096x1024.Idx) : val_main_v126 (F := Ideal) x0 x1 x2 x4 x6 x8 i
    = ((dnorm (gv V (i 1)) (gN G W U Z A (i 1)) (i 2) : ℝ) : EReal) := by
  rw [val_main_v126_apply, val_main_v125_apply, val_main_v124_apply]
  unfold val_main_v123
  simp only [Host.reduceAdd, Ideal.hostReduceAdd_def]
  rw [sum_unit_cols, val_main_cst_27_apply, Ideal.ofBits_def, Ideal.ofBits_zero_f32, zero_add, v122_at H, v117_at H, Ideal.addf_def,
    ← EReal.coe_add, dnorm_eq]
  rfl

/-! ### Back through the gelus -/

theorem v138_at (i : S1x4096x1024.Idx) : val_main_v138 (F := Ideal) x0 x1 x2 x4 x6 x8 i
    = ((dnorm (gv V (i 1)) (gN G W U Z A (i 1)) (i 2) * dgelu (V (i 1) (i 2)) : ℝ) : EReal) := by
  rw [val_main_v138_apply, val_main_v135_apply, val_main_v134_apply, val_main_v19_apply, val_main_cst_5_apply, val_main_v133_apply,
    val_main_v131_apply, val_main_v137_apply, val_main_v136_apply, val_main_cst_28_apply, val_main_v132_apply, v18_at H, v30_at H,
    v32_at H, v126_at H]
  simp only [Ideal.ofBits_def, word_half, word_two, Ideal.hostUnary_sqrt_def, sqrt_two, Ideal.mulf_def, ← EReal.coe_mul,
    Ideal.hostDivf_def, div_real _ _ sqrt_two_ne, Ideal.addf_def, ← EReal.coe_add]
  exact congrArg _ (dgelu_eq _ _)
theorem v146_at (i : S1x4096x1024.Idx) : val_main_v146 (F := Ideal) x0 x1 x2 x4 x5 x6 x7 x8 i
    = ((A (i 1) (i 2) * MX G B W b V (i 1) (i 2) * silu (Z (i 1) (i 2)) * dgelu (U (i 1) (i 2)) : ℝ) : EReal) := by
  rw [val_main_v146_apply, val_main_v143_apply, val_main_v142_apply, val_main_v2_apply, val_main_cst_0_apply, val_main_v141_apply,
    val_main_v139_apply, val_main_v145_apply, val_main_v144_apply, val_main_cst_29_apply, val_main_v140_apply, v1_at H, v13_at H,
    v15_at H, v82_at H]
  simp only [Ideal.ofBits_def, word_half, word_two, Ideal.hostUnary_sqrt_def, sqrt_two, Ideal.mulf_def, ← EReal.coe_mul,
    Ideal.hostDivf_def, div_real _ _ sqrt_two_ne, Ideal.addf_def, ← EReal.coe_add]
  exact congrArg _ ((dgelu_eq _ _).trans (by ring))

/-! ### The joined columns -/

theorem v148_at (r : Fin 4096) (d : Fin 1024) : val_main_v148 (F := Ideal) x0 x1 x2 x4 x5 x6 x7 x8 (ix2 r d)
    = ((A r d * MX G B W b V r d * silu (Z r d) * dgelu (U r d) : ℝ) : EReal) := by
  rw [val_main_v148_apply, Ideal.truncf_def, val_main_v147_apply, v146_at H]
  refine congrArg₂ (fun r d : ℕ => ((A r d * MX G B W b V r d * silu (Z r d) * dgelu (U r d) : ℝ) : EReal)) ?_ ?_
  · change (r.val * 1024 + d.val) / 1024 % 4096 = _
    omega
  · change (r.val * 1024 + d.val) % 1024 = _
    omega
theorem v150_at (r : Fin 4096) (d : Fin 1024) : val_main_v150 (F := Ideal) x0 x1 x2 x4 x6 x8 (ix2 r d)
    = ((dnorm (gv V r) (gN G W U Z A r) d * dgelu (V r d) : ℝ) : EReal) := by
  rw [val_main_v150_apply, Ideal.truncf_def, val_main_v149_apply, v138_at H]
  refine congrArg₂ (fun r d : ℕ => ((dnorm (gv V r) (gN G W U Z A r) d * dgelu (V r d) : ℝ) : EReal)) ?_ ?_
  · change (r.val * 1024 + d.val) / 1024 % 4096 = _
    omega
  · change (r.val * 1024 + d.val) % 1024 = _
    omega
theorem v152_at (r : Fin 4096) (d : Fin 1024) : val_main_v152 (F := Ideal) x0 x1 x2 x4 x5 x6 x7 x8 (ix2 r d)
    = ((A r d * gelu (U r d) * MX G B W b V r d * dsilu (Z r d) : ℝ) : EReal) := by
  rw [val_main_v152_apply, Ideal.truncf_def, val_main_v151_apply, v80_at H]
  refine congrArg₂ (fun r d : ℕ => ((A r d * gelu (U r d) * MX G B W b V r d * dsilu (Z r d) : ℝ) : EReal)) ?_ ?_
  · change (r.val * 1024 + d.val) / 1024 % 4096 = _
    omega
  · change (r.val * 1024 + d.val) % 1024 = _
    omega

end Values

end Cert.Mix

end
-- ==== Proof.Mixer.Finite.lean ====
module

public import proofs.«01_k».proof.Defs
public import proofs.«01_k».proof.Proof.Gen.Pre_mixer_finite
public import proofs.«01_k».proof.Proof.Mixer.Arrays
public import Idealize.ShloMosaic.Lib.ReduceAll

@[expose] public section

noncomputable section

/-! The precondition read: every argument that reaches a gradient holds real numbers. -/

namespace Cert.Mix

open Idealize.ShloMosaic Idealize.ShloMosaic.TcCoe

/-- An extended real whose absolute value lies below the infinity is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  have hlt : max x (-x) < ⊤ := by
    by_contra hn
    rw [htop, show Ideal.cmp .olt (max x (-x)) ⊤ = BitVec.ofBool (decide (max x (-x) < ⊤)) from rfl, decide_eq_false hn] at h
    exact absurd h (by decide)
  induction x using EReal.rec with
  | bot => simp at hlt
  | top => simp at hlt
  | coe r => exact ⟨r, rfl⟩

theorem andi_one (c d : BitVec 1) : IntOp.andi c d = 1#1 ↔ c = 1#1 ∧ d = 1#1 := by revert c d; decide

/-- An array all of whose entries compare below the infinity in absolute value holds reals. -/
theorem reals_of_all {s u : Shape} {axes : List (Fin s.rank)} {h : s.ReducesTo axes Cert.Pre_mixer_finite.S_} {hu : 0 < u.numel}
    (x y : FVec Ideal s .f32) (hy : ∀ i, y i = Ideal.ofBits .f32 0x7F800000#32) (init : u.Idx → BitVec 1) (j : Cert.Pre_mixer_finite.S_.Idx)
    (e : Host.reduce IntOp.andi (cmpf .olt (Host.absf x) y) init h hu j = 1#1) (i : s.Idx) : ∃ r : ℝ, x i = (r : EReal) := by
  haveI : Subsingleton Cert.Pre_mixer_finite.S_.Idx := ⟨fun a b => funext fun q => q.elim0⟩
  have q := Host.reduce_andi_all _ _ h hu j e i
  refine real_of_abs_lt (x i) ?_
  rw [← hy i]
  exact q

variable (x0 x1 x2 x8 : FVec Ideal Cert.Pre_mixer_finite.S1x4096x1024 .f32) (x3 : FVec Ideal Cert.Pre_mixer_finite.S4096x5120 .f32)
  (x4 x5 : FVec Ideal Cert.Pre_mixer_finite.S1x1024 .f32) (x6 : FVec Ideal Cert.Pre_mixer_finite.S1x8x128x128 .f32)
  (x7 : FVec Ideal Cert.Pre_mixer_finite.S1x8x128 .f32) (x9 : FVec Ideal Cert.Pre_mixer_finite.S4096x8192 .bf16)

/-- The precondition's value read: each of the eight arrays holds reals. -/
theorem reals_of_pre (h : Cert.Pre_mixer_finite.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x8 i = (r : EReal)) ∧ (∀ i, ∃ r : ℝ, x4 i = (r : EReal)) ∧ (∀ i, ∃ r : ℝ, x5 i = (r : EReal))
    ∧ (∀ i, ∃ r : ℝ, x6 i = (r : EReal)) ∧ ∀ i, ∃ r : ℝ, x7 i = (r : EReal) := by
  have e := congrFun h (fun q => q.elim0)
  unfold Cert.Pre_mixer_finite.fn Cert.Pre_mixer_finite.fn_part1 Cert.Pre_mixer_finite.fn_part2 at e
  dsimp only [andi] at e
  obtain ⟨e, e8⟩ := (andi_one _ _).1 e
  obtain ⟨e, e7⟩ := (andi_one _ _).1 e
  obtain ⟨e, e6⟩ := (andi_one _ _).1 e
  obtain ⟨e, e5⟩ := (andi_one _ _).1 e
  obtain ⟨e, e4⟩ := (andi_one _ _).1 e
  obtain ⟨e, e2⟩ := (andi_one _ _).1 e
  obtain ⟨e0, e1⟩ := (andi_one _ _).1 e
  exact ⟨reals_of_all _ _ (fun _ => rfl) _ _ e0, reals_of_all _ _ (fun _ => rfl) _ _ e1, reals_of_all _ _ (fun _ => rfl) _ _ e2,
    reals_of_all _ _ (fun _ => rfl) _ _ e8, reals_of_all _ _ (fun _ => rfl) _ _ e4, reals_of_all _ _ (fun _ => rfl) _ _ e5,
    reals_of_all _ _ (fun _ => rfl) _ _ e6, reals_of_all _ _ (fun _ => rfl) _ _ e7⟩

/-- A family of reals on an array's places, as a function of whatever coordinates tell the places apart. -/
theorem exists_of_coords {s : Shape} {κ : Type} (x : s.Idx → EReal) (h : ∀ i, ∃ r : ℝ, x i = (r : EReal)) (p : s.Idx → κ)
    (hp : Function.Injective p) : ∃ f : κ → ℝ, ∀ j, x j = ((f (p j) : ℝ) : EReal) := by
  refine ⟨Function.extend p (fun j => (x j).toReal) fun _ => 0, fun j => ?_⟩
  rw [hp.extend_apply]
  obtain ⟨r, hr⟩ := h j
  rw [hr]
  rfl
theorem exists_row {n : ℕ} (x : (⟨2, ![1, n]⟩ : Shape).Idx → EReal) (h : ∀ i, ∃ r : ℝ, x i = (r : EReal)) :
    ∃ f : ℕ → ℝ, ∀ j, x j = ((f (j 1) : ℝ) : EReal) := by
  refine exists_of_coords x h (fun j => (j 1).val) fun i j e => funext fun q => Fin.ext ?_
  match q with
  | ⟨0, _⟩ =>
    have hi : (i 0).val < 1 := (i 0).isLt
    have hj : (j 0).val < 1 := (j 0).isLt
    change (i 0).val = (j 0).val
    omega
  | ⟨1, _⟩ => exact e
theorem exists_mat {n k : ℕ} (x : (⟨3, ![1, n, k]⟩ : Shape).Idx → EReal) (h : ∀ i, ∃ r : ℝ, x i = (r : EReal)) :
    ∃ f : ℕ → ℕ → ℝ, ∀ j, x j = ((f (j 1) (j 2) : ℝ) : EReal) := by
  obtain ⟨f, hf⟩ := exists_of_coords x h (fun j => ((j 1).val, (j 2).val)) fun i j e => funext fun q => Fin.ext (by
    match q with
    | ⟨0, _⟩ =>
      have hi : (i 0).val < 1 := (i 0).isLt
      have hj : (j 0).val < 1 := (j 0).isLt
      change (i 0).val = (j 0).val
      omega
    | ⟨1, _⟩ => exact congrArg Prod.fst e
    | ⟨2, _⟩ => exact congrArg Prod.snd e)
  exact ⟨fun a b => f (a, b), hf⟩
theorem exists_cube {n k l : ℕ} (x : (⟨4, ![1, n, k, l]⟩ : Shape).Idx → EReal) (h : ∀ i, ∃ r : ℝ, x i = (r : EReal)) :
    ∃ f : ℕ → ℕ → ℕ → ℝ, ∀ j, x j = ((f (j 1) (j 2) (j 3) : ℝ) : EReal) := by
  obtain ⟨f, hf⟩ := exists_of_coords x h (fun j => ((j 1).val, (j 2).val, (j 3).val)) fun i j e => funext fun q => Fin.ext (by
    match q with
    | ⟨0, _⟩ =>
      have hi : (i 0).val < 1 := (i 0).isLt
      have hj : (j 0).val < 1 := (j 0).isLt
      change (i 0).val = (j 0).val
      omega
    | ⟨1, _⟩ => exact congrArg Prod.fst e
    | ⟨2, _⟩ => exact congrArg (fun t => t.2.1) e
    | ⟨3, _⟩ => exact congrArg (fun t => t.2.2) e)
  exact ⟨fun a b c => f (a, b, c), hf⟩

end Cert.Mix
-- ==== Proof.Mixer.Claims.lean ====
module

public import proofs.«01_k».proof.Defs
public import proofs.«01_k».proof.Proof.Mixer.Ref3
public import proofs.«01_k».proof.Proof.Mixer.Finite
public import proofs.«01_k».proof.Proof.Gen.Mixer.Frame
public import proofs.«01_k».proof.Proof.Gen.MixerIdeal.Value
public import Idealize.ShloMosaic.Lib.Claim
public import Idealize.ShloMosaic.Lib.Quiescent

@[expose] public section

noncomputable section

/-! The claims on the gated block's backward call: its frames, its named constants, and that its five results are the
reference's. -/

namespace Cert.Mix

open Cert.MixerRefIdeal Cert.MixerRefIdeal.Gen Cert.MixerRefIdeal.Read Idealize.ShloMosaic Idealize.ShloMosaic.TcCoe
open Finset

/-! ### The reference's joined columns -/

section Columns

variable {x0 x1 x2 x8 : (⟨S1x4096x1024, .f32⟩ : BufTy).Contents (Elt Ideal)} {x4 x5 : (⟨S1x1024, .f32⟩ : BufTy).Contents (Elt Ideal)}
  {x6 : (⟨S1x8x128x128, .f32⟩ : BufTy).Contents (Elt Ideal)} {x7 : (⟨S1x8x128, .f32⟩ : BufTy).Contents (Elt Ideal)}
  {x9 : (⟨S4096x8192, .bf16⟩ : BufTy).Contents (Elt Ideal)}
  {U V Z A : ℕ → ℕ → ℝ} {G B : ℕ → ℝ} {W : ℕ → ℕ → ℕ → ℝ} {b : ℕ → ℕ → ℝ}
  (H : RA x0 x1 x2 x8 x4 x5 x6 x7 U V Z A G B W b)

/-- The four pieces that the reference joins. -/
abbrev rpcs (x0 x1 x2 x8 : (⟨S1x4096x1024, .f32⟩ : BufTy).Contents (Elt Ideal)) (x4 x5 : (⟨S1x1024, .f32⟩ : BufTy).Contents (Elt Ideal))
    (x6 : (⟨S1x8x128x128, .f32⟩ : BufTy).Contents (Elt Ideal)) (x7 : (⟨S1x8x128, .f32⟩ : BufTy).Contents (Elt Ideal))
    (x9 : (⟨S4096x8192, .bf16⟩ : BufTy).Contents (Elt Ideal)) : List ((s : Shape) × (s.Idx → Elt Ideal .bf16)) :=
  [⟨S4096x1024, val_main_v148 (F := Ideal) x0 x1 x2 x4 x5 x6 x7 x8⟩, ⟨S4096x1024, val_main_v150 (F := Ideal) x0 x1 x2 x4 x6 x8⟩,
    ⟨S4096x1024, val_main_v152 (F := Ideal) x0 x1 x2 x4 x5 x6 x7 x8⟩, ⟨S4096x5120, val_main_v156 (F := Ideal) x9⟩]

theorem v157_eq : val_main_v157 (F := Ideal) x0 x1 x2 x4 x5 x6 x7 x8 x9
    = concatenate S4096x8192 1 (rpcs x0 x1 x2 x8 x4 x5 x6 x7 x9) concatenates_S4096x1024_S4096x1024_S4096x1024_S4096x5120_S4096x8192_d1 := rfl
theorem v157_0 (r : Fin 4096) (d : Fin 1024) (e : Fin 8192) (he : e.val = d.val) : val_main_v157 (F := Ideal) x0 x1 x2 x4 x5 x6 x7 x8 x9 (ix2 r e)
    = val_main_v148 (F := Ideal) x0 x1 x2 x4 x5 x6 x7 x8 (ix2 r d) := by
  rw [v157_eq]
  refine concatenate_apply_piece (t := S4096x8192) 1 (rpcs x0 x1 x2 x8 x4 x5 x6 x7 x9) _ (ix2 r e) 0 (by change 0 < 4; decide) S4096x1024 (val_main_v148 (F := Ideal) x0 x1 x2 x4 x5 x6 x7 x8) rfl rfl 0 rfl (ix2 r d) ?_ ?_
  · intro q hq
    match q with
    | 0 => rfl
    | 1 => exact absurd rfl hq
  · exact (Nat.zero_add _).trans he.symm
theorem v157_1 (r : Fin 4096) (d : Fin 1024) (e : Fin 8192) (he : e.val = 1024 + d.val) : val_main_v157 (F := Ideal) x0 x1 x2 x4 x5 x6 x7 x8 x9 (ix2 r e)
    = val_main_v150 (F := Ideal) x0 x1 x2 x4 x6 x8 (ix2 r d) := by
  rw [v157_eq]
  refine concatenate_apply_piece (t := S4096x8192) 1 (rpcs x0 x1 x2 x8 x4 x5 x6 x7 x9) _ (ix2 r e) 1 (by change 1 < 4; decide) S4096x1024 (val_main_v150 (F := Ideal) x0 x1 x2 x4 x6 x8) rfl rfl 1024 rfl (ix2 r d) ?_ ?_
  · intro q hq
    match q with
    | 0 => rfl
    | 1 => exact absurd rfl hq
  · exact he.symm
theorem v157_2 (r : Fin 4096) (d : Fin 1024) (e : Fin 8192) (he : e.val = 2048 + d.val) : val_main_v157 (F := Ideal) x0 x1 x2 x4 x5 x6 x7 x8 x9 (ix2 r e)
    = val_main_v152 (F := Ideal) x0 x1 x2 x4 x5 x6 x7 x8 (ix2 r d) := by
  rw [v157_eq]
  refine concatenate_apply_piece (t := S4096x8192) 1 (rpcs x0 x1 x2 x8 x4 x5 x6 x7 x9) _ (ix2 r e) 2 (by change 2 < 4; decide) S4096x1024 (val_main_v152 (F := Ideal) x0 x1 x2 x4 x5 x6 x7 x8) rfl rfl 2048 rfl (ix2 r d) ?_ ?_
  · intro q hq
    match q with
    | 0 => rfl
    | 1 => exact absurd rfl hq
  · exact he.symm
theorem v157_3 (r : Fin 4096) (d : Fin 5120) (e : Fin 8192) (he : e.val = 3072 + d.val) : val_main_v157 (F := Ideal) x0 x1 x2 x4 x5 x6 x7 x8 x9 (ix2 r e)
    = x9 (ix2 r e) := by
  rw [v157_eq]
  refine (concatenate_apply_piece (t := S4096x8192) 1 (rpcs x0 x1 x2 x8 x4 x5 x6 x7 x9) _ (ix2 r e) 3 (by change 3 < 4; decide) S4096x5120 (val_main_v156 (F := Ideal) x9) rfl rfl 3072 rfl (ix2 r d) ?_ ?_).trans ?_
  · intro q hq
    match q with
    | 0 => rfl
    | 1 => exact absurd rfl hq
  · exact he.symm
  · rw [val_main_v156_apply]
    refine congrArg x9 (funext fun q => Fin.ext ?_)
    match q with
    | ⟨0, _⟩ => rfl
    | ⟨1, _⟩ => change 3072 + d.val = e.val; omega

/-- A row taken through its chunk is the row. -/
theorem sh_row (f : ℕ → ℕ → ℝ) (r : ℕ) : sh f (r / 128) (r % 128) = f r := by
  unfold sh
  rw [Nat.div_add_mod]

include H in
/-- The reference's joined columns are the gradients of u, v and z and then the buffer handed in. -/
theorem v157_at : val_main_v157 (F := Ideal) x0 x1 x2 x4 x5 x6 x7 x8 x9
    = fun j => if (j 1).val < 3072 then ((o8 G B W b U V Z A (j 0) (j 1) : ℝ) : EReal) else x9 j := by
  funext j
  obtain ⟨r, e, rfl⟩ : ∃ (r : Fin 4096) (e : Fin 8192), j = ix2 r e :=
    ⟨j 0, j 1, funext fun q => match q with | ⟨0, _⟩ => rfl | ⟨1, _⟩ => rfl⟩
  change _ = if e.val < 3072 then ((o8 G B W b U V Z A r e : ℝ) : EReal) else x9 (ix2 r e)
  have he := e.isLt
  by_cases h3 : e.val < 3072
  · rw [if_pos h3]
    unfold o8
    by_cases h1 : e.val < 1024
    · rw [if_pos h1, v157_0 r ⟨e.val, h1⟩ e rfl, v148_at H]
      unfold dU MX
      simp only [sh_row]
    · rw [if_neg h1]
      by_cases h2 : e.val < 2048
      · rw [if_pos h2, v157_1 r ⟨e.val - 1024, by omega⟩ e (by change _ = 1024 + (e.val - 1024); omega), v150_at H]
        unfold dV
        rw [sh_row]
        refine congrArg (fun y : ℕ → ℝ => ((dnorm y (gN G W U Z A r) (e.val - 1024) * dgelu (V r (e.val - 1024)) : ℝ) : EReal)) ?_
        unfold gv
        simp only [sh_row]
      · rw [if_neg h2, v157_2 r ⟨e.val - 2048, by omega⟩ e (by change _ = 2048 + (e.val - 2048); omega), v152_at H]
        unfold dZ MX
        simp only [sh_row]
  · rw [if_neg h3]
    exact v157_3 r ⟨e.val - 3072, by omega⟩ e (by change _ = 3072 + (e.val - 3072); omega)

end Columns

/-! ### The claims -/

theorem frame_p : Cert.quiescent_Mixer := fun m g _ => Cert.Mixer.Gen.frame m g
theorem frame_pi : Cert.quiescent_MixerIdeal := fun m g _ => Cert.MixerIdeal.Gen.frame m g
theorem frame_pi_finite : Cert.quiescent_MixerIdeal_pre_mixer_finite := fun m g _ => Cert.MixerIdeal.Gen.frame m g
theorem frame_ri : Cert.quiescent_MixerRefIdeal := fun m g _ =>
  (θ_run Cert.MixerRefIdeal.defs _ _).mono (fun r h => ⟨fun c => (h c).2.2.2.2.2, sem_eq_zero_of_no_sems (by decide) r.2⟩)
    (Cert.MixerRefIdeal.Value.run (F := Ideal) m g)
theorem frame_ri_finite : Cert.quiescent_MixerRefIdeal_pre_mixer_finite := fun m g _ => frame_ri m g trivial

theorem preserves : Cert.preserves_Mixer_MixerIdeal :=
  ⟨IdealRules.named_const.statement _ _ _ _ _ rfl, IdealRules.named_const.statement _ _ _ _ _ rfl⟩

/-- Of arguments that hold reals, the kernel's five results are the reference's. -/
theorem algebraic : Cert.algebraic_MixerIdeal_MixerRefIdeal_pre_mixer_finite := by
  intro m g m' g' hpre hag
  have real : ∀ c, ∃ (U V Z A : ℕ → ℕ → ℝ) (G B : ℕ → ℝ) (W : ℕ → ℕ → ℕ → ℝ) (b : ℕ → ℕ → ℝ), Args m c U V Z A G B W b := fun c => by
    obtain ⟨h0, h1, h2, h8, h4, h5, h6, h7⟩ := reals_of_pre _ _ _ _ _ _ _ _ _ _ (hpre c)
    obtain ⟨U, a0⟩ := exists_mat _ h0
    obtain ⟨V, a1⟩ := exists_mat _ h1
    obtain ⟨Z, a2⟩ := exists_mat _ h2
    obtain ⟨A, a8⟩ := exists_mat _ h8
    obtain ⟨G, a4⟩ := exists_row _ h4
    obtain ⟨B, a5⟩ := exists_row _ h5
    obtain ⟨W, a6⟩ := exists_cube _ h6
    obtain ⟨b, a7⟩ := exists_mat _ h7
    exact ⟨U, V, Z, A, G, B, W, b, ⟨a0, a1, a2, a8, a4, a5, a6, a7⟩⟩
  refine ⟨_, _, _, _, _, Cert.MixerIdeal.Value.run_blocks m g, (θ_run Cert.MixerRefIdeal.defs _ _).mono (fun r h c => ?_) (Cert.MixerRefIdeal.Value.run (F := Ideal) m' g')⟩
  obtain ⟨U, V, Z, A, G, B, W, b, K⟩ := real c
  obtain ⟨e0, e1, e2, e3, e4, e5, e6, e7, e8, e9⟩ := hag c
  have H : RA (m' ((c.tc : Thread nD τ).loc main_arg0)) (m' ((c.tc : Thread nD τ).loc main_arg1)) (m' ((c.tc : Thread nD τ).loc main_arg2))
      (m' ((c.tc : Thread nD τ).loc main_arg8)) (m' ((c.tc : Thread nD τ).loc main_arg4)) (m' ((c.tc : Thread nD τ).loc main_arg5))
      (m' ((c.tc : Thread nD τ).loc main_arg6)) (m' ((c.tc : Thread nD τ).loc main_arg7)) U V Z A G B W b :=
    ⟨fun j => (congrFun e0 j).trans (K.a0 j), fun j => (congrFun e1 j).trans (K.a1 j), fun j => (congrFun e2 j).trans (K.a2 j),
      fun j => (congrFun e8 j).trans (K.a8 j), fun j => (congrFun e4 j).trans (K.a4 j), fun j => (congrFun e5 j).trans (K.a5 j),
      fun j => (congrFun e6 j).trans (K.a6 j), fun j => (congrFun e7 j).trans (K.a7 j)⟩
  obtain ⟨h0, h1, h2, h3, h4, hargs⟩ := h c
  refine ⟨h0.trans ?_, h1.trans ?_, h2.trans ?_, h3.trans ?_, h4.trans ?_, hargs⟩
  · refine (val_main_v157_eq (StableHlo.launchContents m' c)).trans ((v157_at H).trans ?_)
    exact Eq.trans (congrArg (fun (x : Vec Ideal S4096x8192 .bf16) (j : S4096x8192.Idx) =>
      if (j 1).val < 3072 then ((o8 G B W b U V Z A (j 0) (j 1) : ℝ) : EReal) else x j) e9) (arr8 K.ins).symm
  · exact (val_main_v158_eq (StableHlo.launchContents m' c)).trans ((funext (v158_at H)).trans (arr9 K.ins).symm)
  · exact (val_main_v155_eq (StableHlo.launchContents m' c)).trans ((funext (v155_at H)).trans (arr10 K.ins).symm)
  · exact (val_main_v130_eq (StableHlo.launchContents m' c)).trans ((funext (v130_at H)).trans (arr11 K.ins).symm)
  · exact (val_main_v129_eq (StableHlo.launchContents m' c)).trans ((funext (v129_at H)).trans (arr12 K.ins).symm)

end Cert.Mix
-- ==== Proof.Gla.Real.lean ====
module

public import proofs.«01_k».proof.Proof.Mixer.Real

@[expose] public section

noncomputable section

/-! The mathematics of one head of the gated linear attention's backward pass over the reals. Positions and features are
natural numbers; the 4096 positions lie in 64 chunks of 64. `q`, `k`, `v` are the head's queries (scaled), keys and
values, `d` the gradient of its output, `g` its log decays. -/

namespace Cert.GlaVal

open Finset

section Head

variable (q k v d g : ℕ → ℕ → ℝ)

/-- The log decay summed up to and with position `t`; up to chunk `n`; from the start of chunk `n` to its row `i`. -/
def cum (t c : ℕ) : ℝ := ∑ u ∈ range (t + 1), g u c
def cumE (n c : ℕ) : ℝ := ∑ u ∈ range (64 * n), g u c
def bt (n i c : ℕ) : ℝ := ∑ u ∈ range (i + 1), g (64 * n + u) c

theorem cum_chunk (n i c : ℕ) : cum g (64 * n + i) c = cumE g n c + bt g n i c := by
  unfold cum cumE bt
  rw [Nat.add_assoc, Finset.sum_range_add]
theorem cumE_succ (n c : ℕ) : cumE g (n + 1) c = cumE g n c + bt g n 63 c := by
  unfold cumE bt
  rw [Nat.mul_add, Nat.mul_one, Finset.sum_range_add]

/-- How much of position `s` is left at position `t`, and of what lies before chunk `n` at its start. -/
def dec (t s c : ℕ) : ℝ := Real.exp (cum g t c - cum g s c)
def decS (n s c : ℕ) : ℝ := Real.exp (cumE g n c - cum g s c)
def decT (t n c : ℕ) : ℝ := Real.exp (cum g t c - cumE g n c)

theorem dec_split (t s n c : ℕ) : dec g t s c = decT g t n c * decS g n s c := by
  unfold dec decT decS
  rw [← Real.exp_add]; congr 1; ring
theorem decT_chunk (n i c : ℕ) : decT g (64 * n + i) n c = Real.exp (bt g n i c) := by
  unfold decT
  rw [cum_chunk]; congr 1; ring
theorem decS_chunk (n j c : ℕ) : decS g (n + 1) (64 * n + j) c = Real.exp (bt g n 63 c - bt g n j c) := by
  unfold decS
  rw [cum_chunk, cumE_succ]; congr 1; ring
theorem decS_succ (n s c : ℕ) : decS g (n + 1) s c = Real.exp (bt g n 63 c) * decS g n s c := by
  unfold decS
  rw [cumE_succ, ← Real.exp_add]; congr 1; ring
theorem decT_succ (t n c : ℕ) : decT g t n c = decT g t (n + 1) c * Real.exp (bt g n 63 c) := by
  unfold decT
  rw [cumE_succ, ← Real.exp_add]; congr 1; ring
theorem dec_chunk (n i j c : ℕ) : dec g (64 * n + i) (64 * n + j) c
    = Real.exp (bt g n i c - bt g n 31 c) * Real.exp (bt g n 31 c - bt g n j c) := by
  unfold dec
  rw [cum_chunk, cum_chunk, ← Real.exp_add]; congr 1; ring

/-- The gradient of the score of position `s` at position `t`, and the score. -/
def pr (t s : ℕ) : ℝ := ∑ e ∈ range 256, d t e * v s e
def sc (t s : ℕ) : ℝ := ∑ c ∈ range 128, q t c * (k s c * dec g t s c)

/-- The output, the state before chunk `n`, the gradient of the state before chunk `n`. -/
def out (t e : ℕ) : ℝ := ∑ s ∈ range 4096, if s ≤ t then sc q k g t s * v s e else 0
def stt (n e c : ℕ) : ℝ := ∑ s ∈ range 4096, if s < 64 * n then v s e * (k s c * decS g n s c) else 0
def dst (n e c : ℕ) : ℝ := ∑ t ∈ range 4096, if 64 * n ≤ t then d t e * (q t c * decT g t n c) else 0

/-- The gradients of the queries, keys, values, and of the summed log decays and the log decays. -/
def gDQ (t c : ℕ) : ℝ := ∑ s ∈ range 4096, if s ≤ t then pr v d t s * (k s c * dec g t s c) else 0
def gDK (s c : ℕ) : ℝ := ∑ t ∈ range 4096, if s ≤ t then pr v d t s * (q t c * dec g t s c) else 0
def gDV (s e : ℕ) : ℝ := ∑ t ∈ range 4096, if s ≤ t then sc q k g t s * d t e else 0
def gDC (t c : ℕ) : ℝ := gDQ k v d g t c * q t c - gDK q v d g t c * k t c
def gDG (j c : ℕ) : ℝ := ∑ t ∈ range 4096, if j ≤ t then gDC q k v d g t c else 0

/-! ### Sums over the positions by chunks -/

theorem sum_le (f : ℕ → ℝ) (n i : ℕ) (hn : n < 64) (hi : i < 64) :
    (∑ s ∈ range 4096, if s ≤ 64 * n + i then f s else 0)
      = (∑ j ∈ range 64, if j ≤ i then f (64 * n + j) else 0) + ∑ s ∈ range 4096, if s < 64 * n then f s else 0 := by
  have e : 4096 = 64 * n + (64 + (4096 - 64 * n - 64)) := by omega
  rw [e, Finset.sum_range_add, Finset.sum_range_add, Finset.sum_range_add, Finset.sum_range_add]
  have h1 : (∑ s ∈ range (64 * n), if s ≤ 64 * n + i then f s else 0) = ∑ s ∈ range (64 * n), if s < 64 * n then f s else 0 :=
    Finset.sum_congr rfl fun s hs => by
      have := Finset.mem_range.1 hs
      rw [if_pos (by omega), if_pos this]
  have h2 : (∑ j ∈ range 64, if 64 * n + j ≤ 64 * n + i then f (64 * n + j) else 0) = ∑ j ∈ range 64, if j ≤ i then f (64 * n + j) else 0 :=
    Finset.sum_congr rfl fun j _ => by simp only [Nat.add_le_add_iff_left]
  have h3 : ∀ m, (∑ s ∈ range m, if 64 * n + (64 + s) ≤ 64 * n + i then f (64 * n + (64 + s)) else 0) = 0 := fun m =>
    Finset.sum_eq_zero fun s _ => if_neg (by omega)
  have h4 : ∀ m, (∑ s ∈ range m, if 64 * n + s < 64 * n then f (64 * n + s) else 0) = 0 := fun m =>
    Finset.sum_eq_zero fun s _ => if_neg (by omega)
  have h5 : ∀ m, (∑ s ∈ range m, if 64 * n + (64 + s) < 64 * n then f (64 * n + (64 + s)) else 0) = 0 := fun m =>
    Finset.sum_eq_zero fun s _ => if_neg (by omega)
  rw [h1, h2, h3, h4, h5]; ring

theorem sum_ge (f : ℕ → ℝ) (n j : ℕ) (hn : n < 64) (hj : j < 64) :
    (∑ t ∈ range 4096, if 64 * n + j ≤ t then f t else 0)
      = (∑ i ∈ range 64, if j ≤ i then f (64 * n + i) else 0) + ∑ t ∈ range 4096, if 64 * (n + 1) ≤ t then f t else 0 := by
  have e : 4096 = 64 * n + (64 + (4096 - 64 * n - 64)) := by omega
  rw [e, Finset.sum_range_add, Finset.sum_range_add, Finset.sum_range_add, Finset.sum_range_add]
  have h1 : (∑ s ∈ range (64 * n), if 64 * n + j ≤ s then f s else 0) = 0 :=
    Finset.sum_eq_zero fun s hs => if_neg (by have := Finset.mem_range.1 hs; omega)
  have h1' : (∑ s ∈ range (64 * n), if 64 * (n + 1) ≤ s then f s else 0) = 0 :=
    Finset.sum_eq_zero fun s hs => if_neg (by have := Finset.mem_range.1 hs; omega)
  have h2 : (∑ i ∈ range 64, if 64 * n + j ≤ 64 * n + i then f (64 * n + i) else 0) = ∑ i ∈ range 64, if j ≤ i then f (64 * n + i) else 0 :=
    Finset.sum_congr rfl fun j _ => by simp only [Nat.add_le_add_iff_left]
  have h3 : (∑ i ∈ range 64, if 64 * (n + 1) ≤ 64 * n + i then f (64 * n + i) else 0) = 0 :=
    Finset.sum_eq_zero fun s hs => if_neg (by have := Finset.mem_range.1 hs; omega)
  have h4 : ∀ m, (∑ s ∈ range m, if 64 * n + j ≤ 64 * n + (64 + s) then f (64 * n + (64 + s)) else 0)
      = ∑ s ∈ range m, if 64 * (n + 1) ≤ 64 * n + (64 + s) then f (64 * n + (64 + s)) else 0 := fun m =>
    Finset.sum_congr rfl fun s _ => by rw [if_pos (by omega), if_pos (by omega)]
  rw [h1, h1', h2, h3, h4]; ring

/-! ### What one chunk computes -/

section Chunk

variable (n : ℕ) (S D : ℕ → ℕ → ℝ)

/-- The chunk's scores and their gradients, row `i` and earlier row `j`. -/
def uA (i j : ℕ) : ℝ := if j ≤ i then
  ∑ c ∈ range 128, (q (64 * n + i) c * Real.exp (bt g n i c - bt g n 31 c)) * (k (64 * n + j) c * Real.exp (bt g n 31 c - bt g n j c)) else 0
def uP (i j : ℕ) : ℝ := if j ≤ i then pr v d (64 * n + i) (64 * n + j) else 0

/-- The gradients that the chunk writes, from the state `S` before it and the gradient `D` of the state after it. -/
def uDV (j e : ℕ) : ℝ := (∑ i ∈ range 64, uA q k g n i j * d (64 * n + i) e)
  + ∑ c ∈ range 128, (k (64 * n + j) c * Real.exp (bt g n 63 c - bt g n j c)) * D e c
def uDQ (i c : ℕ) : ℝ := (∑ j ∈ range 64, uP v d n i j * (k (64 * n + j) c * Real.exp (bt g n 31 c - bt g n j c)))
    * Real.exp (bt g n i c - bt g n 31 c) + (∑ e ∈ range 256, d (64 * n + i) e * S e c) * Real.exp (bt g n i c)
def uDK (j c : ℕ) : ℝ := (∑ i ∈ range 64, uP v d n i j * (q (64 * n + i) c * Real.exp (bt g n i c - bt g n 31 c)))
    * Real.exp (bt g n 31 c - bt g n j c) + (∑ e ∈ range 256, v (64 * n + j) e * D e c) * Real.exp (bt g n 63 c - bt g n j c)
def uTL (c : ℕ) : ℝ := (∑ j ∈ range 64, (∑ e ∈ range 256, v (64 * n + j) e * D e c) * (k (64 * n + j) c * Real.exp (bt g n 63 c - bt g n j c)))
    + Real.exp (bt g n 63 c) * ∑ e ∈ range 256, D e c * S e c
def uDS (e c : ℕ) : ℝ := (∑ i ∈ range 64, d (64 * n + i) e * (q (64 * n + i) c * Real.exp (bt g n i c)))
    + D e c * Real.exp (bt g n 63 c)

variable (hn : n < 64)
include hn

theorem uDQ_eq (i c : ℕ) (hi : i < 64) : uDQ k v d g n (stt k v g n) i c = gDQ k v d g (64 * n + i) c := by
  unfold uDQ gDQ
  rw [sum_le _ n i hn hi, Finset.sum_mul]
  refine congrArg₂ (· + ·) (Finset.sum_congr rfl fun j _ => ?_) ?_
  · unfold uP
    split_ifs
    · rw [dec_chunk]; ring
    · ring
  · unfold stt
    simp only [Finset.mul_sum]
    rw [Finset.sum_comm, Finset.sum_mul]
    refine Finset.sum_congr rfl fun s _ => ?_
    split_ifs
    · rw [dec_split g _ s n, decT_chunk]
      unfold pr
      rw [Finset.sum_mul, Finset.sum_mul]
      exact Finset.sum_congr rfl fun e _ => by ring
    · simp
theorem uDS_eq (e c : ℕ) : uDS q d g n (dst q d g (n + 1)) e c = dst q d g n e c := by
  unfold uDS dst
  rw [show 64 * n = 64 * n + 0 from rfl, sum_ge _ n 0 hn (by norm_num), Nat.add_zero, Finset.sum_mul]
  refine congrArg₂ (· + ·) (Finset.sum_congr rfl fun j _ => ?_) (Finset.sum_congr rfl fun t _ => ?_)
  · rw [if_pos (Nat.zero_le _), decT_chunk]
  · split_ifs
    · rw [decT_succ g t n]; ring
    · ring
theorem uDK_eq (j c : ℕ) (hj : j < 64) : uDK q v d g n (dst q d g (n + 1)) j c = gDK q v d g (64 * n + j) c := by
  unfold uDK gDK
  rw [sum_ge _ n j hn hj, Finset.sum_mul]
  refine congrArg₂ (· + ·) (Finset.sum_congr rfl fun i _ => ?_) ?_
  · unfold uP
    split_ifs
    · rw [dec_chunk]; ring
    · ring
  · unfold dst
    simp only [Finset.mul_sum]
    rw [Finset.sum_comm, Finset.sum_mul]
    refine Finset.sum_congr rfl fun t _ => ?_
    split_ifs
    · rw [dec_split g t _ (n + 1), decS_chunk]
      unfold pr
      rw [Finset.sum_mul, Finset.sum_mul]
      exact Finset.sum_congr rfl fun e _ => by ring
    · simp
theorem uDV_eq (j e : ℕ) (hj : j < 64) : uDV q k d g n (dst q d g (n + 1)) j e = gDV q k d g (64 * n + j) e := by
  unfold uDV gDV
  rw [sum_ge _ n j hn hj]
  refine congrArg₂ (· + ·) (Finset.sum_congr rfl fun i _ => ?_) ?_
  · unfold uA
    split_ifs
    · unfold sc
      refine congrArg (· * _) (Finset.sum_congr rfl fun c _ => ?_)
      rw [dec_chunk]; ring
    · ring
  · unfold dst
    simp only [Finset.mul_sum]
    rw [Finset.sum_comm]
    refine Finset.sum_congr rfl fun t _ => ?_
    split_ifs
    · unfold sc
      rw [Finset.sum_mul]
      refine Finset.sum_congr rfl fun c _ => ?_
      rw [dec_split g t _ (n + 1), decS_chunk]; ring
    · simp

/-- The part of position `t` that earlier position `s` has in both of `gDC`'s sums. -/
def wt (c t s : ℕ) : ℝ := pr v d t s * (q t c * (k s c * dec g t s c))

omit hn in
theorem gDC_eq (t c : ℕ) : gDC q k v d g t c = (∑ s ∈ range 4096, if s ≤ t then wt q k v d g c t s else 0)
    - ∑ s ∈ range 4096, if t ≤ s then wt q k v d g c s t else 0 := by
  unfold gDC gDQ gDK
  rw [Finset.sum_mul, Finset.sum_mul]
  refine congrArg₂ (· - ·) (Finset.sum_congr rfl fun s _ => ?_) (Finset.sum_congr rfl fun s _ => ?_)
  · split_ifs
    · unfold wt; ring
    · ring
  · split_ifs
    · unfold wt; ring
    · ring

/-- Pairs of positions that both lie at or after `m` cancel in the sum of `gDC` from `m` on. -/
theorem sum_gDC (m c : ℕ) : (∑ t ∈ range 4096, if m ≤ t then gDC q k v d g t c else 0)
    = ∑ t ∈ range 4096, if m ≤ t then ∑ s ∈ range 4096, (if s < m then wt q k v d g c t s else 0) else 0 := by
  have h1 : ∀ t, (if m ≤ t then gDC q k v d g t c else 0)
      = (∑ s ∈ range 4096, if m ≤ t ∧ s ≤ t then wt q k v d g c t s else 0)
        - ∑ s ∈ range 4096, if m ≤ t ∧ t ≤ s then wt q k v d g c s t else 0 := fun t => by
    by_cases h : m ≤ t
    · simp only [h, if_true, true_and]; exact gDC_eq q k v d g t c
    · simp [h]
  simp only [h1]
  rw [Finset.sum_sub_distrib, Finset.sum_comm (f := fun t s => if m ≤ t ∧ t ≤ s then wt q k v d g c s t else 0), ← Finset.sum_sub_distrib]
  refine Finset.sum_congr rfl fun t _ => ?_
  rw [← Finset.sum_sub_distrib]
  by_cases h : m ≤ t
  · rw [if_pos h]
    refine Finset.sum_congr rfl fun s _ => ?_
    by_cases hs : s < m
    · rw [if_pos hs, if_pos ⟨h, by omega⟩, if_neg (by omega), sub_zero]
    · rw [if_neg hs]
      by_cases hst : s ≤ t
      · rw [if_pos ⟨h, hst⟩, if_pos ⟨by omega, hst⟩, sub_self]
      · rw [if_neg (by omega), if_neg (by omega), sub_self]
  · rw [if_neg h]
    refine Finset.sum_eq_zero fun s _ => ?_
    rw [if_neg (by omega), if_neg (by omega), sub_self]

theorem uTL_eq (c : ℕ) : uTL k v g n (stt k v g n) (dst q d g (n + 1)) c
    = ∑ t ∈ range 4096, if 64 * (n + 1) ≤ t then gDC q k v d g t c else 0 := by
  rw [sum_gDC q k v d g n hn]
  have hs : ∀ t, (∑ s ∈ range 4096, if s < 64 * (n + 1) then wt q k v d g c t s else 0)
      = (∑ j ∈ range 64, wt q k v d g c t (64 * n + j)) + ∑ s ∈ range 4096, if s < 64 * n then wt q k v d g c t s else 0 := fun t => by
    have h := sum_le (wt q k v d g c t) n 63 hn (by norm_num)
    have e : ∀ s, (s < 64 * (n + 1)) = (s ≤ 64 * n + 63) := fun s => propext (by omega)
    simp only [e]
    rw [h]
    refine congrArg (· + _) (Finset.sum_congr rfl fun j hj => if_pos (by have := Finset.mem_range.1 hj; omega))
  simp only [hs]
  have hp : ∀ t, (if 64 * (n + 1) ≤ t then (∑ j ∈ range 64, wt q k v d g c t (64 * n + j)) + ∑ s ∈ range 4096, (if s < 64 * n then wt q k v d g c t s else 0) else 0)
      = (∑ j ∈ range 64, if 64 * (n + 1) ≤ t then wt q k v d g c t (64 * n + j) else 0)
        + ∑ s ∈ range 4096, if 64 * (n + 1) ≤ t then (if s < 64 * n then wt q k v d g c t s else 0) else 0 := fun t => by
    split_ifs <;> simp
  simp only [hp]
  rw [Finset.sum_add_distrib, Finset.sum_comm, Finset.sum_comm (f := fun t s => if 64 * (n + 1) ≤ t then (if s < 64 * n then wt q k v d g c t s else 0) else 0)]
  unfold uTL
  refine congrArg₂ (· + ·) (Finset.sum_congr rfl fun j _ => ?_) ?_
  · unfold dst
    simp only [Finset.mul_sum]
    rw [Finset.sum_comm, Finset.sum_mul]
    refine Finset.sum_congr rfl fun t _ => ?_
    split_ifs
    · unfold wt pr
      rw [dec_split g t _ (n + 1), decS_chunk, Finset.sum_mul, Finset.sum_mul]
      exact Finset.sum_congr rfl fun e _ => by ring
    · simp
  · have hd : ∀ e, dst q d g (n + 1) e c * stt k v g n e c = ∑ s ∈ range 4096, ∑ t ∈ range 4096,
        (if 64 * (n + 1) ≤ t then (if s < 64 * n then (d t e * (q t c * decT g t (n + 1) c)) * (v s e * (k s c * decS g n s c)) else 0) else 0) := fun e => by
      unfold dst stt
      rw [Finset.sum_mul_sum, Finset.sum_comm]
      refine Finset.sum_congr rfl fun s _ => Finset.sum_congr rfl fun t _ => ?_
      split_ifs <;> ring
    simp only [hd]
    rw [Finset.sum_comm, Finset.mul_sum]
    refine Finset.sum_congr rfl fun s _ => ?_
    rw [Finset.sum_comm, Finset.mul_sum]
    refine Finset.sum_congr rfl fun t _ => ?_
    split_ifs
    · unfold wt pr
      rw [dec_split g t s (n + 1), decS_succ, Finset.mul_sum, Finset.sum_mul]
      exact Finset.sum_congr rfl fun e _ => by ring
    · simp
    · simp

/-- The gradient of the log decays: the sum of `gDC` from the position to its chunk's end, and what comes after. -/
theorem gDG_eq (j c : ℕ) (hj : j < 64) : (∑ i ∈ range 64, if j ≤ i then gDC q k v d g (64 * n + i) c else 0)
    + uTL k v g n (stt k v g n) (dst q d g (n + 1)) c = gDG q k v d g (64 * n + j) c := by
  rw [uTL_eq q k v d g n hn]
  unfold gDG
  rw [sum_ge _ n j hn hj]

end Chunk

theorem dst_last (e c : ℕ) : dst q d g 64 e c = 0 := by
  unfold dst
  exact Finset.sum_eq_zero fun t ht => if_neg (by have := Finset.mem_range.1 ht; omega)

end Head

/-! ### The decay gate and the head's norm -/

/-- The logarithm of the logistic function, as the stable form spells it. -/
def ls (x : ℝ) : ℝ := min x 0 - Real.log (1 + Real.exp (-|x|))

/-- The norm's added constant: the rational of its float word. -/
def eps : ℝ := 8796093 / 2 ^ 43

theorem eps_pos : 0 < eps := by unfold eps; positivity

/-- The head norm of a row of 256 values. -/
def ms (o : ℕ → ℝ) : ℝ := (∑ e ∈ range 256, o e * o e) / 256
def rr (o : ℕ → ℝ) : ℝ := (Real.sqrt (ms o + eps))⁻¹
def oh (o : ℕ → ℝ) (e : ℕ) : ℝ := o e * rr o

theorem ms_eps_pos (o : ℕ → ℝ) : 0 < ms o + eps :=
  add_pos_of_nonneg_of_pos (div_nonneg (Finset.sum_nonneg fun d _ => mul_self_nonneg _) (by norm_num)) eps_pos

/-- The gradient of the norm's row from the gradient `y` of its result. -/
def dn (o y : ℕ → ℝ) (e : ℕ) : ℝ := rr o * (y e - oh o e * ((∑ a ∈ range 256, y a * oh o a) / 256))

theorem rr_mul (o : ℕ → ℝ) : rr o * rr o = (ms o + eps)⁻¹ := by
  unfold rr
  rw [← mul_inv, Real.mul_self_sqrt (ms_eps_pos o).le]

end Cert.GlaVal

end
-- ==== Proof.Gla.Unit.lean ====
module

public import proofs.«01_k».proof.Proof.Gen.GlaIdeal.Skeleton
public import proofs.«01_k».proof.Proof.Gla.Real
public import Idealize.ShloMosaic.Lib.Pipeline.ValueKit
public import Idealize.ShloMosaic.Lib.Pointwise
public import Idealize.ShloMosaic.Lib.WordCmp

@[expose] public section

noncomputable section

/-! The kernel's operations on one chunk of 64 rows and one head, at values that are reals. -/

namespace Cert.GlaVal

open Cert.GlaIdeal Cert.GlaIdeal.Gen Idealize.ShloMosaic Idealize.ShloMosaic.TcCoe
open Finset

theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_eps : Ideal.ofBits .f32 0x358637BD#32 = ((eps : ℝ) : EReal) := by
  simp [Ideal.ofBits, Ideal.ieee, -EReal.coe_mul, eps]; norm_num
theorem word_sixteenth : Ideal.ofBits .f32 0x3D800000#32 = ((1 / 16 : ℝ) : EReal) := by
  simp [Ideal.ofBits, Ideal.ieee, -EReal.coe_mul]; norm_num

/-- The queries' scale: the rational of its float word. -/
def qsc : ℝ := 11863283 / 2 ^ 27
theorem word_qsc : Ideal.ofBits .f32 0x3DB504F3#32 = ((qsc : ℝ) : EReal) := by
  simp [Ideal.ofBits, Ideal.ieee, -EReal.coe_mul, qsc]; norm_num

/-- A sum of reals over the first numbers. -/
theorem coe_sum_range (n : ℕ) (f : ℕ → ℝ) : (((∑ k ∈ range n, f k : ℝ)) : EReal) = ∑ k : Fin n, ((f k : ℝ) : EReal) := by
  rw [Finset.sum_range]
  induction n with
  | zero => simp
  | succ n ih => rw [Fin.sum_univ_castSucc, Fin.sum_univ_castSucc, EReal.coe_add]; exact congrArg (· + ((f n : ℝ) : EReal)) ih
theorem div_256 (r : ℝ) : Ideal.div (r : EReal) ((256 : ℝ) : EReal) = ((r / 256 : ℝ) : EReal) := by
  rw [Ideal.div_coe (by norm_num), ← EReal.coe_mul, mul_one_div]

/-- The mask of the earlier rows: row `i` reads row `j` when `j ≤ i`. -/
theorem mask_apply (x : S64x64.Idx) : k0_pay13 (F := Ideal) x = if (x 1).val ≤ (x 0).val then 1#1 else 0#1 := by
  unfold_payloads
  pointwise [word_one, word_half]
  have h0 : (x 0).val < 64 := (x 0).isLt
  have h1 : (x 1).val < 64 := (x 1).isLt
  by_cases h : (x 1).val ≤ (x 0).val
  · rw [if_pos h, (WordCmp.cmpi_sle_ofNat_eq_one_iff (by omega) (by omega)).mpr h]
    exact congrArg BitVec.ofBool (decide_eq_true (EReal.coe_lt_coe_iff.mpr (by norm_num : (1 / 2 : ℝ) < 1)))
  · rw [if_neg h, (WordCmp.cmpi_sle_ofNat_eq_zero_iff (by omega) (by omega)).mpr (by omega)]
    exact congrArg BitVec.ofBool (decide_eq_false (show ¬ (((1 / 2 : ℝ) : EReal) < ((0 : ℝ) : EReal)) from by rw [EReal.coe_lt_coe_iff]; norm_num))

section Norm

variable (o z a : Vec Ideal S64x256 .f32) (gg : Vec Ideal S1x256 .f32) (O Z A : ℕ → ℕ → ℝ) (G : ℕ → ℝ)
  (ho : ∀ x, o x = ((O (x 0) (x 1) : ℝ) : EReal)) (hz : ∀ x, z x = ((Z (x 0) (x 1) : ℝ) : EReal))
  (ha : ∀ x, a x = ((A (x 0) (x 1) : ℝ) : EReal)) (hg : ∀ x, gg x = ((G (x 1) : ℝ) : EReal))

include ho in
theorem rr_pay (x) : k0_pay34 (F := Ideal) o x = ((rr (O (x 0)) : ℝ) : EReal) := by
  unfold_payloads
  pointwise [word_256, word_eps]
  simp only [ho, ← EReal.coe_mul]
  have e : (∑ k : Fin 256, ((O (x 0) k * O (x 0) k : ℝ) : EReal)) = _ := (coe_sum_range 256 fun k => O (x 0) k * O (x 0) k).symm
  refine (congrArg (fun s => Ideal.rsqrt (Ideal.div s ((256 : ℝ) : EReal) + ((eps : ℝ) : EReal))) e).trans ?_
  rw [div_256, ← EReal.coe_add]
  have hp : 0 < (∑ k ∈ range 256, O (x 0) k * O (x 0) k) / 256 + eps := ms_eps_pos (O (x 0))
  rw [Ideal.rsqrt_coe, if_neg hp.not_gt, if_neg hp.ne']
  rfl
include ho in
theorem oh_pay (x) : k0_pay35 (F := Ideal) o x = ((oh (O (x 0)) (x 1) : ℝ) : EReal) := by
  unfold k0_pay35 k0_pay33
  pointwise
  rw [rr_pay o O ho, ho, ← EReal.coe_mul]
  rfl
include hz in
theorem sg_pay (x) : k0_pay37 (F := Ideal) z x = ((Mix.lgst (Z (x 0) (x 1)) : ℝ) : EReal) := by
  unfold_payloads
  pointwise [word_half]
  rw [hz]
  simp only [← EReal.coe_mul, ← EReal.coe_add, Ideal.tanh_coe]
  rfl
include hz ha in
theorem doh_pay (x) : k0_pay39 (F := Ideal) z a x = ((A (x 0) (x 1) * Mix.silu (Z (x 0) (x 1)) : ℝ) : EReal) := by
  unfold k0_pay39 k0_pay36 k0_pay38
  pointwise
  rw [sg_pay z Z hz, hz, ha]
  simp only [← EReal.coe_mul]
  rfl
include ho hz ha hg in
/-- The gradient of the gate's input. -/
theorem dz_pay (x) : k0_pay42 (F := Ideal) (k0_pay40 gg o a) (k0_pay41 z) x
    = ((A (x 0) (x 1) * oh (O (x 0)) (x 1) * G (x 1) * Mix.dsilu (Z (x 0) (x 1)) : ℝ) : EReal) := by
  unfold k0_pay42 k0_pay40 k0_pay41 k0_pay36 k0_pay38
  pointwise [word_one]
  rw [sg_pay z Z hz, oh_pay o O ho, hz, ha, hg]
  simp only [← EReal.coe_mul, ← EReal.coe_add, ← EReal.coe_sub]
  rfl
include ho hz ha in
/-- The chunk's rows added to the gradient of the norm's scale. -/
theorem dgg_pay (acc : Vec Ideal S1x256 .f32) (x) : k0_pay43 (F := Ideal) acc (k0_pay35 o) (k0_pay39 z a) x
    = acc x + ((∑ i ∈ range 64, A i (x 1) * Mix.silu (Z i (x 1)) * oh (O i) (x 1) : ℝ) : EReal) := by
  unfold k0_pay43
  pointwise
  refine congrArg (acc x + ·) ?_
  rw [coe_sum_range]
  refine Finset.sum_congr rfl fun k _ => ?_
  rw [doh_pay z a Z A hz ha, oh_pay o O ho, ← EReal.coe_mul]
  rfl
include ho hz ha hg in
/-- The gradient of the head's output, through the norm. -/
theorem do_pay (x) : k0_pay44 (F := Ideal) gg (k0_pay34 o) (k0_pay35 o) (k0_pay39 z a) x
    = ((dn (O (x 0)) (fun e => A (x 0) e * Mix.silu (Z (x 0) e) * G e) (x 1) : ℝ) : EReal) := by
  unfold k0_pay44
  pointwise [word_256]
  rw [rr_pay o O ho]
  simp only [oh_pay o O ho, doh_pay z a Z A hz ha, hg, ← EReal.coe_mul]
  have e : (∑ k : Fin 256, ((A (x 0) k * Mix.silu (Z (x 0) k) * G k * oh (O (x 0)) k : ℝ) : EReal)) = _ :=
    (coe_sum_range 256 fun k => A (x 0) k * Mix.silu (Z (x 0) k) * G k * oh (O (x 0)) k).symm
  refine (congrArg (fun s => ((rr (O (x 0)) : ℝ) : EReal) * (((A (x 0) (x 1) * Mix.silu (Z (x 0) (x 1)) * G (x 1) : ℝ) : EReal)
    - ((oh (O (x 0)) (x 1) : ℝ) : EReal) * Ideal.div s ((256 : ℝ) : EReal))) e).trans ?_
  simp only [div_256, ← EReal.coe_mul, ← EReal.coe_sub]
  rfl

end Norm

/-! ### The attention's gradients -/

section Att

variable {q k v d g : ℕ → ℕ → ℝ} {n : ℕ} {S D : ℕ → ℕ → ℝ}
  {v138 v153 : FVec Ideal S64x256 .bf16} {v139 v140 v141 v142 v144 v145 v146 : FVec Ideal S64x128 .f32}
  {v147 v148 v149 v150 : FVec Ideal S64x128 .bf16} {v143 : FVec Ideal S1x128 .f32} {v50 v159 : FVec Ideal S256x128 .f32}
  {v160 : FVec Ideal S256x128 .bf16}
  (h138 : ∀ x, v138 x = ((d (64 * n + x 0) (x 1) : ℝ) : EReal)) (h153 : ∀ x, v153 x = ((v (64 * n + x 0) (x 1) : ℝ) : EReal))
  (h139 : ∀ x, v139 x = ((Real.exp (bt g n (x 0) (x 1)) : ℝ) : EReal))
  (h140 : ∀ x, v140 x = ((Real.exp (bt g n (x 0) (x 1) - bt g n 31 (x 1)) : ℝ) : EReal))
  (h141 : ∀ x, v141 x = ((Real.exp (bt g n 31 (x 1) - bt g n (x 0) (x 1)) : ℝ) : EReal))
  (h142 : ∀ x, v142 x = ((Real.exp (bt g n 63 (x 1) - bt g n (x 0) (x 1)) : ℝ) : EReal))
  (h143 : ∀ x, v143 x = ((Real.exp (bt g n 63 (x 1)) : ℝ) : EReal))
  (h144 : ∀ x, v144 x = ((q (64 * n + x 0) (x 1) : ℝ) : EReal)) (h145 : ∀ x, v145 x = ((k (64 * n + x 0) (x 1) : ℝ) : EReal))
  (h146 : ∀ x, v146 x = ((k (64 * n + x 0) (x 1) * Real.exp (bt g n 63 (x 1) - bt g n (x 0) (x 1)) : ℝ) : EReal))
  (h147 : ∀ x, v147 x = ((q (64 * n + x 0) (x 1) * Real.exp (bt g n (x 0) (x 1) - bt g n 31 (x 1)) : ℝ) : EReal))
  (h148 : ∀ x, v148 x = ((k (64 * n + x 0) (x 1) * Real.exp (bt g n 31 (x 1) - bt g n (x 0) (x 1)) : ℝ) : EReal))
  (h149 : ∀ x, v149 x = ((q (64 * n + x 0) (x 1) * Real.exp (bt g n (x 0) (x 1)) : ℝ) : EReal))
  (h150 : ∀ x, v150 x = ((k (64 * n + x 0) (x 1) * Real.exp (bt g n 63 (x 1) - bt g n (x 0) (x 1)) : ℝ) : EReal))
  (h50 : ∀ x, v50 x = ((D (x 0) (x 1) : ℝ) : EReal)) (h160 : ∀ x, v160 x = ((D (x 0) (x 1) : ℝ) : EReal))
  (h159 : ∀ x, v159 x = ((S (x 0) (x 1) : ℝ) : EReal))

/-- The chunk's scores under the mask. -/
def mA (v147 v148 : FVec Ideal S64x128 .bf16) : FVec Ideal S64x64 .bf16 :=
  truncf .bf16 (select (k0_pay13 (F := Ideal)) (matmul dot_S64x128_S64x128_S64x64_1_1_0_0_n_n none v147 v148 (constant S64x64 .f32 0x00000000#32))
    (broadcast S64x64 (Scalar.ofBits .f32 0x00000000#32))) bitsLt_bf16_f32
include h147 h148 in
theorem mA_apply (x) : mA v147 v148 x = ((uA q k g n (x 0) (x 1) : ℝ) : EReal) := by
  unfold mA
  pointwise
  rw [mask_apply]
  unfold uA
  by_cases h : (x 1).val ≤ (x 0).val
  · rw [if_pos h, if_pos h, coe_sum_range]
    refine Eq.trans (if_pos rfl) (Finset.sum_congr rfl fun c _ => ?_)
    rw [h147, h148, ← EReal.coe_mul]
    rfl
  · rw [if_neg h, if_neg h]
    exact if_neg (by decide)
include h138 h153 in
theorem uP_pay (x) : k0_pay61 (F := Ideal) (k0_pay13 (F := Ideal)) v138 v153 x = ((uP v d n (x 0) (x 1) : ℝ) : EReal) := by
  unfold k0_pay61
  pointwise
  rw [mask_apply]
  unfold uP pr
  by_cases h : (x 1).val ≤ (x 0).val
  · rw [if_pos h, if_pos h, coe_sum_range]
    refine Eq.trans (if_pos rfl) (Finset.sum_congr rfl fun c _ => ?_)
    rw [h138, h153, ← EReal.coe_mul]
    rfl
  · rw [if_neg h, if_neg h]
    exact if_neg (by decide)
/-- The gradient of the values. -/
def mDV (v147 v148 v150 : FVec Ideal S64x128 .bf16) (v138 : FVec Ideal S64x256 .bf16) (v160 : FVec Ideal S256x128 .bf16) : FVec Ideal S64x256 .bf16 :=
  k0_pay69 (F := Ideal) (matmul dot_S64x64_S64x256_S64x256_0_0_1_1_n_n none (mA v147 v148) v138 (constant S64x256 .f32 0x00000000#32))
    (matmul dot_S64x128_S256x128_S64x256_1_1_0_0_n_n none v150 v160 (constant S64x256 .f32 0x00000000#32))
include h138 h147 h148 h150 h160 in
theorem mDV_apply (x) : mDV v147 v148 v150 v138 v160 x = ((uDV q k d g n D (x 0) (x 1) : ℝ) : EReal) := by
  unfold mDV k0_pay69
  pointwise
  unfold uDV
  rw [EReal.coe_add, coe_sum_range, coe_sum_range]
  refine congrArg₂ (· + ·) (Finset.sum_congr rfl fun c _ => ?_) (Finset.sum_congr rfl fun c _ => ?_)
  · rw [mA_apply h147 h148, h138, ← EReal.coe_mul]
    rfl
  · rw [h150, h160, ← EReal.coe_mul]
    rfl
include h138 h153 h139 h140 h148 h159 in
theorem uDQ_pay (x) : k0_pay63 (F := Ideal) (k0_pay13 (F := Ideal)) v138 v139 v140 v148 v153 v159 x = ((uDQ k v d g n S (x 0) (x 1) : ℝ) : EReal) := by
  unfold k0_pay63
  pointwise
  unfold uDQ
  rw [h139, h140, EReal.coe_add, EReal.coe_mul, EReal.coe_mul, coe_sum_range, coe_sum_range]
  refine congrArg₂ (fun a b => a * _ + b * _) (Finset.sum_congr rfl fun c _ => ?_) (Finset.sum_congr rfl fun c _ => ?_)
  · rw [uP_pay h138 h153, h148, ← EReal.coe_mul]
    rfl
  · rw [h138, h159, ← EReal.coe_mul]
    rfl
include h153 h160 in
theorem dks_pay (x) : k0_pay62 (F := Ideal) v153 v160 x = ((∑ e ∈ range 256, v (64 * n + x 0) e * D e (x 1) : ℝ) : EReal) := by
  unfold k0_pay62
  pointwise
  rw [coe_sum_range]
  refine Finset.sum_congr rfl fun c _ => ?_
  rw [h153, h160, ← EReal.coe_mul]
  rfl
include h138 h153 h141 h142 h147 h160 in
theorem uDK_pay (x) : k0_pay64 (F := Ideal) (k0_pay13 (F := Ideal)) v138 v141 v142 v147 v153 v160 x = ((uDK q v d g n D (x 0) (x 1) : ℝ) : EReal) := by
  unfold k0_pay64
  pointwise
  unfold uDK
  rw [h141, h142, dks_pay h153 h160, EReal.coe_add, EReal.coe_mul, EReal.coe_mul, coe_sum_range, coe_sum_range]
  refine congrArg (fun a => a * _ + _) (Finset.sum_congr rfl fun c _ => ?_)
  rw [uP_pay h138 h153, h147, ← EReal.coe_mul]
  rfl
include h50 h153 h160 h159 h143 h146 in
theorem uTL_pay (x) : k0_pay65 (F := Ideal) v50 v143 v146 v153 v159 v160 x = ((uTL k v g n S D (x 1) : ℝ) : EReal) := by
  unfold k0_pay65
  pointwise
  unfold uTL
  rw [h143, EReal.coe_add, EReal.coe_mul, coe_sum_range, coe_sum_range]
  refine congrArg₂ (fun a b => a + _ * b) (Finset.sum_congr rfl fun c _ => ?_) (Finset.sum_congr rfl fun c _ => ?_)
  · rw [dks_pay h153 h160, h146, ← EReal.coe_mul]
    rfl
  · rw [h50, h159, ← EReal.coe_mul]
    rfl
include h50 h138 h143 h149 in
theorem uDS_pay (x) : k0_pay66 (F := Ideal) v50 v138 v143 v149 x = ((uDS q d g n D (x 0) (x 1) : ℝ) : EReal) := by
  unfold k0_pay66
  pointwise
  unfold uDS
  rw [h50, h143, EReal.coe_add, EReal.coe_mul, coe_sum_range]
  refine congrArg (fun a => a + _) (Finset.sum_congr rfl fun c _ => ?_)
  rw [h138, h149, ← EReal.coe_mul]
  rfl
include h138 h153 h139 h140 h148 h159 in
/-- The gradient of the queries as it is stored: scaled. -/
theorem dq_pay (x) : k0_pay67 (F := Ideal) (k0_pay13 (F := Ideal)) v138 v139 v140 v148 v153 v159 x = ((uDQ k v d g n S (x 0) (x 1) * qsc : ℝ) : EReal) := by
  unfold k0_pay67
  pointwise [word_qsc]
  rw [uDQ_pay h138 h153 h139 h140 h148 h159, ← EReal.coe_mul]
include h138 h153 h141 h142 h147 h160 in
theorem dk_pay (x) : k0_pay68 (F := Ideal) (k0_pay13 (F := Ideal)) v138 v141 v142 v147 v153 v160 x = ((uDK q v d g n D (x 0) (x 1) : ℝ) : EReal) := by
  unfold k0_pay68
  pointwise
  rw [uDK_pay h138 h153 h141 h142 h147 h160]
include h138 h153 h139 h140 h141 h142 h144 h145 h147 h148 h159 h160 in
theorem dc_pay (x) : k0_pay71 (F := Ideal) (k0_pay70 (F := Ideal) (k0_pay13 (F := Ideal)) v138 v139 v140 v141 v142 v144 v145 v147 v148 v153 v159 v160) x
    = ((uDQ k v d g n S (x 0) (x 1) * q (64 * n + x 0) (x 1) - uDK q v d g n D (x 0) (x 1) * k (64 * n + x 0) (x 1) : ℝ) : EReal) := by
  unfold k0_pay71 k0_pay70
  pointwise
  rw [uDQ_pay h138 h153 h139 h140 h148 h159, uDK_pay h138 h153 h141 h142 h147 h160, h144, h145]
  simp only [← EReal.coe_mul, ← EReal.coe_sub]
include h50 h153 h160 h159 h143 h146 in
theorem tl_pay (x) : k0_pay72 (F := Ideal) (k0_pay65 (F := Ideal) v50 v143 v146 v153 v159 v160) x = ((uTL k v g n S D (x 1) : ℝ) : EReal) := by
  unfold k0_pay72
  pointwise
  rw [uTL_pay h153 h143 h146 h50 h160 h159]
  rfl

end Att

/-! ### The chunk's decays -/

section Decay

variable {b : Vec Ideal S64x512 .f32} {g : ℕ → ℕ → ℝ} {n : ℕ} (hb : ∀ x, b x = ((bt g n (x 0) (x 1) : ℝ) : EReal))
include hb

theorem e_b (x) : k0_pay21 (F := Ideal) b x = ((Real.exp (bt g n (x 0) (x 1)) : ℝ) : EReal) := by
  unfold_payloads
  pointwise
  rw [hb, Ideal.exp_coe]
theorem e_qm (x) : k0_pay22 (F := Ideal) b x = ((Real.exp (bt g n (x 0) (x 1) - bt g n 31 (x 1)) : ℝ) : EReal) := by
  unfold_payloads
  pointwise
  rw [hb, hb, ← EReal.coe_sub, Ideal.exp_coe]
  rfl
theorem e_km (x) : k0_pay23 (F := Ideal) b x = ((Real.exp (bt g n 31 (x 1) - bt g n (x 0) (x 1)) : ℝ) : EReal) := by
  unfold_payloads
  pointwise
  rw [hb, hb, ← EReal.coe_sub, Ideal.exp_coe]
  rfl
theorem e_lb (x) : k0_pay24 (F := Ideal) b x = ((Real.exp (bt g n 63 (x 1) - bt g n (x 0) (x 1)) : ℝ) : EReal) := by
  unfold_payloads
  pointwise
  rw [hb, hb, ← EReal.coe_sub, Ideal.exp_coe]
  rfl
theorem e_l (x) : k0_pay25 (F := Ideal) b x = ((Real.exp (bt g n 63 (x 1)) : ℝ) : EReal) := by
  unfold_payloads
  pointwise
  rw [hb, Ideal.exp_coe]
  rfl
variable {qc kc : Vec Ideal S64x512 .f32} {Q K : ℕ → ℕ → ℝ} (hq : ∀ x, qc x = ((Q (64 * n + x 0) (x 1) : ℝ) : EReal))
  (hk : ∀ x, kc x = ((K (64 * n + x 0) (x 1) : ℝ) : EReal))
omit hb in
include hq in
theorem qs_pay (x) : k0_pay26 (F := Ideal) qc x = ((Q (64 * n + x 0) (x 1) * qsc : ℝ) : EReal) := by
  unfold_payloads
  pointwise [word_qsc]
  rw [hq, ← EReal.coe_mul]
omit hb in
include hk in
theorem k_pay (x) : k0_pay27 (F := Ideal) kc x = ((K (64 * n + x 0) (x 1) : ℝ) : EReal) := by
  unfold_payloads
  pointwise
  rw [hk]
include hq in
theorem qm_pay (x) : k0_pay28 (F := Ideal) (k0_pay22 b) (k0_pay26 qc) x
    = ((Q (64 * n + x 0) (x 1) * qsc * Real.exp (bt g n (x 0) (x 1) - bt g n 31 (x 1)) : ℝ) : EReal) := by
  unfold k0_pay28
  pointwise
  rw [qs_pay hq, e_qm hb, ← EReal.coe_mul]
include hk in
theorem km_pay (x) : k0_pay29 (F := Ideal) (k0_pay23 b) kc x
    = ((K (64 * n + x 0) (x 1) * Real.exp (bt g n 31 (x 1) - bt g n (x 0) (x 1)) : ℝ) : EReal) := by
  unfold k0_pay29
  pointwise
  rw [k_pay hk, e_km hb, ← EReal.coe_mul]
include hq in
theorem qe_pay (x) : k0_pay30 (F := Ideal) (k0_pay21 b) (k0_pay26 qc) x
    = ((Q (64 * n + x 0) (x 1) * qsc * Real.exp (bt g n (x 0) (x 1)) : ℝ) : EReal) := by
  unfold k0_pay30
  pointwise
  rw [qs_pay hq, e_b hb, ← EReal.coe_mul]
include hk in
theorem kl_pay (x) : k0_pay31 (F := Ideal) (k0_pay24 b) kc x
    = ((K (64 * n + x 0) (x 1) * Real.exp (bt g n 63 (x 1) - bt g n (x 0) (x 1)) : ℝ) : EReal) := by
  unfold k0_pay31
  pointwise
  rw [k_pay hk, e_lb hb, ← EReal.coe_mul]
include hk in
theorem klb_pay (x) : k0_pay32 (F := Ideal) (k0_pay24 b) kc x
    = ((K (64 * n + x 0) (x 1) * Real.exp (bt g n 63 (x 1) - bt g n (x 0) (x 1)) : ℝ) : EReal) := by
  unfold k0_pay32
  pointwise
  rw [kl_pay hb hk]

end Decay

end Cert.GlaVal

end
-- ==== Proof.Gla.Pieces.lean ====
module

public import proofs.«01_k».proof.Proof.Gen.GlaIdeal.Frame
public import proofs.«01_k».proof.Proof.Gla.Unit
public import Idealize.ShloMosaic.Lib.Pipeline.ValueKit
public import Idealize.ShloMosaic.Lib.Pipeline.ReadBack
public import Idealize.ShloMosaic.Lib.Pointwise

@[expose] public section

noncomputable section

/-! A step's stores as lists over its sixteen units: four chunks, the last first, of four heads. -/

namespace Cert.GlaVal

open Cert.GlaIdeal Cert.GlaIdeal.Gen Idealize.ShloMosaic Idealize.ShloMosaic.TcCoe
open Finset

/-! ### Places -/

/-- Chunk `c`'s 64 rows of a block of 256 rows and 512 columns. -/
abbrev rL (c : Fin 4) : Rect S256x512 := Rect.unit ![64 * c.val, 0] ![64, 512] (by
  have := c.isLt
  intro a; match a with
  | 0 => change 64 * c.val + 64 ≤ 256; omega
  | 1 => exact Nat.le_refl 512)
/-- Chunk `c`'s rows and head `h`'s 128 columns of the same. -/
abbrev rH (c h : Fin 4) : Rect S256x512 := Rect.unit ![64 * c.val, 128 * h.val] ![64, 128] (by
  have := h.isLt; have := c.isLt
  intro a; match a with
  | 0 => change 64 * c.val + 64 ≤ 256; omega
  | 1 => change 128 * h.val + 128 ≤ 512; omega)
/-- Chunk `c`'s rows and head `h`'s 256 columns of a block of 1024 columns. -/
abbrev rV (c h : Fin 4) : Rect S256x1024 := Rect.unit ![64 * c.val, 256 * h.val] ![64, 256] (by
  have := h.isLt; have := c.isLt
  intro a; match a with
  | 0 => change 64 * c.val + 64 ≤ 256; omega
  | 1 => change 256 * h.val + 256 ≤ 1024; omega)
/-- The state of chunk `c` and head `h`. -/
abbrev rS (c h : Fin 4) : Rect S4x4x256x128 := Rect.unit ![c.val, h.val, 0, 0] ![1, 1, 256, 128] (by
  have := h.isLt; have := c.isLt
  intro a; match a with
  | 0 => change c.val + 1 ≤ 4; omega
  | 1 => change h.val + 1 ≤ 4; omega
  | 2 => exact Nat.le_refl 256
  | 3 => exact Nat.le_refl 128)
/-- Head `h`'s matrix among four. -/
abbrev rD (h : Fin 4) : Rect S4x256x128 := Rect.unit ![h.val, 0, 0] ![1, 256, 128] (by
  have := h.isLt
  intro a; match a with
  | 0 => change h.val + 1 ≤ 4; omega
  | 1 => exact Nat.le_refl 256
  | 2 => exact Nat.le_refl 128)
/-- The 128 columns of a head in the gradient's block: of the queries, the keys (`j` = 0, 1). -/
abbrev rQ (j : Fin 2) (c h : Fin 4) : Rect S256x3072 := Rect.unit ![64 * c.val, 512 * j.val + 128 * h.val] ![64, 128] (by
  have := h.isLt; have := c.isLt; have := j.isLt
  intro a; match a with
  | 0 => change 64 * c.val + 64 ≤ 256; omega
  | 1 => change 512 * j.val + 128 * h.val + 128 ≤ 3072; omega)
/-- The 256 columns of a head in the gradient's block: of the values, the gates (`j` = 1, 2). -/
abbrev rZ (j : Fin 3) (c h : Fin 4) : Rect S256x3072 := Rect.unit ![64 * c.val, 1024 * j.val + 256 * h.val] ![64, 256] (by
  have := h.isLt; have := c.isLt; have := j.isLt
  intro a; match a with
  | 0 => change 64 * c.val + 64 ≤ 256; omega
  | 1 => change 1024 * j.val + 256 * h.val + 256 ≤ 3072; omega)
abbrev rAll : Rect S256x512 := Rect.unit ![0, 0] ![256, 512] inb_S256x512_S256x512_0_0

theorem sl64 (h : Fin 4) : S64x512.Slices ![0, 128 * h.val] S64x128 := by
  have := h.isLt
  refine ⟨rfl, fun a => ?_⟩
  match a with
  | 0 => exact Nat.le_refl 64
  | 1 => change 128 * h.val + 128 ≤ 512; omega
theorem sl1 (h : Fin 4) : S1x512.Slices ![0, 128 * h.val] S1x128 := by
  have := h.isLt
  refine ⟨rfl, fun a => ?_⟩
  match a with
  | 0 => exact Nat.le_refl 1
  | 1 => change 128 * h.val + 128 ≤ 512; omega
/-- Head `h`'s columns of a chunk. -/
def hs {φ : FTy} (h : Fin 4) (x : FVec Ideal S64x512 φ) : FVec Ideal S64x128 φ := extractStridedSlice S64x128 ![0, 128 * h.val] x (sl64 h)
/-- Head `h`'s columns of a row. -/
def hs1 {φ : FTy} (h : Fin 4) (x : FVec Ideal S1x512 φ) : FVec Ideal S1x128 φ := extractStridedSlice S1x128 ![0, 128 * h.val] x (sl1 h)
theorem hs_apply {φ : FTy} (h : Fin 4) (x : FVec Ideal S64x512 φ) (i : S64x128.Idx) :
    hs h x i = x (ix2 (n0 := 64) (n1 := 512) (i 0) ⟨128 * h.val + (i 1).val, by have := h.isLt; have : (i 1).val < 128 := (i 1).isLt; omega⟩) := by
  unfold hs
  pointwise
theorem hs1_apply {φ : FTy} (h : Fin 4) (x : FVec Ideal S1x512 φ) (i : S1x128.Idx) :
    hs1 h x i = x (ix2 (n0 := 1) (n1 := 512) 0 ⟨128 * h.val + (i 1).val, by have := h.isLt; have : (i 1).val < 128 := (i 1).isLt; omega⟩) := by
  unfold hs1
  pointwise

/-! ### One unit -/

section Lists
variable (v19 v20 v21 : View sig .tc .vmem S256x512 .f32)
  (x0 x1 : Vec Ideal S256x512 .f32) (x2 x3 : Vec Ideal S256x1024 .f32) (x4 : Vec Ideal S256x128 .f32) (x5 : Vec Ideal S256x1024 .f32)
  (x6 : Vec Ideal S4x4x256x128 .f32) (x7 : Vec Ideal S256x1024 .f32) (x8 : Vec Ideal S128x512 .f32) (x9 : Vec Ideal S1x512 .f32)
  (x10 : Vec Ideal S1x256 .f32) (D0 : Fin 4 → Vec Ideal S1x256x128 .f32) (c h : Fin 4)

/-- The chunk's logarithms of decays, read back from their scratch buffer. -/
def pB : Vec Ideal S64x512 .f32 := v19.readCov [⟨rAll, k0_pay12 (F := Ideal) x4 x8 x9⟩] (rL c).toLoadRect
/-- The chunk's scaled queries under the decay since the chunk's middle, its keys, and the rest. -/
def pQm : FVec Ideal S64x128 .bf16 := hs h (k0_pay28 (F := Ideal) (k0_pay22 (pB v19 x4 x8 x9 c)) (k0_pay26 (View.ld x0 (rL c))))
def pKm : FVec Ideal S64x128 .bf16 := hs h (k0_pay29 (F := Ideal) (k0_pay23 (pB v19 x4 x8 x9 c)) (View.ld x1 (rL c)))
def pQe : FVec Ideal S64x128 .bf16 := hs h (k0_pay30 (F := Ideal) (k0_pay21 (pB v19 x4 x8 x9 c)) (k0_pay26 (View.ld x0 (rL c))))
def pKl : FVec Ideal S64x128 .f32 := hs h (k0_pay31 (F := Ideal) (k0_pay24 (pB v19 x4 x8 x9 c)) (View.ld x1 (rL c)))
def pKlb : FVec Ideal S64x128 .bf16 := hs h (k0_pay32 (F := Ideal) (k0_pay24 (pB v19 x4 x8 x9 c)) (View.ld x1 (rL c)))
/-- The gradient of the unit's output. -/
def pDO : FVec Ideal S64x256 .bf16 :=
  k0_pay44 (F := Ideal) x10 (k0_pay34 (View.ld x5 (rV c h))) (k0_pay35 (View.ld x5 (rV c h))) (k0_pay39 (View.ld x3 (rV c h)) (View.ld x7 (rV c h)))
def pVb : FVec Ideal S64x256 .bf16 := k0_pay56 (F := Ideal) (View.ld x2 (rV c h))
def pS : FVec Ideal S256x128 .f32 := k0_pay57 (F := Ideal) (View.ld x6 (rS c h))
/-- The gradient of the state after `j` chunks of the step, from the block's last. -/
def pD : ℕ → FVec Ideal S256x128 .f32
  | 0 => k0_pay15 (F := Ideal) (D0 h)
  | j + 1 => k0_pay66 (F := Ideal) (pD j) (pDO x3 x5 x7 x10 (Fin.ofNat 4 (3 - j)) h)
      (hs1 h (k0_pay25 (F := Ideal) (pB v19 x4 x8 x9 (Fin.ofNat 4 (3 - j))))) (pQe v19 x0 x4 x8 x9 (Fin.ofNat 4 (3 - j)) h)
/-- The same at chunk `c`. -/
def pDc : FVec Ideal S256x128 .f32 := pD v19 x0 x3 x4 x5 x7 x8 x9 x10 D0 h (3 - c.val)
def pDZ : FVec Ideal S64x256 .bf16 := k0_pay42 (F := Ideal) (k0_pay40 x10 (View.ld x5 (rV c h)) (View.ld x7 (rV c h))) (k0_pay41 (View.ld x3 (rV c h)))
def pDQ : FVec Ideal S64x128 .bf16 :=
  k0_pay67 (F := Ideal) (k0_pay13 (F := Ideal)) (pDO x3 x5 x7 x10 c h) (hs h (k0_pay21 (F := Ideal) (pB v19 x4 x8 x9 c))) (hs h (k0_pay22 (F := Ideal) (pB v19 x4 x8 x9 c)))
    (pKm v19 x1 x4 x8 x9 c h) (pVb x2 c h) (pS x6 c h)
def pDK : FVec Ideal S64x128 .bf16 :=
  k0_pay68 (F := Ideal) (k0_pay13 (F := Ideal)) (pDO x3 x5 x7 x10 c h) (hs h (k0_pay23 (F := Ideal) (pB v19 x4 x8 x9 c))) (hs h (k0_pay24 (F := Ideal) (pB v19 x4 x8 x9 c)))
    (pQm v19 x0 x4 x8 x9 c h) (pVb x2 c h) (k0_pay58 (pDc v19 x0 x3 x4 x5 x7 x8 x9 x10 D0 c h))
def pDV : FVec Ideal S64x256 .bf16 :=
  mDV (pQm v19 x0 x4 x8 x9 c h) (pKm v19 x1 x4 x8 x9 c h) (pKlb v19 x1 x4 x8 x9 c h) (pDO x3 x5 x7 x10 c h) (k0_pay58 (pDc v19 x0 x3 x4 x5 x7 x8 x9 x10 D0 c h))
def pDC : FVec Ideal S64x128 .f32 :=
  k0_pay71 (F := Ideal) (k0_pay70 (F := Ideal) (k0_pay13 (F := Ideal)) (pDO x3 x5 x7 x10 c h) (hs h (k0_pay21 (F := Ideal) (pB v19 x4 x8 x9 c)))
    (hs h (k0_pay22 (F := Ideal) (pB v19 x4 x8 x9 c))) (hs h (k0_pay23 (F := Ideal) (pB v19 x4 x8 x9 c))) (hs h (k0_pay24 (F := Ideal) (pB v19 x4 x8 x9 c)))
    (hs h (k0_pay26 (F := Ideal) (View.ld x0 (rL c)))) (hs h (k0_pay27 (F := Ideal) (View.ld x1 (rL c)))) (pQm v19 x0 x4 x8 x9 c h) (pKm v19 x1 x4 x8 x9 c h)
    (pVb x2 c h) (pS x6 c h) (k0_pay58 (pDc v19 x0 x3 x4 x5 x7 x8 x9 x10 D0 c h)))
def pTL : FVec Ideal S64x128 .f32 :=
  k0_pay72 (F := Ideal) (k0_pay65 (F := Ideal) (pDc v19 x0 x3 x4 x5 x7 x8 x9 x10 D0 c h) (hs1 h (k0_pay25 (F := Ideal) (pB v19 x4 x8 x9 c)))
    (pKl v19 x1 x4 x8 x9 c h) (pVb x2 c h) (pS x6 c h) (k0_pay58 (pDc v19 x0 x3 x4 x5 x7 x8 x9 x10 D0 c h)))

/-! ### A step's stores -/

/-- The stores of a step, last first: the chunk and head of the `k`-th unit. -/
abbrev uc (k : Fin 16) : Fin 4 := ⟨k.val / 4, by omega⟩
abbrev uh (k : Fin 16) : Fin 4 := ⟨3 - k.val % 4, by omega⟩
def l11 : List (View.Piece (Elt Ideal) S256x3072 .bf16) :=
  (List.finRange 16).flatMap fun k =>
    [⟨rZ 1 (uc k) (uh k), pDV v19 x0 x1 x3 x4 x5 x7 x8 x9 x10 D0 (uc k) (uh k)⟩,
     ⟨rQ 1 (uc k) (uh k), pDK v19 x0 x2 x3 x4 x5 x7 x8 x9 x10 D0 (uc k) (uh k)⟩,
     ⟨rQ 0 (uc k) (uh k), pDQ v19 x1 x2 x3 x4 x5 x6 x7 x8 x9 x10 (uc k) (uh k)⟩,
     ⟨rZ 2 (uc k) (uh k), pDZ x3 x5 x7 x10 (uc k) (uh k)⟩]
def l20 : List (View.Piece (Elt Ideal) S256x512 .f32) :=
  (List.finRange 16).map fun k => ⟨rH (uc k) (uh k), pDC v19 x0 x1 x2 x3 x4 x5 x6 x7 x8 x9 x10 D0 (uc k) (uh k)⟩
def l21 : List (View.Piece (Elt Ideal) S256x512 .f32) :=
  (List.finRange 16).map fun k => ⟨rH (uc k) (uh k), pTL v19 x0 x1 x2 x3 x4 x5 x6 x7 x8 x9 x10 D0 (uc k) (uh k)⟩
/-- The gradient of the norm's scale after `u` units. -/
def pG : ℕ → Vec Ideal S1x256 .f32
  | 0 => k0_pay14 (F := Ideal)
  | u + 1 => k0_pay43 (F := Ideal) (pG u) (k0_pay35 (View.ld x5 (rV (Fin.ofNat 4 (3 - u / 4)) (Fin.ofNat 4 u))))
      (k0_pay39 (View.ld x3 (rV (Fin.ofNat 4 (3 - u / 4)) (Fin.ofNat 4 u))) (View.ld x7 (rV (Fin.ofNat 4 (3 - u / 4)) (Fin.ofNat 4 u))))
/-- The gradient of the decays' logarithms, and the negated input of their gate. -/
def pLg : FVec Ideal S256x512 .f32 :=
  k0_pay694 (F := Ideal) (k0_pay693 (v20.readCov (l20 v19 x0 x1 x2 x3 x4 x5 x6 x7 x8 x9 x10 D0) rAll.toLoadRect)
    (v21.readCov (l21 v19 x0 x1 x2 x3 x4 x5 x6 x7 x8 x9 x10 D0) rAll.toLoadRect)) (Scalar.ofBits .f32 0x3D800000#32)
def pNl : FVec Ideal S256x512 .f32 := k0_pay695 (F := Ideal) (k0_pay11 x4 x8 x9)
def p12 : FVec Ideal S256x128 .bf16 :=
  k0_pay4 (F := Ideal) (pLg v19 v20 v21 x0 x1 x2 x3 x4 x5 x6 x7 x8 x9 x10 D0) (pNl x4 x8 x9) (k0_pay696 (F := Ideal)) x8
def p13 (old : Vec Ideal S128x512 .f32) : FVec Ideal S128x512 .f32 :=
  k0_pay5 (F := Ideal) (k0_pay10 x4) (pLg v19 v20 v21 x0 x1 x2 x3 x4 x5 x6 x7 x8 x9 x10 D0) (pNl x4 x8 x9) (k0_pay696 (F := Ideal)) old
def p14 (old : Vec Ideal S1x512 .f32) : FVec Ideal S1x512 .f32 :=
  k0_pay2 (F := Ideal) (pLg v19 v20 v21 x0 x1 x2 x3 x4 x5 x6 x7 x8 x9 x10 D0) (pNl x4 x8 x9) (k0_pay696 (F := Ideal)) old
def p15 (old : Vec Ideal S1x256 .f32) : FVec Ideal S1x256 .f32 := k0_pay692 (F := Ideal) (pG x3 x5 x7 16) old
/-- The state's gradient after the step. -/
def lD : List (View.Piece (Elt Ideal) S4x256x128 .f32) :=
  (List.finRange 4).reverse.map fun h => ⟨rD h, k0_pay688 (F := Ideal) (pD v19 x0 x3 x4 x5 x7 x8 x9 x10 D0 h 4)⟩
def lZero : List (View.Piece (Elt Ideal) S4x256x128 .f32) :=
  [⟨Rect.unit ![0, 0, 0] ![4, 256, 128] inb_S4x256x128_S4x256x128_0_0_0, k0_pay6 (F := Ideal)⟩]
/-- The state's gradient before a case A step: zeros, read back. -/
def zD (v18 : View sig .tc .vmem S4x256x128 .f32) (h : Fin 4) : Vec Ideal S1x256x128 .f32 := v18.readCov lZero (rD h).toLoadRect
end Lists

section Outs
variable (m : (ℓ : Loc nD τ sig) → Buf (Elt Ideal) ℓ) (c : Dev nD) (t : Fin cfg0.N)
theorem outs11_A (h0 : t.val % 16 = 0) : (outsAt0 m c t.val t.isLt).1
    = View.canon (l11 scM0_1.view (iblk m c 0 t) (iblk m c 1 t) (iblk m c 2 t) (iblk m c 3 t) (iblk m c 4 t) (iblk m c 5 t) (iblk m c 6 t) (iblk m c 7 t) (iblk m c 8 t) (iblk m c 9 t) (iblk m c 10 t) (zD scM0_0.view)) := by
  rw [outsAt0_A m c t h0]
  funext y
  frame_out
  rfl
theorem outs12_A (h0 : t.val % 16 = 0) : (outsAt0 m c t.val t.isLt).2.1
    = p12 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (zD scM0_0.view) := by
  rw [outsAt0_A m c t h0]
  funext y
  frame_out
  rfl
theorem outs13_A (h0 : t.val % 16 = 0) : (outsAt0 m c t.val t.isLt).2.2.1
    = p13 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (zD scM0_0.view) (k0_pay7 (F := Ideal)) := by
  rw [outsAt0_A m c t h0]
  funext y
  frame_out
  rfl
theorem outs14_A (h0 : t.val % 16 = 0) : (outsAt0 m c t.val t.isLt).2.2.2.1
    = p14 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (zD scM0_0.view) (k0_pay8 (F := Ideal)) := by
  rw [outsAt0_A m c t h0]
  funext y
  frame_out
  rfl
theorem outs15_A (h0 : t.val % 16 = 0) : (outsAt0 m c t.val t.isLt).2.2.2.2.1
    = p15 (iblk m c 3 t) (iblk m c 5 t) (iblk m c 7 t) (k0_pay9 (F := Ideal)) := by
  rw [outsAt0_A m c t h0]
  funext y
  frame_out
  rfl
theorem outsS_A (h0 : t.val % 16 = 0) : (outsAt0 m c t.val t.isLt).2.2.2.2.2
    = View.canon (lD scM0_1.view (iblk m c 0 t) (iblk m c 3 t) (iblk m c 4 t) (iblk m c 5 t) (iblk m c 7 t) (iblk m c 8 t) (iblk m c 9 t) (iblk m c 10 t) (zD scM0_0.view) ++ lZero) := by
  rw [outsAt0_A m c t h0]
  funext y
  frame_out
  rfl
theorem outs11_B (h0 : ¬t.val % 16 = 0) : (outsAt0 m c t.val t.isLt).1
    = View.canon (l11 scM0_1.view (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => View.ld (outsAt0 m c (t.val - 1) (Nat.lt_of_le_of_lt (Nat.sub_le _ _) t.isLt)).2.2.2.2.2 (rD h))) := by
  rw [outsAt0_B m c t h0]
  funext y
  frame_out
  simp only [read_unread_whole]
  rfl
theorem outs12_B (h0 : ¬t.val % 16 = 0) : (outsAt0 m c t.val t.isLt).2.1
    = p12 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => View.ld (outsAt0 m c (t.val - 1) (Nat.lt_of_le_of_lt (Nat.sub_le _ _) t.isLt)).2.2.2.2.2 (rD h)) := by
  rw [outsAt0_B m c t h0]
  funext y
  frame_out
  simp only [read_unread_whole]
  rfl
theorem outs13_B (h0 : ¬t.val % 16 = 0) : (outsAt0 m c t.val t.isLt).2.2.1
    = p13 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => View.ld (outsAt0 m c (t.val - 1) (Nat.lt_of_le_of_lt (Nat.sub_le _ _) t.isLt)).2.2.2.2.2 (rD h)) (outsAt0 m c (t.val - 1) (Nat.lt_of_le_of_lt (Nat.sub_le _ _) t.isLt)).2.2.1 := by
  rw [outsAt0_B m c t h0]
  funext y
  frame_out
  simp only [read_unread_whole]
  rfl
theorem outs14_B (h0 : ¬t.val % 16 = 0) : (outsAt0 m c t.val t.isLt).2.2.2.1
    = p14 scM0_1.view scM0_2.view scM0_3.view (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => View.ld (outsAt0 m c (t.val - 1) (Nat.lt_of_le_of_lt (Nat.sub_le _ _) t.isLt)).2.2.2.2.2 (rD h)) (outsAt0 m c (t.val - 1) (Nat.lt_of_le_of_lt (Nat.sub_le _ _) t.isLt)).2.2.2.1 := by
  rw [outsAt0_B m c t h0]
  funext y
  frame_out
  simp only [read_unread_whole]
  rfl
theorem outs15_B (h0 : ¬t.val % 16 = 0) : (outsAt0 m c t.val t.isLt).2.2.2.2.1
    = p15 (iblk m c 3 t) (iblk m c 5 t) (iblk m c 7 t) (outsAt0 m c (t.val - 1) (Nat.lt_of_le_of_lt (Nat.sub_le _ _) t.isLt)).2.2.2.2.1 := by
  rw [outsAt0_B m c t h0]
  funext y
  frame_out
  rfl
theorem outsS_B (h0 : ¬t.val % 16 = 0) : (outsAt0 m c t.val t.isLt).2.2.2.2.2
    = View.canon (lD scM0_1.view (iblk m c 0 t) (iblk m c 3 t) (iblk m c 4 t) (iblk m c 5 t) (iblk m c 7 t) (iblk m c 8 t) (iblk m c 9 t) (iblk m c 10 t) (fun h => View.ld (outsAt0 m c (t.val - 1) (Nat.lt_of_le_of_lt (Nat.sub_le _ _) t.isLt)).2.2.2.2.2 (rD h))) := by
  rw [outsAt0_B m c t h0]
  funext y
  frame_out
  simp only [read_unread_whole]
  rfl
end Outs

end Cert.GlaVal

end
-- ==== Proof.Gla.Block.lean ====
module

public import proofs.«01_k».proof.Proof.Gla.Unit
public import Idealize.ShloMosaic.Lib.Pipeline.ValueKit
public import Idealize.ShloMosaic.Lib.Pointwise
public import Idealize.ShloMosaic.Lib.WordCmp

@[expose] public section

noncomputable section

/-! The kernel's operations on a whole block of 256 rows: the decays' gate, their running sums, and the gradients back through both. -/

namespace Cert.GlaVal

open Cert.GlaIdeal Cert.GlaIdeal.Gen Idealize.ShloMosaic Idealize.ShloMosaic.TcCoe
open Finset

theorem shr6 : ∀ n : Fin 256, IntOp.shrsi .vector (BitVec.ofNat 32 n.val) 6#32 = BitVec.ofNat 32 (n.val / 64) := by decide

theorem ls_coe (r : ℝ) : min ((r : ℝ) : EReal) 0 - Ideal.log1p (Ideal.exp (0 - FloatOps.absf (F := Ideal) (φ := .f32) ((r : ℝ) : EReal))) = ((ls r : ℝ) : EReal) := by
  have ha : FloatOps.absf (F := Ideal) (φ := .f32) ((r : ℝ) : EReal) = ((|r| : ℝ) : EReal) := by
    change max ((r : ℝ) : EReal) (-((r : ℝ) : EReal)) = _
    rw [← EReal.coe_neg, abs_eq_max_neg]
    exact (EReal.coe_strictMono.monotone.map_max).symm
  have hm : min ((r : ℝ) : EReal) 0 = ((min r 0 : ℝ) : EReal) := (EReal.coe_strictMono.monotone.map_min).symm
  have hp : 0 < 1 + Real.exp (-|r|) := by positivity
  rw [ha, hm, zero_sub, ← EReal.coe_neg, Ideal.exp_coe]
  change _ - Ideal.log (((1 : ℝ) : EReal) + _) = _
  rw [← EReal.coe_add, Ideal.log_coe, if_neg hp.not_ge, ← EReal.coe_sub]
  rfl

/-- The gate's input: a row's product with the matrix, and the bias. -/
def LG (R W : ℕ → ℕ → ℝ) (B : ℕ → ℝ) (t j : ℕ) : ℝ := (∑ k ∈ range 128, R t k * W k j) + B j
/-- The decays' logarithms. -/
def gl (R W : ℕ → ℕ → ℝ) (B : ℕ → ℝ) (t j : ℕ) : ℝ := ls (LG R W B t j) * (1 / 16)

section
variable {x4 : Vec Ideal S256x128 .f32} {x8 : Vec Ideal S128x512 .f32} {x9 : Vec Ideal S1x512 .f32} {R W : ℕ → ℕ → ℝ} {B : ℕ → ℝ}
  (h4 : ∀ j, x4 j = ((R (j 0) (j 1) : ℝ) : EReal)) (h8 : ∀ j, x8 j = ((W (j 0) (j 1) : ℝ) : EReal)) (h9 : ∀ j, x9 j = ((B (j 1) : ℝ) : EReal))
include h4 h8 h9

theorem lg_pay (x) : k0_pay11 (F := Ideal) x4 x8 x9 x = ((LG R W B (x 0) (x 1) : ℝ) : EReal) := by
  unfold_payloads
  pointwise
  unfold LG
  rw [h9, EReal.coe_add, coe_sum_range]
  refine congrArg (· + _) (Finset.sum_congr rfl fun k _ => ?_)
  rw [h4, h8, ← EReal.coe_mul]
  rfl
theorem la_pay (x) : k0_pay12 (F := Ideal) x4 x8 x9 x
    = ((∑ k ∈ range 256, if k / 64 = (x 0).val / 64 ∧ k ≤ (x 0).val then gl R W B k (x 1) else 0 : ℝ) : EReal) := by
  have hx : (x 0).val < 256 := (x 0).isLt
  unfold k0_pay12
  pointwise [word_one, word_sixteenth]
  rw [coe_sum_range]
  refine Finset.sum_congr rfl fun k _ => ?_
  rw [lg_pay h4 h8 h9]
  rw [show IntOp.shrsi ArithUnit.vector (BitVec.ofNat 32 (x 0).val) 6#32 = BitVec.ofNat 32 ((x 0).val / 64) from shr6 ⟨(x 0).val, hx⟩, shr6 k]
  have hk : k.val < 256 := k.isLt
  have hc : IntOp.andi (IntOp.cmpi CmpIPredicate.eq (BitVec.ofNat 32 ((x 0).val / 64)) (BitVec.ofNat 32 (k.val / 64)))
      (IntOp.cmpi CmpIPredicate.sle (BitVec.ofNat 32 k.val) (BitVec.ofNat 32 (x 0).val)) = if k.val / 64 = (x 0).val / 64 ∧ k.val ≤ (x 0).val then 1#1 else 0#1 := by
    rw [WordCmp.cmpi_eq_ofNat (by omega) (by omega), WordCmp.cmpi_sle_ofNat (by omega) (by omega)]
    by_cases h1 : k.val / 64 = (x 0).val / 64 <;> by_cases h2 : k.val ≤ (x 0).val <;> simp [h1, h2, eq_comm, IntOp.andi]
  rw [hc]
  by_cases h : k.val / 64 = (x 0).val / 64 ∧ k.val ≤ (x 0).val
  · rw [if_pos h, if_pos h]
    refine (if_pos rfl).trans ?_
    rw [ls_coe, ← EReal.coe_mul, ← EReal.coe_mul, one_mul]
    rfl
  · rw [if_neg h, if_neg h]
    exact if_neg (by decide)
end

section
variable {a b : Vec Ideal S256x512 .f32} {A C : ℕ → ℕ → ℝ} (ha : ∀ j, a j = ((A (j 0) (j 1) : ℝ) : EReal)) (hb : ∀ j, b j = ((C (j 0) (j 1) : ℝ) : EReal))
include ha hb
theorem dg_pay (x) : k0_pay693 (F := Ideal) a b x
    = (((∑ k ∈ range 256, if k / 64 = (x 0).val / 64 ∧ (x 0).val ≤ k then A k (x 1) else 0) + C (x 0) (x 1) : ℝ) : EReal) := by
  have hx : (x 0).val < 256 := (x 0).isLt
  unfold k0_pay693
  pointwise [word_one]
  rw [hb, EReal.coe_add, coe_sum_range]
  refine congrArg (· + _) (Finset.sum_congr rfl fun k _ => ?_)
  rw [ha]
  rw [show IntOp.shrsi ArithUnit.vector (BitVec.ofNat 32 (x 0).val) 6#32 = BitVec.ofNat 32 ((x 0).val / 64) from shr6 ⟨(x 0).val, hx⟩, shr6 k]
  have hk : k.val < 256 := k.isLt
  have hc : IntOp.andi (IntOp.cmpi CmpIPredicate.eq (BitVec.ofNat 32 ((x 0).val / 64)) (BitVec.ofNat 32 (k.val / 64)))
      (IntOp.cmpi CmpIPredicate.sge (BitVec.ofNat 32 k.val) (BitVec.ofNat 32 (x 0).val)) = if k.val / 64 = (x 0).val / 64 ∧ (x 0).val ≤ k.val then 1#1 else 0#1 := by
    rw [WordCmp.cmpi_eq_ofNat (by omega) (by omega), WordCmp.cmpi_sge_ofNat (by omega) (by omega)]
    by_cases h1 : k.val / 64 = (x 0).val / 64 <;> by_cases h2 : (x 0).val ≤ k.val <;> simp [h1, h2, eq_comm, IntOp.andi]
  rw [hc]
  by_cases h : k.val / 64 = (x 0).val / 64 ∧ (x 0).val ≤ k.val
  · rw [if_pos h, if_pos h]
    refine (if_pos rfl).trans ?_
    rw [← EReal.coe_mul, one_mul]
    rfl
  · rw [if_neg h, if_neg h]
    exact if_neg (by decide)
end

section
variable {p nl : FVec Ideal S256x512 .f32} {P L : ℕ → ℕ → ℝ} (hp : ∀ j, p j = ((P (j 0) (j 1) : ℝ) : EReal))
  (hl : ∀ j, nl j = ((L (j 0) (j 1) : ℝ) : EReal))
/-- The gradient of the gate's input, from the gradient of the decays' logarithms. -/
def dlg (P L : ℕ → ℕ → ℝ) (t j : ℕ) : ℝ := P t j * (1 / 16) * Mix.lgst (-(L t j))
include hp hl
theorem dlg_pay (x) : k0_pay1 (F := Ideal) (k0_pay694 p (Scalar.ofBits .f32 0x3D800000#32)) (k0_pay695 nl) (k0_pay696 (F := Ideal)) x
    = ((dlg P L (x 0) (x 1) : ℝ) : EReal) := by
  unfold k0_pay1 k0_pay694 k0_pay695 k0_pay696
  pointwise [word_half, word_sixteenth]
  rw [hp, hl]
  rw [show (0 : EReal) - ((L (x 0) (x 1) : ℝ) : EReal) = ((-(L (x 0) (x 1)) : ℝ) : EReal) by rw [zero_sub, EReal.coe_neg]]
  simp only [← EReal.coe_mul, ← EReal.coe_add, Ideal.tanh_coe]
  rfl
end

end Cert.GlaVal

end
-- ==== Proof.Gla.Step.lean ====
module

public import proofs.«01_k».proof.Proof.Gla.Pieces
public import proofs.«01_k».proof.Proof.Gla.Block
public import Idealize.ShloMosaic.Lib.Pipeline.ValueKit
public import Idealize.ShloMosaic.Lib.Pointwise

@[expose] public section

noncomputable section

/-! What one step of the kernel stores, at block `b` of 256 rows, when its inputs are reals, its states the attention's states, and the
    gradient of the state it starts from the attention's. -/

namespace Cert.GlaVal

open Cert.GlaIdeal Cert.GlaIdeal.Gen Idealize.ShloMosaic Idealize.ShloMosaic.TcCoe
open Finset

/-! ### One head's arrays among all heads' -/

/-- Head `h`'s scaled queries, keys, values, decays' logarithms, and gradients of the output. -/
def qh (Q : ℕ → ℕ → ℝ) (h t c : ℕ) : ℝ := Q t (128 * h + c) * qsc
def kh (K : ℕ → ℕ → ℝ) (h t c : ℕ) : ℝ := K t (128 * h + c)
def vh (V : ℕ → ℕ → ℝ) (h t e : ℕ) : ℝ := V t (256 * h + e)
def gh (R W : ℕ → ℕ → ℝ) (B : ℕ → ℝ) (h t c : ℕ) : ℝ := gl R W B t (128 * h + c)
def dh (O Z A : ℕ → ℕ → ℝ) (G : ℕ → ℝ) (h t e : ℕ) : ℝ :=
  dn (fun e => O t (256 * h + e)) (fun e => A t (256 * h + e) * Mix.silu (Z t (256 * h + e)) * G e) e

section Defs
variable (Q K V Z A O R W : ℕ → ℕ → ℝ) (B G : ℕ → ℝ)
/-- The gradients of the projection's columns that the attention reads: queries, keys, values, gates, 3072 columns together. -/
def o11 (t d : ℕ) : ℝ :=
  if d < 512 then gDQ (kh K (d / 128)) (vh V (d / 128)) (dh O Z A G (d / 128)) (gh R W B (d / 128)) t (d % 128) * qsc
  else if d < 1024 then gDK (qh Q ((d - 512) / 128)) (vh V ((d - 512) / 128)) (dh O Z A G ((d - 512) / 128)) (gh R W B ((d - 512) / 128)) t (d % 128)
  else if d < 2048 then gDV (qh Q ((d - 1024) / 256)) (kh K ((d - 1024) / 256)) (dh O Z A G ((d - 1024) / 256)) (gh R W B ((d - 1024) / 256)) t (d % 256)
  else A t (d - 2048) * oh (fun e => O t (256 * ((d - 2048) / 256) + e)) (d % 256) * G (d % 256) * Mix.dsilu (Z t (d - 2048))
/-- The gradient of the decays' logarithms, and of the gate's input. -/
def dgl (t j : ℕ) : ℝ := gDG (qh Q (j / 128)) (kh K (j / 128)) (vh V (j / 128)) (dh O Z A G (j / 128)) (gh R W B (j / 128)) t (j % 128)
def dlo : ℕ → ℕ → ℝ := dlg (dgl Q K V Z A O R W B G) (LG R W B)
/-- The state before chunk `n`, and the gradient of the state before chunk `n`, of head `h`. -/
def sth (n h e c : ℕ) : ℝ := stt (kh K h) (vh V h) (gh R W B h) n e c
def dsh (n h e c : ℕ) : ℝ := dst (qh Q h) (dh O Z A G h) (gh R W B h) n e c
end Defs

/-- A block's masked sums: over a chunk's rows up to one, and from one on. -/
theorem blk_le (f : ℕ → ℝ) (c i : ℕ) (hc : c < 4) (hi : i < 64) :
    (∑ k ∈ range 256, if k / 64 = c ∧ k ≤ 64 * c + i then f k else 0) = ∑ u ∈ range (i + 1), f (64 * c + u) := by
  rw [← Finset.sum_filter]
  have e : (range 256).filter (fun k => k / 64 = c ∧ k ≤ 64 * c + i) = (range (i + 1)).image (64 * c + ·) := by
    ext k
    simp only [mem_filter, mem_range, mem_image]
    constructor
    · intro h; exact ⟨k - 64 * c, by omega, by omega⟩
    · rintro ⟨u, h, rfl⟩; omega
  rw [e, Finset.sum_image (fun a _ b _ h => Nat.add_left_cancel h)]
theorem blk_ge (f : ℕ → ℝ) (c i : ℕ) (hc : c < 4) :
    (∑ k ∈ range 256, if k / 64 = c ∧ 64 * c + i ≤ k then f k else 0) = ∑ u ∈ range 64, if i ≤ u then f (64 * c + u) else 0 := by
  rw [← Finset.sum_filter, ← Finset.sum_filter]
  have e : (range 256).filter (fun k => k / 64 = c ∧ 64 * c + i ≤ k) = ((range 64).filter (i ≤ ·)).image (64 * c + ·) := by
    ext k
    simp only [mem_filter, mem_range, mem_image]
    constructor
    · intro h; exact ⟨k - 64 * c, by omega, by omega⟩
    · rintro ⟨u, h, rfl⟩; omega
  rw [e, Finset.sum_image (fun a _ b _ h => Nat.add_left_cancel h)]

theorem emb_val {S : Shape} {off size : Fin S.rank → ℕ} {inb : ∀ q, off q + size q ≤ S.size q} {x : (Rect.unit off size inb).shape.Idx}
    {y : S.Idx} (hx : (Rect.unit off size inb).emb x = y) (q : Fin S.rank) : (y q).val = off q + (x q).val := by
  rw [← hx]
  exact Rect.idx_unit_val ..

section Step
variable (v19 v20 v21 : View sig .tc .vmem S256x512 .f32)
  {x0 x1 : Vec Ideal S256x512 .f32} {x2 x3 : Vec Ideal S256x1024 .f32} {x4 : Vec Ideal S256x128 .f32} {x5 : Vec Ideal S256x1024 .f32}
  {x6 : Vec Ideal S4x4x256x128 .f32} {x7 : Vec Ideal S256x1024 .f32} {x8 : Vec Ideal S128x512 .f32} {x9 : Vec Ideal S1x512 .f32}
  {x10 : Vec Ideal S1x256 .f32} {D0 : Fin 4 → Vec Ideal S1x256x128 .f32}
  {Q K V Z A O R W : ℕ → ℕ → ℝ} {B G : ℕ → ℝ} {b : ℕ} (hb : b < 16)
  (h0 : ∀ j, x0 j = ((Q (256 * b + j 0) (j 1) : ℝ) : EReal)) (h1 : ∀ j, x1 j = ((K (256 * b + j 0) (j 1) : ℝ) : EReal))
  (h2 : ∀ j, x2 j = ((V (256 * b + j 0) (j 1) : ℝ) : EReal)) (h3 : ∀ j, x3 j = ((Z (256 * b + j 0) (j 1) : ℝ) : EReal))
  (h4 : ∀ j, x4 j = ((R (256 * b + j 0) (j 1) : ℝ) : EReal)) (h5 : ∀ j, x5 j = ((O (256 * b + j 0) (j 1) : ℝ) : EReal))
  (h6 : ∀ j, x6 j = ((sth K V R W B (4 * b + j 0) (j 1) (j 2) (j 3) : ℝ) : EReal))
  (h7 : ∀ j, x7 j = ((A (256 * b + j 0) (j 1) : ℝ) : EReal))
  (h8 : ∀ j, x8 j = ((W (j 0) (j 1) : ℝ) : EReal)) (h9 : ∀ j, x9 j = ((B (j 1) : ℝ) : EReal)) (h10 : ∀ j, x10 j = ((G (j 1) : ℝ) : EReal))
  (hD : ∀ h x, D0 h x = ((dsh Q Z A O R W B G (4 * (b + 1)) h.val (x 1) (x 2) : ℝ) : EReal))

theorem ld_rL {x : Vec Ideal S256x512 .f32} {X : ℕ → ℕ → ℝ} {b : ℕ} (hx : ∀ j, x j = ((X (256 * b + j 0) (j 1) : ℝ) : EReal)) (c : Fin 4) (y : S64x512.Idx) :
    View.ld x (rL c) y = ((X (64 * (4 * b + c.val) + y 0) (y 1) : ℝ) : EReal) := by
  rw [View.ld_apply, hx]
  have e0 : ((rL c).idx y 0).val = 64 * c.val + (y 0).val := Rect.idx_unit_val ..
  have e1 : ((rL c).idx y 1).val = 0 + (y 1).val := Rect.idx_unit_val ..
  rw [e0, e1, Nat.zero_add, show 256 * b + (64 * c.val + (y 0).val) = 64 * (4 * b + c.val) + (y 0).val by ring]
theorem ld_rV {x : Vec Ideal S256x1024 .f32} {X : ℕ → ℕ → ℝ} {b : ℕ} (hx : ∀ j, x j = ((X (256 * b + j 0) (j 1) : ℝ) : EReal)) (c h : Fin 4) (y : S64x256.Idx) :
    View.ld x (rV c h) y = ((X (64 * (4 * b + c.val) + y 0) (256 * h.val + y 1) : ℝ) : EReal) := by
  rw [View.ld_apply, hx]
  have e0 : ((rV c h).idx y 0).val = 64 * c.val + (y 0).val := Rect.idx_unit_val ..
  have e1 : ((rV c h).idx y 1).val = 256 * h.val + (y 1).val := Rect.idx_unit_val ..
  rw [e0, e1, show 256 * b + (64 * c.val + (y 0).val) = 64 * (4 * b + c.val) + (y 0).val by ring]

theorem vb_pay (v : Vec Ideal S64x256 .f32) (y) : k0_pay56 (F := Ideal) v y = v y := by
  unfold k0_pay56
  pointwise
theorem s_pay (v : Vec Ideal S1x1x256x128 .f32) (y : S256x128.Idx) : k0_pay57 (F := Ideal) v y = v (ix4 0 0 (y 0) (y 1)) := by
  unfold k0_pay57
  pointwise
theorem d_pay (v : Vec Ideal S1x256x128 .f32) (y : S256x128.Idx) : k0_pay15 (F := Ideal) v y = v (ix3 0 (y 0) (y 1)) := by
  unfold k0_pay15
  pointwise

include h4 h8 h9 in
theorem pB_apply (c : Fin 4) (y : S64x512.Idx) : pB v19 x4 x8 x9 c y = ((bt (gl R W B) (4 * b + c.val) (y 0) (y 1) : ℝ) : EReal) := by
  have hy : (y 0).val < 64 := (y 0).isLt
  unfold pB
  rw [View.readCov_eq_canon']
  have e : View.canon [(⟨rAll, k0_pay12 (F := Ideal) x4 x8 x9⟩ : View.Piece (Elt Ideal) S256x512 .f32)] = k0_pay12 (F := Ideal) x4 x8 x9 :=
    View.canon_cons_unit_lit' _ _ _ (by intro a; match a with | 0 => rfl | 1 => rfl)
  rw [e]
  have e0 : ((rL c).idx y 0).val = 64 * c.val + (y 0).val := Rect.idx_unit_val ..
  have e1 : ((rL c).idx y 1).val = 0 + (y 1).val := Rect.idx_unit_val ..
  refine (la_pay (R := fun k => R (256 * b + k)) h4 h8 h9 _).trans ?_
  change (((∑ k ∈ range 256, if k / 64 = ((rL c).idx y 0).val / 64 ∧ k ≤ ((rL c).idx y 0).val then _ else 0 : ℝ)) : EReal) = _
  rw [e0, show (64 * c.val + (y 0).val) / 64 = c.val by omega, blk_le _ _ _ c.isLt hy]
  congr 1
  unfold bt
  refine Finset.sum_congr rfl fun u _ => ?_
  rw [show 64 * (4 * b + c.val) + u = 256 * b + (64 * c.val + u) by ring]
  change gl _ W B _ ((rL c).idx y 1).val = _
  rw [e1, Nat.zero_add]
  rfl

include h3 h5 h7 h10 in
theorem pDO_apply (c h : Fin 4) (y : S64x256.Idx) : pDO x3 x5 x7 x10 c h y
    = ((dh O Z A G h.val (64 * (4 * b + c.val) + y 0) (y 1) : ℝ) : EReal) :=
  do_pay _ _ _ _ (fun i e => O (64 * (4 * b + c.val) + i) (256 * h.val + e)) (fun i e => Z (64 * (4 * b + c.val) + i) (256 * h.val + e))
    (fun i e => A (64 * (4 * b + c.val) + i) (256 * h.val + e)) G (ld_rV h5 c h) (ld_rV h3 c h) (ld_rV h7 c h) h10 y
include h2 in
theorem pVb_apply (c h : Fin 4) (y : S64x256.Idx) : pVb x2 c h y = ((vh V h.val (64 * (4 * b + c.val) + y 0) (y 1) : ℝ) : EReal) := by
  unfold pVb
  rw [vb_pay]
  exact ld_rV h2 c h y
include h6 in
theorem pS_apply (c h : Fin 4) (y : S256x128.Idx) : pS x6 c h y
    = ((sth K V R W B (4 * b + c.val) h.val (y 0) (y 1) : ℝ) : EReal) := by
  unfold pS
  rw [s_pay, View.ld_apply, h6]
  have e0 : ((rS c h).idx (ix4 0 0 (y 0) (y 1)) 0).val = c.val + 0 := Rect.idx_unit_val ..
  have e1 : ((rS c h).idx (ix4 0 0 (y 0) (y 1)) 1).val = h.val + 0 := Rect.idx_unit_val ..
  have e2 : ((rS c h).idx (ix4 0 0 (y 0) (y 1)) 2).val = 0 + (y 0).val := Rect.idx_unit_val ..
  have e3 : ((rS c h).idx (ix4 0 0 (y 0) (y 1)) 3).val = 0 + (y 1).val := Rect.idx_unit_val ..
  rw [e0, e1, e2, e3, Nat.zero_add, Nat.zero_add]
  rfl

include h4 h8 h9 in
theorem hsB (f : Vec Ideal S64x512 .f32 → FVec Ideal S64x512 .f32) (φ : (ℕ → ℕ → ℝ) → ℕ → ℕ → ℕ → ℝ)
    (hf : ∀ {b : Vec Ideal S64x512 .f32} {g : ℕ → ℕ → ℝ} {n : ℕ}, (∀ x, b x = ((bt g n (x 0) (x 1) : ℝ) : EReal)) → ∀ x, f b x = ((φ g n (x 0) (x 1) : ℝ) : EReal))
    (c h : Fin 4) (y : S64x128.Idx) : hs h (f (pB v19 x4 x8 x9 c)) y = ((φ (gl R W B) (4 * b + c.val) (y 0) (128 * h.val + y 1) : ℝ) : EReal) := by
  rw [hs_apply, hf (pB_apply v19 h4 h8 h9 c)]
  rfl
include h0 h4 h8 h9 in
theorem pQm_apply (c h : Fin 4) (y : S64x128.Idx) : pQm v19 x0 x4 x8 x9 c h y
    = ((qh Q h.val (64 * (4 * b + c.val) + y 0) (y 1) * Real.exp (bt (gh R W B h.val) (4 * b + c.val) (y 0) (y 1) - bt (gh R W B h.val) (4 * b + c.val) 31 (y 1)) : ℝ) : EReal) := by
  unfold pQm
  rw [hs_apply, qm_pay (pB_apply v19 h4 h8 h9 c) (ld_rL h0 c)]
  rfl
include h1 h4 h8 h9 in
theorem pKm_apply (c h : Fin 4) (y : S64x128.Idx) : pKm v19 x1 x4 x8 x9 c h y
    = ((kh K h.val (64 * (4 * b + c.val) + y 0) (y 1) * Real.exp (bt (gh R W B h.val) (4 * b + c.val) 31 (y 1) - bt (gh R W B h.val) (4 * b + c.val) (y 0) (y 1)) : ℝ) : EReal) := by
  unfold pKm
  rw [hs_apply, km_pay (pB_apply v19 h4 h8 h9 c) (ld_rL h1 c)]
  rfl
include h0 h4 h8 h9 in
theorem pQe_apply (c h : Fin 4) (y : S64x128.Idx) : pQe v19 x0 x4 x8 x9 c h y
    = ((qh Q h.val (64 * (4 * b + c.val) + y 0) (y 1) * Real.exp (bt (gh R W B h.val) (4 * b + c.val) (y 0) (y 1)) : ℝ) : EReal) := by
  unfold pQe
  rw [hs_apply, qe_pay (pB_apply v19 h4 h8 h9 c) (ld_rL h0 c)]
  rfl
include h1 h4 h8 h9 in
theorem pKl_apply (c h : Fin 4) (y : S64x128.Idx) : pKl v19 x1 x4 x8 x9 c h y
    = ((kh K h.val (64 * (4 * b + c.val) + y 0) (y 1) * Real.exp (bt (gh R W B h.val) (4 * b + c.val) 63 (y 1) - bt (gh R W B h.val) (4 * b + c.val) (y 0) (y 1)) : ℝ) : EReal) := by
  unfold pKl
  rw [hs_apply, kl_pay (pB_apply v19 h4 h8 h9 c) (ld_rL h1 c)]
  rfl
include h1 h4 h8 h9 in
theorem pKlb_apply (c h : Fin 4) (y : S64x128.Idx) : pKlb v19 x1 x4 x8 x9 c h y
    = ((kh K h.val (64 * (4 * b + c.val) + y 0) (y 1) * Real.exp (bt (gh R W B h.val) (4 * b + c.val) 63 (y 1) - bt (gh R W B h.val) (4 * b + c.val) (y 0) (y 1)) : ℝ) : EReal) := by
  unfold pKlb
  rw [hs_apply, klb_pay (pB_apply v19 h4 h8 h9 c) (ld_rL h1 c)]
  rfl
include h0 in
theorem pQs_apply (c h : Fin 4) (y : S64x128.Idx) : hs h (k0_pay26 (F := Ideal) (View.ld x0 (rL c))) y = ((qh Q h.val (64 * (4 * b + c.val) + y 0) (y 1) : ℝ) : EReal) := by
  rw [hs_apply, qs_pay (ld_rL h0 c)]
  rfl
include h1 in
theorem pKs_apply (c h : Fin 4) (y : S64x128.Idx) : hs h (k0_pay27 (F := Ideal) (View.ld x1 (rL c))) y = ((kh K h.val (64 * (4 * b + c.val) + y 0) (y 1) : ℝ) : EReal) := by
  rw [hs_apply, k_pay (ld_rL h1 c)]
  rfl
include h4 h8 h9 in
theorem pEl_apply (c h : Fin 4) (y : S1x128.Idx) : hs1 h (k0_pay25 (F := Ideal) (pB v19 x4 x8 x9 c)) y = ((Real.exp (bt (gh R W B h.val) (4 * b + c.val) 63 (y 1)) : ℝ) : EReal) := by
  rw [hs1_apply, e_l (pB_apply v19 h4 h8 h9 c)]
  rfl

include hb h0 h3 h4 h5 h7 h8 h9 h10 hD in
/-- The gradient of the state before each of the block's chunks. -/
theorem pD_apply (h : Fin 4) (j : ℕ) (hj : j ≤ 4) (y : S256x128.Idx) : pD v19 x0 x3 x4 x5 x7 x8 x9 x10 D0 h j y
    = ((dsh Q Z A O R W B G (4 * b + (4 - j)) h.val (y 0) (y 1) : ℝ) : EReal) := by
  induction j generalizing y with
  | zero =>
    unfold pD
    rw [d_pay, hD]
    rfl
  | succ j ih =>
    unfold pD
    have hc : (Fin.ofNat 4 (3 - j)).val = 3 - j := Nat.mod_eq_of_lt (by omega)
    rw [uDS_pay (D := fun e c => dsh Q Z A O R W B G (4 * b + (4 - j)) h.val e c) (pDO_apply h3 h5 h7 h10 _ h) (pEl_apply v19 h4 h8 h9 _ h)
      (pQe_apply v19 h0 h4 h8 h9 _ h) (fun x => ih (by omega) x), hc]
    congr 1
    rw [show 4 * b + (4 - j) = (4 * b + (3 - j)) + 1 by omega, show 4 * b + (4 - (j + 1)) = 4 * b + (3 - j) by omega]
    exact uDS_eq _ _ _ _ (by omega) _ _
include hb h0 h3 h4 h5 h7 h8 h9 h10 hD in
theorem pDc_apply (c h : Fin 4) (y : S256x128.Idx) : pDc v19 x0 x3 x4 x5 x7 x8 x9 x10 D0 c h y
    = ((dsh Q Z A O R W B G (4 * b + c.val + 1) h.val (y 0) (y 1) : ℝ) : EReal) := by
  have := c.isLt
  unfold pDc
  rw [pD_apply v19 hb h0 h3 h4 h5 h7 h8 h9 h10 hD h (3 - c.val) (by omega) y, show 4 * b + (4 - (3 - c.val)) = 4 * b + c.val + 1 by omega]
include hb h0 h3 h4 h5 h7 h8 h9 h10 hD in
theorem pDb_apply (c h : Fin 4) (y : S256x128.Idx) : k0_pay58 (F := Ideal) (pDc v19 x0 x3 x4 x5 x7 x8 x9 x10 D0 c h) y
    = ((dsh Q Z A O R W B G (4 * b + c.val + 1) h.val (y 0) (y 1) : ℝ) : EReal) := by
  unfold k0_pay58
  pointwise
  exact pDc_apply v19 hb h0 h3 h4 h5 h7 h8 h9 h10 hD c h y

end Step

end Cert.GlaVal

end
-- ==== Proof.Gla.Step2.lean ====
module

public import proofs.«01_k».proof.Proof.Gla.Step
public import Idealize.ShloMosaic.Lib.Pipeline.ValueKit
public import Idealize.ShloMosaic.Lib.Pointwise

@[expose] public section

noncomputable section

/-! The stores of one step, place by place. -/

namespace Cert.GlaVal

open Cert.GlaIdeal Cert.GlaIdeal.Gen Idealize.ShloMosaic Idealize.ShloMosaic.TcCoe
open Finset

section Step
variable (v19 v20 v21 : View sig .tc .vmem S256x512 .f32)
  {x0 x1 : Vec Ideal S256x512 .f32} {x2 x3 : Vec Ideal S256x1024 .f32} {x4 : Vec Ideal S256x128 .f32} {x5 : Vec Ideal S256x1024 .f32}
  {x6 : Vec Ideal S4x4x256x128 .f32} {x7 : Vec Ideal S256x1024 .f32} {x8 : Vec Ideal S128x512 .f32} {x9 : Vec Ideal S1x512 .f32}
  {x10 : Vec Ideal S1x256 .f32} {D0 : Fin 4 → Vec Ideal S1x256x128 .f32}
  {Q K V Z A O R W : ℕ → ℕ → ℝ} {B G : ℕ → ℝ} {b : ℕ} (hb : b < 16)
  (h0 : ∀ j, x0 j = ((Q (256 * b + j 0) (j 1) : ℝ) : EReal)) (h1 : ∀ j, x1 j = ((K (256 * b + j 0) (j 1) : ℝ) : EReal))
  (h2 : ∀ j, x2 j = ((V (256 * b + j 0) (j 1) : ℝ) : EReal)) (h3 : ∀ j, x3 j = ((Z (256 * b + j 0) (j 1) : ℝ) : EReal))
  (h4 : ∀ j, x4 j = ((R (256 * b + j 0) (j 1) : ℝ) : EReal)) (h5 : ∀ j, x5 j = ((O (256 * b + j 0) (j 1) : ℝ) : EReal))
  (h6 : ∀ j, x6 j = ((sth K V R W B (4 * b + j 0) (j 1) (j 2) (j 3) : ℝ) : EReal))
  (h7 : ∀ j, x7 j = ((A (256 * b + j 0) (j 1) : ℝ) : EReal))
  (h8 : ∀ j, x8 j = ((W (j 0) (j 1) : ℝ) : EReal)) (h9 : ∀ j, x9 j = ((B (j 1) : ℝ) : EReal)) (h10 : ∀ j, x10 j = ((G (j 1) : ℝ) : EReal))
  (hD : ∀ h x, D0 h x = ((dsh Q Z A O R W B G (4 * (b + 1)) h.val (x 1) (x 2) : ℝ) : EReal))

include h3 h5 h7 h10 in
theorem pDZ_apply (c h : Fin 4) (y : S64x256.Idx) : pDZ x3 x5 x7 x10 c h y
    = ((o11 Q K V Z A O R W B G (64 * (4 * b + c.val) + y 0) (2048 + 256 * h.val + y 1) : ℝ) : EReal) := by
  have hy : (y 1).val < 256 := (y 1).isLt
  unfold pDZ
  rw [dz_pay _ _ _ _ (fun i e => O (64 * (4 * b + c.val) + i) (256 * h.val + e)) (fun i e => Z (64 * (4 * b + c.val) + i) (256 * h.val + e))
    (fun i e => A (64 * (4 * b + c.val) + i) (256 * h.val + e)) G (ld_rV h5 c h) (ld_rV h3 c h) (ld_rV h7 c h) h10 y]
  unfold o11
  rw [if_neg (by omega), if_neg (by omega), if_neg (by omega), show 2048 + 256 * h.val + (y 1).val - 2048 = 256 * h.val + (y 1).val by omega,
    show (2048 + 256 * h.val + (y 1).val) % 256 = (y 1).val by omega, show (256 * h.val + (y 1).val) / 256 = h.val by omega]
include hb h0 h1 h2 h3 h4 h5 h6 h7 h8 h9 h10 in
theorem pDQ_apply (c h : Fin 4) (y : S64x128.Idx) : pDQ v19 x1 x2 x3 x4 x5 x6 x7 x8 x9 x10 c h y
    = ((o11 Q K V Z A O R W B G (64 * (4 * b + c.val) + y 0) (128 * h.val + y 1) : ℝ) : EReal) := by
  have hy : (y 1).val < 128 := (y 1).isLt
  have := c.isLt
  have := h.isLt
  unfold pDQ
  rw [dq_pay (S := fun e c' => sth K V R W B (4 * b + c.val) h.val e c') (g := gh R W B h.val) (pDO_apply h3 h5 h7 h10 c h) (pVb_apply h2 c h)
    (hsB v19 h4 h8 h9 (k0_pay21 (F := Ideal)) (fun g n i c => Real.exp (bt g n i c)) e_b c h)
    (hsB v19 h4 h8 h9 (k0_pay22 (F := Ideal)) (fun g n i c => Real.exp (bt g n i c - bt g n 31 c)) e_qm c h)
    (pKm_apply v19 h1 h4 h8 h9 c h) (pS_apply h6 c h) y]
  unfold o11
  rw [if_pos (by omega), show (128 * h.val + (y 1).val) / 128 = h.val by omega, show (128 * h.val + (y 1).val) % 128 = (y 1).val by omega]
  rw [← uDQ_eq _ _ _ _ _ (by omega) (y 0).val _ (y 0).isLt]
  rfl
include hb h0 h1 h2 h3 h4 h5 h7 h8 h9 h10 hD in
theorem pDK_apply (c h : Fin 4) (y : S64x128.Idx) : pDK v19 x0 x2 x3 x4 x5 x7 x8 x9 x10 D0 c h y
    = ((o11 Q K V Z A O R W B G (64 * (4 * b + c.val) + y 0) (512 + 128 * h.val + y 1) : ℝ) : EReal) := by
  have hy : (y 1).val < 128 := (y 1).isLt
  have := c.isLt
  have := h.isLt
  unfold pDK
  rw [dk_pay (D := fun e c' => dsh Q Z A O R W B G (4 * b + c.val + 1) h.val e c') (g := gh R W B h.val) (pDO_apply h3 h5 h7 h10 c h) (pVb_apply h2 c h)
    (hsB v19 h4 h8 h9 (k0_pay23 (F := Ideal)) (fun g n i c => Real.exp (bt g n 31 c - bt g n i c)) e_km c h)
    (hsB v19 h4 h8 h9 (k0_pay24 (F := Ideal)) (fun g n i c => Real.exp (bt g n 63 c - bt g n i c)) e_lb c h)
    (pQm_apply v19 h0 h4 h8 h9 c h) (pDb_apply v19 hb h0 h3 h4 h5 h7 h8 h9 h10 hD c h) y]
  unfold o11
  rw [if_neg (by omega), if_pos (by omega), show (512 + 128 * h.val + (y 1).val - 512) / 128 = h.val by omega,
    show (512 + 128 * h.val + (y 1).val) % 128 = (y 1).val by omega]
  rw [← uDK_eq _ _ _ _ _ (by omega) (y 0).val _ (y 0).isLt]
  rfl
include hb h0 h1 h2 h3 h4 h5 h7 h8 h9 h10 hD in
theorem pDV_apply (c h : Fin 4) (y : S64x256.Idx) : pDV v19 x0 x1 x3 x4 x5 x7 x8 x9 x10 D0 c h y
    = ((o11 Q K V Z A O R W B G (64 * (4 * b + c.val) + y 0) (1024 + 256 * h.val + y 1) : ℝ) : EReal) := by
  have hy : (y 1).val < 256 := (y 1).isLt
  have := c.isLt
  have := h.isLt
  unfold pDV
  rw [mDV_apply (D := fun e c' => dsh Q Z A O R W B G (4 * b + c.val + 1) h.val e c') (g := gh R W B h.val) (pDO_apply h3 h5 h7 h10 c h)
    (pQm_apply v19 h0 h4 h8 h9 c h) (pKm_apply v19 h1 h4 h8 h9 c h) (pKlb_apply v19 h1 h4 h8 h9 c h) (pDb_apply v19 hb h0 h3 h4 h5 h7 h8 h9 h10 hD c h) y]
  unfold o11
  rw [if_neg (by omega), if_neg (by omega), if_pos (by omega), show (1024 + 256 * h.val + (y 1).val - 1024) / 256 = h.val by omega,
    show (1024 + 256 * h.val + (y 1).val) % 256 = (y 1).val by omega]
  rw [← uDV_eq _ _ _ _ _ (by omega) (y 0).val _ (y 0).isLt]
  rfl
include hb h0 h1 h2 h3 h4 h5 h6 h7 h8 h9 h10 hD in
theorem pDC_apply (c h : Fin 4) (y : S64x128.Idx) : pDC v19 x0 x1 x2 x3 x4 x5 x6 x7 x8 x9 x10 D0 c h y
    = ((gDC (qh Q h.val) (kh K h.val) (vh V h.val) (dh O Z A G h.val) (gh R W B h.val) (64 * (4 * b + c.val) + y 0) (y 1) : ℝ) : EReal) := by
  have := c.isLt
  unfold pDC
  rw [dc_pay (D := fun e c' => dsh Q Z A O R W B G (4 * b + c.val + 1) h.val e c') (S := fun e c' => sth K V R W B (4 * b + c.val) h.val e c') (g := gh R W B h.val) (pDO_apply h3 h5 h7 h10 c h) (pVb_apply h2 c h)
    (hsB v19 h4 h8 h9 (k0_pay21 (F := Ideal)) (fun g n i c => Real.exp (bt g n i c)) e_b c h)
    (hsB v19 h4 h8 h9 (k0_pay22 (F := Ideal)) (fun g n i c => Real.exp (bt g n i c - bt g n 31 c)) e_qm c h)
    (hsB v19 h4 h8 h9 (k0_pay23 (F := Ideal)) (fun g n i c => Real.exp (bt g n 31 c - bt g n i c)) e_km c h)
    (hsB v19 h4 h8 h9 (k0_pay24 (F := Ideal)) (fun g n i c => Real.exp (bt g n 63 c - bt g n i c)) e_lb c h)
    (pQs_apply h0 c h) (pKs_apply h1 c h)
    (pQm_apply v19 h0 h4 h8 h9 c h) (pKm_apply v19 h1 h4 h8 h9 c h) (pDb_apply v19 hb h0 h3 h4 h5 h7 h8 h9 h10 hD c h) (pS_apply h6 c h) y]
  unfold gDC
  rw [← uDK_eq _ _ _ _ _ (by omega) (y 0).val _ (y 0).isLt, ← uDQ_eq _ _ _ _ _ (by omega) (y 0).val _ (y 0).isLt]
  rfl
include hb h0 h1 h2 h3 h4 h5 h6 h7 h8 h9 h10 hD in
theorem pTL_apply (c h : Fin 4) (y : S64x128.Idx) : pTL v19 x0 x1 x2 x3 x4 x5 x6 x7 x8 x9 x10 D0 c h y
    = ((uTL (kh K h.val) (vh V h.val) (gh R W B h.val) (4 * b + c.val) (stt (kh K h.val) (vh V h.val) (gh R W B h.val) (4 * b + c.val))
        (dst (qh Q h.val) (dh O Z A G h.val) (gh R W B h.val) (4 * b + c.val + 1)) (y 1) : ℝ) : EReal) := by
  unfold pTL
  rw [tl_pay (D := fun e c' => dsh Q Z A O R W B G (4 * b + c.val + 1) h.val e c') (S := fun e c' => sth K V R W B (4 * b + c.val) h.val e c') (g := gh R W B h.val)
    (k := kh K h.val) (pVb_apply h2 c h) (pEl_apply v19 h4 h8 h9 c h) (pKl_apply v19 h1 h4 h8 h9 c h)
    (pDc_apply v19 hb h0 h3 h4 h5 h7 h8 h9 h10 hD c h) (pDb_apply v19 hb h0 h3 h4 h5 h7 h8 h9 h10 hD c h) (pS_apply h6 c h) y]
  rfl

/-! ### Which store a place belongs to -/

theorem exists_u (c h : ℕ) (hc : c < 4) (hh : h < 4) : ∃ k : Fin 16, (uc k).val = c ∧ (uh k).val = h := by
  refine ⟨⟨4 * c + (3 - h), by omega⟩, ?_, ?_⟩
  · change (4 * c + (3 - h)) / 4 = c; omega
  · change 3 - (4 * c + (3 - h)) % 4 = h; omega

include hb h0 h1 h2 h3 h4 h5 h6 h7 h8 h9 h10 hD in
/-- The step's block of the gradient of the projection. -/
theorem l11_apply (y : S256x3072.Idx) : View.canon (l11 v19 x0 x1 x2 x3 x4 x5 x6 x7 x8 x9 x10 D0) y
    = ((o11 Q K V Z A O R W B G (256 * b + y 0) (y 1) : ℝ) : EReal) := by
  have hr : (y 0).val < 256 := (y 0).isLt
  have hd : (y 1).val < 3072 := (y 1).isLt
  apply View.canon_eq_of_allAt
  · by_cases ha : (y 1).val < 1024
    · obtain ⟨k, hk0, hk1⟩ := exists_u ((y 0).val / 64) ((y 1).val % 512 / 128) (by omega) (by omega)
      by_cases hq : (y 1).val < 512
      · refine ⟨_, List.mem_flatMap.mpr ⟨k, List.mem_finRange k, List.mem_cons_of_mem _ (List.mem_cons_of_mem _ List.mem_cons_self)⟩, ?_⟩
        show y ∈ (rQ 0 (uc k) (uh k)).set
        refine Rect.mem_set_unit.mpr fun q => ?_
        match q with
        | 0 => change 64 * (uc k).val ≤ (y 0).val ∧ (y 0).val < 64 * (uc k).val + 64; omega
        | 1 => change 512 * 0 + 128 * (uh k).val ≤ (y 1).val ∧ (y 1).val < 512 * 0 + 128 * (uh k).val + 128; omega
      · refine ⟨_, List.mem_flatMap.mpr ⟨k, List.mem_finRange k, List.mem_cons_of_mem _ List.mem_cons_self⟩, ?_⟩
        show y ∈ (rQ 1 (uc k) (uh k)).set
        refine Rect.mem_set_unit.mpr fun q => ?_
        match q with
        | 0 => change 64 * (uc k).val ≤ (y 0).val ∧ (y 0).val < 64 * (uc k).val + 64; omega
        | 1 => change 512 * 1 + 128 * (uh k).val ≤ (y 1).val ∧ (y 1).val < 512 * 1 + 128 * (uh k).val + 128; omega
    · obtain ⟨k, hk0, hk1⟩ := exists_u ((y 0).val / 64) ((y 1).val % 1024 / 256) (by omega) (by omega)
      by_cases hq : (y 1).val < 2048
      · refine ⟨_, List.mem_flatMap.mpr ⟨k, List.mem_finRange k, List.mem_cons_self⟩, ?_⟩
        show y ∈ (rZ 1 (uc k) (uh k)).set
        refine Rect.mem_set_unit.mpr fun q => ?_
        match q with
        | 0 => change 64 * (uc k).val ≤ (y 0).val ∧ (y 0).val < 64 * (uc k).val + 64; omega
        | 1 => change 1024 * 1 + 256 * (uh k).val ≤ (y 1).val ∧ (y 1).val < 1024 * 1 + 256 * (uh k).val + 256; omega
      · refine ⟨_, List.mem_flatMap.mpr ⟨k, List.mem_finRange k, List.mem_cons_of_mem _ (List.mem_cons_of_mem _ (List.mem_cons_of_mem _ List.mem_cons_self))⟩, ?_⟩
        show y ∈ (rZ 2 (uc k) (uh k)).set
        refine Rect.mem_set_unit.mpr fun q => ?_
        match q with
        | 0 => change 64 * (uc k).val ≤ (y 0).val ∧ (y 0).val < 64 * (uc k).val + 64; omega
        | 1 => change 1024 * 2 + 256 * (uh k).val ≤ (y 1).val ∧ (y 1).val < 1024 * 2 + 256 * (uh k).val + 256; omega
  · intro p hp
    obtain ⟨k, -, hp⟩ := List.mem_flatMap.mp hp
    rcases List.mem_cons.mp hp with rfl | hp
    · intro x hx
      replace hx : (rZ 1 (uc k) (uh k)).emb x = y := hx
      have e0 : (y 0).val = 64 * (uc k).val + (x 0).val := emb_val hx _
      have e1 : (y 1).val = 1024 * 1 + 256 * (uh k).val + (x 1).val := emb_val hx _
      refine (pDV_apply v19 hb h0 h1 h2 h3 h4 h5 h7 h8 h9 h10 hD (uc k) (uh k) x).trans ?_
      rw [e0, e1, show 256 * b + (64 * (uc k).val + (x 0).val) = 64 * (4 * b + (uc k).val) + (x 0).val by ring, Nat.mul_one]
    rcases List.mem_cons.mp hp with rfl | hp
    · intro x hx
      replace hx : (rQ 1 (uc k) (uh k)).emb x = y := hx
      have e0 : (y 0).val = 64 * (uc k).val + (x 0).val := emb_val hx _
      have e1 : (y 1).val = 512 * 1 + 128 * (uh k).val + (x 1).val := emb_val hx _
      refine (pDK_apply v19 hb h0 h1 h2 h3 h4 h5 h7 h8 h9 h10 hD (uc k) (uh k) x).trans ?_
      rw [e0, e1, show 256 * b + (64 * (uc k).val + (x 0).val) = 64 * (4 * b + (uc k).val) + (x 0).val by ring, Nat.mul_one]
    rcases List.mem_cons.mp hp with rfl | hp
    · intro x hx
      replace hx : (rQ 0 (uc k) (uh k)).emb x = y := hx
      have e0 : (y 0).val = 64 * (uc k).val + (x 0).val := emb_val hx _
      have e1 : (y 1).val = 512 * 0 + 128 * (uh k).val + (x 1).val := emb_val hx _
      refine (pDQ_apply v19 hb h0 h1 h2 h3 h4 h5 h6 h7 h8 h9 h10 (uc k) (uh k) x).trans ?_
      rw [e0, e1, show 256 * b + (64 * (uc k).val + (x 0).val) = 64 * (4 * b + (uc k).val) + (x 0).val by ring, Nat.mul_zero, Nat.zero_add]
    rcases List.mem_cons.mp hp with rfl | hp
    · intro x hx
      replace hx : (rZ 2 (uc k) (uh k)).emb x = y := hx
      have e0 : (y 0).val = 64 * (uc k).val + (x 0).val := emb_val hx _
      have e1 : (y 1).val = 1024 * 2 + 256 * (uh k).val + (x 1).val := emb_val hx _
      refine (pDZ_apply (Q := Q) (K := K) (V := V) (R := R) (W := W) (B := B) h3 h5 h7 h10 (uc k) (uh k) x).trans ?_
      rw [e0, e1, show 256 * b + (64 * (uc k).val + (x 0).val) = 64 * (4 * b + (uc k).val) + (x 0).val by ring]
    · exact absurd hp List.not_mem_nil

theorem idx_all (j : S256x512.Idx) : rAll.toLoadRect.idx j = j := by
  funext q
  apply Fin.ext
  refine (Rect.idx_unit_val ..).trans ?_
  match q with
  | 0 => exact Nat.zero_add _
  | 1 => exact Nat.zero_add _
/-- A whole block read back from its sixteen stores. -/
theorem units_apply (v : View sig .tc .vmem S256x512 .f32) (P : Fin 4 → Fin 4 → Vec Ideal S64x128 .f32) (F : ℕ → ℕ → ℕ → ℕ → ℝ)
    (hP : ∀ c h x, P c h x = ((F c.val h.val (x 0) (x 1) : ℝ) : EReal)) (j : S256x512.Idx) :
    v.readCov ((List.finRange 16).map fun k => (⟨rH (uc k) (uh k), P (uc k) (uh k)⟩ : View.Piece (Elt Ideal) S256x512 .f32)) rAll.toLoadRect j
      = ((F ((j 0).val / 64) ((j 1).val / 128) ((j 0).val % 64) ((j 1).val % 128) : ℝ) : EReal) := by
  have hr : (j 0).val < 256 := (j 0).isLt
  have hd : (j 1).val < 512 := (j 1).isLt
  rw [View.readCov_eq_canon']
  change View.canon _ (rAll.toLoadRect.idx j) = _
  rw [idx_all]
  apply View.canon_eq_of_allAt
  · obtain ⟨k, hk0, hk1⟩ := exists_u ((j 0).val / 64) ((j 1).val / 128) (by omega) (by omega)
    refine ⟨_, List.mem_map_of_mem (List.mem_finRange k), ?_⟩
    show j ∈ (rH (uc k) (uh k)).set
    refine Rect.mem_set_unit.mpr fun q => ?_
    match q with
    | 0 => change 64 * (uc k).val ≤ (j 0).val ∧ (j 0).val < 64 * (uc k).val + 64; omega
    | 1 => change 128 * (uh k).val ≤ (j 1).val ∧ (j 1).val < 128 * (uh k).val + 128; omega
  · intro p hp x hx
    obtain ⟨k, -, rfl⟩ := List.mem_map.mp hp
    replace hx : (rH (uc k) (uh k)).emb x = j := hx
    have e0 : (j 0).val = 64 * (uc k).val + (x 0).val := emb_val hx _
    have e1 : (j 1).val = 128 * (uh k).val + (x 1).val := emb_val hx _
    have hx0 : (x 0).val < 64 := (x 0).isLt
    have hx1 : (x 1).val < 128 := (x 1).isLt
    refine (hP _ _ x).trans ?_
    rw [show (j 0).val / 64 = (uc k).val by omega, show (j 0).val % 64 = (x 0).val by omega, show (j 1).val / 128 = (uh k).val by omega,
      show (j 1).val % 128 = (x 1).val by omega]

include hb h0 h1 h2 h3 h4 h5 h6 h7 h8 h9 h10 hD in
/-- The gradient of the decays' logarithms, before its sixteenth. -/
theorem dgl_apply (j : S256x512.Idx) : k0_pay693 (F := Ideal) (v20.readCov (l20 v19 x0 x1 x2 x3 x4 x5 x6 x7 x8 x9 x10 D0) rAll.toLoadRect)
    (v21.readCov (l21 v19 x0 x1 x2 x3 x4 x5 x6 x7 x8 x9 x10 D0) rAll.toLoadRect) j
      = ((dgl Q K V Z A O R W B G (256 * b + j 0) (j 1) : ℝ) : EReal) := by
  have hr : (j 0).val < 256 := (j 0).isLt
  have hd : (j 1).val < 512 := (j 1).isLt
  unfold l20 l21
  rw [dg_pay (A := fun r j => gDC (qh Q (j / 128)) (kh K (j / 128)) (vh V (j / 128)) (dh O Z A G (j / 128)) (gh R W B (j / 128)) (64 * (4 * b + r / 64) + r % 64) (j % 128))
    (C := fun r j => uTL (kh K (j / 128)) (vh V (j / 128)) (gh R W B (j / 128)) (4 * b + r / 64) (stt (kh K (j / 128)) (vh V (j / 128)) (gh R W B (j / 128)) (4 * b + r / 64))
        (dst (qh Q (j / 128)) (dh O Z A G (j / 128)) (gh R W B (j / 128)) (4 * b + r / 64 + 1)) (j % 128))
    (units_apply v20 (pDC v19 x0 x1 x2 x3 x4 x5 x6 x7 x8 x9 x10 D0) (fun c h i x => gDC (qh Q h) (kh K h) (vh V h) (dh O Z A G h) (gh R W B h) (64 * (4 * b + c) + i) x) (pDC_apply v19 hb h0 h1 h2 h3 h4 h5 h6 h7 h8 h9 h10 hD))
    (units_apply v21 (pTL v19 x0 x1 x2 x3 x4 x5 x6 x7 x8 x9 x10 D0) (fun c h _ x => uTL (kh K h) (vh V h) (gh R W B h) (4 * b + c) (stt (kh K h) (vh V h) (gh R W B h) (4 * b + c))
        (dst (qh Q h) (dh O Z A G h) (gh R W B h) (4 * b + c + 1)) x) (pTL_apply v19 hb h0 h1 h2 h3 h4 h5 h6 h7 h8 h9 h10 hD))]
  congr 1
  unfold dgl
  have e := blk_ge (fun k => gDC (qh Q ((j 1).val / 128)) (kh K ((j 1).val / 128)) (vh V ((j 1).val / 128)) (dh O Z A G ((j 1).val / 128))
    (gh R W B ((j 1).val / 128)) (64 * (4 * b + k / 64) + k % 64) ((j 1).val % 128)) ((j 0).val / 64) ((j 0).val % 64) (by omega)
  rw [show 64 * ((j 0).val / 64) + (j 0).val % 64 = (j 0).val by omega] at e
  rw [show 256 * b + (j 0).val = 64 * (4 * b + (j 0).val / 64) + (j 0).val % 64 by omega,
    ← gDG_eq _ _ _ _ _ _ (by omega) _ _ (Nat.mod_lt _ (by norm_num))]
  refine congrArg (· + _) (e.trans (Finset.sum_congr rfl fun u hu => ?_))
  have := Finset.mem_range.mp hu
  dsimp only
  rw [show 64 * (4 * b + (64 * ((j 0).val / 64) + u) / 64) + (64 * ((j 0).val / 64) + u) % 64 = 64 * (4 * b + (j 0).val / 64) + u by omega]
include hb h0 h1 h2 h3 h4 h5 h6 h7 h8 h9 h10 hD in
/-- The gradient of the gate's input. -/
theorem dlo_apply (j : S256x512.Idx) : k0_pay1 (F := Ideal) (pLg v19 v20 v21 x0 x1 x2 x3 x4 x5 x6 x7 x8 x9 x10 D0) (pNl x4 x8 x9) (k0_pay696 (F := Ideal)) j
      = ((dlo Q K V Z A O R W B G (256 * b + j 0) (j 1) : ℝ) : EReal) :=
  dlg_pay (P := fun t j => dgl Q K V Z A O R W B G (256 * b + t) j) (L := fun t j => LG R W B (256 * b + t) j)
    (dgl_apply v19 v20 v21 hb h0 h1 h2 h3 h4 h5 h6 h7 h8 h9 h10 hD) (lg_pay (R := fun t => R (256 * b + t)) h4 h8 h9) j
include hb h0 h1 h2 h3 h4 h5 h6 h7 h8 h9 h10 hD in
/-- The step's rows of the gradient of the low-rank input. -/
theorem p12_apply (j : S256x128.Idx) : p12 v19 v20 v21 x0 x1 x2 x3 x4 x5 x6 x7 x8 x9 x10 D0 j
    = ((∑ i ∈ range 512, dlo Q K V Z A O R W B G (256 * b + j 0) i * W (j 1) i : ℝ) : EReal) := by
  unfold p12 k0_pay4 k0_pay3
  pointwise
  rw [coe_sum_range]
  refine Finset.sum_congr rfl fun k _ => ?_
  rw [dlo_apply v19 v20 v21 hb h0 h1 h2 h3 h4 h5 h6 h7 h8 h9 h10 hD, h8, ← EReal.coe_mul]
  rfl
include hb h0 h1 h2 h3 h4 h5 h6 h7 h8 h9 h10 hD in
/-- What the step adds to the gradient of the gate's matrix. -/
theorem p13_apply (old : Vec Ideal S128x512 .f32) (j : S128x512.Idx) : p13 v19 v20 v21 x0 x1 x2 x3 x4 x5 x6 x7 x8 x9 x10 D0 old j
    = old j + ((∑ r ∈ range 256, R (256 * b + r) (j 0) * dlo Q K V Z A O R W B G (256 * b + r) (j 1) : ℝ) : EReal) := by
  unfold p13 k0_pay5 k0_pay3 k0_pay10
  pointwise
  refine congrArg (old j + ·) ?_
  rw [coe_sum_range]
  refine Finset.sum_congr rfl fun k _ => ?_
  rw [dlo_apply v19 v20 v21 hb h0 h1 h2 h3 h4 h5 h6 h7 h8 h9 h10 hD, h4, ← EReal.coe_mul]
  rfl
include hb h0 h1 h2 h3 h4 h5 h6 h7 h8 h9 h10 hD in
/-- What the step adds to the gradient of the gate's bias. -/
theorem p14_apply (old : Vec Ideal S1x512 .f32) (j : S1x512.Idx) : p14 v19 v20 v21 x0 x1 x2 x3 x4 x5 x6 x7 x8 x9 x10 D0 old j
    = old j + ((∑ r ∈ range 256, dlo Q K V Z A O R W B G (256 * b + r) (j 1) : ℝ) : EReal) := by
  unfold p14 k0_pay2
  pointwise
  refine congrArg (old j + ·) ?_
  rw [coe_sum_range]
  refine Finset.sum_congr rfl fun k _ => ?_
  rw [dlo_apply v19 v20 v21 hb h0 h1 h2 h3 h4 h5 h6 h7 h8 h9 h10 hD]
  rfl

/-- One row's and head's part of the gradient of the norm's scale. -/
def gg1 (Z A O : ℕ → ℕ → ℝ) (t h e : ℕ) : ℝ := A t (256 * h + e) * Mix.silu (Z t (256 * h + e)) * oh (fun e => O t (256 * h + e)) e
include h3 h5 h7 in
theorem pG_apply (u : ℕ) (hu : u ≤ 16) (j : S1x256.Idx) : pG x3 x5 x7 u j
    = ((∑ w ∈ range u, ∑ i ∈ range 64, gg1 Z A O (64 * (4 * b + (3 - w / 4)) + i) (w % 4) (j 1) : ℝ) : EReal) := by
  induction u with
  | zero =>
    unfold pG k0_pay14
    pointwise
    simp
  | succ u ih =>
    have hc : (Fin.ofNat 4 (3 - u / 4)).val = 3 - u / 4 := Nat.mod_eq_of_lt (by omega)
    have hh : (Fin.ofNat 4 u).val = u % 4 := rfl
    unfold pG
    rw [dgg_pay _ _ _ (fun i e => O (64 * (4 * b + (Fin.ofNat 4 (3 - u / 4)).val) + i) (256 * (Fin.ofNat 4 u).val + e))
      (fun i e => Z (64 * (4 * b + (Fin.ofNat 4 (3 - u / 4)).val) + i) (256 * (Fin.ofNat 4 u).val + e))
      (fun i e => A (64 * (4 * b + (Fin.ofNat 4 (3 - u / 4)).val) + i) (256 * (Fin.ofNat 4 u).val + e)) (ld_rV h5 _ _) (ld_rV h3 _ _) (ld_rV h7 _ _),
      ih (by omega), ← EReal.coe_add, hc, hh]
    conv_rhs => rw [Finset.sum_range_succ]
    rfl
theorem sum_units (f : ℕ → ℕ → ℝ) (b : ℕ) : (∑ w ∈ range 16, ∑ i ∈ range 64, f (64 * (4 * b + (3 - w / 4)) + i) (w % 4))
    = ∑ r ∈ range 256, ∑ h ∈ range 4, f (256 * b + r) h := by
  have e : ∀ g : ℕ → ℝ, (∑ r ∈ range 256, g r) = ∑ c ∈ range 4, ∑ i ∈ range 64, g (64 * c + i) := fun g => by
    rw [show 256 = 64 + 64 + 64 + 64 from rfl, Finset.sum_range_add, Finset.sum_range_add, Finset.sum_range_add]
    simp [Finset.sum_range_succ (n := 3), Finset.sum_range_succ (n := 2), Finset.sum_range_succ (n := 1)]
  rw [e]
  have e2 : ∀ c, (∑ i ∈ range 64, ∑ h ∈ range 4, f (256 * b + (64 * c + i)) h) = ∑ h ∈ range 4, ∑ i ∈ range 64, f (64 * (4 * b + c) + i) h := fun c => by
    rw [Finset.sum_comm]
    refine Finset.sum_congr rfl fun h _ => Finset.sum_congr rfl fun i _ => ?_
    rw [show 256 * b + (64 * c + i) = 64 * (4 * b + c) + i by ring]
  rw [Finset.sum_congr rfl fun c _ => e2 c]
  generalize hF : (fun c h => ∑ i ∈ range 64, f (64 * (4 * b + c) + i) h) = F
  have hF' : ∀ c h, (∑ i ∈ range 64, f (64 * (4 * b + c) + i) h) = F c h := fun c h => congrFun (congrFun hF c) h
  simp only [hF']
  rw [show 16 = 15 + 1 from rfl]
  simp only [Finset.sum_range_succ, Finset.sum_range_zero]
  norm_num
  ring
include h3 h5 h7 in
/-- What the step adds to the gradient of the norm's scale. -/
theorem p15_apply (old : Vec Ideal S1x256 .f32) (j : S1x256.Idx) : p15 x3 x5 x7 old j
    = old j + ((∑ r ∈ range 256, ∑ h ∈ range 4, gg1 Z A O (256 * b + r) h (j 1) : ℝ) : EReal) := by
  unfold p15 k0_pay692
  pointwise
  rw [pG_apply h3 h5 h7 16 (le_refl _), sum_units (fun t h => gg1 Z A O t h (j 1)) b]

/-! ### The gradient of the state -/

theorem mem_rD (y : S4x256x128.Idx) (h : Fin 4) : y ∈ (rD h).set ↔ (y 0).val = h.val := by
  have h1 : (y 1).val < 256 := (y 1).isLt
  have h2 : (y 2).val < 128 := (y 2).isLt
  refine Rect.mem_set_unit.trans ⟨fun hm => ?_, fun hm q => ?_⟩
  · have := hm 0; change h.val ≤ (y 0).val ∧ (y 0).val < h.val + 1 at this; omega
  · match q with
    | 0 => change h.val ≤ (y 0).val ∧ (y 0).val < h.val + 1; omega
    | 1 => change 0 ≤ (y 1).val ∧ (y 1).val < 0 + 256; omega
    | 2 => change 0 ≤ (y 2).val ∧ (y 2).val < 0 + 128; omega
theorem d_store (w : FVec Ideal S256x128 .f32) (x : S1x256x128.Idx) : k0_pay688 (F := Ideal) w x = w (ix2 (x 1) (x 2)) := by
  unfold k0_pay688
  pointwise
include hb h0 h3 h4 h5 h7 h8 h9 h10 hD in
/-- After the step: the gradient of the state before the block. -/
theorem lD_apply (L : List (View.Piece (Elt Ideal) S4x256x128 .f32)) (y : S4x256x128.Idx) :
    View.canon (lD v19 x0 x3 x4 x5 x7 x8 x9 x10 D0 ++ L) y = ((dsh Q Z A O R W B G (4 * b) (y 0) (y 1) (y 2) : ℝ) : EReal) := by
  have hy : (y 0).val < 4 := (y 0).isLt
  refine View.canon_append_of_pieces (fun y : S4x256x128.Idx => ((dsh Q Z A O R W B G (4 * b) (y 0) (y 1) (y 2) : ℝ) : EReal)) L _ (fun p hp x => ?_) y ?_
  · obtain ⟨h, -, rfl⟩ := List.mem_map.mp hp
    have e0 : (((rD h).emb x) 0).val = h.val + (x 0).val := Rect.idx_unit_val ..
    have e1 : (((rD h).emb x) 1).val = 0 + (x 1).val := Rect.idx_unit_val ..
    have e2 : (((rD h).emb x) 2).val = 0 + (x 2).val := Rect.idx_unit_val ..
    have hx : (x 0).val = 0 := by have := (x 0).isLt; change (x 0).val < 1 at this; omega
    dsimp only
    rw [e0, e1, e2, hx, Nat.add_zero, Nat.zero_add, Nat.zero_add]
    refine (d_store _ x).trans ?_
    rw [pD_apply v19 hb h0 h3 h4 h5 h7 h8 h9 h10 hD h 4 (le_refl _)]
    rfl
  · exact ⟨_, List.mem_map_of_mem (List.mem_reverse.mpr (List.mem_finRange ⟨(y 0).val, hy⟩)), (mem_rD y _).mpr rfl⟩

end Step

end Cert.GlaVal

end
-- ==== Proof.Gla.Acc.lean ====
module

public import proofs.«01_k».proof.Proof.Gla.Step2
public import Idealize.ShloMosaic.Lib.Pipeline.ValueKit
public import Idealize.ShloMosaic.Lib.Pointwise

@[expose] public section

noncomputable section

/-! The kernel's sixteen steps: the last block first, the state's gradient and the small gradients carried from step to step. -/

namespace Cert.GlaVal

open Cert.GlaIdeal Cert.GlaIdeal.Gen Idealize.ShloMosaic Idealize.ShloMosaic.TcCoe
open Finset

section Acc
variable (m : (ℓ : Loc nD τ sig) → Buf (Elt Ideal) ℓ) (c : Dev nD) (Q K V Z A O R W : ℕ → ℕ → ℝ) (B G : ℕ → ℝ)

/-- The block of rows of step `t`. -/
abbrev bk (t : Fin cfg0.N) : ℕ := 15 - t.val

/-- Every step's input blocks hold reals: rows of the arrays, the attention's states, the parameters. -/
structure Ins : Prop where
  h0 : ∀ (t : Fin cfg0.N) j, (iblk m c 0 t : Vec Ideal S256x512 .f32) j = ((Q (256 * bk t + j 0) (j 1) : ℝ) : EReal)
  h1 : ∀ (t : Fin cfg0.N) j, (iblk m c 1 t : Vec Ideal S256x512 .f32) j = ((K (256 * bk t + j 0) (j 1) : ℝ) : EReal)
  h2 : ∀ (t : Fin cfg0.N) j, (iblk m c 2 t : Vec Ideal S256x1024 .f32) j = ((V (256 * bk t + j 0) (j 1) : ℝ) : EReal)
  h3 : ∀ (t : Fin cfg0.N) j, (iblk m c 3 t : Vec Ideal S256x1024 .f32) j = ((Z (256 * bk t + j 0) (j 1) : ℝ) : EReal)
  h4 : ∀ (t : Fin cfg0.N) j, (iblk m c 4 t : Vec Ideal S256x128 .f32) j = ((R (256 * bk t + j 0) (j 1) : ℝ) : EReal)
  h5 : ∀ (t : Fin cfg0.N) j, (iblk m c 5 t : Vec Ideal S256x1024 .f32) j = ((O (256 * bk t + j 0) (j 1) : ℝ) : EReal)
  h6 : ∀ (t : Fin cfg0.N) j, (iblk m c 6 t : Vec Ideal S4x4x256x128 .f32) j = ((sth K V R W B (4 * bk t + j 0) (j 1) (j 2) (j 3) : ℝ) : EReal)
  h7 : ∀ (t : Fin cfg0.N) j, (iblk m c 7 t : Vec Ideal S256x1024 .f32) j = ((A (256 * bk t + j 0) (j 1) : ℝ) : EReal)
  h8 : ∀ (t : Fin cfg0.N) j, (iblk m c 8 t : Vec Ideal S128x512 .f32) j = ((W (j 0) (j 1) : ℝ) : EReal)
  h9 : ∀ (t : Fin cfg0.N) j, (iblk m c 9 t : Vec Ideal S1x512 .f32) j = ((B (j 1) : ℝ) : EReal)
  h10 : ∀ (t : Fin cfg0.N) j, (iblk m c 10 t : Vec Ideal S1x256 .f32) j = ((G (j 1) : ℝ) : EReal)

theorem bk_lt (t : Fin cfg0.N) : bk t < 16 := by change 15 - t.val < 16; omega

theorem zD_apply (v : View sig .tc .vmem S4x256x128 .f32) (h : Fin 4) (x : S1x256x128.Idx) : zD v h x = 0 := by
  unfold zD
  rw [View.readCov_eq_canon']
  have e : View.canon lZero = k0_pay6 (F := Ideal) :=
    View.canon_cons_unit_lit' _ _ _ (by intro a; match a with | 0 => rfl | 1 => rfl | 2 => rfl)
  rw [e]
  unfold k0_pay6
  pointwise
theorem zero7 (j) : k0_pay7 (F := Ideal) j = 0 := by unfold k0_pay7; pointwise
theorem zero8 (j) : k0_pay8 (F := Ideal) j = 0 := by unfold k0_pay8; pointwise
theorem zero9 (j) : k0_pay9 (F := Ideal) j = 0 := by unfold k0_pay9; pointwise

variable {m c Q K V Z A O R W B G} (H : Ins m c Q K V Z A O R W B G)

theorem hD_A (t : Fin cfg0.N) (h0 : t.val % 16 = 0) (h : Fin 4) (x : S1x256x128.Idx) :
    zD scM0_0.view h x = ((dsh Q Z A O R W B G (4 * (bk t + 1)) h.val (x 1) (x 2) : ℝ) : EReal) := by
  have ht : t.val < 16 := t.isLt
  rw [zD_apply, show 4 * (bk t + 1) = 64 by change 4 * (15 - t.val + 1) = 64; omega]
  unfold dsh
  rw [dst_last]
  rfl
/-- The state's gradient read from what the step before left. -/
theorem hD_ld (n h : ℕ) (hh : h < 4) (old : Vec Ideal S4x256x128 .f32) (ho : ∀ y, old y = ((dsh Q Z A O R W B G n (y 0) (y 1) (y 2) : ℝ) : EReal)) (x : S1x256x128.Idx) :
    View.ld old (rD ⟨h, hh⟩) x = ((dsh Q Z A O R W B G n h (x 1) (x 2) : ℝ) : EReal) := by
  rw [View.ld_apply, ho]
  have hx : (x 0).val = 0 := by have := (x 0).isLt; change (x 0).val < 1 at this; omega
  have e0 : ((rD ⟨h, hh⟩).idx x 0).val = h + (x 0).val := Rect.idx_unit_val ..
  have e1 : ((rD ⟨h, hh⟩).idx x 1).val = 0 + (x 1).val := Rect.idx_unit_val ..
  have e2 : ((rD ⟨h, hh⟩).idx x 2).val = 0 + (x 2).val := Rect.idx_unit_val ..
  rw [e0, e1, e2, hx, Nat.add_zero, Nat.zero_add, Nat.zero_add]

include H
/-- The state's gradient after step `n`. -/
theorem accS : ∀ (n : ℕ) (hn : n < cfg0.N) (y : S4x256x128.Idx), (outsAt0 m c n hn).2.2.2.2.2 y
    = ((dsh Q Z A O R W B G (4 * (15 - n)) (y 0) (y 1) (y 2) : ℝ) : EReal)
  | 0, hn, y => by
    rw [outsS_A m c ⟨0, hn⟩ (Nat.zero_mod 16)]
    exact lD_apply _ (bk_lt ⟨0, hn⟩) (H.h0 _) (H.h3 _) (H.h4 _) (H.h5 _) (H.h7 _) (H.h8 _) (H.h9 _) (H.h10 _) (hD_A ⟨0, hn⟩ (Nat.zero_mod 16)) _ y
  | n + 1, hn, y => by
    have hN : cfg0.N = 16 := rfl
    rw [outsS_B m c ⟨n + 1, hn⟩ (by change ¬(n + 1) % 16 = 0; omega), ← List.append_nil (lD _ _ _ _ _ _ _ _ _ _)]
    refine lD_apply _ (bk_lt ⟨n + 1, hn⟩) (H.h0 _) (H.h3 _) (H.h4 _) (H.h5 _) (H.h7 _) (H.h8 _) (H.h9 _) (H.h10 _) (fun h x => ?_) _ y
    rw [show 4 * (bk ⟨n + 1, hn⟩ + 1) = 4 * (15 - n) by change 4 * (15 - (n + 1) + 1) = 4 * (15 - n); omega]
    exact hD_ld _ h.val h.isLt _ (accS n (Nat.lt_of_succ_lt hn)) x
theorem hD_B (t : Fin cfg0.N) (h0 : ¬t.val % 16 = 0) (h : Fin 4) (x : S1x256x128.Idx) :
    View.ld (outsAt0 m c (t.val - 1) (Nat.lt_of_le_of_lt (Nat.sub_le _ _) t.isLt)).2.2.2.2.2 (rD h) x = ((dsh Q Z A O R W B G (4 * (bk t + 1)) h.val (x 1) (x 2) : ℝ) : EReal) := by
  have ht : t.val < 16 := t.isLt
  rw [show 4 * (bk t + 1) = 4 * (15 - (t.val - 1)) by change 4 * (15 - t.val + 1) = 4 * (15 - (t.val - 1)); omega]
  exact hD_ld _ h.val h.isLt _ (accS H _ _) x

/-- The step's block of the gradient of the projection, and of the low-rank input. -/
theorem out11_apply (t : Fin cfg0.N) (y : S256x3072.Idx) :
    (outsAt0 m c t.val t.isLt).1 y = ((o11 Q K V Z A O R W B G (256 * bk t + (y 0).val) (y 1) : ℝ) : EReal) := by
  by_cases h0 : t.val % 16 = 0
  · rw [outs11_A m c t h0]
    exact l11_apply _ (bk_lt t) (H.h0 t) (H.h1 t) (H.h2 t) (H.h3 t) (H.h4 t) (H.h5 t) (H.h6 t) (H.h7 t) (H.h8 t) (H.h9 t) (H.h10 t) (hD_A t h0) y
  · rw [outs11_B m c t h0]
    exact l11_apply _ (bk_lt t) (H.h0 t) (H.h1 t) (H.h2 t) (H.h3 t) (H.h4 t) (H.h5 t) (H.h6 t) (H.h7 t) (H.h8 t) (H.h9 t) (H.h10 t) (hD_B H t h0) y
theorem out12_apply (t : Fin cfg0.N) (y : S256x128.Idx) :
    (outsAt0 m c t.val t.isLt).2.1 y = ((∑ i ∈ range 512, dlo Q K V Z A O R W B G (256 * bk t + (y 0).val) i * W (y 1) i : ℝ) : EReal) := by
  by_cases h0 : t.val % 16 = 0
  · rw [outs12_A m c t h0]
    exact p12_apply _ _ _ (bk_lt t) (H.h0 t) (H.h1 t) (H.h2 t) (H.h3 t) (H.h4 t) (H.h5 t) (H.h6 t) (H.h7 t) (H.h8 t) (H.h9 t) (H.h10 t) (hD_A t h0) y
  · rw [outs12_B m c t h0]
    exact p12_apply _ _ _ (bk_lt t) (H.h0 t) (H.h1 t) (H.h2 t) (H.h3 t) (H.h4 t) (H.h5 t) (H.h6 t) (H.h7 t) (H.h8 t) (H.h9 t) (H.h10 t) (hD_B H t h0) y

omit H in
/-- One more block before the rows of a sum. -/
theorem more (f : ℕ → ℝ) (n : ℕ) (hn : n < 15) : (∑ r ∈ range (256 * (n + 1)), f (256 * (15 - n) + r)) + ∑ r ∈ range 256, f (256 * (15 - (n + 1)) + r)
    = ∑ r ∈ range (256 * (n + 1 + 1)), f (256 * (15 - (n + 1)) + r) := by
  rw [show 256 * (n + 1 + 1) = 256 + 256 * (n + 1) by ring, Finset.sum_range_add (n := 256), add_comm]
  refine congrArg (_ + ·) (Finset.sum_congr rfl fun r _ => ?_)
  rw [show 256 * (15 - n) + r = 256 * (15 - (n + 1)) + (256 + r) by omega]

theorem acc13 : ∀ (n : ℕ) (hn : n < cfg0.N) (j : S128x512.Idx), (outsAt0 m c n hn).2.2.1 j
    = ((∑ r ∈ range (256 * (n + 1)), (fun t => R t (j 0) * dlo Q K V Z A O R W B G t (j 1)) (256 * (15 - n) + r) : ℝ) : EReal)
  | 0, hn, j => by
    rw [outs13_A m c ⟨0, hn⟩ (Nat.zero_mod 16)]
    refine (p13_apply _ _ _ (bk_lt ⟨0, hn⟩) (H.h0 ⟨0, hn⟩) (H.h1 ⟨0, hn⟩) (H.h2 ⟨0, hn⟩) (H.h3 ⟨0, hn⟩) (H.h4 ⟨0, hn⟩) (H.h5 ⟨0, hn⟩) (H.h6 ⟨0, hn⟩) (H.h7 ⟨0, hn⟩) (H.h8 ⟨0, hn⟩) (H.h9 ⟨0, hn⟩) (H.h10 ⟨0, hn⟩) (hD_A ⟨0, hn⟩ (Nat.zero_mod 16)) _ j).trans ?_
    rw [zero7, zero_add]
  | n + 1, hn, j => by
    have hN : cfg0.N = 16 := rfl
    have h0 : ¬(⟨n + 1, hn⟩ : Fin cfg0.N).val % 16 = 0 := by change ¬(n + 1) % 16 = 0; omega
    rw [outs13_B m c ⟨n + 1, hn⟩ h0]
    refine (p13_apply _ _ _ (bk_lt ⟨n + 1, hn⟩) (H.h0 ⟨n + 1, hn⟩) (H.h1 ⟨n + 1, hn⟩) (H.h2 ⟨n + 1, hn⟩) (H.h3 ⟨n + 1, hn⟩) (H.h4 ⟨n + 1, hn⟩) (H.h5 ⟨n + 1, hn⟩) (H.h6 ⟨n + 1, hn⟩) (H.h7 ⟨n + 1, hn⟩) (H.h8 ⟨n + 1, hn⟩) (H.h9 ⟨n + 1, hn⟩) (H.h10 ⟨n + 1, hn⟩) (hD_B H ⟨n + 1, hn⟩ h0) _ j).trans ?_
    rw [← more (fun t => R t (j 0) * dlo Q K V Z A O R W B G t (j 1)) n (by omega), EReal.coe_add]
    exact congrArg (· + _) (acc13 n (Nat.lt_of_succ_lt hn) j)

theorem acc14 : ∀ (n : ℕ) (hn : n < cfg0.N) (j : S1x512.Idx), (outsAt0 m c n hn).2.2.2.1 j
    = ((∑ r ∈ range (256 * (n + 1)), (fun t => dlo Q K V Z A O R W B G t (j 1)) (256 * (15 - n) + r) : ℝ) : EReal)
  | 0, hn, j => by
    rw [outs14_A m c ⟨0, hn⟩ (Nat.zero_mod 16)]
    refine (p14_apply _ _ _ (bk_lt ⟨0, hn⟩) (H.h0 ⟨0, hn⟩) (H.h1 ⟨0, hn⟩) (H.h2 ⟨0, hn⟩) (H.h3 ⟨0, hn⟩) (H.h4 ⟨0, hn⟩) (H.h5 ⟨0, hn⟩) (H.h6 ⟨0, hn⟩) (H.h7 ⟨0, hn⟩) (H.h8 ⟨0, hn⟩) (H.h9 ⟨0, hn⟩) (H.h10 ⟨0, hn⟩) (hD_A ⟨0, hn⟩ (Nat.zero_mod 16)) _ j).trans ?_
    rw [zero8, zero_add]
  | n + 1, hn, j => by
    have hN : cfg0.N = 16 := rfl
    have h0 : ¬(⟨n + 1, hn⟩ : Fin cfg0.N).val % 16 = 0 := by change ¬(n + 1) % 16 = 0; omega
    rw [outs14_B m c ⟨n + 1, hn⟩ h0]
    refine (p14_apply _ _ _ (bk_lt ⟨n + 1, hn⟩) (H.h0 ⟨n + 1, hn⟩) (H.h1 ⟨n + 1, hn⟩) (H.h2 ⟨n + 1, hn⟩) (H.h3 ⟨n + 1, hn⟩) (H.h4 ⟨n + 1, hn⟩) (H.h5 ⟨n + 1, hn⟩) (H.h6 ⟨n + 1, hn⟩) (H.h7 ⟨n + 1, hn⟩) (H.h8 ⟨n + 1, hn⟩) (H.h9 ⟨n + 1, hn⟩) (H.h10 ⟨n + 1, hn⟩) (hD_B H ⟨n + 1, hn⟩ h0) _ j).trans ?_
    rw [← more (fun t => dlo Q K V Z A O R W B G t (j 1)) n (by omega), EReal.coe_add]
    exact congrArg (· + _) (acc14 n (Nat.lt_of_succ_lt hn) j)

theorem acc15 : ∀ (n : ℕ) (hn : n < cfg0.N) (j : S1x256.Idx), (outsAt0 m c n hn).2.2.2.2.1 j
    = ((∑ r ∈ range (256 * (n + 1)), (fun t => ∑ h ∈ range 4, gg1 Z A O t h (j 1)) (256 * (15 - n) + r) : ℝ) : EReal)
  | 0, hn, j => by
    rw [outs15_A m c ⟨0, hn⟩ (Nat.zero_mod 16)]
    refine (p15_apply (H.h3 ⟨0, hn⟩) (H.h5 ⟨0, hn⟩) (H.h7 ⟨0, hn⟩) _ j).trans ?_
    rw [zero9, zero_add]
  | n + 1, hn, j => by
    have hN : cfg0.N = 16 := rfl
    have h0 : ¬(⟨n + 1, hn⟩ : Fin cfg0.N).val % 16 = 0 := by change ¬(n + 1) % 16 = 0; omega
    rw [outs15_B m c ⟨n + 1, hn⟩ h0]
    refine (p15_apply (H.h3 ⟨n + 1, hn⟩) (H.h5 ⟨n + 1, hn⟩) (H.h7 ⟨n + 1, hn⟩) _ j).trans ?_
    rw [← more (fun t => ∑ h ∈ range 4, gg1 Z A O t h (j 1)) n (by omega), EReal.coe_add]
    exact congrArg (· + _) (acc15 n (Nat.lt_of_succ_lt hn) j)

end Acc

end Cert.GlaVal

end
-- ==== Proof.Gla.Ref.lean ====
module

public import proofs.«01_k».proof.Proof.Gla.Step2
public import proofs.«01_k».proof.Proof.Gen.GlaRefIdeal.Read
public import proofs.«01_k».proof.Proof.Mixer.Ref
public import Idealize.ShloMosaic.Lib.WordCmp

@[expose] public section

noncomputable section

/-! The reference's values up to the attention's output, one operation at a time, at arguments that hold reals. -/

namespace Cert.GlaVal

open Cert.GlaRefIdeal Cert.GlaRefIdeal.Gen Cert.GlaRefIdeal.Read Idealize.ShloMosaic Idealize.ShloMosaic.TcCoe
open Finset

/-- The arguments hold reals: queries, keys, values, gates, the low-rank input, the decays' matrix and bias, the norm's
    scale, and the cotangent. The low-rank input and the matrix are zero past their sixteen columns and rows. -/
structure GA (x1 x2 : (⟨S1x4096x512, .f32⟩ : BufTy).Contents (Elt Ideal)) (x3 x4 x10 : (⟨S1x4096x1024, .f32⟩ : BufTy).Contents (Elt Ideal))
    (x6 : (⟨S1x4096x16, .f32⟩ : BufTy).Contents (Elt Ideal)) (x7 : (⟨S1x16x512, .f32⟩ : BufTy).Contents (Elt Ideal))
    (x8 : (⟨S1x512, .f32⟩ : BufTy).Contents (Elt Ideal)) (x9 : (⟨S1x256, .f32⟩ : BufTy).Contents (Elt Ideal))
    (Q K V Z A R W : ℕ → ℕ → ℝ) (B G : ℕ → ℝ) : Prop where
  r1 : ∀ j, x1 j = ((Q (j 1) (j 2) : ℝ) : EReal)
  r2 : ∀ j, x2 j = ((K (j 1) (j 2) : ℝ) : EReal)
  r3 : ∀ j, x3 j = ((V (j 1) (j 2) : ℝ) : EReal)
  r4 : ∀ j, x4 j = ((Z (j 1) (j 2) : ℝ) : EReal)
  r10 : ∀ j, x10 j = ((A (j 1) (j 2) : ℝ) : EReal)
  r6 : ∀ j, x6 j = ((R (j 1) (j 2) : ℝ) : EReal)
  r7 : ∀ j, x7 j = ((W (j 1) (j 2) : ℝ) : EReal)
  r8 : ∀ j, x8 j = ((B (j 1) : ℝ) : EReal)
  r9 : ∀ j, x9 j = ((G (j 1) : ℝ) : EReal)
  hR : ∀ t k, 16 ≤ k → R t k = 0
  hW : ∀ k j, 16 ≤ k → W k j = 0

/-- The attention's output, all heads' columns. -/
def OO (Q K V R W : ℕ → ℕ → ℝ) (B : ℕ → ℝ) (t d : ℕ) : ℝ :=
  out (qh Q (d / 256)) (kh K (d / 256)) (vh V (d / 256)) (gh R W B (d / 256)) t (d % 256)

theorem LG16 (R W : ℕ → ℕ → ℝ) (B : ℕ → ℝ) (hR : ∀ t k, 16 ≤ k → R t k = 0) (t j : ℕ) :
    LG R W B t j = (∑ k ∈ range 16, R t k * W k j) + B j := by
  unfold LG
  rw [show 128 = 16 + 112 from rfl, Finset.sum_range_add, Finset.sum_eq_zero (s := range 112) fun x _ => by rw [hR t _ (by omega), zero_mul], add_zero]

/-- Which positions come up to one: the comparison's bit. -/
theorem until_bit : ∀ s t : ℕ, s < 4096 → t < 4096 →
    IntOp.cmpi .slt (BitVec.ofNat 32 s) (IntOp.addi (BitVec.ofNat 32 t) 1#32) = BitVec.ofBool (decide (s ≤ t)) := by
  intro s t hs ht
  rw [WordCmp.addi_ofNat, WordCmp.cmpi_slt_ofNat (by norm_num; omega) (by norm_num; omega)]
  simp only [Nat.lt_succ_iff]
/-- A choice between reals. -/
theorem sel_coe (p : Prop) [Decidable p] (a b : ℝ) :
    Scalar.select (BitVec.ofBool (decide p)) (a : EReal) (b : EReal) = ((if p then a else b : ℝ) : EReal) := by
  rw [WordCmp.select_decide]
  split <;> rfl

/-- The places of a row of heads. -/
theorem heads128 (a b c : ℕ) (hb : b < 4) (hc : c < 128) (ha : a < 4096) :
    ((a * 4 + b) * 128 + c) / 512 % 4096 = a ∧ ((a * 4 + b) * 128 + c) % 512 = 128 * b + c := by omega
theorem heads256 (a b c : ℕ) (hb : b < 4) (hc : c < 256) (ha : a < 4096) :
    ((a * 4 + b) * 256 + c) / 1024 % 4096 = a ∧ ((a * 4 + b) * 256 + c) % 1024 = 256 * b + c := by omega
theorem word_16 : Ideal.ofBits .f32 0x41800000#32 = ((16 : ℝ) : EReal) := by
  simp [Ideal.ofBits, Ideal.ieee, -EReal.coe_mul]; norm_num

/-- The host's soft plus at a real. -/
theorem softplus (r : ℝ) : max (r : EReal) 0 + Ideal.log1p (Ideal.exp (-(max (r : EReal) (-(r : EReal)))))
    = ((max r 0 + Real.log (1 + Real.exp (-|r|)) : ℝ) : EReal) := by
  have e1 : max (r : EReal) (-(r : EReal)) = ((|r| : ℝ) : EReal) := by
    rw [← EReal.coe_neg]; exact (EReal.coe_strictMono.monotone.map_max).symm
  have e2 : max (r : EReal) 0 = ((max r 0 : ℝ) : EReal) := (EReal.coe_strictMono.monotone.map_max (a := r) (b := 0)).symm
  have hp : 0 < 1 + Real.exp (-|r|) := add_pos one_pos (Real.exp_pos _)
  rw [e1, e2, ← EReal.coe_neg, Ideal.exp_coe, Ideal.log1p, ← EReal.coe_one, ← EReal.coe_add, Ideal.log_coe, if_neg hp.not_ge, ← EReal.coe_add]
theorem ls_neg (x : ℝ) : ls x = -(max (-x) 0 + Real.log (1 + Real.exp (-|(-x)|))) := by
  unfold ls
  rw [abs_neg, neg_add, show -max (-x) 0 = min x 0 by rw [← neg_zero, max_neg_neg, neg_neg, neg_zero]]
  ring
theorem lgst_neg (x : ℝ) : Real.exp (-x - (max (-x) 0 + Real.log (1 + Real.exp (-|(-x)|)))) = Mix.lgst (-x) := by
  have hp : ∀ y : ℝ, 0 < 1 + Real.exp y := fun y => add_pos one_pos (Real.exp_pos _)
  rw [Mix.lgst_eq, neg_neg, abs_neg, ← sub_sub, Real.exp_sub, Real.exp_log (hp _), div_eq_mul_inv]
  rcases le_total 0 x with h | h
  · rw [abs_of_nonneg h, max_eq_right (by linarith), sub_zero, ← div_eq_mul_inv, ← one_div, div_eq_div_iff (hp _).ne' (hp _).ne', mul_add, ← Real.exp_add]
    norm_num; ring
  · rw [abs_of_nonpos h, max_eq_left (by linarith), sub_self, Real.exp_zero, one_mul, neg_neg]

theorem word_inf : Ideal.ofBits .f32 0x7F800000#32 = (⊤ : EReal) := by simp [Ideal.ofBits, Ideal.ieee]
theorem cmp_top (r : ℝ) : Ideal.cmp .oeq (r : EReal) ⊤ = 0#1 := by
  change BitVec.ofBool (decide ((r : EReal) = ⊤)) = 0#1
  rw [decide_eq_false (EReal.coe_ne_top r)]; rfl
theorem cmp_self (r : EReal) : Ideal.cmp .une r r = 0#1 := by
  change BitVec.ofBool (decide (r ≠ r)) = 0#1
  rw [decide_eq_false (fun h => h rfl)]; rfl
theorem sum_ite_const (p : Prop) [Decidable p] (n : ℕ) (f : ℕ → ℝ) : (∑ k ∈ range n, if p then f k else 0) = if p then ∑ k ∈ range n, f k else 0 := by
  split
  · rfl
  · exact Finset.sum_const_zero
theorem cum_where (g : ℕ → ℕ → ℝ) (t c : ℕ) (ht : t < 4096) : (∑ s ∈ range 4096, if s ≤ t then g s c else 0) = cum g t c := by
  unfold cum
  rw [← Finset.sum_filter]
  refine Finset.sum_congr ?_ fun _ _ => rfl
  ext s; rw [Finset.mem_filter, Finset.mem_range, Finset.mem_range]; omega

theorem OO_at (Q K V R W : ℕ → ℕ → ℝ) (B : ℕ → ℝ) (t h e : ℕ) (he : e < 256) :
    OO Q K V R W B t (256 * h + e) = out (qh Q h) (kh K h) (vh V h) (gh R W B h) t e := by
  unfold OO
  rw [show (256 * h + e) / 256 = h by omega, show (256 * h + e) % 256 = e by omega]

/-! ### The masks -/

theorem m24_at (i : S4096x4096x1x1.Idx) : val_main_v24 (F := Ideal) i = BitVec.ofBool (decide ((i 1).val ≤ (i 0).val)) := by
  simp only [val_main_v24_apply, val_main_v23_apply, val_main_v22_apply, val_main_v21_apply, val_main_v20_apply, val_main_v19_apply,
    val_main_v18_apply, val_main_v17_apply, val_main_v16_apply, val_main_v15_apply, val_main_c_apply]
  exact until_bit _ _ (i 1).isLt (i 0).isLt
theorem m34_at (i : S4096x4096x1x1.Idx) : val_main_v34 (F := Ideal) i = BitVec.ofBool (decide ((i 1).val ≤ (i 0).val)) := by
  simp only [val_main_v34_apply, val_main_v33_apply, val_main_v32_apply, val_main_v31_apply, val_main_v30_apply, val_main_v29_apply,
    val_main_v28_apply, val_main_v27_apply, val_main_v26_apply, val_main_v25_apply, val_main_c_1_apply]
  exact until_bit _ _ (i 1).isLt (i 0).isLt
theorem m36_at (i : S4096x4096x4x128.Idx) : val_main_v36_1 (F := Ideal) i = BitVec.ofBool (decide ((i 1).val ≤ (i 0).val)) := by
  rw [val_main_v36_1_apply, m34_at]
theorem m39_at (i : S4096x4096x4x128.Idx) : val_main_v39_1 (F := Ideal) i = BitVec.ofBool (decide ((i 1).val ≤ (i 0).val)) := by
  rw [val_main_v39_1_apply, m24_at]
theorem m46_at (i : S4096x4096x4x128.Idx) : val_main_v46_1 (F := Ideal) i = BitVec.ofBool (decide ((i 1).val ≤ (i 0).val)) := by
  rw [val_main_v46_1_apply, m24_at]
theorem m48_at (i : S4096x4096x4x128.Idx) : val_main_v48_1 (F := Ideal) i = BitVec.ofBool (decide ((i 1).val ≤ (i 0).val)) := by
  rw [val_main_v48_1_apply, m24_at]

section Values

variable {x1 x2 : (⟨S1x4096x512, .f32⟩ : BufTy).Contents (Elt Ideal)} {x3 x4 x10 : (⟨S1x4096x1024, .f32⟩ : BufTy).Contents (Elt Ideal)}
  {x6 : (⟨S1x4096x16, .f32⟩ : BufTy).Contents (Elt Ideal)} {x7 : (⟨S1x16x512, .f32⟩ : BufTy).Contents (Elt Ideal)}
  {x8 : (⟨S1x512, .f32⟩ : BufTy).Contents (Elt Ideal)} {x9 : (⟨S1x256, .f32⟩ : BufTy).Contents (Elt Ideal)}
  {Q K V Z A R W : ℕ → ℕ → ℝ} {B G : ℕ → ℝ}
  (H : GA x1 x2 x3 x4 x10 x6 x7 x8 x9 Q K V Z A R W B G)
include H

/-! ### The decays' logarithms -/

theorem v5_at (i : S1x4096x512.Idx) : val_main_v5 (F := Ideal) x6 x7 x8 i = ((LG R W B (i 1) (i 2) : ℝ) : EReal) := by
  have h2 : (i 2).val < 512 := (i 2).isLt
  rw [val_main_v5_apply, val_main_v1_apply, val_main_v4_apply, val_main_v3_apply, val_main_v2_apply, H.r8, LG16 R W B H.hR, EReal.coe_add,
    coe_sum_range, Ideal.addf_def]
  refine congrArg₂ (· + ·) (Finset.sum_congr rfl fun k _ => ?_) (congrArg (fun n => ((B n : ℝ) : EReal)) ?_)
  · rw [val_main_v0_apply, H.r6, H.r7, ← EReal.coe_mul]
    have hk := k.isLt
    refine congrArg Real.toEReal (congrArg₂ (· * ·) rfl (congrArg₂ W ?_ ?_))
    · change (k.val * 512 + (i 2).val) / 512 % 16 = k.val; omega
    · change (k.val * 512 + (i 2).val) % 512 = (i 2).val; omega
  · change (i 2).val % 512 = (i 2).val; omega
/-- The soft plus of the negated logits. -/
theorem sp_at (i : S1x4096x512.Idx) : val_main_call0_v1_0 (F := Ideal) x6 x7 x8 i
    = ((max (-LG R W B (i 1) (i 2)) 0 + Real.log (1 + Real.exp (-|(-LG R W B (i 1) (i 2))|)) : ℝ) : EReal) := by
  simp only [val_main_call0_v1_0_apply, val_main_call0_call0_v4_apply, val_main_call0_call0_v3_apply, val_main_call0_call0_v2_apply,
    val_main_call0_call0_v6_apply, val_main_call0_call0_v5_apply, val_main_call0_call0_v11_apply, val_main_call0_call0_v1_apply,
    val_main_call0_call0_v10_apply, val_main_call0_call0_v9_apply, val_main_call0_call0_v8_apply, val_main_call0_call0_v7_apply,
    val_main_call0_call0_v0_apply, val_main_call0_call0_cst_apply, val_main_call0_v0_apply, v5_at H, Ideal.ofBits_def, Ideal.ofBits_zero_f32,
    Ideal.hostNegf_def, Ideal.negf_def, ← EReal.coe_neg, Ideal.subf_def, sub_zero, Ideal.cmpf_def, Ideal.addf_def, Ideal.maximumf_def,
    Ideal.hostAbsf_def, Ideal.absf_def, Ideal.hostUnary_log1p_def, Ideal.hostUnary_exp_def]
  refine Eq.trans (if_neg ?_) (softplus _)
  rw [Cert.GlaVal.cmp_self]; decide
theorem v6_at (i : S1x4096x512.Idx) : val_main_v6_0 (F := Ideal) x6 x7 x8 i = ((ls (LG R W B (i 1) (i 2)) : ℝ) : EReal) := by
  rw [val_main_v6_0_apply, sp_at H, Ideal.hostNegf_def, Ideal.negf_def, ← EReal.coe_neg, ls_neg]
theorem v8_at (i : S1x4096x512.Idx) : val_main_v8 (F := Ideal) x6 x7 x8 i = ((gl R W B (i 1) (i 2) : ℝ) : EReal) := by
  rw [val_main_v8_apply, v6_at H, val_main_v7_apply, val_main_cst_apply, Ideal.ofBits_def, word_16, Ideal.hostDivf_def, Mix.div_real _ _ (by norm_num)]
  exact congrArg _ (by unfold gl; norm_num)
theorem v6_1_at (i : S1x4096x512.Idx) : val_main_v6_1 (F := Ideal) x6 x7 x8 i = ((Mix.lgst (-LG R W B (i 1) (i 2)) : ℝ) : EReal) := by
  rw [val_main_v6_1_apply, val_main_call0_call0_v21_apply, val_main_call0_call0_v16_apply, val_main_call0_call0_v14_apply,
    val_main_call0_call0_v20_apply, val_main_call0_call0_v18_apply, sp_at H, val_main_call0_v0_apply, v5_at H, Ideal.hostNegf_def, Ideal.negf_def,
    ← EReal.coe_neg, val_main_call0_call0_v13_apply, val_main_call0_call0_v17_apply, val_main_call0_call0_cst_0_apply,
    val_main_call0_call0_cst_2_apply, Ideal.ofBits_def, word_inf, Ideal.cmpf_def, cmp_top, Ideal.cmpf_def, cmp_top, WordCmp.select_zero,
    WordCmp.select_zero, Ideal.subf_def, ← EReal.coe_sub, Ideal.hostUnary_exp_def, Ideal.exp_coe, lgst_neg]

/-! ### The heads -/

theorem v11_at (i : S4096x4x128.Idx) : val_main_v11 (F := Ideal) x1 i = ((qh Q (i 1) (i 0) (i 2) : ℝ) : EReal) := by
  obtain ⟨e1, e2⟩ := heads128 (i 0).val (i 1).val (i 2).val (i 1).isLt (i 2).isLt (i 0).isLt
  rw [val_main_v11_apply, val_main_v9_apply, H.r1, val_main_v10_apply, val_main_cst_0_apply, Ideal.ofBits_def, word_qsc, Ideal.mulf_def, ← EReal.coe_mul]
  exact congrArg (fun r : ℝ => ((r * qsc : ℝ) : EReal)) (congrArg₂ Q e1 e2)
theorem v12_at (i : S4096x4x128.Idx) : val_main_v12 (F := Ideal) x2 i = ((kh K (i 1) (i 0) (i 2) : ℝ) : EReal) := by
  obtain ⟨e1, e2⟩ := heads128 (i 0).val (i 1).val (i 2).val (i 1).isLt (i 2).isLt (i 0).isLt
  rw [val_main_v12_apply, H.r2]
  exact congrArg Real.toEReal (congrArg₂ K e1 e2)
theorem v13_at (i : S4096x4x256.Idx) : val_main_v13 (F := Ideal) x3 i = ((vh V (i 1) (i 0) (i 2) : ℝ) : EReal) := by
  obtain ⟨e1, e2⟩ := heads256 (i 0).val (i 1).val (i 2).val (i 1).isLt (i 2).isLt (i 0).isLt
  rw [val_main_v13_apply, H.r3]
  exact congrArg Real.toEReal (congrArg₂ V e1 e2)
theorem v14_at (i : S4096x4x128.Idx) : val_main_v14 (F := Ideal) x6 x7 x8 i = ((gh R W B (i 1) (i 0) (i 2) : ℝ) : EReal) := by
  obtain ⟨e1, e2⟩ := heads128 (i 0).val (i 1).val (i 2).val (i 1).isLt (i 2).isLt (i 0).isLt
  rw [val_main_v14_apply, v8_at H]
  exact congrArg Real.toEReal (congrArg₂ (gl R W B) e1 e2)

/-! ### The summed logarithms and the decays -/

theorem v36_at (i : S4096x4096x4x128.Idx) : val_main_v36_0 (F := Ideal) x6 x7 x8 i
    = ((if (i 1).val ≤ (i 0).val then gh R W B (i 2) (i 1) (i 3) else 0 : ℝ) : EReal) := by
  rw [val_main_v36_0_apply, m36_at, val_main_call1_v2_apply, val_main_v35_apply, v14_at H, val_main_call1_v3_apply, val_main_call1_v0_apply,
    val_main_cst_2_apply, Ideal.ofBits_def, Ideal.ofBits_zero_f32]
  exact sel_coe _ _ 0
theorem v39_at (i : S4096x4096x4x128.Idx) : val_main_v39_0 (F := Ideal) x6 x7 x8 i
    = ((if (i 1).val ≤ (i 0).val then gh R W B (i 2) (i 1) (i 3) else 0 : ℝ) : EReal) := by
  rw [val_main_v39_0_apply, m39_at, val_main_call2_v2_apply, val_main_v38_apply, v14_at H, val_main_call2_v3_apply, val_main_call2_v0_apply,
    val_main_cst_4_apply, Ideal.ofBits_def, Ideal.ofBits_zero_f32]
  exact sel_coe _ _ 0
theorem v37_at (i : S4096x4x128.Idx) : val_main_v37 (F := Ideal) x6 x7 x8 i = ((cum (gh R W B (i 1)) (i 0) (i 2) : ℝ) : EReal) := by
  rw [val_main_v37_apply, val_main_cst_3_apply, Ideal.ofBits_def, Ideal.ofBits_zero_f32, zero_add, ← cum_where _ _ _ (i 0).isLt, coe_sum_range]
  exact Finset.sum_congr rfl fun k _ => (v36_at H _).trans rfl
theorem v40_at (i : S4096x4x128.Idx) : val_main_v40 (F := Ideal) x6 x7 x8 i = ((cum (gh R W B (i 1)) (i 0) (i 2) : ℝ) : EReal) := by
  rw [val_main_v40_apply, val_main_cst_5_apply, Ideal.ofBits_def, Ideal.ofBits_zero_f32, zero_add, ← cum_where _ _ _ (i 0).isLt, coe_sum_range]
  exact Finset.sum_congr rfl fun k _ => (v39_at H _).trans rfl
theorem v45_at (i : S4096x4096x4x128.Idx) : val_main_v45 (F := Ideal) x6 x7 x8 i
    = ((cum (gh R W B (i 2)) (i 0) (i 3) - cum (gh R W B (i 2)) (i 1) (i 3) : ℝ) : EReal) := by
  rw [val_main_v45_apply, val_main_v43_apply, val_main_v41_apply, v40_at H, val_main_v44_apply, val_main_v42_apply, v37_at H, Ideal.subf_def,
    ← EReal.coe_sub]
theorem v47_at (i : S4096x4096x4x128.Idx) : val_main_v47 (F := Ideal) x6 x7 x8 i
    = ((if (i 1).val ≤ (i 0).val then dec (gh R W B (i 2)) (i 0) (i 1) (i 3) else 1 : ℝ) : EReal) := by
  rw [val_main_v47_apply, val_main_v46_0_apply, m46_at, v45_at H, val_main_call3_v2_apply, val_main_call3_v0_apply,
    val_main_cst_6_apply, Ideal.ofBits_def, Ideal.ofBits_zero_f32, ← EReal.coe_zero, sel_coe, Ideal.hostUnary_exp_def, Ideal.exp_coe, apply_ite Real.exp,
    Real.exp_zero]
  rfl
theorem v48_at (i : S4096x4096x4x128.Idx) : val_main_v48_0 (F := Ideal) x6 x7 x8 i
    = ((if (i 1).val ≤ (i 0).val then dec (gh R W B (i 2)) (i 0) (i 1) (i 3) else 0 : ℝ) : EReal) := by
  rw [val_main_v48_0_apply, m48_at, v47_at H, val_main_call4_v2_apply, val_main_call4_v0_apply,
    val_main_cst_7_apply, Ideal.ofBits_def, Ideal.ofBits_zero_f32, ← EReal.coe_zero, sel_coe]
  split <;> rfl

/-! ### The scores and the output -/

theorem v52_at (i : S4096x4096x4x128.Idx) : val_main_v52 (F := Ideal) x2 x6 x7 x8 i
    = ((if (i 1).val ≤ (i 0).val then kh K (i 2) (i 1) (i 3) * dec (gh R W B (i 2)) (i 0) (i 1) (i 3) else 0 : ℝ) : EReal) := by
  rw [val_main_v52_apply, val_main_v51_apply, val_main_v50_apply, v12_at H, v48_at H, Ideal.mulf_def, ← EReal.coe_mul, mul_ite, mul_zero]
theorem v54_at (i : S4096x4096x4x128.Idx) : val_main_v54 (F := Ideal) x1 x2 x6 x7 x8 i
    = ((if (i 1).val ≤ (i 0).val then qh Q (i 2) (i 0) (i 3) * (kh K (i 2) (i 1) (i 3) * dec (gh R W B (i 2)) (i 0) (i 1) (i 3)) else 0 : ℝ) : EReal) := by
  rw [val_main_v54_apply, val_main_v53_apply, val_main_v49_apply, v11_at H, v52_at H, Ideal.mulf_def, ← EReal.coe_mul, mul_ite, mul_zero]
theorem v55_at (i : S4096x4096x4.Idx) : val_main_v55 (F := Ideal) x1 x2 x6 x7 x8 i
    = ((if (i 1).val ≤ (i 0).val then sc (qh Q (i 2)) (kh K (i 2)) (gh R W B (i 2)) (i 0) (i 1) else 0 : ℝ) : EReal) := by
  rw [val_main_v55_apply, val_main_cst_8_apply, Ideal.ofBits_def, Ideal.ofBits_zero_f32, zero_add]
  unfold sc
  rw [← sum_ite_const, coe_sum_range]
  exact Finset.sum_congr rfl fun k _ => (v54_at H _).trans rfl
theorem v60_at (i : S4096x4096x4x256.Idx) : val_main_v60 (F := Ideal) x1 x2 x3 x6 x7 x8 i
    = ((if (i 1).val ≤ (i 0).val then sc (qh Q (i 2)) (kh K (i 2)) (gh R W B (i 2)) (i 0) (i 1) * vh V (i 2) (i 1) (i 3) else 0 : ℝ) : EReal) := by
  rw [val_main_v60_apply, val_main_v58_apply, val_main_v56_apply, v55_at H, val_main_v59_apply, val_main_v57_apply, v13_at H, Ideal.mulf_def,
    ← EReal.coe_mul, ite_mul, zero_mul]
theorem v61_at' (i : S4096x4x256.Idx) : val_main_v61 (F := Ideal) x1 x2 x3 x6 x7 x8 i
    = ((out (qh Q (i 1)) (kh K (i 1)) (vh V (i 1)) (gh R W B (i 1)) (i 0) (i 2) : ℝ) : EReal) := by
  rw [val_main_v61_apply, val_main_cst_9_apply, Ideal.ofBits_def, Ideal.ofBits_zero_f32, zero_add]
  unfold out
  rw [coe_sum_range]
  exact Finset.sum_congr rfl fun k _ => (v60_at H _).trans rfl
theorem v61_at (i : S4096x4x256.Idx) : val_main_v61 (F := Ideal) x1 x2 x3 x6 x7 x8 i
    = ((OO Q K V R W B (i 0) (256 * (i 1) + (i 2)) : ℝ) : EReal) := by
  rw [v61_at' H, OO_at Q K V R W B _ _ _ (i 2).isLt]

end Values
end Cert.GlaVal
end
-- ==== Proof.Gla.Host.lean ====
module

public import proofs.«01_k».proof.Proof.Gla.Acc
public import proofs.«01_k».proof.Proof.Gla.Ref
public import Idealize.ShloMosaic.Lib.KernelVsHost

@[expose] public section

noncomputable section

/-! What the kernel's host lines compute ahead of the call: the attention's output and its states at the chunks' starts. -/

namespace Cert.GlaVal

open Cert.GlaIdeal Cert.GlaIdeal.Gen Idealize.ShloMosaic Idealize.ShloMosaic.TcCoe
open Cert.GlaRefIdeal.Read (val_main_v8 val_main_v12 val_main_v13 val_main_v14 val_main_v37 val_main_v61)
open Finset

/-! ### The states, one operation at a time -/

abbrev Dec := (⟨S64x4096x4x128, .f32⟩ : BufTy).Contents (Elt Ideal)

/-- The positions before each chunk. -/
def before : (⟨S64x4096x1x1, .i1⟩ : BufTy).Contents (Elt Ideal) :=
  broadcastInDim S64x4096x1x1 ![0, 1] bcast_S64x4096_S64x4096x1x1_0_1 (cmpi .slt
    (broadcastInDim S64x4096 ![0, 1] bcast_S1x4096_S64x4096_0_1 (broadcastInDim S1x4096 ![1] bcast_S4096_S1x4096_1 (iotaInDim S4096 32 0)))
    (broadcastInDim S64x4096 ![0, 1] bcast_S64x1_S64x4096_0_1 (broadcastInDim S64x1 ![0] bcast_S64_S64x1_0
      (muli (iotaInDim S64 32 0) (broadcastInDim S64 ![] bcast_S_S64 (constantI S_ 32 64#32))))))
/-- The positions before each chunk, for all heads' columns. -/
def beforeAll : (⟨S64x4096x4x128, .i1⟩ : BufTy).Contents (Elt Ideal) :=
  broadcastInDim S64x4096x4x128 ![0, 1, 2, 3] bcast_S64x4096x1x1_S64x4096x4x128_0_1_2_3 before
def zeros : Dec := broadcastInDim S64x4096x4x128 ![] bcast_S_S64x4096x4x128 (constant (F := Ideal) S_ .f32 0x00000000#32)
/-- Rows of heads, the same for each chunk. -/
def each (x : (⟨S4096x4x128, .f32⟩ : BufTy).Contents (Elt Ideal)) : Dec :=
  broadcastInDim S64x4096x4x128 ![0, 1, 2, 3] bcast_S1x4096x4x128_S64x4096x4x128_0_1_2_3
    (broadcastInDim S1x4096x4x128 ![1, 2, 3] bcast_S4096x4x128_S1x4096x4x128_1_2_3 x)
/-- The summed logarithms up to each chunk's start. -/
def starts (g : (⟨S4096x4x128, .f32⟩ : BufTy).Contents (Elt Ideal)) : (⟨S64x4x128, .f32⟩ : BufTy).Contents (Elt Ideal) :=
  Host.reduceAdd (select beforeAll (each g) zeros) (constant (F := Ideal) S_ .f32 0x00000000#32) reducesTo_S64x4096x4x128_S64x4x128_d1 h_S_
/-- The decays from each position to each later chunk's start. -/
def decays (g b : (⟨S4096x4x128, .f32⟩ : BufTy).Contents (Elt Ideal)) : Dec :=
  select beforeAll (Host.exp (F := Ideal) (s := S64x4096x4x128) (φ := .f32) (select beforeAll (subf (F := Ideal) (s := S64x4096x4x128) (φ := .f32)
    (broadcastInDim S64x4096x4x128 ![0, 1, 2, 3] bcast_S64x1x4x128_S64x4096x4x128_0_1_2_3
      (broadcastInDim S64x1x4x128 ![0, 2, 3] bcast_S64x4x128_S64x1x4x128_0_2_3 (starts g))) (each b)) zeros)) zeros
/-- The states at the chunks' starts. -/
def states (g b k : (⟨S4096x4x128, .f32⟩ : BufTy).Contents (Elt Ideal)) (v : (⟨S4096x4x256, .f32⟩ : BufTy).Contents (Elt Ideal)) :
    (⟨S64x4x256x128, .f32⟩ : BufTy).Contents (Elt Ideal) :=
  Host.reduceAdd (mulf
    (broadcastInDim S64x4096x4x256x128 ![0, 1, 2, 3, 4] bcast_S1x4096x4x256x1_S64x4096x4x256x128_0_1_2_3_4
      (broadcastInDim S1x4096x4x256x1 ![1, 2, 3] bcast_S4096x4x256_S1x4096x4x256x1_1_2_3 v))
    (broadcastInDim S64x4096x4x256x128 ![0, 1, 2, 3, 4] bcast_S64x4096x4x1x128_S64x4096x4x256x128_0_1_2_3_4
      (broadcastInDim S64x4096x4x1x128 ![0, 1, 2, 4] bcast_S64x4096x4x128_S64x4096x4x1x128_0_1_2_4 (mulf (each k) (decays g b)))))
    (constant (F := Ideal) S_ .f32 0x00000000#32) reducesTo_S64x4096x4x256x128_S64x4x256x128_d1 h_S_

theorem before_bit (s n : ℕ) (hs : s < 4096) (hn : n < 64) :
    IntOp.cmpi .slt (BitVec.ofNat 32 s) (IntOp.muli (BitVec.ofNat 32 n) 64#32) = BitVec.ofBool (decide (s < 64 * n)) := by
  rw [WordCmp.muli_ofNat, WordCmp.cmpi_slt_ofNat (by norm_num; omega) (by norm_num; omega), mul_comm]

theorem before_at (i : S64x4096x1x1.Idx) : before i = BitVec.ofBool (decide ((i 1).val < 64 * (i 0).val)) := by
  unfold before
  rw [broadcastInDim_apply _ bcast_S64x4096_S64x4096x1x1_0_1 _ i (fun a => match a with | ⟨0, _⟩ => i 0 | ⟨1, _⟩ => i 1 : S64x4096.Idx) (fun a => match a with
    | ⟨0, _⟩ => by change (i 0).val = if (64 : Nat) = 1 then 0 else (i 0).val; rw [if_neg (by decide)]
    | ⟨1, _⟩ => by change (i 1).val = if (4096 : Nat) = 1 then 0 else (i 1).val; rw [if_neg (by decide)])]
  refine Eq.trans ?_ (before_bit _ _ (i 1).isLt (i 0).isLt)
  refine congrArg₂ (IntOp.cmpi .slt) ?_ ?_
  · rw [broadcastInDim_apply _ bcast_S1x4096_S64x4096_0_1 _ _ (fun a => match a with | ⟨0, _⟩ => ⟨0, Nat.one_pos⟩ | ⟨1, _⟩ => i 1 : S1x4096.Idx) (fun a => match a with
      | ⟨0, _⟩ => by change 0 = if (1 : Nat) = 1 then 0 else (i 0).val; rw [if_pos rfl]
      | ⟨1, _⟩ => by change (i 1).val = if (4096 : Nat) = 1 then 0 else (i 1).val; rw [if_neg (by decide)])]
    rw [broadcastInDim_apply _ bcast_S4096_S1x4096_1 _ _ (fun a => match a with | ⟨0, _⟩ => i 1 : S4096.Idx) (fun a => match a with
      | ⟨0, _⟩ => by change (i 1).val = if (4096 : Nat) = 1 then 0 else (i 1).val; rw [if_neg (by decide)])]
    rfl
  · rw [broadcastInDim_apply _ bcast_S64x1_S64x4096_0_1 _ _ (fun a => match a with | ⟨0, _⟩ => i 0 | ⟨1, _⟩ => ⟨0, Nat.one_pos⟩ : S64x1.Idx) (fun a => match a with
      | ⟨0, _⟩ => by change (i 0).val = if (64 : Nat) = 1 then 0 else (i 0).val; rw [if_neg (by decide)]
      | ⟨1, _⟩ => by change 0 = if (1 : Nat) = 1 then 0 else (i 1).val; rw [if_pos rfl])]
    rw [broadcastInDim_apply _ bcast_S64_S64x1_0 _ _ (fun a => match a with | ⟨0, _⟩ => i 0 : S64.Idx) (fun a => match a with
      | ⟨0, _⟩ => by change (i 0).val = if (64 : Nat) = 1 then 0 else (i 0).val; rw [if_neg (by decide)])]
    refine congrArg₂ IntOp.muli rfl ?_
    rw [broadcastInDim_apply _ bcast_S_S64 _ _ (fun a => a.elim0) (fun a => a.elim0)]
    rfl
theorem beforeAll_at (i : S64x4096x4x128.Idx) : beforeAll i = BitVec.ofBool (decide ((i 1).val < 64 * (i 0).val)) := by
  unfold beforeAll
  rw [broadcastInDim_apply _ bcast_S64x4096x1x1_S64x4096x4x128_0_1_2_3 _ i (fun a => match a with
      | ⟨0, _⟩ => i 0 | ⟨1, _⟩ => i 1 | ⟨2, _⟩ => ⟨0, Nat.one_pos⟩ | ⟨3, _⟩ => ⟨0, Nat.one_pos⟩ : S64x4096x1x1.Idx) (fun a => match a with
    | ⟨0, _⟩ => by change (i 0).val = if (64 : Nat) = 1 then 0 else (i 0).val; rw [if_neg (by decide)]
    | ⟨1, _⟩ => by change (i 1).val = if (4096 : Nat) = 1 then 0 else (i 1).val; rw [if_neg (by decide)]
    | ⟨2, _⟩ => by change 0 = if (1 : Nat) = 1 then 0 else (i 2).val; rw [if_pos rfl]
    | ⟨3, _⟩ => by change 0 = if (1 : Nat) = 1 then 0 else (i 3).val; rw [if_pos rfl]), before_at]
theorem zeros_at (i : S64x4096x4x128.Idx) : zeros i = ((0 : ℝ) : EReal) := by
  unfold zeros
  rw [broadcastInDim_apply _ bcast_S_S64x4096x4x128 _ _ (fun a => a.elim0) (fun a => a.elim0)]
  exact Ideal.ofBits_zero_f32
theorem each_at (x : (⟨S4096x4x128, .f32⟩ : BufTy).Contents (Elt Ideal)) (i : S64x4096x4x128.Idx) :
    each x i = x (fun a => match a with | ⟨0, _⟩ => i 1 | ⟨1, _⟩ => i 2 | ⟨2, _⟩ => i 3) := by
  unfold each
  rw [broadcastInDim_apply _ bcast_S1x4096x4x128_S64x4096x4x128_0_1_2_3 _ i (fun a => match a with
      | ⟨0, _⟩ => ⟨0, Nat.one_pos⟩ | ⟨1, _⟩ => i 1 | ⟨2, _⟩ => i 2 | ⟨3, _⟩ => i 3 : S1x4096x4x128.Idx) (fun a => match a with
    | ⟨0, _⟩ => by change 0 = if (1 : Nat) = 1 then 0 else (i 0).val; rw [if_pos rfl]
    | ⟨1, _⟩ => by change (i 1).val = if (4096 : Nat) = 1 then 0 else (i 1).val; rw [if_neg (by decide)]
    | ⟨2, _⟩ => by change (i 2).val = if (4 : Nat) = 1 then 0 else (i 2).val; rw [if_neg (by decide)]
    | ⟨3, _⟩ => by change (i 3).val = if (128 : Nat) = 1 then 0 else (i 3).val; rw [if_neg (by decide)])]
  exact broadcastInDim_apply _ bcast_S4096x4x128_S1x4096x4x128_1_2_3 _ _ _ (fun a => match a with
    | ⟨0, _⟩ => by change (i 1).val = if (4096 : Nat) = 1 then 0 else (i 1).val; rw [if_neg (by decide)]
    | ⟨1, _⟩ => by change (i 2).val = if (4 : Nat) = 1 then 0 else (i 2).val; rw [if_neg (by decide)]
    | ⟨2, _⟩ => by change (i 3).val = if (128 : Nat) = 1 then 0 else (i 3).val; rw [if_neg (by decide)])

theorem congrSel {a a' : BitVec 1} {x x' y y' : EReal} (e : a = a') (f : x = x') (h : y = y') : Scalar.select a x y = Scalar.select a' x' y' := by
  rw [e, f, h]

/-- A sum up to a chunk's start, over all positions. -/
theorem cumE_where (g : ℕ → ℕ → ℝ) (n c : ℕ) (hn : n < 64) : (∑ s ∈ range 4096, if s < 64 * n then g s c else 0) = cumE g n c := by
  unfold cumE
  rw [← Finset.sum_filter]
  refine Finset.sum_congr ?_ fun _ _ => rfl
  ext s; rw [Finset.mem_filter, Finset.mem_range, Finset.mem_range]; omega

section States
variable {g b k : (⟨S4096x4x128, .f32⟩ : BufTy).Contents (Elt Ideal)} {v : (⟨S4096x4x256, .f32⟩ : BufTy).Contents (Elt Ideal)}
  {g' k' v' : ℕ → ℕ → ℕ → ℝ}
  (hg : ∀ j, g j = ((g' (j 1) (j 0) (j 2) : ℝ) : EReal)) (hb : ∀ j, b j = ((cum (g' (j 1)) (j 0) (j 2) : ℝ) : EReal))
  (hk : ∀ j, k j = ((k' (j 1) (j 0) (j 2) : ℝ) : EReal)) (hv : ∀ j, v j = ((v' (j 1) (j 0) (j 2) : ℝ) : EReal))

include hg in
theorem starts_at (i : S64x4x128.Idx) : starts g i = ((cumE (g' (i 1)) (i 0) (i 2) : ℝ) : EReal) := by
  unfold starts
  simp only [Host.reduceAdd, Ideal.hostReduceAdd_def]
  rw [Ideal.hostReduceAdd_single reducesTo_S64x4096x4x128_S64x4x128_d1 (by decide), show (constant (F := Ideal) S_ .f32 0x00000000#32) (Shape.Idx.first h_S_) = 0 from Ideal.ofBits_zero_f32,
    zero_add, ← cumE_where _ _ _ (i 0).isLt, coe_sum_range]
  refine Finset.sum_congr rfl fun s _ => ?_
  refine Eq.trans ?_ (sel_coe (s.val < 64 * (i 0).val) (g' (i 1) s (i 2)) 0)
  exact congrSel (beforeAll_at _) ((each_at g _).trans (hg _)) (zeros_at _)

include hg hb in
theorem decays_at (i : S64x4096x4x128.Idx) : decays g b i
    = ((if (i 1).val < 64 * (i 0).val then decS (g' (i 2)) (i 0) (i 1) (i 3) else 0 : ℝ) : EReal) := by
  have e : (broadcastInDim S64x4096x4x128 ![0, 1, 2, 3] bcast_S64x1x4x128_S64x4096x4x128_0_1_2_3
      (broadcastInDim S64x1x4x128 ![0, 2, 3] bcast_S64x4x128_S64x1x4x128_0_2_3 (starts g)) : Dec) i = ((cumE (g' (i 2)) (i 0) (i 3) : ℝ) : EReal) := by
    rw [broadcastInDim_apply _ bcast_S64x1x4x128_S64x4096x4x128_0_1_2_3 _ i (fun a => match a with
        | ⟨0, _⟩ => i 0 | ⟨1, _⟩ => ⟨0, Nat.one_pos⟩ | ⟨2, _⟩ => i 2 | ⟨3, _⟩ => i 3 : S64x1x4x128.Idx) (fun a => match a with
      | ⟨0, _⟩ => by change (i 0).val = if (64 : Nat) = 1 then 0 else (i 0).val; rw [if_neg (by decide)]
      | ⟨1, _⟩ => by change 0 = if (1 : Nat) = 1 then 0 else (i 1).val; rw [if_pos rfl]
      | ⟨2, _⟩ => by change (i 2).val = if (4 : Nat) = 1 then 0 else (i 2).val; rw [if_neg (by decide)]
      | ⟨3, _⟩ => by change (i 3).val = if (128 : Nat) = 1 then 0 else (i 3).val; rw [if_neg (by decide)])]
    rw [broadcastInDim_apply _ bcast_S64x4x128_S64x1x4x128_0_2_3 _ _ (fun a => match a with
        | ⟨0, _⟩ => i 0 | ⟨1, _⟩ => i 2 | ⟨2, _⟩ => i 3 : S64x4x128.Idx) (fun a => match a with
      | ⟨0, _⟩ => by change (i 0).val = if (64 : Nat) = 1 then 0 else (i 0).val; rw [if_neg (by decide)]
      | ⟨1, _⟩ => by change (i 2).val = if (4 : Nat) = 1 then 0 else (i 2).val; rw [if_neg (by decide)]
      | ⟨2, _⟩ => by change (i 3).val = if (128 : Nat) = 1 then 0 else (i 3).val; rw [if_neg (by decide)])]
    exact starts_at hg _
  have f : each b i = ((cum (g' (i 2)) (i 1) (i 3) : ℝ) : EReal) := (each_at b i).trans (hb _)
  unfold decays
  change Scalar.select (beforeAll i) (Ideal.exp (Scalar.select (beforeAll i) (_ - each b i) (zeros i))) (zeros i) = _
  rw [e, f, beforeAll_at, zeros_at, ← EReal.coe_sub, sel_coe, Ideal.exp_coe, sel_coe]
  unfold decS
  split <;> rfl

include hg hb hk hv in
theorem states_at (i : S64x4x256x128.Idx) : states g b k v i
    = ((stt (k' (i 1)) (v' (i 1)) (g' (i 1)) (i 0) (i 2) (i 3) : ℝ) : EReal) := by
  unfold states
  simp only [Host.reduceAdd, Ideal.hostReduceAdd_def]
  rw [Ideal.hostReduceAdd_single reducesTo_S64x4096x4x256x128_S64x4x256x128_d1 (by decide), show (constant (F := Ideal) S_ .f32 0x00000000#32) (Shape.Idx.first h_S_) = 0 from Ideal.ofBits_zero_f32,
    zero_add]
  unfold stt
  rw [coe_sum_range]
  refine Finset.sum_congr rfl fun s _ => ?_
  have e : ∀ p : Prop, ∀ _ : Decidable p, ∀ a b c : ℝ, (if p then a * (b * c) else 0) = a * (b * if p then c else 0) := by
    intro p _ a b c; split <;> simp
  rw [e, EReal.coe_mul, EReal.coe_mul]
  refine congrArg₂ (· * ·) ?_ ?_
  · rw [broadcastInDim_apply _ bcast_S1x4096x4x256x1_S64x4096x4x256x128_0_1_2_3_4 _ _ (fun a => match a with
        | ⟨0, _⟩ => ⟨0, Nat.one_pos⟩ | ⟨1, _⟩ => s | ⟨2, _⟩ => i 1 | ⟨3, _⟩ => i 2 | ⟨4, _⟩ => ⟨0, Nat.one_pos⟩ : S1x4096x4x256x1.Idx) (fun a => match a with
      | ⟨0, _⟩ => by change 0 = if (1 : Nat) = 1 then 0 else (i 0).val; rw [if_pos rfl]
      | ⟨1, _⟩ => by change s.val = if (4096 : Nat) = 1 then 0 else s.val; rw [if_neg (by decide)]
      | ⟨2, _⟩ => by change (i 1).val = if (4 : Nat) = 1 then 0 else (i 1).val; rw [if_neg (by decide)]
      | ⟨3, _⟩ => by change (i 2).val = if (256 : Nat) = 1 then 0 else (i 2).val; rw [if_neg (by decide)]
      | ⟨4, _⟩ => by change 0 = if (1 : Nat) = 1 then 0 else (i 3).val; rw [if_pos rfl])]
    rw [broadcastInDim_apply _ bcast_S4096x4x256_S1x4096x4x256x1_1_2_3 _ _ (fun a => match a with
        | ⟨0, _⟩ => s | ⟨1, _⟩ => i 1 | ⟨2, _⟩ => i 2 : S4096x4x256.Idx) (fun a => match a with
      | ⟨0, _⟩ => by change s.val = if (4096 : Nat) = 1 then 0 else s.val; rw [if_neg (by decide)]
      | ⟨1, _⟩ => by change (i 1).val = if (4 : Nat) = 1 then 0 else (i 1).val; rw [if_neg (by decide)]
      | ⟨2, _⟩ => by change (i 2).val = if (256 : Nat) = 1 then 0 else (i 2).val; rw [if_neg (by decide)])]
    exact hv _
  · rw [broadcastInDim_apply _ bcast_S64x4096x4x1x128_S64x4096x4x256x128_0_1_2_3_4 _ _ (fun a => match a with
        | ⟨0, _⟩ => i 0 | ⟨1, _⟩ => s | ⟨2, _⟩ => i 1 | ⟨3, _⟩ => ⟨0, Nat.one_pos⟩ | ⟨4, _⟩ => i 3 : S64x4096x4x1x128.Idx) (fun a => match a with
      | ⟨0, _⟩ => by change (i 0).val = if (64 : Nat) = 1 then 0 else (i 0).val; rw [if_neg (by decide)]
      | ⟨1, _⟩ => by change s.val = if (4096 : Nat) = 1 then 0 else s.val; rw [if_neg (by decide)]
      | ⟨2, _⟩ => by change (i 1).val = if (4 : Nat) = 1 then 0 else (i 1).val; rw [if_neg (by decide)]
      | ⟨3, _⟩ => by change 0 = if (1 : Nat) = 1 then 0 else (i 2).val; rw [if_pos rfl]
      | ⟨4, _⟩ => by change (i 3).val = if (128 : Nat) = 1 then 0 else (i 3).val; rw [if_neg (by decide)])]
    rw [broadcastInDim_apply _ bcast_S64x4096x4x128_S64x4096x4x1x128_0_1_2_4 _ _ (fun a => match a with
        | ⟨0, _⟩ => i 0 | ⟨1, _⟩ => s | ⟨2, _⟩ => i 1 | ⟨3, _⟩ => i 3 : S64x4096x4x128.Idx) (fun a => match a with
      | ⟨0, _⟩ => by change (i 0).val = if (64 : Nat) = 1 then 0 else (i 0).val; rw [if_neg (by decide)]
      | ⟨1, _⟩ => by change s.val = if (4096 : Nat) = 1 then 0 else s.val; rw [if_neg (by decide)]
      | ⟨2, _⟩ => by change (i 1).val = if (4 : Nat) = 1 then 0 else (i 1).val; rw [if_neg (by decide)]
      | ⟨3, _⟩ => by change (i 3).val = if (128 : Nat) = 1 then 0 else (i 3).val; rw [if_neg (by decide)])]
    exact congrArg₂ (· * ·) ((each_at k _).trans (hk _)) (decays_at hg hb _)

end States

end Cert.GlaVal
end
-- ==== Proof.Gla.Entry.lean ====
module

public import proofs.«01_k».proof.Proof.Gla.Host
public import Idealize.ShloMosaic.Lib.Pipeline.ValueKit
public import Idealize.ShloMosaic.Lib.Pointwise

@[expose] public section

noncomputable section

/-! The arrays as the kernel's host lines leave them for the call. -/

namespace Cert.GlaVal

open Cert.GlaIdeal Cert.GlaIdeal.Gen Idealize.ShloMosaic Idealize.ShloMosaic.TcCoe
open Cert.GlaRefIdeal.Read (val_main_v8 val_main_v12 val_main_v13 val_main_v14 val_main_v37 val_main_v61)
open Finset

section Entry
variable (m : (ℓ : Loc nD τ sig) → Buf (Elt Ideal) ℓ) (c : Dev nD)

/-- The attention's output, all heads' columns joined. -/
theorem V_v62 : (V m c main_v62 : Vec Ideal S4096x1024 .f32) = shapeCast _ (val_main_v61 (F := Ideal)
    (m ((c : Thread nD τ).loc main_arg1)) (m ((c : Thread nD τ).loc main_arg2)) (m ((c : Thread nD τ).loc main_arg3))
    (m ((c : Thread nD τ).loc main_arg6)) (m ((c : Thread nD τ).loc main_arg7)) (m ((c : Thread nD τ).loc main_arg8)))
    shapeCasts_S4096x4x256_S4096x1024 := by
  unfold V
  entry_read
  rfl
/-- The states at the chunks' starts. -/
theorem V_v108 : (V m c main_v108 : Vec Ideal S64x4x256x128 .f32) = states
    (val_main_v14 (F := Ideal) (m ((c : Thread nD τ).loc main_arg6)) (m ((c : Thread nD τ).loc main_arg7)) (m ((c : Thread nD τ).loc main_arg8)))
    (val_main_v37 (F := Ideal) (m ((c : Thread nD τ).loc main_arg6)) (m ((c : Thread nD τ).loc main_arg7)) (m ((c : Thread nD τ).loc main_arg8)))
    (val_main_v12 (F := Ideal) (m ((c : Thread nD τ).loc main_arg2))) (val_main_v13 (F := Ideal) (m ((c : Thread nD τ).loc main_arg3))) := by
  unfold V
  entry_read
  rfl
theorem V_v115 : (V m c main_v115 : Vec Ideal S4096x128 .f32) = pad S4096x128 ![0, 0] ![0, 112] ![0, 0]
    (shapeCast _ (m ((c : Thread nD τ).loc main_arg6) : Vec Ideal S1x4096x16 .f32) shapeCasts_S1x4096x16_S4096x16)
    (sitofp (F := Ideal) .f32 (constantI S_ 32 0#32)) pads_S4096x16_S4096x128_000_01120 h_S_ := by
  unfold V
  entry_read
  rfl
theorem V_v117 : (V m c main_v117 : Vec Ideal S128x512 .f32) = pad S128x512 ![0, 0] ![112, 0] ![0, 0]
    (shapeCast _ (m ((c : Thread nD τ).loc main_arg7) : Vec Ideal S1x16x512 .f32) shapeCasts_S1x16x512_S16x512)
    (sitofp (F := Ideal) .f32 (constantI S_ 32 0#32)) pads_S16x512_S128x512_01120_000 h_S_ := by
  unfold V
  entry_read
  rfl
/-- The pieces of the gathered columns. -/
abbrev pcs : List ((s : Shape) × (s.Idx → Elt Ideal .f32)) :=
  [⟨S4096x3072, (m ((c : Thread nD τ).loc main_arg0) : Vec Ideal S4096x3072 .f32)⟩,
    ⟨S4096x512, (shapeCast _ (m ((c : Thread nD τ).loc main_arg1) : Vec Ideal S1x4096x512 .f32) shapeCasts_S1x4096x512_S4096x512 : Vec Ideal S4096x512 .f32)⟩,
    ⟨S4096x512, (shapeCast _ (m ((c : Thread nD τ).loc main_arg2) : Vec Ideal S1x4096x512 .f32) shapeCasts_S1x4096x512_S4096x512 : Vec Ideal S4096x512 .f32)⟩,
    ⟨S4096x1024, (shapeCast _ (m ((c : Thread nD τ).loc main_arg3) : Vec Ideal S1x4096x1024 .f32) shapeCasts_S1x4096x1024_S4096x1024 : Vec Ideal S4096x1024 .f32)⟩,
    ⟨S4096x1024, (shapeCast _ (m ((c : Thread nD τ).loc main_arg4) : Vec Ideal S1x4096x1024 .f32) shapeCasts_S1x4096x1024_S4096x1024 : Vec Ideal S4096x1024 .f32)⟩,
    ⟨S4096x2048, (m ((c : Thread nD τ).loc main_arg5) : Vec Ideal S4096x2048 .f32)⟩]
theorem V_v113 : (V m c main_v113 : Vec Ideal S4096x8192 .f32) = concatenate S4096x8192 1 (pcs m c)
    concatenates_S4096x3072_S4096x512_S4096x512_S4096x1024_S4096x1024_S4096x2048_S4096x8192_d1 := by
  unfold V
  entry_read
  rfl
theorem V_v118 : (V m c main_v118 : Vec Ideal S4096x1024 .f32)
    = shapeCast _ (m ((c : Thread nD τ).loc main_arg10) : Vec Ideal S1x4096x1024 .f32) shapeCasts_S1x4096x1024_S4096x1024 := by
  unfold V
  entry_read
  rfl
end Entry
end Cert.GlaVal
end
-- ==== Proof.Gla.Ref2.lean ====
module

public import proofs.«01_k».proof.Proof.Gla.Ref
public import proofs.«01_k».proof.Proof.Mixer.Ref2

@[expose] public section

noncomputable section

/-! The reference's norm of the heads, its gates, and the gradients that pass through them. -/

namespace Cert.GlaVal

open Cert.GlaRefIdeal Cert.GlaRefIdeal.Gen Cert.GlaRefIdeal.Read Idealize.ShloMosaic Idealize.ShloMosaic.TcCoe
open Finset

theorem word_neg_half : Ideal.ofBits .f32 0xBF000000#32 = ((-(1 / 2) : ℝ) : EReal) := by
  simp [Ideal.ofBits, Ideal.ieee, -EReal.coe_mul]; norm_num
/-- The places of a head's column among all columns. -/
theorem flat256 (a b c : ℕ) (ha : a < 1) (hc : c < 1024) : ((a * 4096 + b) * 1024 + c) / 1024 = b
    ∧ ((a * 4096 + b) * 1024 + c) / 256 % 4 = c / 256 ∧ ((a * 4096 + b) * 1024 + c) % 256 = c % 256 := by omega
theorem flat128 (a b c : ℕ) (ha : a < 1) (hc : c < 512) : ((a * 4096 + b) * 512 + c) / 512 = b
    ∧ ((a * 4096 + b) * 512 + c) / 128 % 4 = c / 128 ∧ ((a * 4096 + b) * 512 + c) % 128 = c % 128 := by omega
theorem congr_oh (O : ℕ → ℕ → ℝ) (G : ℕ → ℝ) {t t' h h' e e' : ℕ} (ht : t = t') (hh : h = h') (he : e = e') :
    oh (fun e => O t (256 * h + e)) e * G e = oh (fun e => O t' (256 * h' + e)) e' * G e' := by subst ht hh he; rfl
/-- The norm's gradient as the reference adds it up. -/
theorem dn_ref (o y : ℕ → ℝ) (e : ℕ) :
    y e * rr o + o e * ((∑ a ∈ range 256, o a * y a) * (-(1 / 2) * (rr o * (rr o * rr o))) / 256)
      + (∑ a ∈ range 256, o a * y a) * (-(1 / 2) * (rr o * (rr o * rr o))) / 256 * o e = dn o y e := by
  have h : (∑ a ∈ range 256, y a * oh o a) = (∑ a ∈ range 256, o a * y a) * rr o := by
    rw [Finset.sum_mul]
    exact Finset.sum_congr rfl fun a _ => by unfold oh; ring
  unfold dn
  rw [h]; unfold oh; ring

section Values

variable {x1 x2 : (⟨S1x4096x512, .f32⟩ : BufTy).Contents (Elt Ideal)} {x3 x4 x10 : (⟨S1x4096x1024, .f32⟩ : BufTy).Contents (Elt Ideal)}
  {x6 : (⟨S1x4096x16, .f32⟩ : BufTy).Contents (Elt Ideal)} {x7 : (⟨S1x16x512, .f32⟩ : BufTy).Contents (Elt Ideal)}
  {x8 : (⟨S1x512, .f32⟩ : BufTy).Contents (Elt Ideal)} {x9 : (⟨S1x256, .f32⟩ : BufTy).Contents (Elt Ideal)}
  {Q K V Z A R W : ℕ → ℕ → ℝ} {B G : ℕ → ℝ}
  (H : GA x1 x2 x3 x4 x10 x6 x7 x8 x9 Q K V Z A R W B G)
include H

/-! ### The norm of the heads -/

theorem v64_at (i : S4096x4.Idx) : val_main_v64 (F := Ideal) x1 x2 x3 x6 x7 x8 i
    = ((∑ e ∈ range 256, OO Q K V R W B (i 0) (256 * (i 1) + e) * OO Q K V R W B (i 0) (256 * (i 1) + e) : ℝ) : EReal) := by
  rw [val_main_v64_apply, val_main_cst_10_apply, Ideal.ofBits_def, Ideal.ofBits_zero_f32, zero_add, coe_sum_range]
  refine Finset.sum_congr rfl fun k _ => ?_
  rw [val_main_v63_apply, v61_at H, Ideal.mulf_def, ← EReal.coe_mul]
theorem v69_at (i : S4096x4x1.Idx) : val_main_v69 (F := Ideal) x1 x2 x3 x6 x7 x8 i = ((ms (fun e => OO Q K V R W B (i 0) (256 * (i 1) + e)) + eps : ℝ) : EReal) := by
  rw [val_main_v69_apply, val_main_v67_apply, val_main_v65_apply, v64_at H, val_main_v66_apply, val_main_cst_11_apply, val_main_v68_apply,
    val_main_cst_12_apply, Ideal.ofBits_def, word_256, Ideal.ofBits_def, word_eps, Ideal.hostDivf_def, div_256, Ideal.addf_def, ← EReal.coe_add]
  rfl
theorem v70_at (i : S4096x4x1.Idx) : val_main_v70 (F := Ideal) x1 x2 x3 x6 x7 x8 i = ((rr (fun e => OO Q K V R W B (i 0) (256 * (i 1) + e)) : ℝ) : EReal) := by
  have hp := ms_eps_pos (fun e => OO Q K V R W B (i 0) (256 * (i 1) + e))
  rw [val_main_v70_apply, v69_at H, Ideal.hostUnary_rsqrt_def, Ideal.rsqrt_coe, if_neg hp.not_gt, if_neg hp.ne']
  rfl
theorem v73_at (i : S4096x4x1.Idx) : val_main_v73 (F := Ideal) x1 x2 x3 x6 x7 x8 i
    = ((-(1 / 2) * (rr (fun e => OO Q K V R W B (i 0) (256 * (i 1) + e)) * (rr (fun e => OO Q K V R W B (i 0) (256 * (i 1) + e)) * rr (fun e => OO Q K V R W B (i 0) (256 * (i 1) + e)))) : ℝ) : EReal) := by
  have hp := ms_eps_pos (fun e => OO Q K V R W B (i 0) (256 * (i 1) + e))
  rw [val_main_v73_apply, val_main_v72_apply, val_main_cst_13_apply, val_main_v71_apply, v70_at H, v69_at H, Ideal.ofBits_def, word_neg_half,
    Ideal.hostDivf_def, Mix.div_real _ _ hp.ne', Ideal.mulf_def, ← EReal.coe_mul, rr_mul]
theorem v75_at (i : S4096x4x256.Idx) : val_main_v75 (F := Ideal) x1 x2 x3 x6 x7 x8 i = ((oh (fun e => OO Q K V R W B (i 0) (256 * (i 1) + e)) (i 2) : ℝ) : EReal) := by
  rw [val_main_v75_apply, v61_at H, val_main_v74_apply, v70_at H, Ideal.mulf_def, ← EReal.coe_mul]
  rfl
theorem v76_at (i : S1x1x256.Idx) : val_main_v76 (F := Ideal) x9 i = ((G (i 2) : ℝ) : EReal) := by
  have h2 : (i 2).val < 256 := (i 2).isLt
  rw [val_main_v76_apply, val_main_v62_apply, H.r9]
  exact congrArg (fun n => ((G n : ℝ) : EReal)) (show (i 2).val % 256 = (i 2).val by omega)
theorem v79_at (i : S1x4096x1024.Idx) : val_main_v79 (F := Ideal) x1 x2 x3 x6 x7 x8 x9 i
    = ((oh (fun e => OO Q K V R W B (i 1) (256 * ((i 2) / 256) + e)) ((i 2).val % 256) * G ((i 2).val % 256) : ℝ) : EReal) := by
  obtain ⟨e0, e1, e2⟩ := flat256 (i 0).val (i 1).val (i 2).val (i 0).isLt (i 2).isLt
  rw [val_main_v79_apply, val_main_v78_apply, v75_at H, val_main_v77_apply, v76_at H, Ideal.mulf_def, ← EReal.coe_mul]
  exact congrArg Real.toEReal (congr_oh (OO Q K V R W B) G e0 e1 e2)

/-! ### The gates -/

theorem v80_2_at (i : S1x4096x1024.Idx) : val_main_v80_2 (F := Ideal) x4 i = ((Mix.lgst (Z (i 1) (i 2)) : ℝ) : EReal) := by
  have h : 1 + Real.exp (-Z (i 1) (i 2)) ≠ 0 := (add_pos one_pos (Real.exp_pos _)).ne'
  rw [val_main_v80_2_apply, val_main_call5_v4_apply, val_main_call5_cst_0_apply, val_main_call5_v3_apply, val_main_call5_v2_apply,
    val_main_call5_cst_apply, val_main_call5_v1_apply, val_main_call5_v0_apply, H.r4]
  simp only [Ideal.ofBits_def, word_one, Ideal.hostNegf_def, Ideal.negf_def, ← EReal.coe_neg, Ideal.hostUnary_exp_def, Ideal.exp_coe,
    Ideal.addf_def, ← EReal.coe_add, Ideal.hostDivf_def]
  rw [Mix.div_real _ _ h, one_mul, Mix.lgst_eq]
theorem v80_1_at (i : S1x4096x1024.Idx) :
    val_main_v80_1 (F := Ideal) x4 i = ((Mix.lgst (Z (i 1) (i 2)) * (1 - Mix.lgst (Z (i 1) (i 2))) : ℝ) : EReal) := by
  rw [val_main_v80_1_apply, val_main_call5_v7_apply, val_main_call5_v6_apply, val_main_call5_cst_1_apply, v80_2_at H, Ideal.ofBits_def,
    word_one, Ideal.subf_def, ← EReal.coe_sub, Ideal.mulf_def, ← EReal.coe_mul]
theorem v83_at (i : S1x4096x1024.Idx) : val_main_v83 (F := Ideal) x4 x10 i = ((A (i 1) (i 2) * Mix.silu (Z (i 1) (i 2)) : ℝ) : EReal) := by
  rw [val_main_v83_apply, val_main_v80_0_apply, H.r10, H.r4, v80_2_at H, Ideal.mulf_def, Ideal.mulf_def, ← EReal.coe_mul, ← EReal.coe_mul]
  rfl
/-- The gradient of the gates. -/
theorem v84_at (i : S1x4096x1024.Idx) : val_main_v84 (F := Ideal) x1 x2 x3 x4 x6 x7 x8 x9 x10 i
    = ((A (i 1) (i 2) * oh (fun e => OO Q K V R W B (i 1) (256 * ((i 2) / 256) + e)) ((i 2).val % 256) * G ((i 2).val % 256)
      * Mix.dsilu (Z (i 1) (i 2)) : ℝ) : EReal) := by
  rw [val_main_v84_apply, val_main_call6_v1_apply, val_main_call6_v2_apply, val_main_call6_v0_apply, val_main_v82_apply, v79_at H, v80_2_at H,
    v80_1_at H, H.r4, H.r10]
  simp only [Ideal.mulf_def, ← EReal.coe_mul, Ideal.addf_def, ← EReal.coe_add]
  exact congrArg _ (by unfold Mix.dsilu; ring)
theorem v85_at (i : S4096x4x256.Idx) : val_main_v85 (F := Ideal) x4 x10 i
    = ((A (i 0) (256 * (i 1) + (i 2)) * Mix.silu (Z (i 0) (256 * (i 1) + (i 2))) : ℝ) : EReal) := by
  obtain ⟨e1, e2⟩ := heads256 (i 0).val (i 1).val (i 2).val (i 1).isLt (i 2).isLt (i 0).isLt
  rw [val_main_v85_apply, v83_at H]
  exact congrArg Real.toEReal (congrArg₂ (fun t d => A t d * Mix.silu (Z t d)) e1 e2)
theorem v86_at (i : S4096x4x256.Idx) : val_main_v86 (F := Ideal) x1 x2 x3 x4 x6 x7 x8 x10 i = ((gg1 Z A (OO Q K V R W B) (i 0) (i 1) (i 2) : ℝ) : EReal) := by
  rw [val_main_v86_apply, v75_at H, v85_at H, Ideal.mulf_def, ← EReal.coe_mul]
  exact congrArg _ (mul_comm _ _)

/-! ### The gradient of the heads' output -/

theorem v90_at (i : S4096x4x256.Idx) : val_main_v90 (F := Ideal) x4 x9 x10 i
    = ((A (i 0) (256 * (i 1) + (i 2)) * Mix.silu (Z (i 0) (256 * (i 1) + (i 2))) * G (i 2) : ℝ) : EReal) := by
  rw [val_main_v90_apply, v85_at H, val_main_v89_apply, v76_at H, Ideal.mulf_def, ← EReal.coe_mul]
theorem v93_at (i : S4096x4.Idx) : val_main_v93 (F := Ideal) x1 x2 x3 x4 x6 x7 x8 x9 x10 i
    = ((∑ e ∈ range 256, OO Q K V R W B (i 0) (256 * (i 1) + e)
      * (A (i 0) (256 * (i 1) + e) * Mix.silu (Z (i 0) (256 * (i 1) + e)) * G e) : ℝ) : EReal) := by
  rw [val_main_v93_apply, val_main_cst_16_apply, Ideal.ofBits_def, Ideal.ofBits_zero_f32, zero_add, coe_sum_range]
  refine Finset.sum_congr rfl fun k _ => ?_
  rw [val_main_v92_apply, v61_at H, v90_at H, Ideal.mulf_def, ← EReal.coe_mul]
theorem v99_at (i : S4096x4x1.Idx) : val_main_v99 (F := Ideal) x1 x2 x3 x4 x6 x7 x8 x9 x10 i
    = (((∑ e ∈ range 256, OO Q K V R W B (i 0) (256 * (i 1) + e)
      * (A (i 0) (256 * (i 1) + e) * Mix.silu (Z (i 0) (256 * (i 1) + e)) * G e))
      * (-(1 / 2) * (rr (fun e => OO Q K V R W B (i 0) (256 * (i 1) + e)) * (rr (fun e => OO Q K V R W B (i 0) (256 * (i 1) + e)) * rr (fun e => OO Q K V R W B (i 0) (256 * (i 1) + e))))) / 256 : ℝ) : EReal) := by
  have h1 : (i 1).val < 4 := (i 1).isLt
  have h2 : (i 2).val < 1 := (i 2).isLt
  have e0 : (((i 0).val * 4 + (i 1).val) * 1 + (i 2).val) / 4 = (i 0).val := by omega
  have e1 : (((i 0).val * 4 + (i 1).val) * 1 + (i 2).val) % 4 = (i 1).val := by omega
  rw [val_main_v99_apply, val_main_v97_apply, val_main_v94_apply, v93_at H, v73_at H, val_main_v98_apply, val_main_cst_17_apply, Ideal.ofBits_def,
    word_256, Ideal.mulf_def, ← EReal.coe_mul, Ideal.hostDivf_def, div_256]
  refine congrArg (fun r : ℝ => ((r * (-(1 / 2) * (rr (fun e => OO Q K V R W B (i 0) (256 * (i 1) + e)) * (rr (fun e => OO Q K V R W B (i 0) (256 * (i 1) + e)) * rr (fun e => OO Q K V R W B (i 0) (256 * (i 1) + e))))) / 256 : ℝ) : EReal)) ?_
  exact congrArg₂ (fun t h => ∑ e ∈ range 256, OO Q K V R W B t (256 * h + e)
      * (A t (256 * h + e) * Mix.silu (Z t (256 * h + e)) * G e)) e0 e1
theorem v105_at (i : S4096x4x256.Idx) : val_main_v105 (F := Ideal) x1 x2 x3 x4 x6 x7 x8 x9 x10 i
    = ((dh (OO Q K V R W B) Z A G (i 1) (i 0) (i 2) : ℝ) : EReal) := by
  rw [val_main_v105_apply, val_main_v103_apply, val_main_v104_apply, val_main_v102_apply, val_main_v96_apply, v61_at H, v90_at H,
    val_main_v95_apply, v70_at H, val_main_v101_apply, val_main_v100_apply, val_main_cst_18_apply, Ideal.ofBits_def, Ideal.ofBits_zero_f32, zero_add, Fintype.sum_unique, v99_at H]
  simp only [Ideal.mulf_def, ← EReal.coe_mul, Ideal.addf_def, ← EReal.coe_add]
  refine congrArg Real.toEReal ?_
  exact dn_ref (fun e => OO Q K V R W B (i 0) (256 * (i 1) + e))
    (fun e => A (i 0) (256 * (i 1) + e) * Mix.silu (Z (i 0) (256 * (i 1) + e)) * G e) (i 2)
/-- The gradient of the norm's scale. -/
theorem v87_at (j : S256.Idx) : val_main_v87 (F := Ideal) x1 x2 x3 x4 x6 x7 x8 x10 j
    = ((∑ t ∈ range 4096, ∑ h ∈ range 4, gg1 Z A (OO Q K V R W B) t h (j 0) : ℝ) : EReal) := by
  unfold val_main_v87
  simp only [Host.reduceAdd, Ideal.hostReduceAdd_def]
  rw [Mix.reduce_by reducesTo_S4096x4x256_S256_d0_1 _ _ j (κ := Fin 4096 × Fin 4) (fun k a => match a with
    | ⟨0, _⟩ => k.1 | ⟨1, _⟩ => k.2 | ⟨2, _⟩ => j 0)
    (fun k l e => Prod.ext (congrFun e 0) (congrFun e 1)) ?_]
  · rw [val_main_cst_14_apply, Ideal.ofBits_def, Ideal.ofBits_zero_f32, zero_add, Fintype.sum_prod_type, coe_sum_range]
    refine Finset.sum_congr rfl fun c _ => ?_
    rw [coe_sum_range]
    refine Finset.sum_congr rfl fun k _ => ?_
    rw [v86_at H]
  · intro i
    have d0 := Shape.ReducesTo.drop_apply_val_of_eq reducesTo_S4096x4x256_S256_d0_1 i 0 2
    constructor
    · intro e
      refine ⟨(i 0, i 1), funext fun a => Fin.ext ?_⟩
      match a with
      | ⟨0, _⟩ => rfl
      | ⟨1, _⟩ => rfl
      | ⟨2, _⟩ => change (j 0).val = (i 2).val; rw [← e]; exact d0
    · rintro ⟨k, rfl⟩
      refine funext fun a => Fin.ext ?_
      match a with
      | ⟨0, _⟩ => exact d0
theorem v106_at (i : S1x256.Idx) : val_main_v106 (F := Ideal) x1 x2 x3 x4 x6 x7 x8 x10 i
    = ((∑ t ∈ range 4096, ∑ h ∈ range 4, gg1 Z A (OO Q K V R W B) t h (i 1) : ℝ) : EReal) := by
  rw [val_main_v106_apply]
  unfold val_main_v91
  simp only [Host.reduceAdd, Ideal.hostReduceAdd_def]
  rw [Mix.reduce_by reducesTo_S1x1x256_S256_d0_1 _ _ (idx_main_v106 i) (κ := Unit) (fun _ a => match a with
    | ⟨0, _⟩ => ⟨0, Nat.one_pos⟩ | ⟨1, _⟩ => ⟨0, Nat.one_pos⟩ | ⟨2, _⟩ => i 1)
    (fun _ _ _ => rfl) ?_]
  · rw [val_main_cst_15_apply, Ideal.ofBits_def, Ideal.ofBits_zero_f32, zero_add, Fintype.sum_unique, val_main_v88_apply, v87_at H]
    refine congrArg (fun n => ((∑ t ∈ range 4096, ∑ h ∈ range 4, gg1 Z A (OO Q K V R W B) t h n : ℝ) : EReal)) ?_
    change (0 * 1 + 0) * 256 + (i 1).val = (i 1).val
    omega
  · intro k
    have d0 := Shape.ReducesTo.drop_apply_val_of_eq reducesTo_S1x1x256_S256_d0_1 k 0 2
    have h0 : (k 0).val < 1 := (k 0).isLt
    have h1 : (k 1).val < 1 := (k 1).isLt
    constructor
    · intro e
      refine ⟨(), funext fun a => Fin.ext ?_⟩
      match a with
      | ⟨0, _⟩ => change 0 = (k 0).val; omega
      | ⟨1, _⟩ => change 0 = (k 1).val; omega
      | ⟨2, _⟩ => change ((idx_main_v106 i) 0).val = (k 2).val; rw [← e]; exact d0
    · rintro ⟨_, rfl⟩
      refine funext fun a => Fin.ext ?_
      match a with
      | ⟨0, _⟩ => exact d0

end Values
end Cert.GlaVal
end
-- ==== Proof.Gla.Ref3.lean ====
module

public import proofs.«01_k».proof.Proof.Gla.Ref2

@[expose] public section

noncomputable section

/-! The reference's gradients of the values, of the scores, of queries and keys, and of the decays. -/

namespace Cert.GlaVal

open Cert.GlaRefIdeal Cert.GlaRefIdeal.Gen Cert.GlaRefIdeal.Read Idealize.ShloMosaic Idealize.ShloMosaic.TcCoe
open Finset

/-- The places of a head's column after a leading row is split off. -/
theorem split256 (a b c d : ℕ) (ha : a < 1) (hc : c < 4) (hd : d < 256) : (((a * 4096 + b) * 4 + c) * 256 + d) / 1024 = b
    ∧ (((a * 4096 + b) * 4 + c) * 256 + d) / 256 % 4 = c ∧ (((a * 4096 + b) * 4 + c) * 256 + d) % 256 = d := by omega
theorem split128 (a b c d : ℕ) (ha : a < 1) (hc : c < 4) (hd : d < 128) : (((a * 4096 + b) * 4 + c) * 128 + d) / 512 = b
    ∧ (((a * 4096 + b) * 4 + c) * 128 + d) / 128 % 4 = c ∧ (((a * 4096 + b) * 4 + c) * 128 + d) % 128 = d := by omega
theorem split128' (a b c d : ℕ) (hb : b < 1) (hc : c < 4) (hd : d < 128) : (((a * 1 + b) * 4 + c) * 128 + d) / 512 = a
    ∧ (((a * 1 + b) * 4 + c) * 128 + d) / 128 % 4 = c ∧ (((a * 1 + b) * 4 + c) * 128 + d) % 128 = d := by omega
theorem split1 (a b c d : ℕ) (hb : b < 4096) (hc : c < 4) (hd : d < 1) : (((a * 4096 + b) * 4 + c) * 1 + d) / 16384 = a
    ∧ (((a * 4096 + b) * 4 + c) * 1 + d) / 4 % 4096 = b ∧ (((a * 4096 + b) * 4 + c) * 1 + d) % 4 = c := by omega
/-- Three numbers at once. -/
theorem congr3 (f : ℕ → ℕ → ℕ → ℝ) {a a' b b' c c' : ℕ} (ha : a = a') (hb : b = b') (hc : c = c') : ((f a b c : ℝ) : EReal) = ((f a' b' c' : ℝ) : EReal) := by
  subst ha hb hc; rfl
theorem dq_mul (q k v d g : ℕ → ℕ → ℝ) (t c : ℕ) : (∑ s ∈ range 4096, if s ≤ t then k s c * (q t c * pr v d t s) * dec g t s c else 0)
    = gDQ k v d g t c * q t c := by
  unfold gDQ
  rw [Finset.sum_mul]
  refine Finset.sum_congr rfl fun s _ => ?_
  rw [ite_mul, zero_mul]
  split
  · ring
  · rfl
theorem dk_mul (q k v d g : ℕ → ℕ → ℝ) (s c : ℕ) : (∑ t ∈ range 4096, -(if s ≤ t then k s c * (q t c * pr v d t s) * dec g t s c else 0))
    = -(gDK q v d g s c * k s c) := by
  unfold gDK
  rw [Finset.sum_neg_distrib, Finset.sum_mul]
  refine congrArg _ (Finset.sum_congr rfl fun s _ => ?_)
  rw [ite_mul, zero_mul]
  split
  · ring
  · rfl
theorem dg_add (q k v d g : ℕ → ℕ → ℝ) (s c : ℕ) : (∑ t ∈ range 4096, if s ≤ t then gDQ k v d g t c * q t c else 0)
    + (∑ t ∈ range 4096, if s ≤ t then -(gDK q v d g t c * k t c) else 0) = gDG q k v d g s c := by
  unfold gDG gDC
  rw [← Finset.sum_add_distrib]
  refine Finset.sum_congr rfl fun t _ => ?_
  split
  · ring
  · ring

section Values

variable {x1 x2 : (⟨S1x4096x512, .f32⟩ : BufTy).Contents (Elt Ideal)} {x3 x4 x10 : (⟨S1x4096x1024, .f32⟩ : BufTy).Contents (Elt Ideal)}
  {x6 : (⟨S1x4096x16, .f32⟩ : BufTy).Contents (Elt Ideal)} {x7 : (⟨S1x16x512, .f32⟩ : BufTy).Contents (Elt Ideal)}
  {x8 : (⟨S1x512, .f32⟩ : BufTy).Contents (Elt Ideal)} {x9 : (⟨S1x256, .f32⟩ : BufTy).Contents (Elt Ideal)}
  {Q K V Z A R W : ℕ → ℕ → ℝ} {B G : ℕ → ℝ}
  (H : GA x1 x2 x3 x4 x10 x6 x7 x8 x9 Q K V Z A R W B G)
include H

/-! ### The values' gradient -/

theorem v107_at (i : S4096x4096x4x256.Idx) : val_main_v107 (F := Ideal) x1 x2 x3 x4 x6 x7 x8 x9 x10 i = ((dh (OO Q K V R W B) Z A G (i 2) (i 0) (i 3) : ℝ) : EReal) := by
  rw [val_main_v107_apply, v105_at H]
theorem v109_at (i : S4096x4096x4x256.Idx) : val_main_v109 (F := Ideal) x1 x2 x3 x4 x6 x7 x8 x9 x10 i
    = ((if (i 1).val ≤ (i 0).val then sc (qh Q (i 2)) (kh K (i 2)) (gh R W B (i 2)) (i 0) (i 1) * dh (OO Q K V R W B) Z A G (i 2) (i 0) (i 3) else 0 : ℝ) : EReal) := by
  rw [val_main_v109_apply, val_main_v108_apply, val_main_v56_apply, v55_at H, v107_at H, Ideal.mulf_def, ← EReal.coe_mul, ite_mul, zero_mul]
theorem v110_at (i : S4096x4x256.Idx) : val_main_v110 (F := Ideal) x1 x2 x3 x4 x6 x7 x8 x9 x10 i
    = ((gDV (qh Q (i 1)) (kh K (i 1)) (dh (OO Q K V R W B) Z A G (i 1)) (gh R W B (i 1)) (i 0) (i 2) : ℝ) : EReal) := by
  rw [val_main_v110_apply, val_main_cst_19_apply, Ideal.ofBits_def, Ideal.ofBits_zero_f32, zero_add]
  unfold gDV
  rw [coe_sum_range]
  exact Finset.sum_congr rfl fun k _ => (v109_at H _).trans rfl
theorem v116_at (i : S4096x4x256.Idx) : val_main_v116 (F := Ideal) x1 x2 x3 x4 x6 x7 x8 x9 x10 i
    = ((gDV (qh Q (i 1)) (kh K (i 1)) (dh (OO Q K V R W B) Z A G (i 1)) (gh R W B (i 1)) (i 0) (i 2) : ℝ) : EReal) := by
  obtain ⟨e0, e1, e2⟩ := split256 0 (i 0).val (i 1).val (i 2).val Nat.one_pos (i 1).isLt (i 2).isLt
  rw [val_main_v116_apply, val_main_cst_21_apply, Ideal.ofBits_def, Ideal.ofBits_zero_f32, zero_add, Fintype.sum_unique, val_main_v111_apply, v110_at H]
  exact congr3 (fun s h e => gDV (qh Q h) (kh K h) (dh (OO Q K V R W B) Z A G h) (gh R W B h) s e) e0 e1 e2

/-! ### The scores' gradient -/

theorem v114_at (i : S4096x4096x4.Idx) : val_main_v114 (F := Ideal) x1 x2 x3 x4 x6 x7 x8 x9 x10 i = ((pr (vh V (i 2)) (dh (OO Q K V R W B) Z A G (i 2)) (i 0) (i 1) : ℝ) : EReal) := by
  rw [val_main_v114_apply, val_main_cst_20_apply, Ideal.ofBits_def, Ideal.ofBits_zero_f32, zero_add]
  unfold pr
  rw [coe_sum_range]
  refine Finset.sum_congr rfl fun k _ => ?_
  rw [val_main_v113_apply, v107_at H, val_main_v112_apply, val_main_v57_apply, v13_at H, Ideal.mulf_def, ← EReal.coe_mul]
theorem v118_at (i : S4096x4096x4x128.Idx) : val_main_v118 (F := Ideal) x1 x2 x3 x4 x6 x7 x8 x9 x10 i = ((pr (vh V (i 2)) (dh (OO Q K V R W B) Z A G (i 2)) (i 0) (i 1) : ℝ) : EReal) := by
  obtain ⟨e0, e1, e2⟩ := split1 (i 0).val (i 1).val (i 2).val 0 (i 1).isLt (i 2).isLt Nat.one_pos
  rw [val_main_v118_apply, val_main_v117_apply, val_main_cst_22_apply, Ideal.ofBits_def, Ideal.ofBits_zero_f32, zero_add, Fintype.sum_unique, val_main_v115_apply, v114_at H]
  exact congr3 (fun t s h => pr (vh V h) (dh (OO Q K V R W B) Z A G h) t s) e0 e1 e2
theorem v120_at (i : S4096x4096x4x128.Idx) : val_main_v120 (F := Ideal) x1 x2 x3 x4 x6 x7 x8 x9 x10 i
    = ((qh Q (i 2) (i 0) (i 3) * pr (vh V (i 2)) (dh (OO Q K V R W B) Z A G (i 2)) (i 0) (i 1) : ℝ) : EReal) := by
  rw [val_main_v120_apply, val_main_v119_apply, val_main_v49_apply, v11_at H, v118_at H, Ideal.mulf_def, ← EReal.coe_mul]

/-! ### The queries' and the keys' gradients -/

theorem v121_at (i : S4096x4096x4x128.Idx) : val_main_v121 (F := Ideal) x1 x2 x3 x4 x6 x7 x8 x9 x10 i
    = ((if (i 1).val ≤ (i 0).val then pr (vh V (i 2)) (dh (OO Q K V R W B) Z A G (i 2)) (i 0) (i 1) * (kh K (i 2) (i 1) (i 3) * dec (gh R W B (i 2)) (i 0) (i 1) (i 3)) else 0 : ℝ) : EReal) := by
  rw [val_main_v121_apply, v118_at H, v52_at H, Ideal.mulf_def, ← EReal.coe_mul, mul_ite, mul_zero]
theorem v122_at (i : S4096x4x128.Idx) : val_main_v122 (F := Ideal) x1 x2 x3 x4 x6 x7 x8 x9 x10 i
    = ((gDQ (kh K (i 1)) (vh V (i 1)) (dh (OO Q K V R W B) Z A G (i 1)) (gh R W B (i 1)) (i 0) (i 2) : ℝ) : EReal) := by
  rw [val_main_v122_apply, val_main_cst_23_apply, Ideal.ofBits_def, Ideal.ofBits_zero_f32, zero_add]
  unfold gDQ
  rw [coe_sum_range]
  exact Finset.sum_congr rfl fun k _ => (v121_at H _).trans rfl
theorem v130_at (i : S4096x4x128.Idx) : val_main_v130 (F := Ideal) x1 x2 x3 x4 x6 x7 x8 x9 x10 i
    = ((gDQ (kh K (i 1)) (vh V (i 1)) (dh (OO Q K V R W B) Z A G (i 1)) (gh R W B (i 1)) (i 0) (i 2) : ℝ) : EReal) := by
  obtain ⟨e0, e1, e2⟩ := split128' (i 0).val 0 (i 1).val (i 2).val Nat.one_pos (i 1).isLt (i 2).isLt
  rw [val_main_v130_apply, val_main_cst_26_apply, Ideal.ofBits_def, Ideal.ofBits_zero_f32, zero_add, Fintype.sum_unique, val_main_v123_apply, v122_at H]
  exact congr3 (fun t h c => gDQ (kh K h) (vh V h) (dh (OO Q K V R W B) Z A G h) (gh R W B h) t c) e0 e1 e2
theorem v126_at (i : S4096x4096x4x128.Idx) : val_main_v126 (F := Ideal) x1 x2 x3 x4 x6 x7 x8 x9 x10 i
    = ((if (i 1).val ≤ (i 0).val then pr (vh V (i 2)) (dh (OO Q K V R W B) Z A G (i 2)) (i 0) (i 1) * (qh Q (i 2) (i 0) (i 3) * dec (gh R W B (i 2)) (i 0) (i 1) (i 3)) else 0 : ℝ) : EReal) := by
  rw [val_main_v126_apply, v120_at H, v48_at H, Ideal.mulf_def, ← EReal.coe_mul, mul_ite, mul_zero]
  exact congrArg Real.toEReal (by rw [mul_comm (qh Q _ _ _), mul_assoc])
theorem v127_at (i : S4096x4x128.Idx) : val_main_v127 (F := Ideal) x1 x2 x3 x4 x6 x7 x8 x9 x10 i
    = ((gDK (qh Q (i 1)) (vh V (i 1)) (dh (OO Q K V R W B) Z A G (i 1)) (gh R W B (i 1)) (i 0) (i 2) : ℝ) : EReal) := by
  rw [val_main_v127_apply, val_main_cst_24_apply, Ideal.ofBits_def, Ideal.ofBits_zero_f32, zero_add]
  unfold gDK
  rw [coe_sum_range]
  exact Finset.sum_congr rfl fun k _ => (v126_at H _).trans rfl
theorem v129_at (i : S4096x4x128.Idx) : val_main_v129 (F := Ideal) x1 x2 x3 x4 x6 x7 x8 x9 x10 i
    = ((gDK (qh Q (i 1)) (vh V (i 1)) (dh (OO Q K V R W B) Z A G (i 1)) (gh R W B (i 1)) (i 0) (i 2) : ℝ) : EReal) := by
  obtain ⟨e0, e1, e2⟩ := split128 0 (i 0).val (i 1).val (i 2).val Nat.one_pos (i 1).isLt (i 2).isLt
  rw [val_main_v129_apply, val_main_cst_25_apply, Ideal.ofBits_def, Ideal.ofBits_zero_f32, zero_add, Fintype.sum_unique, val_main_v128_apply, v127_at H]
  exact congr3 (fun t h c => gDK (qh Q h) (vh V h) (dh (OO Q K V R W B) Z A G h) (gh R W B h) t c) e0 e1 e2

/-! ### The gradient of the decays' logarithms -/

theorem v133_at (i : S4096x4096x4x128.Idx) : val_main_v133 (F := Ideal) x1 x2 x3 x4 x6 x7 x8 x9 x10 i
    = ((if (i 1).val ≤ (i 0).val then kh K (i 2) (i 1) (i 3) * (qh Q (i 2) (i 0) (i 3) * pr (vh V (i 2)) (dh (OO Q K V R W B) Z A G (i 2)) (i 0) (i 1)) * dec (gh R W B (i 2)) (i 0) (i 1) (i 3)
      else 0 : ℝ) : EReal) := by
  rw [val_main_v133_apply, m46_at, val_main_v132_apply, val_main_v131_apply, m48_at, val_main_v125_apply, val_main_v124_apply, val_main_v50_apply,
    v12_at H, v120_at H, v47_at H, val_main_call7_v0_apply, val_main_call7_cst_apply, val_main_call8_v0_apply, val_main_call8_cst_apply,
    Ideal.ofBits_def, Ideal.ofBits_zero_f32, ← EReal.coe_zero, Ideal.mulf_def, Ideal.mulf_def, ← EReal.coe_mul, sel_coe, ← EReal.coe_mul, sel_coe]
  by_cases h : (i 1).val ≤ (i 0).val
  · simp only [if_pos h]
  · simp only [if_neg h]
theorem v140_at (i : S4096x4x128.Idx) : val_main_v140 (F := Ideal) x1 x2 x3 x4 x6 x7 x8 x9 x10 i
    = ((gDQ (kh K (i 1)) (vh V (i 1)) (dh (OO Q K V R W B) Z A G (i 1)) (gh R W B (i 1)) (i 0) (i 2) * qh Q (i 1) (i 0) (i 2) : ℝ) : EReal) := by
  obtain ⟨e0, e1, e2⟩ := split128' (i 0).val 0 (i 1).val (i 2).val Nat.one_pos (i 1).isLt (i 2).isLt
  rw [val_main_v140_apply, val_main_cst_30_apply, Ideal.ofBits_def, Ideal.ofBits_zero_f32, zero_add, Fintype.sum_unique, val_main_v135_apply, val_main_v134_apply, val_main_cst_27_apply,
    Ideal.ofBits_def, Ideal.ofBits_zero_f32, zero_add, ← dq_mul, coe_sum_range]
  refine Finset.sum_congr rfl fun s _ => (v133_at H _).trans ?_
  exact congr3 (fun t h c => if s.val ≤ t then kh K h s c * (qh Q h t c * pr (vh V h) (dh (OO Q K V R W B) Z A G h) t s) * dec (gh R W B h) t s c else 0) e0 e1 e2
theorem v139_at (i : S4096x4x128.Idx) : val_main_v139 (F := Ideal) x1 x2 x3 x4 x6 x7 x8 x9 x10 i
    = ((-(gDK (qh Q (i 1)) (vh V (i 1)) (dh (OO Q K V R W B) Z A G (i 1)) (gh R W B (i 1)) (i 0) (i 2) * kh K (i 1) (i 0) (i 2)) : ℝ) : EReal) := by
  obtain ⟨e0, e1, e2⟩ := split128 0 (i 0).val (i 1).val (i 2).val Nat.one_pos (i 1).isLt (i 2).isLt
  rw [val_main_v139_apply, val_main_cst_29_apply, Ideal.ofBits_def, Ideal.ofBits_zero_f32, zero_add, Fintype.sum_unique, val_main_v138_apply, val_main_v137_apply, val_main_cst_28_apply,
    Ideal.ofBits_def, Ideal.ofBits_zero_f32, zero_add, ← dk_mul, coe_sum_range]
  refine Finset.sum_congr rfl fun t _ => ?_
  rw [val_main_v136_apply, v133_at H, Ideal.hostNegf_def, Ideal.negf_def, ← EReal.coe_neg]
  exact congr3 (fun s h c => -(if s ≤ t.val then kh K h s c * (qh Q h t c * pr (vh V h) (dh (OO Q K V R W B) Z A G h) t s) * dec (gh R W B h) t s c else 0)) e0 e1 e2
theorem v143_at (i : S4096x4x128.Idx) : val_main_v143 (F := Ideal) x1 x2 x3 x4 x6 x7 x8 x9 x10 i
    = ((∑ t ∈ range 4096, if (i 0).val ≤ t then gDQ (kh K (i 1)) (vh V (i 1)) (dh (OO Q K V R W B) Z A G (i 1)) (gh R W B (i 1)) t (i 2) * qh Q (i 1) t (i 2) else 0 : ℝ) : EReal) := by
  rw [val_main_v143_apply, val_main_cst_31_apply, Ideal.ofBits_def, Ideal.ofBits_zero_f32, zero_add, Fintype.sum_unique, val_main_v142_apply, val_main_call9_v2_apply,
    val_main_call9_cst_0_apply, Ideal.ofBits_def, Ideal.ofBits_zero_f32, zero_add, coe_sum_range]
  refine Finset.sum_congr rfl fun t _ => ?_
  rw [val_main_call9_v1_apply, m39_at, val_main_v141_apply, v140_at H, val_main_call9_v0_apply, val_main_call9_cst_apply, Ideal.ofBits_def,
    Ideal.ofBits_zero_f32, ← EReal.coe_zero, sel_coe]
theorem v146_at (i : S4096x4x128.Idx) : val_main_v146 (F := Ideal) x1 x2 x3 x4 x6 x7 x8 x9 x10 i
    = ((∑ t ∈ range 4096, if (i 0).val ≤ t then -(gDK (qh Q (i 1)) (vh V (i 1)) (dh (OO Q K V R W B) Z A G (i 1)) (gh R W B (i 1)) t (i 2) * kh K (i 1) t (i 2)) else 0 : ℝ) : EReal) := by
  rw [val_main_v146_apply, val_main_cst_32_apply, Ideal.ofBits_def, Ideal.ofBits_zero_f32, zero_add, Fintype.sum_unique, val_main_v145_apply, val_main_call10_v2_apply,
    val_main_call10_cst_0_apply, Ideal.ofBits_def, Ideal.ofBits_zero_f32, zero_add, coe_sum_range]
  refine Finset.sum_congr rfl fun t _ => ?_
  rw [val_main_call10_v1_apply, m36_at, val_main_v144_apply, v139_at H, val_main_call10_v0_apply, val_main_call10_cst_apply, Ideal.ofBits_def,
    Ideal.ofBits_zero_f32, ← EReal.coe_zero, sel_coe]
theorem v148_at (i : S1x4096x512.Idx) : val_main_v148 (F := Ideal) x1 x2 x3 x4 x6 x7 x8 x9 x10 i = ((dgl Q K V Z A (OO Q K V R W B) R W B G (i 1) (i 2) : ℝ) : EReal) := by
  obtain ⟨e0, e1, e2⟩ := flat128 (i 0).val (i 1).val (i 2).val (i 0).isLt (i 2).isLt
  rw [val_main_v148_apply, val_main_v147_apply, v143_at H, v146_at H, Ideal.addf_def, ← EReal.coe_add, dg_add]
  exact congr3 (fun t h c => gDG (qh Q h) (kh K h) (vh V h) (dh (OO Q K V R W B) Z A G h) (gh R W B h) t c) e0 e1 e2
/-- The gradient of the logits. -/
theorem v156_at (i : S1x4096x512.Idx) : val_main_v156 (F := Ideal) x1 x2 x3 x4 x6 x7 x8 x9 x10 i = ((dlo Q K V Z A (OO Q K V R W B) R W B G (i 1) (i 2) : ℝ) : EReal) := by
  rw [val_main_v156_apply, val_main_call11_v1_apply, val_main_call11_v0_apply, val_main_v155_apply, v148_at H, val_main_v154_apply,
    val_main_cst_34_apply, Ideal.ofBits_def, word_16, Ideal.hostDivf_def, Mix.div_real _ _ (by norm_num), v6_1_at H]
  simp only [Ideal.hostNegf_def, Ideal.negf_def, ← EReal.coe_neg, Ideal.mulf_def, ← EReal.coe_mul]
  exact congrArg Real.toEReal (by unfold dlo dlg; norm_num)

end Values
end Cert.GlaVal
end
-- ==== Proof.Gla.Ref4.lean ====
module

public import proofs.«01_k».proof.Proof.Gla.Ref3
public import proofs.«01_k».proof.Proof.Mixer.Ref3
public import Idealize.ShloMosaic.Lib.KernelVsHost

@[expose] public section

noncomputable section

/-! The reference's results: the columns of the projection's gradient, and the gradients of the decays' parameters. -/

namespace Cert.GlaVal

open Cert.GlaRefIdeal Cert.GlaRefIdeal.Gen Cert.GlaRefIdeal.Read Idealize.ShloMosaic Idealize.ShloMosaic.TcCoe
open Finset

/-! ### The product over the batch and the positions -/

/-- The product of the logits' gradients with the low-rank input, over the positions. -/
abbrev dU := dot_S1x4096x512_S1x4096x16_S512x16_01_01_2_2_n_n

/-- One position, as a place of the product's contraction. -/
def dUk (k : Fin 4096) : dU.contr.Idx := fun a => match a with
  | ⟨0, _⟩ => ⟨0, Nat.one_pos⟩
  | ⟨1, _⟩ => k
theorem dUk_bij : Function.Bijective dUk := by
  constructor
  · intro k l e
    exact congrFun e ⟨1, by decide⟩
  · intro q
    refine ⟨q ⟨1, by decide⟩, funext fun a => Fin.ext ?_⟩
    match a with
    | ⟨0, h⟩ =>
      have h0 : (q ⟨0, h⟩).val < 1 := (q ⟨0, h⟩).isLt
      change 0 = (q ⟨0, h⟩).val
      omega
    | ⟨1, _⟩ => rfl
theorem dU_lhs1 (i : S512x16.Idx) (q : dU.contr.Idx) : (dU.lhsIdx i q 1).val = (q ⟨1, by decide⟩).val := by
  unfold DotDims.lhsIdx
  rw [dif_neg (show ¬(1 : Fin S1x4096x512.rank) ∈ dU.lhsBatch by decide),
    dif_neg (show ¬(1 : Fin S1x4096x512.rank) ∈ dU.lhsNonContracting by decide)]
  rfl
theorem dU_lhs2 (i : S512x16.Idx) (q : dU.contr.Idx) : (dU.lhsIdx i q 2).val = (i 0).val := by
  unfold DotDims.lhsIdx
  rw [dif_neg (show ¬(2 : Fin S1x4096x512.rank) ∈ dU.lhsBatch by decide),
    dif_pos (show (2 : Fin S1x4096x512.rank) ∈ dU.lhsNonContracting by decide)]
  rfl
theorem dU_rhs1 (i : S512x16.Idx) (q : dU.contr.Idx) : (dU.rhsIdx i q 1).val = (q ⟨1, by decide⟩).val := by
  unfold DotDims.rhsIdx
  rw [dif_neg (show ¬(1 : Fin S1x4096x16.rank) ∈ dU.rhsBatch by decide),
    dif_neg (show ¬(1 : Fin S1x4096x16.rank) ∈ dU.rhsNonContracting by decide)]
  rfl
theorem dU_rhs2 (i : S512x16.Idx) (q : dU.contr.Idx) : (dU.rhsIdx i q 2).val = (i 1).val := by
  unfold DotDims.rhsIdx
  rw [dif_neg (show ¬(2 : Fin S1x4096x16.rank) ∈ dU.rhsBatch by decide),
    dif_pos (show (2 : Fin S1x4096x16.rank) ∈ dU.rhsNonContracting by decide)]
  rfl

theorem zero_word : (FloatOps.sitofp .f32 (0#32) : Ideal .f32) = 0 := by
  change (((0#32 : BitVec 32).toInt : ℝ) : EReal) = 0
  simp

section Values

variable {x1 x2 : (⟨S1x4096x512, .f32⟩ : BufTy).Contents (Elt Ideal)} {x3 x4 x10 : (⟨S1x4096x1024, .f32⟩ : BufTy).Contents (Elt Ideal)}
  {x6 : (⟨S1x4096x16, .f32⟩ : BufTy).Contents (Elt Ideal)} {x7 : (⟨S1x16x512, .f32⟩ : BufTy).Contents (Elt Ideal)}
  {x8 : (⟨S1x512, .f32⟩ : BufTy).Contents (Elt Ideal)} {x9 : (⟨S1x256, .f32⟩ : BufTy).Contents (Elt Ideal)}
  {Q K V Z A R W : ℕ → ℕ → ℝ} {B G : ℕ → ℝ}
  (H : GA x1 x2 x3 x4 x10 x6 x7 x8 x9 Q K V Z A R W B G)
include H

/-! ### The low-rank input's, the decays' matrix's and the bias's gradients -/

theorem v160_at (i : S1x512.Idx) : val_main_v160 (F := Ideal) x1 x2 x3 x4 x6 x7 x8 x9 x10 i = ((∑ t ∈ range 4096, dlo Q K V Z A (OO Q K V R W B) R W B G t (i 1) : ℝ) : EReal) := by
  have hi : (i 1).val < 512 := (i 1).isLt
  rw [val_main_v160_apply]
  unfold val_main_v159
  simp only [Host.reduceAdd, Ideal.hostReduceAdd_def]
  rw [Mix.reduce_by reducesTo_S1x1x512_S512_d0_1 _ _ (idx_main_v160 i) (κ := Unit) (fun _ a => match a with
    | ⟨0, _⟩ => ⟨0, Nat.one_pos⟩ | ⟨1, _⟩ => ⟨0, Nat.one_pos⟩ | ⟨2, _⟩ => i 1)
    (fun _ _ _ => rfl) ?_]
  · rw [val_main_cst_36_apply, Ideal.ofBits_def, Ideal.ofBits_zero_f32, zero_add, Fintype.sum_unique, val_main_v158_apply, val_main_v157_apply, val_main_cst_35_apply, Ideal.ofBits_def, Ideal.ofBits_zero_f32, zero_add, coe_sum_range]
    refine Finset.sum_congr rfl fun t _ => (v156_at H _).trans ?_
    refine congrArg (fun n => ((dlo Q K V Z A (OO Q K V R W B) R W B G t n : ℝ) : EReal)) ?_
    change ((0 * 1 + 0) * 512 + (i 1).val) % 512 = (i 1).val
    omega
  · intro k
    have d0 := Shape.ReducesTo.drop_apply_val_of_eq reducesTo_S1x1x512_S512_d0_1 k 0 2
    have h0 : (k 0).val < 1 := (k 0).isLt
    have h1 : (k 1).val < 1 := (k 1).isLt
    constructor
    · intro e
      refine ⟨(), funext fun a => Fin.ext ?_⟩
      match a with
      | ⟨0, _⟩ => change 0 = (k 0).val; omega
      | ⟨1, _⟩ => change 0 = (k 1).val; omega
      | ⟨2, _⟩ => change ((idx_main_v160 i) 0).val = (k 2).val; rw [← e]; exact d0
    · rintro ⟨_, rfl⟩
      refine funext fun a => Fin.ext ?_
      match a with
      | ⟨0, _⟩ => exact d0
theorem v161_at (i : S512x16.Idx) : val_main_v161 (F := Ideal) x1 x2 x3 x4 x6 x7 x8 x9 x10 i
    = ((∑ t ∈ range 4096, R t (i 1) * dlo Q K V Z A (OO Q K V R W B) R W B G t (i 0) : ℝ) : EReal) := by
  unfold val_main_v161
  simp only [Host.dotGeneral]
  rw [Ideal.dotGeneral_apply, ← Function.Bijective.sum_comp dUk_bij, coe_sum_range]
  refine Finset.sum_congr rfl fun t _ => ?_
  rw [v156_at H, H.r6, ← EReal.coe_mul, dU_lhs1, dU_lhs2, dU_rhs1, dU_rhs2]
  exact congrArg Real.toEReal (mul_comm _ _)
theorem v179_at (i : S16x512.Idx) : val_main_v179 (F := Ideal) x1 x2 x3 x4 x6 x7 x8 x9 x10 i
    = ((∑ t ∈ range 4096, R t (i 0) * dlo Q K V Z A (OO Q K V R W B) R W B G t (i 1) : ℝ) : EReal) := by
  have h0 : (i 0).val < 16 := (i 0).isLt
  have h1 : (i 1).val < 512 := (i 1).isLt
  have e0 : ((i 0).val * 512 + (i 1).val) / 512 % 16 = (i 0).val := by omega
  have e1 : ((i 0).val * 512 + (i 1).val) % 512 = (i 1).val := by omega
  rw [val_main_v179_apply, val_main_v164_apply, val_main_v162_apply, v161_at H]
  exact congr3 (fun a b _ => ∑ t ∈ range 4096, R t a * dlo Q K V Z A (OO Q K V R W B) R W B G t b) e0 e1 (rfl : 0 = 0)
theorem v176_at (i : S4096x16.Idx) : val_main_v176 (F := Ideal) x1 x2 x3 x4 x6 x7 x8 x9 x10 i
    = ((∑ j ∈ range 512, dlo Q K V Z A (OO Q K V R W B) R W B G (i 0) j * W (i 1) j : ℝ) : EReal) := by
  have h0 : (i 0).val < 4096 := (i 0).isLt
  have h1 : (i 1).val < 16 := (i 1).isLt
  have e0 : ((i 0).val * 16 + (i 1).val) / 16 % 4096 = (i 0).val := by omega
  have e1 : ((i 0).val * 16 + (i 1).val) % 16 = (i 1).val := by omega
  rw [val_main_v176_apply, val_main_v163_apply, coe_sum_range]
  refine Finset.sum_congr rfl fun k _ => ?_
  have hk := k.isLt
  rw [v156_at H, val_main_v0_apply, H.r7, ← EReal.coe_mul]
  have f0 : (((i 0).val * 16 + (i 1).val) % 16 * 512 + k.val) / 512 % 16 = (i 1).val := by omega
  have f1 : (((i 0).val * 16 + (i 1).val) % 16 * 512 + k.val) % 512 = k.val := by omega
  exact congr3 (fun t a b => dlo Q K V Z A (OO Q K V R W B) R W B G t k * W a b) e0 f0 f1
theorem v178_at (i : S4096x128.Idx) : val_main_v178 (F := Ideal) x1 x2 x3 x4 x6 x7 x8 x9 x10 i
    = ((∑ j ∈ range 512, dlo Q K V Z A (OO Q K V R W B) R W B G (i 0) j * W (i 1) j : ℝ) : EReal) := by
  rw [val_main_v178_apply, Ideal.truncf_def]
  unfold val_main_v177
  by_cases h : (i 1).val < 16
  · rw [pad_apply_of_inside _ _ _ _ _ _ _ i (fun a => match a with | ⟨0, _⟩ => i 0 | ⟨1, _⟩ => ⟨(i 1).val, h⟩ : S4096x16.Idx) fun a => by
      match a with
      | ⟨0, _⟩ => change (i 0).val = 0 + (i 0).val * (0 + 1); omega
      | ⟨1, _⟩ => change (i 1).val = 0 + (i 1).val * (0 + 1); omega]
    rw [v176_at H]
  · rw [pad_apply_of_not_inside _ _ _ _ _ _ _ i (1 : Fin 2) fun hn => h (by
      have := hn.2.2
      change ((i 1).val - 0) / (0 + 1) < 16 at this
      omega)]
    rw [val_main_call12_v0_apply, val_main_c_37_apply, zero_word, Finset.sum_eq_zero fun j _ => by rw [H.hW _ _ (by omega), mul_zero]]
    rfl
theorem v180_at (i : S128x512.Idx) : val_main_v180 (F := Ideal) x1 x2 x3 x4 x6 x7 x8 x9 x10 i
    = ((∑ t ∈ range 4096, R t (i 0) * dlo Q K V Z A (OO Q K V R W B) R W B G t (i 1) : ℝ) : EReal) := by
  unfold val_main_v180
  by_cases h : (i 0).val < 16
  · rw [pad_apply_of_inside _ _ _ _ _ _ _ i (fun a => match a with | ⟨0, _⟩ => ⟨(i 0).val, h⟩ | ⟨1, _⟩ => i 1 : S16x512.Idx) fun a => by
      match a with
      | ⟨0, _⟩ => change (i 0).val = 0 + (i 0).val * (0 + 1); omega
      | ⟨1, _⟩ => change (i 1).val = 0 + (i 1).val * (0 + 1); omega]
    rw [v179_at H]
  · rw [pad_apply_of_not_inside _ _ _ _ _ _ _ i (0 : Fin 2) fun hn => h (by
      have := hn.2.2
      change ((i 0).val - 0) / (0 + 1) < 16 at this
      omega)]
    rw [val_main_call13_v0_apply, val_main_c_38_apply, zero_word, Finset.sum_eq_zero fun j _ => by rw [H.hR _ _ (by omega), zero_mul]]
    rfl

/-! ### The columns of the projection's gradient -/

theorem v166_at (i : S4096x512.Idx) : val_main_v166 (F := Ideal) x1 x2 x3 x4 x6 x7 x8 x9 x10 i = ((o11 Q K V Z A (OO Q K V R W B) R W B G (i 0) (i 1) : ℝ) : EReal) := by
  have h0 : (i 0).val < 4096 := (i 0).isLt
  have h1 : (i 1).val < 512 := (i 1).isLt
  have e1 : ((i 0).val * 512 + (i 1).val) / 512 % 4096 = (i 0).val := by omega
  have e2 : ((i 0).val * 512 + (i 1).val) % 512 = (i 1).val := by omega
  rw [val_main_v166_apply, Ideal.truncf_def, val_main_v165_apply, val_main_v153_apply, val_main_v152_apply, v130_at H, val_main_v151_apply,
    val_main_cst_33_apply, Ideal.ofBits_def, word_qsc, Ideal.mulf_def, ← EReal.coe_mul]
  unfold o11
  rw [if_pos h1]
  refine congr3 (fun t h c => gDQ (kh K h) (vh V h) (dh (OO Q K V R W B) Z A G h) (gh R W B h) t c * qsc) ?_ ?_ ?_
  · change ((0 * 4096 + ((i 0).val * 512 + (i 1).val) / 512 % 4096) * 512 + ((i 0).val * 512 + (i 1).val) % 512) / 512 = (i 0).val; omega
  · change ((0 * 4096 + ((i 0).val * 512 + (i 1).val) / 512 % 4096) * 512 + ((i 0).val * 512 + (i 1).val) % 512) / 128 % 4 = (i 1).val / 128; omega
  · change ((0 * 4096 + ((i 0).val * 512 + (i 1).val) / 512 % 4096) * 512 + ((i 0).val * 512 + (i 1).val) % 512) % 128 = (i 1).val % 128; omega
theorem v168_at (i : S4096x512.Idx) : val_main_v168 (F := Ideal) x1 x2 x3 x4 x6 x7 x8 x9 x10 i = ((o11 Q K V Z A (OO Q K V R W B) R W B G (i 0) (512 + (i 1)) : ℝ) : EReal) := by
  have h0 : (i 0).val < 4096 := (i 0).isLt
  have h1 : (i 1).val < 512 := (i 1).isLt
  rw [val_main_v168_apply, Ideal.truncf_def, val_main_v167_apply, val_main_v150_apply, v129_at H]
  unfold o11
  rw [if_neg (by omega), if_pos (by omega)]
  refine congr3 (fun t h c => gDK (qh Q h) (vh V h) (dh (OO Q K V R W B) Z A G h) (gh R W B h) t c) ?_ ?_ ?_
  · change ((0 * 4096 + ((i 0).val * 512 + (i 1).val) / 512 % 4096) * 512 + ((i 0).val * 512 + (i 1).val) % 512) / 512 = (i 0).val; omega
  · change ((0 * 4096 + ((i 0).val * 512 + (i 1).val) / 512 % 4096) * 512 + ((i 0).val * 512 + (i 1).val) % 512) / 128 % 4 = (512 + (i 1).val - 512) / 128; omega
  · change ((0 * 4096 + ((i 0).val * 512 + (i 1).val) / 512 % 4096) * 512 + ((i 0).val * 512 + (i 1).val) % 512) % 128 = (512 + (i 1).val) % 128; omega
theorem v170_at (i : S4096x1024.Idx) : val_main_v170 (F := Ideal) x1 x2 x3 x4 x6 x7 x8 x9 x10 i = ((o11 Q K V Z A (OO Q K V R W B) R W B G (i 0) (1024 + (i 1)) : ℝ) : EReal) := by
  have h0 : (i 0).val < 4096 := (i 0).isLt
  have h1 : (i 1).val < 1024 := (i 1).isLt
  rw [val_main_v170_apply, Ideal.truncf_def, val_main_v169_apply, val_main_v149_apply, v116_at H]
  unfold o11
  rw [if_neg (by omega), if_neg (by omega), if_pos (by omega)]
  refine congr3 (fun t h c => gDV (qh Q h) (kh K h) (dh (OO Q K V R W B) Z A G h) (gh R W B h) t c) ?_ ?_ ?_
  · change ((0 * 4096 + ((i 0).val * 1024 + (i 1).val) / 1024 % 4096) * 1024 + ((i 0).val * 1024 + (i 1).val) % 1024) / 1024 = (i 0).val; omega
  · change ((0 * 4096 + ((i 0).val * 1024 + (i 1).val) / 1024 % 4096) * 1024 + ((i 0).val * 1024 + (i 1).val) % 1024) / 256 % 4 = (1024 + (i 1).val - 1024) / 256; omega
  · change ((0 * 4096 + ((i 0).val * 1024 + (i 1).val) / 1024 % 4096) * 1024 + ((i 0).val * 1024 + (i 1).val) % 1024) % 256 = (1024 + (i 1).val) % 256; omega
theorem v172_at (i : S4096x1024.Idx) : val_main_v172 (F := Ideal) x1 x2 x3 x4 x6 x7 x8 x9 x10 i = ((o11 Q K V Z A (OO Q K V R W B) R W B G (i 0) (2048 + (i 1)) : ℝ) : EReal) := by
  have h0 : (i 0).val < 4096 := (i 0).isLt
  have h1 : (i 1).val < 1024 := (i 1).isLt
  have e1 : ((i 0).val * 1024 + (i 1).val) / 1024 % 4096 = (i 0).val := by omega
  have e2 : ((i 0).val * 1024 + (i 1).val) % 1024 = 2048 + (i 1).val - 2048 := by omega
  have e3 : (2048 + (i 1).val) % 256 = (2048 + (i 1).val - 2048) % 256 := by omega
  rw [val_main_v172_apply, Ideal.truncf_def, val_main_v171_apply, v84_at H]
  unfold o11
  rw [if_neg (by omega), if_neg (by omega), if_neg (by omega), e3]
  exact congr3 (fun t d _ => A t d * oh (fun e => OO Q K V R W B t (256 * (d / 256) + e)) (d % 256) * G (d % 256) * Mix.dsilu (Z t d)) e1 e2 (rfl : 0 = 0)

end Values
end Cert.GlaVal
end
-- ==== Proof.Gla.Arrays.lean ====
module

public import proofs.«01_k».proof.Proof.Gla.Entry
public import proofs.«01_k».proof.Proof.Gla.Ref4

@[expose] public section

noncomputable section

/-! The call's arrays: the blocks that the steps read hold the arguments' reals, and what the steps write fills the results. -/

namespace Cert.GlaVal

open Cert.GlaIdeal Cert.GlaIdeal.Gen Idealize.ShloMosaic Idealize.ShloMosaic.TcCoe
open Cert.GlaRefIdeal.Read (val_main_v8 val_main_v12 val_main_v13 val_main_v14 val_main_v37 val_main_v61)
open Finset

/-- Which block each window holds: rows from the last block to the first, the projection's columns by the window. -/
theorem idx : ∀ t : Fin cfg0.N, win0_0.index t = ![15 - t.val, 6] ∧ win0_1.index t = ![15 - t.val, 7] ∧ win0_2.index t = ![15 - t.val, 4]
    ∧ win0_3.index t = ![15 - t.val, 5] ∧ win0_4.index t = ![15 - t.val, 0] ∧ win0_5.index t = ![15 - t.val, 0]
    ∧ win0_6.index t = ![15 - t.val, 0, 0, 0] ∧ win0_7.index t = ![15 - t.val, 0] ∧ win0_8.index t = ![0, 0]
    ∧ win0_9.index t = ![0, 0] ∧ win0_10.index t = ![0, 0] ∧ win0_11.index t = ![15 - t.val, 1] ∧ win0_12.index t = ![15 - t.val, 0] :=
  (by decide +kernel : ∀ t : Fin grid0.N, _)

/-- A batch of one, read without its first index. -/
theorem flat3 {α : Type} {a b : ℕ} (x : (⟨3, ![1, a, b]⟩ : Shape).Idx → α) (h : (⟨3, ![1, a, b]⟩ : Shape).ShapeCasts ⟨2, ![a, b]⟩)
    (j : (⟨2, ![a, b]⟩ : Shape).Idx) : shapeCast _ x h j = x (ix3 0 (j 0) (j 1)) := by
  refine shapeCast_apply x h j _ ?_
  rewrite [Shape.rowMajor_val_three, Shape.rowMajor_val_two]
  change (0 * a + (j 0).val) * b + (j 1).val = (j 0).val * b + (j 1).val
  rw [Nat.zero_mul, Nat.zero_add]

section Inputs
variable (m : (ℓ : Loc nD τ sig) → Buf (Elt Ideal) ℓ) (c : Dev nD)

/-- The arguments hold reals. -/
abbrev Args (Q K V' Z A R W : ℕ → ℕ → ℝ) (B G : ℕ → ℝ) : Prop :=
  GA (m ((c : Thread nD τ).loc main_arg1)) (m ((c : Thread nD τ).loc main_arg2)) (m ((c : Thread nD τ).loc main_arg3)) (m ((c : Thread nD τ).loc main_arg4)) (m ((c : Thread nD τ).loc main_arg10)) (m ((c : Thread nD τ).loc main_arg6)) (m ((c : Thread nD τ).loc main_arg7)) (m ((c : Thread nD τ).loc main_arg8)) (m ((c : Thread nD τ).loc main_arg9)) Q K V' Z A R W B G

theorem v113_1 (r : Fin 4096) (d : Fin 512) (e : Fin 8192) (he : e.val = 3072 + d.val) : (V m c main_v113 : Vec Ideal S4096x8192 .f32) (ix2 r e)
    = (m ((c : Thread nD τ).loc main_arg1) : Vec Ideal S1x4096x512 .f32) (ix3 0 r d) := by
  rw [V_v113]
  refine (concatenate_apply_piece (t := S4096x8192) 1 (pcs m c) _ (ix2 r e) 1 (by change 1 < 6; decide) S4096x512
    (shapeCast _ (m ((c : Thread nD τ).loc main_arg1) : Vec Ideal S1x4096x512 .f32) shapeCasts_S1x4096x512_S4096x512) rfl rfl 3072 rfl (ix2 r d) ?_ ?_).trans ?_
  · intro q hq
    match q with
    | 0 => rfl
    | 1 => exact absurd rfl hq
  · exact he.symm
  · exact flat3 _ _ _
theorem v113_2 (r : Fin 4096) (d : Fin 512) (e : Fin 8192) (he : e.val = 3584 + d.val) : (V m c main_v113 : Vec Ideal S4096x8192 .f32) (ix2 r e)
    = (m ((c : Thread nD τ).loc main_arg2) : Vec Ideal S1x4096x512 .f32) (ix3 0 r d) := by
  rw [V_v113]
  refine (concatenate_apply_piece (t := S4096x8192) 1 (pcs m c) _ (ix2 r e) 2 (by change 2 < 6; decide) S4096x512
    (shapeCast _ (m ((c : Thread nD τ).loc main_arg2) : Vec Ideal S1x4096x512 .f32) shapeCasts_S1x4096x512_S4096x512) rfl rfl 3584 rfl (ix2 r d) ?_ ?_).trans ?_
  · intro q hq
    match q with
    | 0 => rfl
    | 1 => exact absurd rfl hq
  · exact he.symm
  · exact flat3 _ _ _
theorem v113_3 (r : Fin 4096) (d : Fin 1024) (e : Fin 8192) (he : e.val = 4096 + d.val) : (V m c main_v113 : Vec Ideal S4096x8192 .f32) (ix2 r e)
    = (m ((c : Thread nD τ).loc main_arg3) : Vec Ideal S1x4096x1024 .f32) (ix3 0 r d) := by
  rw [V_v113]
  refine (concatenate_apply_piece (t := S4096x8192) 1 (pcs m c) _ (ix2 r e) 3 (by change 3 < 6; decide) S4096x1024
    (shapeCast _ (m ((c : Thread nD τ).loc main_arg3) : Vec Ideal S1x4096x1024 .f32) shapeCasts_S1x4096x1024_S4096x1024) rfl rfl 4096 rfl (ix2 r d) ?_ ?_).trans ?_
  · intro q hq
    match q with
    | 0 => rfl
    | 1 => exact absurd rfl hq
  · exact he.symm
  · exact flat3 _ _ _
theorem v113_4 (r : Fin 4096) (d : Fin 1024) (e : Fin 8192) (he : e.val = 5120 + d.val) : (V m c main_v113 : Vec Ideal S4096x8192 .f32) (ix2 r e)
    = (m ((c : Thread nD τ).loc main_arg4) : Vec Ideal S1x4096x1024 .f32) (ix3 0 r d) := by
  rw [V_v113]
  refine (concatenate_apply_piece (t := S4096x8192) 1 (pcs m c) _ (ix2 r e) 4 (by change 4 < 6; decide) S4096x1024
    (shapeCast _ (m ((c : Thread nD τ).loc main_arg4) : Vec Ideal S1x4096x1024 .f32) shapeCasts_S1x4096x1024_S4096x1024) rfl rfl 5120 rfl (ix2 r d) ?_ ?_).trans ?_
  · intro q hq
    match q with
    | 0 => rfl
    | 1 => exact absurd rfl hq
  · exact he.symm
  · exact flat3 _ _ _

theorem v62_apply (j : S4096x1024.Idx) : (V m c main_v62 : Vec Ideal S4096x1024 .f32) j = val_main_v61 (F := Ideal)
    (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))
    (ix3 (j 0) ⟨(j 1).val / 256, by have : (j 1).val < 1024 := (j 1).isLt; omega⟩ ⟨(j 1).val % 256, Nat.mod_lt _ (by decide)⟩) := by
  rw [V_v62]
  have h0 : (j 0).val < 4096 := (j 0).isLt
  have h1 : (j 1).val < 1024 := (j 1).isLt
  refine shapeCast_apply _ shapeCasts_S4096x4x256_S4096x1024 j _ ?_
  rewrite [Shape.rowMajor_val_three, Shape.rowMajor_val_two]
  change ((j 0).val * 4 + (j 1).val / 256) * 256 + (j 1).val % 256 = (j 0).val * 1024 + (j 1).val
  omega
theorem v118_apply (j : S4096x1024.Idx) : (V m c main_v118 : Vec Ideal S4096x1024 .f32) j
    = (m ((c : Thread nD τ).loc main_arg10) : Vec Ideal S1x4096x1024 .f32) (ix3 0 (j 0) (j 1)) := by
  rw [V_v118]
  exact flat3 _ _ _

variable {m c}
section
variable {Q K V' Z A R W : ℕ → ℕ → ℝ} {B G : ℕ → ℝ} (H : Args m c Q K V' Z A R W B G)
include H
theorem v115_at (j : S4096x128.Idx) : (V m c main_v115 : Vec Ideal S4096x128 .f32) j = ((R (j 0) (j 1) : ℝ) : EReal) := by
  rw [V_v115]
  by_cases h : (j 1).val < 16
  · rw [pad_apply_of_inside _ _ _ _ _ _ _ j (ix2 (j 0) ⟨(j 1).val, h⟩ : S4096x16.Idx) fun a => by
      match a with
      | ⟨0, _⟩ => change (j 0).val = 0 + (j 0).val * (0 + 1); omega
      | ⟨1, _⟩ => change (j 1).val = 0 + (j 1).val * (0 + 1); omega]
    exact (flat3 _ _ _).trans (H.r6 (ix3 0 (j 0) ⟨(j 1).val, h⟩))
  · rw [pad_apply_of_not_inside _ _ _ _ _ _ _ j (1 : Fin 2) fun hn => h (by
      have := hn.2.2
      change ((j 1).val - 0) / (0 + 1) < 16 at this
      omega), H.hR _ _ (by omega)]
    exact zero_word
theorem v117_at (j : S128x512.Idx) : (V m c main_v117 : Vec Ideal S128x512 .f32) j = ((W (j 0) (j 1) : ℝ) : EReal) := by
  rw [V_v117]
  by_cases h : (j 0).val < 16
  · rw [pad_apply_of_inside _ _ _ _ _ _ _ j (ix2 ⟨(j 0).val, h⟩ (j 1) : S16x512.Idx) fun a => by
      match a with
      | ⟨0, _⟩ => change (j 0).val = 0 + (j 0).val * (0 + 1); omega
      | ⟨1, _⟩ => change (j 1).val = 0 + (j 1).val * (0 + 1); omega]
    exact (flat3 _ _ _).trans (H.r7 (ix3 0 ⟨(j 0).val, h⟩ (j 1)))
  · rw [pad_apply_of_not_inside _ _ _ _ _ _ _ j (0 : Fin 2) fun hn => h (by
      have := hn.2.2
      change ((j 0).val - 0) / (0 + 1) < 16 at this
      omega), H.hW _ _ (by omega)]
    exact zero_word
theorem v62_at (j : S4096x1024.Idx) : (V m c main_v62 : Vec Ideal S4096x1024 .f32) j = ((OO Q K V' R W B (j 0) (j 1) : ℝ) : EReal) := by
  rw [v62_apply, v61_at H]
  refine congrArg (fun n => ((OO Q K V' R W B (j 0) n : ℝ) : EReal)) ?_
  change 256 * ((j 1).val / 256) + (j 1).val % 256 = (j 1).val
  omega
theorem v108_at (j : S64x4x256x128.Idx) : (V m c main_v108 : Vec Ideal S64x4x256x128 .f32) j
    = ((sth K V' R W B (j 0) (j 1) (j 2) (j 3) : ℝ) : EReal) := by
  rw [V_v108]
  exact states_at (g' := gh R W B) (k' := kh K) (v' := vh V') (v14_at H) (v37_at H) (v12_at H) (v13_at H) j
end

variable (m c)
variable (t : Fin cfg0.N)
/-- Row `i` of step `t`'s block, among all rows. -/
abbrev rowOf (t : Fin cfg0.N) (i : Fin 256) : Fin 4096 := ⟨256 * (15 - t.val) + i.val, by have h := i.isLt; omega⟩

theorem iblk0_apply (j : S256x512.Idx) : (iblk m c 0 t : Vec Ideal S256x512 .f32) j
    = (V m c main_v113 : Vec Ideal S4096x8192 .f32) (ix2 (rowOf t (j 0)) ⟨3072 + (j 1).val, by have : (j 1).val < 512 := (j 1).isLt; omega⟩) := by
  blk_ext [iblk, idx t]
theorem iblk1_apply (j : S256x512.Idx) : (iblk m c 1 t : Vec Ideal S256x512 .f32) j
    = (V m c main_v113 : Vec Ideal S4096x8192 .f32) (ix2 (rowOf t (j 0)) ⟨3584 + (j 1).val, by have : (j 1).val < 512 := (j 1).isLt; omega⟩) := by
  blk_ext [iblk, idx t]
theorem iblk2_apply (j : S256x1024.Idx) : (iblk m c 2 t : Vec Ideal S256x1024 .f32) j
    = (V m c main_v113 : Vec Ideal S4096x8192 .f32) (ix2 (rowOf t (j 0)) ⟨4096 + (j 1).val, by have : (j 1).val < 1024 := (j 1).isLt; omega⟩) := by
  blk_ext [iblk, idx t]
theorem iblk3_apply (j : S256x1024.Idx) : (iblk m c 3 t : Vec Ideal S256x1024 .f32) j
    = (V m c main_v113 : Vec Ideal S4096x8192 .f32) (ix2 (rowOf t (j 0)) ⟨5120 + (j 1).val, by have : (j 1).val < 1024 := (j 1).isLt; omega⟩) := by
  blk_ext [iblk, idx t]
theorem iblk4_apply (j : S256x128.Idx) : (iblk m c 4 t : Vec Ideal S256x128 .f32) j
    = (V m c main_v115 : Vec Ideal S4096x128 .f32) (ix2 (rowOf t (j 0)) (j 1)) := by
  blk_ext [iblk, idx t]
theorem iblk5_apply (j : S256x1024.Idx) : (iblk m c 5 t : Vec Ideal S256x1024 .f32) j
    = (V m c main_v62 : Vec Ideal S4096x1024 .f32) (ix2 (rowOf t (j 0)) (j 1)) := by
  blk_ext [iblk, idx t]
theorem iblk7_apply (j : S256x1024.Idx) : (iblk m c 7 t : Vec Ideal S256x1024 .f32) j
    = (V m c main_v118 : Vec Ideal S4096x1024 .f32) (ix2 (rowOf t (j 0)) (j 1)) := by
  blk_ext [iblk, idx t]
theorem iblk6_apply (j : S4x4x256x128.Idx) : (iblk m c 6 t : Vec Ideal S4x4x256x128 .f32) j
    = (V m c main_v108 : Vec Ideal S64x4x256x128 .f32) (ix4 ⟨4 * (15 - t.val) + (j 0).val, by have : (j 0).val < 4 := (j 0).isLt; omega⟩ (j 1) (j 2) (j 3)) := by
  blk_ext [iblk, idx t]
theorem iblk8_apply (j : S128x512.Idx) : (iblk m c 8 t : Vec Ideal S128x512 .f32) j = (V m c main_v117 : Vec Ideal S128x512 .f32) j := by
  blk_ext [iblk, idx t]
theorem iblk9_apply (j : S1x512.Idx) : (iblk m c 9 t : Vec Ideal S1x512 .f32) j = (m ((c : Thread nD τ).loc main_arg8) : Vec Ideal S1x512 .f32) j := by
  blk_ext! [iblk, V, idx t]
theorem iblk10_apply (j : S1x256.Idx) : (iblk m c 10 t : Vec Ideal S1x256 .f32) j = (m ((c : Thread nD τ).loc main_arg9) : Vec Ideal S1x256 .f32) j := by
  blk_ext! [iblk, V, idx t]

variable {m c}
/-- Every step reads the arguments' reals. -/
theorem ins {Q K V' Z A R W : ℕ → ℕ → ℝ} {B G : ℕ → ℝ} (H : Args m c Q K V' Z A R W B G) :
    Ins m c Q K V' Z A (OO Q K V' R W B) R W B G where
  h0 t j := (iblk0_apply m c t j).trans ((v113_1 m c _ (j 1) _ rfl).trans (H.r1 _))
  h1 t j := (iblk1_apply m c t j).trans ((v113_2 m c _ (j 1) _ rfl).trans (H.r2 _))
  h2 t j := (iblk2_apply m c t j).trans ((v113_3 m c _ (j 1) _ rfl).trans (H.r3 _))
  h3 t j := (iblk3_apply m c t j).trans ((v113_4 m c _ (j 1) _ rfl).trans (H.r4 _))
  h4 t j := (iblk4_apply m c t j).trans (v115_at H _)
  h5 t j := (iblk5_apply m c t j).trans (v62_at H _)
  h6 t j := (iblk6_apply m c t j).trans (v108_at H _)
  h7 t j := (iblk7_apply m c t j).trans ((v118_apply m c _).trans (H.r10 _))
  h8 t j := (iblk8_apply m c t j).trans (v117_at H _)
  h9 t j := (iblk9_apply m c t j).trans (H.r8 _)
  h10 t j := (iblk10_apply m c t j).trans (H.r9 _)
end Inputs

theorem idx11 : ∀ t : Fin cfg0.N, win0_11.index t 1 = 1 := (by decide +kernel : ∀ t : Fin grid0.N, _)
/-- The columns that a block of the results fills. -/
theorem col11 (t : Fin cfg0.N) (y : ((cfg0.win 11).xblock (cfg0.grid.coords t)).Idx) :
    ((win0_11.blk t).view.emb y 1).val = 3072 + (y 1).val := by
  have e := Pipeline.Window.rect_emb_val win0_11 t y 1
  rw [idx11 t] at e
  refine Eq.trans ?_ (e.trans ?_)
  · rfl
  · rw [show win0_11.size 1 = 3072 from rfl]

/-- The columns that the call writes, in the buffer's other columns. -/
def w11 (x : Vec Ideal S4096x8192 .bf16) (o : ℕ → ℕ → ℝ) : Vec Ideal S4096x8192 .bf16 := fun j =>
  if (j 1).val < 3072 ∨ 6144 ≤ (j 1).val then x j else ((o (j 0) ((j 1) - 3072) : ℝ) : EReal)
theorem w11_out (x : Vec Ideal S4096x8192 .bf16) (o : ℕ → ℕ → ℝ) (j : S4096x8192.Idx) (h : (j 1).val < 3072 ∨ 6144 ≤ (j 1).val) : w11 x o j = x j :=
  if_pos h
theorem w11_in (x : Vec Ideal S4096x8192 .bf16) (o : ℕ → ℕ → ℝ) (j : S4096x8192.Idx) (r d : ℕ) (h0 : (j 0).val = r) (h : (j 1).val = 3072 + d) (hd : d < 3072) :
    w11 x o j = ((o r d : ℝ) : EReal) := by
  unfold w11
  rw [if_neg (by omega), h0, show (j 1).val - 3072 = d by omega]
/-- The buffer of the results' columns, ahead of the call. -/
theorem V_main_arg11' (m : (ℓ : Loc nD τ sig) → Buf (Elt Ideal) ℓ) (c : Dev nD) :
    V m c (Pipeline.arrRef spec0 11) = m ((c : Thread nD τ).loc main_arg11) := by
  unfold V
  entry_read
  rfl

section Arrays
variable {m : (ℓ : Loc nD τ sig) → Buf (Elt Ideal) ℓ} {c : Dev nD} {Q K V' Z A O R W : ℕ → ℕ → ℝ} {B G : ℕ → ℝ}
  (H : Ins m c Q K V' Z A O R W B G)

theorem all_rows (f : ℕ → ℝ) : (∑ r ∈ range (256 * (15 + 1)), f (256 * (15 - 15) + r)) = ∑ r ∈ range 4096, f r :=
  Finset.sum_congr rfl fun r _ => congrArg f (by omega)

include H

/-- The three accumulated results after the last step. -/
theorem arr13 : (dats m 0 c).arrAt 13 cfg0.N
    = (fun j => ((∑ t ∈ range 4096, R t (j 0) * dlo Q K V' Z A O R W B G t (j 1) : ℝ) : EReal) : Vec Ideal S128x512 .f32) := by
  refine (dats m 0 c).arrAt_eq_of_after_last 13 t0_15 (by decide +kernel) _ fun j => ?_
  blk_simp
  rw [after0_13]
  exact (acc13 H 15 _ j).trans (congrArg Real.toEReal (all_rows fun t => R t (j 0) * dlo Q K V' Z A O R W B G t (j 1)))
theorem arr14 : (dats m 0 c).arrAt 14 cfg0.N
    = (fun j => ((∑ t ∈ range 4096, dlo Q K V' Z A O R W B G t (j 1) : ℝ) : EReal) : Vec Ideal S1x512 .f32) := by
  refine (dats m 0 c).arrAt_eq_of_after_last 14 t0_15 (by decide +kernel) _ fun j => ?_
  blk_simp
  rw [after0_14]
  exact (acc14 H 15 _ j).trans (congrArg Real.toEReal (all_rows fun t => dlo Q K V' Z A O R W B G t (j 1)))
theorem arr15 : (dats m 0 c).arrAt 15 cfg0.N
    = (fun j => ((∑ t ∈ range 4096, ∑ h ∈ range 4, gg1 Z A O t h (j 1) : ℝ) : EReal) : Vec Ideal S1x256 .f32) := by
  refine (dats m 0 c).arrAt_eq_of_after_last 15 t0_15 (by decide +kernel) _ fun j => ?_
  blk_simp
  rw [after0_15]
  exact (acc15 H 15 _ j).trans (congrArg Real.toEReal (all_rows fun t => ∑ h ∈ range 4, gg1 Z A O t h (j 1)))
/-- The low-rank input's gradient, block by block. -/
theorem arr12 : (dats m 0 c).arrAt 12 cfg0.N
    = (fun j => ((∑ i ∈ range 512, dlo Q K V' Z A O R W B G (j 0) i * W (j 1) i : ℝ) : EReal) : Vec Ideal S4096x128 .bf16) := by
  refine (dats m 0 c).arrAt_eq_of_coversWhere_of_agree 12 _ (fun β => True) (by decide +kernel) (fun t hf y => ?_) (fun j hj => ?_)
  · blk_simp [idx t]
    rw [after0_12]
    refine (out12_apply H t _).trans ?_
    rw [Nat.mul_comm (15 - t.val) 256]
  · exact absurd trivial hj
/-- The columns of the queries, keys, values and gates; the rest of the buffer as it was. -/
theorem arr11 : (dats m 0 c).arrAt 11 cfg0.N
    = w11 (m ((c : Thread nD τ).loc main_arg11)) (o11 Q K V' Z A O R W B G) := by
  refine (dats m 0 c).arrAt_eq_of_coversWhere_of_agree 11 _ (fun β => β (1 : Fin 2) = 1) (by decide +kernel) (fun t hf y => ?_) (fun j hj => ?_)
  · blk_simp [idx t]
    rw [after0_11]
    refine (out11_apply H t _).trans ?_
    have h1 : ((cfg0.win 11).xinj (cfg0.grid.coords t) y 1).val < 3072 := ((cfg0.win 11).xinj (cfg0.grid.coords t) y 1).isLt
    refine (w11_in _ _ _ _ _ ?_ ?_ h1).symm
    · blk_simp [idx t]
      change (15 - t.val) * 256 + (y 0).val = 256 * (15 - t.val) + (y 0).val
      rw [Nat.mul_comm]
    · exact col11 t y
  · blk_simp [Pipeline.Window.cell_apply] at hj
    have h2 : ((cfg0.win 11).arr.view.emb j 1).val < 3072 ∨ 6144 ≤ ((cfg0.win 11).arr.view.emb j 1).val := by
      change (j 1).val < 3072 ∨ 6144 ≤ (j 1).val
      omega
    refine Eq.trans ?_ (w11_out _ _ _ h2).symm
    exact congrFun ((A_eq m c 11).trans (V_main_arg11' m c)) _
end Arrays
end Cert.GlaVal
end
-- ==== Proof.Gla.Recur.lean ====
module

public import proofs.«01_k».proof.Proof.Gla.Real

@[expose] public section

noncomputable section

/-! The recurrence over the chunks, as reference.py's scan states it, has the closed sums as its states and outputs: `nextState`
is the scan's step from a state to the next one, `chunkOut` the outputs of a chunk. (`uA` is the chunk's masked scores, with the
factors taken from the chunk's middle.) -/

namespace Cert.GlaVal

open Finset

section Recur

variable (q k v g : ℕ → ℕ → ℝ)

/-- The state after chunk `n`, from the state `S` before it. -/
def nextState (n : ℕ) (S : ℕ → ℕ → ℝ) (e c : ℕ) : ℝ :=
  Real.exp (bt g n 63 c) * S e c + ∑ j ∈ range 64, (k (64 * n + j) c * Real.exp (bt g n 63 c - bt g n j c)) * v (64 * n + j) e

/-- The outputs of chunk `n`: of its own positions by the scores, of earlier ones by the state `S` before it. -/
def chunkOut (n : ℕ) (S : ℕ → ℕ → ℝ) (i e : ℕ) : ℝ :=
  (∑ j ∈ range 64, uA q k g n i j * v (64 * n + j) e) + ∑ c ∈ range 128, (q (64 * n + i) c * Real.exp (bt g n i c)) * S e c

theorem nextState_stt (n : ℕ) (hn : n < 64) (e c : ℕ) : nextState k v g n (stt k v g n) e c = stt k v g (n + 1) e c := by
  have h := sum_le (fun s => v s e * (k s c * decS g (n + 1) s c)) n 63 hn (by norm_num)
  have e1 : stt k v g (n + 1) e c = ∑ s ∈ range 4096, if s ≤ 64 * n + 63 then v s e * (k s c * decS g (n + 1) s c) else 0 :=
    Finset.sum_congr rfl fun s _ => if_congr (by omega) rfl rfl
  rw [e1, h]
  unfold nextState stt
  rw [add_comm, Finset.mul_sum]
  refine congrArg₂ (· + ·) (Finset.sum_congr rfl fun j hj => ?_) (Finset.sum_congr rfl fun s _ => ?_)
  · rw [if_pos (by have := Finset.mem_range.1 hj; omega), decS_chunk]; ring
  · split_ifs
    · rw [decS_succ]; ring
    · ring

theorem chunkOut_stt (n : ℕ) (hn : n < 64) (i e : ℕ) (hi : i < 64) :
    chunkOut q k v g n (stt k v g n) i e = out q k v g (64 * n + i) e := by
  unfold chunkOut out
  rw [sum_le _ n i hn hi]
  refine congrArg₂ (· + ·) (Finset.sum_congr rfl fun j _ => ?_) ?_
  · unfold uA
    split_ifs
    · unfold sc
      refine congrArg (· * _) (Finset.sum_congr rfl fun c _ => ?_)
      rw [dec_chunk]; ring
    · ring
  · unfold stt
    simp only [Finset.mul_sum]
    rw [Finset.sum_comm]
    refine Finset.sum_congr rfl fun s _ => ?_
    split_ifs
    · unfold sc
      rw [Finset.sum_mul]
      refine Finset.sum_congr rfl fun c _ => ?_
      rw [dec_split g _ s n, decT_chunk]; ring
    · simp

/-- Whatever states the recurrence goes through from zero, they are the closed sums `stt`, and its outputs are `out`. -/
theorem recurrence (S : ℕ → ℕ → ℕ → ℝ) (h0 : S 0 = fun _ _ => 0) (hS : ∀ n < 64, S (n + 1) = nextState k v g n (S n)) :
    (∀ n ≤ 64, S n = stt k v g n) ∧ ∀ n < 64, ∀ i < 64, ∀ e, chunkOut q k v g n (S n) i e = out q k v g (64 * n + i) e := by
  have hs : ∀ n ≤ 64, S n = stt k v g n := by
    intro n
    induction n with
    | zero =>
      intro _
      rw [h0]
      funext e c
      exact (Finset.sum_eq_zero fun s _ => if_neg (by omega)).symm
    | succ n ih =>
      intro hn
      rw [hS n (by omega), ih (by omega)]
      funext e c
      exact nextState_stt k v g n (by omega) e c
  exact ⟨hs, fun n hn i hi e => by rw [hs n (by omega)]; exact chunkOut_stt q k v g n hn i e hi⟩

end Recur

end Cert.GlaVal
-- ==== Proof.Gla.Ref5.lean ====
module

public import proofs.«01_k».proof.Proof.Gla.Ref4

@[expose] public section

noncomputable section

/-! The reference's first result: the columns that it joins. -/

namespace Cert.GlaVal

open Cert.GlaRefIdeal Cert.GlaRefIdeal.Gen Cert.GlaRefIdeal.Read Idealize.ShloMosaic Idealize.ShloMosaic.TcCoe
open Finset

section Columns

/-- The six pieces that the reference joins. -/
abbrev pieces (x1 x2 : (⟨S1x4096x512, .f32⟩ : BufTy).Contents (Elt Ideal)) (x3 x4 x10 : (⟨S1x4096x1024, .f32⟩ : BufTy).Contents (Elt Ideal))
    (x6 : (⟨S1x4096x16, .f32⟩ : BufTy).Contents (Elt Ideal)) (x7 : (⟨S1x16x512, .f32⟩ : BufTy).Contents (Elt Ideal))
    (x8 : (⟨S1x512, .f32⟩ : BufTy).Contents (Elt Ideal)) (x9 : (⟨S1x256, .f32⟩ : BufTy).Contents (Elt Ideal))
    (x11 : (⟨S4096x8192, .bf16⟩ : BufTy).Contents (Elt Ideal)) :
    List ((s : Shape) × (s.Idx → Elt Ideal .bf16)) :=
  [⟨S4096x3072, val_main_v173 (F := Ideal) x11⟩, ⟨S4096x512, val_main_v166 (F := Ideal) x1 x2 x3 x4 x6 x7 x8 x9 x10⟩, ⟨S4096x512, val_main_v168 (F := Ideal) x1 x2 x3 x4 x6 x7 x8 x9 x10⟩, ⟨S4096x1024, val_main_v170 (F := Ideal) x1 x2 x3 x4 x6 x7 x8 x9 x10⟩, ⟨S4096x1024, val_main_v172 (F := Ideal) x1 x2 x3 x4 x6 x7 x8 x9 x10⟩, ⟨S4096x2048, val_main_v174 (F := Ideal) x11⟩]

variable (x1 x2 : (⟨S1x4096x512, .f32⟩ : BufTy).Contents (Elt Ideal)) (x3 x4 : (⟨S1x4096x1024, .f32⟩ : BufTy).Contents (Elt Ideal))
  (x6 : (⟨S1x4096x16, .f32⟩ : BufTy).Contents (Elt Ideal)) (x7 : (⟨S1x16x512, .f32⟩ : BufTy).Contents (Elt Ideal))
  (x8 : (⟨S1x512, .f32⟩ : BufTy).Contents (Elt Ideal)) (x9 : (⟨S1x256, .f32⟩ : BufTy).Contents (Elt Ideal))
  (x10 : (⟨S1x4096x1024, .f32⟩ : BufTy).Contents (Elt Ideal)) (x11 : (⟨S4096x8192, .bf16⟩ : BufTy).Contents (Elt Ideal))

theorem v175_eq : val_main_v175 (F := Ideal) x1 x2 x3 x4 x6 x7 x8 x9 x10 x11 = concatenate S4096x8192 1 (pieces x1 x2 x3 x4 x10 x6 x7 x8 x9 x11) concatenates_S4096x3072_S4096x512_S4096x512_S4096x1024_S4096x1024_S4096x2048_S4096x8192_d1 := rfl
/-- A place of the joined columns, by its row and its column. -/
def at2 (r : Fin 4096) (e : Fin 8192) : S4096x8192.Idx := fun a => match a with | ⟨0, _⟩ => r | ⟨1, _⟩ => e
theorem v175_0 (r : Fin 4096) (d : Fin 3072) (e : Fin 8192) (he : e.val = 0 + d.val) : val_main_v175 (F := Ideal) x1 x2 x3 x4 x6 x7 x8 x9 x10 x11 (at2 r e)
    = val_main_v173 (F := Ideal) x11 (fun a => match a with | ⟨0, _⟩ => r | ⟨1, _⟩ => d) := by
  rw [v175_eq]
  refine concatenate_apply_piece (t := S4096x8192) 1 (pieces x1 x2 x3 x4 x10 x6 x7 x8 x9 x11) _ (at2 r e) 0 (by change 0 < 6; decide) S4096x3072
    (val_main_v173 (F := Ideal) x11) rfl rfl 0 rfl (fun a => match a with | ⟨0, _⟩ => r | ⟨1, _⟩ => d) ?_ ?_
  · intro q hq
    match q with
    | 0 => rfl
    | 1 => exact absurd rfl hq
  · exact he.symm
theorem v175_1 (r : Fin 4096) (d : Fin 512) (e : Fin 8192) (he : e.val = 3072 + d.val) : val_main_v175 (F := Ideal) x1 x2 x3 x4 x6 x7 x8 x9 x10 x11 (at2 r e)
    = val_main_v166 (F := Ideal) x1 x2 x3 x4 x6 x7 x8 x9 x10 (fun a => match a with | ⟨0, _⟩ => r | ⟨1, _⟩ => d) := by
  rw [v175_eq]
  refine concatenate_apply_piece (t := S4096x8192) 1 (pieces x1 x2 x3 x4 x10 x6 x7 x8 x9 x11) _ (at2 r e) 1 (by change 1 < 6; decide) S4096x512
    (val_main_v166 (F := Ideal) x1 x2 x3 x4 x6 x7 x8 x9 x10) rfl rfl 3072 rfl (fun a => match a with | ⟨0, _⟩ => r | ⟨1, _⟩ => d) ?_ ?_
  · intro q hq
    match q with
    | 0 => rfl
    | 1 => exact absurd rfl hq
  · exact he.symm
theorem v175_2 (r : Fin 4096) (d : Fin 512) (e : Fin 8192) (he : e.val = 3584 + d.val) : val_main_v175 (F := Ideal) x1 x2 x3 x4 x6 x7 x8 x9 x10 x11 (at2 r e)
    = val_main_v168 (F := Ideal) x1 x2 x3 x4 x6 x7 x8 x9 x10 (fun a => match a with | ⟨0, _⟩ => r | ⟨1, _⟩ => d) := by
  rw [v175_eq]
  refine concatenate_apply_piece (t := S4096x8192) 1 (pieces x1 x2 x3 x4 x10 x6 x7 x8 x9 x11) _ (at2 r e) 2 (by change 2 < 6; decide) S4096x512
    (val_main_v168 (F := Ideal) x1 x2 x3 x4 x6 x7 x8 x9 x10) rfl rfl 3584 rfl (fun a => match a with | ⟨0, _⟩ => r | ⟨1, _⟩ => d) ?_ ?_
  · intro q hq
    match q with
    | 0 => rfl
    | 1 => exact absurd rfl hq
  · exact he.symm
theorem v175_3 (r : Fin 4096) (d : Fin 1024) (e : Fin 8192) (he : e.val = 4096 + d.val) : val_main_v175 (F := Ideal) x1 x2 x3 x4 x6 x7 x8 x9 x10 x11 (at2 r e)
    = val_main_v170 (F := Ideal) x1 x2 x3 x4 x6 x7 x8 x9 x10 (fun a => match a with | ⟨0, _⟩ => r | ⟨1, _⟩ => d) := by
  rw [v175_eq]
  refine concatenate_apply_piece (t := S4096x8192) 1 (pieces x1 x2 x3 x4 x10 x6 x7 x8 x9 x11) _ (at2 r e) 3 (by change 3 < 6; decide) S4096x1024
    (val_main_v170 (F := Ideal) x1 x2 x3 x4 x6 x7 x8 x9 x10) rfl rfl 4096 rfl (fun a => match a with | ⟨0, _⟩ => r | ⟨1, _⟩ => d) ?_ ?_
  · intro q hq
    match q with
    | 0 => rfl
    | 1 => exact absurd rfl hq
  · exact he.symm
theorem v175_4 (r : Fin 4096) (d : Fin 1024) (e : Fin 8192) (he : e.val = 5120 + d.val) : val_main_v175 (F := Ideal) x1 x2 x3 x4 x6 x7 x8 x9 x10 x11 (at2 r e)
    = val_main_v172 (F := Ideal) x1 x2 x3 x4 x6 x7 x8 x9 x10 (fun a => match a with | ⟨0, _⟩ => r | ⟨1, _⟩ => d) := by
  rw [v175_eq]
  refine concatenate_apply_piece (t := S4096x8192) 1 (pieces x1 x2 x3 x4 x10 x6 x7 x8 x9 x11) _ (at2 r e) 4 (by change 4 < 6; decide) S4096x1024
    (val_main_v172 (F := Ideal) x1 x2 x3 x4 x6 x7 x8 x9 x10) rfl rfl 5120 rfl (fun a => match a with | ⟨0, _⟩ => r | ⟨1, _⟩ => d) ?_ ?_
  · intro q hq
    match q with
    | 0 => rfl
    | 1 => exact absurd rfl hq
  · exact he.symm
theorem v175_5 (r : Fin 4096) (d : Fin 2048) (e : Fin 8192) (he : e.val = 6144 + d.val) : val_main_v175 (F := Ideal) x1 x2 x3 x4 x6 x7 x8 x9 x10 x11 (at2 r e)
    = val_main_v174 (F := Ideal) x11 (fun a => match a with | ⟨0, _⟩ => r | ⟨1, _⟩ => d) := by
  rw [v175_eq]
  refine concatenate_apply_piece (t := S4096x8192) 1 (pieces x1 x2 x3 x4 x10 x6 x7 x8 x9 x11) _ (at2 r e) 5 (by change 5 < 6; decide) S4096x2048
    (val_main_v174 (F := Ideal) x11) rfl rfl 6144 (show 3072 + (512 + (512 + (1024 + (1024 + 0)))) = 6144 from rfl) (fun a => match a with | ⟨0, _⟩ => r | ⟨1, _⟩ => d) ?_ ?_
  · intro q hq
    match q with
    | 0 => rfl
    | 1 => exact absurd rfl hq
  · exact he.symm

end Columns

section Joined
variable {x1 x2 : (⟨S1x4096x512, .f32⟩ : BufTy).Contents (Elt Ideal)} {x3 x4 x10 : (⟨S1x4096x1024, .f32⟩ : BufTy).Contents (Elt Ideal)}
  {x6 : (⟨S1x4096x16, .f32⟩ : BufTy).Contents (Elt Ideal)} {x7 : (⟨S1x16x512, .f32⟩ : BufTy).Contents (Elt Ideal)}
  {x8 : (⟨S1x512, .f32⟩ : BufTy).Contents (Elt Ideal)} {x9 : (⟨S1x256, .f32⟩ : BufTy).Contents (Elt Ideal)}
  {Q K V Z A R W : ℕ → ℕ → ℝ} {B G : ℕ → ℝ}
  (H : GA x1 x2 x3 x4 x10 x6 x7 x8 x9 Q K V Z A R W B G)
include H

variable (x11 : (⟨S4096x8192, .bf16⟩ : BufTy).Contents (Elt Ideal))
include H

/-- The joined columns: the attention's and the gates' gradients in their places, the other columns as they were. -/
theorem v175_at : val_main_v175 (F := Ideal) x1 x2 x3 x4 x6 x7 x8 x9 x10 x11
    = fun j => if (j 1).val < 3072 ∨ 6144 ≤ (j 1).val then x11 j else ((o11 Q K V Z A (OO Q K V R W B) R W B G (j 0) ((j 1) - 3072) : ℝ) : EReal) := by
  funext j
  obtain ⟨r, e, rfl⟩ : ∃ (r : Fin 4096) (e : Fin 8192), j = at2 r e :=
    ⟨j 0, j 1, funext fun q => match q with | ⟨0, _⟩ => rfl | ⟨1, _⟩ => rfl⟩
  change _ = if e.val < 3072 ∨ 6144 ≤ e.val then x11 (at2 r e) else ((o11 Q K V Z A (OO Q K V R W B) R W B G r (e.val - 3072) : ℝ) : EReal)
  have he := e.isLt
  by_cases h0 : e.val < 3072
  · rw [if_pos (Or.inl h0), v175_0 x1 x2 x3 x4 x6 x7 x8 x9 x10 x11 r ⟨e.val, h0⟩ e (Nat.zero_add _).symm, val_main_v173_apply]
    refine congrArg x11 (funext fun a => Fin.ext ?_)
    match a with
    | ⟨0, _⟩ => rfl
    | ⟨1, _⟩ => rfl
  by_cases h5 : 6144 ≤ e.val
  · rw [if_pos (Or.inr h5), v175_5 x1 x2 x3 x4 x6 x7 x8 x9 x10 x11 r ⟨e.val - 6144, by omega⟩ e (by change _ = 6144 + (e.val - 6144); omega), val_main_v174_apply]
    refine congrArg x11 (funext fun a => Fin.ext ?_)
    match a with
    | ⟨0, _⟩ => rfl
    | ⟨1, _⟩ => change 6144 + (e.val - 6144) = e.val; omega
  rw [if_neg (by omega)]
  by_cases h1 : e.val < 3584
  · rw [v175_1 x1 x2 x3 x4 x6 x7 x8 x9 x10 x11 r ⟨e.val - 3072, by omega⟩ e (by change _ = 3072 + (e.val - 3072); omega), v166_at H]
  by_cases h2 : e.val < 4096
  · rw [v175_2 x1 x2 x3 x4 x6 x7 x8 x9 x10 x11 r ⟨e.val - 3584, by omega⟩ e (by change _ = 3584 + (e.val - 3584); omega), v168_at H]
    have f : 512 + (e.val - 3584) = e.val - 3072 := by omega
    exact congrArg (fun n => ((o11 Q K V Z A (OO Q K V R W B) R W B G r n : ℝ) : EReal)) f
  by_cases h3 : e.val < 5120
  · rw [v175_3 x1 x2 x3 x4 x6 x7 x8 x9 x10 x11 r ⟨e.val - 4096, by omega⟩ e (by change _ = 4096 + (e.val - 4096); omega), v170_at H]
    have f : 1024 + (e.val - 4096) = e.val - 3072 := by omega
    exact congrArg (fun n => ((o11 Q K V Z A (OO Q K V R W B) R W B G r n : ℝ) : EReal)) f
  · rw [v175_4 x1 x2 x3 x4 x6 x7 x8 x9 x10 x11 r ⟨e.val - 5120, by omega⟩ e (by change _ = 5120 + (e.val - 5120); omega), v172_at H]
    have f : 2048 + (e.val - 5120) = e.val - 3072 := by omega
    exact congrArg (fun n => ((o11 Q K V Z A (OO Q K V R W B) R W B G r n : ℝ) : EReal)) f

end Joined

end Cert.GlaVal
end
-- ==== Proof.Gla.Finite.lean ====
module

public import proofs.«01_k».proof.Defs
public import proofs.«01_k».proof.Proof.Gen.Pre_gla_finite
public import proofs.«01_k».proof.Proof.Mixer.Finite
public import proofs.«01_k».proof.Proof.Gla.Ref

@[expose] public section

noncomputable section

/-! The attention's precondition read: every argument that reaches a gradient holds real numbers. -/

namespace Cert.GlaVal

open Idealize.ShloMosaic Idealize.ShloMosaic.TcCoe
open Cert.Mix (real_of_abs_lt andi_one exists_of_coords exists_row)

/-- An array all of whose entries compare below the infinity in absolute value holds reals. -/
theorem reals_of_all {s u : Shape} {axes : List (Fin s.rank)} {h : s.ReducesTo axes Cert.Pre_gla_finite.S_} {hu : 0 < u.numel}
    (x y : FVec Ideal s .f32) (hy : ∀ i, y i = Ideal.ofBits .f32 0x7F800000#32) (init : u.Idx → BitVec 1) (j : Cert.Pre_gla_finite.S_.Idx)
    (e : Host.reduce IntOp.andi (cmpf .olt (Host.absf x) y) init h hu j = 1#1) (i : s.Idx) : ∃ r : ℝ, x i = (r : EReal) := by
  haveI : Subsingleton Cert.Pre_gla_finite.S_.Idx := ⟨fun a b => funext fun q => q.elim0⟩
  have q := Host.reduce_andi_all _ _ h hu j e i
  refine real_of_abs_lt (x i) ?_
  rw [← hy i]
  exact q

open Cert.Pre_gla_finite in
/-- The precondition's value read: each of the nine arrays holds reals. -/
theorem reals_of_pre (x0 : FVec Ideal S4096x3072 .f32) (x1 x2 : FVec Ideal S1x4096x512 .f32) (x3 x4 : FVec Ideal S1x4096x1024 .f32)
    (x5 : FVec Ideal S4096x2048 .f32) (x6 : FVec Ideal S1x4096x16 .f32) (x7 : FVec Ideal S1x16x512 .f32) (x8 : FVec Ideal S1x512 .f32)
    (x9 : FVec Ideal S1x256 .f32) (x10 : FVec Ideal S1x4096x1024 .f32) (x11 : FVec Ideal S4096x8192 .bf16)
    (h : Cert.Pre_gla_finite.fn (F := Ideal) x0 x1 x2 x3 x4 x5 x6 x7 x8 x9 x10 x11 = fun _ => 1#1) :
    (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x6 i = (r : EReal)) ∧ (∀ i, ∃ r : ℝ, x7 i = (r : EReal))
    ∧ (∀ i, ∃ r : ℝ, x8 i = (r : EReal)) ∧ (∀ i, ∃ r : ℝ, x9 i = (r : EReal)) ∧ ∀ i, ∃ r : ℝ, x10 i = (r : EReal) := by
  have e := congrFun h (fun q => q.elim0)
  unfold Cert.Pre_gla_finite.fn Cert.Pre_gla_finite.fn_part1 Cert.Pre_gla_finite.fn_part2 at e
  dsimp only [andi] at e
  obtain ⟨e, e10⟩ := (andi_one _ _).1 e
  obtain ⟨e, e9⟩ := (andi_one _ _).1 e
  obtain ⟨e, e8⟩ := (andi_one _ _).1 e
  obtain ⟨e, e7⟩ := (andi_one _ _).1 e
  obtain ⟨e, e6⟩ := (andi_one _ _).1 e
  obtain ⟨e, e4⟩ := (andi_one _ _).1 e
  obtain ⟨e, e3⟩ := (andi_one _ _).1 e
  obtain ⟨e1, e2⟩ := (andi_one _ _).1 e
  exact ⟨reals_of_all _ _ (fun _ => rfl) _ _ e1, reals_of_all _ _ (fun _ => rfl) _ _ e2, reals_of_all _ _ (fun _ => rfl) _ _ e3,
    reals_of_all _ _ (fun _ => rfl) _ _ e4, reals_of_all _ _ (fun _ => rfl) _ _ e6, reals_of_all _ _ (fun _ => rfl) _ _ e7,
    reals_of_all _ _ (fun _ => rfl) _ _ e8, reals_of_all _ _ (fun _ => rfl) _ _ e9, reals_of_all _ _ (fun _ => rfl) _ _ e10⟩

/-- A family of reals on a batch of one matrix, zero past its places. -/
theorem exists_mat0 {n k : ℕ} (x : (⟨3, ![1, n, k]⟩ : Shape).Idx → EReal) (h : ∀ i, ∃ r : ℝ, x i = (r : EReal)) :
    ∃ f : ℕ → ℕ → ℝ, (∀ j, x j = ((f (j 1) (j 2) : ℝ) : EReal)) ∧ (∀ a b, n ≤ a → f a b = 0) ∧ ∀ a b, k ≤ b → f a b = 0 := by
  obtain ⟨f, hf⟩ := Cert.Mix.exists_mat x h
  refine ⟨fun a b => if a < n ∧ b < k then f a b else 0, fun j => ?_, fun a b ha => if_neg fun hn => ?_, fun a b hb => if_neg fun hn => ?_⟩
  · exact (hf j).trans (congrArg Real.toEReal (if_pos (c := (j 1).val < n ∧ (j 2).val < k) ⟨(j 1).isLt, (j 2).isLt⟩).symm)
  · omega
  · omega

open Cert.Pre_gla_finite in
/-- The precondition gives the reals that the arguments hold. -/
theorem args_of_pre (x0 : FVec Ideal S4096x3072 .f32) (x1 x2 : FVec Ideal S1x4096x512 .f32) (x3 x4 : FVec Ideal S1x4096x1024 .f32)
    (x5 : FVec Ideal S4096x2048 .f32) (x6 : FVec Ideal S1x4096x16 .f32) (x7 : FVec Ideal S1x16x512 .f32) (x8 : FVec Ideal S1x512 .f32)
    (x9 : FVec Ideal S1x256 .f32) (x10 : FVec Ideal S1x4096x1024 .f32) (x11 : FVec Ideal S4096x8192 .bf16)
    (h : Cert.Pre_gla_finite.fn (F := Ideal) x0 x1 x2 x3 x4 x5 x6 x7 x8 x9 x10 x11 = fun _ => 1#1) :
    ∃ (Q K V Z A R W : ℕ → ℕ → ℝ) (B G : ℕ → ℝ), GA x1 x2 x3 x4 x10 x6 x7 x8 x9 Q K V Z A R W B G := by
  obtain ⟨h1, h2, h3, h4, h6, h7, h8, h9, h10⟩ := reals_of_pre x0 x1 x2 x3 x4 x5 x6 x7 x8 x9 x10 x11 h
  obtain ⟨Q, hQ⟩ := Cert.Mix.exists_mat x1 h1
  obtain ⟨K, hK⟩ := Cert.Mix.exists_mat x2 h2
  obtain ⟨V, hV⟩ := Cert.Mix.exists_mat x3 h3
  obtain ⟨Z, hZ⟩ := Cert.Mix.exists_mat x4 h4
  obtain ⟨A, hA⟩ := Cert.Mix.exists_mat x10 h10
  obtain ⟨R, hR, -, hR0⟩ := exists_mat0 x6 h6
  obtain ⟨W, hW, hW0, -⟩ := exists_mat0 x7 h7
  obtain ⟨B, hB⟩ := exists_row x8 h8
  obtain ⟨G, hG⟩ := exists_row x9 h9
  exact ⟨Q, K, V, Z, A, R, W, B, G, ⟨hQ, hK, hV, hZ, hA, hR, hW, hB, hG, hR0, hW0⟩⟩

end Cert.GlaVal
end
-- ==== Proof.Gla.Claims.lean ====
module

public import proofs.«01_k».proof.Defs
public import proofs.«01_k».proof.Proof.Gla.Arrays
public import proofs.«01_k».proof.Proof.Gla.Recur
public import proofs.«01_k».proof.Proof.Gla.Ref5
public import proofs.«01_k».proof.Proof.Gla.Finite
public import proofs.«01_k».proof.Proof.Gen.Gla.Frame
public import proofs.«01_k».proof.Proof.Gen.GlaIdeal.Value
public import Idealize.ShloMosaic.Lib.Claim
public import Idealize.ShloMosaic.Lib.Quiescent

@[expose] public section

noncomputable section

/-! The claims on the attention's backward call: its frames, and that its five results are the reference's. -/

namespace Cert.GlaVal

open Cert.GlaRefIdeal Cert.GlaRefIdeal.Gen Cert.GlaRefIdeal.Read Idealize.ShloMosaic Idealize.ShloMosaic.TcCoe
open Finset

theorem frame_p : Cert.quiescent_Gla := fun m g _ => Cert.Gla.Gen.frame m g
theorem frame_pi : Cert.quiescent_GlaIdeal := fun m g _ => Cert.GlaIdeal.Gen.frame m g
theorem frame_pi_finite : Cert.quiescent_GlaIdeal_pre_gla_finite := fun m g _ => Cert.GlaIdeal.Gen.frame m g
theorem frame_ri : Cert.quiescent_GlaRefIdeal := fun m g _ =>
  (θ_run Cert.GlaRefIdeal.defs _ _).mono (fun r h => ⟨fun c => (h c).2.2.2.2.2, sem_eq_zero_of_no_sems (by decide) r.2⟩)
    (Cert.GlaRefIdeal.Value.run (F := Ideal) m g)
theorem frame_ri_finite : Cert.quiescent_GlaRefIdeal_pre_gla_finite := fun m g _ => frame_ri m g trivial

/-- Of arguments that hold reals, the kernel's five results are the reference's. -/
theorem algebraic : Cert.algebraic_GlaIdeal_GlaRefIdeal_pre_gla_finite := by
  intro m g m' g' hpre hag
  have real : ∀ c, ∃ (Q K V Z A R W : ℕ → ℕ → ℝ) (B G : ℕ → ℝ), Args m c Q K V Z A R W B G :=
    fun c => args_of_pre _ _ _ _ _ _ _ _ _ _ _ _ (hpre c)
  refine ⟨_, _, _, _, _, Cert.GlaIdeal.Value.run_blocks m g, (θ_run Cert.GlaRefIdeal.defs _ _).mono (fun r h c => ?_) (Cert.GlaRefIdeal.Value.run (F := Ideal) m' g')⟩
  obtain ⟨Q, K, V, Z, A, R, W, B, G, I⟩ := real c
  obtain ⟨e0, e1, e2, e3, e4, e5, e6, e7, e8, e9, e10, e11⟩ := hag c
  have H : GA (m' ((c.tc : Thread nD τ).loc main_arg1)) (m' ((c.tc : Thread nD τ).loc main_arg2)) (m' ((c.tc : Thread nD τ).loc main_arg3))
      (m' ((c.tc : Thread nD τ).loc main_arg4)) (m' ((c.tc : Thread nD τ).loc main_arg10)) (m' ((c.tc : Thread nD τ).loc main_arg6))
      (m' ((c.tc : Thread nD τ).loc main_arg7)) (m' ((c.tc : Thread nD τ).loc main_arg8)) (m' ((c.tc : Thread nD τ).loc main_arg9)) Q K V Z A R W B G :=
    ⟨fun j => (congrFun e1 j).trans (I.r1 j), fun j => (congrFun e2 j).trans (I.r2 j), fun j => (congrFun e3 j).trans (I.r3 j),
      fun j => (congrFun e4 j).trans (I.r4 j), fun j => (congrFun e10 j).trans (I.r10 j), fun j => (congrFun e6 j).trans (I.r6 j),
      fun j => (congrFun e7 j).trans (I.r7 j), fun j => (congrFun e8 j).trans (I.r8 j), fun j => (congrFun e9 j).trans (I.r9 j), I.hR, I.hW⟩
  obtain ⟨h0, h1, h2, h3, h4, hargs⟩ := h c
  refine ⟨h0.trans ?_, h1.trans ?_, h2.trans ?_, h3.trans ?_, h4.trans ?_, hargs⟩
  · refine (val_main_v175_eq (StableHlo.launchContents m' c)).trans ((v175_at H _).trans ?_)
    exact Eq.trans (congrArg (fun x : Vec Ideal S4096x8192 .bf16 => w11 x (o11 Q K V Z A (OO Q K V R W B) R W B G)) e11) (arr11 (ins I)).symm
  · exact (val_main_v178_eq (StableHlo.launchContents m' c)).trans ((funext (v178_at H)).trans (arr12 (ins I)).symm)
  · exact (val_main_v180_eq (StableHlo.launchContents m' c)).trans ((funext (v180_at H)).trans (arr13 (ins I)).symm)
  · exact (val_main_v160_eq (StableHlo.launchContents m' c)).trans ((funext (v160_at H)).trans (arr14 (ins I)).symm)
  · exact (val_main_v106_eq (StableHlo.launchContents m' c)).trans ((funext (v106_at H)).trans (arr15 (ins I)).symm)

end Cert.GlaVal
-- ==== Proof.Dx.Real.lean ====
module

public import proofs.«01_k».proof.Proof.Gla.Real

@[expose] public section

noncomputable section

/-! The mathematics of the norm over a row of 1024 values, and of the input projection behind it, over the reals. -/

namespace Cert.RowNorm

open Finset
open Cert.GlaVal (eps eps_pos)

/-- The norm of a row: the mean square, its reciprocal root, the normed row. -/
def ms (o : ℕ → ℝ) : ℝ := (∑ e ∈ range 1024, o e * o e) / 1024
def rr (o : ℕ → ℝ) : ℝ := (Real.sqrt (ms o + eps))⁻¹
def oh (o : ℕ → ℝ) (e : ℕ) : ℝ := o e * rr o

theorem ms_eps_pos (o : ℕ → ℝ) : 0 < ms o + eps :=
  add_pos_of_nonneg_of_pos (div_nonneg (Finset.sum_nonneg fun e _ => mul_self_nonneg (o e)) (by norm_num)) eps_pos

/-- The gradient of the norm's row from the gradient `y` of its result. -/
def dn (o y : ℕ → ℝ) (e : ℕ) : ℝ := rr o * (y e - oh o e * ((∑ a ∈ range 1024, y a * oh o a) / 1024))

theorem rr_mul (o : ℕ → ℝ) : rr o * rr o = (ms o + eps)⁻¹ := by
  unfold rr
  rw [← mul_inv, Real.mul_self_sqrt (ms_eps_pos o).le]

/-- The norm's gradient as the derivative of a mean square under a root adds it up. -/
theorem dn_ref (o y : ℕ → ℝ) (e : ℕ) :
    y e * rr o + o e * ((∑ a ∈ range 1024, o a * y a) * (-(1 / 2) * (rr o * (rr o * rr o))) / 1024)
      + (∑ a ∈ range 1024, o a * y a) * (-(1 / 2) * (rr o * (rr o * rr o))) / 1024 * o e = dn o y e := by
  have h : (∑ a ∈ range 1024, y a * oh o a) = (∑ a ∈ range 1024, o a * y a) * rr o := by
    rw [Finset.sum_mul]
    exact Finset.sum_congr rfl fun a _ => by unfold oh; ring
  unfold dn
  rw [h]; unfold oh; ring

/-! ### The input projection -/

section Projection

variable (M L S : ℕ → ℕ → ℝ) (W : ℕ → ℕ → ℝ)

/-- The gradient of the projection's columns: 6144 columns of the mixers, 16 of the gate's code, 2048 of the merge's gates. -/
def pcol (t j : ℕ) : ℝ := if j < 6144 then M t j else if j < 6160 then L t (j - 6144) else S t (j - 6160)

/-- The gradient of the normed row `t`: the projection's columns against the weights, whose column `j` is `W · j`. -/
def dhid (t c : ℕ) : ℝ := ∑ j ∈ range 8208, pcol M L S t j * W c j

/-- The call's three products, the code's padded with zeros to 128 columns. -/
theorem dhid_split (t c : ℕ) : dhid M L S W t c
    = ((∑ j ∈ range 6144, M t j * W c j) + ∑ j ∈ range 2048, S t j * W c (6160 + j))
      + ∑ j ∈ range 128, (if j < 16 then L t j else 0) * W c (6144 + j) := by
  unfold dhid
  rw [show 8208 = 6144 + (16 + 2048) from rfl, Finset.sum_range_add, Finset.sum_range_add,
    show 128 = 16 + 112 from rfl, Finset.sum_range_add (fun j => (if j < 16 then L t j else 0) * W c (6144 + j)) 16 112]
  have h1 : (∑ j ∈ range 6144, pcol M L S t j * W c j) = ∑ j ∈ range 6144, M t j * W c j :=
    Finset.sum_congr rfl fun j hj => by unfold pcol; rw [if_pos (Finset.mem_range.1 hj)]
  have h2 : (∑ j ∈ range 16, pcol M L S t (6144 + j) * W c (6144 + j)) = ∑ j ∈ range 16, (if j < 16 then L t j else 0) * W c (6144 + j) :=
    Finset.sum_congr rfl fun j hj => by
      have := Finset.mem_range.1 hj
      unfold pcol
      rw [if_neg (by omega), if_pos (by omega), if_pos this, Nat.add_sub_cancel_left]
  have h3 : (∑ j ∈ range 2048, pcol M L S t (6144 + (16 + j)) * W c (6144 + (16 + j))) = ∑ j ∈ range 2048, S t j * W c (6160 + j) :=
    Finset.sum_congr rfl fun j hj => by
      unfold pcol
      rw [if_neg (by omega), if_neg (by omega), show 6144 + (16 + j) = 6160 + j by omega, Nat.add_sub_cancel_left]
  have h4 : (∑ j ∈ range 112, (if 16 + j < 16 then L t (16 + j) else 0) * W c (6144 + (16 + j))) = 0 :=
    Finset.sum_eq_zero fun j _ => by rw [if_neg (by omega), zero_mul]
  rw [h1, h2, h3, h4]; ring

end Projection

end Cert.RowNorm
-- ==== Proof.Dx.Step.lean ====
module

public import proofs.«01_k».proof.Proof.Dx.Real
public import proofs.«01_k».proof.Proof.Gla.Ref2
public import proofs.«01_k».proof.Proof.Gen.DxIdeal.Value
public import Idealize.ShloMosaic.Lib.Pipeline.ValueKit
public import Idealize.ShloMosaic.Lib.Pointwise

@[expose] public section

noncomputable section

/-! What a step of the first norm's backward call computes from its blocks, over the reals. -/

namespace Cert.DxVal

open Cert.DxIdeal Cert.DxIdeal.Gen Idealize.ShloMosaic Idealize.ShloMosaic.TcCoe
open Cert.RowNorm
open Cert.Mix (coe_sum_range)
open Finset

section Block
variable {x : Vec Ideal S256x1024 .f32} {X : ℕ → ℕ → ℝ} (hx : ∀ j, x j = ((X (j 0) (j 1) : ℝ) : EReal))
include hx

/-- The reciprocal root of each row's mean square. -/
theorem pay5_at (j) : k0_pay5 (F := Ideal) x j = ((rr (X (j 0)) : ℝ) : EReal) := by
  unfold_payloads
  pointwise [Mix.word_1024, GlaVal.word_eps]
  simp only [hx, ← EReal.coe_mul]
  have e : (∑ k : Fin 1024, ((X (j 0) k * X (j 0) k : ℝ) : EReal)) = _ := (coe_sum_range 1024 fun k => X (j 0) k * X (j 0) k).symm
  refine (congrArg (fun s => Ideal.rsqrt (Ideal.div s ((1024 : ℝ) : EReal) + ((GlaVal.eps : ℝ) : EReal))) e).trans ?_
  rw [Mix.div_1024, ← EReal.coe_add]
  have hp : 0 < (∑ k ∈ range 1024, X (j 0) k * X (j 0) k) / 1024 + GlaVal.eps := ms_eps_pos (X (j 0))
  rw [Ideal.rsqrt_coe, if_neg hp.not_gt, if_neg hp.ne']
  rfl
/-- The normed rows. -/
theorem pay6_at (j) : k0_pay6 (F := Ideal) x j = ((oh (X (j 0)) (j 1) : ℝ) : EReal) := by
  unfold k0_pay6 k0_pay4
  pointwise
  rw [pay5_at hx, hx, ← EReal.coe_mul]
  rfl

variable {d : FVec Ideal S256x1024 .f32} {D : ℕ → ℕ → ℝ} (hd : ∀ j, d j = ((D (j 0) (j 1) : ℝ) : EReal))
include hd

/-- The scale's gradient: the old one and this block's rows. -/
theorem pay1_at (old : FVec Ideal S1x1024 .f32) (a : ℕ → ℝ) (ho : ∀ j, old j = ((a (j 1) : ℝ) : EReal)) (j) :
    k0_pay1 (F := Ideal) (k0_pay6 x) d old j = ((a (j 1) + ∑ i ∈ range 256, D i (j 1) * oh (X i) (j 1) : ℝ) : EReal) := by
  unfold k0_pay1
  pointwise
  rw [ho, EReal.coe_add, coe_sum_range]
  refine congrArg (_ + ·) (Finset.sum_congr rfl fun k _ => ?_)
  rw [hd, pay6_at hx, ← EReal.coe_mul]
  rfl

variable {g : Vec Ideal S1x1024 .f32} {G : ℕ → ℝ} (hg : ∀ j, g j = ((G (j 1) : ℝ) : EReal))
  {y : Vec Ideal S256x1024 .f32} {Y : ℕ → ℕ → ℝ} (hy : ∀ j, y j = ((Y (j 0) (j 1) : ℝ) : EReal))
include hg hy

/-- The rows' gradient: the residual's and the norm's. -/
theorem pay2_at (j) : k0_pay2 (F := Ideal) (k0_pay5 x) (k0_pay6 x) d g y j
    = ((Y (j 0) (j 1) + dn (X (j 0)) (fun c => D (j 0) c * G c) (j 1) : ℝ) : EReal) := by
  unfold k0_pay2
  pointwise [Mix.word_1024]
  simp only [hd, hg, hy, pay5_at hx, pay6_at hx, ← EReal.coe_mul]
  have e : (∑ k : Fin 1024, ((D (j 0) k * G k * oh (X (j 0)) k : ℝ) : EReal)) = _ :=
    (coe_sum_range 1024 fun k => D (j 0) k * G k * oh (X (j 0)) k).symm
  refine (congrArg (fun s => ((Y (j 0) (j 1) : ℝ) : EReal) + ((rr (X (j 0)) : ℝ) : EReal) * (((D (j 0) (j 1) * G (j 1) : ℝ) : EReal)
    - ((oh (X (j 0)) (j 1) : ℝ) : EReal) * Ideal.div s ((1024 : ℝ) : EReal))) e).trans ?_
  rw [Mix.div_1024, ← EReal.coe_mul, ← EReal.coe_sub, ← EReal.coe_mul, ← EReal.coe_add]
  rfl
end Block

section Products
variable {p : Vec Ideal S256x8192 .bf16} {l : Vec Ideal S256x128 .bf16} {w : Vec Ideal S8208x1024 .bf16} {P L W : ℕ → ℕ → ℝ}
  (hp : ∀ j, p j = ((P (j 0) (j 1) : ℝ) : EReal)) (hl : ∀ j, l j = ((L (j 0) (j 1) : ℝ) : EReal))
  (hw : ∀ j, w j = ((W (j 1) (j 0) : ℝ) : EReal))

/-- The parts of a block's columns and of the weights' rows that the three products take. -/
abbrev rP0 : Rect S256x8192 := Rect.unit ![0, 0] S256x6144.size inb_S256x8192_S256x6144_0_0
abbrev rP1 : Rect S256x8192 := Rect.unit ![0, 6144] S256x2048.size inb_S256x8192_S256x2048_0_6144
abbrev rW0 : Rect S8208x1024 := Rect.unit ![0, 0] S6144x1024.size inb_S8208x1024_S6144x1024_0_0
abbrev rW1 : Rect S8208x1024 := Rect.unit ![6160, 0] S2048x1024.size inb_S8208x1024_S2048x1024_6160_0
abbrev rW2 : Rect S8208x1024 := Rect.unit ![6144, 0] S128x1024.size inb_S8208x1024_S128x1024_6144_0

/-- The gradient of the block's normed rows: the three products added. -/
def dhB (p : Vec Ideal S256x8192 .bf16) (l : Vec Ideal S256x128 .bf16) (w : Vec Ideal S8208x1024 .bf16) : FVec Ideal S256x1024 .f32 :=
  k0_pay7 (F := Ideal) (View.ld p rP0) (View.ld w rW0) (View.ld p rP1) (View.ld w rW1) l (View.ld w rW2)

/-- A product of two matrices, at the reals they hold. -/
theorem prod_at {n : ℕ} {a b : Fin n → EReal} {f g : ℕ → ℝ} (ha : ∀ k, a k = ((f k : ℝ) : EReal)) (hb : ∀ k, b k = ((g k : ℝ) : EReal)) :
    ∑ k : Fin n, a k * b k = ((∑ k ∈ range n, f k * g k : ℝ) : EReal) := by
  rw [coe_sum_range]
  refine Finset.sum_congr rfl fun k _ => ?_
  rw [ha, hb, ← EReal.coe_mul]

include hp hl hw
theorem dhB_at (j) : dhB p l w j
    = (((∑ k ∈ range 6144, P (j 0) k * W (j 1) k) + (∑ k ∈ range 2048, P (j 0) (6144 + k) * W (j 1) (6160 + k))
      + ∑ k ∈ range 128, L (j 0) k * W (j 1) (6144 + k) : ℝ) : EReal) := by
  have e0 : ∀ i, View.ld p rP0 i = ((P (i 0) (i 1) : ℝ) : EReal) := fun i => by
    rw [View.ld_apply, hp]
    exact congrArg₂ (fun a b => ((P a b : ℝ) : EReal)) ((Rect.idx_unit_val ..).trans (Nat.zero_add _)) ((Rect.idx_unit_val ..).trans (Nat.zero_add _))
  have e1 : ∀ i, View.ld p rP1 i = ((P (i 0) (6144 + i 1) : ℝ) : EReal) := fun i => by
    rw [View.ld_apply, hp]
    exact congrArg₂ (fun a b => ((P a b : ℝ) : EReal)) ((Rect.idx_unit_val ..).trans (Nat.zero_add _)) (Rect.idx_unit_val ..)
  have f0 : ∀ i, View.ld w rW0 i = ((W (i 1) (i 0) : ℝ) : EReal) := fun i => by
    rw [View.ld_apply, hw]
    exact congrArg₂ (fun a b => ((W a b : ℝ) : EReal)) ((Rect.idx_unit_val ..).trans (Nat.zero_add _)) ((Rect.idx_unit_val ..).trans (Nat.zero_add _))
  have f1 : ∀ i, View.ld w rW1 i = ((W (i 1) (6160 + i 0) : ℝ) : EReal) := fun i => by
    rw [View.ld_apply, hw]
    exact congrArg₂ (fun a b => ((W a b : ℝ) : EReal)) ((Rect.idx_unit_val ..).trans (Nat.zero_add _)) (Rect.idx_unit_val ..)
  have f2 : ∀ i, View.ld w rW2 i = ((W (i 1) (6144 + i 0) : ℝ) : EReal) := fun i => by
    rw [View.ld_apply, hw]
    exact congrArg₂ (fun a b => ((W a b : ℝ) : EReal)) ((Rect.idx_unit_val ..).trans (Nat.zero_add _)) (Rect.idx_unit_val ..)
  unfold dhB k0_pay7
  generalize View.ld p rP0 = a0 at e0 ⊢
  generalize View.ld p rP1 = a1 at e1 ⊢
  generalize View.ld w rW0 = b0 at f0 ⊢
  generalize View.ld w rW1 = b1 at f1 ⊢
  generalize View.ld w rW2 = b2 at f2 ⊢
  pointwise
  rw [EReal.coe_add, EReal.coe_add]
  refine congrArg₂ (· + ·) (congrArg₂ (· + ·) ?_ ?_) ?_
  · exact prod_at (f := fun k => P (j 0) k) (g := fun k => W (j 1) k) (fun k => e0 _) (fun k => f0 _)
  · exact prod_at (f := fun k => P (j 0) (6144 + k)) (g := fun k => W (j 1) (6160 + k)) (fun k => e1 _) (fun k => f1 _)
  · exact prod_at (f := fun k => L (j 0) k) (g := fun k => W (j 1) (6144 + k)) (fun k => hl _) (fun k => f2 _)
end Products

section Outs
variable (m : (ℓ : Loc nD τ sig) → Buf (Elt Ideal) ℓ) (c : Dev nD) (t : Fin cfg0.N)
theorem outs6_A (h0 : t.val % 16 = 0) : (outsAt0 m c t.val t.isLt).1
    = k0_pay2 (F := Ideal) (k0_pay5 (iblk m c 0 t)) (k0_pay6 (iblk m c 0 t)) (dhB (iblk m c 2 t) (iblk m c 3 t) (iblk m c 5 t)) (iblk m c 4 t) (iblk m c 1 t) := by
  rw [outsAt0_A m c t h0]
  funext y
  frame_out
  rfl
theorem outs7_A (h0 : t.val % 16 = 0) : (outsAt0 m c t.val t.isLt).2
    = k0_pay1 (F := Ideal) (k0_pay6 (iblk m c 0 t)) (dhB (iblk m c 2 t) (iblk m c 3 t) (iblk m c 5 t)) (k0_pay8 (k0_pay3 (F := Ideal))) := by
  rw [outsAt0_A m c t h0]
  funext y
  frame_out
  rfl
theorem outs6_B (h0 : ¬t.val % 16 = 0) : (outsAt0 m c t.val t.isLt).1
    = k0_pay2 (F := Ideal) (k0_pay5 (iblk m c 0 t)) (k0_pay6 (iblk m c 0 t)) (dhB (iblk m c 2 t) (iblk m c 3 t) (iblk m c 5 t)) (iblk m c 4 t) (iblk m c 1 t) := by
  rw [outsAt0_B m c t h0]
  funext y
  frame_out
  rfl
theorem outs7_B (h0 : ¬t.val % 16 = 0) : (outsAt0 m c t.val t.isLt).2
    = k0_pay1 (F := Ideal) (k0_pay6 (iblk m c 0 t)) (dhB (iblk m c 2 t) (iblk m c 3 t) (iblk m c 5 t))
      (k0_pay8 ((outsAt0 m c (t.val - 1) (Nat.lt_of_le_of_lt (Nat.sub_le _ _) t.isLt)).2)) := by
  rw [outsAt0_B m c t h0]
  funext y
  frame_out
  rfl
end Outs
end Cert.DxVal
-- ==== Proof.Dx.Arrays.lean ====
module

public import proofs.«01_k».proof.Proof.Dx.Step
public import proofs.«01_k».proof.Proof.Gla.Arrays

@[expose] public section

noncomputable section

/-! The first norm's backward call: the blocks that its steps read hold the arguments' reals, and what they write fills the results. -/

namespace Cert.DxVal

open Cert.DxIdeal Cert.DxIdeal.Gen Idealize.ShloMosaic Idealize.ShloMosaic.TcCoe
open Cert.RowNorm
open Cert.Mix (coe_sum_range)
open Cert.GlaVal (flat3 zero_word)
open Finset

/-- The arguments hold reals: the layer's input, the norm's scale, the projection's weights, the residual's cotangent, and the
    cotangents of the projection's columns: the mixers', the decays' code's, the gates'. -/
structure DA (x0 x3 : (⟨S1x4096x1024, .f32⟩ : BufTy).Contents (Elt Ideal)) (x1 : (⟨S1x1024, .f32⟩ : BufTy).Contents (Elt Ideal))
    (x2 : (⟨S1x1024x8208, .f32⟩ : BufTy).Contents (Elt Ideal)) (x4 : (⟨S1x4096x6144, .f32⟩ : BufTy).Contents (Elt Ideal))
    (x5 : (⟨S1x4096x16, .f32⟩ : BufTy).Contents (Elt Ideal)) (x6 : (⟨S1x4096x2048, .f32⟩ : BufTy).Contents (Elt Ideal))
    (X Y W M L S : ℕ → ℕ → ℝ) (G : ℕ → ℝ) : Prop where
  r0 : ∀ j, x0 j = ((X (j 1) (j 2) : ℝ) : EReal)
  r1 : ∀ j, x1 j = ((G (j 1) : ℝ) : EReal)
  r2 : ∀ j, x2 j = ((W (j 1) (j 2) : ℝ) : EReal)
  r3 : ∀ j, x3 j = ((Y (j 1) (j 2) : ℝ) : EReal)
  r4 : ∀ j, x4 j = ((M (j 1) (j 2) : ℝ) : EReal)
  r5 : ∀ j, x5 j = ((L (j 1) (j 2) : ℝ) : EReal)
  r6 : ∀ j, x6 j = ((S (j 1) (j 2) : ℝ) : EReal)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

section Entry
variable (m : (ℓ : Loc nD τ sig) → Buf (Elt Ideal) ℓ) (c : Dev nD)

theorem V_v2 : (V m c main_v2 : Vec Ideal S8208x1024 .bf16) = transpose S8208x1024 [1, 0]
    (shapeCast _ (m ((c : Thread nD τ).loc main_arg2) : Vec Ideal S1x1024x8208 .f32) shapeCasts_S1x1024x8208_S1024x8208) transposes_S1024x8208_S8208x1024_1_0 := by
  unfold V
  entry_read
  rfl
/-- The pieces of the gathered columns. -/
abbrev pcs : List ((s : Shape) × (s.Idx → Elt Ideal .f32)) :=
  [⟨S4096x6144, (shapeCast _ (m ((c : Thread nD τ).loc main_arg4) : Vec Ideal S1x4096x6144 .f32) shapeCasts_S1x4096x6144_S4096x6144 : Vec Ideal S4096x6144 .f32)⟩,
    ⟨S4096x2048, (shapeCast _ (m ((c : Thread nD τ).loc main_arg6) : Vec Ideal S1x4096x2048 .f32) shapeCasts_S1x4096x2048_S4096x2048 : Vec Ideal S4096x2048 .f32)⟩]
theorem V_v6 : (V m c main_v6 : Vec Ideal S4096x8192 .bf16) = concatenate S4096x8192 1 (pcs m c) concatenates_S4096x6144_S4096x2048_S4096x8192_d1 := by
  unfold V
  entry_read
  rfl
theorem V_v9 : (V m c main_v9 : Vec Ideal S4096x128 .bf16) = pad S4096x128 ![0, 0] ![0, 112] ![0, 0]
    (shapeCast _ (m ((c : Thread nD τ).loc main_arg5) : Vec Ideal S1x4096x16 .f32) shapeCasts_S1x4096x16_S4096x16)
    (sitofp (F := Ideal) .f32 (constantI S_ 32 0#32)) pads_S4096x16_S4096x128_000_01120 h_S_ := by
  unfold V
  entry_read
  rfl
theorem V_v10 : (V m c main_v10 : Vec Ideal S4096x1024 .f32)
    = shapeCast _ (m ((c : Thread nD τ).loc main_arg0) : Vec Ideal S1x4096x1024 .f32) shapeCasts_S1x4096x1024_S4096x1024 := by
  unfold V
  entry_read
  rfl
theorem V_v11 : (V m c main_v11 : Vec Ideal S4096x1024 .f32)
    = shapeCast _ (m ((c : Thread nD τ).loc main_arg3) : Vec Ideal S1x4096x1024 .f32) shapeCasts_S1x4096x1024_S4096x1024 := by
  unfold V
  entry_read
  rfl

abbrev Args (X Y W M L S : ℕ → ℕ → ℝ) (G : ℕ → ℝ) : Prop :=
  DA (m ((c : Thread nD τ).loc main_arg0)) (m ((c : Thread nD τ).loc main_arg3)) (m ((c : Thread nD τ).loc main_arg1))
    (m ((c : Thread nD τ).loc main_arg2)) (m ((c : Thread nD τ).loc main_arg4)) (m ((c : Thread nD τ).loc main_arg5))
    (m ((c : Thread nD τ).loc main_arg6)) X Y W M L S G

/-- Row `i` of block `t`, among all rows. -/
abbrev rowOf (t : Fin cfg0.N) (i : Fin 256) : Fin 4096 := ⟨256 * t.val + i.val, by have h := t.isLt; change t.val < 16 at h; omega⟩
variable (t : Fin cfg0.N)
theorem iblk0_apply (j : S256x1024.Idx) : (iblk m c 0 t : Vec Ideal S256x1024 .f32) j = (V m c main_v10 : Vec Ideal S4096x1024 .f32) (ix2 (rowOf t (j 0)) (j 1)) := by
  blk_ext [iblk, idx t]
theorem iblk1_apply (j : S256x1024.Idx) : (iblk m c 1 t : Vec Ideal S256x1024 .f32) j = (V m c main_v11 : Vec Ideal S4096x1024 .f32) (ix2 (rowOf t (j 0)) (j 1)) := by
  blk_ext [iblk, idx t]
theorem iblk2_apply (j : S256x8192.Idx) : (iblk m c 2 t : Vec Ideal S256x8192 .bf16) j = (V m c main_v6 : Vec Ideal S4096x8192 .bf16) (ix2 (rowOf t (j 0)) (j 1)) := by
  blk_ext [iblk, idx t]
theorem iblk3_apply (j : S256x128.Idx) : (iblk m c 3 t : Vec Ideal S256x128 .bf16) j = (V m c main_v9 : Vec Ideal S4096x128 .bf16) (ix2 (rowOf t (j 0)) (j 1)) := by
  blk_ext [iblk, idx t]
theorem iblk4_apply (j : S1x1024.Idx) : (iblk m c 4 t : Vec Ideal S1x1024 .f32) j = (m ((c : Thread nD τ).loc main_arg1) : Vec Ideal S1x1024 .f32) j := by
  blk_ext! [iblk, V, idx t]
theorem iblk5_apply (j : S8208x1024.Idx) : (iblk m c 5 t : Vec Ideal S8208x1024 .bf16) j = (V m c main_v2 : Vec Ideal S8208x1024 .bf16) (ix2 (j 0) (j 1)) := by
  blk_ext [iblk, idx t]

variable {m c}
variable {X Y W M L S : ℕ → ℕ → ℝ} {G : ℕ → ℝ} (H : Args m c X Y W M L S G)
include H

theorem v2_at (j : S8208x1024.Idx) : (V m c main_v2 : Vec Ideal S8208x1024 .bf16) j = ((W (j 1) (j 0) : ℝ) : EReal) := by
  rw [V_v2]
  refine (transpose_apply _ _ _ j (ix2 (j 1) (j 0) : S1024x8208.Idx) fun b => ?_).trans ((flat3 _ _ _).trans (H.r2 _))
  match b with
  | ⟨0, _⟩ => rfl
  | ⟨1, _⟩ => rfl
/-- The mixers' columns and, behind them, the gates'. -/
def PC (M S : ℕ → ℕ → ℝ) (t e : ℕ) : ℝ := if e < 6144 then M t e else S t (e - 6144)
theorem v6_at (j : S4096x8192.Idx) : (V m c main_v6 : Vec Ideal S4096x8192 .bf16) j = ((PC M S (j 0) (j 1) : ℝ) : EReal) := by
  have hj : (j 1).val < 8192 := (j 1).isLt
  rw [V_v6]
  unfold PC
  by_cases h : (j 1).val < 6144
  · rw [if_pos h]
    refine (concatenate_apply_piece (t := S4096x8192) 1 (pcs m c) _ j 0 (by change 0 < 2; decide) S4096x6144
      (shapeCast _ (m ((c : Thread nD τ).loc main_arg4) : Vec Ideal S1x4096x6144 .f32) shapeCasts_S1x4096x6144_S4096x6144) rfl rfl 0 rfl (ix2 (j 0) ⟨(j 1).val, h⟩) ?_ ?_).trans ?_
    · intro q hq
      match q with
      | 0 => rfl
      | 1 => exact absurd rfl hq
    · exact Nat.zero_add _
    · exact (flat3 _ _ _).trans (H.r4 _)
  · rw [if_neg h]
    refine (concatenate_apply_piece (t := S4096x8192) 1 (pcs m c) _ j 1 (by change 1 < 2; decide) S4096x2048
      (shapeCast _ (m ((c : Thread nD τ).loc main_arg6) : Vec Ideal S1x4096x2048 .f32) shapeCasts_S1x4096x2048_S4096x2048) rfl rfl 6144 rfl (ix2 (j 0) ⟨(j 1).val - 6144, by omega⟩) ?_ ?_).trans ?_
    · intro q hq
      match q with
      | 0 => rfl
      | 1 => exact absurd rfl hq
    · change 6144 + ((j 1).val - 6144) = (j 1).val
      omega
    · exact (flat3 _ _ _).trans (H.r6 _)
theorem v9_at (j : S4096x128.Idx) : (V m c main_v9 : Vec Ideal S4096x128 .bf16) j = (((if (j 1).val < 16 then L (j 0) (j 1) else 0) : ℝ) : EReal) := by
  rw [V_v9]
  by_cases h : (j 1).val < 16
  · rw [if_pos h, pad_apply_of_inside _ _ _ _ _ _ _ j (ix2 (j 0) ⟨(j 1).val, h⟩ : S4096x16.Idx) fun a => by
      match a with
      | ⟨0, _⟩ => change (j 0).val = 0 + (j 0).val * (0 + 1); omega
      | ⟨1, _⟩ => change (j 1).val = 0 + (j 1).val * (0 + 1); omega]
    exact (flat3 _ _ _).trans (H.r5 (ix3 0 (j 0) ⟨(j 1).val, h⟩))
  · rw [if_neg h, pad_apply_of_not_inside _ _ _ _ _ _ _ j (1 : Fin 2) fun hn => h (by
      have := hn.2.2
      change ((j 1).val - 0) / (0 + 1) < 16 at this
      omega)]
    exact zero_word
theorem v10_at (j : S4096x1024.Idx) : (V m c main_v10 : Vec Ideal S4096x1024 .f32) j = ((X (j 0) (j 1) : ℝ) : EReal) := by
  rw [V_v10]
  exact (flat3 _ _ _).trans (H.r0 _)
theorem v11_at (j : S4096x1024.Idx) : (V m c main_v11 : Vec Ideal S4096x1024 .f32) j = ((Y (j 0) (j 1) : ℝ) : EReal) := by
  rw [V_v11]
  exact (flat3 _ _ _).trans (H.r3 _)

theorem b0 (j) : (iblk m c 0 t : Vec Ideal S256x1024 .f32) j = ((X (256 * t.val + (j 0).val) (j 1) : ℝ) : EReal) :=
  (iblk0_apply m c t j).trans (v10_at H _)
theorem b1 (j) : (iblk m c 1 t : Vec Ideal S256x1024 .f32) j = ((Y (256 * t.val + (j 0).val) (j 1) : ℝ) : EReal) :=
  (iblk1_apply m c t j).trans (v11_at H _)
theorem b2 (j) : (iblk m c 2 t : Vec Ideal S256x8192 .bf16) j = ((PC M S (256 * t.val + (j 0).val) (j 1) : ℝ) : EReal) :=
  (iblk2_apply m c t j).trans (v6_at H _)
theorem b3 (j) : (iblk m c 3 t : Vec Ideal S256x128 .bf16) j = (((if (j 1).val < 16 then L (256 * t.val + (j 0).val) (j 1) else 0) : ℝ) : EReal) :=
  (iblk3_apply m c t j).trans (v9_at H _)
theorem b4 (j) : (iblk m c 4 t : Vec Ideal S1x1024 .f32) j = ((G (j 1) : ℝ) : EReal) := (iblk4_apply m c t j).trans (H.r1 _)
theorem b5 (j) : (iblk m c 5 t : Vec Ideal S8208x1024 .bf16) j = ((W (j 1) (j 0) : ℝ) : EReal) := (iblk5_apply m c t j).trans (v2_at H _)

/-- A step's gradient of its normed rows. -/
theorem dh_at (j) : dhB (iblk m c 2 t) (iblk m c 3 t) (iblk m c 5 t) j = ((dhid M L S W (256 * t.val + (j 0).val) (j 1) : ℝ) : EReal) := by
  rw [dhB_at (P := fun a b => PC M S (256 * t.val + a) b) (L := fun a b => if b < 16 then L (256 * t.val + a) b else 0) (b2 t H) (b3 t H) (b5 t H), dhid_split]
  refine congrArg Real.toEReal (congrArg₂ (· + ·) (congrArg₂ (· + ·) (Finset.sum_congr rfl fun k hk => ?_) (Finset.sum_congr rfl fun k _ => ?_)) rfl)
  · unfold PC; rw [if_pos (Finset.mem_range.1 hk)]
  · unfold PC; rw [if_neg (by omega), Nat.add_sub_cancel_left]

/-- The rows' gradient. -/
def DX (X Y W M L S : ℕ → ℕ → ℝ) (G : ℕ → ℝ) (t e : ℕ) : ℝ := Y t e + dn (X t) (fun c => dhid M L S W t c * G c) e
/-- A row's share of the scale's gradient. -/
def DG (X W M L S : ℕ → ℕ → ℝ) (t e : ℕ) : ℝ := dhid M L S W t e * oh (X t) e

theorem out6_apply (j : S256x1024.Idx) : (outsAt0 m c t.val t.isLt).1 j = ((DX X Y W M L S G (256 * t.val + (j 0).val) (j 1) : ℝ) : EReal) := by
  have e : (outsAt0 m c t.val t.isLt).1
      = k0_pay2 (F := Ideal) (k0_pay5 (iblk m c 0 t)) (k0_pay6 (iblk m c 0 t)) (dhB (iblk m c 2 t) (iblk m c 3 t) (iblk m c 5 t)) (iblk m c 4 t) (iblk m c 1 t) := by
    by_cases h0 : t.val % 16 = 0
    · exact outs6_A m c t h0
    · exact outs6_B m c t h0
  rw [e]
  exact pay2_at (X := fun a b => X (256 * t.val + a) b) (D := fun a b => dhid M L S W (256 * t.val + a) b) (Y := fun a b => Y (256 * t.val + a) b)
    (b0 t H) (dh_at t H) (b4 t H) (b1 t H) j

omit H in
theorem zero_old (j) : k0_pay8 (F := Ideal) (k0_pay3 (F := Ideal)) j = ((0 : ℝ) : EReal) := by
  unfold_payloads
  pointwise
  rfl
omit H in
theorem pay8_id (v : Vec Ideal S1x1024 .f32) (j) : k0_pay8 (F := Ideal) v j = v j := by
  unfold k0_pay8
  pointwise

theorem acc7 : ∀ (n : ℕ) (hn : n < cfg0.N) (j : S1x1024.Idx), (outsAt0 m c n hn).2 j
    = ((∑ t ∈ range (256 * (n + 1)), DG X W M L S t (j 1) : ℝ) : EReal)
  | 0, hn, j => by
    rw [outs7_A m c ⟨0, hn⟩ (Nat.zero_mod 16)]
    refine (pay1_at (X := fun a b => X (256 * 0 + a) b) (D := fun a b => dhid M L S W (256 * 0 + a) b) (b0 ⟨0, hn⟩ H) (dh_at ⟨0, hn⟩ H) _ (fun _ => 0) zero_old j).trans ?_
    simp only [Nat.mul_zero, Nat.zero_add, zero_add]
    rfl
  | n + 1, hn, j => by
    have hN : cfg0.N = 16 := rfl
    rw [outs7_B m c ⟨n + 1, hn⟩ (by change ¬(n + 1) % 16 = 0; omega)]
    refine (pay1_at (X := fun a b => X (256 * (n + 1) + a) b) (D := fun a b => dhid M L S W (256 * (n + 1) + a) b) (b0 ⟨n + 1, hn⟩ H) (dh_at ⟨n + 1, hn⟩ H) _
      (fun e => ∑ t ∈ range (256 * (n + 1)), DG X W M L S t e) (fun i => (pay8_id _ i).trans (acc7 n (Nat.lt_of_succ_lt hn) i)) j).trans ?_
    rw [show 256 * (n + 1 + 1) = 256 * (n + 1) + 256 by ring, Finset.sum_range_add]
    rfl

omit t
theorem arr6 : (dats m 0 c).arrAt 6 cfg0.N = (fun j => ((DX X Y W M L S G (j 0) (j 1) : ℝ) : EReal) : Vec Ideal S4096x1024 .f32) := by
  refine (dats m 0 c).arrAt_eq_of_coversWhere_of_agree 6 _ (fun β => True) (by decide +kernel) (fun t hf y => ?_) (fun j hj => ?_)
  · blk_simp [idx t]
    rw [after0_6]
    refine (out6_apply t H _).trans ?_
    rw [Nat.mul_comm t.val 256]
  · exact absurd trivial hj
theorem arr7 : (dats m 0 c).arrAt 7 cfg0.N = (fun j => ((∑ t ∈ range 4096, DG X W M L S t (j 1) : ℝ) : EReal) : Vec Ideal S1x1024 .f32) := by
  refine (dats m 0 c).arrAt_eq_of_after_last 7 t0_15 (by decide +kernel) _ fun j => ?_
  blk_simp
  rw [after0_7]
  exact acc7 H 15 _ _
end Entry
end Cert.DxVal
-- ==== Proof.Dx.Ref.lean ====
module

public import proofs.«01_k».proof.Proof.Dx.Arrays
public import proofs.«01_k».proof.Proof.Gen.DxRefIdeal.Read

@[expose] public section

noncomputable section

/-! The reference's values of the first norm's backward call, one operation at a time, at arguments that hold reals. -/

namespace Cert.DxVal

open Cert.DxRefIdeal Cert.DxRefIdeal.Gen Cert.DxRefIdeal.Read Idealize.ShloMosaic Idealize.ShloMosaic.TcCoe
open Cert.RowNorm
open Cert.Mix (coe_sum_range)
open Finset

section Values
variable {x0 x3 : (⟨S1x4096x1024, .f32⟩ : BufTy).Contents (Elt Ideal)} {x1 : (⟨S1x1024, .f32⟩ : BufTy).Contents (Elt Ideal)}
  {x2 : (⟨S1x1024x8208, .f32⟩ : BufTy).Contents (Elt Ideal)} {x4 : (⟨S1x4096x6144, .f32⟩ : BufTy).Contents (Elt Ideal)}
  {x5 : (⟨S1x4096x16, .f32⟩ : BufTy).Contents (Elt Ideal)} {x6 : (⟨S1x4096x2048, .f32⟩ : BufTy).Contents (Elt Ideal)}
  {X Y W M L S : ℕ → ℕ → ℝ} {G : ℕ → ℝ} (H : DA x0 x3 x1 x2 x4 x5 x6 X Y W M L S G)
include H

/-- The pieces of the projection's cotangent. -/
abbrev rcs (x4 : (⟨S1x4096x6144, .f32⟩ : BufTy).Contents (Elt Ideal)) (x5 : (⟨S1x4096x16, .f32⟩ : BufTy).Contents (Elt Ideal))
    (x6 : (⟨S1x4096x2048, .f32⟩ : BufTy).Contents (Elt Ideal)) : List ((s : Shape) × (s.Idx → Elt Ideal .f32)) :=
  [⟨S1x4096x6144, x4⟩, ⟨S1x4096x16, x5⟩, ⟨S1x4096x2048, x6⟩]
theorem v0_at (i : S1x4096x8208.Idx) : val_main_v0 (F := Ideal) x4 x5 x6 i = ((pcol M L S (i 1) (i 2) : ℝ) : EReal) := by
  have hi : (i 2).val < 8208 := (i 2).isLt
  have h0 : (i 0).val < 1 := (i 0).isLt
  unfold val_main_v0 pcol
  by_cases h : (i 2).val < 6144
  · rw [if_pos h]
    refine (concatenate_apply_piece (t := S1x4096x8208) 2 (rcs x4 x5 x6) _ i 0 (by change 0 < 3; decide) S1x4096x6144 x4 rfl rfl 0 rfl
      (ix3 0 (i 1) ⟨(i 2).val, h⟩) ?_ ?_).trans (H.r4 _)
    · intro q hq
      match q with
      | 0 => change 0 = (i 0).val; omega
      | 1 => rfl
      | 2 => exact absurd rfl hq
    · exact Nat.zero_add _
  · rw [if_neg h]
    by_cases h' : (i 2).val < 6160
    · rw [if_pos h']
      refine (concatenate_apply_piece (t := S1x4096x8208) 2 (rcs x4 x5 x6) _ i 1 (by change 1 < 3; decide) S1x4096x16 x5 rfl rfl 6144 rfl
        (ix3 0 (i 1) ⟨(i 2).val - 6144, by omega⟩) ?_ ?_).trans (H.r5 _)
      · intro q hq
        match q with
        | 0 => change 0 = (i 0).val; omega
        | 1 => rfl
        | 2 => exact absurd rfl hq
      · change 6144 + ((i 2).val - 6144) = (i 2).val
        omega
    · rw [if_neg h']
      refine (concatenate_apply_piece (t := S1x4096x8208) 2 (rcs x4 x5 x6) _ i 2 (by change 2 < 3; decide) S1x4096x2048 x6 rfl rfl 6160 rfl
        (ix3 0 (i 1) ⟨(i 2).val - 6160, by omega⟩) ?_ ?_).trans (H.r6 _)
      · intro q hq
        match q with
        | 0 => change 0 = (i 0).val; omega
        | 1 => rfl
        | 2 => exact absurd rfl hq
      · change 6160 + ((i 2).val - 6160) = (i 2).val
        omega

/-! ### The norm -/

theorem v3_at (i : S1x4096.Idx) : val_main_v3 (F := Ideal) x0 i = ((∑ e ∈ range 1024, X (i 1) e * X (i 1) e : ℝ) : EReal) := by
  rw [val_main_v3_apply, val_main_cst_apply, Ideal.ofBits_def, Ideal.ofBits_zero_f32, zero_add, coe_sum_range]
  refine Finset.sum_congr rfl fun k _ => ?_
  rw [val_main_v2_apply, H.r0, Ideal.mulf_def, ← EReal.coe_mul]
theorem v8_at (i : S1x4096x1.Idx) : val_main_v8 (F := Ideal) x0 i = ((ms (X (i 1)) + GlaVal.eps : ℝ) : EReal) := by
  rw [val_main_v8_apply, val_main_v6_apply, val_main_v4_apply, v3_at H, val_main_v5_apply, val_main_cst_0_apply, val_main_v7_apply,
    val_main_cst_1_apply, Ideal.ofBits_def, Mix.word_1024, Ideal.ofBits_def, GlaVal.word_eps, Ideal.hostDivf_def, Mix.div_1024, Ideal.addf_def, ← EReal.coe_add]
  rfl
theorem v9_at' (i : S1x4096x1.Idx) : val_main_v9 (F := Ideal) x0 i = ((rr (X (i 1)) : ℝ) : EReal) := by
  have hp := ms_eps_pos (X (i 1))
  rw [val_main_v9_apply, v8_at H, Ideal.hostUnary_rsqrt_def, Ideal.rsqrt_coe, if_neg hp.not_gt, if_neg hp.ne']
  rfl
theorem v12_at (i : S1x4096x1.Idx) : val_main_v12 (F := Ideal) x0 i
    = ((-(1 / 2) * (rr (X (i 1)) * (rr (X (i 1)) * rr (X (i 1)))) : ℝ) : EReal) := by
  have hp := ms_eps_pos (X (i 1))
  rw [val_main_v12_apply, val_main_v11_apply, val_main_cst_2_apply, val_main_v10_apply, v9_at' H, v8_at H, Ideal.ofBits_def, GlaVal.word_neg_half,
    Ideal.hostDivf_def, Mix.div_real _ _ hp.ne', Ideal.mulf_def, ← EReal.coe_mul, rr_mul]
theorem v14_at (i : S1x4096x1024.Idx) : val_main_v14 (F := Ideal) x0 i = ((oh (X (i 1)) (i 2) : ℝ) : EReal) := by
  rw [val_main_v14_apply, H.r0, val_main_v13_apply, v9_at' H, Ideal.mulf_def, ← EReal.coe_mul]
  rfl
theorem v15_at (i : S1x1x1024.Idx) : val_main_v15 (F := Ideal) x1 i = ((G (i 2) : ℝ) : EReal) := by
  have h2 : (i 2).val < 1024 := (i 2).isLt
  rw [val_main_v15_apply, val_main_v1_apply, H.r1]
  exact congrArg (fun n => ((G n : ℝ) : EReal)) (show (i 2).val % 1024 = (i 2).val by omega)

/-! ### The projection's gradient -/

theorem v18_at (i : S1024x8208.Idx) : val_main_v18 (F := Ideal) x2 i = ((W (i 0) (i 1) : ℝ) : EReal) := by
  have h0 : (i 0).val < 1024 := (i 0).isLt
  have h1 : (i 1).val < 8208 := (i 1).isLt
  rw [val_main_v18_apply, H.r2]
  exact congrArg₂ (fun a b => ((W a b : ℝ) : EReal)) (show ((i 0).val * 8208 + (i 1).val) / 8208 % 1024 = (i 0).val by omega)
    (show ((i 0).val * 8208 + (i 1).val) % 8208 = (i 1).val by omega)
theorem v20_at (i : S1x4096x1024.Idx) : val_main_v20 (F := Ideal) x2 x4 x5 x6 i = ((dhid M L S W (i 1) (i 2) : ℝ) : EReal) := by
  rw [val_main_v20_apply]
  exact prod_at (f := fun k => pcol M L S (i 1) k) (g := fun k => W (i 2) k) (fun k => v0_at H _) (fun k => v18_at H _)
theorem v21_at (i : S1x4096x1024.Idx) : val_main_v21 (F := Ideal) x0 x2 x4 x5 x6 i = ((DG X W M L S (i 1) (i 2) : ℝ) : EReal) := by
  rw [val_main_v21_apply, v14_at H, v20_at H, Ideal.mulf_def, ← EReal.coe_mul]
  exact congrArg _ (mul_comm _ _)
theorem v22_at (i : S1x1024.Idx) : val_main_v22 (F := Ideal) x0 x2 x4 x5 x6 i = ((∑ t ∈ range 4096, DG X W M L S t (i 1) : ℝ) : EReal) := by
  rw [val_main_v22_apply, val_main_cst_3_apply, Ideal.ofBits_def, Ideal.ofBits_zero_f32, zero_add, coe_sum_range]
  exact Finset.sum_congr rfl fun k _ => v21_at H _
/-- The gradient of the norm's scale. -/
theorem v43_at (i : S1x1024.Idx) : val_main_v43 (F := Ideal) x0 x2 x4 x5 x6 i = ((∑ t ∈ range 4096, DG X W M L S t (i 1) : ℝ) : EReal) := by
  have h1 : (i 1).val < 1024 := (i 1).isLt
  rw [val_main_v43_apply]
  unfold val_main_v26
  simp only [Host.reduceAdd, Ideal.hostReduceAdd_def]
  rw [Mix.reduce_by reducesTo_S1x1x1024_S1024_d0_1 _ _ (idx_main_v43 i) (κ := Unit) (fun _ a => match a with
    | ⟨0, _⟩ => ⟨0, Nat.one_pos⟩ | ⟨1, _⟩ => ⟨0, Nat.one_pos⟩ | ⟨2, _⟩ => i 1)
    (fun _ _ _ => rfl) ?_]
  · rw [val_main_cst_4_apply, Ideal.ofBits_def, Ideal.ofBits_zero_f32, zero_add, Fintype.sum_unique, val_main_v23_apply, v22_at H]
    refine congrArg (fun n => ((∑ t ∈ range 4096, DG X W M L S t n : ℝ) : EReal)) ?_
    change ((0 * 1 + 0) * 1024 + (i 1).val) % 1024 = (i 1).val
    omega
  · intro k
    have d0 := Shape.ReducesTo.drop_apply_val_of_eq reducesTo_S1x1x1024_S1024_d0_1 k 0 2
    have h0 : (k 0).val < 1 := (k 0).isLt
    have h1 : (k 1).val < 1 := (k 1).isLt
    constructor
    · intro e
      refine ⟨(), funext fun a => Fin.ext ?_⟩
      match a with
      | ⟨0, _⟩ => change 0 = (k 0).val; omega
      | ⟨1, _⟩ => change 0 = (k 1).val; omega
      | ⟨2, _⟩ => change ((idx_main_v43 i) 0).val = (k 2).val; rw [← e]; exact d0
    · rintro ⟨_, rfl⟩
      refine funext fun a => Fin.ext ?_
      match a with
      | ⟨0, _⟩ => exact d0

/-! ### The rows' gradient -/

theorem v25_at (i : S1x4096x1024.Idx) : val_main_v25 (F := Ideal) x1 x2 x4 x5 x6 i = ((dhid M L S W (i 1) (i 2) * G (i 2) : ℝ) : EReal) := by
  rw [val_main_v25_apply, v20_at H, val_main_v24_apply, v15_at H, Ideal.mulf_def, ← EReal.coe_mul]
theorem v28_at (i : S1x4096.Idx) : val_main_v28 (F := Ideal) x0 x1 x2 x4 x5 x6 i
    = ((∑ e ∈ range 1024, X (i 1) e * (dhid M L S W (i 1) e * G e) : ℝ) : EReal) := by
  rw [val_main_v28_apply, val_main_cst_5_apply, Ideal.ofBits_def, Ideal.ofBits_zero_f32, zero_add, coe_sum_range]
  refine Finset.sum_congr rfl fun k _ => ?_
  rw [val_main_v27_apply, H.r0, v25_at H, Ideal.mulf_def, ← EReal.coe_mul]
theorem v32_at (i : S1x4096x1024.Idx) : val_main_v32 (F := Ideal) x0 x1 x2 x3 x4 x5 x6 i
    = ((Y (i 1) (i 2) + dhid M L S W (i 1) (i 2) * G (i 2) * rr (X (i 1)) : ℝ) : EReal) := by
  rw [val_main_v32_apply, H.r3, val_main_v31_apply, v25_at H, val_main_v30_apply, v9_at' H, Ideal.mulf_def, ← EReal.coe_mul, Ideal.addf_def, ← EReal.coe_add]
theorem v35_at (i : S1x4096x1.Idx) : val_main_v35 (F := Ideal) x0 x1 x2 x4 x5 x6 i
    = (((∑ e ∈ range 1024, X (i 1) e * (dhid M L S W (i 1) e * G e)) * (-(1 / 2) * (rr (X (i 1)) * (rr (X (i 1)) * rr (X (i 1))))) / 1024 : ℝ) : EReal) := by
  have h1 : (i 1).val < 4096 := (i 1).isLt
  have h2 : (i 2).val < 1 := (i 2).isLt
  rw [val_main_v35_apply, val_main_v33_apply, val_main_v29_apply, v28_at H, v12_at H, val_main_v34_apply, val_main_cst_6_apply, Ideal.ofBits_def,
    Mix.word_1024, Ideal.mulf_def, ← EReal.coe_mul, Ideal.hostDivf_def, Mix.div_1024]
  refine congrArg Real.toEReal (congrArg (fun n => (∑ e ∈ range 1024, X n e * (dhid M L S W n e * G e)) * _ / 1024) ?_)
  change (((i 0).val * 4096 + (i 1).val) * 1 + (i 2).val) % 4096 = (i 1).val
  have h0 : (i 0).val < 1 := (i 0).isLt
  omega
theorem v37_at (i : S1x4096.Idx) : val_main_v37 (F := Ideal) x0 x1 x2 x4 x5 x6 i
    = (((∑ e ∈ range 1024, X (i 1) e * (dhid M L S W (i 1) e * G e)) * (-(1 / 2) * (rr (X (i 1)) * (rr (X (i 1)) * rr (X (i 1))))) / 1024 : ℝ) : EReal) := by
  rw [val_main_v37_apply]
  unfold val_main_v36
  simp only [Host.reduceAdd, Ideal.hostReduceAdd_def]
  rw [Mix.reduce_by reducesTo_S1x4096x1_S4096_d0_2 _ _ (idx_main_v37 i) (κ := Unit) (fun _ a => match a with
    | ⟨0, _⟩ => ⟨0, Nat.one_pos⟩ | ⟨1, _⟩ => i 1 | ⟨2, _⟩ => ⟨0, Nat.one_pos⟩)
    (fun _ _ _ => rfl) ?_]
  · rw [val_main_cst_7_apply, Ideal.ofBits_def, Ideal.ofBits_zero_f32, zero_add, Fintype.sum_unique, v35_at H]
  · intro k
    have d0 := Shape.ReducesTo.drop_apply_val_of_eq reducesTo_S1x4096x1_S4096_d0_2 k 0 1
    have h0 : (k 0).val < 1 := (k 0).isLt
    have h1 : (k 2).val < 1 := (k 2).isLt
    constructor
    · intro e
      refine ⟨(), funext fun a => Fin.ext ?_⟩
      match a with
      | ⟨0, _⟩ => change 0 = (k 0).val; omega
      | ⟨1, _⟩ => change ((idx_main_v37 i) 0).val = (k 1).val; rw [← e]; exact d0
      | ⟨2, _⟩ => change 0 = (k 2).val; omega
    · rintro ⟨_, rfl⟩
      refine funext fun a => Fin.ext ?_
      match a with
      | ⟨0, _⟩ => exact d0
/-- The gradient of the layer's input. -/
theorem v44_at (i : S4096x1024.Idx) : val_main_v44 (F := Ideal) x0 x1 x2 x3 x4 x5 x6 i = ((DX X Y W M L S G (i 0) (i 1) : ℝ) : EReal) := by
  have h0 : (i 0).val < 4096 := (i 0).isLt
  have h1 : (i 1).val < 1024 := (i 1).isLt
  have e : ∀ i : S1x4096x1024.Idx, val_main_v42 (F := Ideal) x0 x1 x2 x3 x4 x5 x6 i = ((DX X Y W M L S G (i 1) (i 2) : ℝ) : EReal) := fun i => by
    rw [val_main_v42_apply, val_main_v40_apply, v32_at H, val_main_v39_apply, val_main_v41_apply, H.r0, val_main_v38_apply, v37_at H]
    simp only [Ideal.mulf_def, ← EReal.coe_mul, Ideal.addf_def, ← EReal.coe_add]
    refine congrArg Real.toEReal ?_
    unfold DX
    rw [← dn_ref, ← add_assoc, ← add_assoc]
  rw [val_main_v44_apply, e]
  exact congrArg₂ (fun a b => ((DX X Y W M L S G a b : ℝ) : EReal)) (show ((i 0).val * 1024 + (i 1).val) / 1024 % 4096 = (i 0).val by omega)
    (show ((i 0).val * 1024 + (i 1).val) % 1024 = (i 1).val by omega)
end Values
end Cert.DxVal
-- ==== Proof.Dx.Finite.lean ====
module

public import proofs.«01_k».proof.Defs
public import proofs.«01_k».proof.Proof.Gen.Pre_dx_finite
public import proofs.«01_k».proof.Proof.Mixer.Finite
public import proofs.«01_k».proof.Proof.Dx.Arrays

@[expose] public section

noncomputable section

/-! The precondition of the first norm's backward call read: every argument holds real numbers. -/

namespace Cert.DxVal

open Idealize.ShloMosaic Idealize.ShloMosaic.TcCoe
open Cert.Mix (real_of_abs_lt andi_one exists_row exists_mat)

/-- An array all of whose entries compare below the infinity in absolute value holds reals. -/
theorem reals_of_all {s u : Shape} {axes : List (Fin s.rank)} {h : s.ReducesTo axes Cert.Pre_dx_finite.S_} {hu : 0 < u.numel}
    (x y : FVec Ideal s .f32) (hy : ∀ i, y i = Ideal.ofBits .f32 0x7F800000#32) (init : u.Idx → BitVec 1) (j : Cert.Pre_dx_finite.S_.Idx)
    (e : Host.reduce IntOp.andi (cmpf .olt (Host.absf x) y) init h hu j = 1#1) (i : s.Idx) : ∃ r : ℝ, x i = (r : EReal) := by
  haveI : Subsingleton Cert.Pre_dx_finite.S_.Idx := ⟨fun a b => funext fun q => q.elim0⟩
  have q := Host.reduce_andi_all _ _ h hu j e i
  refine real_of_abs_lt (x i) ?_
  rw [← hy i]
  exact q

open Cert.Pre_dx_finite in
/-- The precondition gives the reals that the arguments hold. -/
theorem args_of_pre (x0 : FVec Ideal S1x4096x1024 .f32) (x1 : FVec Ideal S1x1024 .f32) (x2 : FVec Ideal S1x1024x8208 .f32)
    (x3 : FVec Ideal S1x4096x1024 .f32) (x4 : FVec Ideal S1x4096x6144 .f32) (x5 : FVec Ideal S1x4096x16 .f32) (x6 : FVec Ideal S1x4096x2048 .f32)
    (h : Cert.Pre_dx_finite.fn (F := Ideal) x0 x1 x2 x3 x4 x5 x6 = fun _ => 1#1) :
    ∃ (X Y W M L S : ℕ → ℕ → ℝ) (G : ℕ → ℝ), DA x0 x3 x1 x2 x4 x5 x6 X Y W M L S G := by
  have e := congrFun h (fun q => q.elim0)
  unfold Cert.Pre_dx_finite.fn at e
  try unfold Cert.Pre_dx_finite.fn_part1 at e
  dsimp only [andi] at e
  obtain ⟨e, e6⟩ := (andi_one _ _).1 e
  obtain ⟨e, e5⟩ := (andi_one _ _).1 e
  obtain ⟨e, e4⟩ := (andi_one _ _).1 e
  obtain ⟨e, e3⟩ := (andi_one _ _).1 e
  obtain ⟨e, e2⟩ := (andi_one _ _).1 e
  obtain ⟨e0, e1⟩ := (andi_one _ _).1 e
  obtain ⟨X, hX⟩ := exists_mat x0 (reals_of_all _ _ (fun _ => rfl) _ _ e0)
  obtain ⟨G, hG⟩ := exists_row x1 (reals_of_all _ _ (fun _ => rfl) _ _ e1)
  obtain ⟨W, hW⟩ := exists_mat x2 (reals_of_all _ _ (fun _ => rfl) _ _ e2)
  obtain ⟨Y, hY⟩ := exists_mat x3 (reals_of_all _ _ (fun _ => rfl) _ _ e3)
  obtain ⟨M, hM⟩ := exists_mat x4 (reals_of_all _ _ (fun _ => rfl) _ _ e4)
  obtain ⟨L, hL⟩ := exists_mat x5 (reals_of_all _ _ (fun _ => rfl) _ _ e5)
  obtain ⟨S, hS⟩ := exists_mat x6 (reals_of_all _ _ (fun _ => rfl) _ _ e6)
  exact ⟨X, Y, W, M, L, S, G, ⟨hX, hG, hW, hY, hM, hL, hS⟩⟩

end Cert.DxVal
-- ==== Proof.Dx.Claims.lean ====
module

public import proofs.«01_k».proof.Defs
public import proofs.«01_k».proof.Proof.Dx.Ref
public import proofs.«01_k».proof.Proof.Dx.Finite
public import proofs.«01_k».proof.Proof.Gen.Dx.Frame
public import Idealize.ShloMosaic.Lib.Claim
public import Idealize.ShloMosaic.Lib.Quiescent

@[expose] public section

noncomputable section

/-! The claims on the first norm's backward call: its frames, and that its two results are the reference's. -/

namespace Cert.DxVal

open Cert.DxRefIdeal Cert.DxRefIdeal.Gen Cert.DxRefIdeal.Read Idealize.ShloMosaic Idealize.ShloMosaic.TcCoe
open Finset

theorem frame_p : Cert.quiescent_Dx := fun m g _ => Cert.Dx.Gen.frame m g
theorem frame_pi : Cert.quiescent_DxIdeal := fun m g _ => Cert.DxIdeal.Gen.frame m g
theorem frame_pi_finite : Cert.quiescent_DxIdeal_pre_dx_finite := fun m g _ => Cert.DxIdeal.Gen.frame m g
theorem frame_ri : Cert.quiescent_DxRefIdeal := fun m g _ =>
  (θ_run Cert.DxRefIdeal.defs _ _).mono (fun r h => ⟨fun c => (h c).2.2, sem_eq_zero_of_no_sems (by decide) r.2⟩)
    (Cert.DxRefIdeal.Value.run (F := Ideal) m g)
theorem frame_ri_finite : Cert.quiescent_DxRefIdeal_pre_dx_finite := fun m g _ => frame_ri m g trivial

/-- Of arguments that hold reals, the kernel's two results are the reference's. -/
theorem algebraic : Cert.algebraic_DxIdeal_DxRefIdeal_pre_dx_finite := by
  intro m g m' g' hpre hag
  have real : ∀ c, ∃ (X Y W M L S : ℕ → ℕ → ℝ) (G : ℕ → ℝ), Args m c X Y W M L S G := fun c => args_of_pre _ _ _ _ _ _ _ (hpre c)
  refine ⟨_, _, Cert.DxIdeal.Value.run_blocks m g, (θ_run Cert.DxRefIdeal.defs _ _).mono (fun r h c => ?_) (Cert.DxRefIdeal.Value.run (F := Ideal) m' g')⟩
  obtain ⟨X, Y, W, M, L, S, G, I⟩ := real c
  obtain ⟨e0, e1, e2, e3, e4, e5, e6⟩ := hag c
  have H : DA (m' ((c.tc : Thread nD τ).loc main_arg0)) (m' ((c.tc : Thread nD τ).loc main_arg3)) (m' ((c.tc : Thread nD τ).loc main_arg1))
      (m' ((c.tc : Thread nD τ).loc main_arg2)) (m' ((c.tc : Thread nD τ).loc main_arg4)) (m' ((c.tc : Thread nD τ).loc main_arg5))
      (m' ((c.tc : Thread nD τ).loc main_arg6)) X Y W M L S G :=
    ⟨fun j => (congrFun e0 j).trans (I.r0 j), fun j => (congrFun e1 j).trans (I.r1 j), fun j => (congrFun e2 j).trans (I.r2 j),
      fun j => (congrFun e3 j).trans (I.r3 j), fun j => (congrFun e4 j).trans (I.r4 j), fun j => (congrFun e5 j).trans (I.r5 j),
      fun j => (congrFun e6 j).trans (I.r6 j)⟩
  obtain ⟨h0, h1, hargs⟩ := h c
  refine ⟨h0.trans ?_, h1.trans ?_, hargs⟩
  · exact (val_main_v44_eq m' c).trans ((funext (v44_at H)).trans (arr6 I).symm)
  · exact (val_main_v43_eq _ _ _ _ _).trans ((funext (v43_at H)).trans (arr7 I).symm)

end Cert.DxVal
-- ==== Proof.Merge.Real.lean ====
module

public import proofs.«01_k».proof.Proof.Mixer.Real
public import proofs.«01_k».proof.Proof.Dx.Real

@[expose] public section

noncomputable section

/-! The mathematics of the branch merge, the output projection, the final norm and the squared error, forward and backward, of one
    row over the reals. -/

namespace Cert.MergeVal

open Finset
open Cert.RowNorm (rr oh dn)
open Cert.Mix (lgst)

/-- One row of the arguments: the residual, the target, the two branches, and the gates' 2048 columns. -/
structure Row where
  x : ℕ → ℝ
  tg : ℕ → ℝ
  a : ℕ → ℝ
  o : ℕ → ℝ
  g : ℕ → ℝ

/-- The weights: of the two branches, of the output projection, of the final norm. -/
structure Wt where
  wa : ℕ → ℕ → ℝ
  wb : ℕ → ℕ → ℝ
  wo : ℕ → ℕ → ℝ
  gf : ℕ → ℝ

variable (r : Row) (w : Wt) (e : ℕ)

/-- The two gates and the two projected branches, and what they are merged to. -/
def ga : ℝ := lgst (r.g e)
def gb : ℝ := lgst (r.g (1024 + e))
def pa : ℝ := ∑ k ∈ range 1024, r.a k * w.wa k e
def pb : ℝ := ∑ k ∈ range 1024, r.o k * w.wb k e
def mb : ℝ := ga r e * pa r w e + gb r e * pb r w e
/-- The layer's output, and the error of its norm. -/
def yy : ℝ := r.x e + ∑ k ∈ range 1024, mb r w k * w.wo k e
def err : ℝ := oh (yy r w) e * w.gf e - r.tg e
/-- The gradients of the norm's result, of the layer's output, and of the merged branches. -/
def dout : ℝ := err r w e * (1 / 1024)
def dy : ℝ := dn (yy r w) (fun c => dout r w c * w.gf c) e
def dm : ℝ := ∑ k ∈ range 1024, dy r w k * w.wo e k
/-- The gradients of the projected branches and of the gates' columns. -/
def dpa : ℝ := dm r w e * ga r e
def dpb : ℝ := dm r w e * gb r e
def dga : ℝ := dm r w e * pa r w e * ga r e * (1 - ga r e)
def dgb : ℝ := dm r w e * pb r w e * gb r e * (1 - gb r e)
def dgt (j : ℕ) : ℝ := if j < 1024 then dga r w j else dgb r w (j - 1024)
/-- The gradients of the branches. -/
def da : ℝ := ∑ k ∈ range 1024, dpa r w k * w.wa e k
def db : ℝ := ∑ k ∈ range 1024, dpb r w k * w.wb e k
/-- A row's shares of the gradients of the weights and of the loss's columns. -/
def swo (i j : ℕ) : ℝ := mb r w i * dy r w j
def swa (i j : ℕ) : ℝ := r.a i * dpa r w j
def swb (i j : ℕ) : ℝ := r.o i * dpb r w j
def sgf : ℝ := dout r w e * oh (yy r w) e
def sls : ℝ := err r w e * err r w e * (1 / 2048)

end Cert.MergeVal
-- ==== Proof.Merge.Block.lean ====
module

public import proofs.«01_k».proof.Proof.Merge.Real
public import proofs.«01_k».proof.Proof.Dx.Step
public import proofs.«01_k».proof.Proof.Gen.MergeIdeal.Frame
public import Idealize.ShloMosaic.Lib.Pipeline.ValueKit
public import Idealize.ShloMosaic.Lib.Pointwise

@[expose] public section

noncomputable section

/-! What a step of the merge's call computes from its blocks of 256 rows, over the reals. -/

namespace Cert.MergeVal

open Cert.MergeIdeal Cert.MergeIdeal.Gen Idealize.ShloMosaic Idealize.ShloMosaic.TcCoe
open Cert.RowNorm (rr oh dn ms_eps_pos)
open Cert.Mix (coe_sum_range)
open Cert.DxVal (prod_at)
open Finset

theorem word_inv_1024 : Ideal.ofBits .f32 0x3A800000#32 = ((1 / 1024 : ℝ) : EReal) := by
  simp [Ideal.ofBits, Ideal.ieee, -EReal.coe_mul]; norm_num
theorem word_inv_2048 : Ideal.ofBits .f32 0x3A000000#32 = ((1 / 2048 : ℝ) : EReal) := by
  simp [Ideal.ofBits, Ideal.ieee, -EReal.coe_mul]; norm_num

section Forward
variable {R : ℕ → Row} {w : Wt}
  {v3 v12 v35 v55 : Vec Ideal S256x1024 .f32} {v21 v23 : Vec Ideal S256x1024 .bf16} {v25 v28 v37 : Vec Ideal S1024x1024 .bf16}
  {v51 : Vec Ideal S1x1024 .f32} {v34 : FVec Ideal S256x1024 .bf16}
  (h3 : ∀ j, v3 j = (((R (j 0)).g (j 1) : ℝ) : EReal)) (h12 : ∀ j, v12 j = (((R (j 0)).g (1024 + j 1) : ℝ) : EReal))
  (h21 : ∀ j, v21 j = (((R (j 0)).a (j 1) : ℝ) : EReal)) (h23 : ∀ j, v23 j = (((R (j 0)).o (j 1) : ℝ) : EReal))
  (h25 : ∀ j, v25 j = ((w.wa (j 0) (j 1) : ℝ) : EReal)) (h28 : ∀ j, v28 j = ((w.wb (j 0) (j 1) : ℝ) : EReal))
  (h34 : ∀ j, v34 j = ((mb (R (j 0)) w (j 1) : ℝ) : EReal))
  (h35 : ∀ j, v35 j = (((R (j 0)).x (j 1) : ℝ) : EReal)) (h37 : ∀ j, v37 j = ((w.wo (j 0) (j 1) : ℝ) : EReal))
  (h51 : ∀ j, v51 j = ((w.gf (j 1) : ℝ) : EReal)) (h55 : ∀ j, v55 j = (((R (j 0)).tg (j 1) : ℝ) : EReal))

include h3 in
theorem pay11_at (j) : k0_pay11 (F := Ideal) v3 j = ((ga (R (j 0)) (j 1) : ℝ) : EReal) := by
  unfold_payloads
  pointwise [Mix.word_half]
  rw [h3]
  simp only [← EReal.coe_mul, ← EReal.coe_add, Ideal.tanh_coe]
  rfl
include h12 in
theorem pay12_at (j) : k0_pay12 (F := Ideal) v12 j = ((gb (R (j 0)) (j 1) : ℝ) : EReal) := by
  unfold_payloads
  pointwise [Mix.word_half]
  rw [h12]
  simp only [← EReal.coe_mul, ← EReal.coe_add, Ideal.tanh_coe]
  rfl
theorem pay13_at (v : Vec Ideal S256x1024 .bf16) (j) : k0_pay13 (F := Ideal) v j = v j := by
  unfold k0_pay13
  pointwise
theorem pay14_at (v : Vec Ideal S256x1024 .bf16) (j) : k0_pay14 (F := Ideal) v j = v j := by
  unfold k0_pay14
  pointwise
include h21 h25 in
theorem pay15_at (j) : k0_pay15 (F := Ideal) v21 v25 j = ((pa (R (j 0)) w (j 1) : ℝ) : EReal) := by
  unfold k0_pay15
  pointwise
  exact prod_at (f := fun k => (R (j 0)).a k) (g := fun k => w.wa k (j 1)) (fun k => (pay13_at _ _).trans (h21 _)) (fun k => h25 _)
include h23 h28 in
theorem pay16_at (j) : k0_pay16 (F := Ideal) v23 v28 j = ((pb (R (j 0)) w (j 1) : ℝ) : EReal) := by
  unfold k0_pay16
  pointwise
  exact prod_at (f := fun k => (R (j 0)).o k) (g := fun k => w.wb k (j 1)) (fun k => (pay14_at _ _).trans (h23 _)) (fun k => h28 _)
include h3 h12 h21 h23 h25 h28 in
theorem pay17_at (j) : k0_pay17 (F := Ideal) v3 v12 v21 v23 v25 v28 j = ((mb (R (j 0)) w (j 1) : ℝ) : EReal) := by
  unfold k0_pay17
  pointwise
  rw [pay11_at h3, pay12_at h12, pay15_at h21 h25, pay16_at h23 h28, ← EReal.coe_mul, ← EReal.coe_mul, ← EReal.coe_add]
  rfl
include h34 h35 h37
theorem pay18_at (j) : k0_pay18 (F := Ideal) v34 v35 v37 j = ((yy (R (j 0)) w (j 1) : ℝ) : EReal) := by
  unfold k0_pay18
  pointwise
  unfold yy
  rw [h35, EReal.coe_add]
  refine congrArg (((R (j 0)).x (j 1) : ℝ) + · : EReal → EReal) ?_
  exact prod_at (f := fun k => mb (R (j 0)) w k) (g := fun k => w.wo k (j 1)) (fun k => h34 _) (fun k => h37 _)
theorem pay19_at (j) : k0_pay19 (F := Ideal) v34 v35 v37 j = ((rr (yy (R (j 0)) w) : ℝ) : EReal) := by
  unfold k0_pay19
  pointwise [Mix.word_1024, GlaVal.word_eps]
  simp only [pay18_at h34 h35 h37, ← EReal.coe_mul]
  have e : (∑ k : Fin 1024, ((yy (R (j 0)) w k * yy (R (j 0)) w k : ℝ) : EReal)) = _ :=
    (coe_sum_range 1024 fun k => yy (R (j 0)) w k * yy (R (j 0)) w k).symm
  refine (congrArg (fun s => Ideal.rsqrt (Ideal.div s ((1024 : ℝ) : EReal) + ((GlaVal.eps : ℝ) : EReal))) e).trans ?_
  rw [Mix.div_1024, ← EReal.coe_add]
  have hp : 0 < (∑ k ∈ range 1024, yy (R (j 0)) w k * yy (R (j 0)) w k) / 1024 + GlaVal.eps := ms_eps_pos (yy (R (j 0)) w)
  rw [Ideal.rsqrt_coe, if_neg hp.not_gt, if_neg hp.ne']
  rfl
theorem pay20_at (j) : k0_pay20 (F := Ideal) v34 v35 v37 j = ((oh (yy (R (j 0)) w) (j 1) : ℝ) : EReal) := by
  unfold k0_pay20
  pointwise
  rw [pay18_at h34 h35 h37, pay19_at h34 h35 h37, ← EReal.coe_mul]
  rfl
omit h34 h35 h37
include h51 in
theorem pay21_at (j) : k0_pay21 (F := Ideal) v51 j = ((w.gf (j 1) : ℝ) : EReal) := by
  unfold k0_pay21
  pointwise
  exact h51 j
include h34 h35 h37 h51 h55
theorem pay22_at (j) : k0_pay22 (F := Ideal) v34 v35 v37 v51 v55 j = ((err (R (j 0)) w (j 1) : ℝ) : EReal) := by
  unfold k0_pay22
  pointwise
  rw [pay20_at h34 h35 h37, pay21_at h51, h55, ← EReal.coe_mul, ← EReal.coe_sub]
  rfl
/-- The loss's columns: the old ones and this block's rows. -/
theorem pay23_at (old : Vec Ideal S1x1024 .f32) (a : ℕ → ℝ) (ho : ∀ j, old j = ((a (j 1) : ℝ) : EReal)) (j) :
    k0_pay23 (F := Ideal) v34 v35 v37 v51 v55 old j = ((a (j 1) + ∑ i ∈ range 256, sls (R i) w (j 1) : ℝ) : EReal) := by
  unfold k0_pay23
  pointwise [word_inv_2048]
  simp only [pay22_at h34 h35 h37 h51 h55, ho, ← EReal.coe_mul]
  refine (congrArg (fun s => _ + s * _) (coe_sum_range 256 fun i => err (R i) w (j 1) * err (R i) w (j 1)).symm).trans ?_
  rw [← EReal.coe_mul, ← EReal.coe_add, Finset.sum_mul]
  rfl
theorem pay24_at (j) : k0_pay24 (F := Ideal) v34 v35 v37 v51 v55 j = ((dout (R (j 0)) w (j 1) : ℝ) : EReal) := by
  unfold k0_pay24
  pointwise [word_inv_1024]
  rw [pay22_at h34 h35 h37 h51 h55, ← EReal.coe_mul]
  rfl
theorem pay26_at (j) : k0_pay26 (F := Ideal) v34 v35 v37 v51 v55 j = ((∑ i ∈ range 256, sgf (R i) w (j 0) : ℝ) : EReal) := by
  unfold k0_pay26
  pointwise
  simp only [pay24_at h34 h35 h37 h51 h55, pay20_at h34 h35 h37, ← EReal.coe_mul]
  exact (coe_sum_range 256 fun i => sgf (R i) w (j 0)).symm
/-- The gradient of the final norm's scale: the old one and this block's rows. -/
theorem pay27_at (old : Vec Ideal S1x1024 .f32) (a : ℕ → ℝ) (ho : ∀ j, old j = ((a (j 1) : ℝ) : EReal)) (j) :
    k0_pay27 (F := Ideal) (k0_pay25 old) (k0_pay26 v34 v35 v37 v51 v55) j = ((a (j 1) + ∑ i ∈ range 256, sgf (R i) w (j 1) : ℝ) : EReal) := by
  unfold k0_pay27 k0_pay25
  pointwise
  rw [ho, pay26_at h34 h35 h37 h51 h55, ← EReal.coe_add]
  rfl
end Forward

section Backward
variable {R : ℕ → Row} {w : Wt}
  {v11 v20 v27 v30 v50 v68 : FVec Ideal S256x1024 .f32} {v48 : FVec Ideal S256x1 .f32} {v52 : FVec Ideal S1x1024 .f32}
  {v34 v22 v24 v99 v101 : FVec Ideal S256x1024 .bf16} {v95 v126 v130 : Vec Ideal S1024x1024 .bf16}
  (h11 : ∀ j, v11 j = ((ga (R (j 0)) (j 1) : ℝ) : EReal)) (h20 : ∀ j, v20 j = ((gb (R (j 0)) (j 1) : ℝ) : EReal))
  (h27 : ∀ j, v27 j = ((pa (R (j 0)) w (j 1) : ℝ) : EReal)) (h30 : ∀ j, v30 j = ((pb (R (j 0)) w (j 1) : ℝ) : EReal))
  (h34 : ∀ j, v34 j = ((mb (R (j 0)) w (j 1) : ℝ) : EReal))
  (h48 : ∀ j, v48 j = ((rr (yy (R (j 0)) w) : ℝ) : EReal)) (h50 : ∀ j, v50 j = ((oh (yy (R (j 0)) w) (j 1) : ℝ) : EReal))
  (h52 : ∀ j, v52 j = ((w.gf (j 1) : ℝ) : EReal)) (h68 : ∀ j, v68 j = ((dout (R (j 0)) w (j 1) : ℝ) : EReal))
  (h95 : ∀ j, v95 j = ((w.wo (j 0) (j 1) : ℝ) : EReal))

/-- A sum over the block's rows of products of two rows' entries, added to the old value. -/
theorem rows_at {old : EReal} {s : ℝ} {a b : Fin 256 → EReal} {f g : ℕ → ℝ} (ho : old = ((s : ℝ) : EReal)) (ha : ∀ k, a k = ((f k : ℝ) : EReal))
    (hb : ∀ k, b k = ((g k : ℝ) : EReal)) : old + ∑ k : Fin 256, a k * b k = ((s + ∑ k ∈ range 256, f k * g k : ℝ) : EReal) := by
  rw [ho, prod_at ha hb, EReal.coe_add]

section
include h48 h50 h52 h68
theorem pay28_at (j) : k0_pay28 (F := Ideal) v48 v50 v52 v68 j = ((dy (R (j 0)) w (j 1) : ℝ) : EReal) := by
  unfold k0_pay28
  pointwise [Mix.word_1024]
  simp only [h48, h50, h52, h68, ← EReal.coe_mul]
  have e : (∑ k : Fin 1024, ((dout (R (j 0)) w k * w.gf k * oh (yy (R (j 0)) w) k : ℝ) : EReal)) = _ :=
    (coe_sum_range 1024 fun k => dout (R (j 0)) w k * w.gf k * oh (yy (R (j 0)) w) k).symm
  refine (congrArg (fun s => ((rr (yy (R (j 0)) w) : ℝ) : EReal) * (((dout (R (j 0)) w (j 1) * w.gf (j 1) : ℝ) : EReal)
    - ((oh (yy (R (j 0)) w) (j 1) : ℝ) : EReal) * Ideal.div s ((1024 : ℝ) : EReal))) e).trans ?_
  rw [Mix.div_1024, ← EReal.coe_mul, ← EReal.coe_sub, ← EReal.coe_mul]
  rfl
theorem pay29_at (j) : k0_pay29 (F := Ideal) v48 v50 v52 v68 j = ((dy (R (j 0)) w (j 1) : ℝ) : EReal) := by
  unfold k0_pay29
  pointwise
  exact pay28_at h48 h50 h52 h68 j
include h34 in
theorem pay30_at (old : Vec Ideal S1024x1024 .f32) (a : ℕ → ℕ → ℝ) (ho : ∀ j, old j = ((a (j 0) (j 1) : ℝ) : EReal)) (j) :
    k0_pay30 (F := Ideal) v34 v48 v50 v52 v68 old j = ((a (j 0) (j 1) + ∑ i ∈ range 256, swo (R i) w (j 0) (j 1) : ℝ) : EReal) := by
  unfold k0_pay30
  pointwise
  exact rows_at (f := fun k => mb (R k) w (j 0)) (g := fun k => dy (R k) w (j 1)) (ho j) (fun k => h34 _) (fun k => pay29_at h48 h50 h52 h68 _)
include h95
theorem pay31_at (j) : k0_pay31 (F := Ideal) v48 v50 v52 v68 v95 j = ((dm (R (j 0)) w (j 1) : ℝ) : EReal) := by
  unfold k0_pay31
  pointwise
  exact prod_at (f := fun k => dy (R (j 0)) w k) (g := fun k => w.wo (j 1) k) (fun k => pay29_at h48 h50 h52 h68 _) (fun k => h95 _)
include h11 in
theorem pay32_at (j) : k0_pay32 (F := Ideal) v11 v48 v50 v52 v68 v95 j = ((dpa (R (j 0)) w (j 1) : ℝ) : EReal) := by
  unfold k0_pay32
  pointwise
  rw [pay31_at h48 h50 h52 h68 h95, h11, ← EReal.coe_mul]
  rfl
include h20 in
theorem pay33_at (j) : k0_pay33 (F := Ideal) v20 v48 v50 v52 v68 v95 j = ((dpb (R (j 0)) w (j 1) : ℝ) : EReal) := by
  unfold k0_pay33
  pointwise
  rw [pay31_at h48 h50 h52 h68 h95, h20, ← EReal.coe_mul]
  rfl
include h11 h27 in
theorem pay34_at (j) : k0_pay34 (F := Ideal) v11 v27 v48 v50 v52 v68 v95 j = ((dga (R (j 0)) w (j 1) : ℝ) : EReal) := by
  unfold k0_pay34
  pointwise [GlaVal.word_one]
  rw [pay31_at h48 h50 h52 h68 h95, h11, h27, ← EReal.coe_mul, ← EReal.coe_mul, ← EReal.coe_sub, ← EReal.coe_mul]
  rfl
include h20 h30 in
theorem pay1_at (j) : k0_pay1 (F := Ideal) v20 (k0_pay35 v20 v30 v48 v50 v52 v68 v95) (Scalar.ofBits .f32 0x3F800000#32) j
    = ((dgb (R (j 0)) w (j 1) : ℝ) : EReal) := by
  unfold k0_pay1 k0_pay35
  pointwise [GlaVal.word_one]
  rw [pay31_at h48 h50 h52 h68 h95, h20, h30, ← EReal.coe_mul, ← EReal.coe_mul, ← EReal.coe_sub, ← EReal.coe_mul]
  rfl
end

section
variable (h22 : ∀ j, v22 j = (((R (j 0)).a (j 1) : ℝ) : EReal)) (h24 : ∀ j, v24 j = (((R (j 0)).o (j 1) : ℝ) : EReal))
  (h99 : ∀ j, v99 j = ((dpa (R (j 0)) w (j 1) : ℝ) : EReal)) (h101 : ∀ j, v101 j = ((dpb (R (j 0)) w (j 1) : ℝ) : EReal))
  (h126 : ∀ j, v126 j = ((w.wa (j 0) (j 1) : ℝ) : EReal)) (h130 : ∀ j, v130 j = ((w.wb (j 0) (j 1) : ℝ) : EReal))
include h22 h99 in
theorem pay2_at (old : Vec Ideal S1024x1024 .f32) (a : ℕ → ℕ → ℝ) (ho : ∀ j, old j = ((a (j 0) (j 1) : ℝ) : EReal)) (j) :
    k0_pay2 (F := Ideal) v22 v99 old j = ((a (j 0) (j 1) + ∑ i ∈ range 256, swa (R i) w (j 0) (j 1) : ℝ) : EReal) := by
  unfold k0_pay2
  pointwise
  exact rows_at (f := fun k => (R k).a (j 0)) (g := fun k => dpa (R k) w (j 1)) (ho j) (fun k => h22 _) (fun k => h99 _)
include h24 h101 in
theorem pay3_at (old : Vec Ideal S1024x1024 .f32) (a : ℕ → ℕ → ℝ) (ho : ∀ j, old j = ((a (j 0) (j 1) : ℝ) : EReal)) (j) :
    k0_pay3 (F := Ideal) v24 v101 old j = ((a (j 0) (j 1) + ∑ i ∈ range 256, swb (R i) w (j 0) (j 1) : ℝ) : EReal) := by
  unfold k0_pay3
  pointwise
  exact rows_at (f := fun k => (R k).o (j 0)) (g := fun k => dpb (R k) w (j 1)) (ho j) (fun k => h24 _) (fun k => h101 _)
include h99 h126 in
theorem pay4_at (j) : k0_pay4 (F := Ideal) v99 v126 j = ((da (R (j 0)) w (j 1) : ℝ) : EReal) := by
  unfold k0_pay4
  pointwise
  exact prod_at (f := fun k => dpa (R (j 0)) w k) (g := fun k => w.wa (j 1) k) (fun k => h99 _) (fun k => h126 _)
include h101 h130 in
theorem pay5_at (j) : k0_pay5 (F := Ideal) v101 v130 j = ((db (R (j 0)) w (j 1) : ℝ) : EReal) := by
  unfold k0_pay5
  pointwise
  exact prod_at (f := fun k => dpb (R (j 0)) w k) (g := fun k => w.wb (j 1) k) (fun k => h101 _) (fun k => h130 _)
end
end Backward
end Cert.MergeVal
-- ==== Proof.Merge.Step.lean ====
module

public import proofs.«01_k».proof.Proof.Merge.Block

@[expose] public section

noncomputable section

/-! A step of the merge's call: its outputs as functions of its blocks, the reals these hold, and the step's outputs so named. -/

namespace Cert.MergeVal

open Cert.MergeIdeal Cert.MergeIdeal.Gen Idealize.ShloMosaic Idealize.ShloMosaic.TcCoe
open Finset

/-- A step's blocks: the residual, the target, the gates' columns, the two branches, the three weights, the final norm's scale. -/
structure Blk where
  x0 : Vec Ideal S256x1024 .f32
  x1 : Vec Ideal S256x1024 .f32
  x2 : Vec Ideal S256x2048 .f32
  x3 : Vec Ideal S256x1024 .bf16
  x4 : Vec Ideal S256x1024 .bf16
  x5 : Vec Ideal S1024x1024 .bf16
  x6 : Vec Ideal S1024x1024 .bf16
  x7 : Vec Ideal S1024x1024 .bf16
  x8 : Vec Ideal S1x1024 .f32

/-- The columns of the first branch's gate and of the second's. -/
abbrev rG0 : Rect S256x2048 := Rect.unit ![0, 0] S256x1024.size inb_S256x2048_S256x1024_0_0
abbrev rG1 : Rect S256x2048 := Rect.unit ![0, 1024] S256x1024.size inb_S256x2048_S256x1024_0_1024

section Defs
variable (B : Blk)
/-- The two gates, the projected branches, and the merged branches. -/
def bGA : FVec Ideal S256x1024 .f32 := k0_pay11 (F := Ideal) (View.ld B.x2 rG0)
def bGB : FVec Ideal S256x1024 .f32 := k0_pay12 (F := Ideal) (View.ld B.x2 rG1)
def bPA : FVec Ideal S256x1024 .f32 := k0_pay15 (F := Ideal) B.x3 B.x5
def bPB : FVec Ideal S256x1024 .f32 := k0_pay16 (F := Ideal) B.x4 B.x6
def bMB : FVec Ideal S256x1024 .bf16 := k0_pay17 (F := Ideal) (View.ld B.x2 rG0) (View.ld B.x2 rG1) B.x3 B.x4 B.x5 B.x6
/-- The final norm's factor, its rows, its scale, and the gradient of its result. -/
def bR : FVec Ideal S256x1 .f32 := k0_pay19 (F := Ideal) (bMB B) B.x0 B.x7
def bO : FVec Ideal S256x1024 .f32 := k0_pay20 (F := Ideal) (bMB B) B.x0 B.x7
def bG : FVec Ideal S1x1024 .f32 := k0_pay21 (F := Ideal) B.x8
def bD : FVec Ideal S256x1024 .f32 := k0_pay24 (F := Ideal) (bMB B) B.x0 B.x7 B.x8 B.x1
/-- The gradients of the projected branches. -/
def bDA : FVec Ideal S256x1024 .bf16 := k0_pay32 (F := Ideal) (bGA B) (bR B) (bO B) (bG B) (bD B) B.x7
def bDB : FVec Ideal S256x1024 .bf16 := k0_pay33 (F := Ideal) (bGB B) (bR B) (bO B) (bG B) (bD B) B.x7
/-- What the step writes: the gates' gradients, the output's, the two branches'. -/
def l9 : List (View.Piece (Elt Ideal) S256x2048 .bf16) :=
  [⟨rG1, k0_pay1 (F := Ideal) (bGB B) (k0_pay35 (bGB B) (bPB B) (bR B) (bO B) (bG B) (bD B) B.x7) (Scalar.ofBits .f32 0x3F800000#32)⟩,
    ⟨rG0, k0_pay34 (F := Ideal) (bGA B) (bPA B) (bR B) (bO B) (bG B) (bD B) B.x7⟩]
def o10 : FVec Ideal S256x1024 .f32 := k0_pay28 (F := Ideal) (bR B) (bO B) (bG B) (bD B)
def o11 : FVec Ideal S256x1024 .f32 := k0_pay4 (F := Ideal) (bDA B) B.x5
def o12 : FVec Ideal S256x1024 .f32 := k0_pay5 (F := Ideal) (bDB B) B.x6
/-- And what it adds to: the three weights' gradients, the scale's, the loss's columns. -/
def o13 (old : Vec Ideal S1024x1024 .f32) : FVec Ideal S1024x1024 .f32 := k0_pay2 (F := Ideal) (k0_pay13 B.x3) (bDA B) old
def o14 (old : Vec Ideal S1024x1024 .f32) : FVec Ideal S1024x1024 .f32 := k0_pay3 (F := Ideal) (k0_pay14 B.x4) (bDB B) old
def o15 (old : Vec Ideal S1024x1024 .f32) : FVec Ideal S1024x1024 .f32 := k0_pay30 (F := Ideal) (bMB B) (bR B) (bO B) (bG B) (bD B) old
def o16 (old : Vec Ideal S1x1024 .f32) : FVec Ideal S1x1024 .f32 := k0_pay27 (F := Ideal) (k0_pay25 old) (k0_pay26 (bMB B) B.x0 B.x7 B.x8 B.x1)
def o17 (old : Vec Ideal S1x1024 .f32) : FVec Ideal S1x1024 .f32 := k0_pay23 (F := Ideal) (bMB B) B.x0 B.x7 B.x8 B.x1 old
end Defs

/-- The blocks hold rows' and weights' reals. -/
structure Holds (B : Blk) (R : ℕ → Row) (w : Wt) : Prop where
  r0 : ∀ j, B.x0 j = (((R (j 0)).x (j 1) : ℝ) : EReal)
  r1 : ∀ j, B.x1 j = (((R (j 0)).tg (j 1) : ℝ) : EReal)
  r2 : ∀ j, B.x2 j = (((R (j 0)).g (j 1) : ℝ) : EReal)
  r3 : ∀ j, B.x3 j = (((R (j 0)).a (j 1) : ℝ) : EReal)
  r4 : ∀ j, B.x4 j = (((R (j 0)).o (j 1) : ℝ) : EReal)
  r5 : ∀ j, B.x5 j = ((w.wa (j 0) (j 1) : ℝ) : EReal)
  r6 : ∀ j, B.x6 j = ((w.wb (j 0) (j 1) : ℝ) : EReal)
  r7 : ∀ j, B.x7 j = ((w.wo (j 0) (j 1) : ℝ) : EReal)
  r8 : ∀ j, B.x8 j = ((w.gf (j 1) : ℝ) : EReal)

section Values
variable {B : Blk} {R : ℕ → Row} {w : Wt} (H : Holds B R w)
include H

theorem g0_at (j) : View.ld B.x2 rG0 j = (((R (j 0)).g (j 1) : ℝ) : EReal) := by
  rw [View.ld_apply, H.r2]
  exact congrArg₂ (fun a b => (((R a).g b : ℝ) : EReal)) ((Rect.idx_unit_val ..).trans (Nat.zero_add _)) ((Rect.idx_unit_val ..).trans (Nat.zero_add _))
theorem g1_at (j) : View.ld B.x2 rG1 j = (((R (j 0)).g (1024 + j 1) : ℝ) : EReal) := by
  rw [View.ld_apply, H.r2]
  exact congrArg₂ (fun a b => (((R a).g b : ℝ) : EReal)) ((Rect.idx_unit_val ..).trans (Nat.zero_add _)) (Rect.idx_unit_val ..)
theorem bGA_at (j) : bGA B j = ((ga (R (j 0)) (j 1) : ℝ) : EReal) := pay11_at (g0_at H) j
theorem bGB_at (j) : bGB B j = ((gb (R (j 0)) (j 1) : ℝ) : EReal) := pay12_at (g1_at H) j
theorem bPA_at (j) : bPA B j = ((pa (R (j 0)) w (j 1) : ℝ) : EReal) := pay15_at H.r3 H.r5 j
theorem bPB_at (j) : bPB B j = ((pb (R (j 0)) w (j 1) : ℝ) : EReal) := pay16_at H.r4 H.r6 j
theorem bMB_at (j) : bMB B j = ((mb (R (j 0)) w (j 1) : ℝ) : EReal) := pay17_at (g0_at H) (g1_at H) H.r3 H.r4 H.r5 H.r6 j
theorem bR_at (j) : bR B j = ((RowNorm.rr (yy (R (j 0)) w) : ℝ) : EReal) := pay19_at (bMB_at H) H.r0 H.r7 j
theorem bO_at (j) : bO B j = ((RowNorm.oh (yy (R (j 0)) w) (j 1) : ℝ) : EReal) := pay20_at (bMB_at H) H.r0 H.r7 j
theorem bG_at (j) : bG B j = ((w.gf (j 1) : ℝ) : EReal) := pay21_at H.r8 j
theorem bD_at (j) : bD B j = ((dout (R (j 0)) w (j 1) : ℝ) : EReal) := pay24_at (bMB_at H) H.r0 H.r7 H.r8 H.r1 j
theorem bDA_at (j) : bDA B j = ((dpa (R (j 0)) w (j 1) : ℝ) : EReal) := pay32_at (bGA_at H) (bR_at H) (bO_at H) (bG_at H) (bD_at H) H.r7 j
theorem bDB_at (j) : bDB B j = ((dpb (R (j 0)) w (j 1) : ℝ) : EReal) := pay33_at (bGB_at H) (bR_at H) (bO_at H) (bG_at H) (bD_at H) H.r7 j

/-- The gates' gradients, in both gates' columns. -/
theorem l9_at (y : S256x2048.Idx) : View.canon (l9 B) y = ((dgt (R (y 0)) w (y 1) : ℝ) : EReal) := by
  have hr : (y 0).val < 256 := (y 0).isLt
  have hd : (y 1).val < 2048 := (y 1).isLt
  apply View.canon_eq_of_allAt
  · by_cases h : (y 1).val < 1024
    · refine ⟨_, List.mem_cons_of_mem _ List.mem_cons_self, ?_⟩
      show y ∈ rG0.set
      refine Rect.mem_set_unit.mpr fun q => ?_
      match q with
      | 0 => change 0 ≤ (y 0).val ∧ (y 0).val < 0 + 256; omega
      | 1 => change 0 ≤ (y 1).val ∧ (y 1).val < 0 + 1024; omega
    · refine ⟨_, List.mem_cons_self, ?_⟩
      show y ∈ rG1.set
      refine Rect.mem_set_unit.mpr fun q => ?_
      match q with
      | 0 => change 0 ≤ (y 0).val ∧ (y 0).val < 0 + 256; omega
      | 1 => change 1024 ≤ (y 1).val ∧ (y 1).val < 1024 + 1024; omega
  · intro p hp
    rcases List.mem_cons.mp hp with rfl | hp
    · intro x hx
      have h0 : (rG1.idx x 0).val = (x 0).val := (Rect.idx_unit_val ..).trans (Nat.zero_add _)
      have h1 : (rG1.idx x 1).val = 1024 + (x 1).val := Rect.idx_unit_val ..
      subst hx
      refine (pay1_at (bGB_at H) (bPB_at H) (bR_at H) (bO_at H) (bG_at H) (bD_at H) H.r7 x).trans ?_
      change _ = ((dgt (R (rG1.idx x 0)) w (rG1.idx x 1) : ℝ) : EReal)
      rw [h0, h1]
      unfold dgt
      rw [if_neg (by omega), Nat.add_sub_cancel_left]
    · rw [List.mem_singleton] at hp
      subst hp
      intro x hx
      have h0 : (rG0.idx x 0).val = (x 0).val := (Rect.idx_unit_val ..).trans (Nat.zero_add _)
      have h1 : (rG0.idx x 1).val = (x 1).val := (Rect.idx_unit_val ..).trans (Nat.zero_add _)
      subst hx
      refine (pay34_at (bGA_at H) (bPA_at H) (bR_at H) (bO_at H) (bG_at H) (bD_at H) H.r7 x).trans ?_
      change _ = ((dgt (R (rG0.idx x 0)) w (rG0.idx x 1) : ℝ) : EReal)
      rw [h0, h1]
      unfold dgt
      exact congrArg Real.toEReal (if_pos (show (x 1).val < 1024 from (x 1).isLt)).symm
theorem o10_at (j) : o10 B j = ((dy (R (j 0)) w (j 1) : ℝ) : EReal) := pay28_at (bR_at H) (bO_at H) (bG_at H) (bD_at H) j
theorem o11_at (j) : o11 B j = ((da (R (j 0)) w (j 1) : ℝ) : EReal) := pay4_at (bDA_at H) H.r5 j
theorem o12_at (j) : o12 B j = ((db (R (j 0)) w (j 1) : ℝ) : EReal) := pay5_at (bDB_at H) H.r6 j
section
variable (old : Vec Ideal S1024x1024 .f32) (a : ℕ → ℕ → ℝ) (ho : ∀ j, old j = ((a (j 0) (j 1) : ℝ) : EReal))
include ho
theorem o13_at (j) : o13 B old j = ((a (j 0) (j 1) + ∑ i ∈ range 256, swa (R i) w (j 0) (j 1) : ℝ) : EReal) :=
  pay2_at (fun j => (pay13_at _ j).trans (H.r3 j)) (bDA_at H) old a ho j
theorem o14_at (j) : o14 B old j = ((a (j 0) (j 1) + ∑ i ∈ range 256, swb (R i) w (j 0) (j 1) : ℝ) : EReal) :=
  pay3_at (fun j => (pay14_at _ j).trans (H.r4 j)) (bDB_at H) old a ho j
theorem o15_at (j) : o15 B old j = ((a (j 0) (j 1) + ∑ i ∈ range 256, swo (R i) w (j 0) (j 1) : ℝ) : EReal) :=
  pay30_at (bMB_at H) (bR_at H) (bO_at H) (bG_at H) (bD_at H) old a ho j
end
section
variable (old : Vec Ideal S1x1024 .f32) (a : ℕ → ℝ) (ho : ∀ j, old j = ((a (j 1) : ℝ) : EReal))
include ho
theorem o16_at (j) : o16 B old j = ((a (j 1) + ∑ i ∈ range 256, sgf (R i) w (j 1) : ℝ) : EReal) :=
  pay27_at (bMB_at H) H.r0 H.r7 H.r8 H.r1 old a ho j
theorem o17_at (j) : o17 B old j = ((a (j 1) + ∑ i ∈ range 256, sls (R i) w (j 1) : ℝ) : EReal) :=
  pay23_at (bMB_at H) H.r0 H.r7 H.r8 H.r1 old a ho j
end
end Values

end Cert.MergeVal
-- ==== Proof.Merge.Outs.lean ====
module

public import proofs.«01_k».proof.Proof.Merge.Step

@[expose] public section

noncomputable section

/-! The outputs of a step of the merge's call, named. -/

namespace Cert.MergeVal

open Cert.MergeIdeal Cert.MergeIdeal.Gen Idealize.ShloMosaic Idealize.ShloMosaic.TcCoe

section Outs
variable (m : (ℓ : Loc nD τ sig) → Buf (Elt Ideal) ℓ) (c : Dev nD) (t : Fin cfg0.N)
/-- Step `t`'s blocks. -/
abbrev blk : Blk := ⟨iblk m c 0 t, iblk m c 1 t, iblk m c 2 t, iblk m c 3 t, iblk m c 4 t, iblk m c 5 t, iblk m c 6 t, iblk m c 7 t, iblk m c 8 t⟩
/-- What the step before left. -/
abbrev was := outsAt0 m c (t.val - 1) (Nat.lt_of_le_of_lt (Nat.sub_le _ _) t.isLt)
theorem outs9_A (h0 : t.val % 16 = 0) : (outsAt0 m c t.val t.isLt).1 = View.canon (l9 (blk m c t)) := by
  rw [outsAt0_A m c t h0]
  funext y
  frame_out
  dsimp only [l9, bGA, bGB, bPA, bPB, bMB, bR, bO, bG, bD, blk, rG0, rG1] <;> rfl
theorem outs10_A (h0 : t.val % 16 = 0) : (outsAt0 m c t.val t.isLt).2.1 = o10 (blk m c t) := by
  rw [outsAt0_A m c t h0]
  funext y
  frame_out
  dsimp only [o10, bMB, bR, bO, bG, bD, blk, rG0, rG1] <;> rfl
theorem outs11_A (h0 : t.val % 16 = 0) : (outsAt0 m c t.val t.isLt).2.2.1 = o11 (blk m c t) := by
  rw [outsAt0_A m c t h0]
  funext y
  frame_out
  dsimp only [o11, bDA, bGA, bMB, bR, bO, bG, bD, blk, rG0, rG1] <;> rfl
theorem outs12_A (h0 : t.val % 16 = 0) : (outsAt0 m c t.val t.isLt).2.2.2.1 = o12 (blk m c t) := by
  rw [outsAt0_A m c t h0]
  funext y
  frame_out
  dsimp only [o12, bDB, bGB, bMB, bR, bO, bG, bD, blk, rG0, rG1] <;> rfl
theorem outs13_A (h0 : t.val % 16 = 0) : (outsAt0 m c t.val t.isLt).2.2.2.2.1 = o13 (blk m c t) (k0_pay6 (F := Ideal)) := by
  rw [outsAt0_A m c t h0]
  funext y
  frame_out
  dsimp only [o13, bDA, bGA, bMB, bR, bO, bG, bD, blk, rG0, rG1] <;> rfl
theorem outs14_A (h0 : t.val % 16 = 0) : (outsAt0 m c t.val t.isLt).2.2.2.2.2.1 = o14 (blk m c t) (k0_pay7 (F := Ideal)) := by
  rw [outsAt0_A m c t h0]
  funext y
  frame_out
  dsimp only [o14, bDB, bGB, bMB, bR, bO, bG, bD, blk, rG0, rG1] <;> rfl
theorem outs15_A (h0 : t.val % 16 = 0) : (outsAt0 m c t.val t.isLt).2.2.2.2.2.2.1 = o15 (blk m c t) (k0_pay8 (F := Ideal)) := by
  rw [outsAt0_A m c t h0]
  funext y
  frame_out
  dsimp only [o15, bMB, bR, bO, bG, bD, blk, rG0, rG1] <;> rfl
theorem outs16_A (h0 : t.val % 16 = 0) : (outsAt0 m c t.val t.isLt).2.2.2.2.2.2.2.1 = o16 (blk m c t) (k0_pay9 (F := Ideal)) := by
  rw [outsAt0_A m c t h0]
  funext y
  frame_out
  dsimp only [o16, bMB, blk, rG0, rG1] <;> rfl
theorem outs17_A (h0 : t.val % 16 = 0) : (outsAt0 m c t.val t.isLt).2.2.2.2.2.2.2.2 = o17 (blk m c t) (k0_pay10 (F := Ideal)) := by
  rw [outsAt0_A m c t h0]
  funext y
  frame_out
  dsimp only [o17, bMB, blk, rG0, rG1] <;> rfl
theorem outs9_B (h0 : ¬t.val % 16 = 0) : (outsAt0 m c t.val t.isLt).1 = View.canon (l9 (blk m c t)) := by
  rw [outsAt0_B m c t h0]
  funext y
  frame_out
  dsimp only [l9, bGA, bGB, bPA, bPB, bMB, bR, bO, bG, bD, blk, rG0, rG1] <;> rfl
theorem outs10_B (h0 : ¬t.val % 16 = 0) : (outsAt0 m c t.val t.isLt).2.1 = o10 (blk m c t) := by
  rw [outsAt0_B m c t h0]
  funext y
  frame_out
  dsimp only [o10, bMB, bR, bO, bG, bD, blk, rG0, rG1] <;> rfl
theorem outs11_B (h0 : ¬t.val % 16 = 0) : (outsAt0 m c t.val t.isLt).2.2.1 = o11 (blk m c t) := by
  rw [outsAt0_B m c t h0]
  funext y
  frame_out
  dsimp only [o11, bDA, bGA, bMB, bR, bO, bG, bD, blk, rG0, rG1] <;> rfl
theorem outs12_B (h0 : ¬t.val % 16 = 0) : (outsAt0 m c t.val t.isLt).2.2.2.1 = o12 (blk m c t) := by
  rw [outsAt0_B m c t h0]
  funext y
  frame_out
  dsimp only [o12, bDB, bGB, bMB, bR, bO, bG, bD, blk, rG0, rG1] <;> rfl
theorem outs13_B (h0 : ¬t.val % 16 = 0) : (outsAt0 m c t.val t.isLt).2.2.2.2.1 = o13 (blk m c t) (was m c t).2.2.2.2.1 := by
  rw [outsAt0_B m c t h0]
  funext y
  frame_out
  dsimp only [o13, bDA, bGA, bMB, bR, bO, bG, bD, blk, rG0, rG1] <;> rfl
theorem outs14_B (h0 : ¬t.val % 16 = 0) : (outsAt0 m c t.val t.isLt).2.2.2.2.2.1 = o14 (blk m c t) (was m c t).2.2.2.2.2.1 := by
  rw [outsAt0_B m c t h0]
  funext y
  frame_out
  dsimp only [o14, bDB, bGB, bMB, bR, bO, bG, bD, blk, rG0, rG1] <;> rfl
theorem outs15_B (h0 : ¬t.val % 16 = 0) : (outsAt0 m c t.val t.isLt).2.2.2.2.2.2.1 = o15 (blk m c t) (was m c t).2.2.2.2.2.2.1 := by
  rw [outsAt0_B m c t h0]
  funext y
  frame_out
  dsimp only [o15, bMB, bR, bO, bG, bD, blk, rG0, rG1] <;> rfl
theorem outs16_B (h0 : ¬t.val % 16 = 0) : (outsAt0 m c t.val t.isLt).2.2.2.2.2.2.2.1 = o16 (blk m c t) (was m c t).2.2.2.2.2.2.2.1 := by
  rw [outsAt0_B m c t h0]
  funext y
  frame_out
  dsimp only [o16, bMB, blk, rG0, rG1] <;> rfl
theorem outs17_B (h0 : ¬t.val % 16 = 0) : (outsAt0 m c t.val t.isLt).2.2.2.2.2.2.2.2 = o17 (blk m c t) (was m c t).2.2.2.2.2.2.2.2 := by
  rw [outsAt0_B m c t h0]
  funext y
  frame_out
  dsimp only [o17, bMB, blk, rG0, rG1] <;> rfl
theorem outs9 : (outsAt0 m c t.val t.isLt).1 = View.canon (l9 (blk m c t)) := by
  by_cases h0 : t.val % 16 = 0
  · exact outs9_A m c t h0
  · exact outs9_B m c t h0
theorem outs10 : (outsAt0 m c t.val t.isLt).2.1 = o10 (blk m c t) := by
  by_cases h0 : t.val % 16 = 0
  · exact outs10_A m c t h0
  · exact outs10_B m c t h0
theorem outs11 : (outsAt0 m c t.val t.isLt).2.2.1 = o11 (blk m c t) := by
  by_cases h0 : t.val % 16 = 0
  · exact outs11_A m c t h0
  · exact outs11_B m c t h0
theorem outs12 : (outsAt0 m c t.val t.isLt).2.2.2.1 = o12 (blk m c t) := by
  by_cases h0 : t.val % 16 = 0
  · exact outs12_A m c t h0
  · exact outs12_B m c t h0
end Outs
end Cert.MergeVal
-- ==== Proof.Merge.Arrays.lean ====
module

public import proofs.«01_k».proof.Proof.Merge.Outs
public import proofs.«01_k».proof.Proof.Gla.Arrays

@[expose] public section

noncomputable section

/-! The merge's backward call: the blocks that its steps read hold the arguments' reals, and what they write fills the results. -/

namespace Cert.MergeVal

open Cert.MergeIdeal Cert.MergeIdeal.Gen Idealize.ShloMosaic Idealize.ShloMosaic.TcCoe
open Cert.Mix (coe_sum_range)
open Cert.GlaVal (flat3)
open Finset

/-- The arguments hold reals: the residual, the gates' columns, the two branches, their weights, the output projection's, the final
    norm's scale, and the target. -/
structure MA (x0 x2 x3 x8 : (⟨S1x4096x1024, .f32⟩ : BufTy).Contents (Elt Ideal)) (x1 : (⟨S1x4096x2048, .f32⟩ : BufTy).Contents (Elt Ideal))
    (x4 x5 x6 : (⟨S1x1024x1024, .f32⟩ : BufTy).Contents (Elt Ideal)) (x7 : (⟨S1024, .f32⟩ : BufTy).Contents (Elt Ideal))
    (R : ℕ → Row) (w : Wt) : Prop where
  r0 : ∀ j, x0 j = (((R (j 1)).x (j 2) : ℝ) : EReal)
  r1 : ∀ j, x1 j = (((R (j 1)).g (j 2) : ℝ) : EReal)
  r2 : ∀ j, x2 j = (((R (j 1)).a (j 2) : ℝ) : EReal)
  r3 : ∀ j, x3 j = (((R (j 1)).o (j 2) : ℝ) : EReal)
  r4 : ∀ j, x4 j = ((w.wa (j 1) (j 2) : ℝ) : EReal)
  r5 : ∀ j, x5 j = ((w.wb (j 1) (j 2) : ℝ) : EReal)
  r6 : ∀ j, x6 j = ((w.wo (j 1) (j 2) : ℝ) : EReal)
  r7 : ∀ j, x7 j = ((w.gf (j 0) : ℝ) : EReal)
  r8 : ∀ j, x8 j = (((R (j 1)).tg (j 2) : ℝ) : EReal)

theorem idx : ∀ t : Fin cfg0.N, win0_0.index t = ![t.val, 0]
    ∧ win0_1.index t = ![t.val, 0]
    ∧ win0_2.index t = ![t.val, 3]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 3]
    ∧ win0_10.index t = ![t.val, 0]
    ∧ win0_11.index t = ![t.val, 0]
    ∧ win0_12.index t = ![t.val, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

section Entry
variable (m : (ℓ : Loc nD τ sig) → Buf (Elt Ideal) ℓ) (c : Dev nD)

theorem V_v1 : (V m c main_v1 : Vec Ideal S1024x1024 .bf16)
    = shapeCast _ (m ((c : Thread nD τ).loc main_arg4) : Vec Ideal S1x1024x1024 .f32) shapeCasts_S1x1024x1024_S1024x1024 := by
  unfold V V0
  entry_read
  rfl
theorem V_v3 : (V m c main_v3 : Vec Ideal S1024x1024 .bf16)
    = shapeCast _ (m ((c : Thread nD τ).loc main_arg5) : Vec Ideal S1x1024x1024 .f32) shapeCasts_S1x1024x1024_S1024x1024 := by
  unfold V V0
  entry_read
  rfl
theorem V_v5 : (V m c main_v5 : Vec Ideal S1024x1024 .bf16)
    = shapeCast _ (m ((c : Thread nD τ).loc main_arg6) : Vec Ideal S1x1024x1024 .f32) shapeCasts_S1x1024x1024_S1024x1024 := by
  unfold V V0
  entry_read
  rfl
theorem V_v9 : (V m c main_v9 : Vec Ideal S4096x1024 .f32)
    = shapeCast _ (m ((c : Thread nD τ).loc main_arg0) : Vec Ideal S1x4096x1024 .f32) shapeCasts_S1x4096x1024_S4096x1024 := by
  unfold V V0
  entry_read
  rfl
theorem V_v10 : (V m c main_v10 : Vec Ideal S4096x1024 .f32)
    = shapeCast _ (m ((c : Thread nD τ).loc main_arg8) : Vec Ideal S1x4096x1024 .f32) shapeCasts_S1x4096x1024_S4096x1024 := by
  unfold V V0
  entry_read
  rfl
theorem V_v12 : (V m c main_v12 : Vec Ideal S4096x1024 .bf16)
    = shapeCast _ (m ((c : Thread nD τ).loc main_arg2) : Vec Ideal S1x4096x1024 .f32) shapeCasts_S1x4096x1024_S4096x1024 := by
  unfold V V0
  entry_read
  rfl
theorem V_v14 : (V m c main_v14 : Vec Ideal S4096x1024 .bf16)
    = shapeCast _ (m ((c : Thread nD τ).loc main_arg3) : Vec Ideal S1x4096x1024 .f32) shapeCasts_S1x4096x1024_S4096x1024 := by
  unfold V V0
  entry_read
  rfl
theorem V_v15 : (V m c main_v15 : Vec Ideal S1x1024 .f32)
    = shapeCast _ (m ((c : Thread nD τ).loc main_arg7) : Vec Ideal S1024 .f32) shapeCasts_S1024_S1x1024 := by
  unfold V V0
  entry_read
  rfl
/-- The pieces of the projection's buffer: nothing, and the gates' columns. -/
abbrev pcs : List ((s : Shape) × (s.Idx → Elt Ideal .f32)) :=
  [⟨S4096x6144, (broadcastInDim S4096x6144 ![] bcast_S_S4096x6144 (constant (F := Ideal) S_ .f32 0x00000000#32) : Vec Ideal S4096x6144 .f32)⟩,
    ⟨S4096x2048, (shapeCast _ (m ((c : Thread nD τ).loc main_arg1) : Vec Ideal S1x4096x2048 .f32) shapeCasts_S1x4096x2048_S4096x2048 : Vec Ideal S4096x2048 .f32)⟩]
theorem V_v8 : (V m c main_v8 : Vec Ideal S4096x8192 .f32) = concatenate S4096x8192 1 (pcs m c) concatenates_S4096x6144_S4096x2048_S4096x8192_d1 := by
  unfold V V0
  entry_read
  rfl

abbrev Args (R : ℕ → Row) (w : Wt) : Prop :=
  MA (m ((c : Thread nD τ).loc main_arg0)) (m ((c : Thread nD τ).loc main_arg2)) (m ((c : Thread nD τ).loc main_arg3))
    (m ((c : Thread nD τ).loc main_arg8)) (m ((c : Thread nD τ).loc main_arg1)) (m ((c : Thread nD τ).loc main_arg4))
    (m ((c : Thread nD τ).loc main_arg5)) (m ((c : Thread nD τ).loc main_arg6)) (m ((c : Thread nD τ).loc main_arg7)) R w

/-- Row `i` of block `t`, among all rows. -/
abbrev rowOf (t : Fin cfg0.N) (i : Fin 256) : Fin 4096 := ⟨256 * t.val + i.val, by have h := t.isLt; change t.val < 16 at h; omega⟩
variable (t : Fin cfg0.N)
theorem iblk0_apply (j : S256x1024.Idx) : (iblk m c 0 t : Vec Ideal S256x1024 .f32) j = (V m c main_v9 : Vec Ideal S4096x1024 .f32) (ix2 (rowOf t (j 0)) (j 1)) := by
  blk_ext [iblk, idx t]
theorem iblk1_apply (j : S256x1024.Idx) : (iblk m c 1 t : Vec Ideal S256x1024 .f32) j = (V m c main_v10 : Vec Ideal S4096x1024 .f32) (ix2 (rowOf t (j 0)) (j 1)) := by
  blk_ext [iblk, idx t]
theorem iblk3_apply (j : S256x1024.Idx) : (iblk m c 3 t : Vec Ideal S256x1024 .bf16) j = (V m c main_v12 : Vec Ideal S4096x1024 .bf16) (ix2 (rowOf t (j 0)) (j 1)) := by
  blk_ext [iblk, idx t]
theorem iblk4_apply (j : S256x1024.Idx) : (iblk m c 4 t : Vec Ideal S256x1024 .bf16) j = (V m c main_v14 : Vec Ideal S4096x1024 .bf16) (ix2 (rowOf t (j 0)) (j 1)) := by
  blk_ext [iblk, idx t]
theorem iblk2_apply (j : S256x2048.Idx) : (iblk m c 2 t : Vec Ideal S256x2048 .f32) j
    = (V m c main_v8 : Vec Ideal S4096x8192 .f32) (ix2 (rowOf t (j 0)) ⟨6144 + (j 1).val, by have h : (j 1).val < 2048 := (j 1).isLt; omega⟩) := by
  blk_ext [iblk, idx t]
theorem iblk5_apply (j : S1024x1024.Idx) : (iblk m c 5 t : Vec Ideal S1024x1024 .bf16) j = (V m c main_v1 : Vec Ideal S1024x1024 .bf16) (ix2 (j 0) (j 1)) := by
  blk_ext [iblk, idx t]
theorem iblk6_apply (j : S1024x1024.Idx) : (iblk m c 6 t : Vec Ideal S1024x1024 .bf16) j = (V m c main_v3 : Vec Ideal S1024x1024 .bf16) (ix2 (j 0) (j 1)) := by
  blk_ext [iblk, idx t]
theorem iblk7_apply (j : S1024x1024.Idx) : (iblk m c 7 t : Vec Ideal S1024x1024 .bf16) j = (V m c main_v5 : Vec Ideal S1024x1024 .bf16) (ix2 (j 0) (j 1)) := by
  blk_ext [iblk, idx t]
theorem iblk8_apply (j : S1x1024.Idx) : (iblk m c 8 t : Vec Ideal S1x1024 .f32) j = (V m c main_v15 : Vec Ideal S1x1024 .f32) (ix2 (j 0) (j 1)) := by
  blk_ext [iblk, idx t]

variable {m c}
variable {R : ℕ → Row} {w : Wt} (H : Args m c R w)
include H

theorem v1_at (j : S1024x1024.Idx) : (V m c main_v1 : Vec Ideal S1024x1024 .bf16) j = ((w.wa (j 0) (j 1) : ℝ) : EReal) := by
  rw [V_v1]
  exact (flat3 _ _ _).trans (H.r4 _)
theorem v3_at (j : S1024x1024.Idx) : (V m c main_v3 : Vec Ideal S1024x1024 .bf16) j = ((w.wb (j 0) (j 1) : ℝ) : EReal) := by
  rw [V_v3]
  exact (flat3 _ _ _).trans (H.r5 _)
theorem v5_at (j : S1024x1024.Idx) : (V m c main_v5 : Vec Ideal S1024x1024 .bf16) j = ((w.wo (j 0) (j 1) : ℝ) : EReal) := by
  rw [V_v5]
  exact (flat3 _ _ _).trans (H.r6 _)
theorem v9_at (j : S4096x1024.Idx) : (V m c main_v9 : Vec Ideal S4096x1024 .f32) j = (((R (j 0)).x (j 1) : ℝ) : EReal) := by
  rw [V_v9]
  exact (flat3 _ _ _).trans (H.r0 _)
theorem v10_at (j : S4096x1024.Idx) : (V m c main_v10 : Vec Ideal S4096x1024 .f32) j = (((R (j 0)).tg (j 1) : ℝ) : EReal) := by
  rw [V_v10]
  exact (flat3 _ _ _).trans (H.r8 _)
theorem v12_at (j : S4096x1024.Idx) : (V m c main_v12 : Vec Ideal S4096x1024 .bf16) j = (((R (j 0)).a (j 1) : ℝ) : EReal) := by
  rw [V_v12]
  exact (flat3 _ _ _).trans (H.r2 _)
theorem v14_at (j : S4096x1024.Idx) : (V m c main_v14 : Vec Ideal S4096x1024 .bf16) j = (((R (j 0)).o (j 1) : ℝ) : EReal) := by
  rw [V_v14]
  exact (flat3 _ _ _).trans (H.r3 _)
theorem v15_at (j : S1x1024.Idx) : (V m c main_v15 : Vec Ideal S1x1024 .f32) j = ((w.gf (j 1) : ℝ) : EReal) := by
  have h0 : (j 0).val < 1 := (j 0).isLt
  rw [V_v15]
  refine (shapeCast_apply _ _ j (ix1 (j 1) : S1024.Idx) ?_).trans (H.r7 _)
  rewrite [Shape.rowMajor_val_one, Shape.rowMajor_val_two]
  change (j 1).val = (j 0).val * 1024 + (j 1).val
  omega
theorem v8_at (i : Fin 4096) (k : Fin 2048) : (V m c main_v8 : Vec Ideal S4096x8192 .f32) (ix2 i ⟨6144 + k.val, by have h := k.isLt; omega⟩)
    = (((R i).g k : ℝ) : EReal) := by
  rw [V_v8]
  refine (concatenate_apply_piece (t := S4096x8192) 1 (pcs m c) _ _ 1 (by change 1 < 2; decide) S4096x2048
    (shapeCast _ (m ((c : Thread nD τ).loc main_arg1) : Vec Ideal S1x4096x2048 .f32) shapeCasts_S1x4096x2048_S4096x2048) rfl rfl 6144 rfl (ix2 i k) ?_ ?_).trans ?_
  · intro q hq
    match q with
    | 0 => rfl
    | 1 => exact absurd rfl hq
  · rfl
  · exact (flat3 _ _ _).trans (H.r1 _)

theorem b0 (j) : (iblk m c 0 t : Vec Ideal S256x1024 .f32) j = (((R (256 * t.val + (j 0).val)).x (j 1) : ℝ) : EReal) :=
  (iblk0_apply m c t j).trans (v9_at H _)
theorem b1 (j) : (iblk m c 1 t : Vec Ideal S256x1024 .f32) j = (((R (256 * t.val + (j 0).val)).tg (j 1) : ℝ) : EReal) :=
  (iblk1_apply m c t j).trans (v10_at H _)
theorem b2 (j) : (iblk m c 2 t : Vec Ideal S256x2048 .f32) j = (((R (256 * t.val + (j 0).val)).g (j 1) : ℝ) : EReal) :=
  (iblk2_apply m c t j).trans (v8_at H (rowOf t (j 0)) (j 1))
theorem b3 (j) : (iblk m c 3 t : Vec Ideal S256x1024 .bf16) j = (((R (256 * t.val + (j 0).val)).a (j 1) : ℝ) : EReal) :=
  (iblk3_apply m c t j).trans (v12_at H _)
theorem b4 (j) : (iblk m c 4 t : Vec Ideal S256x1024 .bf16) j = (((R (256 * t.val + (j 0).val)).o (j 1) : ℝ) : EReal) :=
  (iblk4_apply m c t j).trans (v14_at H _)
theorem b5 (j) : (iblk m c 5 t : Vec Ideal S1024x1024 .bf16) j = ((w.wa (j 0) (j 1) : ℝ) : EReal) :=
  (iblk5_apply m c t j).trans (v1_at H _)
theorem b6 (j) : (iblk m c 6 t : Vec Ideal S1024x1024 .bf16) j = ((w.wb (j 0) (j 1) : ℝ) : EReal) :=
  (iblk6_apply m c t j).trans (v3_at H _)
theorem b7 (j) : (iblk m c 7 t : Vec Ideal S1024x1024 .bf16) j = ((w.wo (j 0) (j 1) : ℝ) : EReal) :=
  (iblk7_apply m c t j).trans (v5_at H _)
theorem b8 (j) : (iblk m c 8 t : Vec Ideal S1x1024 .f32) j = ((w.gf (j 1) : ℝ) : EReal) :=
  (iblk8_apply m c t j).trans (v15_at H _)
omit H in
/-- Blocks hold what each of them holds. -/
theorem holds_of {x0 x1 : Vec Ideal S256x1024 .f32} {x2 : Vec Ideal S256x2048 .f32} {x3 x4 : Vec Ideal S256x1024 .bf16}
    {x5 x6 x7 : Vec Ideal S1024x1024 .bf16} {x8 : Vec Ideal S1x1024 .f32} (R' : ℕ → Row)
    (h0 : ∀ j, x0 j = (((R' (j 0)).x (j 1) : ℝ) : EReal)) (h1 : ∀ j, x1 j = (((R' (j 0)).tg (j 1) : ℝ) : EReal))
    (h2 : ∀ j, x2 j = (((R' (j 0)).g (j 1) : ℝ) : EReal)) (h3 : ∀ j, x3 j = (((R' (j 0)).a (j 1) : ℝ) : EReal))
    (h4 : ∀ j, x4 j = (((R' (j 0)).o (j 1) : ℝ) : EReal)) (h5 : ∀ j, x5 j = ((w.wa (j 0) (j 1) : ℝ) : EReal))
    (h6 : ∀ j, x6 j = ((w.wb (j 0) (j 1) : ℝ) : EReal)) (h7 : ∀ j, x7 j = ((w.wo (j 0) (j 1) : ℝ) : EReal))
    (h8 : ∀ j, x8 j = ((w.gf (j 1) : ℝ) : EReal)) : Holds ⟨x0, x1, x2, x3, x4, x5, x6, x7, x8⟩ R' w :=
  ⟨h0, h1, h2, h3, h4, h5, h6, h7, h8⟩
/-- Step `t`'s blocks hold the reals of its 256 rows. -/
theorem holds : Holds (blk m c t) (fun i => R (256 * t.val + i)) w := by
  refine holds_of (fun i => R (256 * t.val + i)) ?_ ?_ ?_ ?_ ?_ ?_ ?_ ?_ ?_
  · exact b0 t H
  · exact b1 t H
  · exact b2 t H
  · exact b3 t H
  · exact b4 t H
  · exact b5 t H
  · exact b6 t H
  · exact b7 t H
  · exact b8 t H

omit H in
theorem zero6 (j) : k0_pay6 (F := Ideal) j = ((0 : ℝ) : EReal) := by
  unfold k0_pay6
  pointwise
  rfl
omit H in
theorem zero7 (j) : k0_pay7 (F := Ideal) j = ((0 : ℝ) : EReal) := by
  unfold k0_pay7
  pointwise
  rfl
omit H in
theorem zero8 (j) : k0_pay8 (F := Ideal) j = ((0 : ℝ) : EReal) := by
  unfold k0_pay8
  pointwise
  rfl
omit H in
theorem zero9 (j) : k0_pay9 (F := Ideal) j = ((0 : ℝ) : EReal) := by
  unfold k0_pay9
  pointwise
  rfl
omit H in
theorem zero10 (j) : k0_pay10 (F := Ideal) j = ((0 : ℝ) : EReal) := by
  unfold k0_pay10
  pointwise
  rfl
theorem acc13 : ∀ (n : ℕ) (hn : n < cfg0.N) (j : S1024x1024.Idx), (outsAt0 m c n hn).2.2.2.2.1 j
    = ((∑ t ∈ range (256 * (n + 1)), swa (R t) w (j 0) (j 1) : ℝ) : EReal)
  | 0, hn, j => by
    rw [outs13_A m c ⟨0, hn⟩ (Nat.zero_mod 16)]
    refine (o13_at (holds ⟨0, hn⟩ H) _ (fun _ _ => 0) zero6 j).trans ?_
    simp only [Nat.mul_zero, Nat.zero_add, zero_add]
  | n + 1, hn, j => by
    have hN : cfg0.N = 16 := rfl
    rw [outs13_B m c ⟨n + 1, hn⟩ (by change ¬(n + 1) % 16 = 0; omega)]
    refine (o13_at (holds ⟨n + 1, hn⟩ H) _ (fun a b => ∑ t ∈ range (256 * (n + 1)), swa (R t) w a b) (fun i => acc13 n (Nat.lt_of_succ_lt hn) i) j).trans ?_
    rw [show 256 * (n + 1 + 1) = 256 * (n + 1) + 256 by ring, Finset.sum_range_add]
theorem acc14 : ∀ (n : ℕ) (hn : n < cfg0.N) (j : S1024x1024.Idx), (outsAt0 m c n hn).2.2.2.2.2.1 j
    = ((∑ t ∈ range (256 * (n + 1)), swb (R t) w (j 0) (j 1) : ℝ) : EReal)
  | 0, hn, j => by
    rw [outs14_A m c ⟨0, hn⟩ (Nat.zero_mod 16)]
    refine (o14_at (holds ⟨0, hn⟩ H) _ (fun _ _ => 0) zero7 j).trans ?_
    simp only [Nat.mul_zero, Nat.zero_add, zero_add]
  | n + 1, hn, j => by
    have hN : cfg0.N = 16 := rfl
    rw [outs14_B m c ⟨n + 1, hn⟩ (by change ¬(n + 1) % 16 = 0; omega)]
    refine (o14_at (holds ⟨n + 1, hn⟩ H) _ (fun a b => ∑ t ∈ range (256 * (n + 1)), swb (R t) w a b) (fun i => acc14 n (Nat.lt_of_succ_lt hn) i) j).trans ?_
    rw [show 256 * (n + 1 + 1) = 256 * (n + 1) + 256 by ring, Finset.sum_range_add]
theorem acc15 : ∀ (n : ℕ) (hn : n < cfg0.N) (j : S1024x1024.Idx), (outsAt0 m c n hn).2.2.2.2.2.2.1 j
    = ((∑ t ∈ range (256 * (n + 1)), swo (R t) w (j 0) (j 1) : ℝ) : EReal)
  | 0, hn, j => by
    rw [outs15_A m c ⟨0, hn⟩ (Nat.zero_mod 16)]
    refine (o15_at (holds ⟨0, hn⟩ H) _ (fun _ _ => 0) zero8 j).trans ?_
    simp only [Nat.mul_zero, Nat.zero_add, zero_add]
  | n + 1, hn, j => by
    have hN : cfg0.N = 16 := rfl
    rw [outs15_B m c ⟨n + 1, hn⟩ (by change ¬(n + 1) % 16 = 0; omega)]
    refine (o15_at (holds ⟨n + 1, hn⟩ H) _ (fun a b => ∑ t ∈ range (256 * (n + 1)), swo (R t) w a b) (fun i => acc15 n (Nat.lt_of_succ_lt hn) i) j).trans ?_
    rw [show 256 * (n + 1 + 1) = 256 * (n + 1) + 256 by ring, Finset.sum_range_add]
theorem acc16 : ∀ (n : ℕ) (hn : n < cfg0.N) (j : S1x1024.Idx), (outsAt0 m c n hn).2.2.2.2.2.2.2.1 j
    = ((∑ t ∈ range (256 * (n + 1)), sgf (R t) w (j 1) : ℝ) : EReal)
  | 0, hn, j => by
    rw [outs16_A m c ⟨0, hn⟩ (Nat.zero_mod 16)]
    refine (o16_at (holds ⟨0, hn⟩ H) _ (fun _ => 0) zero9 j).trans ?_
    simp only [Nat.mul_zero, Nat.zero_add, zero_add]
  | n + 1, hn, j => by
    have hN : cfg0.N = 16 := rfl
    rw [outs16_B m c ⟨n + 1, hn⟩ (by change ¬(n + 1) % 16 = 0; omega)]
    refine (o16_at (holds ⟨n + 1, hn⟩ H) _ (fun e => ∑ t ∈ range (256 * (n + 1)), sgf (R t) w e) (fun i => acc16 n (Nat.lt_of_succ_lt hn) i) j).trans ?_
    rw [show 256 * (n + 1 + 1) = 256 * (n + 1) + 256 by ring, Finset.sum_range_add]
theorem acc17 : ∀ (n : ℕ) (hn : n < cfg0.N) (j : S1x1024.Idx), (outsAt0 m c n hn).2.2.2.2.2.2.2.2 j
    = ((∑ t ∈ range (256 * (n + 1)), sls (R t) w (j 1) : ℝ) : EReal)
  | 0, hn, j => by
    rw [outs17_A m c ⟨0, hn⟩ (Nat.zero_mod 16)]
    refine (o17_at (holds ⟨0, hn⟩ H) _ (fun _ => 0) zero10 j).trans ?_
    simp only [Nat.mul_zero, Nat.zero_add, zero_add]
  | n + 1, hn, j => by
    have hN : cfg0.N = 16 := rfl
    rw [outs17_B m c ⟨n + 1, hn⟩ (by change ¬(n + 1) % 16 = 0; omega)]
    refine (o17_at (holds ⟨n + 1, hn⟩ H) _ (fun e => ∑ t ∈ range (256 * (n + 1)), sls (R t) w e) (fun i => acc17 n (Nat.lt_of_succ_lt hn) i) j).trans ?_
    rw [show 256 * (n + 1 + 1) = 256 * (n + 1) + 256 by ring, Finset.sum_range_add]

omit t
theorem arr10 : (dats m 0 c).arrAt 10 cfg0.N = (fun j => ((dy (R (j 0)) w (j 1) : ℝ) : EReal) : Vec Ideal S4096x1024 .f32) := by
  refine (dats m 0 c).arrAt_eq_of_coversWhere_of_agree 10 _ (fun β => True) (by decide +kernel) (fun t hf y => ?_) (fun j hj => ?_)
  · blk_simp [idx t]
    rw [after0_10, outs10]
    refine (o10_at (holds t H) _).trans ?_
    rw [Nat.mul_comm t.val 256]
  · exact absurd trivial hj
theorem arr11 : (dats m 0 c).arrAt 11 cfg0.N = (fun j => ((da (R (j 0)) w (j 1) : ℝ) : EReal) : Vec Ideal S4096x1024 .f32) := by
  refine (dats m 0 c).arrAt_eq_of_coversWhere_of_agree 11 _ (fun β => True) (by decide +kernel) (fun t hf y => ?_) (fun j hj => ?_)
  · blk_simp [idx t]
    rw [after0_11, outs11]
    refine (o11_at (holds t H) _).trans ?_
    rw [Nat.mul_comm t.val 256]
  · exact absurd trivial hj
theorem arr12 : (dats m 0 c).arrAt 12 cfg0.N = (fun j => ((db (R (j 0)) w (j 1) : ℝ) : EReal) : Vec Ideal S4096x1024 .f32) := by
  refine (dats m 0 c).arrAt_eq_of_coversWhere_of_agree 12 _ (fun β => True) (by decide +kernel) (fun t hf y => ?_) (fun j hj => ?_)
  · blk_simp [idx t]
    rw [after0_12, outs12]
    refine (o12_at (holds t H) _).trans ?_
    rw [Nat.mul_comm t.val 256]
  · exact absurd trivial hj
theorem arr13 : (dats m 0 c).arrAt 13 cfg0.N = (fun j => ((∑ t ∈ range 4096, swa (R t) w (j 0) (j 1) : ℝ) : EReal) : Vec Ideal S1024x1024 .f32) := by
  refine (dats m 0 c).arrAt_eq_of_after_last 13 t0_15 (by decide +kernel) _ fun j => ?_
  blk_simp
  rw [after0_13]
  exact acc13 H 15 _ _
theorem arr14 : (dats m 0 c).arrAt 14 cfg0.N = (fun j => ((∑ t ∈ range 4096, swb (R t) w (j 0) (j 1) : ℝ) : EReal) : Vec Ideal S1024x1024 .f32) := by
  refine (dats m 0 c).arrAt_eq_of_after_last 14 t0_15 (by decide +kernel) _ fun j => ?_
  blk_simp
  rw [after0_14]
  exact acc14 H 15 _ _
theorem arr15 : (dats m 0 c).arrAt 15 cfg0.N = (fun j => ((∑ t ∈ range 4096, swo (R t) w (j 0) (j 1) : ℝ) : EReal) : Vec Ideal S1024x1024 .f32) := by
  refine (dats m 0 c).arrAt_eq_of_after_last 15 t0_15 (by decide +kernel) _ fun j => ?_
  blk_simp
  rw [after0_15]
  exact acc15 H 15 _ _
theorem arr16 : (dats m 0 c).arrAt 16 cfg0.N = (fun j => ((∑ t ∈ range 4096, sgf (R t) w (j 1) : ℝ) : EReal) : Vec Ideal S1x1024 .f32) := by
  refine (dats m 0 c).arrAt_eq_of_after_last 16 t0_15 (by decide +kernel) _ fun j => ?_
  blk_simp
  rw [after0_16]
  exact acc16 H 15 _ _
theorem arr17 : (dats m 0 c).arrAt 17 cfg0.N = (fun j => ((∑ t ∈ range 4096, sls (R t) w (j 1) : ℝ) : EReal) : Vec Ideal S1x1024 .f32) := by
  refine (dats m 0 c).arrAt_eq_of_after_last 17 t0_15 (by decide +kernel) _ fun j => ?_
  blk_simp
  rw [after0_17]
  exact acc17 H 15 _ _
/-- The projection's gradient: the gates' columns as computed, the others as they were. -/
def X9 (R : ℕ → Row) (w : Wt) (z : Vec Ideal S4096x8192 .bf16) : Vec Ideal S4096x8192 .bf16 :=
  fun j => if 6144 ≤ (j 1).val then ((dgt (R (j 0)) w ((j 1).val - 6144) : ℝ) : EReal) else z j
omit H in
theorem X9_in (z : Vec Ideal S4096x8192 .bf16) (j : S4096x8192.Idx) (i k : ℕ) (h0 : (j 0).val = i) (h1 : (j 1).val = 6144 + k) :
    X9 R w z j = ((dgt (R i) w k : ℝ) : EReal) := by
  unfold X9
  rw [if_pos (by omega), h0, h1, Nat.add_sub_cancel_left]
theorem arr9 : (dats m 0 c).arrAt 9 cfg0.N = X9 R w ((dats m 0 c).A 9) := by
  refine (dats m 0 c).arrAt_eq_of_coversWhere_of_agree 9 _ (fun β => β (1 : Fin 2) = 3) (by decide +kernel) (fun t hf y => ?_) (fun j hj => ?_)
  · blk_simp [idx t]
    rw [after0_9, outs9]
    refine (l9_at (holds t H) _).trans ?_
    refine (X9_in _ _ _ _ ?_ ?_).symm
    · blk_simp [idx t]
      change t.val * 256 + (y 0).val = 256 * t.val + (y 0).val
      rw [Nat.mul_comm]
    · blk_simp [idx t]
  · blk_simp [Pipeline.Window.cell_apply] at hj
    have h2 : ((cfg0.win 9).arr.view.emb j 1).val < 6144 := by
      have h3 : (j 1).val < 8192 := (j 1).isLt
      change (j 1).val < 6144
      omega
    exact (if_neg (by omega)).symm
end Entry
end Cert.MergeVal
-- ==== Proof.Merge.Ref.lean ====
module

public import proofs.«01_k».proof.Proof.Merge.Arrays
public import proofs.«01_k».proof.Proof.Gen.MergeRefIdeal.Read

@[expose] public section

noncomputable section

/-! The reference's values of the merge's call up to the gradient of the layer's output, one operation at a time, at arguments that hold
    reals. -/

namespace Cert.MergeVal

open Cert.MergeRefIdeal Cert.MergeRefIdeal.Gen Cert.MergeRefIdeal.Read Idealize.ShloMosaic Idealize.ShloMosaic.TcCoe
open Cert.RowNorm (ms rr oh dn ms_eps_pos rr_mul dn_ref)
open Cert.Mix (coe_sum_range lgst)
open Cert.DxVal (prod_at)
open Finset

section Values
variable {x0 x2 x3 x8 : (⟨S1x4096x1024, .f32⟩ : BufTy).Contents (Elt Ideal)} {x1 : (⟨S1x4096x2048, .f32⟩ : BufTy).Contents (Elt Ideal)}
  {x4 x5 x6 : (⟨S1x1024x1024, .f32⟩ : BufTy).Contents (Elt Ideal)} {x7 : (⟨S1024, .f32⟩ : BufTy).Contents (Elt Ideal)}
  {R : ℕ → Row} {w : Wt} (H : MA x0 x2 x3 x8 x1 x4 x5 x6 x7 R w)
include H

/-! ### The merge and the output projection -/

theorem r5_at (i : S1x4096x2048.Idx) : val_main_v5 (F := Ideal) x1 i = ((lgst ((R (i 1)).g (i 2)) : ℝ) : EReal) := by
  have h : 1 + Real.exp (-(R (i 1)).g (i 2)) ≠ 0 := (add_pos one_pos (Real.exp_pos _)).ne'
  rw [val_main_v5_apply, val_main_v4_apply, val_main_cst_0_apply, val_main_v3_apply, val_main_v2_apply,
    val_main_cst_apply, val_main_v1_apply, val_main_v0_apply, H.r1]
  simp only [Ideal.ofBits_def, Mix.word_one, Ideal.hostNegf_def, Ideal.negf_def, ← EReal.coe_neg, Ideal.hostUnary_exp_def, Ideal.exp_coe,
    Ideal.addf_def, ← EReal.coe_add, Ideal.hostDivf_def]
  rw [Mix.div_real _ _ h, one_mul, Mix.lgst_eq]
theorem r8_at (i : S1x4096x2048.Idx) : val_main_v8 (F := Ideal) x1 i
    = ((lgst ((R (i 1)).g (i 2)) * (1 - lgst ((R (i 1)).g (i 2))) : ℝ) : EReal) := by
  rw [val_main_v8_apply, val_main_v7_apply, val_main_v6_apply, val_main_cst_1_apply, r5_at H, Ideal.ofBits_def, Mix.word_one, Ideal.subf_def,
    ← EReal.coe_sub, Ideal.mulf_def, ← EReal.coe_mul]
theorem r9_at (i : S1x4096x1024.Idx) : val_main_v9 (F := Ideal) x1 i = ((ga (R (i 1)) (i 2) : ℝ) : EReal) := by
  rw [val_main_v9_apply, r5_at H]
  rfl
theorem r10_at (i : S1x4096x1024.Idx) : val_main_v10 (F := Ideal) x1 i = ((gb (R (i 1)) (i 2) : ℝ) : EReal) := by
  rw [val_main_v10_apply, r5_at H]
  rfl
theorem r11_at (i : S1024x1024.Idx) : val_main_v11 (F := Ideal) x4 i = ((w.wa (i 0) (i 1) : ℝ) : EReal) := by
  have h0 : (i 0).val < 1024 := (i 0).isLt
  have h1 : (i 1).val < 1024 := (i 1).isLt
  rw [val_main_v11_apply, H.r4]
  exact congrArg₂ (fun a b => ((w.wa a b : ℝ) : EReal)) (show ((i 0).val * 1024 + (i 1).val) / 1024 % 1024 = (i 0).val by omega)
    (show ((i 0).val * 1024 + (i 1).val) % 1024 = (i 1).val by omega)
theorem r14_at (i : S1024x1024.Idx) : val_main_v14 (F := Ideal) x5 i = ((w.wb (i 0) (i 1) : ℝ) : EReal) := by
  have h0 : (i 0).val < 1024 := (i 0).isLt
  have h1 : (i 1).val < 1024 := (i 1).isLt
  rw [val_main_v14_apply, H.r5]
  exact congrArg₂ (fun a b => ((w.wb a b : ℝ) : EReal)) (show ((i 0).val * 1024 + (i 1).val) / 1024 % 1024 = (i 0).val by omega)
    (show ((i 0).val * 1024 + (i 1).val) % 1024 = (i 1).val by omega)
theorem r18_at (i : S1024x1024.Idx) : val_main_v18 (F := Ideal) x6 i = ((w.wo (i 0) (i 1) : ℝ) : EReal) := by
  have h0 : (i 0).val < 1024 := (i 0).isLt
  have h1 : (i 1).val < 1024 := (i 1).isLt
  rw [val_main_v18_apply, H.r6]
  exact congrArg₂ (fun a b => ((w.wo a b : ℝ) : EReal)) (show ((i 0).val * 1024 + (i 1).val) / 1024 % 1024 = (i 0).val by omega)
    (show ((i 0).val * 1024 + (i 1).val) % 1024 = (i 1).val by omega)
theorem r12_at (i : S1x4096x1024.Idx) : val_main_v12 (F := Ideal) x2 x4 i = ((pa (R (i 1)) w (i 2) : ℝ) : EReal) := by
  rw [val_main_v12_apply]
  exact prod_at (f := fun k => (R (i 1)).a k) (g := fun k => w.wa k (i 2)) (fun k => H.r2 _) (fun k => r11_at H _)
theorem r15_at (i : S1x4096x1024.Idx) : val_main_v15 (F := Ideal) x3 x5 i = ((pb (R (i 1)) w (i 2) : ℝ) : EReal) := by
  rw [val_main_v15_apply]
  exact prod_at (f := fun k => (R (i 1)).o k) (g := fun k => w.wb k (i 2)) (fun k => H.r3 _) (fun k => r14_at H _)
theorem r17_at (i : S1x4096x1024.Idx) : val_main_v17 (F := Ideal) x1 x2 x3 x4 x5 i = ((mb (R (i 1)) w (i 2) : ℝ) : EReal) := by
  rw [val_main_v17_apply, val_main_v13_apply, val_main_v16_apply, r9_at H, r10_at H, r12_at H, r15_at H]
  simp only [Ideal.mulf_def, ← EReal.coe_mul, Ideal.addf_def, ← EReal.coe_add]
  rfl
theorem r20_at (i : S1x4096x1024.Idx) : val_main_v20 (F := Ideal) x0 x1 x2 x3 x4 x5 x6 i = ((yy (R (i 1)) w (i 2) : ℝ) : EReal) := by
  rw [val_main_v20_apply, H.r0, val_main_v19_apply, Ideal.addf_def]
  unfold yy
  rw [EReal.coe_add]
  refine congrArg (((R (i 1)).x (i 2) : ℝ) + · : EReal → EReal) ?_
  exact prod_at (f := fun k => mb (R (i 1)) w k) (g := fun k => w.wo k (i 2)) (fun k => r17_at H _) (fun k => r18_at H _)

/-! ### The final norm and the error -/

theorem r22_at (i : S1x4096.Idx) : val_main_v22 (F := Ideal) x0 x1 x2 x3 x4 x5 x6 i = ((∑ e ∈ range 1024, yy (R (i 1)) w e * yy (R (i 1)) w e : ℝ) : EReal) := by
  rw [val_main_v22_apply, val_main_cst_2_apply, Ideal.ofBits_def, Ideal.ofBits_zero_f32, zero_add, coe_sum_range]
  refine Finset.sum_congr rfl fun k _ => ?_
  rw [val_main_v21_apply, r20_at H, Ideal.mulf_def, ← EReal.coe_mul]
theorem r27_at (i : S1x4096x1.Idx) : val_main_v27 (F := Ideal) x0 x1 x2 x3 x4 x5 x6 i = ((ms (yy (R (i 1)) w) + GlaVal.eps : ℝ) : EReal) := by
  rw [val_main_v27_apply, val_main_v25_apply, val_main_v23_apply, r22_at H, val_main_v24_apply, val_main_cst_3_apply, val_main_v26_apply,
    val_main_cst_4_apply, Ideal.ofBits_def, Mix.word_1024, Ideal.ofBits_def, GlaVal.word_eps, Ideal.hostDivf_def, Mix.div_1024, Ideal.addf_def, ← EReal.coe_add]
  rfl
theorem r28_at (i : S1x4096x1.Idx) : val_main_v28 (F := Ideal) x0 x1 x2 x3 x4 x5 x6 i = ((rr (yy (R (i 1)) w) : ℝ) : EReal) := by
  have hp := ms_eps_pos (yy (R (i 1)) w)
  rw [val_main_v28_apply, r27_at H, Ideal.hostUnary_rsqrt_def, Ideal.rsqrt_coe, if_neg hp.not_gt, if_neg hp.ne']
  rfl
theorem r31_at (i : S1x4096x1.Idx) : val_main_v31 (F := Ideal) x0 x1 x2 x3 x4 x5 x6 i
    = ((-(1 / 2) * (rr (yy (R (i 1)) w) * (rr (yy (R (i 1)) w) * rr (yy (R (i 1)) w))) : ℝ) : EReal) := by
  have hp := ms_eps_pos (yy (R (i 1)) w)
  rw [val_main_v31_apply, val_main_v30_apply, val_main_cst_5_apply, val_main_v29_apply, r28_at H, r27_at H, Ideal.ofBits_def, GlaVal.word_neg_half,
    Ideal.hostDivf_def, Mix.div_real _ _ hp.ne', Ideal.mulf_def, ← EReal.coe_mul, rr_mul]
theorem r33_at (i : S1x4096x1024.Idx) : val_main_v33 (F := Ideal) x0 x1 x2 x3 x4 x5 x6 i = ((oh (yy (R (i 1)) w) (i 2) : ℝ) : EReal) := by
  rw [val_main_v33_apply, r20_at H, val_main_v32_apply, r28_at H, Ideal.mulf_def, ← EReal.coe_mul]
  rfl
theorem r34_at (i : S1x1x1024.Idx) : val_main_v34 (F := Ideal) x7 i = ((w.gf (i 2) : ℝ) : EReal) := by
  rw [val_main_v34_apply, H.r7]
theorem r37_at (i : S1x4096x1024.Idx) : val_main_v37 (F := Ideal) x0 x1 x2 x3 x4 x5 x6 x7 x8 i = ((err (R (i 1)) w (i 2) : ℝ) : EReal) := by
  rw [val_main_v37_apply, val_main_v36_apply, r33_at H, val_main_v35_apply, r34_at H, H.r8, Ideal.mulf_def, ← EReal.coe_mul, Ideal.subf_def, ← EReal.coe_sub]
  rfl
/-- The loss's columns. -/
theorem r50_at (i : S1x1024.Idx) : val_main_v50 (F := Ideal) x0 x1 x2 x3 x4 x5 x6 x7 x8 i = ((∑ t ∈ range 4096, sls (R t) w (i 1) : ℝ) : EReal) := by
  have e : (∑ t ∈ range 4096, sls (R t) w (i 1) : ℝ) = 1 / 2 * ∑ t ∈ range 4096, err (R t) w (i 1) * err (R t) w (i 1) / 1024 := by
    rw [Finset.mul_sum]
    exact Finset.sum_congr rfl fun t _ => by unfold sls; ring
  rw [e, val_main_v50_apply, val_main_v49_apply, val_main_cst_13_apply, Ideal.ofBits_def, Mix.word_half, Ideal.mulf_def, EReal.coe_mul, val_main_v48_apply,
    val_main_cst_12_apply, Ideal.ofBits_def, Ideal.ofBits_zero_f32, zero_add, coe_sum_range]
  refine congrArg _ (Finset.sum_congr rfl fun k _ => ?_)
  rw [val_main_v47_apply, val_main_v38_apply, r37_at H, Ideal.mulf_def, ← EReal.coe_mul, val_main_v46_apply, val_main_cst_11_apply, Ideal.ofBits_def,
    Mix.word_1024, Ideal.hostDivf_def, Mix.div_1024]
theorem r56_at (i : S1x4096x1024.Idx) : val_main_v56 (F := Ideal) x0 x1 x2 x3 x4 x5 x6 x7 x8 i = ((dout (R (i 1)) w (i 2) : ℝ) : EReal) := by
  rw [val_main_v56_apply, val_main_v55_apply, val_main_v54_apply, val_main_v52_apply, val_main_v51_apply, val_main_cst_14_apply, val_main_cst_15_apply,
    val_main_v53_apply, val_main_cst_16_apply, val_main_v40_apply, val_main_v39_apply, val_main_cst_6_apply, r37_at H]
  simp only [Ideal.ofBits_def, Mix.word_half, Mix.word_one, Mix.word_two, Mix.word_1024, Ideal.mulf_def, ← EReal.coe_mul, Ideal.hostDivf_def, Mix.div_1024]
  exact congrArg Real.toEReal (by unfold dout; ring)
theorem r58_at (i : S1x1024.Idx) : val_main_v58 (F := Ideal) x0 x1 x2 x3 x4 x5 x6 x7 x8 i = ((∑ t ∈ range 4096, sgf (R t) w (i 1) : ℝ) : EReal) := by
  rw [val_main_v58_apply, val_main_cst_17_apply, Ideal.ofBits_def, Ideal.ofBits_zero_f32, zero_add, coe_sum_range]
  refine Finset.sum_congr rfl fun k _ => ?_
  rw [val_main_v57_apply, r33_at H, r56_at H, Ideal.mulf_def, ← EReal.coe_mul]
  exact congrArg Real.toEReal (mul_comm _ _)
/-- The gradient of the final norm's scale. -/
theorem r104_at (i : S1x1024.Idx) : val_main_v104 (F := Ideal) x0 x1 x2 x3 x4 x5 x6 x7 x8 i = ((∑ t ∈ range 4096, sgf (R t) w (i 1) : ℝ) : EReal) := by
  have hi : (i 1).val < 1024 := (i 1).isLt
  have hi0 : (i 0).val < 1 := (i 0).isLt
  rw [val_main_v104_apply]
  unfold val_main_v62
  simp only [Host.reduceAdd, Ideal.hostReduceAdd_def]
  rw [Mix.reduce_by reducesTo_S1x1x1024_S1024_d0_1 _ _ (idx_main_v104 i) (κ := Unit) (fun _ a => match a with
    | ⟨0, _⟩ => ⟨0, Nat.one_pos⟩ | ⟨1, _⟩ => ⟨0, Nat.one_pos⟩ | ⟨2, _⟩ => i 1)
    (fun _ _ _ => rfl) ?_]
  · rw [val_main_cst_18_apply, Ideal.ofBits_def, Ideal.ofBits_zero_f32, zero_add, Fintype.sum_unique, val_main_v59_apply, r58_at H]
    refine congrArg (fun n => ((∑ t ∈ range 4096, sgf (R t) w n : ℝ) : EReal)) ?_
    change ((0 * 1 + 0) * 1024 + (i 1).val) % 1024 = (i 1).val
    omega
  · intro k
    have d0 := Shape.ReducesTo.drop_apply_val_of_eq reducesTo_S1x1x1024_S1024_d0_1 k 0 2
    have h0 : (k 0).val < 1 := (k 0).isLt
    have h1 : (k 1).val < 1 := (k 1).isLt
    have hv : ((idx_main_v104 i) 0).val = (i 1).val := by
      change (i 0).val * 1024 + (i 1).val = (i 1).val
      omega
    constructor
    · intro e
      refine ⟨(), funext fun a => Fin.ext ?_⟩
      match a with
      | ⟨0, _⟩ => change 0 = (k 0).val; omega
      | ⟨1, _⟩ => change 0 = (k 1).val; omega
      | ⟨2, _⟩ => change (i 1).val = (k 2).val; rw [← hv, ← e]; exact d0
    · rintro ⟨_, rfl⟩
      refine funext fun a => Fin.ext ?_
      match a with
      | ⟨0, _⟩ => exact d0.trans hv.symm

/-! ### The gradient of the layer's output -/

theorem r61_at (i : S1x4096x1024.Idx) : val_main_v61 (F := Ideal) x0 x1 x2 x3 x4 x5 x6 x7 x8 i = ((dout (R (i 1)) w (i 2) * w.gf (i 2) : ℝ) : EReal) := by
  rw [val_main_v61_apply, r56_at H, val_main_v60_apply, r34_at H, Ideal.mulf_def, ← EReal.coe_mul]
/-- The sum that the mean square's derivative multiplies. -/
def sy (r : Row) (w : Wt) : ℝ := ∑ e ∈ range 1024, yy r w e * (dout r w e * w.gf e)
theorem r64_at (i : S1x4096.Idx) : val_main_v64 (F := Ideal) x0 x1 x2 x3 x4 x5 x6 x7 x8 i = ((sy (R (i 1)) w : ℝ) : EReal) := by
  unfold sy
  rw [val_main_v64_apply, val_main_cst_19_apply, Ideal.ofBits_def, Ideal.ofBits_zero_f32, zero_add, coe_sum_range]
  refine Finset.sum_congr rfl fun k _ => ?_
  rw [val_main_v63_apply, r20_at H, r61_at H, Ideal.mulf_def, ← EReal.coe_mul]
/-- The mean square's gradient, over the count. -/
def sq (r : Row) (w : Wt) : ℝ := sy r w * (-(1 / 2) * (rr (yy r w) * (rr (yy r w) * rr (yy r w)))) / 1024
theorem r70_at (i : S1x4096x1.Idx) : val_main_v70 (F := Ideal) x0 x1 x2 x3 x4 x5 x6 x7 x8 i = ((sq (R (i 1)) w : ℝ) : EReal) := by
  have h1 : (i 1).val < 4096 := (i 1).isLt
  have h2 : (i 2).val < 1 := (i 2).isLt
  rw [val_main_v70_apply, val_main_v68_apply, val_main_v65_apply, r64_at H, r31_at H, val_main_v69_apply, val_main_cst_20_apply, Ideal.ofBits_def,
    Mix.word_1024, Ideal.mulf_def, ← EReal.coe_mul, Ideal.hostDivf_def, Mix.div_1024]
  refine congrArg Real.toEReal (congrArg (fun n => sy (R n) w * _ / 1024) ?_)
  change (((i 0).val * 4096 + (i 1).val) * 1 + (i 2).val) % 4096 = (i 1).val
  have h0 : (i 0).val < 1 := (i 0).isLt
  omega
theorem r72_at (i : S1x4096.Idx) : val_main_v72 (F := Ideal) x0 x1 x2 x3 x4 x5 x6 x7 x8 i = ((sq (R (i 1)) w : ℝ) : EReal) := by
  rw [val_main_v72_apply]
  unfold val_main_v71
  simp only [Host.reduceAdd, Ideal.hostReduceAdd_def]
  rw [Mix.reduce_by reducesTo_S1x4096x1_S4096_d0_2 _ _ (idx_main_v72 i) (κ := Unit) (fun _ a => match a with
    | ⟨0, _⟩ => ⟨0, Nat.one_pos⟩ | ⟨1, _⟩ => i 1 | ⟨2, _⟩ => ⟨0, Nat.one_pos⟩)
    (fun _ _ _ => rfl) ?_]
  · rw [val_main_cst_21_apply, Ideal.ofBits_def, Ideal.ofBits_zero_f32, zero_add, Fintype.sum_unique, r70_at H]
  · intro k
    have d0 := Shape.ReducesTo.drop_apply_val_of_eq reducesTo_S1x4096x1_S4096_d0_2 k 0 1
    have h0 : (k 0).val < 1 := (k 0).isLt
    have h1 : (k 2).val < 1 := (k 2).isLt
    constructor
    · intro e
      refine ⟨(), funext fun a => Fin.ext ?_⟩
      match a with
      | ⟨0, _⟩ => change 0 = (k 0).val; omega
      | ⟨1, _⟩ => change ((idx_main_v72 i) 0).val = (k 1).val; rw [← e]; exact d0
      | ⟨2, _⟩ => change 0 = (k 2).val; omega
    · rintro ⟨_, rfl⟩
      refine funext fun a => Fin.ext ?_
      match a with
      | ⟨0, _⟩ => exact d0
theorem r77_at (i : S1x4096x1024.Idx) : val_main_v77 (F := Ideal) x0 x1 x2 x3 x4 x5 x6 x7 x8 i = ((dy (R (i 1)) w (i 2) : ℝ) : EReal) := by
  rw [val_main_v77_apply, val_main_v75_apply, val_main_v67_apply, r61_at H, val_main_v66_apply, r28_at H, val_main_v74_apply, r20_at H,
    val_main_v76_apply, r20_at H, val_main_v73_apply, r72_at H]
  simp only [Ideal.mulf_def, ← EReal.coe_mul, Ideal.addf_def, ← EReal.coe_add]
  refine congrArg Real.toEReal ?_
  unfold dy sq sy
  rw [← dn_ref]
end Values
end Cert.MergeVal
-- ==== Proof.Merge.Ref2.lean ====
module

public import proofs.«01_k».proof.Proof.Merge.Ref

@[expose] public section

noncomputable section

/-! The reference's values of the merge's call behind the gradient of the layer's output: the branches', the gates' and the weights'
    gradients. -/

namespace Cert.MergeVal

open Cert.MergeRefIdeal Cert.MergeRefIdeal.Gen Cert.MergeRefIdeal.Read Idealize.ShloMosaic Idealize.ShloMosaic.TcCoe
open Cert.RowNorm (ms rr oh dn ms_eps_pos rr_mul dn_ref)
open Cert.Mix (coe_sum_range lgst)
open Cert.DxVal (prod_at)
open Finset

/-! ### The products over the batch and the positions -/

/-- The product of two arrays of rows, over the batch and the positions. -/
abbrev dT := dot_S1x4096x1024_S1x4096x1024_S1024x1024_01_01_2_2_n_n

/-- One position, as a place of the product's contraction. -/
def dTk (k : Fin 4096) : dT.contr.Idx := fun a => match a with
  | ⟨0, _⟩ => ⟨0, Nat.one_pos⟩
  | ⟨1, _⟩ => k
theorem dTk_bij : Function.Bijective dTk := by
  constructor
  · intro k l e
    exact congrFun e ⟨1, by decide⟩
  · intro q
    refine ⟨q ⟨1, by decide⟩, funext fun a => Fin.ext ?_⟩
    match a with
    | ⟨0, h⟩ =>
      have h0 : (q ⟨0, h⟩).val < 1 := (q ⟨0, h⟩).isLt
      change 0 = (q ⟨0, h⟩).val
      omega
    | ⟨1, _⟩ => rfl
theorem dT_lhs1 (i : S1024x1024.Idx) (q : dT.contr.Idx) : (dT.lhsIdx i q 1).val = (q ⟨1, by decide⟩).val := by
  unfold DotDims.lhsIdx
  rw [dif_neg (show ¬(1 : Fin S1x4096x1024.rank) ∈ dT.lhsBatch by decide),
    dif_neg (show ¬(1 : Fin S1x4096x1024.rank) ∈ dT.lhsNonContracting by decide)]
  rfl
theorem dT_lhs2 (i : S1024x1024.Idx) (q : dT.contr.Idx) : (dT.lhsIdx i q 2).val = (i 0).val := by
  unfold DotDims.lhsIdx
  rw [dif_neg (show ¬(2 : Fin S1x4096x1024.rank) ∈ dT.lhsBatch by decide),
    dif_pos (show (2 : Fin S1x4096x1024.rank) ∈ dT.lhsNonContracting by decide)]
  rfl
theorem dT_rhs1 (i : S1024x1024.Idx) (q : dT.contr.Idx) : (dT.rhsIdx i q 1).val = (q ⟨1, by decide⟩).val := by
  unfold DotDims.rhsIdx
  rw [dif_neg (show ¬(1 : Fin S1x4096x1024.rank) ∈ dT.rhsBatch by decide),
    dif_neg (show ¬(1 : Fin S1x4096x1024.rank) ∈ dT.rhsNonContracting by decide)]
  rfl
theorem dT_rhs2 (i : S1024x1024.Idx) (q : dT.contr.Idx) : (dT.rhsIdx i q 2).val = (i 1).val := by
  unfold DotDims.rhsIdx
  rw [dif_neg (show ¬(2 : Fin S1x4096x1024.rank) ∈ dT.rhsBatch by decide),
    dif_pos (show (2 : Fin S1x4096x1024.rank) ∈ dT.rhsNonContracting by decide)]
  rfl
/-- That product, at the reals that its two arrays hold. -/
theorem dT_at {l r : FVec Ideal S1x4096x1024 .f32} {f g : ℕ → ℕ → ℝ} (hl : ∀ i, l i = ((f (i 1) (i 2) : ℝ) : EReal))
    (hr : ∀ i, r i = ((g (i 1) (i 2) : ℝ) : EReal)) (i : S1024x1024.Idx) :
    (Host.dotGeneral (F := Ideal) dT none l r : FVec Ideal S1024x1024 .f32) i = ((∑ t ∈ range 4096, f t (i 0) * g t (i 1) : ℝ) : EReal) := by
  simp only [Host.dotGeneral]
  rw [Ideal.dotGeneral_apply, ← Function.Bijective.sum_comp dTk_bij, coe_sum_range]
  refine Finset.sum_congr rfl fun t _ => ?_
  rw [hl, hr, ← EReal.coe_mul, dT_lhs1, dT_lhs2, dT_rhs1, dT_rhs2]
  rfl

section Values
variable {x0 x2 x3 x8 : (⟨S1x4096x1024, .f32⟩ : BufTy).Contents (Elt Ideal)} {x1 : (⟨S1x4096x2048, .f32⟩ : BufTy).Contents (Elt Ideal)}
  {x4 x5 x6 : (⟨S1x1024x1024, .f32⟩ : BufTy).Contents (Elt Ideal)} {x7 : (⟨S1024, .f32⟩ : BufTy).Contents (Elt Ideal)}
  {R : ℕ → Row} {w : Wt} (H : MA x0 x2 x3 x8 x1 x4 x5 x6 x7 R w)
include H

/-! ### The branches and the gates -/

theorem r80_at (i : S1x4096x1024.Idx) : val_main_v80 (F := Ideal) x0 x1 x2 x3 x4 x5 x6 x7 x8 i = ((dm (R (i 1)) w (i 2) : ℝ) : EReal) := by
  rw [val_main_v80_apply]
  exact prod_at (f := fun k => dy (R (i 1)) w k) (g := fun k => w.wo (i 2) k) (fun k => r77_at H _) (fun k => r18_at H _)
theorem r82_at (i : S1x4096x1024.Idx) : val_main_v82 (F := Ideal) x0 x1 x2 x3 x4 x5 x6 x7 x8 i = ((dpb (R (i 1)) w (i 2) : ℝ) : EReal) := by
  rw [val_main_v82_apply, r10_at H, r80_at H, Ideal.mulf_def, ← EReal.coe_mul]
  exact congrArg Real.toEReal (mul_comm _ _)
theorem r88_at (i : S1x4096x1024.Idx) : val_main_v88 (F := Ideal) x0 x1 x2 x3 x4 x5 x6 x7 x8 i = ((dpa (R (i 1)) w (i 2) : ℝ) : EReal) := by
  rw [val_main_v88_apply, r9_at H, r80_at H, Ideal.mulf_def, ← EReal.coe_mul]
  exact congrArg Real.toEReal (mul_comm _ _)
theorem r86_at (i : S1x4096x1024.Idx) : val_main_v86 (F := Ideal) x0 x1 x2 x3 x4 x5 x6 x7 x8 i = ((db (R (i 1)) w (i 2) : ℝ) : EReal) := by
  rw [val_main_v86_apply]
  exact prod_at (f := fun k => dpb (R (i 1)) w k) (g := fun k => w.wb (i 2) k) (fun k => r82_at H _) (fun k => r14_at H _)
theorem r92_at (i : S1x4096x1024.Idx) : val_main_v92 (F := Ideal) x0 x1 x2 x3 x4 x5 x6 x7 x8 i = ((da (R (i 1)) w (i 2) : ℝ) : EReal) := by
  rw [val_main_v92_apply]
  exact prod_at (f := fun k => dpa (R (i 1)) w k) (g := fun k => w.wa (i 2) k) (fun k => r88_at H _) (fun k => r11_at H _)
theorem r94_at (i : S1x4096x2048.Idx) : val_main_v94 (F := Ideal) x0 x1 x2 x3 x4 x5 x6 x7 x8 i = (((if (i 2).val < 1024 then dm (R (i 1)) w (i 2) * pa (R (i 1)) w (i 2)
    else dm (R (i 1)) w ((i 2).val - 1024) * pb (R (i 1)) w ((i 2).val - 1024)) : ℝ) : EReal) := by
  have hi : (i 2).val < 2048 := (i 2).isLt
  have h0 : (i 0).val < 1 := (i 0).isLt
  unfold val_main_v94
  by_cases h : (i 2).val < 1024
  · rw [if_pos h]
    refine (concatenate_apply_piece (t := S1x4096x2048) 2
      [⟨S1x4096x1024, val_main_v89 (F := Ideal) x0 x1 x2 x3 x4 x5 x6 x7 x8⟩, ⟨S1x4096x1024, val_main_v83 (F := Ideal) x0 x1 x2 x3 x4 x5 x6 x7 x8⟩] _ i 0 (by change 0 < 2; decide) S1x4096x1024
      (val_main_v89 (F := Ideal) x0 x1 x2 x3 x4 x5 x6 x7 x8) rfl rfl 0 rfl (ix3 0 (i 1) ⟨(i 2).val, h⟩) ?_ ?_).trans ?_
    · intro q hq
      match q with
      | 0 => change 0 = (i 0).val; omega
      | 1 => rfl
      | 2 => exact absurd rfl hq
    · exact Nat.zero_add _
    · rw [val_main_v89_apply, r80_at H, r12_at H, Ideal.mulf_def, ← EReal.coe_mul]
      rfl
  · rw [if_neg h]
    refine (concatenate_apply_piece (t := S1x4096x2048) 2
      [⟨S1x4096x1024, val_main_v89 (F := Ideal) x0 x1 x2 x3 x4 x5 x6 x7 x8⟩, ⟨S1x4096x1024, val_main_v83 (F := Ideal) x0 x1 x2 x3 x4 x5 x6 x7 x8⟩] _ i 1 (by change 1 < 2; decide) S1x4096x1024
      (val_main_v83 (F := Ideal) x0 x1 x2 x3 x4 x5 x6 x7 x8) rfl rfl 1024 rfl (ix3 0 (i 1) ⟨(i 2).val - 1024, by omega⟩) ?_ ?_).trans ?_
    · intro q hq
      match q with
      | 0 => change 0 = (i 0).val; omega
      | 1 => rfl
      | 2 => exact absurd rfl hq
    · change 1024 + ((i 2).val - 1024) = (i 2).val
      omega
    · rw [val_main_v83_apply, r80_at H, r15_at H, Ideal.mulf_def, ← EReal.coe_mul]
      rfl
theorem r95_at (i : S1x4096x2048.Idx) : val_main_v95 (F := Ideal) x0 x1 x2 x3 x4 x5 x6 x7 x8 i = ((dgt (R (i 1)) w (i 2) : ℝ) : EReal) := by
  rw [val_main_v95_apply, r8_at H, r94_at H, Ideal.mulf_def, ← EReal.coe_mul]
  refine congrArg Real.toEReal ?_
  unfold dgt
  by_cases h : (i 2).val < 1024
  · rw [if_pos h, if_pos h]
    unfold dga ga
    ring
  · have e : 1024 + ((i 2).val - 1024) = (i 2).val := by omega
    rw [if_neg h, if_neg h]
    unfold dgb gb
    rw [e]
    ring

/-! ### The results -/

theorem r97_at (i : S4096x2048.Idx) : val_main_v97 (F := Ideal) x0 x1 x2 x3 x4 x5 x6 x7 x8 i = ((dgt (R (i 0)) w (i 1) : ℝ) : EReal) := by
  have h0 : (i 0).val < 4096 := (i 0).isLt
  have h1 : (i 1).val < 2048 := (i 1).isLt
  rw [val_main_v97_apply, val_main_v96_apply, r95_at H]
  exact congrArg₂ (fun a b => ((dgt (R a) w b : ℝ) : EReal)) (show ((i 0).val * 2048 + (i 1).val) / 2048 % 4096 = (i 0).val by omega)
    (show ((i 0).val * 2048 + (i 1).val) % 2048 = (i 1).val by omega)
theorem r98_at (i : S4096x1024.Idx) : val_main_v98 (F := Ideal) x0 x1 x2 x3 x4 x5 x6 x7 x8 i = ((dy (R (i 0)) w (i 1) : ℝ) : EReal) := by
  have h0 : (i 0).val < 4096 := (i 0).isLt
  have h1 : (i 1).val < 1024 := (i 1).isLt
  rw [val_main_v98_apply, r77_at H]
  exact congrArg₂ (fun a b => ((dy (R a) w b : ℝ) : EReal)) (show ((i 0).val * 1024 + (i 1).val) / 1024 % 4096 = (i 0).val by omega)
    (show ((i 0).val * 1024 + (i 1).val) % 1024 = (i 1).val by omega)
theorem r99_at (i : S4096x1024.Idx) : val_main_v99 (F := Ideal) x0 x1 x2 x3 x4 x5 x6 x7 x8 i = ((da (R (i 0)) w (i 1) : ℝ) : EReal) := by
  have h0 : (i 0).val < 4096 := (i 0).isLt
  have h1 : (i 1).val < 1024 := (i 1).isLt
  rw [val_main_v99_apply, r92_at H]
  exact congrArg₂ (fun a b => ((da (R a) w b : ℝ) : EReal)) (show ((i 0).val * 1024 + (i 1).val) / 1024 % 4096 = (i 0).val by omega)
    (show ((i 0).val * 1024 + (i 1).val) % 1024 = (i 1).val by omega)
theorem r100_at (i : S4096x1024.Idx) : val_main_v100 (F := Ideal) x0 x1 x2 x3 x4 x5 x6 x7 x8 i = ((db (R (i 0)) w (i 1) : ℝ) : EReal) := by
  have h0 : (i 0).val < 4096 := (i 0).isLt
  have h1 : (i 1).val < 1024 := (i 1).isLt
  rw [val_main_v100_apply, r86_at H]
  exact congrArg₂ (fun a b => ((db (R a) w b : ℝ) : EReal)) (show ((i 0).val * 1024 + (i 1).val) / 1024 % 4096 = (i 0).val by omega)
    (show ((i 0).val * 1024 + (i 1).val) % 1024 = (i 1).val by omega)
theorem r101_at (i : S1024x1024.Idx) : val_main_v101 (F := Ideal) x0 x1 x2 x3 x4 x5 x6 x7 x8 i = ((∑ t ∈ range 4096, swa (R t) w (i 0) (i 1) : ℝ) : EReal) := by
  have h0 : (i 0).val < 1024 := (i 0).isLt
  have h1 : (i 1).val < 1024 := (i 1).isLt
  have e : ∀ j, val_main_v90 (F := Ideal) x0 x1 x2 x3 x4 x5 x6 x7 x8 j = ((∑ t ∈ range 4096, swa (R t) w (j 1) (j 0) : ℝ) : EReal) := fun j => by
    unfold val_main_v90
    refine (dT_at (f := fun t k => dpa (R t) w k) (g := fun t k => (R t).a k) (fun i => r88_at H i) (H.r2) j).trans ?_
    exact congrArg Real.toEReal (Finset.sum_congr rfl fun t _ => mul_comm _ _)
  rw [val_main_v101_apply, val_main_v93_apply, val_main_v91_apply, e]
  exact congrArg₂ (fun a b => ((∑ t ∈ range 4096, swa (R t) w a b : ℝ) : EReal)) (show ((i 0).val * 1024 + (i 1).val) / 1024 % 1024 = (i 0).val by omega)
    (show ((i 0).val * 1024 + (i 1).val) % 1024 = (i 1).val by omega)
theorem r102_at (i : S1024x1024.Idx) : val_main_v102 (F := Ideal) x0 x1 x2 x3 x4 x5 x6 x7 x8 i = ((∑ t ∈ range 4096, swb (R t) w (i 0) (i 1) : ℝ) : EReal) := by
  have h0 : (i 0).val < 1024 := (i 0).isLt
  have h1 : (i 1).val < 1024 := (i 1).isLt
  have e : ∀ j, val_main_v84 (F := Ideal) x0 x1 x2 x3 x4 x5 x6 x7 x8 j = ((∑ t ∈ range 4096, swb (R t) w (j 1) (j 0) : ℝ) : EReal) := fun j => by
    unfold val_main_v84
    refine (dT_at (f := fun t k => dpb (R t) w k) (g := fun t k => (R t).o k) (fun i => r82_at H i) (H.r3) j).trans ?_
    exact congrArg Real.toEReal (Finset.sum_congr rfl fun t _ => mul_comm _ _)
  rw [val_main_v102_apply, val_main_v87_apply, val_main_v85_apply, e]
  exact congrArg₂ (fun a b => ((∑ t ∈ range 4096, swb (R t) w a b : ℝ) : EReal)) (show ((i 0).val * 1024 + (i 1).val) / 1024 % 1024 = (i 0).val by omega)
    (show ((i 0).val * 1024 + (i 1).val) % 1024 = (i 1).val by omega)
theorem r103_at (i : S1024x1024.Idx) : val_main_v103 (F := Ideal) x0 x1 x2 x3 x4 x5 x6 x7 x8 i = ((∑ t ∈ range 4096, swo (R t) w (i 0) (i 1) : ℝ) : EReal) := by
  have h0 : (i 0).val < 1024 := (i 0).isLt
  have h1 : (i 1).val < 1024 := (i 1).isLt
  have e : ∀ j, val_main_v78 (F := Ideal) x0 x1 x2 x3 x4 x5 x6 x7 x8 j = ((∑ t ∈ range 4096, swo (R t) w (j 1) (j 0) : ℝ) : EReal) := fun j => by
    unfold val_main_v78
    refine (dT_at (f := fun t k => dy (R t) w k) (g := fun t k => mb (R t) w k) (fun i => r77_at H i) (fun i => r17_at H i) j).trans ?_
    exact congrArg Real.toEReal (Finset.sum_congr rfl fun t _ => mul_comm _ _)
  rw [val_main_v103_apply, val_main_v81_apply, val_main_v79_apply, e]
  exact congrArg₂ (fun a b => ((∑ t ∈ range 4096, swo (R t) w a b : ℝ) : EReal)) (show ((i 0).val * 1024 + (i 1).val) / 1024 % 1024 = (i 0).val by omega)
    (show ((i 0).val * 1024 + (i 1).val) % 1024 = (i 1).val by omega)
end Values
end Cert.MergeVal
-- ==== Proof.Merge.Slice.lean ====
module

public import proofs.«01_k».proof.Proof.Merge.Arrays
public import proofs.«01_k».proof.Proof.Gen.MergeIdeal.Frame
public import Idealize.ShloMosaic.Lib.Claim

@[expose] public section

noncomputable section

/-! The kernel's run: what its nine results hold, as arrays of the call, the first cut out of the call's wide array. -/

namespace Cert.MergeVal

open Cert.MergeIdeal Cert.MergeIdeal.Gen Idealize.ShloMosaic Idealize.ShloMosaic.TcCoe Idealize.SL.Sem

variable (m : (ℓ : Loc nD τ sig) → Buf (Elt Ideal) ℓ) (c : Dev nD)

/-- The last line of the host cuts the gates' gradient out of the wide array. -/
theorem tail_cut : Pipeline.afterTail₀ cfgs (dats m) 0 (V0 m) [hostOps1] c main_v17
    = extractStridedSlice S4096x2048 ![0, 6144] ((dats m 0 c).arrAt 9 cfg0.N) slices_S4096x8192_S4096x2048_0_6144 := by
  have h := Pipeline.withArrays_arr (cfgs 0).spec launch0.win.arr_inj c (V0 m c) (fun w => (dats m 0 c).arrAt w cfg0.N) 9
  unfold Pipeline.afterTail₀
  simp only [List.flatten_cons, List.flatten_nil, List.append_nil]
  refine Eq.trans ?_ (congrArg (fun z => extractStridedSlice S4096x2048 ![0, 6144] z slices_S4096x8192_S4096x2048_0_6144) h)
  after_results

/-- What the nine result arrays hold when the run is over. -/
theorem run_results (g : Dev nD → PrngReg) : θ_run defs (onTc (τ := τ) (main (F := Ideal))) ⟨m, fun _ => 0, g⟩ (fun r => ∀ c : Dev nD,
      r.2.mem ((c.tc : Thread nD τ).loc main_v17)
        = extractStridedSlice S4096x2048 ![0, 6144] ((dats m 0 c).arrAt 9 cfg0.N) slices_S4096x8192_S4096x2048_0_6144
      ∧ r.2.mem ((c.tc : Thread nD τ).loc main_v16_1) = (dats m 0 c).arrAt 10 cfg0.N
      ∧ r.2.mem ((c.tc : Thread nD τ).loc main_v16_2) = (dats m 0 c).arrAt 11 cfg0.N
      ∧ r.2.mem ((c.tc : Thread nD τ).loc main_v16_3) = (dats m 0 c).arrAt 12 cfg0.N
      ∧ r.2.mem ((c.tc : Thread nD τ).loc main_v16_4) = (dats m 0 c).arrAt 13 cfg0.N
      ∧ r.2.mem ((c.tc : Thread nD τ).loc main_v16_5) = (dats m 0 c).arrAt 14 cfg0.N
      ∧ r.2.mem ((c.tc : Thread nD τ).loc main_v16_6) = (dats m 0 c).arrAt 15 cfg0.N
      ∧ r.2.mem ((c.tc : Thread nD τ).loc main_v16_7) = (dats m 0 c).arrAt 16 cfg0.N
      ∧ r.2.mem ((c.tc : Thread nD τ).loc main_v16_8) = (dats m 0 c).arrAt 17 cfg0.N) :=
  (θ_run defs _ _).mono (fun _ h c => ⟨((h c).2 main_v17 (Pipeline.mem_restRefs_of main_v17 (by decide) (by decide))).trans (tail_cut m c),
    (h c).1 10, (h c).1 11, (h c).1 12, (h c).1 13, (h c).1 14, (h c).1 15, (h c).1 16, (h c).1 17⟩) (run_main m g)

variable {m c} {R : ℕ → Row} {w : Wt}

/-- The cut holds the gates' gradient. -/
theorem gates_cut (H : Args m c R w) :
    (extractStridedSlice S4096x2048 ![0, 6144] ((dats m 0 c).arrAt 9 cfg0.N) slices_S4096x8192_S4096x2048_0_6144 : Vec Ideal S4096x2048 .bf16)
      = fun j => ((dgt (R (j 0)) w (j 1) : ℝ) : EReal) := by
  funext j
  have h0 : (j 0).val < 4096 := (j 0).isLt
  have h1 : (j 1).val < 2048 := (j 1).isLt
  rw [arr9 H]
  refine (extractStridedSlice_apply (t := S4096x2048) (s := S4096x8192) ![0, 6144] (X9 R w ((dats m 0 c).A 9)) slices_S4096x8192_S4096x2048_0_6144 j
    (fun d => match d with
      | ⟨0, _⟩ => ⟨(j 0).val, h0⟩
      | ⟨1, _⟩ => ⟨6144 + (j 1).val, by change _ < 8192; omega⟩) (fun d => by
    match d with
    | ⟨0, _⟩ => exact (Nat.zero_add _).symm
    | ⟨1, _⟩ => rfl)).trans ?_
  exact X9_in _ _ _ _ rfl rfl

end Cert.MergeVal
-- ==== Proof.Merge.Finite.lean ====
module

public import proofs.«01_k».proof.Defs
public import proofs.«01_k».proof.Proof.Gen.Pre_merge_finite
public import proofs.«01_k».proof.Proof.Mixer.Finite
public import proofs.«01_k».proof.Proof.Merge.Arrays

@[expose] public section

noncomputable section

/-! The precondition of the merge's call read: every argument holds real numbers. -/

namespace Cert.MergeVal

open Idealize.ShloMosaic Idealize.ShloMosaic.TcCoe
open Cert.Mix (real_of_abs_lt andi_one exists_of_coords exists_mat)

/-- An array all of whose entries compare below the infinity in absolute value holds reals. -/
theorem reals_of_all {s u : Shape} {axes : List (Fin s.rank)} {h : s.ReducesTo axes Cert.Pre_merge_finite.S_} {hu : 0 < u.numel}
    (x y : FVec Ideal s .f32) (hy : ∀ i, y i = Ideal.ofBits .f32 0x7F800000#32) (init : u.Idx → BitVec 1) (j : Cert.Pre_merge_finite.S_.Idx)
    (e : Host.reduce IntOp.andi (cmpf .olt (Host.absf x) y) init h hu j = 1#1) (i : s.Idx) : ∃ r : ℝ, x i = (r : EReal) := by
  haveI : Subsingleton Cert.Pre_merge_finite.S_.Idx := ⟨fun a b => funext fun q => q.elim0⟩
  have q := Host.reduce_andi_all _ _ h hu j e i
  refine real_of_abs_lt (x i) ?_
  rw [← hy i]
  exact q

open Cert.Pre_merge_finite in
/-- The precondition gives the reals that the arguments hold. -/
theorem args_of_pre (x0 : FVec Ideal S1x4096x1024 .f32) (x1 : FVec Ideal S1x4096x2048 .f32) (x2 x3 : FVec Ideal S1x4096x1024 .f32)
    (x4 x5 x6 : FVec Ideal S1x1024x1024 .f32) (x7 : FVec Ideal S1024 .f32) (x8 : FVec Ideal S1x4096x1024 .f32)
    (h : Cert.Pre_merge_finite.fn (F := Ideal) x0 x1 x2 x3 x4 x5 x6 x7 x8 = fun _ => 1#1) :
    ∃ (R : ℕ → Row) (w : Wt), MA x0 x2 x3 x8 x1 x4 x5 x6 x7 R w := by
  have e := congrFun h (fun q => q.elim0)
  unfold Cert.Pre_merge_finite.fn at e
  try unfold Cert.Pre_merge_finite.fn_part1 at e
  dsimp only [andi] at e
  obtain ⟨e, e8⟩ := (andi_one _ _).1 e
  obtain ⟨e, e7⟩ := (andi_one _ _).1 e
  obtain ⟨e, e6⟩ := (andi_one _ _).1 e
  obtain ⟨e, e5⟩ := (andi_one _ _).1 e
  obtain ⟨e, e4⟩ := (andi_one _ _).1 e
  obtain ⟨e, e3⟩ := (andi_one _ _).1 e
  obtain ⟨e, e2⟩ := (andi_one _ _).1 e
  obtain ⟨e0, e1⟩ := (andi_one _ _).1 e
  obtain ⟨f0, h0⟩ := exists_mat x0 (reals_of_all _ _ (fun _ => rfl) _ _ e0)
  obtain ⟨f1, h1⟩ := exists_mat x1 (reals_of_all _ _ (fun _ => rfl) _ _ e1)
  obtain ⟨f2, h2⟩ := exists_mat x2 (reals_of_all _ _ (fun _ => rfl) _ _ e2)
  obtain ⟨f3, h3⟩ := exists_mat x3 (reals_of_all _ _ (fun _ => rfl) _ _ e3)
  obtain ⟨f4, h4⟩ := exists_mat x4 (reals_of_all _ _ (fun _ => rfl) _ _ e4)
  obtain ⟨f5, h5⟩ := exists_mat x5 (reals_of_all _ _ (fun _ => rfl) _ _ e5)
  obtain ⟨f6, h6⟩ := exists_mat x6 (reals_of_all _ _ (fun _ => rfl) _ _ e6)
  obtain ⟨f8, h8⟩ := exists_mat x8 (reals_of_all _ _ (fun _ => rfl) _ _ e8)
  obtain ⟨f7, h7⟩ := exists_of_coords x7 (reals_of_all _ _ (fun _ => rfl) _ _ e7) (fun j => (j 0).val) fun i j e => funext fun q => Fin.ext (by
    match q with
    | ⟨0, _⟩ => exact e)
  exact ⟨fun t => ⟨f0 t, f8 t, f2 t, f3 t, f1 t⟩, ⟨f4, f5, f6, f7⟩, ⟨h0, h1, h2, h3, h4, h5, h6, h7, h8⟩⟩

end Cert.MergeVal
-- ==== Proof.Merge.Claims.lean ====
module

public import proofs.«01_k».proof.Defs
public import proofs.«01_k».proof.Proof.Gen.Merge.Frame
public import proofs.«01_k».proof.Proof.Gen.MergeIdeal.Frame
public import proofs.«01_k».proof.Proof.Gen.MergeRefIdeal.Read
public import proofs.«01_k».proof.Proof.Merge.Ref2
public import proofs.«01_k».proof.Proof.Merge.Slice
public import proofs.«01_k».proof.Proof.Merge.Finite
public import Idealize.ShloMosaic.Lib.Claim
public import Idealize.ShloMosaic.Lib.Quiescent

@[expose] public section

noncomputable section

/-! The claims on the merge's call: its frames, and that its nine results are the reference's. -/

namespace Cert.MergeVal

open Cert.MergeRefIdeal Cert.MergeRefIdeal.Gen Cert.MergeRefIdeal.Read Idealize.ShloMosaic Idealize.ShloMosaic.TcCoe
open Finset

theorem frame_p : Cert.quiescent_Merge := fun m g _ => Cert.Merge.Gen.frame m g
theorem frame_pi : Cert.quiescent_MergeIdeal := fun m g _ => Cert.MergeIdeal.Gen.frame m g
theorem frame_ri : Cert.quiescent_MergeRefIdeal := fun m g _ =>
  (θ_run Cert.MergeRefIdeal.defs _ _).mono (fun r h => ⟨fun c => (h c).2.2.2.2.2.2.2.2.2, sem_eq_zero_of_no_sems (by decide) r.2⟩)
    (Cert.MergeRefIdeal.Value.run (F := Ideal) m g)
theorem frame_pi_finite : Cert.quiescent_MergeIdeal_pre_merge_finite := fun m g _ => Cert.MergeIdeal.Gen.frame m g
theorem frame_ri_finite : Cert.quiescent_MergeRefIdeal_pre_merge_finite := fun m g _ => frame_ri m g trivial

/-- Of arguments that hold reals, the kernel's nine results are the reference's. -/
theorem algebraic : Cert.algebraic_MergeIdeal_MergeRefIdeal_pre_merge_finite := by
  intro m g m' g' hpre hag
  have real : ∀ c, ∃ (R : ℕ → Row) (w : Wt), Args m c R w := fun c => args_of_pre _ _ _ _ _ _ _ _ _ (hpre c)
  choose R w I using real
  refine ⟨fun c j => ((dgt (R c (j 0)) (w c) (j 1) : ℝ) : EReal), fun c j => ((dy (R c (j 0)) (w c) (j 1) : ℝ) : EReal),
    fun c j => ((da (R c (j 0)) (w c) (j 1) : ℝ) : EReal), fun c j => ((db (R c (j 0)) (w c) (j 1) : ℝ) : EReal),
    fun c j => ((∑ t ∈ range 4096, swa (R c t) (w c) (j 0) (j 1) : ℝ) : EReal),
    fun c j => ((∑ t ∈ range 4096, swb (R c t) (w c) (j 0) (j 1) : ℝ) : EReal),
    fun c j => ((∑ t ∈ range 4096, swo (R c t) (w c) (j 0) (j 1) : ℝ) : EReal),
    fun c j => ((∑ t ∈ range 4096, sgf (R c t) (w c) (j 1) : ℝ) : EReal),
    fun c j => ((∑ t ∈ range 4096, sls (R c t) (w c) (j 1) : ℝ) : EReal),
    (θ_run Cert.MergeIdeal.defs _ _).mono (fun r h c => ?_) (θ_run_and (run_results m g) (Cert.MergeIdeal.Gen.unchanged m g)),
    (θ_run Cert.MergeRefIdeal.defs _ _).mono (fun r h c => ?_) (Cert.MergeRefIdeal.Value.run (F := Ideal) m' g')⟩
  · obtain ⟨h0, h1, h2, h3, h4, h5, h6, h7, h8⟩ := h.1 c
    exact ⟨h0.trans (gates_cut (I c)), h1.trans (arr10 (I c)), h2.trans (arr11 (I c)), h3.trans (arr12 (I c)), h4.trans (arr13 (I c)),
      h5.trans (arr14 (I c)), h6.trans (arr15 (I c)), h7.trans (arr16 (I c)), h8.trans (arr17 (I c)), h.2 c⟩
  · obtain ⟨e0, e1, e2, e3, e4, e5, e6, e7, e8⟩ := hag c
    have H : MA (m' ((c.tc : Thread nD τ).loc main_arg0)) (m' ((c.tc : Thread nD τ).loc main_arg2)) (m' ((c.tc : Thread nD τ).loc main_arg3))
        (m' ((c.tc : Thread nD τ).loc main_arg8)) (m' ((c.tc : Thread nD τ).loc main_arg1)) (m' ((c.tc : Thread nD τ).loc main_arg4))
        (m' ((c.tc : Thread nD τ).loc main_arg5)) (m' ((c.tc : Thread nD τ).loc main_arg6)) (m' ((c.tc : Thread nD τ).loc main_arg7))
        (R c) (w c) :=
      ⟨fun j => (congrFun e0 j).trans ((I c).r0 j), fun j => (congrFun e1 j).trans ((I c).r1 j), fun j => (congrFun e2 j).trans ((I c).r2 j),
        fun j => (congrFun e3 j).trans ((I c).r3 j), fun j => (congrFun e4 j).trans ((I c).r4 j), fun j => (congrFun e5 j).trans ((I c).r5 j),
        fun j => (congrFun e6 j).trans ((I c).r6 j), fun j => (congrFun e7 j).trans ((I c).r7 j), fun j => (congrFun e8 j).trans ((I c).r8 j)⟩
    obtain ⟨h0, h1, h2, h3, h4, h5, h6, h7, h8, hargs⟩ := h c
    exact ⟨h0.trans ((val_main_v97_eq m' c).trans (funext (r97_at H))), h1.trans ((val_main_v98_eq m' c).trans (funext (r98_at H))),
      h2.trans ((val_main_v99_eq m' c).trans (funext (r99_at H))), h3.trans ((val_main_v100_eq m' c).trans (funext (r100_at H))),
      h4.trans ((val_main_v101_eq m' c).trans (funext (r101_at H))), h5.trans ((val_main_v102_eq m' c).trans (funext (r102_at H))),
      h6.trans ((val_main_v103_eq m' c).trans (funext (r103_at H))), h7.trans ((val_main_v104_eq m' c).trans (funext (r104_at H))),
      h8.trans ((val_main_v50_eq m' c).trans (funext (r50_at H))), hargs⟩

end Cert.MergeVal
-- ==== Proof.Fwd.Real.lean ====
module

public import proofs.«01_k».proof.Proof.Dx.Real
public import proofs.«01_k».proof.Proof.Mixer.Real

@[expose] public section

noncomputable section

/-! The mathematics of the forward call's first part over the reals: the normed rows, their projection, and the first
mixer's output from the projection's first 3072 columns. -/

namespace Cert.FwdVal

open Finset

/-- A normed row, scaled by `g`. -/
def hid (g o : ℕ → ℝ) (e : ℕ) : ℝ := RowNorm.oh o e * g e

/-- The projection of the normed rows of `x`: column `j` of the weights is `w · j`. -/
def prj (g : ℕ → ℝ) (w x : ℕ → ℕ → ℝ) (t j : ℕ) : ℝ := ∑ e ∈ range 1024, hid g (x t) e * w e j

/-- Where a column of the projection without the code's 16 columns lies in the whole projection. -/
def skip (j : ℕ) : ℕ := if j < 6144 then j else j + 16

/-- The first mixer's output of a chunk of 128 rows from the projection's columns `p` of the chunk. -/
def mixA (G B : ℕ → ℝ) (W : ℕ → ℕ → ℕ → ℝ) (b : ℕ → ℕ → ℝ) (p : ℕ → ℕ → ℝ) (i d : ℕ) : ℝ :=
  Mix.gelu (p i d) * Mix.mixed G B W b (fun i d => p i (1024 + d)) i d * Mix.silu (p i (2048 + d))

end Cert.FwdVal
-- ==== Proof.Fwd.Block.lean ====
module

public import proofs.«01_k».proof.Proof.Fwd.Real
public import proofs.«01_k».proof.Proof.Mixer.Block
public import proofs.«01_k».proof.Proof.Dx.Step
public import proofs.«01_k».proof.Proof.Gen.FwdIdeal.Skeleton
public import Idealize.ShloMosaic.Lib.Pointwise

@[expose] public section

noncomputable section

/-! The parts of a step of the forward call, over the reals. -/

namespace Cert.FwdVal

open Cert.FwdIdeal Cert.FwdIdeal.Gen Idealize.ShloMosaic Idealize.ShloMosaic.TcCoe
open Cert.Mix (gelu silu mean cen rs gv ln mixed coe_sum_range)
open Finset

/-- The named constant. -/
theorem name_sqrt_half : Named.named (F := Ideal) (φ := .f32) κ "sqrt_half" 0x3F3504F3#32 = (((Real.sqrt 2)⁻¹ : ℝ) : EReal) :=
  IdealRules.named_const.ideal_named_scalar _ _ _ _ rfl

theorem gelu_alt (r : ℝ) : 1 / 2 * r * (1 + Mix.erfR (r * (Real.sqrt 2)⁻¹)) = gelu r := by
  unfold gelu Mix.cdf; ring

/-! ### The normed rows and their projection -/

theorem hB_at {x : Vec Ideal S256x1024 .f32} {g : Vec Ideal S1x1024 .f32} {X : ℕ → ℕ → ℝ} {N : ℕ → ℝ}
    (hx : ∀ j, x j = ((X (j 0) (j 1) : ℝ) : EReal)) (hg : ∀ j, g j = ((N (j 1) : ℝ) : EReal)) (j) :
    k0_pay5 (F := Ideal) x g j = ((hid N (X (j 0)) (j 1) : ℝ) : EReal) := by
  unfold_payloads
  pointwise [Mix.word_1024, GlaVal.word_eps]
  simp only [hx, hg, ← EReal.coe_mul]
  have e : (∑ k : Fin 1024, ((X (j 0) k * X (j 0) k : ℝ) : EReal)) = _ := (coe_sum_range 1024 fun k => X (j 0) k * X (j 0) k).symm
  refine (congrArg (fun s => ((X (j 0) (j 1) : ℝ) : EReal) * Ideal.rsqrt (Ideal.div s ((1024 : ℝ) : EReal) + ((GlaVal.eps : ℝ) : EReal))
    * ((N (j 1) : ℝ) : EReal)) e).trans ?_
  rw [Mix.div_1024, ← EReal.coe_add]
  have hp : 0 < (∑ k ∈ range 1024, X (j 0) k * X (j 0) k) / 1024 + GlaVal.eps := RowNorm.ms_eps_pos (X (j 0))
  rw [Ideal.rsqrt_coe, if_neg hp.not_gt, if_neg hp.ne', ← EReal.coe_mul, ← EReal.coe_mul]
  rfl

theorem prod_blk {h : FVec Ideal S256x1024 .bf16} {w : Vec Ideal S1024x1024 .bf16} {H W : ℕ → ℕ → ℝ}
    (hh : ∀ j, h j = ((H (j 0) (j 1) : ℝ) : EReal)) (hw : ∀ j, w j = ((W (j 1) (j 0) : ℝ) : EReal)) (j) :
    k0_pay2 (F := Ideal) h w j = ((∑ e ∈ range 1024, H (j 0) e * W e (j 1) : ℝ) : EReal) := by
  unfold_payloads
  pointwise
  exact DxVal.prod_at (f := fun e => H (j 0) e) (g := fun e => W e (j 1)) (fun k => hh _) (fun k => hw _)
theorem prod_code {h : FVec Ideal S256x1024 .bf16} {w : Vec Ideal S128x1024 .bf16} {H W : ℕ → ℕ → ℝ}
    (hh : ∀ j, h j = ((H (j 0) (j 1) : ℝ) : EReal)) (hw : ∀ j, w j = ((W (j 1) (j 0) : ℝ) : EReal)) (j) :
    k0_pay45 (F := Ideal) h w j = ((∑ e ∈ range 1024, H (j 0) e * W e (j 1) : ℝ) : EReal) := by
  unfold_payloads
  pointwise
  exact DxVal.prod_at (f := fun e => H (j 0) e) (g := fun e => W e (j 1)) (fun k => hh _) (fun k => hw _)

/-! ### The layer norm of v's gelu -/

def gB (v : Vec Ideal S256x1024 .f32) : FVec Ideal S256x1024 .f32 :=
  mulf (mulf (broadcast S256x1024 (Scalar.ofBits .f32 0x3F000000#32)) (shapeCast S256x1024 v shapeCasts_S256x1024_S256x1024))
    (addf (broadcast S256x1024 (Scalar.ofBits .f32 0x3F800000#32))
      (erf (mulf (shapeCast S256x1024 v shapeCasts_S256x1024_S256x1024) (broadcast S256x1024 (Named.named κ "sqrt_half" 0x3F3504F3#32)))))
def meanB (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits .f32 0x44800000#32))
def cenB (y : FVec Ideal S256x1024 .f32) : FVec Ideal S256x1024 .f32 := subf y (broadcastTo S256x1024 (meanB y) broadcasts_S256x1_S256x1024)
def rsB (y : FVec Ideal S256x1024 .f32) : FVec Ideal S256x1 .f32 :=
  rsqrt (addf (meanB (mulf (cenB y) (cenB y))) (broadcast S256x1 (Scalar.ofBits .f32 0x3727C5AC#32)))
def lnB (v : Vec Ideal S256x1024 .f32) (g b : Vec Ideal S1x1024 .f32) : FVec Ideal S256x1024 .f32 :=
  addf (mulf (mulf (cenB (gB v)) (broadcastTo S256x1024 (rsB (gB v)) broadcasts_S256x1_S256x1024)) (broadcastTo S256x1024 g broadcasts_S1x1024_S256x1024))
    (broadcastTo S256x1024 b broadcasts_S1x1024_S256x1024)
theorem pay9_eq (v : Vec Ideal S256x1024 .f32) (g b : Vec Ideal S1x1024 .f32) : k0_pay9 (F := Ideal) v g b
    = shapeCast S256x1024 (truncf .bf16 (lnB v g b) bitsLt_bf16_f32) shapeCasts_S256x1024_S256x1024 := rfl

theorem gB_at {v : Vec Ideal S256x1024 .f32} {V : ℕ → ℕ → ℝ} (hv : ∀ j, v j = ((V (j 0) (j 1) : ℝ) : EReal)) (j) :
    gB v j = ((gelu (V (j 0) (j 1)) : ℝ) : EReal) := by
  unfold gB
  pointwise [Mix.word_half, name_sqrt_half, Ideal.erf_def]
  rw [hv, ← EReal.coe_one]
  simp only [Mix.erf_real, ← EReal.coe_mul, ← EReal.coe_add]
  rw [gelu_alt]
theorem meanB_at {y : FVec Ideal S256x1024 .f32} {Y : ℕ → ℕ → ℝ} (hy : ∀ j, y j = ((Y (j 0) (j 1) : ℝ) : EReal)) (j) :
    meanB y j = ((mean (Y (j 0)) : ℝ) : EReal) := by
  unfold meanB
  pointwise [Mix.word_1024]
  simp only [hy]
  have e : (∑ k : Fin 1024, ((Y (j 0) k : ℝ) : EReal)) = _ := (coe_sum_range 1024 fun k => Y (j 0) k).symm
  exact (congrArg (fun s => Ideal.div s ((1024 : ℝ) : EReal)) e).trans (Mix.div_1024 _)
theorem cenB_at {y : FVec Ideal S256x1024 .f32} {Y : ℕ → ℕ → ℝ} (hy : ∀ j, y j = ((Y (j 0) (j 1) : ℝ) : EReal)) (j) :
    cenB y j = ((cen (Y (j 0)) (j 1) : ℝ) : EReal) := by
  unfold cenB
  pointwise
  rw [hy, meanB_at hy, ← EReal.coe_sub]
  rfl
theorem rsB_at {y : FVec Ideal S256x1024 .f32} {Y : ℕ → ℕ → ℝ} (hy : ∀ j, y j = ((Y (j 0) (j 1) : ℝ) : EReal)) (j) :
    rsB y j = ((rs (Y (j 0)) : ℝ) : EReal) := by
  have h : ∀ j, mulf (cenB y) (cenB y) j = (((fun t e => cen (Y t) e * cen (Y t) e) (j 0) (j 1) : ℝ) : EReal) := fun j => by
    pointwise
    rw [cenB_at hy, ← EReal.coe_mul]
  unfold rsB
  pointwise [Mix.word_eps]
  rw [meanB_at (Y := fun t e => cen (Y t) e * cen (Y t) e) h, ← EReal.coe_add]
  have hp := Mix.var_eps_pos (Y (j 0))
  change Ideal.rsqrt ((Mix.var (Y (j 0)) + Mix.eps : ℝ) : EReal) = _
  rw [Ideal.rsqrt_coe, if_neg hp.not_gt, if_neg hp.ne']
  rfl
theorem pay9_at {v : Vec Ideal S256x1024 .f32} {g b : Vec Ideal S1x1024 .f32} {V : ℕ → ℕ → ℝ} {G B : ℕ → ℝ}
    (hv : ∀ j, v j = ((V (j 0) (j 1) : ℝ) : EReal)) (hg : ∀ j, g j = ((G (j 1) : ℝ) : EReal)) (hb : ∀ j, b j = ((B (j 1) : ℝ) : EReal)) (j) :
    k0_pay9 (F := Ideal) v g b j = ((ln G B V (j 0) (j 1) : ℝ) : EReal) := by
  have h : ∀ j, gB v j = ((gv V (j 0) (j 1) : ℝ) : EReal) := fun j => gB_at hv j
  rw [pay9_eq]
  unfold lnB
  pointwise
  rw [cenB_at h, rsB_at h, hg, hb, ← EReal.coe_mul, ← EReal.coe_mul, ← EReal.coe_add]
  rfl

/-! ### One chunk's group of the mixer's output -/

theorem mix_at {w : Vec Ideal S1x128x128 .f32} {l : Vec Ideal S128x128 .bf16} {b : Vec Ideal S1x128x128 .f32} {z u : Vec Ideal S128x128 .f32}
    {W L Z U : ℕ → ℕ → ℝ} {q : ℕ → ℝ} (hw : ∀ x, w x = ((W (x 1) (x 2) : ℝ) : EReal)) (hl : ∀ x, l x = ((L (x 0) (x 1) : ℝ) : EReal))
    (hb : ∀ x, b x = ((q (x 1) : ℝ) : EReal)) (hz : ∀ x, z x = ((Z (x 0) (x 1) : ℝ) : EReal))
    (hu : ∀ x, u x = ((U (x 0) (x 1) : ℝ) : EReal)) (x : S128x128.Idx) :
    k0_pay12 (F := Ideal) k0_pay10 w l b z u x = ((gelu (U (x 0) (x 1))
      * ((∑ k ∈ range 128, (if k ≤ (x 0).val then W (x 0) k else 0) * L k (x 1)) + q (x 0)) * silu (Z (x 0) (x 1)) : ℝ) : EReal) := by
  have hm : ∀ y, k0_pay11 (F := Ideal) k0_pay10 w y = (((if (y 1).val ≤ (y 0).val then W (y 0) (y 1) else 0 : ℝ)) : EReal) :=
    fun y => Mix.mW_apply w W hw y
  unfold k0_pay12
  generalize k0_pay11 (F := Ideal) k0_pay10 w = c at hm ⊢
  pointwise [Mix.word_half, name_sqrt_half, Ideal.erf_def]
  have e : (∑ k : Fin 128, c (ix2 (x 0) k) * l (ix2 k (x 1)))
      = ((∑ k ∈ range 128, (if k ≤ (x 0).val then W (x 0) k else 0) * L k (x 1) : ℝ) : EReal) :=
    DxVal.prod_at (f := fun k => if k ≤ (x 0).val then W (x 0) k else 0) (g := fun k => L k (x 1)) (fun k => hm _) (fun k => hl _)
  simp only [hb, hz, hu]
  refine (congrArg (fun s => ((1 / 2 : ℝ) : EReal) * ((U (x 0) (x 1) : ℝ) : EReal)
    * (1 + Ideal.erf (((U (x 0) (x 1) : ℝ) : EReal) * (((Real.sqrt 2)⁻¹ : ℝ) : EReal))) * (s + ((q (x 0) : ℝ) : EReal))
    * (((Z (x 0) (x 1) : ℝ) : EReal) * (((1 / 2 : ℝ) : EReal) * Ideal.tanh (((1 / 2 : ℝ) : EReal) * ((Z (x 0) (x 1) : ℝ) : EReal)) + ((1 / 2 : ℝ) : EReal)))) e).trans ?_
  rw [← EReal.coe_one]
  simp only [Mix.erf_real, ← EReal.coe_mul, ← EReal.coe_add, Ideal.tanh_coe]
  rw [gelu_alt]
  rfl

end Cert.FwdVal
-- ==== Proof.Fwd.Step.lean ====
module

public import proofs.«01_k».proof.Proof.Fwd.Block
public import proofs.«01_k».proof.Proof.Gen.FwdIdeal.Frame
public import proofs.«01_k».proof.Proof.Mixer.Step
public import Idealize.ShloMosaic.Lib.Pipeline.ValueKit

@[expose] public section

noncomputable section

/-! What a step of the forward call's first part stores: 256 rows of the projection, of the code's columns, of the normed
rows and of the first mixer's output. -/

namespace Cert.FwdVal

open Cert.FwdIdeal Cert.FwdIdeal.Gen Idealize.ShloMosaic Idealize.ShloMosaic.TcCoe
open Cert.Mix (rT rG rAll kg kc sh emb_val ld_rG)
open Finset

section Lists
variable (v11 : View sig .tc .vmem S256x8192 .f32) (v18 : View sig .tc .vmem S256x1024 .bf16)
  (x : Vec Ideal S256x1024 .f32) (g lg lb : Vec Ideal S1x1024 .f32) (w : Vec Ideal S8208x1024 .bf16) (ws bs : Vec Ideal S8x128x128 .f32)

/-- The `k`-th 1024 columns of the stored projection, the weights' rows that they come from, and the code's rows. -/
abbrev rP (k : Fin 8) : Rect S256x8192 := Rect.unit ![0, 1024 * k.val] ![256, 1024] (by
  have := k.isLt
  intro a; match a with
  | 0 => exact Nat.le_refl 256
  | 1 => change 1024 * k.val + 1024 ≤ 8192; omega)
abbrev rW (k : Fin 8) : Rect S8208x1024 := Rect.unit ![1024 * k.val + 16 * (k.val / 6), 0] ![1024, 1024] (by
  have := k.isLt
  intro a; match a with
  | 0 => change 1024 * k.val + 16 * (k.val / 6) + 1024 ≤ 8208; omega
  | 1 => exact Nat.le_refl 1024)
abbrev rL : Rect S8208x1024 := Rect.unit ![6144, 0] ![128, 1024] (by
  intro a; match a with
  | 0 => change 6144 + 128 ≤ 8208; omega
  | 1 => exact Nat.le_refl 1024)

/-- The piece of the projection's `k`-th columns; the first three, and all eight, last first. -/
def pP (k : Fin 8) : View.Piece (Elt Ideal) S256x8192 .f32 := ⟨rP k, k0_pay2 (F := Ideal) (k0_pay5 x g) (View.ld w (rW k))⟩
def l3 : List (View.Piece (Elt Ideal) S256x8192 .f32) := (List.finRange 3).map fun k => pP x g w ⟨2 - k.val, by omega⟩
def l10 : List (View.Piece (Elt Ideal) S256x8192 .f32) := (List.finRange 8).map fun k => pP x g w ⟨7 - k.val, by omega⟩

/-- The v columns, read back; a chunk of the layer norm's result, read back from its scratch buffer; a chunk of the `o`-th
    columns, read back. -/
def pV : Vec Ideal S256x1024 .f32 := v11.readCov (l3 x g w) (rP 1).toLoadRect
def pN (q : Fin 8) (c : Fin 2) : Vec Ideal S128x128 .bf16 :=
  v18.readCov [⟨rAll, k0_pay9 (F := Ideal) (pV v11 x g w) lg lb⟩] (rT q c).toLoadRect
def pS (o : Fin 8) (q : Fin 8) (c : Fin 2) : Vec Ideal S128x128 .f32 :=
  v11.readCov (l3 x g w) ((rP o).withinL (rT q c).toLoadRect (fun _ => rfl))

/-- The first mixer's output. -/
def l13 : List (View.Piece (Elt Ideal) S256x1024 .bf16) :=
  (List.finRange 16).map fun k => ⟨rT (kg k) (kc k), k0_pay12 (F := Ideal) k0_pay10 (View.ld ws (rG (kg k)))
    (pN v11 v18 x g lg lb w (kg k) (kc k)) (View.ld bs (rG (kg k))) (pS v11 x g w 2 (kg k) (kc k)) (pS v11 x g w 0 (kg k) (kc k))⟩
end Lists

section Outs
variable (m : (ℓ : Loc nD τ sig) → Buf (Elt Ideal) ℓ) (c : Dev nD) (t : Fin cfg0.N)
theorem outs10_A (h0 : t.val % 16 = 0) : (outsAt0 m c t.val t.isLt).1 = View.canon (l10 (iblk m c 0 t) (iblk m c 1 t) (iblk m c 2 t)) := by
  rw [outsAt0_A m c t h0]
  funext y
  frame_out
  rfl
theorem outs11_A (h0 : t.val % 16 = 0) : (outsAt0 m c t.val t.isLt).2.1
    = k0_pay45 (F := Ideal) (k0_pay5 (iblk m c 0 t) (iblk m c 1 t)) (View.ld (iblk m c 2 t) rL) := by
  rw [outsAt0_A m c t h0]
  funext y
  frame_out
  rfl
theorem outs12_A (h0 : t.val % 16 = 0) : (outsAt0 m c t.val t.isLt).2.2.1 = k0_pay5 (F := Ideal) (iblk m c 0 t) (iblk m c 1 t) := by
  rw [outsAt0_A m c t h0]
  funext y
  frame_out
  rfl
theorem outs13_A (h0 : t.val % 16 = 0) : (outsAt0 m c t.val t.isLt).2.2.2.1 = View.canon (l13 (ms0_10 t).view scM0_0.view
    (iblk m c 0 t) (iblk m c 1 t) (iblk m c 3 t) (iblk m c 4 t) (iblk m c 2 t) (iblk m c 5 t) (iblk m c 6 t)) := by
  rw [outsAt0_A m c t h0]
  funext y
  frame_out
  rfl
theorem outs10_B (h0 : ¬t.val % 16 = 0) : (outsAt0 m c t.val t.isLt).1 = View.canon (l10 (iblk m c 0 t) (iblk m c 1 t) (iblk m c 2 t)) := by
  rw [outsAt0_B m c t h0]
  funext y
  frame_out
  rfl
theorem outs11_B (h0 : ¬t.val % 16 = 0) : (outsAt0 m c t.val t.isLt).2.1
    = k0_pay45 (F := Ideal) (k0_pay5 (iblk m c 0 t) (iblk m c 1 t)) (View.ld (iblk m c 2 t) rL) := by
  rw [outsAt0_B m c t h0]
  funext y
  frame_out
  rfl
theorem outs12_B (h0 : ¬t.val % 16 = 0) : (outsAt0 m c t.val t.isLt).2.2.1 = k0_pay5 (F := Ideal) (iblk m c 0 t) (iblk m c 1 t) := by
  rw [outsAt0_B m c t h0]
  funext y
  frame_out
  rfl
theorem outs13_B (h0 : ¬t.val % 16 = 0) : (outsAt0 m c t.val t.isLt).2.2.2.1 = View.canon (l13 (ms0_10 t).view scM0_0.view
    (iblk m c 0 t) (iblk m c 1 t) (iblk m c 3 t) (iblk m c 4 t) (iblk m c 2 t) (iblk m c 5 t) (iblk m c 6 t)) := by
  rw [outsAt0_B m c t h0]
  funext y
  frame_out
  rfl
end Outs
end Cert.FwdVal
-- ==== Proof.Fwd.Ref.lean ====
module

public import proofs.«01_k».proof.Proof.Fwd.Real
public import proofs.«01_k».proof.Proof.Gen.FwdRefIdeal.Read
public import proofs.«01_k».proof.Proof.Dx.Step
public import proofs.«01_k».proof.Proof.Mixer.Ref2

@[expose] public section

noncomputable section

/-! The reference's values of the forward call's first part, one operation at a time, at arguments that hold reals. -/

namespace Cert.FwdVal

open Cert.FwdRefIdeal Cert.FwdRefIdeal.Gen Cert.FwdRefIdeal.Read Idealize.ShloMosaic Idealize.ShloMosaic.TcCoe
open Cert.RowNorm
open Cert.Mix (coe_sum_range word_half word_two word_one sqrt_two div_real sqrt_two_ne erf_real erfR)
open Finset

/-- The reference's arguments hold reals: the rows, the norm's scale, the projection's weights, the layer norm's scale and
    offset, the mixing matrices and their biases. -/
structure FA (x0 : (⟨S1x4096x1024, .f32⟩ : BufTy).Contents (Elt Ideal)) (x1 x3 x4 : (⟨S1x1024, .f32⟩ : BufTy).Contents (Elt Ideal))
    (x2 : (⟨S1x1024x8208, .f32⟩ : BufTy).Contents (Elt Ideal)) (x5 : (⟨S1x8x128x128, .f32⟩ : BufTy).Contents (Elt Ideal))
    (x6 : (⟨S1x8x128, .f32⟩ : BufTy).Contents (Elt Ideal))
    (X : ℕ → ℕ → ℝ) (N : ℕ → ℝ) (Y : ℕ → ℕ → ℝ) (G B : ℕ → ℝ) (W : ℕ → ℕ → ℕ → ℝ) (b : ℕ → ℕ → ℝ) : Prop where
  r0 : ∀ j, x0 j = ((X (j 1) (j 2) : ℝ) : EReal)
  r1 : ∀ j, x1 j = ((N (j 1) : ℝ) : EReal)
  r2 : ∀ j, x2 j = ((Y (j 1) (j 2) : ℝ) : EReal)
  r3 : ∀ j, x3 j = ((G (j 1) : ℝ) : EReal)
  r4 : ∀ j, x4 j = ((B (j 1) : ℝ) : EReal)
  r5 : ∀ j, x5 j = ((W (j 1) (j 2) (j 3) : ℝ) : EReal)
  r6 : ∀ j, x6 j = ((b (j 1) (j 2) : ℝ) : EReal)

/-- The v columns of the projection of all rows, and the first mixer's output of all rows. -/
def colV (N : ℕ → ℝ) (Y X : ℕ → ℕ → ℝ) (t d : ℕ) : ℝ := prj N Y X t (1024 + d)
def mixR (N : ℕ → ℝ) (Y X : ℕ → ℕ → ℝ) (G B : ℕ → ℝ) (W : ℕ → ℕ → ℕ → ℝ) (b : ℕ → ℕ → ℝ) (R d : ℕ) : ℝ :=
  mixA G B W b (Mix.sh (prj N Y X) (R / 128)) (R % 128) d

/-- The masks' cast. -/
theorem mask_at (i : S8x128x128.Idx) : val_main_call1_v0 (F := Ideal) i = if (i 2).val ≤ (i 1).val then 1#1 else 0#1 := by
  have h1 := (i 1).isLt
  have h2 := (i 2).isLt
  change (i 1).val < 128 at h1
  change (i 2).val < 128 at h2
  rw [val_main_call1_v0_apply, val_main_v65_apply, val_main_v64_apply, val_main_c_apply, val_main_call0_v5_apply, val_main_call0_c_0_apply,
    val_main_call0_v4_apply, val_main_call0_v2_apply, val_main_call0_v0_apply, val_main_call0_v1_apply, val_main_call0_c_apply,
    val_main_call0_v3_apply]
  have e : IntOp.addi (BitVec.ofNat 32 (i 1).val) 0#32 = BitVec.ofNat 32 (i 1).val := by unfold IntOp.addi; exact BitVec.add_zero _
  change Scalar.select (IntOp.cmpi .sge (IntOp.addi (BitVec.ofNat 32 (i 1).val) 0#32) (BitVec.ofNat 32 (i 2).val)) 1#1 0#1 = _
  rw [e]
  by_cases h : (i 2).val ≤ (i 1).val
  · rw [if_pos h, (WordCmp.cmpi_sge_ofNat_eq_one_iff (by omega) (by omega)).mpr h]; rfl
  · rw [if_neg h, (WordCmp.cmpi_sge_ofNat_eq_zero_iff (by omega) (by omega)).mpr (by omega)]; rfl

section Values
variable {x0 : (⟨S1x4096x1024, .f32⟩ : BufTy).Contents (Elt Ideal)} {x1 x3 x4 : (⟨S1x1024, .f32⟩ : BufTy).Contents (Elt Ideal)}
  {x2 : (⟨S1x1024x8208, .f32⟩ : BufTy).Contents (Elt Ideal)} {x5 : (⟨S1x8x128x128, .f32⟩ : BufTy).Contents (Elt Ideal)}
  {x6 : (⟨S1x8x128, .f32⟩ : BufTy).Contents (Elt Ideal)}
  {X : ℕ → ℕ → ℝ} {N : ℕ → ℝ} {Y : ℕ → ℕ → ℝ} {G B : ℕ → ℝ} {W : ℕ → ℕ → ℕ → ℝ} {b : ℕ → ℕ → ℝ}
  (H : FA x0 x1 x3 x4 x2 x5 x6 X N Y G B W b)
include H

/-! ### The norm and the projection -/

theorem v2_at (i : S1x4096.Idx) : val_main_v2 (F := Ideal) x0 i = ((∑ e ∈ range 1024, X (i 1) e * X (i 1) e : ℝ) : EReal) := by
  rw [val_main_v2_apply, val_main_cst_apply, Ideal.ofBits_def, Ideal.ofBits_zero_f32, zero_add, coe_sum_range]
  refine Finset.sum_congr rfl fun k _ => ?_
  rw [val_main_v1_apply, H.r0, Ideal.mulf_def, ← EReal.coe_mul]
theorem v7_at (i : S1x4096x1.Idx) : val_main_v7 (F := Ideal) x0 i = ((ms (X (i 1)) + GlaVal.eps : ℝ) : EReal) := by
  rw [val_main_v7_apply, val_main_v5_apply, val_main_v3_apply, v2_at H, val_main_v4_apply, val_main_cst_0_apply, val_main_v6_apply,
    val_main_cst_1_apply, Ideal.ofBits_def, Mix.word_1024, Ideal.ofBits_def, GlaVal.word_eps, Ideal.hostDivf_def, Mix.div_1024, Ideal.addf_def, ← EReal.coe_add]
  rfl
theorem v8_at (i : S1x4096x1.Idx) : val_main_v8 (F := Ideal) x0 i = ((rr (X (i 1)) : ℝ) : EReal) := by
  have hp := ms_eps_pos (X (i 1))
  rw [val_main_v8_apply, v7_at H, Ideal.hostUnary_rsqrt_def, Ideal.rsqrt_coe, if_neg hp.not_gt, if_neg hp.ne']
  rfl
theorem v10_at (i : S1x4096x1024.Idx) : val_main_v10 (F := Ideal) x0 i = ((oh (X (i 1)) (i 2) : ℝ) : EReal) := by
  rw [val_main_v10_apply, H.r0, val_main_v9_apply, v8_at H, Ideal.mulf_def, ← EReal.coe_mul]
  rfl
theorem v11_at (i : S1x1x1024.Idx) : val_main_v11 (F := Ideal) x1 i = ((N (i 2) : ℝ) : EReal) := by
  have h2 : (i 2).val < 1024 := (i 2).isLt
  rw [val_main_v11_apply, val_main_v0_apply, H.r1]
  exact congrArg (fun n => ((N n : ℝ) : EReal)) (show (i 2).val % 1024 = (i 2).val by omega)
theorem v13_at (i : S1x4096x1024.Idx) : val_main_v13 (F := Ideal) x0 x1 i = ((hid N (X (i 1)) (i 2) : ℝ) : EReal) := by
  rw [val_main_v13_apply, v10_at H, val_main_v12_apply, v11_at H, Ideal.mulf_def, ← EReal.coe_mul]
  rfl
theorem v14_at (i : S1024x8208.Idx) : val_main_v14 (F := Ideal) x2 i = ((Y (i 0) (i 1) : ℝ) : EReal) := by
  have h0 : (i 0).val < 1024 := (i 0).isLt
  have h1 : (i 1).val < 8208 := (i 1).isLt
  rw [val_main_v14_apply, H.r2]
  exact congrArg₂ (fun a b => ((Y a b : ℝ) : EReal)) (show ((i 0).val * 8208 + (i 1).val) / 8208 % 1024 = (i 0).val by omega)
    (show ((i 0).val * 8208 + (i 1).val) % 8208 = (i 1).val by omega)
theorem v15_at (i : S1x4096x8208.Idx) : val_main_v15 (F := Ideal) x0 x1 x2 i = ((prj N Y X (i 1) (i 2) : ℝ) : EReal) := by
  rw [val_main_v15_apply]
  exact DxVal.prod_at (f := fun k => hid N (X (i 1)) k) (g := fun k => Y k (i 2)) (fun k => v13_at H _) (fun k => v14_at H _)

/-! ### The results without the mixer -/

theorem v86_at (i : S4096x1024.Idx) : val_main_v86 (F := Ideal) x0 x1 i = ((hid N (X (i 0)) (i 1) : ℝ) : EReal) := by
  have h0 : (i 0).val < 4096 := (i 0).isLt
  have h1 : (i 1).val < 1024 := (i 1).isLt
  rw [val_main_v86_apply, val_main_v85_apply, v13_at H, Ideal.truncf_def]
  exact congrArg₂ (fun a b => ((hid N (X a) b : ℝ) : EReal)) (show ((i 0).val * 1024 + (i 1).val) / 1024 % 4096 = (i 0).val by omega)
    (show ((i 0).val * 1024 + (i 1).val) % 1024 = (i 1).val by omega)
theorem v84_at (i : S4096x128.Idx) : val_main_v84 (F := Ideal) x0 x1 x2 i = ((prj N Y X (i 0) (6144 + (i 1).val) : ℝ) : EReal) := by
  have h0 : (i 0).val < 4096 := (i 0).isLt
  have h1 : (i 1).val < 128 := (i 1).isLt
  rw [val_main_v84_apply, val_main_v83_apply, v15_at H]
  exact congrArg₂ (fun a b => ((prj N Y X a b : ℝ) : EReal)) (show ((i 0).val * 128 + (i 1).val) / 128 % 4096 = (i 0).val by omega)
    (show 6144 + ((i 0).val * 128 + (i 1).val) % 128 = 6144 + (i 1).val by omega)
theorem v79_at (i : S4096x6144.Idx) : val_main_v79 (F := Ideal) x0 x1 x2 i = ((prj N Y X (i 0) (i 1) : ℝ) : EReal) := by
  have h0 : (i 0).val < 4096 := (i 0).isLt
  have h1 : (i 1).val < 6144 := (i 1).isLt
  rw [val_main_v79_apply, val_main_v78_apply, v15_at H]
  exact congrArg₂ (fun a b => ((prj N Y X a b : ℝ) : EReal)) (show ((i 0).val * 6144 + (i 1).val) / 6144 % 4096 = (i 0).val by omega)
    (show ((i 0).val * 6144 + (i 1).val) % 6144 = (i 1).val by omega)
theorem v81_at (i : S4096x2048.Idx) : val_main_v81 (F := Ideal) x0 x1 x2 i = ((prj N Y X (i 0) (6160 + (i 1).val) : ℝ) : EReal) := by
  have h0 : (i 0).val < 4096 := (i 0).isLt
  have h1 : (i 1).val < 2048 := (i 1).isLt
  rw [val_main_v81_apply, val_main_v80_apply, v15_at H]
  exact congrArg₂ (fun a b => ((prj N Y X a b : ℝ) : EReal)) (show ((i 0).val * 2048 + (i 1).val) / 2048 % 4096 = (i 0).val by omega)
    (show 6160 + ((i 0).val * 2048 + (i 1).val) % 2048 = 6160 + (i 1).val by omega)
/-- The projection without the code's columns. -/
theorem v82_at (i : S4096x8192.Idx) : val_main_v82 (F := Ideal) x0 x1 x2 i = ((prj N Y X (i 0) (skip (i 1)) : ℝ) : EReal) := by
  have hi : (i 1).val < 8192 := (i 1).isLt
  let ps : List ((s : Shape) × (s.Idx → Elt Ideal .f32)) :=
    [⟨S4096x6144, val_main_v79 (F := Ideal) x0 x1 x2⟩, ⟨S4096x2048, val_main_v81 (F := Ideal) x0 x1 x2⟩]
  unfold val_main_v82 skip
  by_cases h : (i 1).val < 6144
  · rw [if_pos h]
    refine (concatenate_apply_piece (t := S4096x8192) 1 ps _ i 0 (by change 0 < 2; decide) S4096x6144 (val_main_v79 (F := Ideal) x0 x1 x2) rfl rfl 0 rfl
      (ix2 (i 0) ⟨(i 1).val, h⟩) ?_ ?_).trans (v79_at H _)
    · intro q hq
      match q with
      | 0 => rfl
      | 1 => exact absurd rfl hq
    · exact Nat.zero_add _
  · rw [if_neg h]
    refine (concatenate_apply_piece (t := S4096x8192) 1 ps _ i 1 (by change 1 < 2; decide) S4096x2048 (val_main_v81 (F := Ideal) x0 x1 x2) rfl rfl 6144 rfl
      (ix2 (i 0) ⟨(i 1).val - 6144, by omega⟩) ?_ ?_).trans ((v81_at H _).trans ?_)
    · intro q hq
      match q with
      | 0 => rfl
      | 1 => exact absurd rfl hq
    · change 6144 + ((i 1).val - 6144) = (i 1).val
      omega
    · exact congrArg (fun n => ((prj N Y X (i 0) n : ℝ) : EReal)) (show 6160 + ((i 1).val - 6144) = (i 1).val + 16 by omega)

/-! ### The gelu of u and of v, the silu of z -/

theorem v16_at (i : S1x4096x1024.Idx) : val_main_v16 (F := Ideal) x0 x1 x2 i = ((prj N Y X (i 1) (i 2) : ℝ) : EReal) := by
  rw [val_main_v16_apply, v15_at H]
theorem v17_at (i : S1x4096x1024.Idx) : val_main_v17 (F := Ideal) x0 x1 x2 i = ((colV N Y X (i 1) (i 2) : ℝ) : EReal) := by
  rw [val_main_v17_apply, v15_at H]
  rfl
theorem v18_at (i : S1x4096x1024.Idx) : val_main_v18 (F := Ideal) x0 x1 x2 i = ((prj N Y X (i 1) (2048 + (i 2).val) : ℝ) : EReal) := by
  rw [val_main_v18_apply, v15_at H]
theorem v27_at (i : S1x4096x1024.Idx) : val_main_v27 (F := Ideal) x0 x1 x2 i = ((Mix.gelu (prj N Y X (i 1) (i 2)) : ℝ) : EReal) := by
  rw [val_main_v27_apply, val_main_v20_apply, val_main_v19_apply, val_main_cst_2_apply, val_main_v26_apply, val_main_v25_apply,
    val_main_cst_4_apply, val_main_v24_apply, val_main_v23_apply, val_main_v22_apply, val_main_v21_apply, val_main_cst_3_apply, v16_at H]
  simp only [Ideal.ofBits_def, word_half, word_two, word_one, Ideal.hostUnary_sqrt_def, sqrt_two, Ideal.hostDivf_def, div_real _ _ sqrt_two_ne,
    Ideal.hostUnary_erf_def, erf_real, Ideal.addf_def, ← EReal.coe_add, Ideal.mulf_def, ← EReal.coe_mul]
  exact congrArg _ (by unfold Mix.gelu Mix.cdf; ring)
theorem v36_at (i : S1x4096x1024.Idx) : val_main_v36 (F := Ideal) x0 x1 x2 i = ((Mix.gv (colV N Y X) (i 1) (i 2) : ℝ) : EReal) := by
  rw [val_main_v36_apply, val_main_v29_apply, val_main_v28_apply, val_main_cst_5_apply, val_main_v35_apply, val_main_v34_apply,
    val_main_cst_7_apply, val_main_v33_apply, val_main_v32_apply, val_main_v31_apply, val_main_v30_apply, val_main_cst_6_apply, v17_at H]
  simp only [Ideal.ofBits_def, word_half, word_two, word_one, Ideal.hostUnary_sqrt_def, sqrt_two, Ideal.hostDivf_def, div_real _ _ sqrt_two_ne,
    Ideal.hostUnary_erf_def, erf_real, Ideal.addf_def, ← EReal.coe_add, Ideal.mulf_def, ← EReal.coe_mul]
  exact congrArg _ (by unfold Mix.gv Mix.gelu Mix.cdf; ring)
theorem v76_at (i : S1x4096x1024.Idx) : val_main_v76 (F := Ideal) x0 x1 x2 i = ((Mix.silu (prj N Y X (i 1) (2048 + (i 2).val)) : ℝ) : EReal) := by
  have h : 1 + Real.exp (-prj N Y X (i 1) (2048 + (i 2).val)) ≠ 0 := (add_pos one_pos (Real.exp_pos _)).ne'
  rw [val_main_v76_apply, val_main_call2_v5_apply, val_main_call2_v4_apply, val_main_call2_cst_0_apply, val_main_call2_v3_apply,
    val_main_call2_v2_apply, val_main_call2_cst_apply, val_main_call2_v1_apply, val_main_call2_v0_apply, v18_at H]
  simp only [Ideal.ofBits_def, word_one, Ideal.hostNegf_def, Ideal.negf_def, ← EReal.coe_neg, Ideal.hostUnary_exp_def, Ideal.exp_coe,
    Ideal.addf_def, ← EReal.coe_add, Ideal.hostDivf_def]
  unfold Mix.silu
  rw [div_real _ _ h, one_mul, Ideal.mulf_def, ← EReal.coe_mul, Mix.lgst_eq]

/-! ### The layer norm of the gelu of v -/

theorem v44_at (i : S1x4096x1.Idx) : val_main_v44 (F := Ideal) x0 x1 x2 i = ((Mix.mean (Mix.gv (colV N Y X) (i 1)) : ℝ) : EReal) := by
  rw [val_main_v44_apply, val_main_v42_apply, val_main_v41_apply, val_main_cst_8_apply, val_main_v43_apply, val_main_cst_9_apply]
  simp only [Ideal.ofBits_def, Ideal.ofBits_zero_f32, zero_add, Mix.word_1024, v36_at H, Ideal.hostDivf_def]
  rw [← coe_sum_range 1024 (fun k => Mix.gv (colV N Y X) (i 1) k), Mix.div_1024]
  rfl
theorem v46_at (i : S1x4096x1024.Idx) : val_main_v46 (F := Ideal) x0 x1 x2 i = ((Mix.cen (Mix.gv (colV N Y X) (i 1)) (i 2) : ℝ) : EReal) := by
  rw [val_main_v46_apply, val_main_v45_apply, v44_at H, v36_at H, Ideal.subf_def, ← EReal.coe_sub]
  rfl
theorem v53_at (i : S1x4096x1.Idx) : val_main_v53 (F := Ideal) x0 x1 x2 i = ((Mix.var (Mix.gv (colV N Y X) (i 1)) + Mix.eps : ℝ) : EReal) := by
  rw [val_main_v53_apply, val_main_v52_apply, val_main_cst_12_apply, val_main_v51_apply, val_main_v49_apply, val_main_v48_apply,
    val_main_cst_10_apply, val_main_v50_apply, val_main_cst_11_apply]
  simp only [val_main_v47_apply, Ideal.ofBits_def, Ideal.ofBits_zero_f32, zero_add, Mix.word_1024, Mix.word_eps, v46_at H, Ideal.hostDivf_def,
    Ideal.mulf_def, ← EReal.coe_mul, Ideal.addf_def]
  rw [← coe_sum_range 1024 (fun k => Mix.cen (Mix.gv (colV N Y X) (i 1)) k * Mix.cen (Mix.gv (colV N Y X) (i 1)) k), Mix.div_1024, ← EReal.coe_add]
  rfl
theorem v54_at (i : S1x4096x1.Idx) : val_main_v54 (F := Ideal) x0 x1 x2 i = ((Mix.rs (Mix.gv (colV N Y X) (i 1)) : ℝ) : EReal) := by
  have h := Mix.var_eps_pos (Mix.gv (colV N Y X) (i 1))
  rw [val_main_v54_apply, v53_at H, Ideal.hostUnary_rsqrt_def, Ideal.rsqrt_coe, if_neg (not_lt.2 h.le), if_neg h.ne']
  rfl
theorem v56_at (i : S1x4096x1024.Idx) : val_main_v56 (F := Ideal) x0 x1 x2 i = ((Mix.vh (colV N Y X) (i 1) (i 2) : ℝ) : EReal) := by
  rw [val_main_v56_apply, val_main_v55_apply, v46_at H, v54_at H, Ideal.mulf_def, ← EReal.coe_mul]
  rfl
theorem v57_at (i : S1x1x1024.Idx) : val_main_v57 (F := Ideal) x3 i = ((G (i 2) : ℝ) : EReal) := by
  rw [val_main_v57_apply, val_main_v37_apply, H.r3]
  have h := (i 2).isLt
  change (i 2).val < 1024 at h
  exact congrArg (fun n => ((G n : ℝ) : EReal)) (Nat.mod_eq_of_lt h)
theorem v60_at (i : S1x1x1024.Idx) : val_main_v60 (F := Ideal) x4 i = ((B (i 2) : ℝ) : EReal) := by
  rw [val_main_v60_apply, val_main_v38_apply, H.r4]
  have h := (i 2).isLt
  change (i 2).val < 1024 at h
  exact congrArg (fun n => ((B n : ℝ) : EReal)) (Nat.mod_eq_of_lt h)
theorem v62_at (i : S1x4096x1024.Idx) :
    val_main_v62 (F := Ideal) x0 x1 x2 x3 x4 i = ((Mix.ln G B (colV N Y X) (i 1) (i 2) : ℝ) : EReal) := by
  rw [val_main_v62_apply, val_main_v59_apply, val_main_v58_apply, val_main_v61_apply, v56_at H, v57_at H, v60_at H, Ideal.mulf_def,
    Ideal.addf_def, ← EReal.coe_mul, ← EReal.coe_add]
  rfl

/-! ### The mixing -/

theorem v63_at (i : S1x32x128x8x128.Idx) : val_main_v63 (F := Ideal) x0 x1 x2 x3 x4 i
    = ((Mix.ln G B (colV N Y X) (128 * (i 1).val + (i 2).val) (128 * (i 3).val + (i 4).val) : ℝ) : EReal) := by
  rw [val_main_v63_apply, v62_at H]
  have h0 := (i 0).isLt
  have h1 := (i 1).isLt
  have h2 := (i 2).isLt
  have h3 := (i 3).isLt
  have h4 := (i 4).isLt
  change (i 0).val < 1 at h0
  change (i 1).val < 32 at h1
  change (i 2).val < 128 at h2
  change (i 3).val < 8 at h3
  change (i 4).val < 128 at h4
  refine congrArg₂ (fun r d => ((Mix.ln G B (colV N Y X) r d : ℝ) : EReal)) ?_ ?_
  · change (((((i 0).val * 32 + (i 1).val) * 128 + (i 2).val) * 8 + (i 3).val) * 128 + (i 4).val) / 1024 % 4096 = _
    omega
  · change (((((i 0).val * 32 + (i 1).val) * 128 + (i 2).val) * 8 + (i 3).val) * 128 + (i 4).val) % 1024 = _
    omega
theorem v67_at (i : S8x128x128.Idx) : val_main_v67 (F := Ideal) x5 i = ((Mix.tri W (i 0) (i 1) (i 2) : ℝ) : EReal) := by
  have h0 := (i 0).isLt
  have h1 := (i 1).isLt
  have h2 := (i 2).isLt
  change (i 0).val < 8 at h0
  change (i 1).val < 128 at h1
  change (i 2).val < 128 at h2
  rw [val_main_v67_apply, mask_at, val_main_v39_apply, H.r5, val_main_v66_apply, val_main_cst_13_apply, Ideal.ofBits_def,
    Ideal.ofBits_zero_f32]
  unfold Mix.tri
  by_cases h : (i 2).val ≤ (i 1).val
  · rw [if_pos h, if_pos h]
    change ((W ((((i 0).val * 128 + (i 1).val) * 128 + (i 2).val) / 16384 % 8) ((((i 0).val * 128 + (i 1).val) * 128 + (i 2).val) / 128 % 128)
      ((((i 0).val * 128 + (i 1).val) * 128 + (i 2).val) % 128) : ℝ) : EReal) = _
    rw [show (((i 0).val * 128 + (i 1).val) * 128 + (i 2).val) / 16384 % 8 = (i 0).val by omega,
      show (((i 0).val * 128 + (i 1).val) * 128 + (i 2).val) / 128 % 128 = (i 1).val by omega,
      show (((i 0).val * 128 + (i 1).val) * 128 + (i 2).val) % 128 = (i 2).val by omega]
  · rw [if_neg h, if_neg h]
    rfl
theorem v68_at (i : S8x1x32x128x128.Idx) : val_main_v68 (F := Ideal) x0 x1 x2 x3 x4 x5 i
    = ((∑ k ∈ range 128, Mix.tri W (i 0) (i 4) k * Mix.ln G B (colV N Y X) (128 * (i 2).val + k) (128 * (i 0).val + (i 3).val) : ℝ) : EReal) := by
  rw [val_main_v68_apply, coe_sum_range]
  refine Finset.sum_congr rfl fun k _ => ?_
  rw [v63_at H, v67_at H, ← EReal.coe_mul, mul_comm]
theorem v72_at (i : S1x32x128x8x128.Idx) : val_main_v72 (F := Ideal) x6 i = ((b (i 3) (i 2) : ℝ) : EReal) := by
  have h2 := (i 2).isLt
  have h3 := (i 3).isLt
  change (i 2).val < 128 at h2
  change (i 3).val < 8 at h3
  rw [val_main_v72_apply, val_main_v71_apply, val_main_v70_apply, val_main_v40_apply, H.r6]
  refine congrArg₂ (fun r d => ((b r d : ℝ) : EReal)) ?_ ?_
  · change ((i 3).val * 128 + (i 2).val) / 128 % 8 = _
    omega
  · change ((i 3).val * 128 + (i 2).val) % 128 = _
    omega
theorem v73_at (i : S1x32x128x8x128.Idx) : val_main_v73 (F := Ideal) x0 x1 x2 x3 x4 x5 x6 i
    = (((∑ k ∈ range 128, Mix.tri W (i 3) (i 2) k * Mix.ln G B (colV N Y X) (128 * (i 1).val + k) (128 * (i 3).val + (i 4).val))
      + b (i 3) (i 2) : ℝ) : EReal) := by
  rw [val_main_v73_apply, val_main_v69_apply, v68_at H, v72_at H, Ideal.addf_def, ← EReal.coe_add]
theorem v74_at (i : S1x4096x1024.Idx) :
    val_main_v74 (F := Ideal) x0 x1 x2 x3 x4 x5 x6 i = ((Mix.MX G B W b (colV N Y X) (i 1) (i 2) : ℝ) : EReal) := by
  rw [val_main_v74_apply, v73_at H]
  have h0 := (i 0).isLt
  have h1 := (i 1).isLt
  have h2 := (i 2).isLt
  change (i 0).val < 1 at h0
  change (i 1).val < 4096 at h1
  change (i 2).val < 1024 at h2
  have e1 : ((idx_main_v74 i) 1).val = (i 1).val / 128 := by
    change (((i 0).val * 4096 + (i 1).val) * 1024 + (i 2).val) / 131072 % 32 = _
    omega
  have e2 : ((idx_main_v74 i) 2).val = (i 1).val % 128 := by
    change (((i 0).val * 4096 + (i 1).val) * 1024 + (i 2).val) / 1024 % 128 = _
    omega
  have e3 : ((idx_main_v74 i) 3).val = (i 2).val / 128 := by
    change (((i 0).val * 4096 + (i 1).val) * 1024 + (i 2).val) / 128 % 8 = _
    omega
  have e4 : ((idx_main_v74 i) 4).val = (i 2).val % 128 := by
    change (((i 0).val * 4096 + (i 1).val) * 1024 + (i 2).val) % 128 = _
    omega
  rw [e1, e2, e3, e4, Mix.row_split]
  rfl
theorem v77_at (i : S1x4096x1024.Idx) :
    val_main_v77 (F := Ideal) x0 x1 x2 x3 x4 x5 x6 i = ((mixR N Y X G B W b (i 1) (i 2) : ℝ) : EReal) := by
  rw [val_main_v77_apply, val_main_v75_apply, v27_at H, v74_at H, v76_at H, Ideal.mulf_def, Ideal.mulf_def, ← EReal.coe_mul, ← EReal.coe_mul]
  unfold mixR mixA Mix.sh
  rw [Mix.row_split]
  rfl
/-- The first mixer's output. -/
theorem v88_at (i : S4096x1024.Idx) :
    val_main_v88 (F := Ideal) x0 x1 x2 x3 x4 x5 x6 i = ((mixR N Y X G B W b (i 0) (i 1) : ℝ) : EReal) := by
  have h0 : (i 0).val < 4096 := (i 0).isLt
  have h1 : (i 1).val < 1024 := (i 1).isLt
  rw [val_main_v88_apply, val_main_v87_apply, v77_at H, Ideal.truncf_def]
  exact congrArg₂ (fun r d => ((mixR N Y X G B W b r d : ℝ) : EReal)) (show ((i 0).val * 1024 + (i 1).val) / 1024 % 4096 = (i 0).val by omega)
    (show ((i 0).val * 1024 + (i 1).val) % 1024 = (i 1).val by omega)

end Values

end Cert.FwdVal

end
-- ==== Proof.Fwd.Arrays.lean ====
module

public import proofs.«01_k».proof.Proof.Fwd.Step
public import proofs.«01_k».proof.Proof.Fwd.Ref
public import proofs.«01_k».proof.Proof.Gla.Arrays
public import proofs.«01_k».proof.Proof.Gen.FwdIdeal.Value
public import Idealize.ShloMosaic.Lib.Pointwise

@[expose] public section

noncomputable section

/-! The forward call's first part: what its steps store, in reals, and what fills the results. -/

namespace Cert.FwdVal

open Cert.FwdIdeal Cert.FwdIdeal.Gen Idealize.ShloMosaic Idealize.ShloMosaic.TcCoe
open Cert.Mix (rT rG rAll kg kc sh blk sh_blk exists_k emb_val ld_rG)
open Cert.GlaVal (flat3)
open Finset

theorem skip_col (k : Fin 8) (d : ℕ) (hd : d < 1024) : skip (1024 * k.val + d) = 1024 * k.val + 16 * (k.val / 6) + d := by
  have := k.isLt
  unfold skip
  split <;> omega
theorem skip_low (j : ℕ) (h : j < 6144) : skip j = j := if_pos h

section Step
variable (v11 : View sig .tc .vmem S256x8192 .f32) (v18 : View sig .tc .vmem S256x1024 .bf16)
  {x : Vec Ideal S256x1024 .f32} {g lg lb : Vec Ideal S1x1024 .f32} {w : Vec Ideal S8208x1024 .bf16} {ws bs : Vec Ideal S8x128x128 .f32}
  {X Y : ℕ → ℕ → ℝ} {N G B : ℕ → ℝ} {W : ℕ → ℕ → ℕ → ℝ} {b : ℕ → ℕ → ℝ}
  (hx : ∀ j, x j = ((X (j 0) (j 1) : ℝ) : EReal)) (hg : ∀ j, g j = ((N (j 1) : ℝ) : EReal)) (hw : ∀ j, w j = ((Y (j 1) (j 0) : ℝ) : EReal))
  (hlg : ∀ j, lg j = ((G (j 1) : ℝ) : EReal)) (hlb : ∀ j, lb j = ((B (j 1) : ℝ) : EReal))
  (hws : ∀ j, ws j = ((W (j 0) (j 1) (j 2) : ℝ) : EReal)) (hbs : ∀ j, bs j = ((b (j 0) (j 1) : ℝ) : EReal))

include hw in
theorem ld_rW (k : Fin 8) (j : S1024x1024.Idx) :
    View.ld w (rW k) j = ((Y (j 1) (1024 * k.val + 16 * (k.val / 6) + (j 0).val) : ℝ) : EReal) := by
  rw [View.ld_apply, hw]
  have e0 : ((rW k).idx j 0).val = (1024 * k.val + 16 * (k.val / 6)) + (j 0).val := Rect.idx_unit_val ..
  have e1 : ((rW k).idx j 1).val = 0 + (j 1).val := Rect.idx_unit_val ..
  rw [e0, e1, Nat.zero_add]
include hw in
theorem ld_rL (j : S128x1024.Idx) : View.ld w rL j = ((Y (j 1) (6144 + (j 0).val) : ℝ) : EReal) := by
  rw [View.ld_apply, hw]
  have e0 : (rL.idx j 0).val = 6144 + (j 0).val := Rect.idx_unit_val ..
  have e1 : (rL.idx j 1).val = 0 + (j 1).val := Rect.idx_unit_val ..
  rw [e0, e1, Nat.zero_add]

include hx hg hw

theorem pP_at (k : Fin 8) (j : S256x1024.Idx) :
    (pP x g w k).2 j = ((prj N Y X (j 0) (skip (1024 * k.val + (j 1).val)) : ℝ) : EReal) := by
  have hj : (j 1).val < 1024 := (j 1).isLt
  refine (prod_blk (H := fun t => hid N (X t)) (W := fun e d => Y e (1024 * k.val + 16 * (k.val / 6) + d)) (hB_at hx hg) (ld_rW hw k) j).trans ?_
  rw [skip_col k _ hj]
  rfl
/-- A place of the projection in the pieces that hold it. -/
theorem mem_rP (k : Fin 8) (y : S256x8192.Idx) (h : (y 1).val / 1024 = k.val) : y ∈ (rP k).set := by
  have hr : (y 0).val < 256 := (y 0).isLt
  refine Rect.mem_set_unit.mpr fun q => ?_
  match q with
  | 0 => change 0 ≤ (y 0).val ∧ (y 0).val < 0 + 256; omega
  | 1 => change 1024 * k.val ≤ (y 1).val ∧ (y 1).val < 1024 * k.val + 1024; omega
theorem pP_emb (k : Fin 8) (y : S256x8192.Idx) (j : S256x1024.Idx) (h : (rP k).emb j = y) :
    (pP x g w k).2 j = ((prj N Y X (y 0) (skip (y 1)) : ℝ) : EReal) := by
  have e0 : (y 0).val = 0 + (j 0).val := emb_val h _
  have e1 : (y 1).val = 1024 * k.val + (j 1).val := emb_val h _
  rw [pP_at hx hg hw, e0, e1, Nat.zero_add]
theorem l10_at (y : S256x8192.Idx) : View.canon (l10 x g w) y = ((prj N Y X (y 0) (skip (y 1)) : ℝ) : EReal) := by
  have hd : (y 1).val < 8192 := (y 1).isLt
  apply View.canon_eq_of_allAt
  · refine ⟨_, List.mem_map_of_mem (List.mem_finRange ⟨7 - (y 1).val / 1024, by omega⟩), ?_⟩
    exact mem_rP hx hg hw _ y (by change (y 1).val / 1024 = 7 - (7 - (y 1).val / 1024); omega)
  · intro p hp j hj
    obtain ⟨k, -, rfl⟩ := List.mem_map.mp hp
    exact pP_emb hx hg hw _ y j hj
theorem l3_at (y : S256x8192.Idx) (h : (y 1).val < 3072) : View.canon (l3 x g w) y = ((prj N Y X (y 0) (y 1) : ℝ) : EReal) := by
  rw [← skip_low (y 1) (by omega)]
  apply View.canon_eq_of_allAt
  · refine ⟨_, List.mem_map_of_mem (List.mem_finRange ⟨2 - (y 1).val / 1024, by omega⟩), ?_⟩
    exact mem_rP hx hg hw _ y (by change (y 1).val / 1024 = 2 - (2 - (y 1).val / 1024); omega)
  · intro p hp j hj
    obtain ⟨k, -, rfl⟩ := List.mem_map.mp hp
    exact pP_emb hx hg hw _ y j hj
theorem pV_at (j : S256x1024.Idx) : pV v11 x g w j = ((prj N Y X (j 0) (1024 + (j 1).val) : ℝ) : EReal) := by
  have hj : (j 1).val < 1024 := (j 1).isLt
  unfold pV
  rw [View.readCov_eq_canon']
  have e0 : ((rP 1).toLoadRect.idx j 0).val = 0 + (j 0).val := Rect.idx_unit_val ..
  have e1 : ((rP 1).toLoadRect.idx j 1).val = 1024 + (j 1).val := Rect.idx_unit_val ..
  refine (l3_at hx hg hw _ (by omega)).trans ?_
  rw [e0, e1, Nat.zero_add]
theorem pS_at (o : Fin 8) (ho : o.val < 3) (q : Fin 8) (c : Fin 2) (j : S128x128.Idx) : pS v11 x g w o q c j
    = ((prj N Y X (128 * c.val + (j 0).val) (1024 * o.val + (128 * q.val + (j 1).val)) : ℝ) : EReal) := by
  have hj : (j 1).val < 128 := (j 1).isLt
  unfold pS
  rw [View.readCov_eq_canon']
  have e0 : ((rT q c).toLoadRect.idx j 0).val = 128 * c.val + (j 0).val := Rect.idx_unit_val ..
  have e1 : ((rT q c).toLoadRect.idx j 1).val = 128 * q.val + (j 1).val := Rect.idx_unit_val ..
  have f0 : ((rP o).emb ((rT q c).toLoadRect.idx j) 0).val = 0 + ((rT q c).toLoadRect.idx j 0).val := emb_val rfl _
  have f1 : ((rP o).emb ((rT q c).toLoadRect.idx j) 1).val = 1024 * o.val + ((rT q c).toLoadRect.idx j 1).val := emb_val rfl _
  change View.canon (l3 x g w) (((rP o).withinL (rT q c).toLoadRect _).idx j) = _
  rw [Rect.idx_withinL]
  refine (l3_at hx hg hw _ (by omega)).trans ?_
  rw [f0, f1, e0, e1, Nat.zero_add]

include hlg hlb
theorem pN_at (q : Fin 8) (c : Fin 2) (j : S128x128.Idx) : pN v11 v18 x g lg lb w q c j
    = ((Mix.ln G B (fun t d => prj N Y X t (1024 + d)) (128 * c.val + (j 0).val) (128 * q.val + (j 1).val) : ℝ) : EReal) := by
  unfold pN
  rw [View.readCov_eq_canon']
  have e : View.canon [(⟨rAll, k0_pay9 (F := Ideal) (pV v11 x g w) lg lb⟩ : View.Piece (Elt Ideal) S256x1024 .bf16)]
      = k0_pay9 (F := Ideal) (pV v11 x g w) lg lb :=
    View.canon_cons_unit_lit' _ _ _ (by intro a; match a with | 0 => rfl | 1 => rfl)
  rw [e]
  refine (pay9_at (V := fun t d => prj N Y X t (1024 + d)) (pV_at v11 hx hg hw) hlg hlb _).trans ?_
  congr 2 <;> exact Rect.idx_unit_val ..

include hws hbs
theorem l13_at (y : S256x1024.Idx) : View.canon (l13 v11 v18 x g lg lb w ws bs) y
    = ((mixA G B W b (sh (prj N Y X) ((y 0).val / 128)) ((y 0).val % 128) (y 1) : ℝ) : EReal) := by
  have hr : (y 0).val < 256 := (y 0).isLt
  have hd : (y 1).val < 1024 := (y 1).isLt
  apply View.canon_eq_of_allAt
  · obtain ⟨k, h1, h2⟩ := exists_k _ _ hr hd
    refine ⟨_, List.mem_map_of_mem (List.mem_finRange k), ?_⟩
    show y ∈ (rT (kg k) (kc k)).set
    refine Rect.mem_set_unit.mpr fun q => ?_
    match q with
    | 0 => change 128 * (kc k).val ≤ (y 0).val ∧ (y 0).val < 128 * (kc k).val + 128; omega
    | 1 => change 128 * (kg k).val ≤ (y 1).val ∧ (y 1).val < 128 * (kg k).val + 128; omega
  · intro p hp j hj
    obtain ⟨k, -, rfl⟩ := List.mem_map.mp hp
    replace hj : (rT (kg k) (kc k)).emb j = y := hj
    have e0 : (y 0).val = 128 * (kc k).val + (j 0).val := emb_val hj _
    have e1 : (y 1).val = 128 * (kg k).val + (j 1).val := emb_val hj _
    have hj0 : (j 0).val < 128 := (j 0).isLt
    have hj1 : (j 1).val < 128 := (j 1).isLt
    refine (mix_at (W := W (kg k)) (q := b (kg k))
      (L := fun i d => Mix.ln G B (fun t d => prj N Y X t (1024 + d)) (128 * (kc k).val + i) (128 * (kg k).val + d))
      (Z := fun i d => prj N Y X (128 * (kc k).val + i) (1024 * 2 + (128 * (kg k).val + d)))
      (U := fun i d => prj N Y X (128 * (kc k).val + i) (1024 * 0 + (128 * (kg k).val + d)))
      (ld_rG hws (kg k)) (pN_at v11 v18 hx hg hw hlg hlb (kg k) (kc k)) (ld_rG (W := fun g i _ => b g i) hbs (kg k))
      (pS_at v11 hx hg hw 2 (by decide) (kg k) (kc k)) (pS_at v11 hx hg hw 0 (by decide) (kg k) (kc k)) j).trans ?_
    rw [show (y 0).val / 128 = (kc k).val by omega, show (y 0).val % 128 = (j 0).val by omega, e1]
    unfold mixA Mix.mixed Mix.tri sh
    rw [show (128 * (kg k).val + (j 1).val) / 128 = (kg k).val by omega, Nat.mul_zero, Nat.zero_add]
    rfl
end Step

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_10.index t = ![t.val, 0] ∧ win0_11.index t = ![t.val, 0] ∧ win0_12.index t = ![t.val, 0] ∧ win0_13.index t = ![t.val, 0] :=
  (by decide +kernel : ∀ t : Fin grid0.N, _)

section Entry
variable (m : (ℓ : Loc nD τ sig) → Buf (Elt Ideal) ℓ) (c : Dev nD)

theorem V_v2 : (V m c main_v2 : Vec Ideal S8208x1024 .bf16) = transpose S8208x1024 [1, 0]
    (shapeCast _ (m ((c : Thread nD τ).loc main_arg2) : Vec Ideal S1x1024x8208 .f32) shapeCasts_S1x1024x8208_S1024x8208) transposes_S1024x8208_S8208x1024_1_0 := by
  unfold V
  entry_read
  rfl
theorem V_v8 : (V m c main_v8 : Vec Ideal S4096x1024 .f32)
    = shapeCast _ (m ((c : Thread nD τ).loc main_arg0) : Vec Ideal S1x4096x1024 .f32) shapeCasts_S1x4096x1024_S4096x1024 := by
  unfold V
  entry_read
  rfl

theorem V_v9 : (V m c main_v9 : Vec Ideal S8x128x128 .f32)
    = shapeCast _ (m ((c : Thread nD τ).loc main_arg5) : Vec Ideal S1x8x128x128 .f32) shapeCasts_S1x8x128x128_S8x128x128 := by
  unfold V
  entry_read
  rfl
theorem V_v7 : (V m c main_v7 : Vec Ideal S8x128x128 .f32) = broadcastInDim S8x128x128 ![0, 1, 2] bcast_S8x128x1_S8x128x128_0_1_2
    (broadcastInDim S8x128x1 ![0, 1] bcast_S8x128_S8x128x1_0_1
      (shapeCast _ (m ((c : Thread nD τ).loc main_arg6) : Vec Ideal S1x8x128 .f32) shapeCasts_S1x8x128_S8x128)) := by
  unfold V
  entry_read
  rfl
/-- A batch of one, read without its first index, of three further indices. -/
theorem flat4 {α : Type} {p q r : ℕ} (x : (⟨4, ![1, p, q, r]⟩ : Shape).Idx → α) (h : (⟨4, ![1, p, q, r]⟩ : Shape).ShapeCasts ⟨3, ![p, q, r]⟩)
    (j : (⟨3, ![p, q, r]⟩ : Shape).Idx) : shapeCast _ x h j = x (ix4 0 (j 0) (j 1) (j 2)) := by
  refine shapeCast_apply x h j _ ?_
  rewrite [Shape.rowMajor_val_four, Shape.rowMajor_val_three]
  change ((0 * p + (j 0).val) * q + (j 1).val) * r + (j 2).val = ((j 0).val * q + (j 1).val) * r + (j 2).val
  rw [Nat.zero_mul, Nat.zero_add]

abbrev Args (X : ℕ → ℕ → ℝ) (N : ℕ → ℝ) (Y : ℕ → ℕ → ℝ) (G B : ℕ → ℝ) (W : ℕ → ℕ → ℕ → ℝ) (b : ℕ → ℕ → ℝ) : Prop :=
  FA (m ((c : Thread nD τ).loc main_arg0)) (m ((c : Thread nD τ).loc main_arg1)) (m ((c : Thread nD τ).loc main_arg3))
    (m ((c : Thread nD τ).loc main_arg4)) (m ((c : Thread nD τ).loc main_arg2)) (m ((c : Thread nD τ).loc main_arg5))
    (m ((c : Thread nD τ).loc main_arg6)) X N Y G B W b

/-- Row `i` of block `t`, among all rows. -/
abbrev rowOf (t : Fin cfg0.N) (i : Fin 256) : Fin 4096 := ⟨256 * t.val + i.val, by have h := t.isLt; change t.val < 16 at h; omega⟩
variable (t : Fin cfg0.N)
theorem iblk0_apply (j : S256x1024.Idx) : (iblk m c 0 t : Vec Ideal S256x1024 .f32) j = (V m c main_v8 : Vec Ideal S4096x1024 .f32) (ix2 (rowOf t (j 0)) (j 1)) := by
  blk_ext [iblk, idx t]
theorem iblk1_apply (j : S1x1024.Idx) : (iblk m c 1 t : Vec Ideal S1x1024 .f32) j = (m ((c : Thread nD τ).loc main_arg1) : Vec Ideal S1x1024 .f32) j := by
  blk_ext! [iblk, V, idx t]
theorem iblk2_apply (j : S8208x1024.Idx) : (iblk m c 2 t : Vec Ideal S8208x1024 .bf16) j = (V m c main_v2 : Vec Ideal S8208x1024 .bf16) (ix2 (j 0) (j 1)) := by
  blk_ext [iblk, idx t]
theorem iblk3_apply (j : S1x1024.Idx) : (iblk m c 3 t : Vec Ideal S1x1024 .f32) j = (m ((c : Thread nD τ).loc main_arg3) : Vec Ideal S1x1024 .f32) j := by
  blk_ext! [iblk, V, idx t]
theorem iblk4_apply (j : S1x1024.Idx) : (iblk m c 4 t : Vec Ideal S1x1024 .f32) j = (m ((c : Thread nD τ).loc main_arg4) : Vec Ideal S1x1024 .f32) j := by
  blk_ext! [iblk, V, idx t]
theorem iblk5_apply (j : S8x128x128.Idx) : (iblk m c 5 t : Vec Ideal S8x128x128 .f32) j
    = (V m c main_v9 : Vec Ideal S8x128x128 .f32) (ix3 (j 0) (j 1) (j 2)) := by
  blk_ext [iblk, idx t]
theorem iblk6_apply (j : S8x128x128.Idx) : (iblk m c 6 t : Vec Ideal S8x128x128 .f32) j
    = (V m c main_v7 : Vec Ideal S8x128x128 .f32) (ix3 (j 0) (j 1) (j 2)) := by
  blk_ext [iblk, idx t]

variable {m c}
variable {X Y : ℕ → ℕ → ℝ} {N G B : ℕ → ℝ} {W : ℕ → ℕ → ℕ → ℝ} {b : ℕ → ℕ → ℝ} (H : Args m c X N Y G B W b)
include H

theorem b0 (j) : (iblk m c 0 t : Vec Ideal S256x1024 .f32) j = ((blk X t (j 0) (j 1) : ℝ) : EReal) := by
  refine (iblk0_apply m c t j).trans ?_
  rw [V_v8]
  exact (flat3 _ _ _).trans (H.r0 _)
theorem b1 (j) : (iblk m c 1 t : Vec Ideal S1x1024 .f32) j = ((N (j 1) : ℝ) : EReal) := (iblk1_apply m c t j).trans (H.r1 _)
theorem b2 (j) : (iblk m c 2 t : Vec Ideal S8208x1024 .bf16) j = ((Y (j 1) (j 0) : ℝ) : EReal) := by
  refine (iblk2_apply m c t j).trans ?_
  rw [V_v2]
  refine (transpose_apply _ _ _ _ (ix2 (j 1) (j 0) : S1024x8208.Idx) fun b => ?_).trans ((flat3 _ _ _).trans (H.r2 _))
  match b with
  | ⟨0, _⟩ => rfl
  | ⟨1, _⟩ => rfl
theorem b3 (j) : (iblk m c 3 t : Vec Ideal S1x1024 .f32) j = ((G (j 1) : ℝ) : EReal) := (iblk3_apply m c t j).trans (H.r3 _)
theorem b4 (j) : (iblk m c 4 t : Vec Ideal S1x1024 .f32) j = ((B (j 1) : ℝ) : EReal) := (iblk4_apply m c t j).trans (H.r4 _)
theorem b5 (j) : (iblk m c 5 t : Vec Ideal S8x128x128 .f32) j = ((W (j 0) (j 1) (j 2) : ℝ) : EReal) := by
  refine (iblk5_apply m c t j).trans ?_
  rw [V_v9]
  exact (flat4 _ _ _).trans (H.r5 _)
theorem b6 (j) : (iblk m c 6 t : Vec Ideal S8x128x128 .f32) j = ((b (j 0) (j 1) : ℝ) : EReal) := by
  refine (iblk6_apply m c t j).trans ?_
  rw [V_v7]
  refine (broadcastInDim_apply _ _ _ _ (ix3 (j 0) (j 1) 0 : S8x128x1.Idx) fun a => ?_).trans ?_
  · match a with
    | ⟨0, _⟩ => rfl
    | ⟨1, _⟩ => rfl
    | ⟨2, _⟩ => rfl
  refine (broadcastInDim_apply _ _ _ _ (ix2 (j 0) (j 1) : S8x128.Idx) fun a => ?_).trans ?_
  · match a with
    | ⟨0, _⟩ => rfl
    | ⟨1, _⟩ => rfl
  exact (flat3 _ _ _).trans (H.r6 _)

theorem out10_at (j : S256x8192.Idx) : (outsAt0 m c t.val t.isLt).1 j = ((prj N Y X (256 * t.val + (j 0).val) (skip (j 1)) : ℝ) : EReal) := by
  have e : (outsAt0 m c t.val t.isLt).1 = View.canon (l10 (iblk m c 0 t) (iblk m c 1 t) (iblk m c 2 t)) := by
    by_cases h0 : t.val % 16 = 0
    · exact outs10_A m c t h0
    · exact outs10_B m c t h0
  rw [e]
  exact l10_at (b0 t H) (b1 t H) (b2 t H) j
theorem out11_at (j : S256x128.Idx) : (outsAt0 m c t.val t.isLt).2.1 j = ((prj N Y X (256 * t.val + (j 0).val) (6144 + (j 1).val) : ℝ) : EReal) := by
  have e : (outsAt0 m c t.val t.isLt).2.1 = k0_pay45 (F := Ideal) (k0_pay5 (iblk m c 0 t) (iblk m c 1 t)) (View.ld (iblk m c 2 t) rL) := by
    by_cases h0 : t.val % 16 = 0
    · exact outs11_A m c t h0
    · exact outs11_B m c t h0
  rw [e]
  exact prod_code (H := fun r => hid N (blk X t r)) (W := fun e d => Y e (6144 + d)) (hB_at (b0 t H) (b1 t H)) (ld_rL (b2 t H)) j
theorem out12_at (j : S256x1024.Idx) : (outsAt0 m c t.val t.isLt).2.2.1 j = ((hid N (X (256 * t.val + (j 0).val)) (j 1) : ℝ) : EReal) := by
  have e : (outsAt0 m c t.val t.isLt).2.2.1 = k0_pay5 (F := Ideal) (iblk m c 0 t) (iblk m c 1 t) := by
    by_cases h0 : t.val % 16 = 0
    · exact outs12_A m c t h0
    · exact outs12_B m c t h0
  rw [e]
  exact hB_at (b0 t H) (b1 t H) j
theorem out13_at (j : S256x1024.Idx) : (outsAt0 m c t.val t.isLt).2.2.2.1 j = ((mixR N Y X G B W b (256 * t.val + (j 0).val) (j 1) : ℝ) : EReal) := by
  have e : (outsAt0 m c t.val t.isLt).2.2.2.1 = View.canon (l13 (ms0_10 t).view scM0_0.view
      (iblk m c 0 t) (iblk m c 1 t) (iblk m c 3 t) (iblk m c 4 t) (iblk m c 2 t) (iblk m c 5 t) (iblk m c 6 t)) := by
    by_cases h0 : t.val % 16 = 0
    · exact outs13_A m c t h0
    · exact outs13_B m c t h0
  rw [e]
  refine (l13_at _ _ (b0 t H) (b1 t H) (b2 t H) (b3 t H) (b4 t H) (b5 t H) (b6 t H) j).trans ?_
  unfold mixR
  rw [show (256 * t.val + (j 0).val) / 128 = 2 * t.val + (j 0).val / 128 by omega, show (256 * t.val + (j 0).val) % 128 = (j 0).val % 128 by omega,
    ← sh_blk]
  rfl

omit t
theorem arr10 : (dats m 0 c).arrAt 10 cfg0.N = (fun j => ((prj N Y X (j 0) (skip (j 1)) : ℝ) : EReal) : Vec Ideal S4096x8192 .f32) := by
  refine (dats m 0 c).arrAt_eq_of_coversWhere_of_agree 10 _ (fun β => True) (by decide +kernel) (fun t hf y => ?_) (fun j hj => ?_)
  · blk_simp [idx t]
    rw [after0_10]
    refine (out10_at t H _).trans ?_
    rw [Nat.mul_comm t.val 256]
  · exact absurd trivial hj
theorem arr11 : (dats m 0 c).arrAt 11 cfg0.N = (fun j => ((prj N Y X (j 0) (6144 + (j 1).val) : ℝ) : EReal) : Vec Ideal S4096x128 .f32) := by
  refine (dats m 0 c).arrAt_eq_of_coversWhere_of_agree 11 _ (fun β => True) (by decide +kernel) (fun t hf y => ?_) (fun j hj => ?_)
  · blk_simp [idx t]
    rw [after0_11]
    refine (out11_at t H _).trans ?_
    rw [Nat.mul_comm t.val 256]
  · exact absurd trivial hj
theorem arr12 : (dats m 0 c).arrAt 12 cfg0.N = (fun j => ((hid N (X (j 0)) (j 1) : ℝ) : EReal) : Vec Ideal S4096x1024 .bf16) := by
  refine (dats m 0 c).arrAt_eq_of_coversWhere_of_agree 12 _ (fun β => True) (by decide +kernel) (fun t hf y => ?_) (fun j hj => ?_)
  · blk_simp [idx t]
    rw [after0_12]
    refine (out12_at t H _).trans ?_
    rw [Nat.mul_comm t.val 256]
  · exact absurd trivial hj
theorem arr13 : (dats m 0 c).arrAt 13 cfg0.N = (fun j => ((mixR N Y X G B W b (j 0) (j 1) : ℝ) : EReal) : Vec Ideal S4096x1024 .bf16) := by
  refine (dats m 0 c).arrAt_eq_of_coversWhere_of_agree 13 _ (fun β => True) (by decide +kernel) (fun t hf y => ?_) (fun j hj => ?_)
  · blk_simp [idx t]
    rw [after0_13]
    refine (out13_at t H _).trans ?_
    rw [Nat.mul_comm t.val 256]
  · exact absurd trivial hj
end Entry
end Cert.FwdVal
-- ==== Proof.Fwd.Finite.lean ====
module

public import proofs.«01_k».proof.Defs
public import proofs.«01_k».proof.Proof.Gen.Pre_forward_finite
public import proofs.«01_k».proof.Proof.Mixer.Finite
public import proofs.«01_k».proof.Proof.Fwd.Ref

@[expose] public section

noncomputable section

/-! The precondition of the forward call's first part read: each of its seven arguments holds real numbers. -/

namespace Cert.FwdVal

open Idealize.ShloMosaic Idealize.ShloMosaic.TcCoe
open Cert.Mix (real_of_abs_lt andi_one exists_row exists_mat exists_cube)

/-- An array all of whose entries compare below the infinity in absolute value holds reals. -/
theorem reals_of_all {s u : Shape} {axes : List (Fin s.rank)} {h : s.ReducesTo axes Cert.Pre_forward_finite.S_} {hu : 0 < u.numel}
    (x y : FVec Ideal s .f32) (hy : ∀ i, y i = Ideal.ofBits .f32 0x7F800000#32) (init : u.Idx → BitVec 1) (j : Cert.Pre_forward_finite.S_.Idx)
    (e : Host.reduce IntOp.andi (cmpf .olt (Host.absf x) y) init h hu j = 1#1) (i : s.Idx) : ∃ r : ℝ, x i = (r : EReal) := by
  haveI : Subsingleton Cert.Pre_forward_finite.S_.Idx := ⟨fun a b => funext fun q => q.elim0⟩
  have q := Host.reduce_andi_all _ _ h hu j e i
  refine real_of_abs_lt (x i) ?_
  rw [← hy i]
  exact q

open Cert.Pre_forward_finite in
/-- The precondition gives the reals that the arguments hold. -/
theorem args_of_pre (x0 : FVec Ideal S1x4096x1024 .f32) (x1 : FVec Ideal S1x1024 .f32) (x2 : FVec Ideal S1x1024x8208 .f32)
    (x3 x4 : FVec Ideal S1x1024 .f32) (x5 : FVec Ideal S1x8x128x128 .f32) (x6 : FVec Ideal S1x8x128 .f32) (x7 : FVec Ideal S1x16x512 .f32)
    (x8 : FVec Ideal S1x512 .f32) (x9 : FVec Ideal S1x256 .f32)
    (h : Cert.Pre_forward_finite.fn (F := Ideal) x0 x1 x2 x3 x4 x5 x6 x7 x8 x9 = fun _ => 1#1) :
    ∃ (X : ℕ → ℕ → ℝ) (N : ℕ → ℝ) (Y : ℕ → ℕ → ℝ) (G B : ℕ → ℝ) (W : ℕ → ℕ → ℕ → ℝ) (b : ℕ → ℕ → ℝ),
      FA x0 x1 x3 x4 x2 x5 x6 X N Y G B W b := by
  have e := congrFun h (fun q => q.elim0)
  unfold Cert.Pre_forward_finite.fn at e
  try unfold Cert.Pre_forward_finite.fn_part1 at e
  dsimp only [andi] at e
  obtain ⟨e, e6⟩ := (andi_one _ _).1 e
  obtain ⟨e, e5⟩ := (andi_one _ _).1 e
  obtain ⟨e, e4⟩ := (andi_one _ _).1 e
  obtain ⟨e, e3⟩ := (andi_one _ _).1 e
  obtain ⟨e, e2⟩ := (andi_one _ _).1 e
  obtain ⟨e0, e1⟩ := (andi_one _ _).1 e
  obtain ⟨X, hX⟩ := exists_mat x0 (reals_of_all _ _ (fun _ => rfl) _ _ e0)
  obtain ⟨N, hN⟩ := exists_row x1 (reals_of_all _ _ (fun _ => rfl) _ _ e1)
  obtain ⟨Y, hY⟩ := exists_mat x2 (reals_of_all _ _ (fun _ => rfl) _ _ e2)
  obtain ⟨G, hG⟩ := exists_row x3 (reals_of_all _ _ (fun _ => rfl) _ _ e3)
  obtain ⟨B, hB⟩ := exists_row x4 (reals_of_all _ _ (fun _ => rfl) _ _ e4)
  obtain ⟨W, hW⟩ := exists_cube x5 (reals_of_all _ _ (fun _ => rfl) _ _ e5)
  obtain ⟨b, hb⟩ := exists_mat x6 (reals_of_all _ _ (fun _ => rfl) _ _ e6)
  exact ⟨X, N, Y, G, B, W, b, ⟨hX, hN, hY, hG, hB, hW, hb⟩⟩

end Cert.FwdVal
-- ==== Proof.Fwd.Claims.lean ====
module

public import proofs.«01_k».proof.Defs
public import proofs.«01_k».proof.Proof.Fwd.Arrays
public import proofs.«01_k».proof.Proof.Fwd.Finite
public import proofs.«01_k».proof.Proof.Gen.Fwd.Frame
public import Idealize.ShloMosaic.Lib.Claim
public import Idealize.ShloMosaic.Lib.Quiescent

@[expose] public section

noncomputable section

/-! The claims on the forward call's first part: its frames, its named constant, and that its four results are the reference's. -/

namespace Cert.FwdVal

open Cert.FwdRefIdeal Cert.FwdRefIdeal.Gen Cert.FwdRefIdeal.Read Idealize.ShloMosaic Idealize.ShloMosaic.TcCoe

theorem frame_p : Cert.quiescent_Fwd := fun m g _ => Cert.Fwd.Gen.frame m g
theorem frame_pi : Cert.quiescent_FwdIdeal := fun m g _ => Cert.FwdIdeal.Gen.frame m g
theorem frame_pi_finite : Cert.quiescent_FwdIdeal_pre_forward_finite := fun m g _ => Cert.FwdIdeal.Gen.frame m g
theorem frame_ri : Cert.quiescent_FwdRefIdeal := fun m g _ =>
  (θ_run Cert.FwdRefIdeal.defs _ _).mono (fun r h => ⟨fun c => (h c).2.2.2.2, sem_eq_zero_of_no_sems (by decide) r.2⟩)
    (Cert.FwdRefIdeal.Value.run (F := Ideal) m g)
theorem frame_ri_finite : Cert.quiescent_FwdRefIdeal_pre_forward_finite := fun m g _ => frame_ri m g trivial

theorem preserves : Cert.preserves_Fwd_FwdIdeal := IdealRules.named_const.statement _ _ _ _ _ rfl

/-- Of arguments that hold reals, the kernel's four results are the reference's. -/
theorem algebraic : Cert.algebraic_FwdIdeal_FwdRefIdeal_pre_forward_finite := by
  intro m g m' g' hpre hag
  have real : ∀ c, ∃ (X : ℕ → ℕ → ℝ) (N : ℕ → ℝ) (Y : ℕ → ℕ → ℝ) (G B : ℕ → ℝ) (W : ℕ → ℕ → ℕ → ℝ) (b : ℕ → ℕ → ℝ),
      Args m c X N Y G B W b := fun c => args_of_pre _ _ _ _ _ _ _ _ _ _ (hpre c)
  choose X N Y G B W b I using real
  refine ⟨fun c j => ((prj (N c) (Y c) (X c) (j 0) (skip (j 1)) : ℝ) : EReal),
    fun c j => ((prj (N c) (Y c) (X c) (j 0) (6144 + (j 1).val) : ℝ) : EReal),
    fun c j => ((hid (N c) (X c (j 0)) (j 1) : ℝ) : EReal),
    fun c j => ((mixR (N c) (Y c) (X c) (G c) (B c) (W c) (b c) (j 0) (j 1) : ℝ) : EReal),
    (θ_run Cert.FwdIdeal.defs _ _).mono (fun r h c => ?_) (Cert.FwdIdeal.Value.run_blocks m g),
    (θ_run Cert.FwdRefIdeal.defs _ _).mono (fun r h c => ?_) (Cert.FwdRefIdeal.Value.run (F := Ideal) m' g')⟩
  · obtain ⟨h0, h1, h2, h3, -, -, -, hargs⟩ := h c
    exact ⟨h0.trans (arr10 (I c)), h1.trans (arr11 (I c)), h2.trans (arr12 (I c)), h3.trans (arr13 (I c)), hargs⟩
  · obtain ⟨e0, e1, e2, e3, e4, e5, e6, -, -, -⟩ := hag c
    have H : FA (m' ((c.tc : Thread nD τ).loc main_arg0)) (m' ((c.tc : Thread nD τ).loc main_arg1)) (m' ((c.tc : Thread nD τ).loc main_arg3))
        (m' ((c.tc : Thread nD τ).loc main_arg4)) (m' ((c.tc : Thread nD τ).loc main_arg2)) (m' ((c.tc : Thread nD τ).loc main_arg5))
        (m' ((c.tc : Thread nD τ).loc main_arg6)) (X c) (N c) (Y c) (G c) (B c) (W c) (b c) :=
      ⟨fun j => (congrFun e0 j).trans ((I c).r0 j), fun j => (congrFun e1 j).trans ((I c).r1 j), fun j => (congrFun e2 j).trans ((I c).r2 j),
        fun j => (congrFun e3 j).trans ((I c).r3 j), fun j => (congrFun e4 j).trans ((I c).r4 j), fun j => (congrFun e5 j).trans ((I c).r5 j),
        fun j => (congrFun e6 j).trans ((I c).r6 j)⟩
    obtain ⟨h0, h1, h2, h3, hargs⟩ := h c
    exact ⟨h0.trans ((val_main_v82_eq _ _ _).trans (funext (v82_at H))), h1.trans ((val_main_v84_eq _ _ _).trans (funext (v84_at H))),
      h2.trans ((val_main_v86_eq _ _).trans (funext (v86_at H))), h3.trans ((val_main_v88_eq m' c).trans (funext (v88_at H))), hargs⟩

end Cert.FwdVal
-- ==== Proof.lean ====
module

public import proofs.«01_k».proof.Defs
public import proofs.«01_k».proof.Proof.Gen.Mixer
public import proofs.«01_k».proof.Proof.Gen.MixerIdeal
public import proofs.«01_k».proof.Proof.Gen.MixerRefIdeal
public import proofs.«01_k».proof.Proof.Gen.Pre_mixer_finite
public import proofs.«01_k».proof.Proof.Mixer.Claims
public import proofs.«01_k».proof.Proof.Gla.Claims
public import proofs.«01_k».proof.Proof.Gen.Gla
public import proofs.«01_k».proof.Proof.Gen.Gla.Frame
public import proofs.«01_k».proof.Proof.Gen.GlaIdeal
public import proofs.«01_k».proof.Proof.Gen.GlaIdeal.Value
public import proofs.«01_k».proof.Proof.Gen.GlaRefIdeal
public import proofs.«01_k».proof.Proof.Gen.GlaRefIdeal.Read
public import proofs.«01_k».proof.Proof.Gen.Pre_gla_finite
public import proofs.«01_k».proof.Proof.Gen.Dx
public import proofs.«01_k».proof.Proof.Gen.Dx.Frame
public import proofs.«01_k».proof.Proof.Gen.DxIdeal
public import proofs.«01_k».proof.Proof.Gen.DxIdeal.Value
public import proofs.«01_k».proof.Proof.Gen.DxRefIdeal
public import proofs.«01_k».proof.Proof.Gen.DxRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Value
public import proofs.«01_k».proof.Proof.Gen.FwdRefIdeal
public import proofs.«01_k».proof.Proof.Gen.FwdRefIdeal.Read
public import proofs.«01_k».proof.Proof.Gen.Pre_forward_finite
public import proofs.«01_k».proof.Proof.Gen.Pre_dx_finite
public import proofs.«01_k».proof.Proof.Gen.Pre_merge_finite
public import proofs.«01_k».proof.Proof.Dx.Claims
public import proofs.«01_k».proof.Proof.Merge.Claims
public import proofs.«01_k».proof.Proof.Fwd.Claims
public import Idealize.ShloMosaic.Adequacy
public import Idealize.ShloMosaic.Init

@[expose] public section

noncomputable section

namespace Cert.Proof

open Idealize.ShloMosaic Idealize.SL.Sem

/-- Everything that is claimed, by the modules under Proof/Mixer, Proof/Gla, Proof/Dx, Proof/Merge and Proof/Fwd. -/
theorem claim : Cert.Claim :=
  ⟨Cert.Mixer.Gen.facts, Cert.MixerIdeal.Gen.facts, Cert.MixerRefIdeal.Gen.facts, Cert.Gla.Gen.facts, Cert.GlaIdeal.Gen.facts,
    Cert.GlaRefIdeal.Gen.facts, Cert.Dx.Gen.facts, Cert.DxIdeal.Gen.facts, Cert.DxRefIdeal.Gen.facts, Cert.Merge.Gen.facts,
    Cert.MergeIdeal.Gen.facts, Cert.MergeRefIdeal.Gen.facts, Cert.Fwd.Gen.facts, Cert.FwdIdeal.Gen.facts,
    Cert.FwdRefIdeal.Gen.facts, Cert.Pre_mixer_finite.Gen.facts, Cert.Pre_gla_finite.Gen.facts,
    Cert.Pre_dx_finite.Gen.facts, Cert.Pre_merge_finite.Gen.facts, Cert.Pre_forward_finite.Gen.facts,
    Cert.Mix.frame_p, Cert.Mix.frame_pi, Cert.Mix.frame_pi_finite, Cert.Mix.frame_ri, Cert.Mix.frame_ri_finite,
    Cert.GlaVal.frame_p, Cert.GlaVal.frame_pi, Cert.GlaVal.frame_pi_finite, Cert.GlaVal.frame_ri, Cert.GlaVal.frame_ri_finite,
    Cert.DxVal.frame_p, Cert.DxVal.frame_pi, Cert.DxVal.frame_pi_finite, Cert.DxVal.frame_ri, Cert.DxVal.frame_ri_finite,
    Cert.MergeVal.frame_p, Cert.MergeVal.frame_pi, Cert.MergeVal.frame_pi_finite, Cert.MergeVal.frame_ri, Cert.MergeVal.frame_ri_finite,
    Cert.FwdVal.frame_p, Cert.FwdVal.frame_pi, Cert.FwdVal.frame_pi_finite, Cert.FwdVal.frame_ri, Cert.FwdVal.frame_ri_finite,
    Cert.Mix.preserves, Cert.Mix.algebraic, trivial, Cert.GlaVal.algebraic, trivial, Cert.DxVal.algebraic, trivial,
    Cert.MergeVal.algebraic, Cert.FwdVal.preserves, Cert.FwdVal.algebraic⟩

end Cert.Proof

end
